-- ==== Defs.lean ====
def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_act_finite [hPre_act_finite : Cert.Pre_act_finite.Facts] (m : (ℓ : Loc Cert.ActIdeal.nD Cert.ActIdeal.τ Cert.ActIdeal.sig) → Buf (Elt Ideal) ℓ) : Prop :=
  ∀ c : Dev Cert.ActIdeal.nD,
    (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2))) = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_act_finite [hPre_act_finite : Cert.Pre_act_finite.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_merge_finite [hPre_merge_finite : Cert.Pre_merge_finite.Facts] (m : (ℓ : Loc Cert.MergeIdeal.nD Cert.MergeIdeal.τ Cert.MergeIdeal.sig) → Buf (Elt Ideal) ℓ) : Prop :=
  ∀ c : Dev Cert.MergeIdeal.nD,
    (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_merge_finite [hPre_merge_finite : Cert.Pre_merge_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7))) = (fun _ => 1#1)

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_xattn_finite [hPre_xattn_finite : Cert.Pre_xattn_finite.Facts] (m : (ℓ : Loc Cert.XattnIdeal.nD Cert.XattnIdeal.τ Cert.XattnIdeal.sig) → Buf (Elt Ideal) ℓ) : Prop :=
  ∀ c : Dev Cert.XattnIdeal.nD,
    (Cert.Pre_xattn_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4))) = (fun _ => 1#1)

def Pre_XattnRefIdeal (m : (ℓ : Loc Cert.XattnRefIdeal.nD Cert.XattnRefIdeal.τ Cert.XattnRefIdeal.sig) → Buf (Elt Ideal) ℓ) : Prop :=
  True

def Pre_XattnRefIdeal_xattn_finite [hPre_xattn_finite : Cert.Pre_xattn_finite.Facts] (m : (ℓ : Loc Cert.XattnRefIdeal.nD Cert.XattnRefIdeal.τ Cert.XattnRefIdeal.sig) → Buf (Elt Ideal) ℓ) : Prop :=
  ∀ c : Dev Cert.XattnRefIdeal.nD,
    (Cert.Pre_xattn_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))) = (fun _ => 1#1)

def Pre_FfnNorm (m : (ℓ : Loc Cert.FfnNorm.nD Cert.FfnNorm.τ Cert.FfnNorm.sig) → Buf (Elt Bits) ℓ) : Prop :=
  True

def Pre_FfnNormIdeal (m : (ℓ : Loc Cert.FfnNormIdeal.nD Cert.FfnNormIdeal.τ Cert.FfnNormIdeal.sig) → Buf (Elt Ideal) ℓ) : Prop :=
  True

def Pre_FfnNormIdeal_ffn_norm_finite [hPre_ffn_norm_finite : Cert.Pre_ffn_norm_finite.Facts] (m : (ℓ : Loc Cert.FfnNormIdeal.nD Cert.FfnNormIdeal.τ Cert.FfnNormIdeal.sig) → Buf (Elt Ideal) ℓ) : Prop :=
  ∀ c : Dev Cert.FfnNormIdeal.nD,
    (Cert.Pre_ffn_norm_finite.fn (F := Ideal) (m ((c.tc : Thread Cert.FfnNormIdeal.nD Cert.FfnNormIdeal.τ).loc Cert.FfnNormIdeal.main_arg0)) (m ((c.tc : Thread Cert.FfnNormIdeal.nD Cert.FfnNormIdeal.τ).loc Cert.FfnNormIdeal.main_arg1)) (m ((c.tc : Thread Cert.FfnNormIdeal.nD Cert.FfnNormIdeal.τ).loc Cert.FfnNormIdeal.main_arg2)) (m ((c.tc : Thread Cert.FfnNormIdeal.nD Cert.FfnNormIdeal.τ).loc Cert.FfnNormIdeal.main_arg3)) (m ((c.tc : Thread Cert.FfnNormIdeal.nD Cert.FfnNormIdeal.τ).loc Cert.FfnNormIdeal.main_arg4))) = (fun _ => 1#1)

def Pre_FfnNormRefIdeal (m : (ℓ : Loc Cert.FfnNormRefIdeal.nD Cert.FfnNormRefIdeal.τ Cert.FfnNormRefIdeal.sig) → Buf (Elt Ideal) ℓ) : Prop :=
  True

def Pre_FfnNormRefIdeal_ffn_norm_finite [hPre_ffn_norm_finite : Cert.Pre_ffn_norm_finite.Facts] (m : (ℓ : Loc Cert.FfnNormRefIdeal.nD Cert.FfnNormRefIdeal.τ Cert.FfnNormRefIdeal.sig) → Buf (Elt Ideal) ℓ) : Prop :=
  ∀ c : Dev Cert.FfnNormRefIdeal.nD,
    (Cert.Pre_ffn_norm_finite.fn (F := Ideal) (m ((c.tc : Thread Cert.FfnNormRefIdeal.nD Cert.FfnNormRefIdeal.τ).loc Cert.FfnNormRefIdeal.main_arg0)) (m ((c.tc : Thread Cert.FfnNormRefIdeal.nD Cert.FfnNormRefIdeal.τ).loc Cert.FfnNormRefIdeal.main_arg1)) (m ((c.tc : Thread Cert.FfnNormRefIdeal.nD Cert.FfnNormRefIdeal.τ).loc Cert.FfnNormRefIdeal.main_arg2)) (m ((c.tc : Thread Cert.FfnNormRefIdeal.nD Cert.FfnNormRefIdeal.τ).loc Cert.FfnNormRefIdeal.main_arg3)) (m ((c.tc : Thread Cert.FfnNormRefIdeal.nD Cert.FfnNormRefIdeal.τ).loc Cert.FfnNormRefIdeal.main_arg4))) = (fun _ => 1#1)

def Pre_QueryNorm (m : (ℓ : Loc Cert.QueryNorm.nD Cert.QueryNorm.τ Cert.QueryNorm.sig) → Buf (Elt Bits) ℓ) : Prop :=
  True

def Pre_QueryNormIdeal (m : (ℓ : Loc Cert.QueryNormIdeal.nD Cert.QueryNormIdeal.τ Cert.QueryNormIdeal.sig) → Buf (Elt Ideal) ℓ) : Prop :=
  True

def Pre_QueryNormIdeal_query_norm_finite [hPre_query_norm_finite : Cert.Pre_query_norm_finite.Facts] (m : (ℓ : Loc Cert.QueryNormIdeal.nD Cert.QueryNormIdeal.τ Cert.QueryNormIdeal.sig) → Buf (Elt Ideal) ℓ) : Prop :=
  ∀ c : Dev Cert.QueryNormIdeal.nD,
    (Cert.Pre_query_norm_finite.fn (F := Ideal) (m ((c.tc : Thread Cert.QueryNormIdeal.nD Cert.QueryNormIdeal.τ).loc Cert.QueryNormIdeal.main_arg0)) (m ((c.tc : Thread Cert.QueryNormIdeal.nD Cert.QueryNormIdeal.τ).loc Cert.QueryNormIdeal.main_arg1)) (m ((c.tc : Thread Cert.QueryNormIdeal.nD Cert.QueryNormIdeal.τ).loc Cert.QueryNormIdeal.main_arg2)) (m ((c.tc : Thread Cert.QueryNormIdeal.nD Cert.QueryNormIdeal.τ).loc Cert.QueryNormIdeal.main_arg3)) (m ((c.tc : Thread Cert.QueryNormIdeal.nD Cert.QueryNormIdeal.τ).loc Cert.QueryNormIdeal.main_arg4))) = (fun _ => 1#1)

def Pre_QueryNormRefIdeal (m : (ℓ : Loc Cert.QueryNormRefIdeal.nD Cert.QueryNormRefIdeal.τ Cert.QueryNormRefIdeal.sig) → Buf (Elt Ideal) ℓ) : Prop :=
  True

def Pre_QueryNormRefIdeal_query_norm_finite [hPre_query_norm_finite : Cert.Pre_query_norm_finite.Facts] (m : (ℓ : Loc Cert.QueryNormRefIdeal.nD Cert.QueryNormRefIdeal.τ Cert.QueryNormRefIdeal.sig) → Buf (Elt Ideal) ℓ) : Prop :=
  ∀ c : Dev Cert.QueryNormRefIdeal.nD,
    (Cert.Pre_query_norm_finite.fn (F := Ideal) (m ((c.tc : Thread Cert.QueryNormRefIdeal.nD Cert.QueryNormRefIdeal.τ).loc Cert.QueryNormRefIdeal.main_arg0)) (m ((c.tc : Thread Cert.QueryNormRefIdeal.nD Cert.QueryNormRefIdeal.τ).loc Cert.QueryNormRefIdeal.main_arg1)) (m ((c.tc : Thread Cert.QueryNormRefIdeal.nD Cert.QueryNormRefIdeal.τ).loc Cert.QueryNormRefIdeal.main_arg2)) (m ((c.tc : Thread Cert.QueryNormRefIdeal.nD Cert.QueryNormRefIdeal.τ).loc Cert.QueryNormRefIdeal.main_arg3)) (m ((c.tc : Thread Cert.QueryNormRefIdeal.nD Cert.QueryNormRefIdeal.τ).loc Cert.QueryNormRefIdeal.main_arg4))) = (fun _ => 1#1)

def Pre_MemoryNorm (m : (ℓ : Loc Cert.MemoryNorm.nD Cert.MemoryNorm.τ Cert.MemoryNorm.sig) → Buf (Elt Bits) ℓ) : Prop :=
  True

def Pre_MemoryNormIdeal (m : (ℓ : Loc Cert.MemoryNormIdeal.nD Cert.MemoryNormIdeal.τ Cert.MemoryNormIdeal.sig) → Buf (Elt Ideal) ℓ) : Prop :=
  True

def Pre_MemoryNormIdeal_memory_norm_finite [hPre_memory_norm_finite : Cert.Pre_memory_norm_finite.Facts] (m : (ℓ : Loc Cert.MemoryNormIdeal.nD Cert.MemoryNormIdeal.τ Cert.MemoryNormIdeal.sig) → Buf (Elt Ideal) ℓ) : Prop :=
  ∀ c : Dev Cert.MemoryNormIdeal.nD,
    (Cert.Pre_memory_norm_finite.fn (F := Ideal) (m ((c.tc : Thread Cert.MemoryNormIdeal.nD Cert.MemoryNormIdeal.τ).loc Cert.MemoryNormIdeal.main_arg0)) (m ((c.tc : Thread Cert.MemoryNormIdeal.nD Cert.MemoryNormIdeal.τ).loc Cert.MemoryNormIdeal.main_arg1)) (m ((c.tc : Thread Cert.MemoryNormIdeal.nD Cert.MemoryNormIdeal.τ).loc Cert.MemoryNormIdeal.main_arg2)) (m ((c.tc : Thread Cert.MemoryNormIdeal.nD Cert.MemoryNormIdeal.τ).loc Cert.MemoryNormIdeal.main_arg3))) = (fun _ => 1#1)

def Pre_MemoryNormRefIdeal (m : (ℓ : Loc Cert.MemoryNormRefIdeal.nD Cert.MemoryNormRefIdeal.τ Cert.MemoryNormRefIdeal.sig) → Buf (Elt Ideal) ℓ) : Prop :=
  True

def Pre_MemoryNormRefIdeal_memory_norm_finite [hPre_memory_norm_finite : Cert.Pre_memory_norm_finite.Facts] (m : (ℓ : Loc Cert.MemoryNormRefIdeal.nD Cert.MemoryNormRefIdeal.τ Cert.MemoryNormRefIdeal.sig) → Buf (Elt Ideal) ℓ) : Prop :=
  ∀ c : Dev Cert.MemoryNormRefIdeal.nD,
    (Cert.Pre_memory_norm_finite.fn (F := Ideal) (m ((c.tc : Thread Cert.MemoryNormRefIdeal.nD Cert.MemoryNormRefIdeal.τ).loc Cert.MemoryNormRefIdeal.main_arg0)) (m ((c.tc : Thread Cert.MemoryNormRefIdeal.nD Cert.MemoryNormRefIdeal.τ).loc Cert.MemoryNormRefIdeal.main_arg1)) (m ((c.tc : Thread Cert.MemoryNormRefIdeal.nD Cert.MemoryNormRefIdeal.τ).loc Cert.MemoryNormRefIdeal.main_arg2)) (m ((c.tc : Thread Cert.MemoryNormRefIdeal.nD Cert.MemoryNormRefIdeal.τ).loc Cert.MemoryNormRefIdeal.main_arg3))) = (fun _ => 1#1)

def Pre_MixNorm (m : (ℓ : Loc Cert.MixNorm.nD Cert.MixNorm.τ Cert.MixNorm.sig) → Buf (Elt Bits) ℓ) : Prop :=
  True

def Pre_MixNormIdeal (m : (ℓ : Loc Cert.MixNormIdeal.nD Cert.MixNormIdeal.τ Cert.MixNormIdeal.sig) → Buf (Elt Ideal) ℓ) : Prop :=
  True

def Pre_MixNormIdeal_mix_norm_finite [hPre_mix_norm_finite : Cert.Pre_mix_norm_finite.Facts] (m : (ℓ : Loc Cert.MixNormIdeal.nD Cert.MixNormIdeal.τ Cert.MixNormIdeal.sig) → Buf (Elt Ideal) ℓ) : Prop :=
  ∀ c : Dev Cert.MixNormIdeal.nD,
    (Cert.Pre_mix_norm_finite.fn (F := Ideal) (m ((c.tc : Thread Cert.MixNormIdeal.nD Cert.MixNormIdeal.τ).loc Cert.MixNormIdeal.main_arg0)) (m ((c.tc : Thread Cert.MixNormIdeal.nD Cert.MixNormIdeal.τ).loc Cert.MixNormIdeal.main_arg1)) (m ((c.tc : Thread Cert.MixNormIdeal.nD Cert.MixNormIdeal.τ).loc Cert.MixNormIdeal.main_arg2)) (m ((c.tc : Thread Cert.MixNormIdeal.nD Cert.MixNormIdeal.τ).loc Cert.MixNormIdeal.main_arg3)) (m ((c.tc : Thread Cert.MixNormIdeal.nD Cert.MixNormIdeal.τ).loc Cert.MixNormIdeal.main_arg4)) (m ((c.tc : Thread Cert.MixNormIdeal.nD Cert.MixNormIdeal.τ).loc Cert.MixNormIdeal.main_arg5)) (m ((c.tc : Thread Cert.MixNormIdeal.nD Cert.MixNormIdeal.τ).loc Cert.MixNormIdeal.main_arg6))) = (fun _ => 1#1)

def Pre_MixNormRefIdeal (m : (ℓ : Loc Cert.MixNormRefIdeal.nD Cert.MixNormRefIdeal.τ Cert.MixNormRefIdeal.sig) → Buf (Elt Ideal) ℓ) : Prop :=
  True

def Pre_MixNormRefIdeal_mix_norm_finite [hPre_mix_norm_finite : Cert.Pre_mix_norm_finite.Facts] (m : (ℓ : Loc Cert.MixNormRefIdeal.nD Cert.MixNormRefIdeal.τ Cert.MixNormRefIdeal.sig) → Buf (Elt Ideal) ℓ) : Prop :=
  ∀ c : Dev Cert.MixNormRefIdeal.nD,
    (Cert.Pre_mix_norm_finite.fn (F := Ideal) (m ((c.tc : Thread Cert.MixNormRefIdeal.nD Cert.MixNormRefIdeal.τ).loc Cert.MixNormRefIdeal.main_arg0)) (m ((c.tc : Thread Cert.MixNormRefIdeal.nD Cert.MixNormRefIdeal.τ).loc Cert.MixNormRefIdeal.main_arg1)) (m ((c.tc : Thread Cert.MixNormRefIdeal.nD Cert.MixNormRefIdeal.τ).loc Cert.MixNormRefIdeal.main_arg2)) (m ((c.tc : Thread Cert.MixNormRefIdeal.nD Cert.MixNormRefIdeal.τ).loc Cert.MixNormRefIdeal.main_arg3)) (m ((c.tc : Thread Cert.MixNormRefIdeal.nD Cert.MixNormRefIdeal.τ).loc Cert.MixNormRefIdeal.main_arg4)) (m ((c.tc : Thread Cert.MixNormRefIdeal.nD Cert.MixNormRefIdeal.τ).loc Cert.MixNormRefIdeal.main_arg5)) (m ((c.tc : Thread Cert.MixNormRefIdeal.nD Cert.MixNormRefIdeal.τ).loc Cert.MixNormRefIdeal.main_arg6))) = (fun _ => 1#1)

def Pre_AttnBack (m : (ℓ : Loc Cert.AttnBack.nD Cert.AttnBack.τ Cert.AttnBack.sig) → Buf (Elt Bits) ℓ) : Prop :=
  True

def Pre_AttnBackIdeal (m : (ℓ : Loc Cert.AttnBackIdeal.nD Cert.AttnBackIdeal.τ Cert.AttnBackIdeal.sig) → Buf (Elt Ideal) ℓ) : Prop :=
  True

def Pre_GatingBack (m : (ℓ : Loc Cert.GatingBack.nD Cert.GatingBack.τ Cert.GatingBack.sig) → Buf (Elt Bits) ℓ) : Prop :=
  True

def Pre_GatingBackIdeal (m : (ℓ : Loc Cert.GatingBackIdeal.nD Cert.GatingBackIdeal.τ Cert.GatingBackIdeal.sig) → Buf (Elt Ideal) ℓ) : Prop :=
  True

def Pre_BiasBack (m : (ℓ : Loc Cert.BiasBack.nD Cert.BiasBack.τ Cert.BiasBack.sig) → Buf (Elt Bits) ℓ) : Prop :=
  True

def Pre_BiasBackIdeal (m : (ℓ : Loc Cert.BiasBackIdeal.nD Cert.BiasBackIdeal.τ Cert.BiasBackIdeal.sig) → Buf (Elt Ideal) ℓ) : Prop :=
  True

def Pre_BiasBackRefIdeal (m : (ℓ : Loc Cert.BiasBackRefIdeal.nD Cert.BiasBackRefIdeal.τ Cert.BiasBackRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))) = (fun _ => 1#1)

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_QueryIn (m : (ℓ : Loc Cert.QueryIn.nD Cert.QueryIn.τ Cert.QueryIn.sig) → Buf (Elt Bits) ℓ) : Prop :=
  True

def Pre_QueryInIdeal (m : (ℓ : Loc Cert.QueryInIdeal.nD Cert.QueryInIdeal.τ Cert.QueryInIdeal.sig) → Buf (Elt Ideal) ℓ) : Prop :=
  True

def Pre_QueryInRefIdeal (m : (ℓ : Loc Cert.QueryInRefIdeal.nD Cert.QueryInRefIdeal.τ Cert.QueryInRefIdeal.sig) → Buf (Elt Ideal) ℓ) : Prop :=
  True

def Pre_MemoryIn (m : (ℓ : Loc Cert.MemoryIn.nD Cert.MemoryIn.τ Cert.MemoryIn.sig) → Buf (Elt Bits) ℓ) : Prop :=
  True

def Pre_MemoryInIdeal (m : (ℓ : Loc Cert.MemoryInIdeal.nD Cert.MemoryInIdeal.τ Cert.MemoryInIdeal.sig) → Buf (Elt Ideal) ℓ) : Prop :=
  True

def Pre_MemoryInRefIdeal (m : (ℓ : Loc Cert.MemoryInRefIdeal.nD Cert.MemoryInRefIdeal.τ Cert.MemoryInRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_Gating (m : (ℓ : Loc Cert.Gating.nD Cert.Gating.τ Cert.Gating.sig) → Buf (Elt Bits) ℓ) : Prop :=
  True

def Pre_GatingIdeal (m : (ℓ : Loc Cert.GatingIdeal.nD Cert.GatingIdeal.τ Cert.GatingIdeal.sig) → Buf (Elt Ideal) ℓ) : Prop :=
  True

def Pre_GatingIdeal_gating_finite [hPre_gating_finite : Cert.Pre_gating_finite.Facts] (m : (ℓ : Loc Cert.GatingIdeal.nD Cert.GatingIdeal.τ Cert.GatingIdeal.sig) → Buf (Elt Ideal) ℓ) : Prop :=
  ∀ c : Dev Cert.GatingIdeal.nD,
    (Cert.Pre_gating_finite.fn (F := Ideal) (m ((c.tc : Thread Cert.GatingIdeal.nD Cert.GatingIdeal.τ).loc Cert.GatingIdeal.main_arg0)) (m ((c.tc : Thread Cert.GatingIdeal.nD Cert.GatingIdeal.τ).loc Cert.GatingIdeal.main_arg1)) (m ((c.tc : Thread Cert.GatingIdeal.nD Cert.GatingIdeal.τ).loc Cert.GatingIdeal.main_arg2)) (m ((c.tc : Thread Cert.GatingIdeal.nD Cert.GatingIdeal.τ).loc Cert.GatingIdeal.main_arg3)) (m ((c.tc : Thread Cert.GatingIdeal.nD Cert.GatingIdeal.τ).loc Cert.GatingIdeal.main_arg4))) = (fun _ => 1#1)

def Pre_GatingRefIdeal (m : (ℓ : Loc Cert.GatingRefIdeal.nD Cert.GatingRefIdeal.τ Cert.GatingRefIdeal.sig) → Buf (Elt Ideal) ℓ) : Prop :=
  True

def Pre_GatingRefIdeal_gating_finite [hPre_gating_finite : Cert.Pre_gating_finite.Facts] (m : (ℓ : Loc Cert.GatingRefIdeal.nD Cert.GatingRefIdeal.τ Cert.GatingRefIdeal.sig) → Buf (Elt Ideal) ℓ) : Prop :=
  ∀ c : Dev Cert.GatingRefIdeal.nD,
    (Cert.Pre_gating_finite.fn (F := Ideal) (m ((c.tc : Thread Cert.GatingRefIdeal.nD Cert.GatingRefIdeal.τ).loc Cert.GatingRefIdeal.main_arg0)) (m ((c.tc : Thread Cert.GatingRefIdeal.nD Cert.GatingRefIdeal.τ).loc Cert.GatingRefIdeal.main_arg1)) (m ((c.tc : Thread Cert.GatingRefIdeal.nD Cert.GatingRefIdeal.τ).loc Cert.GatingRefIdeal.main_arg2)) (m ((c.tc : Thread Cert.GatingRefIdeal.nD Cert.GatingRefIdeal.τ).loc Cert.GatingRefIdeal.main_arg3)) (m ((c.tc : Thread Cert.GatingRefIdeal.nD Cert.GatingRefIdeal.τ).loc Cert.GatingRefIdeal.main_arg4))) = (fun _ => 1#1)

def Pre_FfnWeight (m : (ℓ : Loc Cert.FfnWeight.nD Cert.FfnWeight.τ Cert.FfnWeight.sig) → Buf (Elt Bits) ℓ) : Prop :=
  True

def Pre_FfnWeightIdeal (m : (ℓ : Loc Cert.FfnWeightIdeal.nD Cert.FfnWeightIdeal.τ Cert.FfnWeightIdeal.sig) → Buf (Elt Ideal) ℓ) : Prop :=
  True

def Pre_FfnWeightRefIdeal (m : (ℓ : Loc Cert.FfnWeightRefIdeal.nD Cert.FfnWeightRefIdeal.τ Cert.FfnWeightRefIdeal.sig) → Buf (Elt Ideal) ℓ) : Prop :=
  True

def Pre_MixWeight (m : (ℓ : Loc Cert.MixWeight.nD Cert.MixWeight.τ Cert.MixWeight.sig) → Buf (Elt Bits) ℓ) : Prop :=
  True

def Pre_MixWeightIdeal (m : (ℓ : Loc Cert.MixWeightIdeal.nD Cert.MixWeightIdeal.τ Cert.MixWeightIdeal.sig) → Buf (Elt Ideal) ℓ) : Prop :=
  True

def Pre_MixWeightRefIdeal (m : (ℓ : Loc Cert.MixWeightRefIdeal.nD Cert.MixWeightRefIdeal.τ Cert.MixWeightRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_BlockSum (m : (ℓ : Loc Cert.BlockSum.nD Cert.BlockSum.τ Cert.BlockSum.sig) → Buf (Elt Bits) ℓ) : Prop :=
  True

def Pre_BlockSumIdeal (m : (ℓ : Loc Cert.BlockSumIdeal.nD Cert.BlockSumIdeal.τ Cert.BlockSumIdeal.sig) → Buf (Elt Ideal) ℓ) : Prop :=
  True

def Pre_BlockSumRefIdeal (m : (ℓ : Loc Cert.BlockSumRefIdeal.nD Cert.BlockSumRefIdeal.τ Cert.BlockSumRefIdeal.sig) → Buf (Elt Ideal) ℓ) : Prop :=
  True

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActIdeal_pre_act_finite [hActIdeal : Cert.ActIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg), Pre_ActIdeal_act_finite m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_ActRefIdeal_pre_act_finite [hActRefIdeal : Cert.ActRefIdeal.Facts] [hPre_act_finite : Cert.Pre_act_finite.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_act_finite m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeIdeal_pre_merge_finite [hMergeIdeal : Cert.MergeIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_merge_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_MergeRefIdeal_pre_merge_finite [hMergeRefIdeal : Cert.MergeRefIdeal.Facts] [hPre_merge_finite : Cert.Pre_merge_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_merge_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ r.2.sem = fun _ => 0)

def quiescent_XattnIdeal_pre_xattn_finite [hXattnIdeal : Cert.XattnIdeal.Facts] [hPre_xattn_finite : Cert.Pre_xattn_finite.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_xattn_finite m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4))
      ∧ r.2.sem = fun _ => 0)

def quiescent_XattnRefIdeal_pre_xattn_finite [hXattnRefIdeal : Cert.XattnRefIdeal.Facts] [hPre_xattn_finite : Cert.Pre_xattn_finite.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal_xattn_finite m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_FfnNorm [hFfnNorm : Cert.FfnNorm.Facts] : Prop :=
  ∀ (m : (ℓ : Loc Cert.FfnNorm.nD Cert.FfnNorm.τ Cert.FfnNorm.sig) → Buf (Elt Bits) ℓ) (g : Dev Cert.FfnNorm.nD → PrngReg), Pre_FfnNorm m →
    θ_run (Cert.FfnNorm.defs (F := Bits)) (onTc (τ := Cert.FfnNorm.τ) (Cert.FfnNorm.main (F := Bits))) ⟨m, fun _ => 0, g⟩ (fun r => (∀ c : Dev Cert.FfnNorm.nD,
      r.2.mem ((c.tc : Thread Cert.FfnNorm.nD Cert.FfnNorm.τ).loc Cert.FfnNorm.main_arg0) = m ((c.tc : Thread Cert.FfnNorm.nD Cert.FfnNorm.τ).loc Cert.FfnNorm.main_arg0)
      ∧ r.2.mem ((c.tc : Thread Cert.FfnNorm.nD Cert.FfnNorm.τ).loc Cert.FfnNorm.main_arg1) = m ((c.tc : Thread Cert.FfnNorm.nD Cert.FfnNorm.τ).loc Cert.FfnNorm.main_arg1)
      ∧ r.2.mem ((c.tc : Thread Cert.FfnNorm.nD Cert.FfnNorm.τ).loc Cert.FfnNorm.main_arg2) = m ((c.tc : Thread Cert.FfnNorm.nD Cert.FfnNorm.τ).loc Cert.FfnNorm.main_arg2)
      ∧ r.2.mem ((c.tc : Thread Cert.FfnNorm.nD Cert.FfnNorm.τ).loc Cert.FfnNorm.main_arg3) = m ((c.tc : Thread Cert.FfnNorm.nD Cert.FfnNorm.τ).loc Cert.FfnNorm.main_arg3)
      ∧ r.2.mem ((c.tc : Thread Cert.FfnNorm.nD Cert.FfnNorm.τ).loc Cert.FfnNorm.main_arg4) = m ((c.tc : Thread Cert.FfnNorm.nD Cert.FfnNorm.τ).loc Cert.FfnNorm.main_arg4))
      ∧ r.2.sem = fun _ => 0)

def quiescent_FfnNormIdeal [hFfnNormIdeal : Cert.FfnNormIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
      ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
      ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3)
      ∧ r.2.mem ((c.tc : Thread Cert.FfnNormIdeal.nD Cert.FfnNormIdeal.τ).loc Cert.FfnNormIdeal.main_arg4) = m ((c.tc : Thread Cert.FfnNormIdeal.nD Cert.FfnNormIdeal.τ).loc Cert.FfnNormIdeal.main_arg4))
      ∧ r.2.sem = fun _ => 0)

def quiescent_FfnNormIdeal_pre_ffn_norm_finite [hFfnNormIdeal : Cert.FfnNormIdeal.Facts] [hPre_ffn_norm_finite : Cert.Pre_ffn_norm_finite.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal_ffn_norm_finite m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
      ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
      ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3)
      ∧ r.2.mem ((c.tc : Thread Cert.FfnNormIdeal.nD Cert.FfnNormIdeal.τ).loc Cert.FfnNormIdeal.main_arg4) = m ((c.tc : Thread Cert.FfnNormIdeal.nD Cert.FfnNormIdeal.τ).loc Cert.FfnNormIdeal.main_arg4))
      ∧ r.2.sem = fun _ => 0)

def quiescent_FfnNormRefIdeal [hFfnNormRefIdeal : Cert.FfnNormRefIdeal.Facts] : Prop :=
  ∀ (m : (ℓ : Loc Cert.FfnNormRefIdeal.nD Cert.FfnNormRefIdeal.τ Cert.FfnNormRefIdeal.sig) → Buf (Elt Ideal) ℓ) (g : Dev Cert.FfnNormRefIdeal.nD → PrngReg), Pre_FfnNormRefIdeal m →
    θ_run (Cert.FfnNormRefIdeal.defs (F := Ideal)) (onTc (τ := Cert.FfnNormRefIdeal.τ) (Cert.FfnNormRefIdeal.main (F := Ideal))) ⟨m, fun _ => 0, g⟩ (fun r => (∀ c : Dev Cert.FfnNormRefIdeal.nD,
      r.2.mem ((c.tc : Thread Cert.FfnNormRefIdeal.nD Cert.FfnNormRefIdeal.τ).loc Cert.FfnNormRefIdeal.main_arg0) = m ((c.tc : Thread Cert.FfnNormRefIdeal.nD Cert.FfnNormRefIdeal.τ).loc Cert.FfnNormRefIdeal.main_arg0)
      ∧ r.2.mem ((c.tc : Thread Cert.FfnNormRefIdeal.nD Cert.FfnNormRefIdeal.τ).loc Cert.FfnNormRefIdeal.main_arg1) = m ((c.tc : Thread Cert.FfnNormRefIdeal.nD Cert.FfnNormRefIdeal.τ).loc Cert.FfnNormRefIdeal.main_arg1)
      ∧ r.2.mem ((c.tc : Thread Cert.FfnNormRefIdeal.nD Cert.FfnNormRefIdeal.τ).loc Cert.FfnNormRefIdeal.main_arg2) = m ((c.tc : Thread Cert.FfnNormRefIdeal.nD Cert.FfnNormRefIdeal.τ).loc Cert.FfnNormRefIdeal.main_arg2)
      ∧ r.2.mem ((c.tc : Thread Cert.FfnNormRefIdeal.nD Cert.FfnNormRefIdeal.τ).loc Cert.FfnNormRefIdeal.main_arg3) = m ((c.tc : Thread Cert.FfnNormRefIdeal.nD Cert.FfnNormRefIdeal.τ).loc Cert.FfnNormRefIdeal.main_arg3)
      ∧ r.2.mem ((c.tc : Thread Cert.FfnNormRefIdeal.nD Cert.FfnNormRefIdeal.τ).loc Cert.FfnNormRefIdeal.main_arg4) = m ((c.tc : Thread Cert.FfnNormRefIdeal.nD Cert.FfnNormRefIdeal.τ).loc Cert.FfnNormRefIdeal.main_arg4))
      ∧ r.2.sem = fun _ => 0)

def quiescent_FfnNormRefIdeal_pre_ffn_norm_finite [hFfnNormRefIdeal : Cert.FfnNormRefIdeal.Facts] [hPre_ffn_norm_finite : Cert.Pre_ffn_norm_finite.Facts] : Prop :=
  ∀ (m : (ℓ : Loc Cert.FfnNormRefIdeal.nD Cert.FfnNormRefIdeal.τ Cert.FfnNormRefIdeal.sig) → Buf (Elt Ideal) ℓ) (g : Dev Cert.FfnNormRefIdeal.nD → PrngReg), Pre_FfnNormRefIdeal_ffn_norm_finite m →
    θ_run (Cert.FfnNormRefIdeal.defs (F := Ideal)) (onTc (τ := Cert.FfnNormRefIdeal.τ) (Cert.FfnNormRefIdeal.main (F := Ideal))) ⟨m, fun _ => 0, g⟩ (fun r => (∀ c : Dev Cert.FfnNormRefIdeal.nD,
      r.2.mem ((c.tc : Thread Cert.FfnNormRefIdeal.nD Cert.FfnNormRefIdeal.τ).loc Cert.FfnNormRefIdeal.main_arg0) = m ((c.tc : Thread Cert.FfnNormRefIdeal.nD Cert.FfnNormRefIdeal.τ).loc Cert.FfnNormRefIdeal.main_arg0)
      ∧ r.2.mem ((c.tc : Thread Cert.FfnNormRefIdeal.nD Cert.FfnNormRefIdeal.τ).loc Cert.FfnNormRefIdeal.main_arg1) = m ((c.tc : Thread Cert.FfnNormRefIdeal.nD Cert.FfnNormRefIdeal.τ).loc Cert.FfnNormRefIdeal.main_arg1)
      ∧ r.2.mem ((c.tc : Thread Cert.FfnNormRefIdeal.nD Cert.FfnNormRefIdeal.τ).loc Cert.FfnNormRefIdeal.main_arg2) = m ((c.tc : Thread Cert.FfnNormRefIdeal.nD Cert.FfnNormRefIdeal.τ).loc Cert.FfnNormRefIdeal.main_arg2)
      ∧ r.2.mem ((c.tc : Thread Cert.FfnNormRefIdeal.nD Cert.FfnNormRefIdeal.τ).loc Cert.FfnNormRefIdeal.main_arg3) = m ((c.tc : Thread Cert.FfnNormRefIdeal.nD Cert.FfnNormRefIdeal.τ).loc Cert.FfnNormRefIdeal.main_arg3)
      ∧ r.2.mem ((c.tc : Thread Cert.FfnNormRefIdeal.nD Cert.FfnNormRefIdeal.τ).loc Cert.FfnNormRefIdeal.main_arg4) = m ((c.tc : Thread Cert.FfnNormRefIdeal.nD Cert.FfnNormRefIdeal.τ).loc Cert.FfnNormRefIdeal.main_arg4))
      ∧ r.2.sem = fun _ => 0)

def quiescent_QueryNorm [hQueryNorm : Cert.QueryNorm.Facts] : Prop :=
  ∀ (m : (ℓ : Loc Cert.QueryNorm.nD Cert.QueryNorm.τ Cert.QueryNorm.sig) → Buf (Elt Bits) ℓ) (g : Dev Cert.QueryNorm.nD → PrngReg), Pre_QueryNorm m →
    θ_run (Cert.QueryNorm.defs (F := Bits)) (onTc (τ := Cert.QueryNorm.τ) (Cert.QueryNorm.main (F := Bits))) ⟨m, fun _ => 0, g⟩ (fun r => (∀ c : Dev Cert.QueryNorm.nD,
      r.2.mem ((c.tc : Thread Cert.QueryNorm.nD Cert.QueryNorm.τ).loc Cert.QueryNorm.main_arg0) = m ((c.tc : Thread Cert.QueryNorm.nD Cert.QueryNorm.τ).loc Cert.QueryNorm.main_arg0)
      ∧ r.2.mem ((c.tc : Thread Cert.QueryNorm.nD Cert.QueryNorm.τ).loc Cert.QueryNorm.main_arg1) = m ((c.tc : Thread Cert.QueryNorm.nD Cert.QueryNorm.τ).loc Cert.QueryNorm.main_arg1)
      ∧ r.2.mem ((c.tc : Thread Cert.QueryNorm.nD Cert.QueryNorm.τ).loc Cert.QueryNorm.main_arg2) = m ((c.tc : Thread Cert.QueryNorm.nD Cert.QueryNorm.τ).loc Cert.QueryNorm.main_arg2)
      ∧ r.2.mem ((c.tc : Thread Cert.QueryNorm.nD Cert.QueryNorm.τ).loc Cert.QueryNorm.main_arg3) = m ((c.tc : Thread Cert.QueryNorm.nD Cert.QueryNorm.τ).loc Cert.QueryNorm.main_arg3)
      ∧ r.2.mem ((c.tc : Thread Cert.QueryNorm.nD Cert.QueryNorm.τ).loc Cert.QueryNorm.main_arg4) = m ((c.tc : Thread Cert.QueryNorm.nD Cert.QueryNorm.τ).loc Cert.QueryNorm.main_arg4))
      ∧ r.2.sem = fun _ => 0)

def quiescent_QueryNormIdeal [hQueryNormIdeal : Cert.QueryNormIdeal.Facts] : Prop :=
  ∀ (m : (ℓ : Loc Cert.QueryNormIdeal.nD Cert.QueryNormIdeal.τ Cert.QueryNormIdeal.sig) → Buf (Elt Ideal) ℓ) (g : Dev Cert.QueryNormIdeal.nD → PrngReg), Pre_QueryNormIdeal m →
    θ_run (Cert.QueryNormIdeal.defs (F := Ideal)) (onTc (τ := Cert.QueryNormIdeal.τ) (Cert.QueryNormIdeal.main (F := Ideal))) ⟨m, fun _ => 0, g⟩ (fun r => (∀ c : Dev Cert.QueryNormIdeal.nD,
      r.2.mem ((c.tc : Thread Cert.QueryNormIdeal.nD Cert.QueryNormIdeal.τ).loc Cert.QueryNormIdeal.main_arg0) = m ((c.tc : Thread Cert.QueryNormIdeal.nD Cert.QueryNormIdeal.τ).loc Cert.QueryNormIdeal.main_arg0)
      ∧ r.2.mem ((c.tc : Thread Cert.QueryNormIdeal.nD Cert.QueryNormIdeal.τ).loc Cert.QueryNormIdeal.main_arg1) = m ((c.tc : Thread Cert.QueryNormIdeal.nD Cert.QueryNormIdeal.τ).loc Cert.QueryNormIdeal.main_arg1)
      ∧ r.2.mem ((c.tc : Thread Cert.QueryNormIdeal.nD Cert.QueryNormIdeal.τ).loc Cert.QueryNormIdeal.main_arg2) = m ((c.tc : Thread Cert.QueryNormIdeal.nD Cert.QueryNormIdeal.τ).loc Cert.QueryNormIdeal.main_arg2)
      ∧ r.2.mem ((c.tc : Thread Cert.QueryNormIdeal.nD Cert.QueryNormIdeal.τ).loc Cert.QueryNormIdeal.main_arg3) = m ((c.tc : Thread Cert.QueryNormIdeal.nD Cert.QueryNormIdeal.τ).loc Cert.QueryNormIdeal.main_arg3)
      ∧ r.2.mem ((c.tc : Thread Cert.QueryNormIdeal.nD Cert.QueryNormIdeal.τ).loc Cert.QueryNormIdeal.main_arg4) = m ((c.tc : Thread Cert.QueryNormIdeal.nD Cert.QueryNormIdeal.τ).loc Cert.QueryNormIdeal.main_arg4))
      ∧ r.2.sem = fun _ => 0)

def quiescent_QueryNormIdeal_pre_query_norm_finite [hQueryNormIdeal : Cert.QueryNormIdeal.Facts] [hPre_query_norm_finite : Cert.Pre_query_norm_finite.Facts] : Prop :=
  ∀ (m : (ℓ : Loc Cert.QueryNormIdeal.nD Cert.QueryNormIdeal.τ Cert.QueryNormIdeal.sig) → Buf (Elt Ideal) ℓ) (g : Dev Cert.QueryNormIdeal.nD → PrngReg), Pre_QueryNormIdeal_query_norm_finite m →
    θ_run (Cert.QueryNormIdeal.defs (F := Ideal)) (onTc (τ := Cert.QueryNormIdeal.τ) (Cert.QueryNormIdeal.main (F := Ideal))) ⟨m, fun _ => 0, g⟩ (fun r => (∀ c : Dev Cert.QueryNormIdeal.nD,
      r.2.mem ((c.tc : Thread Cert.QueryNormIdeal.nD Cert.QueryNormIdeal.τ).loc Cert.QueryNormIdeal.main_arg0) = m ((c.tc : Thread Cert.QueryNormIdeal.nD Cert.QueryNormIdeal.τ).loc Cert.QueryNormIdeal.main_arg0)
      ∧ r.2.mem ((c.tc : Thread Cert.QueryNormIdeal.nD Cert.QueryNormIdeal.τ).loc Cert.QueryNormIdeal.main_arg1) = m ((c.tc : Thread Cert.QueryNormIdeal.nD Cert.QueryNormIdeal.τ).loc Cert.QueryNormIdeal.main_arg1)
      ∧ r.2.mem ((c.tc : Thread Cert.QueryNormIdeal.nD Cert.QueryNormIdeal.τ).loc Cert.QueryNormIdeal.main_arg2) = m ((c.tc : Thread Cert.QueryNormIdeal.nD Cert.QueryNormIdeal.τ).loc Cert.QueryNormIdeal.main_arg2)
      ∧ r.2.mem ((c.tc : Thread Cert.QueryNormIdeal.nD Cert.QueryNormIdeal.τ).loc Cert.QueryNormIdeal.main_arg3) = m ((c.tc : Thread Cert.QueryNormIdeal.nD Cert.QueryNormIdeal.τ).loc Cert.QueryNormIdeal.main_arg3)
      ∧ r.2.mem ((c.tc : Thread Cert.QueryNormIdeal.nD Cert.QueryNormIdeal.τ).loc Cert.QueryNormIdeal.main_arg4) = m ((c.tc : Thread Cert.QueryNormIdeal.nD Cert.QueryNormIdeal.τ).loc Cert.QueryNormIdeal.main_arg4))
      ∧ r.2.sem = fun _ => 0)

def quiescent_QueryNormRefIdeal [hQueryNormRefIdeal : Cert.QueryNormRefIdeal.Facts] : Prop :=
  ∀ (m : (ℓ : Loc Cert.QueryNormRefIdeal.nD Cert.QueryNormRefIdeal.τ Cert.QueryNormRefIdeal.sig) → Buf (Elt Ideal) ℓ) (g : Dev Cert.QueryNormRefIdeal.nD → PrngReg), Pre_QueryNormRefIdeal m →
    θ_run (Cert.QueryNormRefIdeal.defs (F := Ideal)) (onTc (τ := Cert.QueryNormRefIdeal.τ) (Cert.QueryNormRefIdeal.main (F := Ideal))) ⟨m, fun _ => 0, g⟩ (fun r => (∀ c : Dev Cert.QueryNormRefIdeal.nD,
      r.2.mem ((c.tc : Thread Cert.QueryNormRefIdeal.nD Cert.QueryNormRefIdeal.τ).loc Cert.QueryNormRefIdeal.main_arg0) = m ((c.tc : Thread Cert.QueryNormRefIdeal.nD Cert.QueryNormRefIdeal.τ).loc Cert.QueryNormRefIdeal.main_arg0)
      ∧ r.2.mem ((c.tc : Thread Cert.QueryNormRefIdeal.nD Cert.QueryNormRefIdeal.τ).loc Cert.QueryNormRefIdeal.main_arg1) = m ((c.tc : Thread Cert.QueryNormRefIdeal.nD Cert.QueryNormRefIdeal.τ).loc Cert.QueryNormRefIdeal.main_arg1)
      ∧ r.2.mem ((c.tc : Thread Cert.QueryNormRefIdeal.nD Cert.QueryNormRefIdeal.τ).loc Cert.QueryNormRefIdeal.main_arg2) = m ((c.tc : Thread Cert.QueryNormRefIdeal.nD Cert.QueryNormRefIdeal.τ).loc Cert.QueryNormRefIdeal.main_arg2)
      ∧ r.2.mem ((c.tc : Thread Cert.QueryNormRefIdeal.nD Cert.QueryNormRefIdeal.τ).loc Cert.QueryNormRefIdeal.main_arg3) = m ((c.tc : Thread Cert.QueryNormRefIdeal.nD Cert.QueryNormRefIdeal.τ).loc Cert.QueryNormRefIdeal.main_arg3)
      ∧ r.2.mem ((c.tc : Thread Cert.QueryNormRefIdeal.nD Cert.QueryNormRefIdeal.τ).loc Cert.QueryNormRefIdeal.main_arg4) = m ((c.tc : Thread Cert.QueryNormRefIdeal.nD Cert.QueryNormRefIdeal.τ).loc Cert.QueryNormRefIdeal.main_arg4))
      ∧ r.2.sem = fun _ => 0)

def quiescent_QueryNormRefIdeal_pre_query_norm_finite [hQueryNormRefIdeal : Cert.QueryNormRefIdeal.Facts] [hPre_query_norm_finite : Cert.Pre_query_norm_finite.Facts] : Prop :=
  ∀ (m : (ℓ : Loc Cert.QueryNormRefIdeal.nD Cert.QueryNormRefIdeal.τ Cert.QueryNormRefIdeal.sig) → Buf (Elt Ideal) ℓ) (g : Dev Cert.QueryNormRefIdeal.nD → PrngReg), Pre_QueryNormRefIdeal_query_norm_finite m →
    θ_run (Cert.QueryNormRefIdeal.defs (F := Ideal)) (onTc (τ := Cert.QueryNormRefIdeal.τ) (Cert.QueryNormRefIdeal.main (F := Ideal))) ⟨m, fun _ => 0, g⟩ (fun r => (∀ c : Dev Cert.QueryNormRefIdeal.nD,
      r.2.mem ((c.tc : Thread Cert.QueryNormRefIdeal.nD Cert.QueryNormRefIdeal.τ).loc Cert.QueryNormRefIdeal.main_arg0) = m ((c.tc : Thread Cert.QueryNormRefIdeal.nD Cert.QueryNormRefIdeal.τ).loc Cert.QueryNormRefIdeal.main_arg0)
      ∧ r.2.mem ((c.tc : Thread Cert.QueryNormRefIdeal.nD Cert.QueryNormRefIdeal.τ).loc Cert.QueryNormRefIdeal.main_arg1) = m ((c.tc : Thread Cert.QueryNormRefIdeal.nD Cert.QueryNormRefIdeal.τ).loc Cert.QueryNormRefIdeal.main_arg1)
      ∧ r.2.mem ((c.tc : Thread Cert.QueryNormRefIdeal.nD Cert.QueryNormRefIdeal.τ).loc Cert.QueryNormRefIdeal.main_arg2) = m ((c.tc : Thread Cert.QueryNormRefIdeal.nD Cert.QueryNormRefIdeal.τ).loc Cert.QueryNormRefIdeal.main_arg2)
      ∧ r.2.mem ((c.tc : Thread Cert.QueryNormRefIdeal.nD Cert.QueryNormRefIdeal.τ).loc Cert.QueryNormRefIdeal.main_arg3) = m ((c.tc : Thread Cert.QueryNormRefIdeal.nD Cert.QueryNormRefIdeal.τ).loc Cert.QueryNormRefIdeal.main_arg3)
      ∧ r.2.mem ((c.tc : Thread Cert.QueryNormRefIdeal.nD Cert.QueryNormRefIdeal.τ).loc Cert.QueryNormRefIdeal.main_arg4) = m ((c.tc : Thread Cert.QueryNormRefIdeal.nD Cert.QueryNormRefIdeal.τ).loc Cert.QueryNormRefIdeal.main_arg4))
      ∧ r.2.sem = fun _ => 0)

def quiescent_MemoryNorm [hMemoryNorm : Cert.MemoryNorm.Facts] : Prop :=
  ∀ (m : (ℓ : Loc Cert.MemoryNorm.nD Cert.MemoryNorm.τ Cert.MemoryNorm.sig) → Buf (Elt Bits) ℓ) (g : Dev Cert.MemoryNorm.nD → PrngReg), Pre_MemoryNorm m →
    θ_run (Cert.MemoryNorm.defs (F := Bits)) (onTc (τ := Cert.MemoryNorm.τ) (Cert.MemoryNorm.main (F := Bits))) ⟨m, fun _ => 0, g⟩ (fun r => (∀ c : Dev Cert.MemoryNorm.nD,
      r.2.mem ((c.tc : Thread Cert.MemoryNorm.nD Cert.MemoryNorm.τ).loc Cert.MemoryNorm.main_arg0) = m ((c.tc : Thread Cert.MemoryNorm.nD Cert.MemoryNorm.τ).loc Cert.MemoryNorm.main_arg0)
      ∧ r.2.mem ((c.tc : Thread Cert.MemoryNorm.nD Cert.MemoryNorm.τ).loc Cert.MemoryNorm.main_arg1) = m ((c.tc : Thread Cert.MemoryNorm.nD Cert.MemoryNorm.τ).loc Cert.MemoryNorm.main_arg1)
      ∧ r.2.mem ((c.tc : Thread Cert.MemoryNorm.nD Cert.MemoryNorm.τ).loc Cert.MemoryNorm.main_arg2) = m ((c.tc : Thread Cert.MemoryNorm.nD Cert.MemoryNorm.τ).loc Cert.MemoryNorm.main_arg2)
      ∧ r.2.mem ((c.tc : Thread Cert.MemoryNorm.nD Cert.MemoryNorm.τ).loc Cert.MemoryNorm.main_arg3) = m ((c.tc : Thread Cert.MemoryNorm.nD Cert.MemoryNorm.τ).loc Cert.MemoryNorm.main_arg3))
      ∧ r.2.sem = fun _ => 0)

def quiescent_MemoryNormIdeal [hMemoryNormIdeal : Cert.MemoryNormIdeal.Facts] : Prop :=
  ∀ (m : (ℓ : Loc Cert.MemoryNormIdeal.nD Cert.MemoryNormIdeal.τ Cert.MemoryNormIdeal.sig) → Buf (Elt Ideal) ℓ) (g : Dev Cert.MemoryNormIdeal.nD → PrngReg), Pre_MemoryNormIdeal m →
    θ_run (Cert.MemoryNormIdeal.defs (F := Ideal)) (onTc (τ := Cert.MemoryNormIdeal.τ) (Cert.MemoryNormIdeal.main (F := Ideal))) ⟨m, fun _ => 0, g⟩ (fun r => (∀ c : Dev Cert.MemoryNormIdeal.nD,
      r.2.mem ((c.tc : Thread Cert.MemoryNormIdeal.nD Cert.MemoryNormIdeal.τ).loc Cert.MemoryNormIdeal.main_arg0) = m ((c.tc : Thread Cert.MemoryNormIdeal.nD Cert.MemoryNormIdeal.τ).loc Cert.MemoryNormIdeal.main_arg0)
      ∧ r.2.mem ((c.tc : Thread Cert.MemoryNormIdeal.nD Cert.MemoryNormIdeal.τ).loc Cert.MemoryNormIdeal.main_arg1) = m ((c.tc : Thread Cert.MemoryNormIdeal.nD Cert.MemoryNormIdeal.τ).loc Cert.MemoryNormIdeal.main_arg1)
      ∧ r.2.mem ((c.tc : Thread Cert.MemoryNormIdeal.nD Cert.MemoryNormIdeal.τ).loc Cert.MemoryNormIdeal.main_arg2) = m ((c.tc : Thread Cert.MemoryNormIdeal.nD Cert.MemoryNormIdeal.τ).loc Cert.MemoryNormIdeal.main_arg2)
      ∧ r.2.mem ((c.tc : Thread Cert.MemoryNormIdeal.nD Cert.MemoryNormIdeal.τ).loc Cert.MemoryNormIdeal.main_arg3) = m ((c.tc : Thread Cert.MemoryNormIdeal.nD Cert.MemoryNormIdeal.τ).loc Cert.MemoryNormIdeal.main_arg3))
      ∧ r.2.sem = fun _ => 0)

def quiescent_MemoryNormIdeal_pre_memory_norm_finite [hMemoryNormIdeal : Cert.MemoryNormIdeal.Facts] [hPre_memory_norm_finite : Cert.Pre_memory_norm_finite.Facts] : Prop :=
  ∀ (m : (ℓ : Loc Cert.MemoryNormIdeal.nD Cert.MemoryNormIdeal.τ Cert.MemoryNormIdeal.sig) → Buf (Elt Ideal) ℓ) (g : Dev Cert.MemoryNormIdeal.nD → PrngReg), Pre_MemoryNormIdeal_memory_norm_finite m →
    θ_run (Cert.MemoryNormIdeal.defs (F := Ideal)) (onTc (τ := Cert.MemoryNormIdeal.τ) (Cert.MemoryNormIdeal.main (F := Ideal))) ⟨m, fun _ => 0, g⟩ (fun r => (∀ c : Dev Cert.MemoryNormIdeal.nD,
      r.2.mem ((c.tc : Thread Cert.MemoryNormIdeal.nD Cert.MemoryNormIdeal.τ).loc Cert.MemoryNormIdeal.main_arg0) = m ((c.tc : Thread Cert.MemoryNormIdeal.nD Cert.MemoryNormIdeal.τ).loc Cert.MemoryNormIdeal.main_arg0)
      ∧ r.2.mem ((c.tc : Thread Cert.MemoryNormIdeal.nD Cert.MemoryNormIdeal.τ).loc Cert.MemoryNormIdeal.main_arg1) = m ((c.tc : Thread Cert.MemoryNormIdeal.nD Cert.MemoryNormIdeal.τ).loc Cert.MemoryNormIdeal.main_arg1)
      ∧ r.2.mem ((c.tc : Thread Cert.MemoryNormIdeal.nD Cert.MemoryNormIdeal.τ).loc Cert.MemoryNormIdeal.main_arg2) = m ((c.tc : Thread Cert.MemoryNormIdeal.nD Cert.MemoryNormIdeal.τ).loc Cert.MemoryNormIdeal.main_arg2)
      ∧ r.2.mem ((c.tc : Thread Cert.MemoryNormIdeal.nD Cert.MemoryNormIdeal.τ).loc Cert.MemoryNormIdeal.main_arg3) = m ((c.tc : Thread Cert.MemoryNormIdeal.nD Cert.MemoryNormIdeal.τ).loc Cert.MemoryNormIdeal.main_arg3))
      ∧ r.2.sem = fun _ => 0)

def quiescent_MemoryNormRefIdeal [hMemoryNormRefIdeal : Cert.MemoryNormRefIdeal.Facts] : Prop :=
  ∀ (m : (ℓ : Loc Cert.MemoryNormRefIdeal.nD Cert.MemoryNormRefIdeal.τ Cert.MemoryNormRefIdeal.sig) → Buf (Elt Ideal) ℓ) (g : Dev Cert.MemoryNormRefIdeal.nD → PrngReg), Pre_MemoryNormRefIdeal m →
    θ_run (Cert.MemoryNormRefIdeal.defs (F := Ideal)) (onTc (τ := Cert.MemoryNormRefIdeal.τ) (Cert.MemoryNormRefIdeal.main (F := Ideal))) ⟨m, fun _ => 0, g⟩ (fun r => (∀ c : Dev Cert.MemoryNormRefIdeal.nD,
      r.2.mem ((c.tc : Thread Cert.MemoryNormRefIdeal.nD Cert.MemoryNormRefIdeal.τ).loc Cert.MemoryNormRefIdeal.main_arg0) = m ((c.tc : Thread Cert.MemoryNormRefIdeal.nD Cert.MemoryNormRefIdeal.τ).loc Cert.MemoryNormRefIdeal.main_arg0)
      ∧ r.2.mem ((c.tc : Thread Cert.MemoryNormRefIdeal.nD Cert.MemoryNormRefIdeal.τ).loc Cert.MemoryNormRefIdeal.main_arg1) = m ((c.tc : Thread Cert.MemoryNormRefIdeal.nD Cert.MemoryNormRefIdeal.τ).loc Cert.MemoryNormRefIdeal.main_arg1)
      ∧ r.2.mem ((c.tc : Thread Cert.MemoryNormRefIdeal.nD Cert.MemoryNormRefIdeal.τ).loc Cert.MemoryNormRefIdeal.main_arg2) = m ((c.tc : Thread Cert.MemoryNormRefIdeal.nD Cert.MemoryNormRefIdeal.τ).loc Cert.MemoryNormRefIdeal.main_arg2)
      ∧ r.2.mem ((c.tc : Thread Cert.MemoryNormRefIdeal.nD Cert.MemoryNormRefIdeal.τ).loc Cert.MemoryNormRefIdeal.main_arg3) = m ((c.tc : Thread Cert.MemoryNormRefIdeal.nD Cert.MemoryNormRefIdeal.τ).loc Cert.MemoryNormRefIdeal.main_arg3))
      ∧ r.2.sem = fun _ => 0)

def quiescent_MemoryNormRefIdeal_pre_memory_norm_finite [hMemoryNormRefIdeal : Cert.MemoryNormRefIdeal.Facts] [hPre_memory_norm_finite : Cert.Pre_memory_norm_finite.Facts] : Prop :=
  ∀ (m : (ℓ : Loc Cert.MemoryNormRefIdeal.nD Cert.MemoryNormRefIdeal.τ Cert.MemoryNormRefIdeal.sig) → Buf (Elt Ideal) ℓ) (g : Dev Cert.MemoryNormRefIdeal.nD → PrngReg), Pre_MemoryNormRefIdeal_memory_norm_finite m →
    θ_run (Cert.MemoryNormRefIdeal.defs (F := Ideal)) (onTc (τ := Cert.MemoryNormRefIdeal.τ) (Cert.MemoryNormRefIdeal.main (F := Ideal))) ⟨m, fun _ => 0, g⟩ (fun r => (∀ c : Dev Cert.MemoryNormRefIdeal.nD,
      r.2.mem ((c.tc : Thread Cert.MemoryNormRefIdeal.nD Cert.MemoryNormRefIdeal.τ).loc Cert.MemoryNormRefIdeal.main_arg0) = m ((c.tc : Thread Cert.MemoryNormRefIdeal.nD Cert.MemoryNormRefIdeal.τ).loc Cert.MemoryNormRefIdeal.main_arg0)
      ∧ r.2.mem ((c.tc : Thread Cert.MemoryNormRefIdeal.nD Cert.MemoryNormRefIdeal.τ).loc Cert.MemoryNormRefIdeal.main_arg1) = m ((c.tc : Thread Cert.MemoryNormRefIdeal.nD Cert.MemoryNormRefIdeal.τ).loc Cert.MemoryNormRefIdeal.main_arg1)
      ∧ r.2.mem ((c.tc : Thread Cert.MemoryNormRefIdeal.nD Cert.MemoryNormRefIdeal.τ).loc Cert.MemoryNormRefIdeal.main_arg2) = m ((c.tc : Thread Cert.MemoryNormRefIdeal.nD Cert.MemoryNormRefIdeal.τ).loc Cert.MemoryNormRefIdeal.main_arg2)
      ∧ r.2.mem ((c.tc : Thread Cert.MemoryNormRefIdeal.nD Cert.MemoryNormRefIdeal.τ).loc Cert.MemoryNormRefIdeal.main_arg3) = m ((c.tc : Thread Cert.MemoryNormRefIdeal.nD Cert.MemoryNormRefIdeal.τ).loc Cert.MemoryNormRefIdeal.main_arg3))
      ∧ r.2.sem = fun _ => 0)

def quiescent_MixNorm [hMixNorm : Cert.MixNorm.Facts] : Prop :=
  ∀ (m : (ℓ : Loc Cert.MixNorm.nD Cert.MixNorm.τ Cert.MixNorm.sig) → Buf (Elt Bits) ℓ) (g : Dev Cert.MixNorm.nD → PrngReg), Pre_MixNorm m →
    θ_run (Cert.MixNorm.defs (F := Bits)) (onTc (τ := Cert.MixNorm.τ) (Cert.MixNorm.main (F := Bits))) ⟨m, fun _ => 0, g⟩ (fun r => (∀ c : Dev Cert.MixNorm.nD,
      r.2.mem ((c.tc : Thread Cert.MixNorm.nD Cert.MixNorm.τ).loc Cert.MixNorm.main_arg0) = m ((c.tc : Thread Cert.MixNorm.nD Cert.MixNorm.τ).loc Cert.MixNorm.main_arg0)
      ∧ r.2.mem ((c.tc : Thread Cert.MixNorm.nD Cert.MixNorm.τ).loc Cert.MixNorm.main_arg1) = m ((c.tc : Thread Cert.MixNorm.nD Cert.MixNorm.τ).loc Cert.MixNorm.main_arg1)
      ∧ r.2.mem ((c.tc : Thread Cert.MixNorm.nD Cert.MixNorm.τ).loc Cert.MixNorm.main_arg2) = m ((c.tc : Thread Cert.MixNorm.nD Cert.MixNorm.τ).loc Cert.MixNorm.main_arg2)
      ∧ r.2.mem ((c.tc : Thread Cert.MixNorm.nD Cert.MixNorm.τ).loc Cert.MixNorm.main_arg3) = m ((c.tc : Thread Cert.MixNorm.nD Cert.MixNorm.τ).loc Cert.MixNorm.main_arg3)
      ∧ r.2.mem ((c.tc : Thread Cert.MixNorm.nD Cert.MixNorm.τ).loc Cert.MixNorm.main_arg4) = m ((c.tc : Thread Cert.MixNorm.nD Cert.MixNorm.τ).loc Cert.MixNorm.main_arg4)
      ∧ r.2.mem ((c.tc : Thread Cert.MixNorm.nD Cert.MixNorm.τ).loc Cert.MixNorm.main_arg5) = m ((c.tc : Thread Cert.MixNorm.nD Cert.MixNorm.τ).loc Cert.MixNorm.main_arg5)
      ∧ r.2.mem ((c.tc : Thread Cert.MixNorm.nD Cert.MixNorm.τ).loc Cert.MixNorm.main_arg6) = m ((c.tc : Thread Cert.MixNorm.nD Cert.MixNorm.τ).loc Cert.MixNorm.main_arg6))
      ∧ r.2.sem = fun _ => 0)

def quiescent_MixNormIdeal [hMixNormIdeal : Cert.MixNormIdeal.Facts] : Prop :=
  ∀ (m : (ℓ : Loc Cert.MixNormIdeal.nD Cert.MixNormIdeal.τ Cert.MixNormIdeal.sig) → Buf (Elt Ideal) ℓ) (g : Dev Cert.MixNormIdeal.nD → PrngReg), Pre_MixNormIdeal m →
    θ_run (Cert.MixNormIdeal.defs (F := Ideal)) (onTc (τ := Cert.MixNormIdeal.τ) (Cert.MixNormIdeal.main (F := Ideal))) ⟨m, fun _ => 0, g⟩ (fun r => (∀ c : Dev Cert.MixNormIdeal.nD,
      r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
      ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
      ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2)
      ∧ r.2.mem ((c.tc : Thread Cert.MixNormIdeal.nD Cert.MixNormIdeal.τ).loc Cert.MixNormIdeal.main_arg3) = m ((c.tc : Thread Cert.MixNormIdeal.nD Cert.MixNormIdeal.τ).loc Cert.MixNormIdeal.main_arg3)
      ∧ r.2.mem ((c.tc : Thread Cert.MixNormIdeal.nD Cert.MixNormIdeal.τ).loc Cert.MixNormIdeal.main_arg4) = m ((c.tc : Thread Cert.MixNormIdeal.nD Cert.MixNormIdeal.τ).loc Cert.MixNormIdeal.main_arg4)
      ∧ r.2.mem ((c.tc : Thread Cert.MixNormIdeal.nD Cert.MixNormIdeal.τ).loc Cert.MixNormIdeal.main_arg5) = m ((c.tc : Thread Cert.MixNormIdeal.nD Cert.MixNormIdeal.τ).loc Cert.MixNormIdeal.main_arg5)
      ∧ r.2.mem ((c.tc : Thread Cert.MixNormIdeal.nD Cert.MixNormIdeal.τ).loc Cert.MixNormIdeal.main_arg6) = m ((c.tc : Thread Cert.MixNormIdeal.nD Cert.MixNormIdeal.τ).loc Cert.MixNormIdeal.main_arg6))
      ∧ r.2.sem = fun _ => 0)

def quiescent_MixNormIdeal_pre_mix_norm_finite [hMixNormIdeal : Cert.MixNormIdeal.Facts] [hPre_mix_norm_finite : Cert.Pre_mix_norm_finite.Facts] : Prop :=
  ∀ (m : (ℓ : Loc Cert.MixNormIdeal.nD Cert.MixNormIdeal.τ Cert.MixNormIdeal.sig) → Buf (Elt Ideal) ℓ) (g : Dev Cert.MixNormIdeal.nD → PrngReg), Pre_MixNormIdeal_mix_norm_finite m →
    θ_run (Cert.MixNormIdeal.defs (F := Ideal)) (onTc (τ := Cert.MixNormIdeal.τ) (Cert.MixNormIdeal.main (F := Ideal))) ⟨m, fun _ => 0, g⟩ (fun r => (∀ c : Dev Cert.MixNormIdeal.nD,
      r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
      ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
      ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2)
      ∧ r.2.mem ((c.tc : Thread Cert.MixNormIdeal.nD Cert.MixNormIdeal.τ).loc Cert.MixNormIdeal.main_arg3) = m ((c.tc : Thread Cert.MixNormIdeal.nD Cert.MixNormIdeal.τ).loc Cert.MixNormIdeal.main_arg3)
      ∧ r.2.mem ((c.tc : Thread Cert.MixNormIdeal.nD Cert.MixNormIdeal.τ).loc Cert.MixNormIdeal.main_arg4) = m ((c.tc : Thread Cert.MixNormIdeal.nD Cert.MixNormIdeal.τ).loc Cert.MixNormIdeal.main_arg4)
      ∧ r.2.mem ((c.tc : Thread Cert.MixNormIdeal.nD Cert.MixNormIdeal.τ).loc Cert.MixNormIdeal.main_arg5) = m ((c.tc : Thread Cert.MixNormIdeal.nD Cert.MixNormIdeal.τ).loc Cert.MixNormIdeal.main_arg5)
      ∧ r.2.mem ((c.tc : Thread Cert.MixNormIdeal.nD Cert.MixNormIdeal.τ).loc Cert.MixNormIdeal.main_arg6) = m ((c.tc : Thread Cert.MixNormIdeal.nD Cert.MixNormIdeal.τ).loc Cert.MixNormIdeal.main_arg6))
      ∧ r.2.sem = fun _ => 0)

def quiescent_MixNormRefIdeal [hMixNormRefIdeal : Cert.MixNormRefIdeal.Facts] : Prop :=
  ∀ (m : (ℓ : Loc Cert.MixNormRefIdeal.nD Cert.MixNormRefIdeal.τ Cert.MixNormRefIdeal.sig) → Buf (Elt Ideal) ℓ) (g : Dev Cert.MixNormRefIdeal.nD → PrngReg), Pre_MixNormRefIdeal m →
    θ_run (Cert.MixNormRefIdeal.defs (F := Ideal)) (onTc (τ := Cert.MixNormRefIdeal.τ) (Cert.MixNormRefIdeal.main (F := Ideal))) ⟨m, fun _ => 0, g⟩ (fun r => (∀ c : Dev Cert.MixNormRefIdeal.nD,
      r.2.mem ((c.tc : Thread Cert.MixNormRefIdeal.nD Cert.MixNormRefIdeal.τ).loc Cert.MixNormRefIdeal.main_arg0) = m ((c.tc : Thread Cert.MixNormRefIdeal.nD Cert.MixNormRefIdeal.τ).loc Cert.MixNormRefIdeal.main_arg0)
      ∧ r.2.mem ((c.tc : Thread Cert.MixNormRefIdeal.nD Cert.MixNormRefIdeal.τ).loc Cert.MixNormRefIdeal.main_arg1) = m ((c.tc : Thread Cert.MixNormRefIdeal.nD Cert.MixNormRefIdeal.τ).loc Cert.MixNormRefIdeal.main_arg1)
      ∧ r.2.mem ((c.tc : Thread Cert.MixNormRefIdeal.nD Cert.MixNormRefIdeal.τ).loc Cert.MixNormRefIdeal.main_arg2) = m ((c.tc : Thread Cert.MixNormRefIdeal.nD Cert.MixNormRefIdeal.τ).loc Cert.MixNormRefIdeal.main_arg2)
      ∧ r.2.mem ((c.tc : Thread Cert.MixNormRefIdeal.nD Cert.MixNormRefIdeal.τ).loc Cert.MixNormRefIdeal.main_arg3) = m ((c.tc : Thread Cert.MixNormRefIdeal.nD Cert.MixNormRefIdeal.τ).loc Cert.MixNormRefIdeal.main_arg3)
      ∧ r.2.mem ((c.tc : Thread Cert.MixNormRefIdeal.nD Cert.MixNormRefIdeal.τ).loc Cert.MixNormRefIdeal.main_arg4) = m ((c.tc : Thread Cert.MixNormRefIdeal.nD Cert.MixNormRefIdeal.τ).loc Cert.MixNormRefIdeal.main_arg4)
      ∧ r.2.mem ((c.tc : Thread Cert.MixNormRefIdeal.nD Cert.MixNormRefIdeal.τ).loc Cert.MixNormRefIdeal.main_arg5) = m ((c.tc : Thread Cert.MixNormRefIdeal.nD Cert.MixNormRefIdeal.τ).loc Cert.MixNormRefIdeal.main_arg5)
      ∧ r.2.mem ((c.tc : Thread Cert.MixNormRefIdeal.nD Cert.MixNormRefIdeal.τ).loc Cert.MixNormRefIdeal.main_arg6) = m ((c.tc : Thread Cert.MixNormRefIdeal.nD Cert.MixNormRefIdeal.τ).loc Cert.MixNormRefIdeal.main_arg6))
      ∧ r.2.sem = fun _ => 0)

def quiescent_MixNormRefIdeal_pre_mix_norm_finite [hMixNormRefIdeal : Cert.MixNormRefIdeal.Facts] [hPre_mix_norm_finite : Cert.Pre_mix_norm_finite.Facts] : Prop :=
  ∀ (m : (ℓ : Loc Cert.MixNormRefIdeal.nD Cert.MixNormRefIdeal.τ Cert.MixNormRefIdeal.sig) → Buf (Elt Ideal) ℓ) (g : Dev Cert.MixNormRefIdeal.nD → PrngReg), Pre_MixNormRefIdeal_mix_norm_finite m →
    θ_run (Cert.MixNormRefIdeal.defs (F := Ideal)) (onTc (τ := Cert.MixNormRefIdeal.τ) (Cert.MixNormRefIdeal.main (F := Ideal))) ⟨m, fun _ => 0, g⟩ (fun r => (∀ c : Dev Cert.MixNormRefIdeal.nD,
      r.2.mem ((c.tc : Thread Cert.MixNormRefIdeal.nD Cert.MixNormRefIdeal.τ).loc Cert.MixNormRefIdeal.main_arg0) = m ((c.tc : Thread Cert.MixNormRefIdeal.nD Cert.MixNormRefIdeal.τ).loc Cert.MixNormRefIdeal.main_arg0)
      ∧ r.2.mem ((c.tc : Thread Cert.MixNormRefIdeal.nD Cert.MixNormRefIdeal.τ).loc Cert.MixNormRefIdeal.main_arg1) = m ((c.tc : Thread Cert.MixNormRefIdeal.nD Cert.MixNormRefIdeal.τ).loc Cert.MixNormRefIdeal.main_arg1)
      ∧ r.2.mem ((c.tc : Thread Cert.MixNormRefIdeal.nD Cert.MixNormRefIdeal.τ).loc Cert.MixNormRefIdeal.main_arg2) = m ((c.tc : Thread Cert.MixNormRefIdeal.nD Cert.MixNormRefIdeal.τ).loc Cert.MixNormRefIdeal.main_arg2)
      ∧ r.2.mem ((c.tc : Thread Cert.MixNormRefIdeal.nD Cert.MixNormRefIdeal.τ).loc Cert.MixNormRefIdeal.main_arg3) = m ((c.tc : Thread Cert.MixNormRefIdeal.nD Cert.MixNormRefIdeal.τ).loc Cert.MixNormRefIdeal.main_arg3)
      ∧ r.2.mem ((c.tc : Thread Cert.MixNormRefIdeal.nD Cert.MixNormRefIdeal.τ).loc Cert.MixNormRefIdeal.main_arg4) = m ((c.tc : Thread Cert.MixNormRefIdeal.nD Cert.MixNormRefIdeal.τ).loc Cert.MixNormRefIdeal.main_arg4)
      ∧ r.2.mem ((c.tc : Thread Cert.MixNormRefIdeal.nD Cert.MixNormRefIdeal.τ).loc Cert.MixNormRefIdeal.main_arg5) = m ((c.tc : Thread Cert.MixNormRefIdeal.nD Cert.MixNormRefIdeal.τ).loc Cert.MixNormRefIdeal.main_arg5)
      ∧ r.2.mem ((c.tc : Thread Cert.MixNormRefIdeal.nD Cert.MixNormRefIdeal.τ).loc Cert.MixNormRefIdeal.main_arg6) = m ((c.tc : Thread Cert.MixNormRefIdeal.nD Cert.MixNormRefIdeal.τ).loc Cert.MixNormRefIdeal.main_arg6))
      ∧ r.2.sem = fun _ => 0)

def quiescent_AttnBack [hAttnBack : Cert.AttnBack.Facts] : Prop :=
  ∀ (m : (ℓ : Loc Cert.AttnBack.nD Cert.AttnBack.τ Cert.AttnBack.sig) → Buf (Elt Bits) ℓ) (g : Dev Cert.AttnBack.nD → PrngReg), Pre_AttnBack m →
    θ_run (Cert.AttnBack.defs (F := Bits)) (onTc (τ := Cert.AttnBack.τ) (Cert.AttnBack.main (F := Bits))) ⟨m, fun _ => 0, g⟩ (fun r => (∀ c : Dev Cert.AttnBack.nD,
      r.2.mem ((c.tc : Thread Cert.AttnBack.nD Cert.AttnBack.τ).loc Cert.AttnBack.main_arg0) = m ((c.tc : Thread Cert.AttnBack.nD Cert.AttnBack.τ).loc Cert.AttnBack.main_arg0)
      ∧ r.2.mem ((c.tc : Thread Cert.AttnBack.nD Cert.AttnBack.τ).loc Cert.AttnBack.main_arg1) = m ((c.tc : Thread Cert.AttnBack.nD Cert.AttnBack.τ).loc Cert.AttnBack.main_arg1)
      ∧ r.2.mem ((c.tc : Thread Cert.AttnBack.nD Cert.AttnBack.τ).loc Cert.AttnBack.main_arg2) = m ((c.tc : Thread Cert.AttnBack.nD Cert.AttnBack.τ).loc Cert.AttnBack.main_arg2)
      ∧ r.2.mem ((c.tc : Thread Cert.AttnBack.nD Cert.AttnBack.τ).loc Cert.AttnBack.main_arg3) = m ((c.tc : Thread Cert.AttnBack.nD Cert.AttnBack.τ).loc Cert.AttnBack.main_arg3)
      ∧ r.2.mem ((c.tc : Thread Cert.AttnBack.nD Cert.AttnBack.τ).loc Cert.AttnBack.main_arg4) = m ((c.tc : Thread Cert.AttnBack.nD Cert.AttnBack.τ).loc Cert.AttnBack.main_arg4))
      ∧ r.2.sem = fun _ => 0)

def quiescent_AttnBackIdeal [hAttnBackIdeal : Cert.AttnBackIdeal.Facts] : Prop :=
  ∀ (m : (ℓ : Loc Cert.AttnBackIdeal.nD Cert.AttnBackIdeal.τ Cert.AttnBackIdeal.sig) → Buf (Elt Ideal) ℓ) (g : Dev Cert.AttnBackIdeal.nD → PrngReg), Pre_AttnBackIdeal m →
    θ_run (Cert.AttnBackIdeal.defs (F := Ideal)) (onTc (τ := Cert.AttnBackIdeal.τ) (Cert.AttnBackIdeal.main (F := Ideal))) ⟨m, fun _ => 0, g⟩ (fun r => (∀ c : Dev Cert.AttnBackIdeal.nD,
      r.2.mem ((c.tc : Thread Cert.AttnBackIdeal.nD Cert.AttnBackIdeal.τ).loc Cert.AttnBackIdeal.main_arg0) = m ((c.tc : Thread Cert.AttnBackIdeal.nD Cert.AttnBackIdeal.τ).loc Cert.AttnBackIdeal.main_arg0)
      ∧ r.2.mem ((c.tc : Thread Cert.AttnBackIdeal.nD Cert.AttnBackIdeal.τ).loc Cert.AttnBackIdeal.main_arg1) = m ((c.tc : Thread Cert.AttnBackIdeal.nD Cert.AttnBackIdeal.τ).loc Cert.AttnBackIdeal.main_arg1)
      ∧ r.2.mem ((c.tc : Thread Cert.AttnBackIdeal.nD Cert.AttnBackIdeal.τ).loc Cert.AttnBackIdeal.main_arg2) = m ((c.tc : Thread Cert.AttnBackIdeal.nD Cert.AttnBackIdeal.τ).loc Cert.AttnBackIdeal.main_arg2)
      ∧ r.2.mem ((c.tc : Thread Cert.AttnBackIdeal.nD Cert.AttnBackIdeal.τ).loc Cert.AttnBackIdeal.main_arg3) = m ((c.tc : Thread Cert.AttnBackIdeal.nD Cert.AttnBackIdeal.τ).loc Cert.AttnBackIdeal.main_arg3)
      ∧ r.2.mem ((c.tc : Thread Cert.AttnBackIdeal.nD Cert.AttnBackIdeal.τ).loc Cert.AttnBackIdeal.main_arg4) = m ((c.tc : Thread Cert.AttnBackIdeal.nD Cert.AttnBackIdeal.τ).loc Cert.AttnBackIdeal.main_arg4))
      ∧ r.2.sem = fun _ => 0)

def quiescent_GatingBack [hGatingBack : Cert.GatingBack.Facts] : Prop :=
  ∀ (m : (ℓ : Loc Cert.GatingBack.nD Cert.GatingBack.τ Cert.GatingBack.sig) → Buf (Elt Bits) ℓ) (g : Dev Cert.GatingBack.nD → PrngReg), Pre_GatingBack m →
    θ_run (Cert.GatingBack.defs (F := Bits)) (onTc (τ := Cert.GatingBack.τ) (Cert.GatingBack.main (F := Bits))) ⟨m, fun _ => 0, g⟩ (fun r => (∀ c : Dev Cert.GatingBack.nD,
      r.2.mem ((c.tc : Thread Cert.GatingBack.nD Cert.GatingBack.τ).loc Cert.GatingBack.main_arg0) = m ((c.tc : Thread Cert.GatingBack.nD Cert.GatingBack.τ).loc Cert.GatingBack.main_arg0)
      ∧ r.2.mem ((c.tc : Thread Cert.GatingBack.nD Cert.GatingBack.τ).loc Cert.GatingBack.main_arg1) = m ((c.tc : Thread Cert.GatingBack.nD Cert.GatingBack.τ).loc Cert.GatingBack.main_arg1)
      ∧ r.2.mem ((c.tc : Thread Cert.GatingBack.nD Cert.GatingBack.τ).loc Cert.GatingBack.main_arg2) = m ((c.tc : Thread Cert.GatingBack.nD Cert.GatingBack.τ).loc Cert.GatingBack.main_arg2)
      ∧ r.2.mem ((c.tc : Thread Cert.GatingBack.nD Cert.GatingBack.τ).loc Cert.GatingBack.main_arg3) = m ((c.tc : Thread Cert.GatingBack.nD Cert.GatingBack.τ).loc Cert.GatingBack.main_arg3)
      ∧ r.2.mem ((c.tc : Thread Cert.GatingBack.nD Cert.GatingBack.τ).loc Cert.GatingBack.main_arg4) = m ((c.tc : Thread Cert.GatingBack.nD Cert.GatingBack.τ).loc Cert.GatingBack.main_arg4)
      ∧ r.2.mem ((c.tc : Thread Cert.GatingBack.nD Cert.GatingBack.τ).loc Cert.GatingBack.main_arg5) = m ((c.tc : Thread Cert.GatingBack.nD Cert.GatingBack.τ).loc Cert.GatingBack.main_arg5)
      ∧ r.2.mem ((c.tc : Thread Cert.GatingBack.nD Cert.GatingBack.τ).loc Cert.GatingBack.main_arg6) = m ((c.tc : Thread Cert.GatingBack.nD Cert.GatingBack.τ).loc Cert.GatingBack.main_arg6)
      ∧ r.2.mem ((c.tc : Thread Cert.GatingBack.nD Cert.GatingBack.τ).loc Cert.GatingBack.main_arg7) = m ((c.tc : Thread Cert.GatingBack.nD Cert.GatingBack.τ).loc Cert.GatingBack.main_arg7)
      ∧ r.2.mem ((c.tc : Thread Cert.GatingBack.nD Cert.GatingBack.τ).loc Cert.GatingBack.main_arg8) = m ((c.tc : Thread Cert.GatingBack.nD Cert.GatingBack.τ).loc Cert.GatingBack.main_arg8))
      ∧ r.2.sem = fun _ => 0)

def quiescent_GatingBackIdeal [hGatingBackIdeal : Cert.GatingBackIdeal.Facts] : Prop :=
  ∀ (m : (ℓ : Loc Cert.GatingBackIdeal.nD Cert.GatingBackIdeal.τ Cert.GatingBackIdeal.sig) → Buf (Elt Ideal) ℓ) (g : Dev Cert.GatingBackIdeal.nD → PrngReg), Pre_GatingBackIdeal m →
    θ_run (Cert.GatingBackIdeal.defs (F := Ideal)) (onTc (τ := Cert.GatingBackIdeal.τ) (Cert.GatingBackIdeal.main (F := Ideal))) ⟨m, fun _ => 0, g⟩ (fun r => (∀ c : Dev Cert.GatingBackIdeal.nD,
      r.2.mem ((c.tc : Thread Cert.GatingBackIdeal.nD Cert.GatingBackIdeal.τ).loc Cert.GatingBackIdeal.main_arg0) = m ((c.tc : Thread Cert.GatingBackIdeal.nD Cert.GatingBackIdeal.τ).loc Cert.GatingBackIdeal.main_arg0)
      ∧ r.2.mem ((c.tc : Thread Cert.GatingBackIdeal.nD Cert.GatingBackIdeal.τ).loc Cert.GatingBackIdeal.main_arg1) = m ((c.tc : Thread Cert.GatingBackIdeal.nD Cert.GatingBackIdeal.τ).loc Cert.GatingBackIdeal.main_arg1)
      ∧ r.2.mem ((c.tc : Thread Cert.GatingBackIdeal.nD Cert.GatingBackIdeal.τ).loc Cert.GatingBackIdeal.main_arg2) = m ((c.tc : Thread Cert.GatingBackIdeal.nD Cert.GatingBackIdeal.τ).loc Cert.GatingBackIdeal.main_arg2)
      ∧ r.2.mem ((c.tc : Thread Cert.GatingBackIdeal.nD Cert.GatingBackIdeal.τ).loc Cert.GatingBackIdeal.main_arg3) = m ((c.tc : Thread Cert.GatingBackIdeal.nD Cert.GatingBackIdeal.τ).loc Cert.GatingBackIdeal.main_arg3)
      ∧ r.2.mem ((c.tc : Thread Cert.GatingBackIdeal.nD Cert.GatingBackIdeal.τ).loc Cert.GatingBackIdeal.main_arg4) = m ((c.tc : Thread Cert.GatingBackIdeal.nD Cert.GatingBackIdeal.τ).loc Cert.GatingBackIdeal.main_arg4)
      ∧ r.2.mem ((c.tc : Thread Cert.GatingBackIdeal.nD Cert.GatingBackIdeal.τ).loc Cert.GatingBackIdeal.main_arg5) = m ((c.tc : Thread Cert.GatingBackIdeal.nD Cert.GatingBackIdeal.τ).loc Cert.GatingBackIdeal.main_arg5)
      ∧ r.2.mem ((c.tc : Thread Cert.GatingBackIdeal.nD Cert.GatingBackIdeal.τ).loc Cert.GatingBackIdeal.main_arg6) = m ((c.tc : Thread Cert.GatingBackIdeal.nD Cert.GatingBackIdeal.τ).loc Cert.GatingBackIdeal.main_arg6)
      ∧ r.2.mem ((c.tc : Thread Cert.GatingBackIdeal.nD Cert.GatingBackIdeal.τ).loc Cert.GatingBackIdeal.main_arg7) = m ((c.tc : Thread Cert.GatingBackIdeal.nD Cert.GatingBackIdeal.τ).loc Cert.GatingBackIdeal.main_arg7)
      ∧ r.2.mem ((c.tc : Thread Cert.GatingBackIdeal.nD Cert.GatingBackIdeal.τ).loc Cert.GatingBackIdeal.main_arg8) = m ((c.tc : Thread Cert.GatingBackIdeal.nD Cert.GatingBackIdeal.τ).loc Cert.GatingBackIdeal.main_arg8))
      ∧ r.2.sem = fun _ => 0)

def quiescent_BiasBack [hBiasBack : Cert.BiasBack.Facts] : Prop :=
  ∀ (m : (ℓ : Loc Cert.BiasBack.nD Cert.BiasBack.τ Cert.BiasBack.sig) → Buf (Elt Bits) ℓ) (g : Dev Cert.BiasBack.nD → PrngReg), Pre_BiasBack m →
    θ_run (Cert.BiasBack.defs (F := Bits)) (onTc (τ := Cert.BiasBack.τ) (Cert.BiasBack.main (F := Bits))) ⟨m, fun _ => 0, g⟩ (fun r => (∀ c : Dev Cert.BiasBack.nD,
      r.2.mem ((c.tc : Thread Cert.BiasBack.nD Cert.BiasBack.τ).loc Cert.BiasBack.main_arg0) = m ((c.tc : Thread Cert.BiasBack.nD Cert.BiasBack.τ).loc Cert.BiasBack.main_arg0))
      ∧ r.2.sem = fun _ => 0)

def quiescent_BiasBackIdeal [hBiasBackIdeal : Cert.BiasBackIdeal.Facts] : Prop :=
  ∀ (m : (ℓ : Loc Cert.BiasBackIdeal.nD Cert.BiasBackIdeal.τ Cert.BiasBackIdeal.sig) → Buf (Elt Ideal) ℓ) (g : Dev Cert.BiasBackIdeal.nD → PrngReg), Pre_BiasBackIdeal m →
    θ_run (Cert.BiasBackIdeal.defs (F := Ideal)) (onTc (τ := Cert.BiasBackIdeal.τ) (Cert.BiasBackIdeal.main (F := Ideal))) ⟨m, fun _ => 0, g⟩ (fun r => (∀ c : Dev Cert.BiasBackIdeal.nD,
      r.2.mem ((c.tc : Thread Cert.BiasBackIdeal.nD Cert.BiasBackIdeal.τ).loc Cert.BiasBackIdeal.main_arg0) = m ((c.tc : Thread Cert.BiasBackIdeal.nD Cert.BiasBackIdeal.τ).loc Cert.BiasBackIdeal.main_arg0))
      ∧ r.2.sem = fun _ => 0)

def quiescent_BiasBackRefIdeal [hBiasBackRefIdeal : Cert.BiasBackRefIdeal.Facts] : Prop :=
  ∀ (m : (ℓ : Loc Cert.BiasBackRefIdeal.nD Cert.BiasBackRefIdeal.τ Cert.BiasBackRefIdeal.sig) → Buf (Elt Ideal) ℓ) (g : Dev Cert.BiasBackRefIdeal.nD → PrngReg), Pre_BiasBackRefIdeal m →
    θ_run (Cert.BiasBackRefIdeal.defs (F := Ideal)) (onTc (τ := Cert.BiasBackRefIdeal.τ) (Cert.BiasBackRefIdeal.main (F := Ideal))) ⟨m, fun _ => 0, g⟩ (fun r => (∀ c : Dev Cert.BiasBackRefIdeal.nD,
      r.2.mem ((c.tc : Thread Cert.BiasBackRefIdeal.nD Cert.BiasBackRefIdeal.τ).loc Cert.BiasBackRefIdeal.main_arg0) = m ((c.tc : Thread Cert.BiasBackRefIdeal.nD Cert.BiasBackRefIdeal.τ).loc Cert.BiasBackRefIdeal.main_arg0))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2))
      ∧ r.2.sem = fun _ => 0)

def quiescent_QueryIn [hQueryIn : Cert.QueryIn.Facts] : Prop :=
  ∀ (m : (ℓ : Loc Cert.QueryIn.nD Cert.QueryIn.τ Cert.QueryIn.sig) → Buf (Elt Bits) ℓ) (g : Dev Cert.QueryIn.nD → PrngReg), Pre_QueryIn m →
    θ_run (Cert.QueryIn.defs (F := Bits)) (onTc (τ := Cert.QueryIn.τ) (Cert.QueryIn.main (F := Bits))) ⟨m, fun _ => 0, g⟩ (fun r => (∀ c : Dev Cert.QueryIn.nD,
      r.2.mem ((c.tc : Thread Cert.QueryIn.nD Cert.QueryIn.τ).loc Cert.QueryIn.main_arg0) = m ((c.tc : Thread Cert.QueryIn.nD Cert.QueryIn.τ).loc Cert.QueryIn.main_arg0)
      ∧ r.2.mem ((c.tc : Thread Cert.QueryIn.nD Cert.QueryIn.τ).loc Cert.QueryIn.main_arg1) = m ((c.tc : Thread Cert.QueryIn.nD Cert.QueryIn.τ).loc Cert.QueryIn.main_arg1)
      ∧ r.2.mem ((c.tc : Thread Cert.QueryIn.nD Cert.QueryIn.τ).loc Cert.QueryIn.main_arg2) = m ((c.tc : Thread Cert.QueryIn.nD Cert.QueryIn.τ).loc Cert.QueryIn.main_arg2))
      ∧ r.2.sem = fun _ => 0)

def quiescent_QueryInIdeal [hQueryInIdeal : Cert.QueryInIdeal.Facts] : Prop :=
  ∀ (m : (ℓ : Loc Cert.QueryInIdeal.nD Cert.QueryInIdeal.τ Cert.QueryInIdeal.sig) → Buf (Elt Ideal) ℓ) (g : Dev Cert.QueryInIdeal.nD → PrngReg), Pre_QueryInIdeal m →
    θ_run (Cert.QueryInIdeal.defs (F := Ideal)) (onTc (τ := Cert.QueryInIdeal.τ) (Cert.QueryInIdeal.main (F := Ideal))) ⟨m, fun _ => 0, g⟩ (fun r => (∀ c : Dev Cert.QueryInIdeal.nD,
      r.2.mem ((c.tc : Thread Cert.QueryInIdeal.nD Cert.QueryInIdeal.τ).loc Cert.QueryInIdeal.main_arg0) = m ((c.tc : Thread Cert.QueryInIdeal.nD Cert.QueryInIdeal.τ).loc Cert.QueryInIdeal.main_arg0)
      ∧ r.2.mem ((c.tc : Thread Cert.QueryInIdeal.nD Cert.QueryInIdeal.τ).loc Cert.QueryInIdeal.main_arg1) = m ((c.tc : Thread Cert.QueryInIdeal.nD Cert.QueryInIdeal.τ).loc Cert.QueryInIdeal.main_arg1)
      ∧ r.2.mem ((c.tc : Thread Cert.QueryInIdeal.nD Cert.QueryInIdeal.τ).loc Cert.QueryInIdeal.main_arg2) = m ((c.tc : Thread Cert.QueryInIdeal.nD Cert.QueryInIdeal.τ).loc Cert.QueryInIdeal.main_arg2))
      ∧ r.2.sem = fun _ => 0)

def quiescent_QueryInRefIdeal [hQueryInRefIdeal : Cert.QueryInRefIdeal.Facts] : Prop :=
  ∀ (m : (ℓ : Loc Cert.QueryInRefIdeal.nD Cert.QueryInRefIdeal.τ Cert.QueryInRefIdeal.sig) → Buf (Elt Ideal) ℓ) (g : Dev Cert.QueryInRefIdeal.nD → PrngReg), Pre_QueryInRefIdeal m →
    θ_run (Cert.QueryInRefIdeal.defs (F := Ideal)) (onTc (τ := Cert.QueryInRefIdeal.τ) (Cert.QueryInRefIdeal.main (F := Ideal))) ⟨m, fun _ => 0, g⟩ (fun r => (∀ c : Dev Cert.QueryInRefIdeal.nD,
      r.2.mem ((c.tc : Thread Cert.QueryInRefIdeal.nD Cert.QueryInRefIdeal.τ).loc Cert.QueryInRefIdeal.main_arg0) = m ((c.tc : Thread Cert.QueryInRefIdeal.nD Cert.QueryInRefIdeal.τ).loc Cert.QueryInRefIdeal.main_arg0)
      ∧ r.2.mem ((c.tc : Thread Cert.QueryInRefIdeal.nD Cert.QueryInRefIdeal.τ).loc Cert.QueryInRefIdeal.main_arg1) = m ((c.tc : Thread Cert.QueryInRefIdeal.nD Cert.QueryInRefIdeal.τ).loc Cert.QueryInRefIdeal.main_arg1)
      ∧ r.2.mem ((c.tc : Thread Cert.QueryInRefIdeal.nD Cert.QueryInRefIdeal.τ).loc Cert.QueryInRefIdeal.main_arg2) = m ((c.tc : Thread Cert.QueryInRefIdeal.nD Cert.QueryInRefIdeal.τ).loc Cert.QueryInRefIdeal.main_arg2))
      ∧ r.2.sem = fun _ => 0)

def quiescent_MemoryIn [hMemoryIn : Cert.MemoryIn.Facts] : Prop :=
  ∀ (m : (ℓ : Loc Cert.MemoryIn.nD Cert.MemoryIn.τ Cert.MemoryIn.sig) → Buf (Elt Bits) ℓ) (g : Dev Cert.MemoryIn.nD → PrngReg), Pre_MemoryIn m →
    θ_run (Cert.MemoryIn.defs (F := Bits)) (onTc (τ := Cert.MemoryIn.τ) (Cert.MemoryIn.main (F := Bits))) ⟨m, fun _ => 0, g⟩ (fun r => (∀ c : Dev Cert.MemoryIn.nD,
      r.2.mem ((c.tc : Thread Cert.MemoryIn.nD Cert.MemoryIn.τ).loc Cert.MemoryIn.main_arg0) = m ((c.tc : Thread Cert.MemoryIn.nD Cert.MemoryIn.τ).loc Cert.MemoryIn.main_arg0)
      ∧ r.2.mem ((c.tc : Thread Cert.MemoryIn.nD Cert.MemoryIn.τ).loc Cert.MemoryIn.main_arg1) = m ((c.tc : Thread Cert.MemoryIn.nD Cert.MemoryIn.τ).loc Cert.MemoryIn.main_arg1)
      ∧ r.2.mem ((c.tc : Thread Cert.MemoryIn.nD Cert.MemoryIn.τ).loc Cert.MemoryIn.main_arg2) = m ((c.tc : Thread Cert.MemoryIn.nD Cert.MemoryIn.τ).loc Cert.MemoryIn.main_arg2))
      ∧ r.2.sem = fun _ => 0)

def quiescent_MemoryInIdeal [hMemoryInIdeal : Cert.MemoryInIdeal.Facts] : Prop :=
  ∀ (m : (ℓ : Loc Cert.MemoryInIdeal.nD Cert.MemoryInIdeal.τ Cert.MemoryInIdeal.sig) → Buf (Elt Ideal) ℓ) (g : Dev Cert.MemoryInIdeal.nD → PrngReg), Pre_MemoryInIdeal m →
    θ_run (Cert.MemoryInIdeal.defs (F := Ideal)) (onTc (τ := Cert.MemoryInIdeal.τ) (Cert.MemoryInIdeal.main (F := Ideal))) ⟨m, fun _ => 0, g⟩ (fun r => (∀ c : Dev Cert.MemoryInIdeal.nD,
      r.2.mem ((c.tc : Thread Cert.MemoryInIdeal.nD Cert.MemoryInIdeal.τ).loc Cert.MemoryInIdeal.main_arg0) = m ((c.tc : Thread Cert.MemoryInIdeal.nD Cert.MemoryInIdeal.τ).loc Cert.MemoryInIdeal.main_arg0)
      ∧ r.2.mem ((c.tc : Thread Cert.MemoryInIdeal.nD Cert.MemoryInIdeal.τ).loc Cert.MemoryInIdeal.main_arg1) = m ((c.tc : Thread Cert.MemoryInIdeal.nD Cert.MemoryInIdeal.τ).loc Cert.MemoryInIdeal.main_arg1)
      ∧ r.2.mem ((c.tc : Thread Cert.MemoryInIdeal.nD Cert.MemoryInIdeal.τ).loc Cert.MemoryInIdeal.main_arg2) = m ((c.tc : Thread Cert.MemoryInIdeal.nD Cert.MemoryInIdeal.τ).loc Cert.MemoryInIdeal.main_arg2))
      ∧ r.2.sem = fun _ => 0)

def quiescent_MemoryInRefIdeal [hMemoryInRefIdeal : Cert.MemoryInRefIdeal.Facts] : Prop :=
  ∀ (m : (ℓ : Loc Cert.MemoryInRefIdeal.nD Cert.MemoryInRefIdeal.τ Cert.MemoryInRefIdeal.sig) → Buf (Elt Ideal) ℓ) (g : Dev Cert.MemoryInRefIdeal.nD → PrngReg), Pre_MemoryInRefIdeal m →
    θ_run (Cert.MemoryInRefIdeal.defs (F := Ideal)) (onTc (τ := Cert.MemoryInRefIdeal.τ) (Cert.MemoryInRefIdeal.main (F := Ideal))) ⟨m, fun _ => 0, g⟩ (fun r => (∀ c : Dev Cert.MemoryInRefIdeal.nD,
      r.2.mem ((c.tc : Thread Cert.MemoryInRefIdeal.nD Cert.MemoryInRefIdeal.τ).loc Cert.MemoryInRefIdeal.main_arg0) = m ((c.tc : Thread Cert.MemoryInRefIdeal.nD Cert.MemoryInRefIdeal.τ).loc Cert.MemoryInRefIdeal.main_arg0)
      ∧ r.2.mem ((c.tc : Thread Cert.MemoryInRefIdeal.nD Cert.MemoryInRefIdeal.τ).loc Cert.MemoryInRefIdeal.main_arg1) = m ((c.tc : Thread Cert.MemoryInRefIdeal.nD Cert.MemoryInRefIdeal.τ).loc Cert.MemoryInRefIdeal.main_arg1)
      ∧ r.2.mem ((c.tc : Thread Cert.MemoryInRefIdeal.nD Cert.MemoryInRefIdeal.τ).loc Cert.MemoryInRefIdeal.main_arg2) = m ((c.tc : Thread Cert.MemoryInRefIdeal.nD Cert.MemoryInRefIdeal.τ).loc Cert.MemoryInRefIdeal.main_arg2))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2))
      ∧ r.2.sem = fun _ => 0)

def quiescent_Gating [hGating : Cert.Gating.Facts] : Prop :=
  ∀ (m : (ℓ : Loc Cert.Gating.nD Cert.Gating.τ Cert.Gating.sig) → Buf (Elt Bits) ℓ) (g : Dev Cert.Gating.nD → PrngReg), Pre_Gating m →
    θ_run (Cert.Gating.defs (F := Bits)) (onTc (τ := Cert.Gating.τ) (Cert.Gating.main (F := Bits))) ⟨m, fun _ => 0, g⟩ (fun r => (∀ c : Dev Cert.Gating.nD,
      r.2.mem ((c.tc : Thread Cert.Gating.nD Cert.Gating.τ).loc Cert.Gating.main_arg0) = m ((c.tc : Thread Cert.Gating.nD Cert.Gating.τ).loc Cert.Gating.main_arg0)
      ∧ r.2.mem ((c.tc : Thread Cert.Gating.nD Cert.Gating.τ).loc Cert.Gating.main_arg1) = m ((c.tc : Thread Cert.Gating.nD Cert.Gating.τ).loc Cert.Gating.main_arg1)
      ∧ r.2.mem ((c.tc : Thread Cert.Gating.nD Cert.Gating.τ).loc Cert.Gating.main_arg2) = m ((c.tc : Thread Cert.Gating.nD Cert.Gating.τ).loc Cert.Gating.main_arg2)
      ∧ r.2.mem ((c.tc : Thread Cert.Gating.nD Cert.Gating.τ).loc Cert.Gating.main_arg3) = m ((c.tc : Thread Cert.Gating.nD Cert.Gating.τ).loc Cert.Gating.main_arg3)
      ∧ r.2.mem ((c.tc : Thread Cert.Gating.nD Cert.Gating.τ).loc Cert.Gating.main_arg4) = m ((c.tc : Thread Cert.Gating.nD Cert.Gating.τ).loc Cert.Gating.main_arg4))
      ∧ r.2.sem = fun _ => 0)

def quiescent_GatingIdeal [hGatingIdeal : Cert.GatingIdeal.Facts] : Prop :=
  ∀ (m : (ℓ : Loc Cert.GatingIdeal.nD Cert.GatingIdeal.τ Cert.GatingIdeal.sig) → Buf (Elt Ideal) ℓ) (g : Dev Cert.GatingIdeal.nD → PrngReg), Pre_GatingIdeal m →
    θ_run (Cert.GatingIdeal.defs (F := Ideal)) (onTc (τ := Cert.GatingIdeal.τ) (Cert.GatingIdeal.main (F := Ideal))) ⟨m, fun _ => 0, g⟩ (fun r => (∀ c : Dev Cert.GatingIdeal.nD,
      r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
      ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
      ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
      ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
      ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4))
      ∧ r.2.sem = fun _ => 0)

def quiescent_GatingIdeal_pre_gating_finite [hGatingIdeal : Cert.GatingIdeal.Facts] [hPre_gating_finite : Cert.Pre_gating_finite.Facts] : Prop :=
  ∀ (m : (ℓ : Loc Cert.GatingIdeal.nD Cert.GatingIdeal.τ Cert.GatingIdeal.sig) → Buf (Elt Ideal) ℓ) (g : Dev Cert.GatingIdeal.nD → PrngReg), Pre_GatingIdeal_gating_finite m →
    θ_run (Cert.GatingIdeal.defs (F := Ideal)) (onTc (τ := Cert.GatingIdeal.τ) (Cert.GatingIdeal.main (F := Ideal))) ⟨m, fun _ => 0, g⟩ (fun r => (∀ c : Dev Cert.GatingIdeal.nD,
      r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
      ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
      ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
      ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
      ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4))
      ∧ r.2.sem = fun _ => 0)

def quiescent_GatingRefIdeal [hGatingRefIdeal : Cert.GatingRefIdeal.Facts] : Prop :=
  ∀ (m : (ℓ : Loc Cert.GatingRefIdeal.nD Cert.GatingRefIdeal.τ Cert.GatingRefIdeal.sig) → Buf (Elt Ideal) ℓ) (g : Dev Cert.GatingRefIdeal.nD → PrngReg), Pre_GatingRefIdeal m →
    θ_run (Cert.GatingRefIdeal.defs (F := Ideal)) (onTc (τ := Cert.GatingRefIdeal.τ) (Cert.GatingRefIdeal.main (F := Ideal))) ⟨m, fun _ => 0, g⟩ (fun r => (∀ c : Dev Cert.GatingRefIdeal.nD,
      r.2.mem ((c.tc : Thread Cert.GatingRefIdeal.nD Cert.GatingRefIdeal.τ).loc Cert.GatingRefIdeal.main_arg0) = m ((c.tc : Thread Cert.GatingRefIdeal.nD Cert.GatingRefIdeal.τ).loc Cert.GatingRefIdeal.main_arg0)
      ∧ r.2.mem ((c.tc : Thread Cert.GatingRefIdeal.nD Cert.GatingRefIdeal.τ).loc Cert.GatingRefIdeal.main_arg1) = m ((c.tc : Thread Cert.GatingRefIdeal.nD Cert.GatingRefIdeal.τ).loc Cert.GatingRefIdeal.main_arg1)
      ∧ r.2.mem ((c.tc : Thread Cert.GatingRefIdeal.nD Cert.GatingRefIdeal.τ).loc Cert.GatingRefIdeal.main_arg2) = m ((c.tc : Thread Cert.GatingRefIdeal.nD Cert.GatingRefIdeal.τ).loc Cert.GatingRefIdeal.main_arg2)
      ∧ r.2.mem ((c.tc : Thread Cert.GatingRefIdeal.nD Cert.GatingRefIdeal.τ).loc Cert.GatingRefIdeal.main_arg3) = m ((c.tc : Thread Cert.GatingRefIdeal.nD Cert.GatingRefIdeal.τ).loc Cert.GatingRefIdeal.main_arg3)
      ∧ r.2.mem ((c.tc : Thread Cert.GatingRefIdeal.nD Cert.GatingRefIdeal.τ).loc Cert.GatingRefIdeal.main_arg4) = m ((c.tc : Thread Cert.GatingRefIdeal.nD Cert.GatingRefIdeal.τ).loc Cert.GatingRefIdeal.main_arg4))
      ∧ r.2.sem = fun _ => 0)

def quiescent_GatingRefIdeal_pre_gating_finite [hGatingRefIdeal : Cert.GatingRefIdeal.Facts] [hPre_gating_finite : Cert.Pre_gating_finite.Facts] : Prop :=
  ∀ (m : (ℓ : Loc Cert.GatingRefIdeal.nD Cert.GatingRefIdeal.τ Cert.GatingRefIdeal.sig) → Buf (Elt Ideal) ℓ) (g : Dev Cert.GatingRefIdeal.nD → PrngReg), Pre_GatingRefIdeal_gating_finite m →
    θ_run (Cert.GatingRefIdeal.defs (F := Ideal)) (onTc (τ := Cert.GatingRefIdeal.τ) (Cert.GatingRefIdeal.main (F := Ideal))) ⟨m, fun _ => 0, g⟩ (fun r => (∀ c : Dev Cert.GatingRefIdeal.nD,
      r.2.mem ((c.tc : Thread Cert.GatingRefIdeal.nD Cert.GatingRefIdeal.τ).loc Cert.GatingRefIdeal.main_arg0) = m ((c.tc : Thread Cert.GatingRefIdeal.nD Cert.GatingRefIdeal.τ).loc Cert.GatingRefIdeal.main_arg0)
      ∧ r.2.mem ((c.tc : Thread Cert.GatingRefIdeal.nD Cert.GatingRefIdeal.τ).loc Cert.GatingRefIdeal.main_arg1) = m ((c.tc : Thread Cert.GatingRefIdeal.nD Cert.GatingRefIdeal.τ).loc Cert.GatingRefIdeal.main_arg1)
      ∧ r.2.mem ((c.tc : Thread Cert.GatingRefIdeal.nD Cert.GatingRefIdeal.τ).loc Cert.GatingRefIdeal.main_arg2) = m ((c.tc : Thread Cert.GatingRefIdeal.nD Cert.GatingRefIdeal.τ).loc Cert.GatingRefIdeal.main_arg2)
      ∧ r.2.mem ((c.tc : Thread Cert.GatingRefIdeal.nD Cert.GatingRefIdeal.τ).loc Cert.GatingRefIdeal.main_arg3) = m ((c.tc : Thread Cert.GatingRefIdeal.nD Cert.GatingRefIdeal.τ).loc Cert.GatingRefIdeal.main_arg3)
      ∧ r.2.mem ((c.tc : Thread Cert.GatingRefIdeal.nD Cert.GatingRefIdeal.τ).loc Cert.GatingRefIdeal.main_arg4) = m ((c.tc : Thread Cert.GatingRefIdeal.nD Cert.GatingRefIdeal.τ).loc Cert.GatingRefIdeal.main_arg4))
      ∧ r.2.sem = fun _ => 0)

def quiescent_FfnWeight [hFfnWeight : Cert.FfnWeight.Facts] : Prop :=
  ∀ (m : (ℓ : Loc Cert.FfnWeight.nD Cert.FfnWeight.τ Cert.FfnWeight.sig) → Buf (Elt Bits) ℓ) (g : Dev Cert.FfnWeight.nD → PrngReg), Pre_FfnWeight m →
    θ_run (Cert.FfnWeight.defs (F := Bits)) (onTc (τ := Cert.FfnWeight.τ) (Cert.FfnWeight.main (F := Bits))) ⟨m, fun _ => 0, g⟩ (fun r => (∀ c : Dev Cert.FfnWeight.nD,
      r.2.mem ((c.tc : Thread Cert.FfnWeight.nD Cert.FfnWeight.τ).loc Cert.FfnWeight.main_arg0) = m ((c.tc : Thread Cert.FfnWeight.nD Cert.FfnWeight.τ).loc Cert.FfnWeight.main_arg0)
      ∧ r.2.mem ((c.tc : Thread Cert.FfnWeight.nD Cert.FfnWeight.τ).loc Cert.FfnWeight.main_arg1) = m ((c.tc : Thread Cert.FfnWeight.nD Cert.FfnWeight.τ).loc Cert.FfnWeight.main_arg1))
      ∧ r.2.sem = fun _ => 0)

def quiescent_FfnWeightIdeal [hFfnWeightIdeal : Cert.FfnWeightIdeal.Facts] : Prop :=
  ∀ (m : (ℓ : Loc Cert.FfnWeightIdeal.nD Cert.FfnWeightIdeal.τ Cert.FfnWeightIdeal.sig) → Buf (Elt Ideal) ℓ) (g : Dev Cert.FfnWeightIdeal.nD → PrngReg), Pre_FfnWeightIdeal m →
    θ_run (Cert.FfnWeightIdeal.defs (F := Ideal)) (onTc (τ := Cert.FfnWeightIdeal.τ) (Cert.FfnWeightIdeal.main (F := Ideal))) ⟨m, fun _ => 0, g⟩ (fun r => (∀ c : Dev Cert.FfnWeightIdeal.nD,
      r.2.mem ((c.tc : Thread Cert.FfnWeightIdeal.nD Cert.FfnWeightIdeal.τ).loc Cert.FfnWeightIdeal.main_arg0) = m ((c.tc : Thread Cert.FfnWeightIdeal.nD Cert.FfnWeightIdeal.τ).loc Cert.FfnWeightIdeal.main_arg0)
      ∧ r.2.mem ((c.tc : Thread Cert.FfnWeightIdeal.nD Cert.FfnWeightIdeal.τ).loc Cert.FfnWeightIdeal.main_arg1) = m ((c.tc : Thread Cert.FfnWeightIdeal.nD Cert.FfnWeightIdeal.τ).loc Cert.FfnWeightIdeal.main_arg1))
      ∧ r.2.sem = fun _ => 0)

def quiescent_FfnWeightRefIdeal [hFfnWeightRefIdeal : Cert.FfnWeightRefIdeal.Facts] : Prop :=
  ∀ (m : (ℓ : Loc Cert.FfnWeightRefIdeal.nD Cert.FfnWeightRefIdeal.τ Cert.FfnWeightRefIdeal.sig) → Buf (Elt Ideal) ℓ) (g : Dev Cert.FfnWeightRefIdeal.nD → PrngReg), Pre_FfnWeightRefIdeal m →
    θ_run (Cert.FfnWeightRefIdeal.defs (F := Ideal)) (onTc (τ := Cert.FfnWeightRefIdeal.τ) (Cert.FfnWeightRefIdeal.main (F := Ideal))) ⟨m, fun _ => 0, g⟩ (fun r => (∀ c : Dev Cert.FfnWeightRefIdeal.nD,
      r.2.mem ((c.tc : Thread Cert.FfnWeightRefIdeal.nD Cert.FfnWeightRefIdeal.τ).loc Cert.FfnWeightRefIdeal.main_arg0) = m ((c.tc : Thread Cert.FfnWeightRefIdeal.nD Cert.FfnWeightRefIdeal.τ).loc Cert.FfnWeightRefIdeal.main_arg0)
      ∧ r.2.mem ((c.tc : Thread Cert.FfnWeightRefIdeal.nD Cert.FfnWeightRefIdeal.τ).loc Cert.FfnWeightRefIdeal.main_arg1) = m ((c.tc : Thread Cert.FfnWeightRefIdeal.nD Cert.FfnWeightRefIdeal.τ).loc Cert.FfnWeightRefIdeal.main_arg1))
      ∧ r.2.sem = fun _ => 0)

def quiescent_MixWeight [hMixWeight : Cert.MixWeight.Facts] : Prop :=
  ∀ (m : (ℓ : Loc Cert.MixWeight.nD Cert.MixWeight.τ Cert.MixWeight.sig) → Buf (Elt Bits) ℓ) (g : Dev Cert.MixWeight.nD → PrngReg), Pre_MixWeight m →
    θ_run (Cert.MixWeight.defs (F := Bits)) (onTc (τ := Cert.MixWeight.τ) (Cert.MixWeight.main (F := Bits))) ⟨m, fun _ => 0, g⟩ (fun r => (∀ c : Dev Cert.MixWeight.nD,
      r.2.mem ((c.tc : Thread Cert.MixWeight.nD Cert.MixWeight.τ).loc Cert.MixWeight.main_arg0) = m ((c.tc : Thread Cert.MixWeight.nD Cert.MixWeight.τ).loc Cert.MixWeight.main_arg0)
      ∧ r.2.mem ((c.tc : Thread Cert.MixWeight.nD Cert.MixWeight.τ).loc Cert.MixWeight.main_arg1) = m ((c.tc : Thread Cert.MixWeight.nD Cert.MixWeight.τ).loc Cert.MixWeight.main_arg1)
      ∧ r.2.mem ((c.tc : Thread Cert.MixWeight.nD Cert.MixWeight.τ).loc Cert.MixWeight.main_arg2) = m ((c.tc : Thread Cert.MixWeight.nD Cert.MixWeight.τ).loc Cert.MixWeight.main_arg2)
      ∧ r.2.mem ((c.tc : Thread Cert.MixWeight.nD Cert.MixWeight.τ).loc Cert.MixWeight.main_arg3) = m ((c.tc : Thread Cert.MixWeight.nD Cert.MixWeight.τ).loc Cert.MixWeight.main_arg3))
      ∧ r.2.sem = fun _ => 0)

def quiescent_MixWeightIdeal [hMixWeightIdeal : Cert.MixWeightIdeal.Facts] : Prop :=
  ∀ (m : (ℓ : Loc Cert.MixWeightIdeal.nD Cert.MixWeightIdeal.τ Cert.MixWeightIdeal.sig) → Buf (Elt Ideal) ℓ) (g : Dev Cert.MixWeightIdeal.nD → PrngReg), Pre_MixWeightIdeal m →
    θ_run (Cert.MixWeightIdeal.defs (F := Ideal)) (onTc (τ := Cert.MixWeightIdeal.τ) (Cert.MixWeightIdeal.main (F := Ideal))) ⟨m, fun _ => 0, g⟩ (fun r => (∀ c : Dev Cert.MixWeightIdeal.nD,
      r.2.mem ((c.tc : Thread Cert.MixWeightIdeal.nD Cert.MixWeightIdeal.τ).loc Cert.MixWeightIdeal.main_arg0) = m ((c.tc : Thread Cert.MixWeightIdeal.nD Cert.MixWeightIdeal.τ).loc Cert.MixWeightIdeal.main_arg0)
      ∧ r.2.mem ((c.tc : Thread Cert.MixWeightIdeal.nD Cert.MixWeightIdeal.τ).loc Cert.MixWeightIdeal.main_arg1) = m ((c.tc : Thread Cert.MixWeightIdeal.nD Cert.MixWeightIdeal.τ).loc Cert.MixWeightIdeal.main_arg1)
      ∧ r.2.mem ((c.tc : Thread Cert.MixWeightIdeal.nD Cert.MixWeightIdeal.τ).loc Cert.MixWeightIdeal.main_arg2) = m ((c.tc : Thread Cert.MixWeightIdeal.nD Cert.MixWeightIdeal.τ).loc Cert.MixWeightIdeal.main_arg2)
      ∧ r.2.mem ((c.tc : Thread Cert.MixWeightIdeal.nD Cert.MixWeightIdeal.τ).loc Cert.MixWeightIdeal.main_arg3) = m ((c.tc : Thread Cert.MixWeightIdeal.nD Cert.MixWeightIdeal.τ).loc Cert.MixWeightIdeal.main_arg3))
      ∧ r.2.sem = fun _ => 0)

def quiescent_MixWeightRefIdeal [hMixWeightRefIdeal : Cert.MixWeightRefIdeal.Facts] : Prop :=
  ∀ (m : (ℓ : Loc Cert.MixWeightRefIdeal.nD Cert.MixWeightRefIdeal.τ Cert.MixWeightRefIdeal.sig) → Buf (Elt Ideal) ℓ) (g : Dev Cert.MixWeightRefIdeal.nD → PrngReg), Pre_MixWeightRefIdeal m →
    θ_run (Cert.MixWeightRefIdeal.defs (F := Ideal)) (onTc (τ := Cert.MixWeightRefIdeal.τ) (Cert.MixWeightRefIdeal.main (F := Ideal))) ⟨m, fun _ => 0, g⟩ (fun r => (∀ c : Dev Cert.MixWeightRefIdeal.nD,
      r.2.mem ((c.tc : Thread Cert.MixWeightRefIdeal.nD Cert.MixWeightRefIdeal.τ).loc Cert.MixWeightRefIdeal.main_arg0) = m ((c.tc : Thread Cert.MixWeightRefIdeal.nD Cert.MixWeightRefIdeal.τ).loc Cert.MixWeightRefIdeal.main_arg0)
      ∧ r.2.mem ((c.tc : Thread Cert.MixWeightRefIdeal.nD Cert.MixWeightRefIdeal.τ).loc Cert.MixWeightRefIdeal.main_arg1) = m ((c.tc : Thread Cert.MixWeightRefIdeal.nD Cert.MixWeightRefIdeal.τ).loc Cert.MixWeightRefIdeal.main_arg1)
      ∧ r.2.mem ((c.tc : Thread Cert.MixWeightRefIdeal.nD Cert.MixWeightRefIdeal.τ).loc Cert.MixWeightRefIdeal.main_arg2) = m ((c.tc : Thread Cert.MixWeightRefIdeal.nD Cert.MixWeightRefIdeal.τ).loc Cert.MixWeightRefIdeal.main_arg2)
      ∧ r.2.mem ((c.tc : Thread Cert.MixWeightRefIdeal.nD Cert.MixWeightRefIdeal.τ).loc Cert.MixWeightRefIdeal.main_arg3) = m ((c.tc : Thread Cert.MixWeightRefIdeal.nD Cert.MixWeightRefIdeal.τ).loc Cert.MixWeightRefIdeal.main_arg3))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_BlockSum [hBlockSum : Cert.BlockSum.Facts] : Prop :=
  ∀ (m : (ℓ : Loc Cert.BlockSum.nD Cert.BlockSum.τ Cert.BlockSum.sig) → Buf (Elt Bits) ℓ) (g : Dev Cert.BlockSum.nD → PrngReg), Pre_BlockSum m →
    θ_run (Cert.BlockSum.defs (F := Bits)) (onTc (τ := Cert.BlockSum.τ) (Cert.BlockSum.main (F := Bits))) ⟨m, fun _ => 0, g⟩ (fun r => (∀ c : Dev Cert.BlockSum.nD,
      r.2.mem ((c.tc : Thread Cert.BlockSum.nD Cert.BlockSum.τ).loc Cert.BlockSum.main_arg0) = m ((c.tc : Thread Cert.BlockSum.nD Cert.BlockSum.τ).loc Cert.BlockSum.main_arg0))
      ∧ r.2.sem = fun _ => 0)

def quiescent_BlockSumIdeal [hBlockSumIdeal : Cert.BlockSumIdeal.Facts] : Prop :=
  ∀ (m : (ℓ : Loc Cert.BlockSumIdeal.nD Cert.BlockSumIdeal.τ Cert.BlockSumIdeal.sig) → Buf (Elt Ideal) ℓ) (g : Dev Cert.BlockSumIdeal.nD → PrngReg), Pre_BlockSumIdeal m →
    θ_run (Cert.BlockSumIdeal.defs (F := Ideal)) (onTc (τ := Cert.BlockSumIdeal.τ) (Cert.BlockSumIdeal.main (F := Ideal))) ⟨m, fun _ => 0, g⟩ (fun r => (∀ c : Dev Cert.BlockSumIdeal.nD,
      r.2.mem ((c.tc : Thread Cert.BlockSumIdeal.nD Cert.BlockSumIdeal.τ).loc Cert.BlockSumIdeal.main_arg0) = m ((c.tc : Thread Cert.BlockSumIdeal.nD Cert.BlockSumIdeal.τ).loc Cert.BlockSumIdeal.main_arg0))
      ∧ r.2.sem = fun _ => 0)

def quiescent_BlockSumRefIdeal [hBlockSumRefIdeal : Cert.BlockSumRefIdeal.Facts] : Prop :=
  ∀ (m : (ℓ : Loc Cert.BlockSumRefIdeal.nD Cert.BlockSumRefIdeal.τ Cert.BlockSumRefIdeal.sig) → Buf (Elt Ideal) ℓ) (g : Dev Cert.BlockSumRefIdeal.nD → PrngReg), Pre_BlockSumRefIdeal m →
    θ_run (Cert.BlockSumRefIdeal.defs (F := Ideal)) (onTc (τ := Cert.BlockSumRefIdeal.τ) (Cert.BlockSumRefIdeal.main (F := Ideal))) ⟨m, fun _ => 0, g⟩ (fun r => (∀ c : Dev Cert.BlockSumRefIdeal.nD,
      r.2.mem ((c.tc : Thread Cert.BlockSumRefIdeal.nD Cert.BlockSumRefIdeal.τ).loc Cert.BlockSumRefIdeal.main_arg0) = m ((c.tc : Thread Cert.BlockSumRefIdeal.nD Cert.BlockSumRefIdeal.τ).loc Cert.BlockSumRefIdeal.main_arg0))
      ∧ r.2.sem = fun _ => 0)

def preserves_Act_ActIdeal : Prop :=
  True

def algebraic_ActIdeal_ActRefIdeal_pre_act_finite [hActIdeal : Cert.ActIdeal.Facts] [hActRefIdeal : Cert.ActRefIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_act_finite m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)) →
    ∃ (v0 : (c : Dev Cert.ActIdeal.nD) → Buf (Elt Ideal) ((c.tc : Thread Cert.ActIdeal.nD Cert.ActIdeal.τ).loc Cert.ActIdeal.main_v1)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v1) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v11) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2))

def preserves_Merge_MergeIdeal : Prop :=
  True

def algebraic_MergeIdeal_MergeRefIdeal_pre_merge_finite [hMergeIdeal : Cert.MergeIdeal.Facts] [hMergeRefIdeal : Cert.MergeRefIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_merge_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v7_2)) (v1 : (c : Dev Cert.MergeIdeal.nD) → Buf (Elt Ideal) ((c.tc : Thread Cert.MergeIdeal.nD Cert.MergeIdeal.τ).loc Cert.MergeIdeal.main_v7_3)) (v2 : (c : Dev Cert.MergeIdeal.nD) → Buf (Elt Ideal) ((c.tc : Thread Cert.MergeIdeal.nD Cert.MergeIdeal.τ).loc Cert.MergeIdeal.main_v8_0)) (v3 : (c : Dev Cert.MergeIdeal.nD) → Buf (Elt Ideal) ((c.tc : Thread Cert.MergeIdeal.nD Cert.MergeIdeal.τ).loc Cert.MergeIdeal.main_v8_1)) (v4 : (c : Dev Cert.MergeIdeal.nD) → Buf (Elt Ideal) ((c.tc : Thread Cert.MergeIdeal.nD Cert.MergeIdeal.τ).loc Cert.MergeIdeal.main_v8_2)) (v5 : (c : Dev Cert.MergeIdeal.nD) → Buf (Elt Ideal) ((c.tc : Thread Cert.MergeIdeal.nD Cert.MergeIdeal.τ).loc Cert.MergeIdeal.main_v8_3)) (v6 : (c : Dev Cert.MergeIdeal.nD) → Buf (Elt Ideal) ((c.tc : Thread Cert.MergeIdeal.nD Cert.MergeIdeal.τ).loc Cert.MergeIdeal.main_v8_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7_2) = v0 c
          ∧ r.2.mem ((c.tc : Thread Cert.MergeIdeal.nD Cert.MergeIdeal.τ).loc Cert.MergeIdeal.main_v7_3) = v1 c
          ∧ r.2.mem ((c.tc : Thread Cert.MergeIdeal.nD Cert.MergeIdeal.τ).loc Cert.MergeIdeal.main_v8_0) = v2 c
          ∧ r.2.mem ((c.tc : Thread Cert.MergeIdeal.nD Cert.MergeIdeal.τ).loc Cert.MergeIdeal.main_v8_1) = v3 c
          ∧ r.2.mem ((c.tc : Thread Cert.MergeIdeal.nD Cert.MergeIdeal.τ).loc Cert.MergeIdeal.main_v8_2) = v4 c
          ∧ r.2.mem ((c.tc : Thread Cert.MergeIdeal.nD Cert.MergeIdeal.τ).loc Cert.MergeIdeal.main_v8_3) = v5 c
          ∧ r.2.mem ((c.tc : Thread Cert.MergeIdeal.nD Cert.MergeIdeal.τ).loc Cert.MergeIdeal.main_v8_4) = v6 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v39) = v0 c
          ∧ r.2.mem ((c.tc : Thread Cert.MergeRefIdeal.nD Cert.MergeRefIdeal.τ).loc Cert.MergeRefIdeal.main_v30) = v1 c
          ∧ r.2.mem ((c.tc : Thread Cert.MergeRefIdeal.nD Cert.MergeRefIdeal.τ).loc Cert.MergeRefIdeal.main_v40) = v2 c
          ∧ r.2.mem ((c.tc : Thread Cert.MergeRefIdeal.nD Cert.MergeRefIdeal.τ).loc Cert.MergeRefIdeal.main_v41) = v3 c
          ∧ r.2.mem ((c.tc : Thread Cert.MergeRefIdeal.nD Cert.MergeRefIdeal.τ).loc Cert.MergeRefIdeal.main_v42) = v4 c
          ∧ r.2.mem ((c.tc : Thread Cert.MergeRefIdeal.nD Cert.MergeRefIdeal.τ).loc Cert.MergeRefIdeal.main_v44) = v5 c
          ∧ r.2.mem ((c.tc : Thread Cert.MergeRefIdeal.nD Cert.MergeRefIdeal.τ).loc Cert.MergeRefIdeal.main_v46) = v6 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Xattn_XattnIdeal : Prop :=
  True

def algebraic_XattnIdeal_XattnRefIdeal_pre_xattn_finite [hXattnIdeal : Cert.XattnIdeal.Facts] [hXattnRefIdeal : Cert.XattnRefIdeal.Facts] [hPre_xattn_finite : Cert.Pre_xattn_finite.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal_xattn_finite m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)) →
    ∃ (v0 : (c : Dev Cert.XattnIdeal.nD) → Buf (Elt Ideal) ((c.tc : Thread Cert.XattnIdeal.nD Cert.XattnIdeal.τ).loc Cert.XattnIdeal.main_v1_0)) (v1 : (c : Dev Cert.XattnIdeal.nD) → Buf (Elt Ideal) ((c.tc : Thread Cert.XattnIdeal.nD Cert.XattnIdeal.τ).loc Cert.XattnIdeal.main_v1_2)) (v2 : (c : Dev Cert.XattnIdeal.nD) → Buf (Elt Ideal) ((c.tc : Thread Cert.XattnIdeal.nD Cert.XattnIdeal.τ).loc Cert.XattnIdeal.main_v2_0)) (v3 : (c : Dev Cert.XattnIdeal.nD) → Buf (Elt Ideal) ((c.tc : Thread Cert.XattnIdeal.nD Cert.XattnIdeal.τ).loc Cert.XattnIdeal.main_v2_1)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v1_0) = v0 c
          ∧ r.2.mem ((c.tc : Thread Cert.XattnIdeal.nD Cert.XattnIdeal.τ).loc Cert.XattnIdeal.main_v1_2) = v1 c
          ∧ r.2.mem ((c.tc : Thread Cert.XattnIdeal.nD Cert.XattnIdeal.τ).loc Cert.XattnIdeal.main_v2_0) = v2 c
          ∧ r.2.mem ((c.tc : Thread Cert.XattnIdeal.nD Cert.XattnIdeal.τ).loc Cert.XattnIdeal.main_v2_1) = v3 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v67) = v0 c
          ∧ r.2.mem ((c.tc : Thread Cert.XattnRefIdeal.nD Cert.XattnRefIdeal.τ).loc Cert.XattnRefIdeal.main_v40) = v1 c
          ∧ r.2.mem ((c.tc : Thread Cert.XattnRefIdeal.nD Cert.XattnRefIdeal.τ).loc Cert.XattnRefIdeal.main_v70) = v2 c
          ∧ r.2.mem ((c.tc : Thread Cert.XattnRefIdeal.nD Cert.XattnRefIdeal.τ).loc Cert.XattnRefIdeal.main_v66) = v3 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)) (v2 : (c : Dev Cert.LossIdeal.nD) → Buf (Elt Ideal) ((c.tc : Thread Cert.LossIdeal.nD Cert.LossIdeal.τ).loc Cert.LossIdeal.main_v2_2)) (v3 : (c : Dev Cert.LossIdeal.nD) → Buf (Elt Ideal) ((c.tc : Thread Cert.LossIdeal.nD Cert.LossIdeal.τ).loc Cert.LossIdeal.main_v2_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_v2_2) = v2 c
          ∧ r.2.mem ((c.tc : Thread Cert.LossIdeal.nD Cert.LossIdeal.τ).loc Cert.LossIdeal.main_v2_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v58) = v0 c
          ∧ r.2.mem ((c.tc : Thread Cert.LossRefIdeal.nD Cert.LossRefIdeal.τ).loc Cert.LossRefIdeal.main_v59) = v1 c
          ∧ r.2.mem ((c.tc : Thread Cert.LossRefIdeal.nD Cert.LossRefIdeal.τ).loc Cert.LossRefIdeal.main_v57) = v2 c
          ∧ r.2.mem ((c.tc : Thread Cert.LossRefIdeal.nD Cert.LossRefIdeal.τ).loc Cert.LossRefIdeal.main_v60) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_FfnNorm_FfnNormIdeal : Prop :=
  True

def algebraic_FfnNormIdeal_FfnNormRefIdeal_pre_ffn_norm_finite [hFfnNormIdeal : Cert.FfnNormIdeal.Facts] [hFfnNormRefIdeal : Cert.FfnNormRefIdeal.Facts] [hPre_ffn_norm_finite : Cert.Pre_ffn_norm_finite.Facts] : Prop :=
  ∀ (m : (ℓ : Loc Cert.FfnNormIdeal.nD Cert.FfnNormIdeal.τ Cert.FfnNormIdeal.sig) → Buf (Elt Ideal) ℓ) (g : Dev Cert.FfnNormIdeal.nD → PrngReg)
    (m' : (ℓ : Loc Cert.FfnNormRefIdeal.nD Cert.FfnNormRefIdeal.τ Cert.FfnNormRefIdeal.sig) → Buf (Elt Ideal) ℓ) (g' : Dev Cert.FfnNormRefIdeal.nD → PrngReg), Pre_FfnNormIdeal_ffn_norm_finite m →
    (∀ c : Dev Cert.FfnNormIdeal.nD,
      m' ((c.tc : Thread Cert.FfnNormRefIdeal.nD Cert.FfnNormRefIdeal.τ).loc Cert.FfnNormRefIdeal.main_arg0) = m ((c.tc : Thread Cert.FfnNormIdeal.nD Cert.FfnNormIdeal.τ).loc Cert.FfnNormIdeal.main_arg0)
      ∧ m' ((c.tc : Thread Cert.FfnNormRefIdeal.nD Cert.FfnNormRefIdeal.τ).loc Cert.FfnNormRefIdeal.main_arg1) = m ((c.tc : Thread Cert.FfnNormIdeal.nD Cert.FfnNormIdeal.τ).loc Cert.FfnNormIdeal.main_arg1)
      ∧ m' ((c.tc : Thread Cert.FfnNormRefIdeal.nD Cert.FfnNormRefIdeal.τ).loc Cert.FfnNormRefIdeal.main_arg2) = m ((c.tc : Thread Cert.FfnNormIdeal.nD Cert.FfnNormIdeal.τ).loc Cert.FfnNormIdeal.main_arg2)
      ∧ m' ((c.tc : Thread Cert.FfnNormRefIdeal.nD Cert.FfnNormRefIdeal.τ).loc Cert.FfnNormRefIdeal.main_arg3) = m ((c.tc : Thread Cert.FfnNormIdeal.nD Cert.FfnNormIdeal.τ).loc Cert.FfnNormIdeal.main_arg3)
      ∧ m' ((c.tc : Thread Cert.FfnNormRefIdeal.nD Cert.FfnNormRefIdeal.τ).loc Cert.FfnNormRefIdeal.main_arg4) = m ((c.tc : Thread Cert.FfnNormIdeal.nD Cert.FfnNormIdeal.τ).loc Cert.FfnNormIdeal.main_arg4)) →
    ∃ (v0 : (c : Dev Cert.FfnNormIdeal.nD) → Buf (Elt Ideal) ((c.tc : Thread Cert.FfnNormIdeal.nD Cert.FfnNormIdeal.τ).loc Cert.FfnNormIdeal.main_v3_0)) (v1 : (c : Dev Cert.FfnNormIdeal.nD) → Buf (Elt Ideal) ((c.tc : Thread Cert.FfnNormIdeal.nD Cert.FfnNormIdeal.τ).loc Cert.FfnNormIdeal.main_v3_1)),
      θ_run (Cert.FfnNormIdeal.defs (F := Ideal)) (onTc (τ := Cert.FfnNormIdeal.τ) (Cert.FfnNormIdeal.main (F := Ideal))) ⟨m, fun _ => 0, g⟩ (fun r => ∀ c : Dev Cert.FfnNormIdeal.nD,
          r.2.mem ((c.tc : Thread Cert.FfnNormIdeal.nD Cert.FfnNormIdeal.τ).loc Cert.FfnNormIdeal.main_v3_0) = v0 c
          ∧ r.2.mem ((c.tc : Thread Cert.FfnNormIdeal.nD Cert.FfnNormIdeal.τ).loc Cert.FfnNormIdeal.main_v3_1) = v1 c
          ∧ r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
          ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
          ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
          ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3)
          ∧ r.2.mem ((c.tc : Thread Cert.FfnNormIdeal.nD Cert.FfnNormIdeal.τ).loc Cert.FfnNormIdeal.main_arg4) = m ((c.tc : Thread Cert.FfnNormIdeal.nD Cert.FfnNormIdeal.τ).loc Cert.FfnNormIdeal.main_arg4))
      ∧ θ_run (Cert.FfnNormRefIdeal.defs (F := Ideal)) (onTc (τ := Cert.FfnNormRefIdeal.τ) (Cert.FfnNormRefIdeal.main (F := Ideal))) ⟨m', fun _ => 0, g'⟩ (fun r => ∀ c : Dev Cert.FfnNormRefIdeal.nD,
          r.2.mem ((c.tc : Thread Cert.FfnNormRefIdeal.nD Cert.FfnNormRefIdeal.τ).loc Cert.FfnNormRefIdeal.main_v37) = v0 c
          ∧ r.2.mem ((c.tc : Thread Cert.FfnNormRefIdeal.nD Cert.FfnNormRefIdeal.τ).loc Cert.FfnNormRefIdeal.main_v20) = v1 c
          ∧ r.2.mem ((c.tc : Thread Cert.FfnNormRefIdeal.nD Cert.FfnNormRefIdeal.τ).loc Cert.FfnNormRefIdeal.main_arg0) = m' ((c.tc : Thread Cert.FfnNormRefIdeal.nD Cert.FfnNormRefIdeal.τ).loc Cert.FfnNormRefIdeal.main_arg0)
          ∧ r.2.mem ((c.tc : Thread Cert.FfnNormRefIdeal.nD Cert.FfnNormRefIdeal.τ).loc Cert.FfnNormRefIdeal.main_arg1) = m' ((c.tc : Thread Cert.FfnNormRefIdeal.nD Cert.FfnNormRefIdeal.τ).loc Cert.FfnNormRefIdeal.main_arg1)
          ∧ r.2.mem ((c.tc : Thread Cert.FfnNormRefIdeal.nD Cert.FfnNormRefIdeal.τ).loc Cert.FfnNormRefIdeal.main_arg2) = m' ((c.tc : Thread Cert.FfnNormRefIdeal.nD Cert.FfnNormRefIdeal.τ).loc Cert.FfnNormRefIdeal.main_arg2)
          ∧ r.2.mem ((c.tc : Thread Cert.FfnNormRefIdeal.nD Cert.FfnNormRefIdeal.τ).loc Cert.FfnNormRefIdeal.main_arg3) = m' ((c.tc : Thread Cert.FfnNormRefIdeal.nD Cert.FfnNormRefIdeal.τ).loc Cert.FfnNormRefIdeal.main_arg3)
          ∧ r.2.mem ((c.tc : Thread Cert.FfnNormRefIdeal.nD Cert.FfnNormRefIdeal.τ).loc Cert.FfnNormRefIdeal.main_arg4) = m' ((c.tc : Thread Cert.FfnNormRefIdeal.nD Cert.FfnNormRefIdeal.τ).loc Cert.FfnNormRefIdeal.main_arg4))

def preserves_QueryNorm_QueryNormIdeal : Prop :=
  True

def algebraic_QueryNormIdeal_QueryNormRefIdeal_pre_query_norm_finite [hQueryNormIdeal : Cert.QueryNormIdeal.Facts] [hQueryNormRefIdeal : Cert.QueryNormRefIdeal.Facts] [hPre_query_norm_finite : Cert.Pre_query_norm_finite.Facts] : Prop :=
  ∀ (m : (ℓ : Loc Cert.QueryNormIdeal.nD Cert.QueryNormIdeal.τ Cert.QueryNormIdeal.sig) → Buf (Elt Ideal) ℓ) (g : Dev Cert.QueryNormIdeal.nD → PrngReg)
    (m' : (ℓ : Loc Cert.QueryNormRefIdeal.nD Cert.QueryNormRefIdeal.τ Cert.QueryNormRefIdeal.sig) → Buf (Elt Ideal) ℓ) (g' : Dev Cert.QueryNormRefIdeal.nD → PrngReg), Pre_QueryNormIdeal_query_norm_finite m →
    (∀ c : Dev Cert.QueryNormIdeal.nD,
      m' ((c.tc : Thread Cert.QueryNormRefIdeal.nD Cert.QueryNormRefIdeal.τ).loc Cert.QueryNormRefIdeal.main_arg0) = m ((c.tc : Thread Cert.QueryNormIdeal.nD Cert.QueryNormIdeal.τ).loc Cert.QueryNormIdeal.main_arg0)
      ∧ m' ((c.tc : Thread Cert.QueryNormRefIdeal.nD Cert.QueryNormRefIdeal.τ).loc Cert.QueryNormRefIdeal.main_arg1) = m ((c.tc : Thread Cert.QueryNormIdeal.nD Cert.QueryNormIdeal.τ).loc Cert.QueryNormIdeal.main_arg1)
      ∧ m' ((c.tc : Thread Cert.QueryNormRefIdeal.nD Cert.QueryNormRefIdeal.τ).loc Cert.QueryNormRefIdeal.main_arg2) = m ((c.tc : Thread Cert.QueryNormIdeal.nD Cert.QueryNormIdeal.τ).loc Cert.QueryNormIdeal.main_arg2)
      ∧ m' ((c.tc : Thread Cert.QueryNormRefIdeal.nD Cert.QueryNormRefIdeal.τ).loc Cert.QueryNormRefIdeal.main_arg3) = m ((c.tc : Thread Cert.QueryNormIdeal.nD Cert.QueryNormIdeal.τ).loc Cert.QueryNormIdeal.main_arg3)
      ∧ m' ((c.tc : Thread Cert.QueryNormRefIdeal.nD Cert.QueryNormRefIdeal.τ).loc Cert.QueryNormRefIdeal.main_arg4) = m ((c.tc : Thread Cert.QueryNormIdeal.nD Cert.QueryNormIdeal.τ).loc Cert.QueryNormIdeal.main_arg4)) →
    ∃ (v0 : (c : Dev Cert.QueryNormIdeal.nD) → Buf (Elt Ideal) ((c.tc : Thread Cert.QueryNormIdeal.nD Cert.QueryNormIdeal.τ).loc Cert.QueryNormIdeal.main_v2_0)) (v1 : (c : Dev Cert.QueryNormIdeal.nD) → Buf (Elt Ideal) ((c.tc : Thread Cert.QueryNormIdeal.nD Cert.QueryNormIdeal.τ).loc Cert.QueryNormIdeal.main_v2_1)),
      θ_run (Cert.QueryNormIdeal.defs (F := Ideal)) (onTc (τ := Cert.QueryNormIdeal.τ) (Cert.QueryNormIdeal.main (F := Ideal))) ⟨m, fun _ => 0, g⟩ (fun r => ∀ c : Dev Cert.QueryNormIdeal.nD,
          r.2.mem ((c.tc : Thread Cert.QueryNormIdeal.nD Cert.QueryNormIdeal.τ).loc Cert.QueryNormIdeal.main_v2_0) = v0 c
          ∧ r.2.mem ((c.tc : Thread Cert.QueryNormIdeal.nD Cert.QueryNormIdeal.τ).loc Cert.QueryNormIdeal.main_v2_1) = v1 c
          ∧ r.2.mem ((c.tc : Thread Cert.QueryNormIdeal.nD Cert.QueryNormIdeal.τ).loc Cert.QueryNormIdeal.main_arg0) = m ((c.tc : Thread Cert.QueryNormIdeal.nD Cert.QueryNormIdeal.τ).loc Cert.QueryNormIdeal.main_arg0)
          ∧ r.2.mem ((c.tc : Thread Cert.QueryNormIdeal.nD Cert.QueryNormIdeal.τ).loc Cert.QueryNormIdeal.main_arg1) = m ((c.tc : Thread Cert.QueryNormIdeal.nD Cert.QueryNormIdeal.τ).loc Cert.QueryNormIdeal.main_arg1)
          ∧ r.2.mem ((c.tc : Thread Cert.QueryNormIdeal.nD Cert.QueryNormIdeal.τ).loc Cert.QueryNormIdeal.main_arg2) = m ((c.tc : Thread Cert.QueryNormIdeal.nD Cert.QueryNormIdeal.τ).loc Cert.QueryNormIdeal.main_arg2)
          ∧ r.2.mem ((c.tc : Thread Cert.QueryNormIdeal.nD Cert.QueryNormIdeal.τ).loc Cert.QueryNormIdeal.main_arg3) = m ((c.tc : Thread Cert.QueryNormIdeal.nD Cert.QueryNormIdeal.τ).loc Cert.QueryNormIdeal.main_arg3)
          ∧ r.2.mem ((c.tc : Thread Cert.QueryNormIdeal.nD Cert.QueryNormIdeal.τ).loc Cert.QueryNormIdeal.main_arg4) = m ((c.tc : Thread Cert.QueryNormIdeal.nD Cert.QueryNormIdeal.τ).loc Cert.QueryNormIdeal.main_arg4))
      ∧ θ_run (Cert.QueryNormRefIdeal.defs (F := Ideal)) (onTc (τ := Cert.QueryNormRefIdeal.τ) (Cert.QueryNormRefIdeal.main (F := Ideal))) ⟨m', fun _ => 0, g'⟩ (fun r => ∀ c : Dev Cert.QueryNormRefIdeal.nD,
          r.2.mem ((c.tc : Thread Cert.QueryNormRefIdeal.nD Cert.QueryNormRefIdeal.τ).loc Cert.QueryNormRefIdeal.main_v37) = v0 c
          ∧ r.2.mem ((c.tc : Thread Cert.QueryNormRefIdeal.nD Cert.QueryNormRefIdeal.τ).loc Cert.QueryNormRefIdeal.main_v20) = v1 c
          ∧ r.2.mem ((c.tc : Thread Cert.QueryNormRefIdeal.nD Cert.QueryNormRefIdeal.τ).loc Cert.QueryNormRefIdeal.main_arg0) = m' ((c.tc : Thread Cert.QueryNormRefIdeal.nD Cert.QueryNormRefIdeal.τ).loc Cert.QueryNormRefIdeal.main_arg0)
          ∧ r.2.mem ((c.tc : Thread Cert.QueryNormRefIdeal.nD Cert.QueryNormRefIdeal.τ).loc Cert.QueryNormRefIdeal.main_arg1) = m' ((c.tc : Thread Cert.QueryNormRefIdeal.nD Cert.QueryNormRefIdeal.τ).loc Cert.QueryNormRefIdeal.main_arg1)
          ∧ r.2.mem ((c.tc : Thread Cert.QueryNormRefIdeal.nD Cert.QueryNormRefIdeal.τ).loc Cert.QueryNormRefIdeal.main_arg2) = m' ((c.tc : Thread Cert.QueryNormRefIdeal.nD Cert.QueryNormRefIdeal.τ).loc Cert.QueryNormRefIdeal.main_arg2)
          ∧ r.2.mem ((c.tc : Thread Cert.QueryNormRefIdeal.nD Cert.QueryNormRefIdeal.τ).loc Cert.QueryNormRefIdeal.main_arg3) = m' ((c.tc : Thread Cert.QueryNormRefIdeal.nD Cert.QueryNormRefIdeal.τ).loc Cert.QueryNormRefIdeal.main_arg3)
          ∧ r.2.mem ((c.tc : Thread Cert.QueryNormRefIdeal.nD Cert.QueryNormRefIdeal.τ).loc Cert.QueryNormRefIdeal.main_arg4) = m' ((c.tc : Thread Cert.QueryNormRefIdeal.nD Cert.QueryNormRefIdeal.τ).loc Cert.QueryNormRefIdeal.main_arg4))

def preserves_MemoryNorm_MemoryNormIdeal : Prop :=
  True

def algebraic_MemoryNormIdeal_MemoryNormRefIdeal_pre_memory_norm_finite [hMemoryNormIdeal : Cert.MemoryNormIdeal.Facts] [hMemoryNormRefIdeal : Cert.MemoryNormRefIdeal.Facts] [hPre_memory_norm_finite : Cert.Pre_memory_norm_finite.Facts] : Prop :=
  ∀ (m : (ℓ : Loc Cert.MemoryNormIdeal.nD Cert.MemoryNormIdeal.τ Cert.MemoryNormIdeal.sig) → Buf (Elt Ideal) ℓ) (g : Dev Cert.MemoryNormIdeal.nD → PrngReg)
    (m' : (ℓ : Loc Cert.MemoryNormRefIdeal.nD Cert.MemoryNormRefIdeal.τ Cert.MemoryNormRefIdeal.sig) → Buf (Elt Ideal) ℓ) (g' : Dev Cert.MemoryNormRefIdeal.nD → PrngReg), Pre_MemoryNormIdeal_memory_norm_finite m →
    (∀ c : Dev Cert.MemoryNormIdeal.nD,
      m' ((c.tc : Thread Cert.MemoryNormRefIdeal.nD Cert.MemoryNormRefIdeal.τ).loc Cert.MemoryNormRefIdeal.main_arg0) = m ((c.tc : Thread Cert.MemoryNormIdeal.nD Cert.MemoryNormIdeal.τ).loc Cert.MemoryNormIdeal.main_arg0)
      ∧ m' ((c.tc : Thread Cert.MemoryNormRefIdeal.nD Cert.MemoryNormRefIdeal.τ).loc Cert.MemoryNormRefIdeal.main_arg1) = m ((c.tc : Thread Cert.MemoryNormIdeal.nD Cert.MemoryNormIdeal.τ).loc Cert.MemoryNormIdeal.main_arg1)
      ∧ m' ((c.tc : Thread Cert.MemoryNormRefIdeal.nD Cert.MemoryNormRefIdeal.τ).loc Cert.MemoryNormRefIdeal.main_arg2) = m ((c.tc : Thread Cert.MemoryNormIdeal.nD Cert.MemoryNormIdeal.τ).loc Cert.MemoryNormIdeal.main_arg2)
      ∧ m' ((c.tc : Thread Cert.MemoryNormRefIdeal.nD Cert.MemoryNormRefIdeal.τ).loc Cert.MemoryNormRefIdeal.main_arg3) = m ((c.tc : Thread Cert.MemoryNormIdeal.nD Cert.MemoryNormIdeal.τ).loc Cert.MemoryNormIdeal.main_arg3)) →
    ∃ (v0 : (c : Dev Cert.MemoryNormIdeal.nD) → Buf (Elt Ideal) ((c.tc : Thread Cert.MemoryNormIdeal.nD Cert.MemoryNormIdeal.τ).loc Cert.MemoryNormIdeal.main_v4_0)) (v1 : (c : Dev Cert.MemoryNormIdeal.nD) → Buf (Elt Ideal) ((c.tc : Thread Cert.MemoryNormIdeal.nD Cert.MemoryNormIdeal.τ).loc Cert.MemoryNormIdeal.main_v4_1)),
      θ_run (Cert.MemoryNormIdeal.defs (F := Ideal)) (onTc (τ := Cert.MemoryNormIdeal.τ) (Cert.MemoryNormIdeal.main (F := Ideal))) ⟨m, fun _ => 0, g⟩ (fun r => ∀ c : Dev Cert.MemoryNormIdeal.nD,
          r.2.mem ((c.tc : Thread Cert.MemoryNormIdeal.nD Cert.MemoryNormIdeal.τ).loc Cert.MemoryNormIdeal.main_v4_0) = v0 c
          ∧ r.2.mem ((c.tc : Thread Cert.MemoryNormIdeal.nD Cert.MemoryNormIdeal.τ).loc Cert.MemoryNormIdeal.main_v4_1) = v1 c
          ∧ r.2.mem ((c.tc : Thread Cert.MemoryNormIdeal.nD Cert.MemoryNormIdeal.τ).loc Cert.MemoryNormIdeal.main_arg0) = m ((c.tc : Thread Cert.MemoryNormIdeal.nD Cert.MemoryNormIdeal.τ).loc Cert.MemoryNormIdeal.main_arg0)
          ∧ r.2.mem ((c.tc : Thread Cert.MemoryNormIdeal.nD Cert.MemoryNormIdeal.τ).loc Cert.MemoryNormIdeal.main_arg1) = m ((c.tc : Thread Cert.MemoryNormIdeal.nD Cert.MemoryNormIdeal.τ).loc Cert.MemoryNormIdeal.main_arg1)
          ∧ r.2.mem ((c.tc : Thread Cert.MemoryNormIdeal.nD Cert.MemoryNormIdeal.τ).loc Cert.MemoryNormIdeal.main_arg2) = m ((c.tc : Thread Cert.MemoryNormIdeal.nD Cert.MemoryNormIdeal.τ).loc Cert.MemoryNormIdeal.main_arg2)
          ∧ r.2.mem ((c.tc : Thread Cert.MemoryNormIdeal.nD Cert.MemoryNormIdeal.τ).loc Cert.MemoryNormIdeal.main_arg3) = m ((c.tc : Thread Cert.MemoryNormIdeal.nD Cert.MemoryNormIdeal.τ).loc Cert.MemoryNormIdeal.main_arg3))
      ∧ θ_run (Cert.MemoryNormRefIdeal.defs (F := Ideal)) (onTc (τ := Cert.MemoryNormRefIdeal.τ) (Cert.MemoryNormRefIdeal.main (F := Ideal))) ⟨m', fun _ => 0, g'⟩ (fun r => ∀ c : Dev Cert.MemoryNormRefIdeal.nD,
          r.2.mem ((c.tc : Thread Cert.MemoryNormRefIdeal.nD Cert.MemoryNormRefIdeal.τ).loc Cert.MemoryNormRefIdeal.main_v35) = v0 c
          ∧ r.2.mem ((c.tc : Thread Cert.MemoryNormRefIdeal.nD Cert.MemoryNormRefIdeal.τ).loc Cert.MemoryNormRefIdeal.main_v19) = v1 c
          ∧ r.2.mem ((c.tc : Thread Cert.MemoryNormRefIdeal.nD Cert.MemoryNormRefIdeal.τ).loc Cert.MemoryNormRefIdeal.main_arg0) = m' ((c.tc : Thread Cert.MemoryNormRefIdeal.nD Cert.MemoryNormRefIdeal.τ).loc Cert.MemoryNormRefIdeal.main_arg0)
          ∧ r.2.mem ((c.tc : Thread Cert.MemoryNormRefIdeal.nD Cert.MemoryNormRefIdeal.τ).loc Cert.MemoryNormRefIdeal.main_arg1) = m' ((c.tc : Thread Cert.MemoryNormRefIdeal.nD Cert.MemoryNormRefIdeal.τ).loc Cert.MemoryNormRefIdeal.main_arg1)
          ∧ r.2.mem ((c.tc : Thread Cert.MemoryNormRefIdeal.nD Cert.MemoryNormRefIdeal.τ).loc Cert.MemoryNormRefIdeal.main_arg2) = m' ((c.tc : Thread Cert.MemoryNormRefIdeal.nD Cert.MemoryNormRefIdeal.τ).loc Cert.MemoryNormRefIdeal.main_arg2)
          ∧ r.2.mem ((c.tc : Thread Cert.MemoryNormRefIdeal.nD Cert.MemoryNormRefIdeal.τ).loc Cert.MemoryNormRefIdeal.main_arg3) = m' ((c.tc : Thread Cert.MemoryNormRefIdeal.nD Cert.MemoryNormRefIdeal.τ).loc Cert.MemoryNormRefIdeal.main_arg3))

def preserves_MixNorm_MixNormIdeal : Prop :=
  True

def algebraic_MixNormIdeal_MixNormRefIdeal_pre_mix_norm_finite [hMixNormIdeal : Cert.MixNormIdeal.Facts] [hMixNormRefIdeal : Cert.MixNormRefIdeal.Facts] [hPre_mix_norm_finite : Cert.Pre_mix_norm_finite.Facts] : Prop :=
  ∀ (m : (ℓ : Loc Cert.MixNormIdeal.nD Cert.MixNormIdeal.τ Cert.MixNormIdeal.sig) → Buf (Elt Ideal) ℓ) (g : Dev Cert.MixNormIdeal.nD → PrngReg)
    (m' : (ℓ : Loc Cert.MixNormRefIdeal.nD Cert.MixNormRefIdeal.τ Cert.MixNormRefIdeal.sig) → Buf (Elt Ideal) ℓ) (g' : Dev Cert.MixNormRefIdeal.nD → PrngReg), Pre_MixNormIdeal_mix_norm_finite m →
    (∀ c : Dev Cert.MixNormIdeal.nD,
      m' ((c.tc : Thread Cert.MixNormRefIdeal.nD Cert.MixNormRefIdeal.τ).loc Cert.MixNormRefIdeal.main_arg0) = m ((c.tc : Thread Cert.MixNormIdeal.nD Cert.MixNormIdeal.τ).loc Cert.MixNormIdeal.main_arg0)
      ∧ m' ((c.tc : Thread Cert.MixNormRefIdeal.nD Cert.MixNormRefIdeal.τ).loc Cert.MixNormRefIdeal.main_arg1) = m ((c.tc : Thread Cert.MixNormIdeal.nD Cert.MixNormIdeal.τ).loc Cert.MixNormIdeal.main_arg1)
      ∧ m' ((c.tc : Thread Cert.MixNormRefIdeal.nD Cert.MixNormRefIdeal.τ).loc Cert.MixNormRefIdeal.main_arg2) = m ((c.tc : Thread Cert.MixNormIdeal.nD Cert.MixNormIdeal.τ).loc Cert.MixNormIdeal.main_arg2)
      ∧ m' ((c.tc : Thread Cert.MixNormRefIdeal.nD Cert.MixNormRefIdeal.τ).loc Cert.MixNormRefIdeal.main_arg3) = m ((c.tc : Thread Cert.MixNormIdeal.nD Cert.MixNormIdeal.τ).loc Cert.MixNormIdeal.main_arg3)
      ∧ m' ((c.tc : Thread Cert.MixNormRefIdeal.nD Cert.MixNormRefIdeal.τ).loc Cert.MixNormRefIdeal.main_arg4) = m ((c.tc : Thread Cert.MixNormIdeal.nD Cert.MixNormIdeal.τ).loc Cert.MixNormIdeal.main_arg4)
      ∧ m' ((c.tc : Thread Cert.MixNormRefIdeal.nD Cert.MixNormRefIdeal.τ).loc Cert.MixNormRefIdeal.main_arg5) = m ((c.tc : Thread Cert.MixNormIdeal.nD Cert.MixNormIdeal.τ).loc Cert.MixNormIdeal.main_arg5)
      ∧ m' ((c.tc : Thread Cert.MixNormRefIdeal.nD Cert.MixNormRefIdeal.τ).loc Cert.MixNormRefIdeal.main_arg6) = m ((c.tc : Thread Cert.MixNormIdeal.nD Cert.MixNormIdeal.τ).loc Cert.MixNormIdeal.main_arg6)) →
    ∃ (v0 : (c : Dev Cert.MixNormIdeal.nD) → Buf (Elt Ideal) ((c.tc : Thread Cert.MixNormIdeal.nD Cert.MixNormIdeal.τ).loc Cert.MixNormIdeal.main_v3_0)) (v1 : (c : Dev Cert.MixNormIdeal.nD) → Buf (Elt Ideal) ((c.tc : Thread Cert.MixNormIdeal.nD Cert.MixNormIdeal.τ).loc Cert.MixNormIdeal.main_v3_1)),
      θ_run (Cert.MixNormIdeal.defs (F := Ideal)) (onTc (τ := Cert.MixNormIdeal.τ) (Cert.MixNormIdeal.main (F := Ideal))) ⟨m, fun _ => 0, g⟩ (fun r => ∀ c : Dev Cert.MixNormIdeal.nD,
          r.2.mem ((c.tc : Thread Cert.MixNormIdeal.nD Cert.MixNormIdeal.τ).loc Cert.MixNormIdeal.main_v3_0) = v0 c
          ∧ r.2.mem ((c.tc : Thread Cert.MixNormIdeal.nD Cert.MixNormIdeal.τ).loc Cert.MixNormIdeal.main_v3_1) = v1 c
          ∧ r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
          ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
          ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2)
          ∧ r.2.mem ((c.tc : Thread Cert.MixNormIdeal.nD Cert.MixNormIdeal.τ).loc Cert.MixNormIdeal.main_arg3) = m ((c.tc : Thread Cert.MixNormIdeal.nD Cert.MixNormIdeal.τ).loc Cert.MixNormIdeal.main_arg3)
          ∧ r.2.mem ((c.tc : Thread Cert.MixNormIdeal.nD Cert.MixNormIdeal.τ).loc Cert.MixNormIdeal.main_arg4) = m ((c.tc : Thread Cert.MixNormIdeal.nD Cert.MixNormIdeal.τ).loc Cert.MixNormIdeal.main_arg4)
          ∧ r.2.mem ((c.tc : Thread Cert.MixNormIdeal.nD Cert.MixNormIdeal.τ).loc Cert.MixNormIdeal.main_arg5) = m ((c.tc : Thread Cert.MixNormIdeal.nD Cert.MixNormIdeal.τ).loc Cert.MixNormIdeal.main_arg5)
          ∧ r.2.mem ((c.tc : Thread Cert.MixNormIdeal.nD Cert.MixNormIdeal.τ).loc Cert.MixNormIdeal.main_arg6) = m ((c.tc : Thread Cert.MixNormIdeal.nD Cert.MixNormIdeal.τ).loc Cert.MixNormIdeal.main_arg6))
      ∧ θ_run (Cert.MixNormRefIdeal.defs (F := Ideal)) (onTc (τ := Cert.MixNormRefIdeal.τ) (Cert.MixNormRefIdeal.main (F := Ideal))) ⟨m', fun _ => 0, g'⟩ (fun r => ∀ c : Dev Cert.MixNormRefIdeal.nD,
          r.2.mem ((c.tc : Thread Cert.MixNormRefIdeal.nD Cert.MixNormRefIdeal.τ).loc Cert.MixNormRefIdeal.main_v40) = v0 c
          ∧ r.2.mem ((c.tc : Thread Cert.MixNormRefIdeal.nD Cert.MixNormRefIdeal.τ).loc Cert.MixNormRefIdeal.main_v23) = v1 c
          ∧ r.2.mem ((c.tc : Thread Cert.MixNormRefIdeal.nD Cert.MixNormRefIdeal.τ).loc Cert.MixNormRefIdeal.main_arg0) = m' ((c.tc : Thread Cert.MixNormRefIdeal.nD Cert.MixNormRefIdeal.τ).loc Cert.MixNormRefIdeal.main_arg0)
          ∧ r.2.mem ((c.tc : Thread Cert.MixNormRefIdeal.nD Cert.MixNormRefIdeal.τ).loc Cert.MixNormRefIdeal.main_arg1) = m' ((c.tc : Thread Cert.MixNormRefIdeal.nD Cert.MixNormRefIdeal.τ).loc Cert.MixNormRefIdeal.main_arg1)
          ∧ r.2.mem ((c.tc : Thread Cert.MixNormRefIdeal.nD Cert.MixNormRefIdeal.τ).loc Cert.MixNormRefIdeal.main_arg2) = m' ((c.tc : Thread Cert.MixNormRefIdeal.nD Cert.MixNormRefIdeal.τ).loc Cert.MixNormRefIdeal.main_arg2)
          ∧ r.2.mem ((c.tc : Thread Cert.MixNormRefIdeal.nD Cert.MixNormRefIdeal.τ).loc Cert.MixNormRefIdeal.main_arg3) = m' ((c.tc : Thread Cert.MixNormRefIdeal.nD Cert.MixNormRefIdeal.τ).loc Cert.MixNormRefIdeal.main_arg3)
          ∧ r.2.mem ((c.tc : Thread Cert.MixNormRefIdeal.nD Cert.MixNormRefIdeal.τ).loc Cert.MixNormRefIdeal.main_arg4) = m' ((c.tc : Thread Cert.MixNormRefIdeal.nD Cert.MixNormRefIdeal.τ).loc Cert.MixNormRefIdeal.main_arg4)
          ∧ r.2.mem ((c.tc : Thread Cert.MixNormRefIdeal.nD Cert.MixNormRefIdeal.τ).loc Cert.MixNormRefIdeal.main_arg5) = m' ((c.tc : Thread Cert.MixNormRefIdeal.nD Cert.MixNormRefIdeal.τ).loc Cert.MixNormRefIdeal.main_arg5)
          ∧ r.2.mem ((c.tc : Thread Cert.MixNormRefIdeal.nD Cert.MixNormRefIdeal.τ).loc Cert.MixNormRefIdeal.main_arg6) = m' ((c.tc : Thread Cert.MixNormRefIdeal.nD Cert.MixNormRefIdeal.τ).loc Cert.MixNormRefIdeal.main_arg6))

def preserves_AttnBack_AttnBackIdeal : Prop :=
  True

def preserves_GatingBack_GatingBackIdeal : Prop :=
  True

def preserves_BiasBack_BiasBackIdeal : Prop :=
  True

def algebraic_BiasBackIdeal_BiasBackRefIdeal [hBiasBackIdeal : Cert.BiasBackIdeal.Facts] [hBiasBackRefIdeal : Cert.BiasBackRefIdeal.Facts] : Prop :=
  ∀ (m : (ℓ : Loc Cert.BiasBackIdeal.nD Cert.BiasBackIdeal.τ Cert.BiasBackIdeal.sig) → Buf (Elt Ideal) ℓ) (g : Dev Cert.BiasBackIdeal.nD → PrngReg)
    (m' : (ℓ : Loc Cert.BiasBackRefIdeal.nD Cert.BiasBackRefIdeal.τ Cert.BiasBackRefIdeal.sig) → Buf (Elt Ideal) ℓ) (g' : Dev Cert.BiasBackRefIdeal.nD → PrngReg), Pre_BiasBackIdeal m →
    (∀ c : Dev Cert.BiasBackIdeal.nD,
      m' ((c.tc : Thread Cert.BiasBackRefIdeal.nD Cert.BiasBackRefIdeal.τ).loc Cert.BiasBackRefIdeal.main_arg0) = m ((c.tc : Thread Cert.BiasBackIdeal.nD Cert.BiasBackIdeal.τ).loc Cert.BiasBackIdeal.main_arg0)) →
    ∃ (v0 : (c : Dev Cert.BiasBackIdeal.nD) → Buf (Elt Ideal) ((c.tc : Thread Cert.BiasBackIdeal.nD Cert.BiasBackIdeal.τ).loc Cert.BiasBackIdeal.main_v11)),
      θ_run (Cert.BiasBackIdeal.defs (F := Ideal)) (onTc (τ := Cert.BiasBackIdeal.τ) (Cert.BiasBackIdeal.main (F := Ideal))) ⟨m, fun _ => 0, g⟩ (fun r => ∀ c : Dev Cert.BiasBackIdeal.nD,
          r.2.mem ((c.tc : Thread Cert.BiasBackIdeal.nD Cert.BiasBackIdeal.τ).loc Cert.BiasBackIdeal.main_v11) = v0 c
          ∧ r.2.mem ((c.tc : Thread Cert.BiasBackIdeal.nD Cert.BiasBackIdeal.τ).loc Cert.BiasBackIdeal.main_arg0) = m ((c.tc : Thread Cert.BiasBackIdeal.nD Cert.BiasBackIdeal.τ).loc Cert.BiasBackIdeal.main_arg0))
      ∧ θ_run (Cert.BiasBackRefIdeal.defs (F := Ideal)) (onTc (τ := Cert.BiasBackRefIdeal.τ) (Cert.BiasBackRefIdeal.main (F := Ideal))) ⟨m', fun _ => 0, g'⟩ (fun r => ∀ c : Dev Cert.BiasBackRefIdeal.nD,
          r.2.mem ((c.tc : Thread Cert.BiasBackRefIdeal.nD Cert.BiasBackRefIdeal.τ).loc Cert.BiasBackRefIdeal.main_v24) = v0 c
          ∧ r.2.mem ((c.tc : Thread Cert.BiasBackRefIdeal.nD Cert.BiasBackRefIdeal.τ).loc Cert.BiasBackRefIdeal.main_arg0) = m' ((c.tc : Thread Cert.BiasBackRefIdeal.nD Cert.BiasBackRefIdeal.τ).loc Cert.BiasBackRefIdeal.main_arg0))

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v29_0)) (v1 : (c : Dev Cert.AttnIdeal.nD) → Buf (Elt Ideal) ((c.tc : Thread Cert.AttnIdeal.nD Cert.AttnIdeal.τ).loc Cert.AttnIdeal.main_v29_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v29_0) = v0 c
          ∧ r.2.mem ((c.tc : Thread Cert.AttnIdeal.nD Cert.AttnIdeal.τ).loc Cert.AttnIdeal.main_v29_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v58) = v0 c
          ∧ r.2.mem ((c.tc : Thread Cert.AttnRefIdeal.nD Cert.AttnRefIdeal.τ).loc Cert.AttnRefIdeal.main_v62) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)) →
    ∃ (v0 : (c : Dev Cert.MixInIdeal.nD) → Buf (Elt Ideal) ((c.tc : Thread Cert.MixInIdeal.nD Cert.MixInIdeal.τ).loc Cert.MixInIdeal.main_v3_0)) (v1 : (c : Dev Cert.MixInIdeal.nD) → Buf (Elt Ideal) ((c.tc : Thread Cert.MixInIdeal.nD Cert.MixInIdeal.τ).loc Cert.MixInIdeal.main_v3_1)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v3_0) = v0 c
          ∧ r.2.mem ((c.tc : Thread Cert.MixInIdeal.nD Cert.MixInIdeal.τ).loc Cert.MixInIdeal.main_v3_1) = v1 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v12) = v0 c
          ∧ r.2.mem ((c.tc : Thread Cert.MixInRefIdeal.nD Cert.MixInRefIdeal.τ).loc Cert.MixInRefIdeal.main_v14) = v1 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2))

def preserves_QueryIn_QueryInIdeal : Prop :=
  True

def algebraic_QueryInIdeal_QueryInRefIdeal [hQueryInIdeal : Cert.QueryInIdeal.Facts] [hQueryInRefIdeal : Cert.QueryInRefIdeal.Facts] : Prop :=
  ∀ (m : (ℓ : Loc Cert.QueryInIdeal.nD Cert.QueryInIdeal.τ Cert.QueryInIdeal.sig) → Buf (Elt Ideal) ℓ) (g : Dev Cert.QueryInIdeal.nD → PrngReg)
    (m' : (ℓ : Loc Cert.QueryInRefIdeal.nD Cert.QueryInRefIdeal.τ Cert.QueryInRefIdeal.sig) → Buf (Elt Ideal) ℓ) (g' : Dev Cert.QueryInRefIdeal.nD → PrngReg), Pre_QueryInIdeal m →
    (∀ c : Dev Cert.QueryInIdeal.nD,
      m' ((c.tc : Thread Cert.QueryInRefIdeal.nD Cert.QueryInRefIdeal.τ).loc Cert.QueryInRefIdeal.main_arg0) = m ((c.tc : Thread Cert.QueryInIdeal.nD Cert.QueryInIdeal.τ).loc Cert.QueryInIdeal.main_arg0)
      ∧ m' ((c.tc : Thread Cert.QueryInRefIdeal.nD Cert.QueryInRefIdeal.τ).loc Cert.QueryInRefIdeal.main_arg1) = m ((c.tc : Thread Cert.QueryInIdeal.nD Cert.QueryInIdeal.τ).loc Cert.QueryInIdeal.main_arg1)
      ∧ m' ((c.tc : Thread Cert.QueryInRefIdeal.nD Cert.QueryInRefIdeal.τ).loc Cert.QueryInRefIdeal.main_arg2) = m ((c.tc : Thread Cert.QueryInIdeal.nD Cert.QueryInIdeal.τ).loc Cert.QueryInIdeal.main_arg2)) →
    ∃ (v0 : (c : Dev Cert.QueryInIdeal.nD) → Buf (Elt Ideal) ((c.tc : Thread Cert.QueryInIdeal.nD Cert.QueryInIdeal.τ).loc Cert.QueryInIdeal.main_v2_0)) (v1 : (c : Dev Cert.QueryInIdeal.nD) → Buf (Elt Ideal) ((c.tc : Thread Cert.QueryInIdeal.nD Cert.QueryInIdeal.τ).loc Cert.QueryInIdeal.main_v2_1)),
      θ_run (Cert.QueryInIdeal.defs (F := Ideal)) (onTc (τ := Cert.QueryInIdeal.τ) (Cert.QueryInIdeal.main (F := Ideal))) ⟨m, fun _ => 0, g⟩ (fun r => ∀ c : Dev Cert.QueryInIdeal.nD,
          r.2.mem ((c.tc : Thread Cert.QueryInIdeal.nD Cert.QueryInIdeal.τ).loc Cert.QueryInIdeal.main_v2_0) = v0 c
          ∧ r.2.mem ((c.tc : Thread Cert.QueryInIdeal.nD Cert.QueryInIdeal.τ).loc Cert.QueryInIdeal.main_v2_1) = v1 c
          ∧ r.2.mem ((c.tc : Thread Cert.QueryInIdeal.nD Cert.QueryInIdeal.τ).loc Cert.QueryInIdeal.main_arg0) = m ((c.tc : Thread Cert.QueryInIdeal.nD Cert.QueryInIdeal.τ).loc Cert.QueryInIdeal.main_arg0)
          ∧ r.2.mem ((c.tc : Thread Cert.QueryInIdeal.nD Cert.QueryInIdeal.τ).loc Cert.QueryInIdeal.main_arg1) = m ((c.tc : Thread Cert.QueryInIdeal.nD Cert.QueryInIdeal.τ).loc Cert.QueryInIdeal.main_arg1)
          ∧ r.2.mem ((c.tc : Thread Cert.QueryInIdeal.nD Cert.QueryInIdeal.τ).loc Cert.QueryInIdeal.main_arg2) = m ((c.tc : Thread Cert.QueryInIdeal.nD Cert.QueryInIdeal.τ).loc Cert.QueryInIdeal.main_arg2))
      ∧ θ_run (Cert.QueryInRefIdeal.defs (F := Ideal)) (onTc (τ := Cert.QueryInRefIdeal.τ) (Cert.QueryInRefIdeal.main (F := Ideal))) ⟨m', fun _ => 0, g'⟩ (fun r => ∀ c : Dev Cert.QueryInRefIdeal.nD,
          r.2.mem ((c.tc : Thread Cert.QueryInRefIdeal.nD Cert.QueryInRefIdeal.τ).loc Cert.QueryInRefIdeal.main_v12) = v0 c
          ∧ r.2.mem ((c.tc : Thread Cert.QueryInRefIdeal.nD Cert.QueryInRefIdeal.τ).loc Cert.QueryInRefIdeal.main_v16) = v1 c
          ∧ r.2.mem ((c.tc : Thread Cert.QueryInRefIdeal.nD Cert.QueryInRefIdeal.τ).loc Cert.QueryInRefIdeal.main_arg0) = m' ((c.tc : Thread Cert.QueryInRefIdeal.nD Cert.QueryInRefIdeal.τ).loc Cert.QueryInRefIdeal.main_arg0)
          ∧ r.2.mem ((c.tc : Thread Cert.QueryInRefIdeal.nD Cert.QueryInRefIdeal.τ).loc Cert.QueryInRefIdeal.main_arg1) = m' ((c.tc : Thread Cert.QueryInRefIdeal.nD Cert.QueryInRefIdeal.τ).loc Cert.QueryInRefIdeal.main_arg1)
          ∧ r.2.mem ((c.tc : Thread Cert.QueryInRefIdeal.nD Cert.QueryInRefIdeal.τ).loc Cert.QueryInRefIdeal.main_arg2) = m' ((c.tc : Thread Cert.QueryInRefIdeal.nD Cert.QueryInRefIdeal.τ).loc Cert.QueryInRefIdeal.main_arg2))

def preserves_MemoryIn_MemoryInIdeal : Prop :=
  True

def algebraic_MemoryInIdeal_MemoryInRefIdeal [hMemoryInIdeal : Cert.MemoryInIdeal.Facts] [hMemoryInRefIdeal : Cert.MemoryInRefIdeal.Facts] : Prop :=
  ∀ (m : (ℓ : Loc Cert.MemoryInIdeal.nD Cert.MemoryInIdeal.τ Cert.MemoryInIdeal.sig) → Buf (Elt Ideal) ℓ) (g : Dev Cert.MemoryInIdeal.nD → PrngReg)
    (m' : (ℓ : Loc Cert.MemoryInRefIdeal.nD Cert.MemoryInRefIdeal.τ Cert.MemoryInRefIdeal.sig) → Buf (Elt Ideal) ℓ) (g' : Dev Cert.MemoryInRefIdeal.nD → PrngReg), Pre_MemoryInIdeal m →
    (∀ c : Dev Cert.MemoryInIdeal.nD,
      m' ((c.tc : Thread Cert.MemoryInRefIdeal.nD Cert.MemoryInRefIdeal.τ).loc Cert.MemoryInRefIdeal.main_arg0) = m ((c.tc : Thread Cert.MemoryInIdeal.nD Cert.MemoryInIdeal.τ).loc Cert.MemoryInIdeal.main_arg0)
      ∧ m' ((c.tc : Thread Cert.MemoryInRefIdeal.nD Cert.MemoryInRefIdeal.τ).loc Cert.MemoryInRefIdeal.main_arg1) = m ((c.tc : Thread Cert.MemoryInIdeal.nD Cert.MemoryInIdeal.τ).loc Cert.MemoryInIdeal.main_arg1)
      ∧ m' ((c.tc : Thread Cert.MemoryInRefIdeal.nD Cert.MemoryInRefIdeal.τ).loc Cert.MemoryInRefIdeal.main_arg2) = m ((c.tc : Thread Cert.MemoryInIdeal.nD Cert.MemoryInIdeal.τ).loc Cert.MemoryInIdeal.main_arg2)) →
    ∃ (v0 : (c : Dev Cert.MemoryInIdeal.nD) → Buf (Elt Ideal) ((c.tc : Thread Cert.MemoryInIdeal.nD Cert.MemoryInIdeal.τ).loc Cert.MemoryInIdeal.main_v3_0)) (v1 : (c : Dev Cert.MemoryInIdeal.nD) → Buf (Elt Ideal) ((c.tc : Thread Cert.MemoryInIdeal.nD Cert.MemoryInIdeal.τ).loc Cert.MemoryInIdeal.main_v3_1)),
      θ_run (Cert.MemoryInIdeal.defs (F := Ideal)) (onTc (τ := Cert.MemoryInIdeal.τ) (Cert.MemoryInIdeal.main (F := Ideal))) ⟨m, fun _ => 0, g⟩ (fun r => ∀ c : Dev Cert.MemoryInIdeal.nD,
          r.2.mem ((c.tc : Thread Cert.MemoryInIdeal.nD Cert.MemoryInIdeal.τ).loc Cert.MemoryInIdeal.main_v3_0) = v0 c
          ∧ r.2.mem ((c.tc : Thread Cert.MemoryInIdeal.nD Cert.MemoryInIdeal.τ).loc Cert.MemoryInIdeal.main_v3_1) = v1 c
          ∧ r.2.mem ((c.tc : Thread Cert.MemoryInIdeal.nD Cert.MemoryInIdeal.τ).loc Cert.MemoryInIdeal.main_arg0) = m ((c.tc : Thread Cert.MemoryInIdeal.nD Cert.MemoryInIdeal.τ).loc Cert.MemoryInIdeal.main_arg0)
          ∧ r.2.mem ((c.tc : Thread Cert.MemoryInIdeal.nD Cert.MemoryInIdeal.τ).loc Cert.MemoryInIdeal.main_arg1) = m ((c.tc : Thread Cert.MemoryInIdeal.nD Cert.MemoryInIdeal.τ).loc Cert.MemoryInIdeal.main_arg1)
          ∧ r.2.mem ((c.tc : Thread Cert.MemoryInIdeal.nD Cert.MemoryInIdeal.τ).loc Cert.MemoryInIdeal.main_arg2) = m ((c.tc : Thread Cert.MemoryInIdeal.nD Cert.MemoryInIdeal.τ).loc Cert.MemoryInIdeal.main_arg2))
      ∧ θ_run (Cert.MemoryInRefIdeal.defs (F := Ideal)) (onTc (τ := Cert.MemoryInRefIdeal.τ) (Cert.MemoryInRefIdeal.main (F := Ideal))) ⟨m', fun _ => 0, g'⟩ (fun r => ∀ c : Dev Cert.MemoryInRefIdeal.nD,
          r.2.mem ((c.tc : Thread Cert.MemoryInRefIdeal.nD Cert.MemoryInRefIdeal.τ).loc Cert.MemoryInRefIdeal.main_v12) = v0 c
          ∧ r.2.mem ((c.tc : Thread Cert.MemoryInRefIdeal.nD Cert.MemoryInRefIdeal.τ).loc Cert.MemoryInRefIdeal.main_v14) = v1 c
          ∧ r.2.mem ((c.tc : Thread Cert.MemoryInRefIdeal.nD Cert.MemoryInRefIdeal.τ).loc Cert.MemoryInRefIdeal.main_arg0) = m' ((c.tc : Thread Cert.MemoryInRefIdeal.nD Cert.MemoryInRefIdeal.τ).loc Cert.MemoryInRefIdeal.main_arg0)
          ∧ r.2.mem ((c.tc : Thread Cert.MemoryInRefIdeal.nD Cert.MemoryInRefIdeal.τ).loc Cert.MemoryInRefIdeal.main_arg1) = m' ((c.tc : Thread Cert.MemoryInRefIdeal.nD Cert.MemoryInRefIdeal.τ).loc Cert.MemoryInRefIdeal.main_arg1)
          ∧ r.2.mem ((c.tc : Thread Cert.MemoryInRefIdeal.nD Cert.MemoryInRefIdeal.τ).loc Cert.MemoryInRefIdeal.main_arg2) = m' ((c.tc : Thread Cert.MemoryInRefIdeal.nD Cert.MemoryInRefIdeal.τ).loc Cert.MemoryInRefIdeal.main_arg2))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)) →
    ∃ (v0 : (c : Dev Cert.FfnInIdeal.nD) → Buf (Elt Ideal) ((c.tc : Thread Cert.FfnInIdeal.nD Cert.FfnInIdeal.τ).loc Cert.FfnInIdeal.main_v3_0)) (v1 : (c : Dev Cert.FfnInIdeal.nD) → Buf (Elt Ideal) ((c.tc : Thread Cert.FfnInIdeal.nD Cert.FfnInIdeal.τ).loc Cert.FfnInIdeal.main_v3_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v3_0) = v0 c
          ∧ r.2.mem ((c.tc : Thread Cert.FfnInIdeal.nD Cert.FfnInIdeal.τ).loc Cert.FfnInIdeal.main_v3_1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v12) = v0 c
          ∧ r.2.mem ((c.tc : Thread Cert.FfnInRefIdeal.nD Cert.FfnInRefIdeal.τ).loc Cert.FfnInRefIdeal.main_v14) = v1 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2))

def preserves_Gating_GatingIdeal : Prop :=
  True

def algebraic_GatingIdeal_GatingRefIdeal_pre_gating_finite [hGatingIdeal : Cert.GatingIdeal.Facts] [hGatingRefIdeal : Cert.GatingRefIdeal.Facts] [hPre_gating_finite : Cert.Pre_gating_finite.Facts] : Prop :=
  ∀ (m : (ℓ : Loc Cert.GatingIdeal.nD Cert.GatingIdeal.τ Cert.GatingIdeal.sig) → Buf (Elt Ideal) ℓ) (g : Dev Cert.GatingIdeal.nD → PrngReg)
    (m' : (ℓ : Loc Cert.GatingRefIdeal.nD Cert.GatingRefIdeal.τ Cert.GatingRefIdeal.sig) → Buf (Elt Ideal) ℓ) (g' : Dev Cert.GatingRefIdeal.nD → PrngReg), Pre_GatingIdeal_gating_finite m →
    (∀ c : Dev Cert.GatingIdeal.nD,
      m' ((c.tc : Thread Cert.GatingRefIdeal.nD Cert.GatingRefIdeal.τ).loc Cert.GatingRefIdeal.main_arg0) = m ((c.tc : Thread Cert.GatingIdeal.nD Cert.GatingIdeal.τ).loc Cert.GatingIdeal.main_arg0)
      ∧ m' ((c.tc : Thread Cert.GatingRefIdeal.nD Cert.GatingRefIdeal.τ).loc Cert.GatingRefIdeal.main_arg1) = m ((c.tc : Thread Cert.GatingIdeal.nD Cert.GatingIdeal.τ).loc Cert.GatingIdeal.main_arg1)
      ∧ m' ((c.tc : Thread Cert.GatingRefIdeal.nD Cert.GatingRefIdeal.τ).loc Cert.GatingRefIdeal.main_arg2) = m ((c.tc : Thread Cert.GatingIdeal.nD Cert.GatingIdeal.τ).loc Cert.GatingIdeal.main_arg2)
      ∧ m' ((c.tc : Thread Cert.GatingRefIdeal.nD Cert.GatingRefIdeal.τ).loc Cert.GatingRefIdeal.main_arg3) = m ((c.tc : Thread Cert.GatingIdeal.nD Cert.GatingIdeal.τ).loc Cert.GatingIdeal.main_arg3)
      ∧ m' ((c.tc : Thread Cert.GatingRefIdeal.nD Cert.GatingRefIdeal.τ).loc Cert.GatingRefIdeal.main_arg4) = m ((c.tc : Thread Cert.GatingIdeal.nD Cert.GatingIdeal.τ).loc Cert.GatingIdeal.main_arg4)) →
    ∃ (v0 : (c : Dev Cert.GatingIdeal.nD) → Buf (Elt Ideal) ((c.tc : Thread Cert.GatingIdeal.nD Cert.GatingIdeal.τ).loc Cert.GatingIdeal.main_v30)),
      θ_run (Cert.GatingIdeal.defs (F := Ideal)) (onTc (τ := Cert.GatingIdeal.τ) (Cert.GatingIdeal.main (F := Ideal))) ⟨m, fun _ => 0, g⟩ (fun r => ∀ c : Dev Cert.GatingIdeal.nD,
          r.2.mem ((c.tc : Thread Cert.GatingIdeal.nD Cert.GatingIdeal.τ).loc Cert.GatingIdeal.main_v30) = v0 c
          ∧ r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
          ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
          ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
          ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
          ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4))
      ∧ θ_run (Cert.GatingRefIdeal.defs (F := Ideal)) (onTc (τ := Cert.GatingRefIdeal.τ) (Cert.GatingRefIdeal.main (F := Ideal))) ⟨m', fun _ => 0, g'⟩ (fun r => ∀ c : Dev Cert.GatingRefIdeal.nD,
          r.2.mem ((c.tc : Thread Cert.GatingRefIdeal.nD Cert.GatingRefIdeal.τ).loc Cert.GatingRefIdeal.main_v75) = v0 c
          ∧ r.2.mem ((c.tc : Thread Cert.GatingRefIdeal.nD Cert.GatingRefIdeal.τ).loc Cert.GatingRefIdeal.main_arg0) = m' ((c.tc : Thread Cert.GatingRefIdeal.nD Cert.GatingRefIdeal.τ).loc Cert.GatingRefIdeal.main_arg0)
          ∧ r.2.mem ((c.tc : Thread Cert.GatingRefIdeal.nD Cert.GatingRefIdeal.τ).loc Cert.GatingRefIdeal.main_arg1) = m' ((c.tc : Thread Cert.GatingRefIdeal.nD Cert.GatingRefIdeal.τ).loc Cert.GatingRefIdeal.main_arg1)
          ∧ r.2.mem ((c.tc : Thread Cert.GatingRefIdeal.nD Cert.GatingRefIdeal.τ).loc Cert.GatingRefIdeal.main_arg2) = m' ((c.tc : Thread Cert.GatingRefIdeal.nD Cert.GatingRefIdeal.τ).loc Cert.GatingRefIdeal.main_arg2)
          ∧ r.2.mem ((c.tc : Thread Cert.GatingRefIdeal.nD Cert.GatingRefIdeal.τ).loc Cert.GatingRefIdeal.main_arg3) = m' ((c.tc : Thread Cert.GatingRefIdeal.nD Cert.GatingRefIdeal.τ).loc Cert.GatingRefIdeal.main_arg3)
          ∧ r.2.mem ((c.tc : Thread Cert.GatingRefIdeal.nD Cert.GatingRefIdeal.τ).loc Cert.GatingRefIdeal.main_arg4) = m' ((c.tc : Thread Cert.GatingRefIdeal.nD Cert.GatingRefIdeal.τ).loc Cert.GatingRefIdeal.main_arg4))

def preserves_FfnWeight_FfnWeightIdeal : Prop :=
  True

def algebraic_FfnWeightIdeal_FfnWeightRefIdeal [hFfnWeightIdeal : Cert.FfnWeightIdeal.Facts] [hFfnWeightRefIdeal : Cert.FfnWeightRefIdeal.Facts] : Prop :=
  ∀ (m : (ℓ : Loc Cert.FfnWeightIdeal.nD Cert.FfnWeightIdeal.τ Cert.FfnWeightIdeal.sig) → Buf (Elt Ideal) ℓ) (g : Dev Cert.FfnWeightIdeal.nD → PrngReg)
    (m' : (ℓ : Loc Cert.FfnWeightRefIdeal.nD Cert.FfnWeightRefIdeal.τ Cert.FfnWeightRefIdeal.sig) → Buf (Elt Ideal) ℓ) (g' : Dev Cert.FfnWeightRefIdeal.nD → PrngReg), Pre_FfnWeightIdeal m →
    (∀ c : Dev Cert.FfnWeightIdeal.nD,
      m' ((c.tc : Thread Cert.FfnWeightRefIdeal.nD Cert.FfnWeightRefIdeal.τ).loc Cert.FfnWeightRefIdeal.main_arg0) = m ((c.tc : Thread Cert.FfnWeightIdeal.nD Cert.FfnWeightIdeal.τ).loc Cert.FfnWeightIdeal.main_arg0)
      ∧ m' ((c.tc : Thread Cert.FfnWeightRefIdeal.nD Cert.FfnWeightRefIdeal.τ).loc Cert.FfnWeightRefIdeal.main_arg1) = m ((c.tc : Thread Cert.FfnWeightIdeal.nD Cert.FfnWeightIdeal.τ).loc Cert.FfnWeightIdeal.main_arg1)) →
    ∃ (v0 : (c : Dev Cert.FfnWeightIdeal.nD) → Buf (Elt Ideal) ((c.tc : Thread Cert.FfnWeightIdeal.nD Cert.FfnWeightIdeal.τ).loc Cert.FfnWeightIdeal.main_v0)),
      θ_run (Cert.FfnWeightIdeal.defs (F := Ideal)) (onTc (τ := Cert.FfnWeightIdeal.τ) (Cert.FfnWeightIdeal.main (F := Ideal))) ⟨m, fun _ => 0, g⟩ (fun r => ∀ c : Dev Cert.FfnWeightIdeal.nD,
          r.2.mem ((c.tc : Thread Cert.FfnWeightIdeal.nD Cert.FfnWeightIdeal.τ).loc Cert.FfnWeightIdeal.main_v0) = v0 c
          ∧ r.2.mem ((c.tc : Thread Cert.FfnWeightIdeal.nD Cert.FfnWeightIdeal.τ).loc Cert.FfnWeightIdeal.main_arg0) = m ((c.tc : Thread Cert.FfnWeightIdeal.nD Cert.FfnWeightIdeal.τ).loc Cert.FfnWeightIdeal.main_arg0)
          ∧ r.2.mem ((c.tc : Thread Cert.FfnWeightIdeal.nD Cert.FfnWeightIdeal.τ).loc Cert.FfnWeightIdeal.main_arg1) = m ((c.tc : Thread Cert.FfnWeightIdeal.nD Cert.FfnWeightIdeal.τ).loc Cert.FfnWeightIdeal.main_arg1))
      ∧ θ_run (Cert.FfnWeightRefIdeal.defs (F := Ideal)) (onTc (τ := Cert.FfnWeightRefIdeal.τ) (Cert.FfnWeightRefIdeal.main (F := Ideal))) ⟨m', fun _ => 0, g'⟩ (fun r => ∀ c : Dev Cert.FfnWeightRefIdeal.nD,
          r.2.mem ((c.tc : Thread Cert.FfnWeightRefIdeal.nD Cert.FfnWeightRefIdeal.τ).loc Cert.FfnWeightRefIdeal.main_v8) = v0 c
          ∧ r.2.mem ((c.tc : Thread Cert.FfnWeightRefIdeal.nD Cert.FfnWeightRefIdeal.τ).loc Cert.FfnWeightRefIdeal.main_arg0) = m' ((c.tc : Thread Cert.FfnWeightRefIdeal.nD Cert.FfnWeightRefIdeal.τ).loc Cert.FfnWeightRefIdeal.main_arg0)
          ∧ r.2.mem ((c.tc : Thread Cert.FfnWeightRefIdeal.nD Cert.FfnWeightRefIdeal.τ).loc Cert.FfnWeightRefIdeal.main_arg1) = m' ((c.tc : Thread Cert.FfnWeightRefIdeal.nD Cert.FfnWeightRefIdeal.τ).loc Cert.FfnWeightRefIdeal.main_arg1))

def preserves_MixWeight_MixWeightIdeal : Prop :=
  True

def algebraic_MixWeightIdeal_MixWeightRefIdeal [hMixWeightIdeal : Cert.MixWeightIdeal.Facts] [hMixWeightRefIdeal : Cert.MixWeightRefIdeal.Facts] : Prop :=
  ∀ (m : (ℓ : Loc Cert.MixWeightIdeal.nD Cert.MixWeightIdeal.τ Cert.MixWeightIdeal.sig) → Buf (Elt Ideal) ℓ) (g : Dev Cert.MixWeightIdeal.nD → PrngReg)
    (m' : (ℓ : Loc Cert.MixWeightRefIdeal.nD Cert.MixWeightRefIdeal.τ Cert.MixWeightRefIdeal.sig) → Buf (Elt Ideal) ℓ) (g' : Dev Cert.MixWeightRefIdeal.nD → PrngReg), Pre_MixWeightIdeal m →
    (∀ c : Dev Cert.MixWeightIdeal.nD,
      m' ((c.tc : Thread Cert.MixWeightRefIdeal.nD Cert.MixWeightRefIdeal.τ).loc Cert.MixWeightRefIdeal.main_arg0) = m ((c.tc : Thread Cert.MixWeightIdeal.nD Cert.MixWeightIdeal.τ).loc Cert.MixWeightIdeal.main_arg0)
      ∧ m' ((c.tc : Thread Cert.MixWeightRefIdeal.nD Cert.MixWeightRefIdeal.τ).loc Cert.MixWeightRefIdeal.main_arg1) = m ((c.tc : Thread Cert.MixWeightIdeal.nD Cert.MixWeightIdeal.τ).loc Cert.MixWeightIdeal.main_arg1)
      ∧ m' ((c.tc : Thread Cert.MixWeightRefIdeal.nD Cert.MixWeightRefIdeal.τ).loc Cert.MixWeightRefIdeal.main_arg2) = m ((c.tc : Thread Cert.MixWeightIdeal.nD Cert.MixWeightIdeal.τ).loc Cert.MixWeightIdeal.main_arg2)
      ∧ m' ((c.tc : Thread Cert.MixWeightRefIdeal.nD Cert.MixWeightRefIdeal.τ).loc Cert.MixWeightRefIdeal.main_arg3) = m ((c.tc : Thread Cert.MixWeightIdeal.nD Cert.MixWeightIdeal.τ).loc Cert.MixWeightIdeal.main_arg3)) →
    ∃ (v0 : (c : Dev Cert.MixWeightIdeal.nD) → Buf (Elt Ideal) ((c.tc : Thread Cert.MixWeightIdeal.nD Cert.MixWeightIdeal.τ).loc Cert.MixWeightIdeal.main_v0)),
      θ_run (Cert.MixWeightIdeal.defs (F := Ideal)) (onTc (τ := Cert.MixWeightIdeal.τ) (Cert.MixWeightIdeal.main (F := Ideal))) ⟨m, fun _ => 0, g⟩ (fun r => ∀ c : Dev Cert.MixWeightIdeal.nD,
          r.2.mem ((c.tc : Thread Cert.MixWeightIdeal.nD Cert.MixWeightIdeal.τ).loc Cert.MixWeightIdeal.main_v0) = v0 c
          ∧ r.2.mem ((c.tc : Thread Cert.MixWeightIdeal.nD Cert.MixWeightIdeal.τ).loc Cert.MixWeightIdeal.main_arg0) = m ((c.tc : Thread Cert.MixWeightIdeal.nD Cert.MixWeightIdeal.τ).loc Cert.MixWeightIdeal.main_arg0)
          ∧ r.2.mem ((c.tc : Thread Cert.MixWeightIdeal.nD Cert.MixWeightIdeal.τ).loc Cert.MixWeightIdeal.main_arg1) = m ((c.tc : Thread Cert.MixWeightIdeal.nD Cert.MixWeightIdeal.τ).loc Cert.MixWeightIdeal.main_arg1)
          ∧ r.2.mem ((c.tc : Thread Cert.MixWeightIdeal.nD Cert.MixWeightIdeal.τ).loc Cert.MixWeightIdeal.main_arg2) = m ((c.tc : Thread Cert.MixWeightIdeal.nD Cert.MixWeightIdeal.τ).loc Cert.MixWeightIdeal.main_arg2)
          ∧ r.2.mem ((c.tc : Thread Cert.MixWeightIdeal.nD Cert.MixWeightIdeal.τ).loc Cert.MixWeightIdeal.main_arg3) = m ((c.tc : Thread Cert.MixWeightIdeal.nD Cert.MixWeightIdeal.τ).loc Cert.MixWeightIdeal.main_arg3))
      ∧ θ_run (Cert.MixWeightRefIdeal.defs (F := Ideal)) (onTc (τ := Cert.MixWeightRefIdeal.τ) (Cert.MixWeightRefIdeal.main (F := Ideal))) ⟨m', fun _ => 0, g'⟩ (fun r => ∀ c : Dev Cert.MixWeightRefIdeal.nD,
          r.2.mem ((c.tc : Thread Cert.MixWeightRefIdeal.nD Cert.MixWeightRefIdeal.τ).loc Cert.MixWeightRefIdeal.main_v9) = v0 c
          ∧ r.2.mem ((c.tc : Thread Cert.MixWeightRefIdeal.nD Cert.MixWeightRefIdeal.τ).loc Cert.MixWeightRefIdeal.main_arg0) = m' ((c.tc : Thread Cert.MixWeightRefIdeal.nD Cert.MixWeightRefIdeal.τ).loc Cert.MixWeightRefIdeal.main_arg0)
          ∧ r.2.mem ((c.tc : Thread Cert.MixWeightRefIdeal.nD Cert.MixWeightRefIdeal.τ).loc Cert.MixWeightRefIdeal.main_arg1) = m' ((c.tc : Thread Cert.MixWeightRefIdeal.nD Cert.MixWeightRefIdeal.τ).loc Cert.MixWeightRefIdeal.main_arg1)
          ∧ r.2.mem ((c.tc : Thread Cert.MixWeightRefIdeal.nD Cert.MixWeightRefIdeal.τ).loc Cert.MixWeightRefIdeal.main_arg2) = m' ((c.tc : Thread Cert.MixWeightRefIdeal.nD Cert.MixWeightRefIdeal.τ).loc Cert.MixWeightRefIdeal.main_arg2)
          ∧ r.2.mem ((c.tc : Thread Cert.MixWeightRefIdeal.nD Cert.MixWeightRefIdeal.τ).loc Cert.MixWeightRefIdeal.main_arg3) = m' ((c.tc : Thread Cert.MixWeightRefIdeal.nD Cert.MixWeightRefIdeal.τ).loc Cert.MixWeightRefIdeal.main_arg3))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_BlockSum_BlockSumIdeal : Prop :=
  True

def algebraic_BlockSumIdeal_BlockSumRefIdeal [hBlockSumIdeal : Cert.BlockSumIdeal.Facts] [hBlockSumRefIdeal : Cert.BlockSumRefIdeal.Facts] : Prop :=
  ∀ (m : (ℓ : Loc Cert.BlockSumIdeal.nD Cert.BlockSumIdeal.τ Cert.BlockSumIdeal.sig) → Buf (Elt Ideal) ℓ) (g : Dev Cert.BlockSumIdeal.nD → PrngReg)
    (m' : (ℓ : Loc Cert.BlockSumRefIdeal.nD Cert.BlockSumRefIdeal.τ Cert.BlockSumRefIdeal.sig) → Buf (Elt Ideal) ℓ) (g' : Dev Cert.BlockSumRefIdeal.nD → PrngReg), Pre_BlockSumIdeal m →
    (∀ c : Dev Cert.BlockSumIdeal.nD,
      m' ((c.tc : Thread Cert.BlockSumRefIdeal.nD Cert.BlockSumRefIdeal.τ).loc Cert.BlockSumRefIdeal.main_arg0) = m ((c.tc : Thread Cert.BlockSumIdeal.nD Cert.BlockSumIdeal.τ).loc Cert.BlockSumIdeal.main_arg0)) →
    ∃ (v0 : (c : Dev Cert.BlockSumIdeal.nD) → Buf (Elt Ideal) ((c.tc : Thread Cert.BlockSumIdeal.nD Cert.BlockSumIdeal.τ).loc Cert.BlockSumIdeal.main_v0)),
      θ_run (Cert.BlockSumIdeal.defs (F := Ideal)) (onTc (τ := Cert.BlockSumIdeal.τ) (Cert.BlockSumIdeal.main (F := Ideal))) ⟨m, fun _ => 0, g⟩ (fun r => ∀ c : Dev Cert.BlockSumIdeal.nD,
          r.2.mem ((c.tc : Thread Cert.BlockSumIdeal.nD Cert.BlockSumIdeal.τ).loc Cert.BlockSumIdeal.main_v0) = v0 c
          ∧ r.2.mem ((c.tc : Thread Cert.BlockSumIdeal.nD Cert.BlockSumIdeal.τ).loc Cert.BlockSumIdeal.main_arg0) = m ((c.tc : Thread Cert.BlockSumIdeal.nD Cert.BlockSumIdeal.τ).loc Cert.BlockSumIdeal.main_arg0))
      ∧ θ_run (Cert.BlockSumRefIdeal.defs (F := Ideal)) (onTc (τ := Cert.BlockSumRefIdeal.τ) (Cert.BlockSumRefIdeal.main (F := Ideal))) ⟨m', fun _ => 0, g'⟩ (fun r => ∀ c : Dev Cert.BlockSumRefIdeal.nD,
          r.2.mem ((c.tc : Thread Cert.BlockSumRefIdeal.nD Cert.BlockSumRefIdeal.τ).loc Cert.BlockSumRefIdeal.main_v0) = v0 c
          ∧ r.2.mem ((c.tc : Thread Cert.BlockSumRefIdeal.nD Cert.BlockSumRefIdeal.τ).loc Cert.BlockSumRefIdeal.main_arg0) = m' ((c.tc : Thread Cert.BlockSumRefIdeal.nD Cert.BlockSumRefIdeal.τ).loc Cert.BlockSumRefIdeal.main_arg0))

def Claim : Prop :=
  ∃ (hAct : Cert.Act.Facts) (hActIdeal : Cert.ActIdeal.Facts) (hActRefIdeal : Cert.ActRefIdeal.Facts) (hMerge : Cert.Merge.Facts) (hMergeIdeal : Cert.MergeIdeal.Facts) (hMergeRefIdeal : Cert.MergeRefIdeal.Facts) (hXattn : Cert.Xattn.Facts) (hXattnIdeal : Cert.XattnIdeal.Facts) (hXattnRefIdeal : Cert.XattnRefIdeal.Facts) (hLoss : Cert.Loss.Facts) (hLossIdeal : Cert.LossIdeal.Facts) (hLossRefIdeal : Cert.LossRefIdeal.Facts) (hFfnNorm : Cert.FfnNorm.Facts) (hFfnNormIdeal : Cert.FfnNormIdeal.Facts) (hFfnNormRefIdeal : Cert.FfnNormRefIdeal.Facts) (hQueryNorm : Cert.QueryNorm.Facts) (hQueryNormIdeal : Cert.QueryNormIdeal.Facts) (hQueryNormRefIdeal : Cert.QueryNormRefIdeal.Facts) (hMemoryNorm : Cert.MemoryNorm.Facts) (hMemoryNormIdeal : Cert.MemoryNormIdeal.Facts) (hMemoryNormRefIdeal : Cert.MemoryNormRefIdeal.Facts) (hMixNorm : Cert.MixNorm.Facts) (hMixNormIdeal : Cert.MixNormIdeal.Facts) (hMixNormRefIdeal : Cert.MixNormRefIdeal.Facts) (hAttnBack : Cert.AttnBack.Facts) (hAttnBackIdeal : Cert.AttnBackIdeal.Facts) (hGatingBack : Cert.GatingBack.Facts) (hGatingBackIdeal : Cert.GatingBackIdeal.Facts) (hBiasBack : Cert.BiasBack.Facts) (hBiasBackIdeal : Cert.BiasBackIdeal.Facts) (hBiasBackRefIdeal : Cert.BiasBackRefIdeal.Facts) (hAttn : Cert.Attn.Facts) (hAttnIdeal : Cert.AttnIdeal.Facts) (hAttnRefIdeal : Cert.AttnRefIdeal.Facts) (hMixIn : Cert.MixIn.Facts) (hMixInIdeal : Cert.MixInIdeal.Facts) (hMixInRefIdeal : Cert.MixInRefIdeal.Facts) (hQueryIn : Cert.QueryIn.Facts) (hQueryInIdeal : Cert.QueryInIdeal.Facts) (hQueryInRefIdeal : Cert.QueryInRefIdeal.Facts) (hMemoryIn : Cert.MemoryIn.Facts) (hMemoryInIdeal : Cert.MemoryInIdeal.Facts) (hMemoryInRefIdeal : Cert.MemoryInRefIdeal.Facts) (hFfnIn : Cert.FfnIn.Facts) (hFfnInIdeal : Cert.FfnInIdeal.Facts) (hFfnInRefIdeal : Cert.FfnInRefIdeal.Facts) (hGating : Cert.Gating.Facts) (hGatingIdeal : Cert.GatingIdeal.Facts) (hGatingRefIdeal : Cert.GatingRefIdeal.Facts) (hFfnWeight : Cert.FfnWeight.Facts) (hFfnWeightIdeal : Cert.FfnWeightIdeal.Facts) (hFfnWeightRefIdeal : Cert.FfnWeightRefIdeal.Facts) (hMixWeight : Cert.MixWeight.Facts) (hMixWeightIdeal : Cert.MixWeightIdeal.Facts) (hMixWeightRefIdeal : Cert.MixWeightRefIdeal.Facts) (hAdam : Cert.Adam.Facts) (hAdamIdeal : Cert.AdamIdeal.Facts) (hAdamRefIdeal : Cert.AdamRefIdeal.Facts) (hBlockSum : Cert.BlockSum.Facts) (hBlockSumIdeal : Cert.BlockSumIdeal.Facts) (hBlockSumRefIdeal : Cert.BlockSumRefIdeal.Facts) (hPre_act_finite : Cert.Pre_act_finite.Facts) (hPre_merge_finite : Cert.Pre_merge_finite.Facts) (hPre_xattn_finite : Cert.Pre_xattn_finite.Facts) (hPre_loss_finite : Cert.Pre_loss_finite.Facts) (hPre_ffn_norm_finite : Cert.Pre_ffn_norm_finite.Facts) (hPre_query_norm_finite : Cert.Pre_query_norm_finite.Facts) (hPre_memory_norm_finite : Cert.Pre_memory_norm_finite.Facts) (hPre_mix_norm_finite : Cert.Pre_mix_norm_finite.Facts) (hPre_attn_finite : Cert.Pre_attn_finite.Facts) (hPre_gating_finite : Cert.Pre_gating_finite.Facts),
    quiescent_Act (hAct := hAct)
    ∧ quiescent_ActIdeal (hActIdeal := hActIdeal)
    ∧ quiescent_ActIdeal_pre_act_finite (hActIdeal := hActIdeal) (hPre_act_finite := hPre_act_finite)
    ∧ quiescent_ActRefIdeal (hActRefIdeal := hActRefIdeal)
    ∧ quiescent_ActRefIdeal_pre_act_finite (hActRefIdeal := hActRefIdeal) (hPre_act_finite := hPre_act_finite)
    ∧ quiescent_Merge (hMerge := hMerge)
    ∧ quiescent_MergeIdeal (hMergeIdeal := hMergeIdeal)
    ∧ quiescent_MergeIdeal_pre_merge_finite (hMergeIdeal := hMergeIdeal) (hPre_merge_finite := hPre_merge_finite)
    ∧ quiescent_MergeRefIdeal (hMergeRefIdeal := hMergeRefIdeal)
    ∧ quiescent_MergeRefIdeal_pre_merge_finite (hMergeRefIdeal := hMergeRefIdeal) (hPre_merge_finite := hPre_merge_finite)
    ∧ quiescent_Xattn (hXattn := hXattn)
    ∧ quiescent_XattnIdeal (hXattnIdeal := hXattnIdeal)
    ∧ quiescent_XattnIdeal_pre_xattn_finite (hXattnIdeal := hXattnIdeal) (hPre_xattn_finite := hPre_xattn_finite)
    ∧ quiescent_XattnRefIdeal (hXattnRefIdeal := hXattnRefIdeal)
    ∧ quiescent_XattnRefIdeal_pre_xattn_finite (hXattnRefIdeal := hXattnRefIdeal) (hPre_xattn_finite := hPre_xattn_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_FfnNorm (hFfnNorm := hFfnNorm)
    ∧ quiescent_FfnNormIdeal (hFfnNormIdeal := hFfnNormIdeal)
    ∧ quiescent_FfnNormIdeal_pre_ffn_norm_finite (hFfnNormIdeal := hFfnNormIdeal) (hPre_ffn_norm_finite := hPre_ffn_norm_finite)
    ∧ quiescent_FfnNormRefIdeal (hFfnNormRefIdeal := hFfnNormRefIdeal)
    ∧ quiescent_FfnNormRefIdeal_pre_ffn_norm_finite (hFfnNormRefIdeal := hFfnNormRefIdeal) (hPre_ffn_norm_finite := hPre_ffn_norm_finite)
    ∧ quiescent_QueryNorm (hQueryNorm := hQueryNorm)
    ∧ quiescent_QueryNormIdeal (hQueryNormIdeal := hQueryNormIdeal)
    ∧ quiescent_QueryNormIdeal_pre_query_norm_finite (hQueryNormIdeal := hQueryNormIdeal) (hPre_query_norm_finite := hPre_query_norm_finite)
    ∧ quiescent_QueryNormRefIdeal (hQueryNormRefIdeal := hQueryNormRefIdeal)
    ∧ quiescent_QueryNormRefIdeal_pre_query_norm_finite (hQueryNormRefIdeal := hQueryNormRefIdeal) (hPre_query_norm_finite := hPre_query_norm_finite)
    ∧ quiescent_MemoryNorm (hMemoryNorm := hMemoryNorm)
    ∧ quiescent_MemoryNormIdeal (hMemoryNormIdeal := hMemoryNormIdeal)
    ∧ quiescent_MemoryNormIdeal_pre_memory_norm_finite (hMemoryNormIdeal := hMemoryNormIdeal) (hPre_memory_norm_finite := hPre_memory_norm_finite)
    ∧ quiescent_MemoryNormRefIdeal (hMemoryNormRefIdeal := hMemoryNormRefIdeal)
    ∧ quiescent_MemoryNormRefIdeal_pre_memory_norm_finite (hMemoryNormRefIdeal := hMemoryNormRefIdeal) (hPre_memory_norm_finite := hPre_memory_norm_finite)
    ∧ quiescent_MixNorm (hMixNorm := hMixNorm)
    ∧ quiescent_MixNormIdeal (hMixNormIdeal := hMixNormIdeal)
    ∧ quiescent_MixNormIdeal_pre_mix_norm_finite (hMixNormIdeal := hMixNormIdeal) (hPre_mix_norm_finite := hPre_mix_norm_finite)
    ∧ quiescent_MixNormRefIdeal (hMixNormRefIdeal := hMixNormRefIdeal)
    ∧ quiescent_MixNormRefIdeal_pre_mix_norm_finite (hMixNormRefIdeal := hMixNormRefIdeal) (hPre_mix_norm_finite := hPre_mix_norm_finite)
    ∧ quiescent_AttnBack (hAttnBack := hAttnBack)
    ∧ quiescent_AttnBackIdeal (hAttnBackIdeal := hAttnBackIdeal)
    ∧ quiescent_GatingBack (hGatingBack := hGatingBack)
    ∧ quiescent_GatingBackIdeal (hGatingBackIdeal := hGatingBackIdeal)
    ∧ quiescent_BiasBack (hBiasBack := hBiasBack)
    ∧ quiescent_BiasBackIdeal (hBiasBackIdeal := hBiasBackIdeal)
    ∧ quiescent_BiasBackRefIdeal (hBiasBackRefIdeal := hBiasBackRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_MixIn (hMixIn := hMixIn)
    ∧ quiescent_MixInIdeal (hMixInIdeal := hMixInIdeal)
    ∧ quiescent_MixInRefIdeal (hMixInRefIdeal := hMixInRefIdeal)
    ∧ quiescent_QueryIn (hQueryIn := hQueryIn)
    ∧ quiescent_QueryInIdeal (hQueryInIdeal := hQueryInIdeal)
    ∧ quiescent_QueryInRefIdeal (hQueryInRefIdeal := hQueryInRefIdeal)
    ∧ quiescent_MemoryIn (hMemoryIn := hMemoryIn)
    ∧ quiescent_MemoryInIdeal (hMemoryInIdeal := hMemoryInIdeal)
    ∧ quiescent_MemoryInRefIdeal (hMemoryInRefIdeal := hMemoryInRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_Gating (hGating := hGating)
    ∧ quiescent_GatingIdeal (hGatingIdeal := hGatingIdeal)
    ∧ quiescent_GatingIdeal_pre_gating_finite (hGatingIdeal := hGatingIdeal) (hPre_gating_finite := hPre_gating_finite)
    ∧ quiescent_GatingRefIdeal (hGatingRefIdeal := hGatingRefIdeal)
    ∧ quiescent_GatingRefIdeal_pre_gating_finite (hGatingRefIdeal := hGatingRefIdeal) (hPre_gating_finite := hPre_gating_finite)
    ∧ quiescent_FfnWeight (hFfnWeight := hFfnWeight)
    ∧ quiescent_FfnWeightIdeal (hFfnWeightIdeal := hFfnWeightIdeal)
    ∧ quiescent_FfnWeightRefIdeal (hFfnWeightRefIdeal := hFfnWeightRefIdeal)
    ∧ quiescent_MixWeight (hMixWeight := hMixWeight)
    ∧ quiescent_MixWeightIdeal (hMixWeightIdeal := hMixWeightIdeal)
    ∧ quiescent_MixWeightRefIdeal (hMixWeightRefIdeal := hMixWeightRefIdeal)
    ∧ quiescent_Adam (hAdam := hAdam)
    ∧ quiescent_AdamIdeal (hAdamIdeal := hAdamIdeal)
    ∧ quiescent_AdamRefIdeal (hAdamRefIdeal := hAdamRefIdeal)
    ∧ quiescent_BlockSum (hBlockSum := hBlockSum)
    ∧ quiescent_BlockSumIdeal (hBlockSumIdeal := hBlockSumIdeal)
    ∧ quiescent_BlockSumRefIdeal (hBlockSumRefIdeal := hBlockSumRefIdeal)
    ∧ preserves_Act_ActIdeal
    ∧ algebraic_ActIdeal_ActRefIdeal_pre_act_finite (hActIdeal := hActIdeal) (hActRefIdeal := hActRefIdeal) (hPre_act_finite := hPre_act_finite)
    ∧ preserves_Merge_MergeIdeal
    ∧ algebraic_MergeIdeal_MergeRefIdeal_pre_merge_finite (hMergeIdeal := hMergeIdeal) (hMergeRefIdeal := hMergeRefIdeal) (hPre_merge_finite := hPre_merge_finite)
    ∧ preserves_Xattn_XattnIdeal
    ∧ algebraic_XattnIdeal_XattnRefIdeal_pre_xattn_finite (hXattnIdeal := hXattnIdeal) (hXattnRefIdeal := hXattnRefIdeal) (hPre_xattn_finite := hPre_xattn_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_FfnNorm_FfnNormIdeal
    ∧ algebraic_FfnNormIdeal_FfnNormRefIdeal_pre_ffn_norm_finite (hFfnNormIdeal := hFfnNormIdeal) (hFfnNormRefIdeal := hFfnNormRefIdeal) (hPre_ffn_norm_finite := hPre_ffn_norm_finite)
    ∧ preserves_QueryNorm_QueryNormIdeal
    ∧ algebraic_QueryNormIdeal_QueryNormRefIdeal_pre_query_norm_finite (hQueryNormIdeal := hQueryNormIdeal) (hQueryNormRefIdeal := hQueryNormRefIdeal) (hPre_query_norm_finite := hPre_query_norm_finite)
    ∧ preserves_MemoryNorm_MemoryNormIdeal
    ∧ algebraic_MemoryNormIdeal_MemoryNormRefIdeal_pre_memory_norm_finite (hMemoryNormIdeal := hMemoryNormIdeal) (hMemoryNormRefIdeal := hMemoryNormRefIdeal) (hPre_memory_norm_finite := hPre_memory_norm_finite)
    ∧ preserves_MixNorm_MixNormIdeal
    ∧ algebraic_MixNormIdeal_MixNormRefIdeal_pre_mix_norm_finite (hMixNormIdeal := hMixNormIdeal) (hMixNormRefIdeal := hMixNormRefIdeal) (hPre_mix_norm_finite := hPre_mix_norm_finite)
    ∧ preserves_AttnBack_AttnBackIdeal
    ∧ preserves_GatingBack_GatingBackIdeal
    ∧ preserves_BiasBack_BiasBackIdeal
    ∧ algebraic_BiasBackIdeal_BiasBackRefIdeal (hBiasBackIdeal := hBiasBackIdeal) (hBiasBackRefIdeal := hBiasBackRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_MixIn_MixInIdeal
    ∧ algebraic_MixInIdeal_MixInRefIdeal (hMixInIdeal := hMixInIdeal) (hMixInRefIdeal := hMixInRefIdeal)
    ∧ preserves_QueryIn_QueryInIdeal
    ∧ algebraic_QueryInIdeal_QueryInRefIdeal (hQueryInIdeal := hQueryInIdeal) (hQueryInRefIdeal := hQueryInRefIdeal)
    ∧ preserves_MemoryIn_MemoryInIdeal
    ∧ algebraic_MemoryInIdeal_MemoryInRefIdeal (hMemoryInIdeal := hMemoryInIdeal) (hMemoryInRefIdeal := hMemoryInRefIdeal)
    ∧ preserves_FfnIn_FfnInIdeal
    ∧ algebraic_FfnInIdeal_FfnInRefIdeal (hFfnInIdeal := hFfnInIdeal) (hFfnInRefIdeal := hFfnInRefIdeal)
    ∧ preserves_Gating_GatingIdeal
    ∧ algebraic_GatingIdeal_GatingRefIdeal_pre_gating_finite (hGatingIdeal := hGatingIdeal) (hGatingRefIdeal := hGatingRefIdeal) (hPre_gating_finite := hPre_gating_finite)
    ∧ preserves_FfnWeight_FfnWeightIdeal
    ∧ algebraic_FfnWeightIdeal_FfnWeightRefIdeal (hFfnWeightIdeal := hFfnWeightIdeal) (hFfnWeightRefIdeal := hFfnWeightRefIdeal)
    ∧ preserves_MixWeight_MixWeightIdeal
    ∧ algebraic_MixWeightIdeal_MixWeightRefIdeal (hMixWeightIdeal := hMixWeightIdeal) (hMixWeightRefIdeal := hMixWeightRefIdeal)
    ∧ preserves_Adam_AdamIdeal
    ∧ algebraic_AdamIdeal_AdamRefIdeal (hAdamIdeal := hAdamIdeal) (hAdamRefIdeal := hAdamRefIdeal)
    ∧ preserves_BlockSum_BlockSumIdeal
    ∧ algebraic_BlockSumIdeal_BlockSumRefIdeal (hBlockSumIdeal := hBlockSumIdeal) (hBlockSumRefIdeal := hBlockSumRefIdeal)
-- ==== Pre_act_finite.lean ====
abbrev S8192x5632 : Shape := ⟨2, ![8192, 5632]⟩
abbrev S2816x1024 : Shape := ⟨2, ![2816, 1024]⟩
abbrev S8192x1024 : Shape := ⟨2, ![8192, 1024]⟩
abbrev S_ : Shape := ⟨0, ![]⟩

class Facts : Prop where
  bitsLt_bf16_f32 : FTy.bits .bf16 < FTy.bits .f32
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x5632 .bf16) (main_arg1 : FVec F S2816x1024 .f32) (main_arg2 : FVec F S8192x1024 .f32) : IVec S_ 1 :=
  let main_v0 : FVec F S8192x5632 .f32 := (extf .f32 · bitsLt_bf16_f32) main_arg0
  let main_v1 : FVec F S8192x5632 .f32 := Host.absf main_v0
  let main_cst : FVec F S_ .f32 := constant S_ .f32 0x7F800000#32
  let main_v2 : FVec F S8192x5632 .f32 := broadcastInDim S8192x5632 ![] bcast_S_S8192x5632 main_cst
  let main_v3 : IVec S8192x5632 1 := cmpf .olt main_v1 main_v2
  let main_c : IVec S_ 1 := constantI S_ 1 1#1
  let main_v4 : IVec S_ 1 := (fun x v => Host.reduce IntOp.andi x v reducesTo_S8192x5632_S_d0_1 h_S_) main_v3 main_c
  let main_v5 : FVec F S2816x1024 .f32 := Host.absf main_arg1
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v4 main_v8
  let main_v10 : FVec F S8192x1024 .f32 := Host.absf main_arg2
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : IVec S_ 1 := andi main_v9 main_v13
  main_v14
-- ==== Pre_attn_finite.lean ====
abbrev S8192x4608 : Shape := ⟨2, ![8192, 4608]⟩
abbrev S8x257 : Shape := ⟨2, ![8, 257]⟩
abbrev S_ : Shape := ⟨0, ![]⟩

class Facts : Prop where
  bitsLt_bf16_f32 : FTy.bits .bf16 < FTy.bits .f32
  bcast_S_S8192x4608 : S_.BroadcastsInDim S8192x4608 (![] : Fin 0 → Fin S8192x4608.rank)
  reducesTo_S8192x4608_S_d0_1 : S8192x4608.ReducesTo [0, 1] S_
  h_S_ : 0 < S_.numel
  bcast_S_S8x257 : S_.BroadcastsInDim S8x257 (![] : Fin 0 → Fin S8x257.rank)
  reducesTo_S8x257_S_d0_1 : S8x257.ReducesTo [0, 1] S_

variable [Facts]

def fn {F : FTy → Type} [FloatOps F] (main_arg0 : FVec F S8192x4608 .bf16) (main_arg1 : FVec F S8x257 .f32) : IVec S_ 1 :=
  let main_v0 : FVec F S8192x4608 .f32 := (extf .f32 · bitsLt_bf16_f32) main_arg0
  let main_v1 : FVec F S8192x4608 .f32 := Host.absf main_v0
  let main_cst : FVec F S_ .f32 := constant S_ .f32 0x7F800000#32
  let main_v2 : FVec F S8192x4608 .f32 := broadcastInDim S8192x4608 ![] bcast_S_S8192x4608 main_cst
  let main_v3 : IVec S8192x4608 1 := cmpf .olt main_v1 main_v2
  let main_c : IVec S_ 1 := constantI S_ 1 1#1
  let main_v4 : IVec S_ 1 := (fun x v => Host.reduce IntOp.andi x v reducesTo_S8192x4608_S_d0_1 h_S_) main_v3 main_c
  let main_v5 : FVec F S8x257 .f32 := Host.absf main_arg1
  let main_cst_0 : FVec F S_ .f32 := constant S_ .f32 0x7F800000#32
  let main_v6 : FVec F S8x257 .f32 := broadcastInDim S8x257 ![] bcast_S_S8x257 main_cst_0
  let main_v7 : IVec S8x257 1 := cmpf .olt main_v5 main_v6
  let main_c_1 : IVec S_ 1 := constantI S_ 1 1#1
  let main_v8 : IVec S_ 1 := (fun x v => Host.reduce IntOp.andi x v reducesTo_S8x257_S_d0_1 h_S_) main_v7 main_c_1
  let main_v9 : IVec S_ 1 := andi main_v4 main_v8
  main_v9
-- ==== Pre_ffn_norm_finite.lean ====
abbrev S8192x5632 : Shape := ⟨2, ![8192, 5632]⟩
abbrev S1024x5632 : Shape := ⟨2, ![1024, 5632]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S8192x1024 .f32) (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  let main_v20 : FVec F S8192x1024 .f32 := Host.absf main_arg4
  let main_cst_6 : FVec F S_ .f32 := constant S_ .f32 0x7F800000#32
  let main_v21 : FVec F S8192x1024 .f32 := broadcastInDim S8192x1024 ![] bcast_S_S8192x1024 main_cst_6
  let main_v22 : IVec S8192x1024 1 := cmpf .olt main_v20 main_v21
  let main_c_7 : IVec S_ 1 := constantI S_ 1 1#1
  let main_v23 : IVec S_ 1 := (fun x v => Host.reduce IntOp.andi x v reducesTo_S8192x1024_S_d0_1 h_S_) main_v22 main_c_7
  let main_v24 : IVec S_ 1 := andi main_v19 main_v23
  main_v24

def fn {F : FTy → Type} [FloatOps F] (main_arg0 : FVec F S8192x5632 .bf16) (main_arg1 : FVec F S1024x5632 .f32) (main_arg2 : FVec F S8192x1024 .f32) (main_arg3 : FVec F S1x1024 .f32) (main_arg4 : FVec F S8192x1024 .f32) : IVec S_ 1 :=
  let main_v0 : FVec F S8192x5632 .f32 := (extf .f32 · bitsLt_bf16_f32) main_arg0
  let main_v1 : FVec F S8192x5632 .f32 := Host.absf main_v0
  let main_cst : FVec F S_ .f32 := constant S_ .f32 0x7F800000#32
  let main_v2 : FVec F S8192x5632 .f32 := broadcastInDim S8192x5632 ![] bcast_S_S8192x5632 main_cst
  let main_v3 : IVec S8192x5632 1 := cmpf .olt main_v1 main_v2
  let main_c : IVec S_ 1 := constantI S_ 1 1#1
  let main_v4 : IVec S_ 1 := (fun x v => Host.reduce IntOp.andi x v reducesTo_S8192x5632_S_d0_1 h_S_) main_v3 main_c
  let main_v5 : FVec F S1024x5632 .f32 := Host.absf main_arg1
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_c_1 : IVec S_ 1 := constantI S_ 1 1#1
  let main_v8 : IVec S_ 1 := (fun x v => Host.reduce IntOp.andi x v reducesTo_S1024x5632_S_d0_1 h_S_) main_v7 main_c_1
  let main_v9 : IVec S_ 1 := andi main_v4 main_v8
  let main_v10 : FVec F S8192x1024 .f32 := Host.absf main_arg2
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_arg4 main_v14 main_v15 main_v16
-- ==== Pre_gating_finite.lean ====
abbrev S8192x4608 : Shape := ⟨2, ![8192, 4608]⟩
abbrev S8x64 : Shape := ⟨2, ![8, 64]⟩
abbrev S8x128x128 : Shape := ⟨3, ![8, 128, 128]⟩
abbrev S8x128 : Shape := ⟨2, ![8, 128]⟩
abbrev S_ : Shape := ⟨0, ![]⟩

class Facts : Prop where
  bitsLt_bf16_f32 : FTy.bits .bf16 < FTy.bits .f32
  bcast_S_S8192x4608 : S_.BroadcastsInDim S8192x4608 (![] : Fin 0 → Fin S8192x4608.rank)
  reducesTo_S8192x4608_S_d0_1 : S8192x4608.ReducesTo [0, 1] S_
  h_S_ : 0 < S_.numel

variable [Facts]

def fn {F : FTy → Type} [FloatOps F] (main_arg0 : FVec F S8192x4608 .bf16) (main_arg1 : FVec F S8x64 .f32) (main_arg2 : FVec F S8x64 .f32) (main_arg3 : FVec F S8x128x128 .f32) (main_arg4 : FVec F S8x128 .f32) : IVec S_ 1 :=
  let main_v0 : FVec F S8192x4608 .f32 := (extf .f32 · bitsLt_bf16_f32) main_arg0
  let main_v1 : FVec F S8192x4608 .f32 := Host.absf main_v0
  let main_cst : FVec F S_ .f32 := constant S_ .f32 0x7F800000#32
  let main_v2 : FVec F S8192x4608 .f32 := broadcastInDim S8192x4608 ![] bcast_S_S8192x4608 main_cst
  let main_v3 : IVec S8192x4608 1 := cmpf .olt main_v1 main_v2
  let main_c : IVec S_ 1 := constantI S_ 1 1#1
  let main_v4 : IVec S_ 1 := (fun x v => Host.reduce IntOp.andi x v reducesTo_S8192x4608_S_d0_1 h_S_) main_v3 main_c
  main_v4
-- ==== Pre_loss_finite.lean ====
abbrev S8192x5632 : Shape := ⟨2, ![8192, 5632]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩

class Facts : Prop where
  bitsLt_bf16_f32 : FTy.bits .bf16 < FTy.bits .f32
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S8192x1024 .f32) (main_v14 : IVec S_ 1) (main_v15 : FVec F S1024 .f32) (main_v16 : FVec F S1024 .f32) : IVec S_ 1 :=
  let main_v17 : IVec S1024 1 := cmpf .olt main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v14 main_v18
  let main_v20 : FVec F S8192x1024 .f32 := Host.absf main_arg4
  let main_cst_6 : FVec F S_ .f32 := constant S_ .f32 0x7F800000#32
  let main_v21 : FVec F S8192x1024 .f32 := broadcastInDim S8192x1024 ![] bcast_S_S8192x1024 main_cst_6
  let main_v22 : IVec S8192x1024 1 := cmpf .olt main_v20 main_v21
  let main_c_7 : IVec S_ 1 := constantI S_ 1 1#1
  let main_v23 : IVec S_ 1 := (fun x v => Host.reduce IntOp.andi x v reducesTo_S8192x1024_S_d0_1 h_S_) main_v22 main_c_7
  let main_v24 : IVec S_ 1 := andi main_v19 main_v23
  main_v24

def fn {F : FTy → Type} [FloatOps F] (main_arg0 : FVec F S8192x5632 .bf16) (main_arg1 : FVec F S2816x1024 .f32) (main_arg2 : FVec F S8192x1024 .f32) (main_arg3 : FVec F S1024 .f32) (main_arg4 : FVec F S8192x1024 .f32) : IVec S_ 1 :=
  let main_v0 : FVec F S8192x5632 .f32 := (extf .f32 · bitsLt_bf16_f32) main_arg0
  let main_v1 : FVec F S8192x5632 .f32 := Host.absf main_v0
  let main_cst : FVec F S_ .f32 := constant S_ .f32 0x7F800000#32
  let main_v2 : FVec F S8192x5632 .f32 := broadcastInDim S8192x5632 ![] bcast_S_S8192x5632 main_cst
  let main_v3 : IVec S8192x5632 1 := cmpf .olt main_v1 main_v2
  let main_c : IVec S_ 1 := constantI S_ 1 1#1
  let main_v4 : IVec S_ 1 := (fun x v => Host.reduce IntOp.andi x v reducesTo_S8192x5632_S_d0_1 h_S_) main_v3 main_c
  let main_v5 : FVec F S2816x1024 .f32 := Host.absf main_arg1
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v4 main_v8
  let main_v10 : FVec F S8192x1024 .f32 := Host.absf main_arg2
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : IVec S_ 1 := andi main_v9 main_v13
  let main_v15 : FVec F S1024 .f32 := Host.absf main_arg3
  let main_cst_4 : FVec F S_ .f32 := constant S_ .f32 0x7F800000#32
  let main_v16 : FVec F S1024 .f32 := broadcastInDim S1024 ![] bcast_S_S1024 main_cst_4
  fn_part1 (F := F) main_arg4 main_v14 main_v15 main_v16
-- ==== Pre_memory_norm_finite.lean ====
abbrev S256x2048 : Shape := ⟨2, ![256, 2048]⟩
abbrev S1024x2048 : Shape := ⟨2, ![1024, 2048]⟩
abbrev S256x1024 : Shape := ⟨2, ![256, 1024]⟩
abbrev S1x1024 : Shape := ⟨2, ![1, 1024]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S256x1024 : S_.BroadcastsInDim S256x1024 (![] : Fin 0 → Fin S256x1024.rank)
  reducesTo_S256x1024_S_d0_1 : S256x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S256x2048 .f32) (main_arg1 : FVec F S1024x2048 .f32) (main_arg2 : FVec F S256x1024 .f32) (main_arg3 : FVec F S1x1024 .f32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Pre_merge_finite.lean ====
abbrev S8192x4608 : Shape := ⟨2, ![8192, 4608]⟩
abbrev S8192x512 : Shape := ⟨2, ![8192, 512]⟩
abbrev S8192x1024 : Shape := ⟨2, ![8192, 1024]⟩
abbrev S512x1024 : Shape := ⟨2, ![512, 1024]⟩
abbrev S1024x1024 : Shape := ⟨2, ![1024, 1024]⟩
abbrev S_ : Shape := ⟨0, ![]⟩

class Facts : Prop where
  bitsLt_bf16_f32 : FTy.bits .bf16 < FTy.bits .f32
  bcast_S_S8192x4608 : S_.BroadcastsInDim S8192x4608 (![] : Fin 0 → Fin S8192x4608.rank)
  reducesTo_S8192x4608_S_d0_1 : S8192x4608.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S8192x1024 .f32) (main_v31 : IVec S_ 1) (main_v34 : IVec S1024x1024 1) : IVec S_ 1 :=
  let main_c_11 : IVec S_ 1 := constantI S_ 1 1#1
  let main_v35 : IVec S_ 1 := (fun x v => Host.reduce IntOp.andi x v reducesTo_S1024x1024_S_d0_1 h_S_) main_v34 main_c_11
  let main_v36 : IVec S_ 1 := andi main_v31 main_v35
  let main_v37 : FVec F S8192x1024 .f32 := Host.absf main_arg7
  let main_cst_12 : FVec F S_ .f32 := constant S_ .f32 0x7F800000#32
  let main_v38 : FVec F S8192x1024 .f32 := broadcastInDim S8192x1024 ![] bcast_S_S8192x1024 main_cst_12
  let main_v39 : IVec S8192x1024 1 := cmpf .olt main_v37 main_v38
  let main_c_13 : IVec S_ 1 := constantI S_ 1 1#1
  let main_v40 : IVec S_ 1 := (fun x v => Host.reduce IntOp.andi x v reducesTo_S8192x1024_S_d0_1 h_S_) main_v39 main_c_13
  let main_v41 : IVec S_ 1 := andi main_v36 main_v40
  main_v41

def fn_part1 {F : FTy → Type} [FloatOps F] (main_arg4 : FVec F S512x1024 .f32) (main_arg5 : FVec F S512x1024 .f32) (main_arg6 : FVec F S1024x1024 .f32) (main_arg7 : FVec F S8192x1024 .f32) (main_v16 : IVec S_ 1) (main_v17 : FVec F S8192x1024 .f32) : IVec S_ 1 :=
  let main_cst_4 : FVec F S_ .f32 := constant S_ .f32 0x7F800000#32
  let main_v18 : FVec F S8192x1024 .f32 := broadcastInDim S8192x1024 ![] bcast_S_S8192x1024 main_cst_4
  let main_v19 : IVec S8192x1024 1 := cmpf .olt main_v17 main_v18
  let main_c_5 : IVec S_ 1 := constantI S_ 1 1#1
  let main_v20 : IVec S_ 1 := (fun x v => Host.reduce IntOp.andi x v reducesTo_S8192x1024_S_d0_1 h_S_) main_v19 main_c_5
  let main_v21 : IVec S_ 1 := andi main_v16 main_v20
  let main_v22 : FVec F S512x1024 .f32 := Host.absf main_arg4
  let main_cst_6 : FVec F S_ .f32 := constant S_ .f32 0x7F800000#32
  let main_v23 : FVec F S512x1024 .f32 := broadcastInDim S512x1024 ![] bcast_S_S512x1024 main_cst_6
  let main_v24 : IVec S512x1024 1 := cmpf .olt main_v22 main_v23
  let main_c_7 : IVec S_ 1 := constantI S_ 1 1#1
  let main_v25 : IVec S_ 1 := (fun x v => Host.reduce IntOp.andi x v reducesTo_S512x1024_S_d0_1 h_S_) main_v24 main_c_7
  let main_v26 : IVec S_ 1 := andi main_v21 main_v25
  let main_v27 : FVec F S512x1024 .f32 := Host.absf main_arg5
  let main_cst_8 : FVec F S_ .f32 := constant S_ .f32 0x7F800000#32
  let main_v28 : FVec F S512x1024 .f32 := broadcastInDim S512x1024 ![] bcast_S_S512x1024 main_cst_8
  let main_v29 : IVec S512x1024 1 := cmpf .olt main_v27 main_v28
  let main_c_9 : IVec S_ 1 := constantI S_ 1 1#1
  let main_v30 : IVec S_ 1 := (fun x v => Host.reduce IntOp.andi x v reducesTo_S512x1024_S_d0_1 h_S_) main_v29 main_c_9
  let main_v31 : IVec S_ 1 := andi main_v26 main_v30
  let main_v32 : FVec F S1024x1024 .f32 := Host.absf main_arg6
  let main_cst_10 : FVec F S_ .f32 := constant S_ .f32 0x7F800000#32
  let main_v33 : FVec F S1024x1024 .f32 := broadcastInDim S1024x1024 ![] bcast_S_S1024x1024 main_cst_10
  let main_v34 : IVec S1024x1024 1 := cmpf .olt main_v32 main_v33
  fn_part2 (F := F) main_arg7 main_v31 main_v34

def fn {F : FTy → Type} [FloatOps F] (main_arg0 : FVec F S8192x4608 .bf16) (main_arg1 : FVec F S8192x512 .bf16) (main_arg2 : FVec F S8192x512 .bf16) (main_arg3 : FVec F S8192x1024 .f32) (main_arg4 : FVec F S512x1024 .f32) (main_arg5 : FVec F S512x1024 .f32) (main_arg6 : FVec F S1024x1024 .f32) (main_arg7 : FVec F S8192x1024 .f32) : IVec S_ 1 :=
  let main_v0 : FVec F S8192x4608 .f32 := (extf .f32 · bitsLt_bf16_f32) main_arg0
  let main_v1 : FVec F S8192x4608 .f32 := Host.absf main_v0
  let main_cst : FVec F S_ .f32 := constant S_ .f32 0x7F800000#32
  let main_v2 : FVec F S8192x4608 .f32 := broadcastInDim S8192x4608 ![] bcast_S_S8192x4608 main_cst
  let main_v3 : IVec S8192x4608 1 := cmpf .olt main_v1 main_v2
  let main_c : IVec S_ 1 := constantI S_ 1 1#1
  let main_v4 : IVec S_ 1 := (fun x v => Host.reduce IntOp.andi x v reducesTo_S8192x4608_S_d0_1 h_S_) main_v3 main_c
  let main_v5 : FVec F S8192x512 .f32 := (extf .f32 · bitsLt_bf16_f32) main_arg1
  let main_v6 : FVec F S8192x512 .f32 := Host.absf main_v5
  let main_cst_0 : FVec F S_ .f32 := constant S_ .f32 0x7F800000#32
  let main_v7 : FVec F S8192x512 .f32 := broadcastInDim S8192x512 ![] bcast_S_S8192x512 main_cst_0
  let main_v8 : IVec S8192x512 1 := cmpf .olt main_v6 main_v7
  let main_c_1 : IVec S_ 1 := constantI S_ 1 1#1
  let main_v9 : IVec S_ 1 := (fun x v => Host.reduce IntOp.andi x v reducesTo_S8192x512_S_d0_1 h_S_) main_v8 main_c_1
  let main_v10 : IVec S_ 1 := andi main_v4 main_v9
  let main_v11 : FVec F S8192x512 .f32 := (extf .f32 · bitsLt_bf16_f32) main_arg2
  let main_v12 : FVec F S8192x512 .f32 := Host.absf main_v11
  let main_cst_2 : FVec F S_ .f32 := constant S_ .f32 0x7F800000#32
  let main_v13 : FVec F S8192x512 .f32 := broadcastInDim S8192x512 ![] bcast_S_S8192x512 main_cst_2
  let main_v14 : IVec S8192x512 1 := cmpf .olt main_v12 main_v13
  let main_c_3 : IVec S_ 1 := constantI S_ 1 1#1
  let main_v15 : IVec S_ 1 := (fun x v => Host.reduce IntOp.andi x v reducesTo_S8192x512_S_d0_1 h_S_) main_v14 main_c_3
  let main_v16 : IVec S_ 1 := andi main_v10 main_v15
  let main_v17 : FVec F S8192x1024 .f32 := Host.absf main_arg3
  fn_part1 (F := F) main_arg4 main_arg5 main_arg6 main_arg7 main_v16 main_v17
-- ==== Pre_mix_norm_finite.lean ====
abbrev S8192x1536 : Shape := ⟨2, ![8192, 1536]⟩
abbrev S8192x1024 : Shape := ⟨2, ![8192, 1024]⟩
abbrev S8192x2048 : Shape := ⟨2, ![8192, 2048]⟩
abbrev S1024x4608 : Shape := ⟨2, ![1024, 4608]⟩
abbrev S1x1024 : Shape := ⟨2, ![1, 1024]⟩
abbrev S_ : Shape := ⟨0, ![]⟩

class Facts : Prop where
  bitsLt_bf16_f32 : FTy.bits .bf16 < FTy.bits .f32
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S1024x4608 : S_.BroadcastsInDim S1024x4608 (![] : Fin 0 → Fin S1024x4608.rank)
  reducesTo_S1024x4608_S_d0_1 : S1024x4608.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v31 : IVec S_ 1) (main_v34 : IVec S8192x1024 1) : IVec S_ 1 :=
  let main_c_11 : IVec S_ 1 := constantI S_ 1 1#1
  let main_v35 : IVec S_ 1 := (fun x v => Host.reduce IntOp.andi x v reducesTo_S8192x1024_S_d0_1 h_S_) main_v34 main_c_11
  let main_v36 : IVec S_ 1 := andi main_v31 main_v35
  main_v36

def fn_part1 {F : FTy → Type} [FloatOps F] (main_arg4 : FVec F S8192x1024 .f32) (main_arg5 : FVec F S1x1024 .f32) (main_arg6 : FVec F S8192x1024 .f32) (main_v16 : IVec S_ 1) (main_v17 : FVec F S1024x4608 .f32) : IVec S_ 1 :=
  let main_cst_4 : FVec F S_ .f32 := constant S_ .f32 0x7F800000#32
  let main_v18 : FVec F S1024x4608 .f32 := broadcastInDim S1024x4608 ![] bcast_S_S1024x4608 main_cst_4
  let main_v19 : IVec S1024x4608 1 := cmpf .olt main_v17 main_v18
  let main_c_5 : IVec S_ 1 := constantI S_ 1 1#1
  let main_v20 : IVec S_ 1 := (fun x v => Host.reduce IntOp.andi x v reducesTo_S1024x4608_S_d0_1 h_S_) main_v19 main_c_5
  let main_v21 : IVec S_ 1 := andi main_v16 main_v20
  let main_v22 : FVec F S8192x1024 .f32 := Host.absf main_arg4
  let main_cst_6 : FVec F S_ .f32 := constant S_ .f32 0x7F800000#32
  let main_v23 : FVec F S8192x1024 .f32 := broadcastInDim S8192x1024 ![] bcast_S_S8192x1024 main_cst_6
  let main_v24 : IVec S8192x1024 1 := cmpf .olt main_v22 main_v23
  let main_c_7 : IVec S_ 1 := constantI S_ 1 1#1
  let main_v25 : IVec S_ 1 := (fun x v => Host.reduce IntOp.andi x v reducesTo_S8192x1024_S_d0_1 h_S_) main_v24 main_c_7
  let main_v26 : IVec S_ 1 := andi main_v21 main_v25
  let main_v27 : FVec F S1x1024 .f32 := Host.absf main_arg5
  let main_cst_8 : FVec F S_ .f32 := constant S_ .f32 0x7F800000#32
  let main_v28 : FVec F S1x1024 .f32 := broadcastInDim S1x1024 ![] bcast_S_S1x1024 main_cst_8
  let main_v29 : IVec S1x1024 1 := cmpf .olt main_v27 main_v28
  let main_c_9 : IVec S_ 1 := constantI S_ 1 1#1
  let main_v30 : IVec S_ 1 := (fun x v => Host.reduce IntOp.andi x v reducesTo_S1x1024_S_d0_1 h_S_) main_v29 main_c_9
  let main_v31 : IVec S_ 1 := andi main_v26 main_v30
  let main_v32 : FVec F S8192x1024 .f32 := Host.absf main_arg6
  let main_cst_10 : FVec F S_ .f32 := constant S_ .f32 0x7F800000#32
  let main_v33 : FVec F S8192x1024 .f32 := broadcastInDim S8192x1024 ![] bcast_S_S8192x1024 main_cst_10
  let main_v34 : IVec S8192x1024 1 := cmpf .olt main_v32 main_v33
  fn_part2 (F := F) main_v31 main_v34

def fn {F : FTy → Type} [FloatOps F] (main_arg0 : FVec F S8192x1536 .bf16) (main_arg1 : FVec F S8192x1024 .bf16) (main_arg2 : FVec F S8192x2048 .bf16) (main_arg3 : FVec F S1024x4608 .f32) (main_arg4 : FVec F S8192x1024 .f32) (main_arg5 : FVec F S1x1024 .f32) (main_arg6 : FVec F S8192x1024 .f32) : IVec S_ 1 :=
  let main_v0 : FVec F S8192x1536 .f32 := (extf .f32 · bitsLt_bf16_f32) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  let main_c : IVec S_ 1 := constantI S_ 1 1#1
  let main_v4 : IVec S_ 1 := (fun x v => Host.reduce IntOp.andi x v reducesTo_S8192x1536_S_d0_1 h_S_) main_v3 main_c
  let main_v5 : FVec F S8192x1024 .f32 := (extf .f32 · bitsLt_bf16_f32) main_arg1
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : IVec S_ 1 := andi main_v4 main_v9
  let main_v11 : FVec F S8192x2048 .f32 := (extf .f32 · bitsLt_bf16_f32) main_arg2
  let main_v12 : FVec F S8192x2048 .f32 := Host.absf main_v11
  let main_cst_2 : FVec F S_ .f32 := constant S_ .f32 0x7F800000#32
  let main_v13 : FVec F S8192x2048 .f32 := broadcastInDim S8192x2048 ![] bcast_S_S8192x2048 main_cst_2
  let main_v14 : IVec S8192x2048 1 := cmpf .olt main_v12 main_v13
  let main_c_3 : IVec S_ 1 := constantI S_ 1 1#1
  let main_v15 : IVec S_ 1 := (fun x v => Host.reduce IntOp.andi x v reducesTo_S8192x2048_S_d0_1 h_S_) main_v14 main_c_3
  let main_v16 : IVec S_ 1 := andi main_v10 main_v15
  let main_v17 : FVec F S1024x4608 .f32 := Host.absf main_arg3
  fn_part1 (F := F) main_arg4 main_arg5 main_arg6 main_v16 main_v17
-- ==== Pre_query_norm_finite.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S8192x1024 .f32) (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  let main_v20 : FVec F S8192x1024 .f32 := Host.absf main_arg4
  let main_cst_6 : FVec F S_ .f32 := constant S_ .f32 0x7F800000#32
  let main_v21 : FVec F S8192x1024 .f32 := broadcastInDim S8192x1024 ![] bcast_S_S8192x1024 main_cst_6
  let main_v22 : IVec S8192x1024 1 := cmpf .olt main_v20 main_v21
  let main_c_7 : IVec S_ 1 := constantI S_ 1 1#1
  let main_v23 : IVec S_ 1 := (fun x v => Host.reduce IntOp.andi x v reducesTo_S8192x1024_S_d0_1 h_S_) main_v22 main_c_7
  let main_v24 : IVec S_ 1 := andi main_v19 main_v23
  main_v24

def fn {F : FTy → Type} [FloatOps F] (main_arg0 : FVec F S8192x1024 .bf16) (main_arg1 : FVec F S1024x1024 .f32) (main_arg2 : FVec F S8192x1024 .f32) (main_arg3 : FVec F S1x1024 .f32) (main_arg4 : FVec F S8192x1024 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S1024x1024 .f32 := Host.absf main_arg1
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_c_1 : IVec S_ 1 := constantI S_ 1 1#1
  let main_v8 : IVec S_ 1 := (fun x v => Host.reduce IntOp.andi x v reducesTo_S1024x1024_S_d0_1 h_S_) main_v7 main_c_1
  let main_v9 : IVec S_ 1 := andi main_v4 main_v8
  let main_v10 : FVec F S8192x1024 .f32 := Host.absf main_arg2
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_arg4 main_v14 main_v15 main_v16
-- ==== Pre_xattn_finite.lean ====
abbrev S8192x1024 : Shape := ⟨2, ![8192, 1024]⟩
abbrev S256x2048 : Shape := ⟨2, ![256, 2048]⟩
abbrev S1024x1024 : Shape := ⟨2, ![1024, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S8192x1024 .f32) (main_v15 : IVec S_ 1) (main_v16 : FVec F S8192x1024 .f32) (main_cst_4 : FVec F S_ .f32) : IVec S_ 1 :=
  let main_v17 : FVec F S8192x1024 .f32 := broadcastInDim S8192x1024 ![] bcast_S_S8192x1024 main_cst_4
  let main_v18 : IVec S8192x1024 1 := cmpf .olt main_v16 main_v17
  let main_c_5 : IVec S_ 1 := constantI S_ 1 1#1
  let main_v19 : IVec S_ 1 := (fun x v => Host.reduce IntOp.andi x v reducesTo_S8192x1024_S_d0_1 h_S_) main_v18 main_c_5
  let main_v20 : IVec S_ 1 := andi main_v15 main_v19
  let main_v21 : FVec F S8192x1024 .f32 := Host.absf main_arg4
  let main_cst_6 : FVec F S_ .f32 := constant S_ .f32 0x7F800000#32
  let main_v22 : FVec F S8192x1024 .f32 := broadcastInDim S8192x1024 ![] bcast_S_S8192x1024 main_cst_6
  let main_v23 : IVec S8192x1024 1 := cmpf .olt main_v21 main_v22
  let main_c_7 : IVec S_ 1 := constantI S_ 1 1#1
  let main_v24 : IVec S_ 1 := (fun x v => Host.reduce IntOp.andi x v reducesTo_S8192x1024_S_d0_1 h_S_) main_v23 main_c_7
  let main_v25 : IVec S_ 1 := andi main_v20 main_v24
  main_v25

def fn {F : FTy → Type} [FloatOps F] (main_arg0 : FVec F S8192x1024 .bf16) (main_arg1 : FVec F S256x2048 .bf16) (main_arg2 : FVec F S1024x1024 .f32) (main_arg3 : FVec F S8192x1024 .f32) (main_arg4 : FVec F S8192x1024 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S256x2048 .f32 := (extf .f32 · bitsLt_bf16_f32) main_arg1
  let main_v6 : FVec F S256x2048 .f32 := Host.absf main_v5
  let main_cst_0 : FVec F S_ .f32 := constant S_ .f32 0x7F800000#32
  let main_v7 : FVec F S256x2048 .f32 := broadcastInDim S256x2048 ![] bcast_S_S256x2048 main_cst_0
  let main_v8 : IVec S256x2048 1 := cmpf .olt main_v6 main_v7
  let main_c_1 : IVec S_ 1 := constantI S_ 1 1#1
  let main_v9 : IVec S_ 1 := (fun x v => Host.reduce IntOp.andi x v reducesTo_S256x2048_S_d0_1 h_S_) main_v8 main_c_1
  let main_v10 : IVec S_ 1 := andi main_v4 main_v9
  let main_v11 : FVec F S1024x1024 .f32 := Host.absf main_arg2
  let main_cst_2 : FVec F S_ .f32 := constant S_ .f32 0x7F800000#32
  let main_v12 : FVec F S1024x1024 .f32 := broadcastInDim S1024x1024 ![] bcast_S_S1024x1024 main_cst_2
  let main_v13 : IVec S1024x1024 1 := cmpf .olt main_v11 main_v12
  let main_c_3 : IVec S_ 1 := constantI S_ 1 1#1
  let main_v14 : IVec S_ 1 := (fun x v => Host.reduce IntOp.andi x v reducesTo_S1024x1024_S_d0_1 h_S_) main_v13 main_c_3
  let main_v15 : IVec S_ 1 := andi main_v10 main_v14
  let main_v16 : FVec F S8192x1024 .f32 := Host.absf main_arg3
  let main_cst_4 : FVec F S_ .f32 := constant S_ .f32 0x7F800000#32
  fn_part1 (F := F) main_arg4 main_v15 main_v16 main_cst_4
-- ==== Act.lean ====
abbrev S8192x5632 : Shape := ⟨2, ![8192, 5632]⟩
abbrev S2816x1024 : Shape := ⟨2, ![2816, 1024]⟩
abbrev S8192x1024 : Shape := ⟨2, ![8192, 1024]⟩
abbrev S512x1024 : Shape := ⟨2, ![512, 1024]⟩
abbrev S512x5632 : Shape := ⟨2, ![512, 5632]⟩
abbrev S1408x1024 : Shape := ⟨2, ![1408, 1024]⟩
abbrev S512x1408 : Shape := ⟨2, ![512, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S2816x1024, .f32⟩
  | .hbm, ⟨2, _⟩ => ⟨S8192x1024, .f32⟩
  | .hbm, ⟨3, _⟩ => ⟨S2816x1024, .bf16⟩
  | .hbm, ⟨4, _⟩ => ⟨S8192x5632, .bf16⟩
  | .local _ .vmem, ⟨0, _⟩ => ⟨S512x1024, .f32⟩
  | .local _ .vmem, ⟨1, _⟩ => ⟨S512x1024, .f32⟩
  | .local _ .vmem, ⟨2, _⟩ => ⟨S512x5632, .bf16⟩
  | .local _ .vmem, ⟨3, _⟩ => ⟨S512x5632, .bf16⟩
  | .local _ .vmem, ⟨4, _⟩ => ⟨S2816x1024, .bf16⟩
  | .local _ .vmem, ⟨5, _⟩ => ⟨S512x5632, .bf16⟩
  | .local _ .vmem, ⟨6, _⟩ => ⟨S512x5632, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ActRefIdeal.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2816x1024, .f32⟩
  | .hbm, ⟨2, _⟩ => ⟨S8192x1024, .f32⟩
  | .hbm, ⟨3, _⟩ => ⟨S8192x5632, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x5632, .f32⟩
  | .hbm, ⟨29, _⟩ => ⟨S8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩

abbrev nD : Nat := 1
abbrev τ : Topo := Topo.v7x

variable {F : FTy → Type} [FloatOps F]
-- ==== Merge.lean ====
abbrev S8192x4608 : Shape := ⟨2, ![8192, 4608]⟩
abbrev S8192x512 : Shape := ⟨2, ![8192, 512]⟩
abbrev S8192x1024 : Shape := ⟨2, ![8192, 1024]⟩
abbrev S512x1024 : Shape := ⟨2, ![512, 1024]⟩
abbrev S1024x1024 : Shape := ⟨2, ![1024, 1024]⟩
abbrev S512x4x256 : Shape := ⟨3, ![512, 4, 256]⟩
abbrev S4x512x256 : Shape := ⟨3, ![4, 512, 256]⟩
abbrev S512x512 : Shape := ⟨2, ![512, 512]⟩
abbrev S1x512x256 : Shape := ⟨3, ![1, 512, 256]⟩
abbrev S512x256 : Shape := ⟨2, ![512, 256]⟩
abbrev S8192x2048 : Shape := ⟨2, ![8192, 2048]⟩
abbrev S512x2048 : Shape := ⟨2, ![512, 2048]⟩

abbrev nBuf : Space → Nat
  | .hbm => 24
  | .vmem => 52
  | .smem => 0
  | _ => 0

abbrev bufTy : (tb : Table) → Fin (tcTables nBuf tb) → BufTy
  | .hbm, ⟨0, _⟩ => ⟨S8192x4608, .bf16⟩
  | .hbm, ⟨1, _⟩ => ⟨S8192x512, .bf16⟩
  | .hbm, ⟨2, _⟩ => ⟨S8192x512, .bf16⟩
  | .hbm, ⟨3, _⟩ => ⟨S8192x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8192x1024, .f32⟩
  | .hbm, ⟨8, _⟩ => ⟨S512x1024, .bf16⟩
  | .hbm, ⟨9, _⟩ => ⟨S512x4x256, .bf16⟩
  | .hbm, ⟨10, _⟩ => ⟨S4x512x256, .bf16⟩
  | .hbm, ⟨11, _⟩ => ⟨S512x1024, .bf16⟩
  | .hbm, ⟨12, _⟩ => ⟨S512x4x256, .bf16⟩
  | .hbm, ⟨13, _⟩ => ⟨S4x512x256, .bf16⟩
  | .hbm, ⟨14, _⟩ => ⟨S1024x1024, .bf16⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S8192x1024, .f32⟩
  | .hbm, ⟨19, _⟩ => ⟨S8192x1024, .bf16⟩
  | .hbm, ⟨20, _⟩ => ⟨S8192x1024, .bf16⟩
  | .hbm, ⟨21, _⟩ => ⟨S8192x2048, .bf16⟩
  | .hbm, ⟨22, _⟩ => ⟨S8192x512, .bf16⟩
  | .hbm, ⟨23, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x1024, .f32⟩
  | .local _ .vmem, ⟨13, _⟩ => ⟨S512x1024, .f32⟩
  | .local _ .vmem, ⟨14, _⟩ => ⟨S4x512x256, .bf16⟩
  | .local _ .vmem, ⟨15, _⟩ => ⟨S4x512x256, .bf16⟩
  | .local _ .vmem, ⟨16, _⟩ => ⟨S1024x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S1024x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S512x512, .bf16⟩
  | .local _ .vmem, ⟨36, _⟩ => ⟨S512x512, .bf16⟩
  | .local _ .vmem, ⟨37, _⟩ => ⟨S512x512, .bf16⟩
  | .local _ .vmem, ⟨38, _⟩ => ⟨S512x512, .bf16⟩
  | .local _ .vmem, ⟨39, _⟩ => ⟨S512x512, .bf16⟩
  | .local _ .vmem, ⟨40, _⟩ => ⟨S4x512x256, .bf16⟩
  | .local _ .vmem, ⟨41, _⟩ => ⟨S4x512x256, .bf16⟩
  | .local _ .vmem, ⟨42, _⟩ => ⟨S512x1024, .bf16⟩
  | .local _ .vmem, ⟨43, _⟩ => ⟨S512x1024, .bf16⟩
  | .local _ .vmem, ⟨44, _⟩ => ⟨S512x1024, .bf16⟩
  | .local _ .vmem, ⟨45, _⟩ => ⟨S512x1024, .bf16⟩
  | .local _ .vmem, ⟨46, _⟩ => ⟨S512x2048, .bf16⟩
  | .local _ .vmem, ⟨47, _⟩ => ⟨S512x2048, .bf16⟩
  | .local _ .vmem, ⟨48, _⟩ => ⟨S512x512, .bf16⟩
  | .local _ .vmem, ⟨49, _⟩ => ⟨S512x512, .bf16⟩
  | .local _ .vmem, ⟨50, _⟩ => ⟨S512x512, .bf16⟩
  | .local _ .vmem, ⟨51, _⟩ => ⟨S512x512, .bf16⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v8_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc1_stg0_0 : Ref sig .tc := ⟨.vmem, 25, rfl⟩
abbrev cc1_stg0_1 : Ref sig .tc := ⟨.vmem, 26, rfl⟩
abbrev cc1_stg1_0 : Ref sig .tc := ⟨.vmem, 27, rfl⟩
abbrev cc1_stg2_0 : Ref sig .tc := ⟨.vmem, 28, rfl⟩
abbrev cc1_stg2_1 : Ref sig .tc := ⟨.vmem, 29, rfl⟩
abbrev cc1_stg3_0 : Ref sig .tc := ⟨.vmem, 30, rfl⟩
abbrev cc1_stg3_1 : Ref sig .tc := ⟨.vmem, 31, rfl⟩
abbrev cc1_stg4_0 : Ref sig .tc := ⟨.vmem, 32, rfl⟩
abbrev cc1_stg4_1 : Ref sig .tc := ⟨.vmem, 33, rfl⟩
abbrev cc1_stg5_0 : Ref sig .tc := ⟨.vmem, 34, rfl⟩
abbrev cc1_stg5_1 : Ref sig .tc := ⟨.vmem, 35, rfl⟩
abbrev cc1_stg6_0 : Ref sig .tc := ⟨.vmem, 36, rfl⟩
abbrev cc1_stg6_1 : Ref sig .tc := ⟨.vmem, 37, rfl⟩
abbrev cc1_stg7_0 : Ref sig .tc := ⟨.vmem, 38, rfl⟩
abbrev cc1_stg7_1 : Ref sig .tc := ⟨.vmem, 39, rfl⟩
abbrev cc1_stg8_0 : Ref sig .tc := ⟨.vmem, 40, rfl⟩
abbrev cc1_stg9_0 : Ref sig .tc := ⟨.vmem, 41, rfl⟩
abbrev cc1_stg10_0 : Ref sig .tc := ⟨.vmem, 42, rfl⟩
abbrev cc1_stg10_1 : Ref sig .tc := ⟨.vmem, 43, rfl⟩
abbrev cc1_stg11_0 : Ref sig .tc := ⟨.vmem, 44, rfl⟩
abbrev cc1_stg11_1 : Ref sig .tc := ⟨.vmem, 45, rfl⟩
abbrev cc1_stg12_0 : Ref sig .tc := ⟨.vmem, 46, rfl⟩
abbrev cc1_stg12_1 : Ref sig .tc := ⟨.vmem, 47, rfl⟩
abbrev cc1_stg13_0 : Ref sig .tc := ⟨.vmem, 48, rfl⟩
abbrev cc1_stg13_1 : Ref sig .tc := ⟨.vmem, 49, rfl⟩
abbrev cc1_stg14_0 : Ref sig .tc := ⟨.vmem, 50, rfl⟩
abbrev cc1_stg14_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc1_sem0_0 : DmaSem sig := 25
abbrev cc1_sem0_1 : DmaSem sig := 26
abbrev cc1_sem1_0 : DmaSem sig := 27
abbrev cc1_sem2_0 : DmaSem sig := 28
abbrev cc1_sem2_1 : DmaSem sig := 29
abbrev cc1_sem3_0 : DmaSem sig := 30
abbrev cc1_sem3_1 : DmaSem sig := 31
abbrev cc1_sem4_0 : DmaSem sig := 32
abbrev cc1_sem4_1 : DmaSem sig := 33
abbrev cc1_sem5_0 : DmaSem sig := 34
abbrev cc1_sem5_1 : DmaSem sig := 35
abbrev cc1_sem6_0 : DmaSem sig := 36
abbrev cc1_sem6_1 : DmaSem sig := 37
abbrev cc1_sem7_0 : DmaSem sig := 38
abbrev cc1_sem7_1 : DmaSem sig := 39
abbrev cc1_sem8_0 : DmaSem sig := 40
abbrev cc1_sem9_0 : DmaSem sig := 41
abbrev cc1_sem10_0 : DmaSem sig := 42
abbrev cc1_sem10_1 : DmaSem sig := 43
abbrev cc1_sem11_0 : DmaSem sig := 44
abbrev cc1_sem11_1 : DmaSem sig := 45
abbrev cc1_sem12_0 : DmaSem sig := 46
abbrev cc1_sem12_1 : DmaSem sig := 47
abbrev cc1_sem13_0 : DmaSem sig := 48
abbrev cc1_sem13_1 : DmaSem sig := 49
abbrev cc1_sem14_0 : DmaSem sig := 50
abbrev cc1_sem14_1 : DmaSem sig := 51

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c5_i32 : BitVec 32 := 5#32
  let c0_i32 : BitVec 32 := 0#32
  ![arg0.toNat, c5_i32.toNat]

def cc1_transform_5 (i : grid1.Coords) : Fin 2 → Nat :=
  let arg0 : BitVec 32 := BitVec.ofNat 32 (i 0).val
  let c6_i32 : BitVec 32 := 6#32
  let c0_i32 : BitVec 32 := 0#32
  ![arg0.toNat, c6_i32.toNat]

def cc1_transform_6 (i : grid1.Coords) : Fin 2 → Nat :=
  let arg0 : BitVec 32 := BitVec.ofNat 32 (i 0).val
  let c7_i32 : BitVec 32 := 7#32
  let c0_i32 : BitVec 32 := 0#32
  ![arg0.toNat, c7_i32.toNat]

def cc1_transform_7 (i : grid1.Coords) : Fin 2 → Nat :=
  let arg0 : BitVec 32 := BitVec.ofNat 32 (i 0).val
  let c8_i32 : BitVec 32 := 8#32
  let c0_i32 : BitVec 32 := 0#32
  ![arg0.toNat, c8_i32.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S4x512x256 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4x512x256 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x2048 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x512 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S512x512 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]
-- ==== MergeRefIdeal.lean ====
abbrev S8192x4608 : Shape := ⟨2, ![8192, 4608]⟩
abbrev S8192x512 : Shape := ⟨2, ![8192, 512]⟩
abbrev S8192x1024 : Shape := ⟨2, ![8192, 1024]⟩
abbrev S512x1024 : Shape := ⟨2, ![512, 1024]⟩
abbrev S1024x1024 : Shape := ⟨2, ![1024, 1024]⟩
abbrev S_ : Shape := ⟨0, ![]⟩
abbrev S8192x2048 : Shape := ⟨2, ![8192, 2048]⟩

abbrev nBuf : Space → Nat
  | .hbm => 61
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S8192x512, .bf16⟩
  | .hbm, ⟨2, _⟩ => ⟨S8192x512, .bf16⟩
  | .hbm, ⟨3, _⟩ => ⟨S8192x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8192x1024, .f32⟩
  | .hbm, ⟨8, _⟩ => ⟨S8192x1024, .bf16⟩
  | .hbm, ⟨9, _⟩ => ⟨S8192x1024, .f32⟩
  | .hbm, ⟨10, _⟩ => ⟨S8192x1024, .bf16⟩
  | .hbm, ⟨11, _⟩ => ⟨S8192x1024, .f32⟩
  | .hbm, ⟨12, _⟩ => ⟨S8192x512, .f32⟩
  | .hbm, ⟨13, _⟩ => ⟨S8192x1024, .f32⟩
  | .hbm, ⟨14, _⟩ => ⟨S8192x512, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x2048, .f32⟩
  | .hbm, ⟨53, _⟩ => ⟨S8192x1024, .bf16⟩
  | .hbm, ⟨54, _⟩ => ⟨S8192x1024, .bf16⟩
  | .hbm, ⟨55, _⟩ => ⟨S8192x1024, .bf16⟩
  | .hbm, ⟨56, _⟩ => ⟨S8192x2048, .bf16⟩
  | .hbm, ⟨57, _⟩ => ⟨S8192x512, .f32⟩
  | .hbm, ⟨58, _⟩ => ⟨S8192x512, .bf16⟩
  | .hbm, ⟨59, _⟩ => ⟨S8192x512, .f32⟩
  | .hbm, ⟨60, _⟩ => ⟨S8192x512, .bf16⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Xattn.lean ====
abbrev S8192x1024 : Shape := ⟨2, ![8192, 1024]⟩
abbrev S256x2048 : Shape := ⟨2, ![256, 2048]⟩
abbrev S1024x1024 : Shape := ⟨2, ![1024, 1024]⟩
abbrev S8192x4 : Shape := ⟨2, ![8192, 4]⟩
abbrev S1024x4 : Shape := ⟨2, ![1024, 4]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 11
  | .vmem => 25
  | .smem => 0
  | _ => 0

abbrev bufTy : (tb : Table) → Fin (tcTables nBuf tb) → BufTy
  | .hbm, ⟨0, _⟩ => ⟨S8192x1024, .bf16⟩
  | .hbm, ⟨1, _⟩ => ⟨S256x2048, .bf16⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S1024x1024, .bf16⟩
  | .hbm, ⟨6, _⟩ => ⟨S8192x1024, .bf16⟩
  | .hbm, ⟨7, _⟩ => ⟨S8192x4, .f32⟩
  | .hbm, ⟨8, _⟩ => ⟨S8192x1024, .f32⟩
  | .hbm, ⟨9, _⟩ => ⟨S8192x1024, .bf16⟩
  | .hbm, ⟨10, _⟩ => ⟨S256x2048, .f32⟩
  | .local _ .vmem, ⟨0, _⟩ => ⟨S1024x1024, .bf16⟩
  | .local _ .vmem, ⟨1, _⟩ => ⟨S1024x1024, .bf16⟩
  | .local _ .vmem, ⟨2, _⟩ => ⟨S256x2048, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x4, .f32⟩
  | .local _ .vmem, ⟨9, _⟩ => ⟨S1024x4, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x4, .f32⟩
  | .local _ .vmem, ⟨19, _⟩ => ⟨S1024x4, .f32⟩
  | .local _ .vmem, ⟨20, _⟩ => ⟨S256x2048, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem6_1 : DmaSem sig := 23
abbrev cc1_sem7_0 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x4 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S256x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== XattnRefIdeal.lean ====
abbrev S8192x1024 : Shape := ⟨2, ![8192, 1024]⟩
abbrev S256x2048 : Shape := ⟨2, ![256, 2048]⟩
abbrev S1024x1024 : Shape := ⟨2, ![1024, 1024]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 89
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x2048, .bf16⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S256x2048, .f32⟩
  | .hbm, ⟨7, _⟩ => ⟨S256x1024, .f32⟩
  | .hbm, ⟨8, _⟩ => ⟨S256x1024, .f32⟩
  | .hbm, ⟨9, _⟩ => ⟨S8192x4x256, .f32⟩
  | .hbm, ⟨10, _⟩ => ⟨S256x4x256, .f32⟩
  | .hbm, ⟨11, _⟩ => ⟨S256x4x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x256, .f32⟩
  | .hbm, ⟨17, _⟩ => ⟨S4x8192x256, .i1⟩
  | .hbm, ⟨18, _⟩ => ⟨S4x8192x256, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .i1⟩
  | .hbm, ⟨27, _⟩ => ⟨S_, .f32⟩
  | .hbm, ⟨28, _⟩ => ⟨S4x8192, .f32⟩
  | .hbm, ⟨29, _⟩ => ⟨S4x8192, .i1⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S4x8192, .f32⟩
  | .hbm, ⟨37, _⟩ => ⟨S4x8192, .f32⟩
  | .hbm, ⟨38, _⟩ => ⟨S4x8192x1, .f32⟩
  | .hbm, ⟨39, _⟩ => ⟨S4x8192x256, .f32⟩
  | .hbm, ⟨40, _⟩ => ⟨S4x8192x256, .f32⟩
  | .hbm, ⟨41, _⟩ => ⟨S4x8192x256, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S4x8192x256, .f32⟩
  | .hbm, ⟨46, _⟩ => ⟨S4x8192x256, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x256x8192, .f32⟩
  | .hbm, ⟨52, _⟩ => ⟨S8192x4x256, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x4x256, .f32⟩
  | .hbm, ⟨58, _⟩ => ⟨S4x256x8192, .f32⟩
  | .hbm, ⟨59, _⟩ => ⟨S4x8192x256, .f32⟩
  | .hbm, ⟨60, _⟩ => ⟨S4x256x256, .f32⟩
  | .hbm, ⟨61, _⟩ => ⟨S256x4x256, .f32⟩
  | .hbm, ⟨62, _⟩ => ⟨S4x8192x256, .f32⟩
  | .hbm, ⟨63, _⟩ => ⟨S4x8192x256, .f32⟩
  | .hbm, ⟨64, _⟩ => ⟨S4x8192x256, .f32⟩
  | .hbm, ⟨65, _⟩ => ⟨S_, .f32⟩
  | .hbm, ⟨66, _⟩ => ⟨S4x8192, .f32⟩
  | .hbm, ⟨67, _⟩ => ⟨S4x8192x1, .f32⟩
  | .hbm, ⟨68, _⟩ => ⟨S4x8192x1, .f32⟩
  | .hbm, ⟨69, _⟩ => ⟨S4x8192x256, .f32⟩
  | .hbm, ⟨70, _⟩ => ⟨S4x8192x256, .f32⟩
  | .hbm, ⟨71, _⟩ => ⟨S_, .f32⟩
  | .hbm, ⟨72, _⟩ => ⟨S4x8192, .f32⟩
  | .hbm, ⟨73, _⟩ => ⟨S4x8192x256, .f32⟩
  | .hbm, ⟨74, _⟩ => ⟨S4x8192x256, .f32⟩
  | .hbm, ⟨75, _⟩ => ⟨S4x8192x256, .f32⟩
  | .hbm, ⟨76, _⟩ => ⟨S4x256x256, .f32⟩
  | .hbm, ⟨77, _⟩ => ⟨S256x4x256, .f32⟩
  | .hbm, ⟨78, _⟩ => ⟨S4x8192x256, .f32⟩
  | .hbm, ⟨79, _⟩ => ⟨S8192x4x256, .f32⟩
  | .hbm, ⟨80, _⟩ => ⟨S256x1024, .f32⟩
  | .hbm, ⟨81, _⟩ => ⟨S256x1024, .f32⟩
  | .hbm, ⟨82, _⟩ => ⟨S8192x1024, .f32⟩
  | .hbm, ⟨83, _⟩ => ⟨S256x2048, .f32⟩
  | .hbm, ⟨84, _⟩ => ⟨S8192x1024, .bf16⟩
  | .hbm, ⟨85, _⟩ => ⟨S_, .f32⟩
  | .hbm, ⟨86, _⟩ => ⟨S8192x1024, .f32⟩
  | .hbm, ⟨87, _⟩ => ⟨S8192x1024, .f32⟩
  | .hbm, ⟨88, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_11 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Loss.lean ====
abbrev S8192x5632 : Shape := ⟨2, ![8192, 5632]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S8192x2816 : Shape := ⟨2, ![8192, 2816]⟩
abbrev S1x128 : Shape := ⟨2, ![1, 128]⟩
abbrev S512x5632 : Shape := ⟨2, ![512, 5632]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 11
  | .vmem => 14
  | .smem => 0
  | _ => 0

abbrev bufTy : (tb : Table) → Fin (tcTables nBuf tb) → BufTy
  | .hbm, ⟨0, _⟩ => ⟨S8192x5632, .bf16⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S2816x1024, .bf16⟩
  | .hbm, ⟨7, _⟩ => ⟨S8192x2816, .bf16⟩
  | .hbm, ⟨8, _⟩ => ⟨S1x128, .f32⟩
  | .hbm, ⟨9, _⟩ => ⟨S8192x1024, .f32⟩
  | .hbm, ⟨10, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | .local _ .vmem, ⟨9, _⟩ => ⟨S512x2816, .bf16⟩
  | .local _ .vmem, ⟨10, _⟩ => ⟨S1x128, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S8192x5632 : Shape := ⟨2, ![8192, 5632]⟩
abbrev S2816x1024 : Shape := ⟨2, ![2816, 1024]⟩
abbrev S8192x1024 : Shape := ⟨2, ![8192, 1024]⟩
abbrev S1024 : Shape := ⟨1, ![1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 91
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S8192x1024, .f32⟩
  | .hbm, ⟨76, _⟩ => ⟨S8192x1024, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x2816, .bf16⟩
  | .hbm, ⟨89, _⟩ => ⟨S1x128, .f32⟩
  | .hbm, ⟨90, _⟩ => ⟨S1x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_cst_8 : Ref sig .tc := ⟨.hbm, 54, rfl⟩
abbrev main_cst_9 : Ref sig .tc := ⟨.hbm, 55, rfl⟩
abbrev main_v32 : Ref sig .tc := ⟨.hbm, 56, rfl⟩
abbrev main_v33 : Ref sig .tc := ⟨.hbm, 57, rfl⟩
abbrev main_cst_10 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_11 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_12 : Ref sig .tc := ⟨.hbm, 69, rfl⟩
abbrev main_v43 : Ref sig .tc := ⟨.hbm, 70, rfl⟩
abbrev main_v44 : Ref sig .tc := ⟨.hbm, 71, rfl⟩
abbrev main_cst_13 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_14 : Ref sig .tc := ⟨.hbm, 78, rfl⟩
abbrev main_v50 : Ref sig .tc := ⟨.hbm, 79, rfl⟩
abbrev main_v51 : Ref sig .tc := ⟨.hbm, 80, rfl⟩
abbrev main_cst_15 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]
-- ==== FfnNorm.lean ====
abbrev S8192x5632 : Shape := ⟨2, ![8192, 5632]⟩
abbrev S1024x5632 : Shape := ⟨2, ![1024, 5632]⟩
abbrev S8192x1024 : Shape := ⟨2, ![8192, 1024]⟩
abbrev S1x1024 : Shape := ⟨2, ![1, 1024]⟩
abbrev S1024x4x1408 : Shape := ⟨3, ![1024, 4, 1408]⟩
abbrev S4x1024x1408 : Shape := ⟨3, ![4, 1024, 1408]⟩
abbrev S512x5632 : Shape := ⟨2, ![512, 5632]⟩
abbrev S512x1024 : Shape := ⟨2, ![512, 1024]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 10
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S8192x1024, .f32⟩
  | .hbm, ⟨9, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S4x1024x1408, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FfnNormRefIdeal.lean ====
abbrev S8192x5632 : Shape := ⟨2, ![8192, 5632]⟩
abbrev S1024x5632 : Shape := ⟨2, ![1024, 5632]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x5632, .f32⟩
  | .hbm, ⟨25, _⟩ => ⟨S8192x5632, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== QueryNorm.lean ====
abbrev S8192x1024 : Shape := ⟨2, ![8192, 1024]⟩
abbrev S1024x1024 : Shape := ⟨2, ![1024, 1024]⟩
abbrev S1x1024 : Shape := ⟨2, ![1, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .bf16⟩
  | .hbm, ⟨6, _⟩ => ⟨S1x1024x1024, .bf16⟩
  | .hbm, ⟨7, _⟩ => ⟨S8192x1024, .f32⟩
  | .hbm, ⟨8, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== QueryNormRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== MemoryNorm.lean ====
abbrev S256x2048 : Shape := ⟨2, ![256, 2048]⟩
abbrev S1024x2048 : Shape := ⟨2, ![1024, 2048]⟩
abbrev S256x1024 : Shape := ⟨2, ![256, 1024]⟩
abbrev S1x1024 : Shape := ⟨2, ![1, 1024]⟩
abbrev S1024x4x512 : Shape := ⟨3, ![1024, 4, 512]⟩
abbrev S4x1024x512 : Shape := ⟨3, ![4, 1024, 512]⟩
abbrev S256x512 : Shape := ⟨2, ![256, 512]⟩
abbrev S1x1024x512 : Shape := ⟨3, ![1, 1024, 512]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 10
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S1024x2048, .f32⟩
  | .hbm, ⟨2, _⟩ => ⟨S256x1024, .f32⟩
  | .hbm, ⟨3, _⟩ => ⟨S1x1024, .f32⟩
  | .hbm, ⟨4, _⟩ => ⟨S256x2048, .bf16⟩
  | .hbm, ⟨5, _⟩ => ⟨S1024x2048, .bf16⟩
  | .hbm, ⟨6, _⟩ => ⟨S1024x4x512, .bf16⟩
  | .hbm, ⟨7, _⟩ => ⟨S4x1024x512, .bf16⟩
  | .hbm, ⟨8, _⟩ => ⟨S256x1024, .f32⟩
  | .hbm, ⟨9, _⟩ => ⟨S1x1024, .f32⟩
  | .local _ .vmem, ⟨0, _⟩ => ⟨S256x2048, .bf16⟩
  | .local _ .vmem, ⟨1, _⟩ => ⟨S4x1024x512, .bf16⟩
  | .local _ .vmem, ⟨2, _⟩ => ⟨S256x1024, .f32⟩
  | .local _ .vmem, ⟨3, _⟩ => ⟨S1x1024, .f32⟩
  | .local _ .vmem, ⟨4, _⟩ => ⟨S256x1024, .f32⟩
  | .local _ .vmem, ⟨5, _⟩ => ⟨S1x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MemoryNormRefIdeal.lean ====
abbrev S256x2048 : Shape := ⟨2, ![256, 2048]⟩
abbrev S1024x2048 : Shape := ⟨2, ![1024, 2048]⟩
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1024x2048, .f32⟩
  | .hbm, ⟨2, _⟩ => ⟨S256x1024, .f32⟩
  | .hbm, ⟨3, _⟩ => ⟨S1x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x2048, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S256x1024, .f32⟩
  | .hbm, ⟨36, _⟩ => ⟨S256x1024, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S256x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== MixNorm.lean ====
abbrev S8192x1536 : Shape := ⟨2, ![8192, 1536]⟩
abbrev S8192x1024 : Shape := ⟨2, ![8192, 1024]⟩
abbrev S8192x2048 : Shape := ⟨2, ![8192, 2048]⟩
abbrev S1024x4608 : Shape := ⟨2, ![1024, 4608]⟩
abbrev S1x1024 : Shape := ⟨2, ![1, 1024]⟩
abbrev S1024x4x1152 : Shape := ⟨3, ![1024, 4, 1152]⟩
abbrev S4x1024x1152 : Shape := ⟨3, ![4, 1024, 1152]⟩
abbrev S512x1536 : Shape := ⟨2, ![512, 1536]⟩
abbrev S512x1024 : Shape := ⟨2, ![512, 1024]⟩
abbrev S512x2048 : Shape := ⟨2, ![512, 2048]⟩
abbrev S512x1152 : Shape := ⟨2, ![512, 1152]⟩
abbrev S1x1024x1152 : Shape := ⟨3, ![1, 1024, 1152]⟩
abbrev S1024x1152 : Shape := ⟨2, ![1024, 1152]⟩
abbrev S512x384 : Shape := ⟨2, ![512, 384]⟩
abbrev S1x1024x384 : Shape := ⟨3, ![1, 1024, 384]⟩
abbrev S1024x384 : Shape := ⟨2, ![1024, 384]⟩
abbrev S512x768 : Shape := ⟨2, ![512, 768]⟩
abbrev S1x1024x768 : Shape := ⟨3, ![1, 1024, 768]⟩
abbrev S1024x768 : Shape := ⟨2, ![1024, 768]⟩
abbrev S512x256 : Shape := ⟨2, ![512, 256]⟩
abbrev S1x1024x256 : Shape := ⟨3, ![1, 1024, 256]⟩
abbrev S1024x256 : Shape := ⟨2, ![1024, 256]⟩
abbrev S512x896 : Shape := ⟨2, ![512, 896]⟩
abbrev S1x1024x896 : Shape := ⟨3, ![1, 1024, 896]⟩
abbrev S1024x896 : Shape := ⟨2, ![1024, 896]⟩
abbrev S512 : Shape := ⟨1, ![512]⟩
abbrev S512x1 : Shape := ⟨2, ![512, 1]⟩
abbrev S1024 : Shape := ⟨1, ![1024]⟩

abbrev nBuf : Space → Nat
  | .hbm => 12
  | .vmem => 15
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S8192x2048, .bf16⟩
  | .hbm, ⟨3, _⟩ => ⟨S1024x4608, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1024x4608, .bf16⟩
  | .hbm, ⟨8, _⟩ => ⟨S1024x4x1152, .bf16⟩
  | .hbm, ⟨9, _⟩ => ⟨S4x1024x1152, .bf16⟩
  | .hbm, ⟨10, _⟩ => ⟨S8192x1024, .f32⟩
  | .hbm, ⟨11, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S4x1024x1152, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MixNormRefIdeal.lean ====
abbrev S8192x1536 : Shape := ⟨2, ![8192, 1536]⟩
abbrev S8192x1024 : Shape := ⟨2, ![8192, 1024]⟩
abbrev S8192x2048 : Shape := ⟨2, ![8192, 2048]⟩
abbrev S1024x4608 : Shape := ⟨2, ![1024, 4608]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x4608 : Shape := ⟨2, ![8192, 4608]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S8192x2048, .bf16⟩
  | .hbm, ⟨3, _⟩ => ⟨S1024x4608, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x4608, .f32⟩
  | .hbm, ⟨27, _⟩ => ⟨S8192x1536, .f32⟩
  | .hbm, ⟨28, _⟩ => ⟨S8192x1024, .f32⟩
  | .hbm, ⟨29, _⟩ => ⟨S8192x2048, .f32⟩
  | .hbm, ⟨30, _⟩ => ⟨S8192x4608, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== AttnBack.lean ====
abbrev S8192x4608 : Shape := ⟨2, ![8192, 4608]⟩
abbrev S8192x512 : Shape := ⟨2, ![8192, 512]⟩
abbrev S8192x8 : Shape := ⟨2, ![8192, 8]⟩
abbrev S8x128x640 : Shape := ⟨3, ![8, 128, 640]⟩
abbrev S8192x1536 : Shape := ⟨2, ![8192, 1536]⟩
abbrev S8x128x384 : Shape := ⟨3, ![8, 128, 384]⟩
abbrev S128x512 : Shape := ⟨2, ![128, 512]⟩
abbrev S128x8 : Shape := ⟨2, ![128, 8]⟩
abbrev S128x1536 : Shape := ⟨2, ![128, 1536]⟩
abbrev S5x512x128 : Shape := ⟨3, ![5, 512, 128]⟩
abbrev S5x128x512 : Shape := ⟨3, ![5, 128, 512]⟩
abbrev S128x640 : Shape := ⟨2, ![128, 640]⟩
abbrev S512x128 : Shape := ⟨2, ![512, 128]⟩
abbrev S128x64 : Shape := ⟨2, ![128, 64]⟩
abbrev S640x64 : Shape := ⟨2, ![640, 64]⟩
abbrev S1x128x640 : Shape := ⟨3, ![1, 128, 640]⟩
abbrev S128x1 : Shape := ⟨2, ![128, 1]⟩
abbrev S128 : Shape := ⟨1, ![128]⟩
abbrev S1x128x128 : Shape := ⟨3, ![1, 128, 128]⟩
abbrev S128x128 : Shape := ⟨2, ![128, 128]⟩
abbrev S1x128x256 : Shape := ⟨3, ![1, 128, 256]⟩
abbrev S128x256 : Shape := ⟨2, ![128, 256]⟩
abbrev S1x128x64 : Shape := ⟨3, ![1, 128, 64]⟩
abbrev S64x128 : Shape := ⟨2, ![64, 128]⟩
abbrev S64x640 : Shape := ⟨2, ![64, 640]⟩
abbrev S1x64x128 : Shape := ⟨3, ![1, 64, 128]⟩
abbrev S1x128x512 : Shape := ⟨3, ![1, 128, 512]⟩
abbrev S1x512x128 : Shape := ⟨3, ![1, 512, 128]⟩

abbrev nBuf : Space → Nat
  | .hbm => 7
  | .vmem => 35
  | .smem => 0
  | _ => 0

abbrev bufTy : (tb : Table) → Fin (tcTables nBuf tb) → BufTy
  | .hbm, ⟨0, _⟩ => ⟨S8192x4608, .bf16⟩
  | .hbm, ⟨1, _⟩ => ⟨S8192x512, .bf16⟩
  | .hbm, ⟨2, _⟩ => ⟨S8192x512, .bf16⟩
  | .hbm, ⟨3, _⟩ => ⟨S8192x8, .f32⟩
  | .hbm, ⟨4, _⟩ => ⟨S8x128x640, .f32⟩
  | .hbm, ⟨5, _⟩ => ⟨S8192x1536, .bf16⟩
  | .hbm, ⟨6, _⟩ => ⟨S8x128x384, .f32⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S128x512, .bf16⟩
  | .local _ .vmem, ⟨15, _⟩ => ⟨S128x512, .bf16⟩
  | .local _ .vmem, ⟨16, _⟩ => ⟨S128x512, .bf16⟩
  | .local _ .vmem, ⟨17, _⟩ => ⟨S128x512, .bf16⟩
  | .local _ .vmem, ⟨18, _⟩ => ⟨S128x512, .bf16⟩
  | .local _ .vmem, ⟨19, _⟩ => ⟨S128x512, .bf16⟩
  | .local _ .vmem, ⟨20, _⟩ => ⟨S128x512, .bf16⟩
  | .local _ .vmem, ⟨21, _⟩ => ⟨S128x512, .bf16⟩
  | .local _ .vmem, ⟨22, _⟩ => ⟨S128x512, .bf16⟩
  | .local _ .vmem, ⟨23, _⟩ => ⟨S128x512, .bf16⟩
  | .local _ .vmem, ⟨24, _⟩ => ⟨S128x512, .bf16⟩
  | .local _ .vmem, ⟨25, _⟩ => ⟨S128x512, .bf16⟩
  | .local _ .vmem, ⟨26, _⟩ => ⟨S128x8, .f32⟩
  | .local _ .vmem, ⟨27, _⟩ => ⟨S128x8, .f32⟩
  | .local _ .vmem, ⟨28, _⟩ => ⟨S8x128x640, .f32⟩
  | .local _ .vmem, ⟨29, _⟩ => ⟨S128x1536, .bf16⟩
  | .local _ .vmem, ⟨30, _⟩ => ⟨S128x1536, .bf16⟩
  | .local _ .vmem, ⟨31, _⟩ => ⟨S8x128x384, .f32⟩
  | .local _ .vmem, ⟨32, _⟩ => ⟨S5x512x128, .f32⟩
  | .local _ .vmem, ⟨33, _⟩ => ⟨S5x512x128, .f32⟩
  | .local _ .vmem, ⟨34, _⟩ => ⟨S5x128x512, .bf16⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem15_1 : DmaSem sig := 30
abbrev cc0_sem16_0 : DmaSem sig := 31

abbrev nD : Nat := 1
abbrev τ : Topo := Topo.v7x

variable {F : FTy → Type} [FloatOps F]

abbrev grid0 : Pipeline.Grid := ⟨1, ![68], ![false]⟩

def k0_cond2 (i : grid0.Coords) : BitVec 1 :=
  let arg0 : BitVec 32 := BitVec.ofNat 32 (i 0).val
  let c64_i32 : BitVec 32 := 64#32
  let v3 : BitVec 1 := Scalar.cmpi .slt arg0 c64_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let c5_i32 : BitVec 32 := 5#32
  let c0_i32_57 : BitVec 32 := 0#32
  let v85 : BitVec 1 := Scalar.cmpi .eq c5_i32 c0_i32_57
  let c1_i32 : BitVec 32 := 1#32
  let v86 : BitVec 32 := Scalar.select v85 c1_i32 c5_i32
  let v87 : BitVec 32 := Scalar.remsi arg0 v86
  let c0_i32_59 : BitVec 32 := 0#32
  let v89 : BitVec 1 := Scalar.cmpi .slt v87 c0_i32_59
  let c0_i32_60 : BitVec 32 := 0#32
  let v90 : BitVec 1 := Scalar.cmpi .slt v86 c0_i32_60
  let v91 : BitVec 1 := Scalar.xori v89 v90
  let c0_i32_58 : BitVec 32 := 0#32
  let v88 : BitVec 1 := Scalar.cmpi .ne v87 c0_i32_58
  let v92 : BitVec 1 := Scalar.andi v91 v88
  let v93 : BitVec 32 := Scalar.addi v87 v86
  let v94 : BitVec 32 := Scalar.select v92 v93 v87
  let v95 : Index := Scalar.indexCast v94
  let c0_61 : Index := 0#32
  let c0_62 : Index := 0#32
  ![v95.toNat, 0, 0]
def k0_off2 (i : grid0.Coords) (c0_i32_66 : BitVec 32) : Fin 3 → Nat :=
  let arg0 : BitVec 32 := BitVec.ofNat 32 (i 0).val
  let c1_i32_65 : BitVec 32 := 1#32
  let v104 : BitVec 32 := Scalar.addi arg0 c1_i32_65
  let v105 : BitVec 32 := Scalar.addi v104 c0_i32_66
  let c5_i32_67 : BitVec 32 := 5#32
  let c0_i32_68 : BitVec 32 := 0#32
  let v106 : BitVec 1 := Scalar.cmpi .eq c5_i32_67 c0_i32_68
  let c1_i32_69 : BitVec 32 := 1#32
  let v107 : BitVec 32 := Scalar.select v106 c1_i32_69 c5_i32_67
  let v108 : BitVec 32 := Scalar.remsi v105 v107
  let c0_i32_71 : BitVec 32 := 0#32
  let v110 : BitVec 1 := Scalar.cmpi .slt v108 c0_i32_71
  let c0_i32_72 : BitVec 32 := 0#32
  let v111 : BitVec 1 := Scalar.cmpi .slt v107 c0_i32_72
  let v112 : BitVec 1 := Scalar.xori v110 v111
  let c0_i32_70 : BitVec 32 := 0#32
  let v109 : BitVec 1 := Scalar.cmpi .ne v108 c0_i32_70
  let v113 : BitVec 1 := Scalar.andi v112 v109
  let v114 : BitVec 32 := Scalar.addi v108 v107
  let v115 : BitVec 32 := Scalar.select v113 v114 v108
  let v116 : Index := Scalar.indexCast v115
  let c0_73 : Index := 0#32
  let c0_74 : Index := 0#32
  ![v116.toNat, 0, 0]
def k0_off3 (i : grid0.Coords) : Fin 3 → Nat :=
  let arg0 : BitVec 32 := BitVec.ofNat 32 (i 0).val
  let c5_i32_187 : BitVec 32 := 5#32
  let c0_i32_188 : BitVec 32 := 0#32
  let v305 : BitVec 1 := Scalar.cmpi .eq c5_i32_187 c0_i32_188
  let c1_i32_189 : BitVec 32 := 1#32
  let v306 : BitVec 32 := Scalar.select v305 c1_i32_189 c5_i32_187
  let v307 : BitVec 32 := Scalar.remsi arg0 v306
  let c0_i32_191 : BitVec 32 := 0#32
  let v309 : BitVec 1 := Scalar.cmpi .slt v307 c0_i32_191
  let c0_i32_192 : BitVec 32 := 0#32
  let v310 : BitVec 1 := Scalar.cmpi .slt v306 c0_i32_192
  let v311 : BitVec 1 := Scalar.xori v309 v310
  let c0_i32_190 : BitVec 32 := 0#32
  let v308 : BitVec 1 := Scalar.cmpi .ne v307 c0_i32_190
  let v312 : BitVec 1 := Scalar.andi v311 v308
  let v313 : BitVec 32 := Scalar.addi v307 v306
  let v314 : BitVec 32 := Scalar.select v312 v313 v307
  let v315 : Index := Scalar.indexCast v314
  let c0_193 : Index := 0#32
  let c64_194 : Index := 64#32
  ![v315.toNat, 0, 64]
def k0_off4 (i : grid0.Coords) (c0_i32_198 : BitVec 32) : Fin 3 → Nat :=
  let arg0 : BitVec 32 := BitVec.ofNat 32 (i 0).val
  let c1_i32_197 : BitVec 32 := 1#32
  let v324 : BitVec 32 := Scalar.addi arg0 c1_i32_197
  let v325 : BitVec 32 := Scalar.addi v324 c0_i32_198
  let c5_i32_199 : BitVec 32 := 5#32
  let c0_i32_200 : BitVec 32 := 0#32
  let v326 : BitVec 1 := Scalar.cmpi .eq c5_i32_199 c0_i32_200
  let c1_i32_201 : BitVec 32 := 1#32
  let v327 : BitVec 32 := Scalar.select v326 c1_i32_201 c5_i32_199
  let v328 : BitVec 32 := Scalar.remsi v325 v327
  let c0_i32_203 : BitVec 32 := 0#32
  let v330 : BitVec 1 := Scalar.cmpi .slt v328 c0_i32_203
  let c0_i32_204 : BitVec 32 := 0#32
  let v331 : BitVec 1 := Scalar.cmpi .slt v327 c0_i32_204
  let v332 : BitVec 1 := Scalar.xori v330 v331
  let c0_i32_202 : BitVec 32 := 0#32
  let v329 : BitVec 1 := Scalar.cmpi .ne v328 c0_i32_202
  let v333 : BitVec 1 := Scalar.andi v332 v329
  let v334 : BitVec 32 := Scalar.addi v328 v327
  let v335 : BitVec 32 := Scalar.select v333 v334 v328
  let v336 : Index := Scalar.indexCast v335
  let c64_205 : Index := 64#32
  let c0_206 : Index := 0#32
  ![v336.toNat, 64, 0]
def k0_off5 (i : grid0.Coords) : Fin 3 → Nat :=
  let arg0 : BitVec 32 := BitVec.ofNat 32 (i 0).val
  let c5_i32_322 : BitVec 32 := 5#32
  let c0_i32_323 : BitVec 32 := 0#32
  let v525 : BitVec 1 := Scalar.cmpi .eq c5_i32_322 c0_i32_323
  let c1_i32_324 : BitVec 32 := 1#32
  let v526 : BitVec 32 := Scalar.select v525 c1_i32_324 c5_i32_322
  let v527 : BitVec 32 := Scalar.remsi arg0 v526
  let c0_i32_326 : BitVec 32 := 0#32
  let v529 : BitVec 1 := Scalar.cmpi .slt v527 c0_i32_326
  let c0_i32_327 : BitVec 32 := 0#32
  let v530 : BitVec 1 := Scalar.cmpi .slt v526 c0_i32_327
  let v531 : BitVec 1 := Scalar.xori v529 v530
  let c0_i32_325 : BitVec 32 := 0#32
  let v528 : BitVec 1 := Scalar.cmpi .ne v527 c0_i32_325
  let v532 : BitVec 1 := Scalar.andi v531 v528
  let v533 : BitVec 32 := Scalar.addi v527 v526
  let v534 : BitVec 32 := Scalar.select v532 v533 v527
  let v535 : Index := Scalar.indexCast v534
  let c0_328 : Index := 0#32
  let c128_329 : Index := 128#32
  ![v535.toNat, 0, 128]
def k0_off6 (i : grid0.Coords) (c0_i32_333 : BitVec 32) : Fin 3 → Nat :=
  let arg0 : BitVec 32 := BitVec.ofNat 32 (i 0).val
  let c1_i32_332 : BitVec 32 := 1#32
  let v544 : BitVec 32 := Scalar.addi arg0 c1_i32_332
  let v545 : BitVec 32 := Scalar.addi v544 c0_i32_333
  let c5_i32_334 : BitVec 32 := 5#32
  let c0_i32_335 : BitVec 32 := 0#32
  let v546 : BitVec 1 := Scalar.cmpi .eq c5_i32_334 c0_i32_335
  let c1_i32_336 : BitVec 32 := 1#32
  let v547 : BitVec 32 := Scalar.select v546 c1_i32_336 c5_i32_334
  let v548 : BitVec 32 := Scalar.remsi v545 v547
  let c0_i32_338 : BitVec 32 := 0#32
  let v550 : BitVec 1 := Scalar.cmpi .slt v548 c0_i32_338
  let c0_i32_339 : BitVec 32 := 0#32
  let v551 : BitVec 1 := Scalar.cmpi .slt v547 c0_i32_339
  let v552 : BitVec 1 := Scalar.xori v550 v551
  let c0_i32_337 : BitVec 32 := 0#32
  let v549 : BitVec 1 := Scalar.cmpi .ne v548 c0_i32_337
  let v553 : BitVec 1 := Scalar.andi v552 v549
  let v554 : BitVec 32 := Scalar.addi v548 v547
  let v555 : BitVec 32 := Scalar.select v553 v554 v548
  let v556 : Index := Scalar.indexCast v555
  let c128_340 : Index := 128#32
  let c0_341 : Index := 0#32
  ![v556.toNat, 128, 0]
def k0_off7 (i : grid0.Coords) : Fin 3 → Nat :=
  let arg0 : BitVec 32 := BitVec.ofNat 32 (i 0).val
  let c5_i32_456 : BitVec 32 := 5#32
  let c0_i32_457 : BitVec 32 := 0#32
  let v745 : BitVec 1 := Scalar.cmpi .eq c5_i32_456 c0_i32_457
  let c1_i32_458 : BitVec 32 := 1#32
  let v746 : BitVec 32 := Scalar.select v745 c1_i32_458 c5_i32_456
  let v747 : BitVec 32 := Scalar.remsi arg0 v746
  let c0_i32_460 : BitVec 32 := 0#32
  let v749 : BitVec 1 := Scalar.cmpi .slt v747 c0_i32_460
  let c0_i32_461 : BitVec 32 := 0#32
  let v750 : BitVec 1 := Scalar.cmpi .slt v746 c0_i32_461
  let v751 : BitVec 1 := Scalar.xori v749 v750
  let c0_i32_459 : BitVec 32 := 0#32
  let v748 : BitVec 1 := Scalar.cmpi .ne v747 c0_i32_459
  let v752 : BitVec 1 := Scalar.andi v751 v748
  let v753 : BitVec 32 := Scalar.addi v747 v746
  let v754 : BitVec 32 := Scalar.select v752 v753 v747
  let v755 : Index := Scalar.indexCast v754
  let c0_462 : Index := 0#32
  let c192_463 : Index := 192#32
  ![v755.toNat, 0, 192]
def k0_off8 (i : grid0.Coords) (c0_i32_467 : BitVec 32) : Fin 3 → Nat :=
  let arg0 : BitVec 32 := BitVec.ofNat 32 (i 0).val
  let c1_i32_466 : BitVec 32 := 1#32
  let v764 : BitVec 32 := Scalar.addi arg0 c1_i32_466
  let v765 : BitVec 32 := Scalar.addi v764 c0_i32_467
  let c5_i32_468 : BitVec 32 := 5#32
  let c0_i32_469 : BitVec 32 := 0#32
  let v766 : BitVec 1 := Scalar.cmpi .eq c5_i32_468 c0_i32_469
  let c1_i32_470 : BitVec 32 := 1#32
  let v767 : BitVec 32 := Scalar.select v766 c1_i32_470 c5_i32_468
  let v768 : BitVec 32 := Scalar.remsi v765 v767
  let c0_i32_472 : BitVec 32 := 0#32
  let v770 : BitVec 1 := Scalar.cmpi .slt v768 c0_i32_472
  let c0_i32_473 : BitVec 32 := 0#32
  let v771 : BitVec 1 := Scalar.cmpi .slt v767 c0_i32_473
  let v772 : BitVec 1 := Scalar.xori v770 v771
  let c0_i32_471 : BitVec 32 := 0#32
  let v769 : BitVec 1 := Scalar.cmpi .ne v768 c0_i32_471
  let v773 : BitVec 1 := Scalar.andi v772 v769
  let v774 : BitVec 32 := Scalar.addi v768 v767
  let v775 : BitVec 32 := Scalar.select v773 v774 v768
  let v776 : Index := Scalar.indexCast v775
  let c192_474 : Index := 192#32
  let c0_475 : Index := 0#32
  ![v776.toNat, 192, 0]
def k0_off9 (i : grid0.Coords) : Fin 3 → Nat :=
  let arg0 : BitVec 32 := BitVec.ofNat 32 (i 0).val
  let c5_i32_590 : BitVec 32 := 5#32
  let c0_i32_591 : BitVec 32 := 0#32
  let v965 : BitVec 1 := Scalar.cmpi .eq c5_i32_590 c0_i32_591
  let c1_i32_592 : BitVec 32 := 1#32
  let v966 : BitVec 32 := Scalar.select v965 c1_i32_592 c5_i32_590
  let v967 : BitVec 32 := Scalar.remsi arg0 v966
  let c0_i32_594 : BitVec 32 := 0#32
  let v969 : BitVec 1 := Scalar.cmpi .slt v967 c0_i32_594
  let c0_i32_595 : BitVec 32 := 0#32
  let v970 : BitVec 1 := Scalar.cmpi .slt v966 c0_i32_595
  let v971 : BitVec 1 := Scalar.xori v969 v970
  let c0_i32_593 : BitVec 32 := 0#32
  let v968 : BitVec 1 := Scalar.cmpi .ne v967 c0_i32_593
  let v972 : BitVec 1 := Scalar.andi v971 v968
  let v973 : BitVec 32 := Scalar.addi v967 v966
  let v974 : BitVec 32 := Scalar.select v972 v973 v967
  let v975 : Index := Scalar.indexCast v974
  let c0_596 : Index := 0#32
  let c256_597 : Index := 256#32
  ![v975.toNat, 0, 256]
def k0_off10 (i : grid0.Coords) (c0_i32_601 : BitVec 32) : Fin 3 → Nat :=
  let arg0 : BitVec 32 := BitVec.ofNat 32 (i 0).val
  let c1_i32_600 : BitVec 32 := 1#32
  let v984 : BitVec 32 := Scalar.addi arg0 c1_i32_600
  let v985 : BitVec 32 := Scalar.addi v984 c0_i32_601
  let c5_i32_602 : BitVec 32 := 5#32
  let c0_i32_603 : BitVec 32 := 0#32
  let v986 : BitVec 1 := Scalar.cmpi .eq c5_i32_602 c0_i32_603
  let c1_i32_604 : BitVec 32 := 1#32
  let v987 : BitVec 32 := Scalar.select v986 c1_i32_604 c5_i32_602
  let v988 : BitVec 32 := Scalar.remsi v985 v987
  let c0_i32_606 : BitVec 32 := 0#32
  let v990 : BitVec 1 := Scalar.cmpi .slt v988 c0_i32_606
  let c0_i32_607 : BitVec 32 := 0#32
  let v991 : BitVec 1 := Scalar.cmpi .slt v987 c0_i32_607
  let v992 : BitVec 1 := Scalar.xori v990 v991
  let c0_i32_605 : BitVec 32 := 0#32
  let v989 : BitVec 1 := Scalar.cmpi .ne v988 c0_i32_605
  let v993 : BitVec 1 := Scalar.andi v992 v989
  let v994 : BitVec 32 := Scalar.addi v988 v987
  let v995 : BitVec 32 := Scalar.select v993 v994 v988
  let v996 : Index := Scalar.indexCast v995
  let c256_608 : Index := 256#32
  let c0_609 : Index := 0#32
  ![v996.toNat, 256, 0]
def k0_off11 (i : grid0.Coords) : Fin 3 → Nat :=
  let arg0 : BitVec 32 := BitVec.ofNat 32 (i 0).val
  let c5_i32_724 : BitVec 32 := 5#32
  let c0_i32_725 : BitVec 32 := 0#32
  let v1185 : BitVec 1 := Scalar.cmpi .eq c5_i32_724 c0_i32_725
  let c1_i32_726 : BitVec 32 := 1#32
  let v1186 : BitVec 32 := Scalar.select v1185 c1_i32_726 c5_i32_724
  let v1187 : BitVec 32 := Scalar.remsi arg0 v1186
  let c0_i32_728 : BitVec 32 := 0#32
  let v1189 : BitVec 1 := Scalar.cmpi .slt v1187 c0_i32_728
  let c0_i32_729 : BitVec 32 := 0#32
  let v1190 : BitVec 1 := Scalar.cmpi .slt v1186 c0_i32_729
  let v1191 : BitVec 1 := Scalar.xori v1189 v1190
  let c0_i32_727 : BitVec 32 := 0#32
  let v1188 : BitVec 1 := Scalar.cmpi .ne v1187 c0_i32_727
  let v1192 : BitVec 1 := Scalar.andi v1191 v1188
  let v1193 : BitVec 32 := Scalar.addi v1187 v1186
  let v1194 : BitVec 32 := Scalar.select v1192 v1193 v1187
  let v1195 : Index := Scalar.indexCast v1194
  let c0_730 : Index := 0#32
  let c320_731 : Index := 320#32
  ![v1195.toNat, 0, 320]
def k0_off12 (i : grid0.Coords) (c0_i32_735 : BitVec 32) : Fin 3 → Nat :=
  let arg0 : BitVec 32 := BitVec.ofNat 32 (i 0).val
  let c1_i32_734 : BitVec 32 := 1#32
  let v1204 : BitVec 32 := Scalar.addi arg0 c1_i32_734
  let v1205 : BitVec 32 := Scalar.addi v1204 c0_i32_735
  let c5_i32_736 : BitVec 32 := 5#32
  let c0_i32_737 : BitVec 32 := 0#32
  let v1206 : BitVec 1 := Scalar.cmpi .eq c5_i32_736 c0_i32_737
  let c1_i32_738 : BitVec 32 := 1#32
  let v1207 : BitVec 32 := Scalar.select v1206 c1_i32_738 c5_i32_736
  let v1208 : BitVec 32 := Scalar.remsi v1205 v1207
  let c0_i32_740 : BitVec 32 := 0#32
  let v1210 : BitVec 1 := Scalar.cmpi .slt v1208 c0_i32_740
  let c0_i32_741 : BitVec 32 := 0#32
  let v1211 : BitVec 1 := Scalar.cmpi .slt v1207 c0_i32_741
  let v1212 : BitVec 1 := Scalar.xori v1210 v1211
  let c0_i32_739 : BitVec 32 := 0#32
  let v1209 : BitVec 1 := Scalar.cmpi .ne v1208 c0_i32_739
  let v1213 : BitVec 1 := Scalar.andi v1212 v1209
  let v1214 : BitVec 32 := Scalar.addi v1208 v1207
  let v1215 : BitVec 32 := Scalar.select v1213 v1214 v1208
  let v1216 : Index := Scalar.indexCast v1215
  let c320_742 : Index := 320#32
  let c0_743 : Index := 0#32
  ![v1216.toNat, 320, 0]
def k0_off13 (i : grid0.Coords) : Fin 3 → Nat :=
  let arg0 : BitVec 32 := BitVec.ofNat 32 (i 0).val
  let c5_i32_858 : BitVec 32 := 5#32
  let c0_i32_859 : BitVec 32 := 0#32
  let v1405 : BitVec 1 := Scalar.cmpi .eq c5_i32_858 c0_i32_859
  let c1_i32_860 : BitVec 32 := 1#32
  let v1406 : BitVec 32 := Scalar.select v1405 c1_i32_860 c5_i32_858
  let v1407 : BitVec 32 := Scalar.remsi arg0 v1406
  let c0_i32_862 : BitVec 32 := 0#32
  let v1409 : BitVec 1 := Scalar.cmpi .slt v1407 c0_i32_862
  let c0_i32_863 : BitVec 32 := 0#32
  let v1410 : BitVec 1 := Scalar.cmpi .slt v1406 c0_i32_863
  let v1411 : BitVec 1 := Scalar.xori v1409 v1410
  let c0_i32_861 : BitVec 32 := 0#32
  let v1408 : BitVec 1 := Scalar.cmpi .ne v1407 c0_i32_861
  let v1412 : BitVec 1 := Scalar.andi v1411 v1408
  let v1413 : BitVec 32 := Scalar.addi v1407 v1406
  let v1414 : BitVec 32 := Scalar.select v1412 v1413 v1407
  let v1415 : Index := Scalar.indexCast v1414
  let c0_864 : Index := 0#32
  let c384_865 : Index := 384#32
  ![v1415.toNat, 0, 384]
def k0_off14 (i : grid0.Coords) (c0_i32_869 : BitVec 32) : Fin 3 → Nat :=
  let arg0 : BitVec 32 := BitVec.ofNat 32 (i 0).val
  let c1_i32_868 : BitVec 32 := 1#32
  let v1424 : BitVec 32 := Scalar.addi arg0 c1_i32_868
  let v1425 : BitVec 32 := Scalar.addi v1424 c0_i32_869
  let c5_i32_870 : BitVec 32 := 5#32
  let c0_i32_871 : BitVec 32 := 0#32
  let v1426 : BitVec 1 := Scalar.cmpi .eq c5_i32_870 c0_i32_871
  let c1_i32_872 : BitVec 32 := 1#32
  let v1427 : BitVec 32 := Scalar.select v1426 c1_i32_872 c5_i32_870
  let v1428 : BitVec 32 := Scalar.remsi v1425 v1427
  let c0_i32_874 : BitVec 32 := 0#32
  let v1430 : BitVec 1 := Scalar.cmpi .slt v1428 c0_i32_874
  let c0_i32_875 : BitVec 32 := 0#32
  let v1431 : BitVec 1 := Scalar.cmpi .slt v1427 c0_i32_875
  let v1432 : BitVec 1 := Scalar.xori v1430 v1431
  let c0_i32_873 : BitVec 32 := 0#32
  let v1429 : BitVec 1 := Scalar.cmpi .ne v1428 c0_i32_873
  let v1433 : BitVec 1 := Scalar.andi v1432 v1429
  let v1434 : BitVec 32 := Scalar.addi v1428 v1427
  let v1435 : BitVec 32 := Scalar.select v1433 v1434 v1428
  let v1436 : Index := Scalar.indexCast v1435
  let c384_876 : Index := 384#32
  let c0_877 : Index := 0#32
  ![v1436.toNat, 384, 0]
def k0_off15 (i : grid0.Coords) : Fin 3 → Nat :=
  let arg0 : BitVec 32 := BitVec.ofNat 32 (i 0).val
  let c5_i32_992 : BitVec 32 := 5#32
  let c0_i32_993 : BitVec 32 := 0#32
  let v1625 : BitVec 1 := Scalar.cmpi .eq c5_i32_992 c0_i32_993
  let c1_i32_994 : BitVec 32 := 1#32
  let v1626 : BitVec 32 := Scalar.select v1625 c1_i32_994 c5_i32_992
  let v1627 : BitVec 32 := Scalar.remsi arg0 v1626
  let c0_i32_996 : BitVec 32 := 0#32
  let v1629 : BitVec 1 := Scalar.cmpi .slt v1627 c0_i32_996
  let c0_i32_997 : BitVec 32 := 0#32
  let v1630 : BitVec 1 := Scalar.cmpi .slt v1626 c0_i32_997
  let v1631 : BitVec 1 := Scalar.xori v1629 v1630
  let c0_i32_995 : BitVec 32 := 0#32
  let v1628 : BitVec 1 := Scalar.cmpi .ne v1627 c0_i32_995
  let v1632 : BitVec 1 := Scalar.andi v1631 v1628
  let v1633 : BitVec 32 := Scalar.addi v1627 v1626
  let v1634 : BitVec 32 := Scalar.select v1632 v1633 v1627
  let v1635 : Index := Scalar.indexCast v1634
  let c0_998 : Index := 0#32
  let c448_999 : Index := 448#32
  ![v1635.toNat, 0, 448]
def k0_off16 (i : grid0.Coords) (c0_i32_1003 : BitVec 32) : Fin 3 → Nat :=
  let arg0 : BitVec 32 := BitVec.ofNat 32 (i 0).val
  let c1_i32_1002 : BitVec 32 := 1#32
  let v1644 : BitVec 32 := Scalar.addi arg0 c1_i32_1002
  let v1645 : BitVec 32 := Scalar.addi v1644 c0_i32_1003
  let c5_i32_1004 : BitVec 32 := 5#32
  let c0_i32_1005 : BitVec 32 := 0#32
  let v1646 : BitVec 1 := Scalar.cmpi .eq c5_i32_1004 c0_i32_1005
  let c1_i32_1006 : BitVec 32 := 1#32
  let v1647 : BitVec 32 := Scalar.select v1646 c1_i32_1006 c5_i32_1004
  let v1648 : BitVec 32 := Scalar.remsi v1645 v1647
  let c0_i32_1008 : BitVec 32 := 0#32
  let v1650 : BitVec 1 := Scalar.cmpi .slt v1648 c0_i32_1008
  let c0_i32_1009 : BitVec 32 := 0#32
  let v1651 : BitVec 1 := Scalar.cmpi .slt v1647 c0_i32_1009
  let v1652 : BitVec 1 := Scalar.xori v1650 v1651
  let c0_i32_1007 : BitVec 32 := 0#32
  let v1649 : BitVec 1 := Scalar.cmpi .ne v1648 c0_i32_1007
  let v1653 : BitVec 1 := Scalar.andi v1652 v1649
  let v1654 : BitVec 32 := Scalar.addi v1648 v1647
  let v1655 : BitVec 32 := Scalar.select v1653 v1654 v1648
  let v1656 : Index := Scalar.indexCast v1655
  let c448_1010 : Index := 448#32
  let c0_1011 : Index := 0#32
  ![v1656.toNat, 448, 0]
def k0_off17 (i : grid0.Coords) : Fin 3 → Nat :=
  let arg0 : BitVec 32 := BitVec.ofNat 32 (i 0).val
  let c1_i32_1078 : BitVec 32 := 1#32
  let v1786 : BitVec 32 := Scalar.addi arg0 c1_i32_1078
  let c5_i32_1079 : BitVec 32 := 5#32
  let c0_i32_1080 : BitVec 32 := 0#32
  let v1787 : BitVec 1 := Scalar.cmpi .eq c5_i32_1079 c0_i32_1080
  let c1_i32_1081 : BitVec 32 := 1#32
  let v1788 : BitVec 32 := Scalar.select v1787 c1_i32_1081 c5_i32_1079
  let v1789 : BitVec 32 := Scalar.remsi v1786 v1788
  let c0_i32_1083 : BitVec 32 := 0#32
  let v1791 : BitVec 1 := Scalar.cmpi .slt v1789 c0_i32_1083
  let c0_i32_1084 : BitVec 32 := 0#32
  let v1792 : BitVec 1 := Scalar.cmpi .slt v1788 c0_i32_1084
  let v1793 : BitVec 1 := Scalar.xori v1791 v1792
  let c0_i32_1082 : BitVec 32 := 0#32
  let v1790 : BitVec 1 := Scalar.cmpi .ne v1789 c0_i32_1082
  let v1794 : BitVec 1 := Scalar.andi v1793 v1790
  let v1795 : BitVec 32 := Scalar.addi v1789 v1788
  let v1796 : BitVec 32 := Scalar.select v1794 v1795 v1789
  let v1797 : Index := Scalar.indexCast v1796
  let c0_1085 : Index := 0#32
  let c0_1086 : Index := 0#32
  ![v1797.toNat, 0, 0]
def k0_off18 (i : grid0.Coords) : Fin 3 → Nat :=
  let arg0 : BitVec 32 := BitVec.ofNat 32 (i 0).val
  let c1_i32_1078 : BitVec 32 := 1#32
  let v1786 : BitVec 32 := Scalar.addi arg0 c1_i32_1078
  let c5_i32_1079 : BitVec 32 := 5#32
  let c0_i32_1080 : BitVec 32 := 0#32
  let v1787 : BitVec 1 := Scalar.cmpi .eq c5_i32_1079 c0_i32_1080
  let c1_i32_1081 : BitVec 32 := 1#32
  let v1788 : BitVec 32 := Scalar.select v1787 c1_i32_1081 c5_i32_1079
  let v1789 : BitVec 32 := Scalar.remsi v1786 v1788
  let c0_i32_1083 : BitVec 32 := 0#32
  let v1791 : BitVec 1 := Scalar.cmpi .slt v1789 c0_i32_1083
  let c0_i32_1084 : BitVec 32 := 0#32
  let v1792 : BitVec 1 := Scalar.cmpi .slt v1788 c0_i32_1084
  let v1793 : BitVec 1 := Scalar.xori v1791 v1792
  let c0_i32_1082 : BitVec 32 := 0#32
  let v1790 : BitVec 1 := Scalar.cmpi .ne v1789 c0_i32_1082
  let v1794 : BitVec 1 := Scalar.andi v1793 v1790
  let v1795 : BitVec 32 := Scalar.addi v1789 v1788
  let v1796 : BitVec 32 := Scalar.select v1794 v1795 v1789
  let v1801 : Index := Scalar.indexCast v1796
  let c0_1089 : Index := 0#32
  let c0_1090 : Index := 0#32
  ![v1801.toNat, 0, 0]
def k0_cond3 (i : grid0.Coords) : BitVec 1 :=
  let arg0 : BitVec 32 := BitVec.ofNat 32 (i 0).val
  let c64_i32_2 : BitVec 32 := 64#32
  let v6 : BitVec 1 := Scalar.cmpi .sge arg0 c64_i32_2
  let v7 : BitVec 32 := Scalar.extui v6
  let c0_i32_3 : BitVec 32 := 0#32
  let v8 : BitVec 1 := Scalar.cmpi .ne v7 c0_i32_3
  v8

def k0_off19 (i : grid0.Coords) : Fin 3 → Nat :=
  let arg0 : BitVec 32 := BitVec.ofNat 32 (i 0).val
  let c1_i32 : BitVec 32 := 1#32
  let v9 : BitVec 32 := Scalar.addi arg0 c1_i32
  let c5_i32 : BitVec 32 := 5#32
  let c0_i32_4 : BitVec 32 := 0#32
  let v10 : BitVec 1 := Scalar.cmpi .eq c5_i32 c0_i32_4
  let c1_i32_5 : BitVec 32 := 1#32
  let v11 : BitVec 32 := Scalar.select v10 c1_i32_5 c5_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : Index := Scalar.indexCast v19
  let c0 : Index := 0#32
  let c0_9 : Index := 0#32
  ![v20.toNat, 0, 0]
def k0_off20 (i : grid0.Coords) : Fin 3 → Nat :=
  let arg0 : BitVec 32 := BitVec.ofNat 32 (i 0).val
  let c1_i32 : BitVec 32 := 1#32
  let v9 : BitVec 32 := Scalar.addi arg0 c1_i32
  let c5_i32 : BitVec 32 := 5#32
  let c0_i32_4 : BitVec 32 := 0#32
  let v10 : BitVec 1 := Scalar.cmpi .eq c5_i32 c0_i32_4
  let c1_i32_5 : BitVec 32 := 1#32
  let v11 : BitVec 32 := Scalar.select v10 c1_i32_5 c5_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v24 : Index := Scalar.indexCast v19
  let c0_12 : Index := 0#32
  let c0_13 : Index := 0#32
  ![v24.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.addi v0 c0_i32
  let c0_i32_0 : BitVec 32 := 0#32
  let c63_i32 : BitVec 32 := 63#32
  let v2 : BitVec 32 := Scalar.maxsi c0_i32_0 v1
  let v3 : BitVec 32 := Scalar.minsi c63_i32 v2
  let c1_i32 : BitVec 32 := 1#32
  let c0_i32_1 : BitVec 32 := 0#32
  ![v3.toNat, c1_i32.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.addi v0 c1_i32
  let c0_i32 : BitVec 32 := 0#32
  let c63_i32 : BitVec 32 := 63#32
  let v2 : BitVec 32 := Scalar.maxsi c0_i32 v1
  let v3 : BitVec 32 := Scalar.minsi c63_i32 v2
  let c1_i32_0 : BitVec 32 := 1#32
  let c0_i32_1 : BitVec 32 := 0#32
  ![v3.toNat, c1_i32_0.toNat]

def cc0_transform_3 (i : grid0.Coords) : Fin 2 → Nat :=
  let arg0 : BitVec 32 := BitVec.ofNat 32 (i 0).val
  let c4_i32 : BitVec 32 := 4#32
  let v0 : BitVec 32 := Scalar.subi arg0 c4_i32
  let c2_i32 : BitVec 32 := 2#32
  let v1 : BitVec 32 := Scalar.addi v0 c2_i32
  let c0_i32 : BitVec 32 := 0#32
  let c63_i32 : BitVec 32 := 63#32
  let v2 : BitVec 32 := Scalar.maxsi c0_i32 v1
  let v3 : BitVec 32 := Scalar.minsi c63_i32 v2
  let c1_i32 : BitVec 32 := 1#32
  let c0_i32_0 : BitVec 32 := 0#32
  ![v3.toNat, c1_i32.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c3_i32 : BitVec 32 := 3#32
  let v1 : BitVec 32 := Scalar.addi v0 c3_i32
  let c0_i32 : BitVec 32 := 0#32
  let c63_i32 : BitVec 32 := 63#32
  let v2 : BitVec 32 := Scalar.maxsi c0_i32 v1
  let v3 : BitVec 32 := Scalar.minsi c63_i32 v2
  let c1_i32 : BitVec 32 := 1#32
  let c0_i32_0 : BitVec 32 := 0#32
  ![v3.toNat, c1_i32.toNat]

def cc0_transform_5 (i : grid0.Coords) : Fin 2 → Nat :=
  let arg0 : BitVec 32 := BitVec.ofNat 32 (i 0).val
  let c4_i32 : BitVec 32 := 4#32
  let v0 : BitVec 32 := Scalar.subi arg0 c4_i32
  let c4_i32_0 : BitVec 32 := 4#32
  let v1 : BitVec 32 := Scalar.addi v0 c4_i32_0
  let c0_i32 : BitVec 32 := 0#32
  let c63_i32 : BitVec 32 := 63#32
  let v2 : BitVec 32 := Scalar.maxsi c0_i32 v1
  let v3 : BitVec 32 := Scalar.minsi c63_i32 v2
  let c1_i32 : BitVec 32 := 1#32
  let c0_i32_1 : BitVec 32 := 0#32
  ![v3.toNat, c1_i32.toNat]

def cc0_transform_6 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.addi v0 c0_i32
  let c0_i32_0 : BitVec 32 := 0#32
  let c63_i32 : BitVec 32 := 63#32
  let v2 : BitVec 32 := Scalar.maxsi c0_i32_0 v1
  let v3 : BitVec 32 := Scalar.minsi c63_i32 v2
  let c2_i32 : BitVec 32 := 2#32
  let c0_i32_1 : BitVec 32 := 0#32
  ![v3.toNat, c2_i32.toNat]

def cc0_transform_7 (i : grid0.Coords) : Fin 2 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.addi v0 c1_i32
  let c0_i32 : BitVec 32 := 0#32
  let c63_i32 : BitVec 32 := 63#32
  let v2 : BitVec 32 := Scalar.maxsi c0_i32 v1
  let v3 : BitVec 32 := Scalar.minsi c63_i32 v2
  let c2_i32 : BitVec 32 := 2#32
  let c0_i32_0 : BitVec 32 := 0#32
  ![v3.toNat, c2_i32.toNat]

def cc0_transform_8 (i : grid0.Coords) : Fin 2 → Nat :=
  let arg0 : BitVec 32 := BitVec.ofNat 32 (i 0).val
  let c4_i32 : BitVec 32 := 4#32
  let v0 : BitVec 32 := Scalar.subi arg0 c4_i32
  let c2_i32 : BitVec 32 := 2#32
  let v1 : BitVec 32 := Scalar.addi v0 c2_i32
  let c0_i32 : BitVec 32 := 0#32
  let c63_i32 : BitVec 32 := 63#32
  let v2 : BitVec 32 := Scalar.maxsi c0_i32 v1
  let v3 : BitVec 32 := Scalar.minsi c63_i32 v2
  let c2_i32_0 : BitVec 32 := 2#32
  let c0_i32_1 : BitVec 32 := 0#32
  ![v3.toNat, c2_i32_0.toNat]

def cc0_transform_9 (i : grid0.Coords) : Fin 2 → Nat :=
  let arg0 : BitVec 32 := BitVec.ofNat 32 (i 0).val
  let c4_i32 : BitVec 32 := 4#32
  let v0 : BitVec 32 := Scalar.subi arg0 c4_i32
  let c3_i32 : BitVec 32 := 3#32
  let v1 : BitVec 32 := Scalar.addi v0 c3_i32
  let c0_i32 : BitVec 32 := 0#32
  let c63_i32 : BitVec 32 := 63#32
  let v2 : BitVec 32 := Scalar.maxsi c0_i32 v1
  let v3 : BitVec 32 := Scalar.minsi c63_i32 v2
  let c2_i32 : BitVec 32 := 2#32
  let c0_i32_0 : BitVec 32 := 0#32
  ![v3.toNat, c2_i32.toNat]

def cc0_transform_10 (i : grid0.Coords) : Fin 2 → Nat :=
  let arg0 : BitVec 32 := BitVec.ofNat 32 (i 0).val
  let c4_i32 : BitVec 32 := 4#32
  let v0 : BitVec 32 := Scalar.subi arg0 c4_i32
  let c4_i32_0 : BitVec 32 := 4#32
  let v1 : BitVec 32 := Scalar.addi v0 c4_i32_0
  let c0_i32 : BitVec 32 := 0#32
  let c63_i32 : BitVec 32 := 63#32
  let v2 : BitVec 32 := Scalar.maxsi c0_i32 v1
  let v3 : BitVec 32 := Scalar.minsi c63_i32 v2
  let c2_i32 : BitVec 32 := 2#32
  let c0_i32_1 : BitVec 32 := 0#32
  ![v3.toNat, c2_i32.toNat]

def cc0_transform_11 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128x640 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S128x1536 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x128x384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== GatingBack.lean ====
abbrev S8192x4608 : Shape := ⟨2, ![8192, 4608]⟩
abbrev S8192x512 : Shape := ⟨2, ![8192, 512]⟩
abbrev S512x512 : Shape := ⟨2, ![512, 512]⟩
abbrev S1x512 : Shape := ⟨2, ![1, 512]⟩
abbrev S4x128x256 : Shape := ⟨3, ![4, 128, 256]⟩
abbrev S128x512 : Shape := ⟨2, ![128, 512]⟩
abbrev S8192x1024 : Shape := ⟨2, ![8192, 1024]⟩
abbrev S1024x512 : Shape := ⟨2, ![1024, 512]⟩
abbrev S1024x1024 : Shape := ⟨2, ![1024, 1024]⟩
abbrev S4x256x128 : Shape := ⟨3, ![4, 256, 128]⟩
abbrev S2048x512 : Shape := ⟨2, ![2048, 512]⟩
abbrev S128x128 : Shape := ⟨2, ![128, 128]⟩
abbrev S1x256x128 : Shape := ⟨3, ![1, 256, 128]⟩
abbrev S256x128 : Shape := ⟨2, ![256, 128]⟩
abbrev S1x128x128 : Shape := ⟨3, ![1, 128, 128]⟩
abbrev S1x128x256 : Shape := ⟨3, ![1, 128, 256]⟩
abbrev S128x256 : Shape := ⟨2, ![128, 256]⟩
abbrev S1x128 : Shape := ⟨2, ![1, 128]⟩
abbrev S256x512 : Shape := ⟨2, ![256, 512]⟩
abbrev S512 : Shape := ⟨1, ![512]⟩

abbrev nBuf : Space → Nat
  | .hbm => 14
  | .vmem => 29
  | .smem => 0
  | _ => 0

abbrev bufTy : (tb : Table) → Fin (tcTables nBuf tb) → BufTy
  | .hbm, ⟨0, _⟩ => ⟨S8192x4608, .bf16⟩
  | .hbm, ⟨1, _⟩ => ⟨S8192x512, .bf16⟩
  | .hbm, ⟨2, _⟩ => ⟨S512x512, .bf16⟩
  | .hbm, ⟨3, _⟩ => ⟨S1x512, .f32⟩
  | .hbm, ⟨4, _⟩ => ⟨S1x512, .f32⟩
  | .hbm, ⟨5, _⟩ => ⟨S4x128x256, .bf16⟩
  | .hbm, ⟨6, _⟩ => ⟨S4x128x256, .bf16⟩
  | .hbm, ⟨7, _⟩ => ⟨S128x512, .f32⟩
  | .hbm, ⟨8, _⟩ => ⟨S4x128x256, .f32⟩
  | .hbm, ⟨9, _⟩ => ⟨S8192x1024, .bf16⟩
  | .hbm, ⟨10, _⟩ => ⟨S4x128x256, .f32⟩
  | .hbm, ⟨11, _⟩ => ⟨S128x512, .f32⟩
  | .hbm, ⟨12, _⟩ => ⟨S1x512, .f32⟩
  | .hbm, ⟨13, _⟩ => ⟨S1x512, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S4x128x256, .bf16⟩
  | .local _ .vmem, ⟨10, _⟩ => ⟨S4x128x256, .bf16⟩
  | .local _ .vmem, ⟨11, _⟩ => ⟨S128x512, .f32⟩
  | .local _ .vmem, ⟨12, _⟩ => ⟨S4x128x256, .f32⟩
  | .local _ .vmem, ⟨13, _⟩ => ⟨S1024x1024, .bf16⟩
  | .local _ .vmem, ⟨14, _⟩ => ⟨S1024x1024, .bf16⟩
  | .local _ .vmem, ⟨15, _⟩ => ⟨S4x128x256, .f32⟩
  | .local _ .vmem, ⟨16, _⟩ => ⟨S128x512, .f32⟩
  | .local _ .vmem, ⟨17, _⟩ => ⟨S1x512, .f32⟩
  | .local _ .vmem, ⟨18, _⟩ => ⟨S1x512, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S4x256x128, .bf16⟩
  | .local _ .vmem, ⟨24, _⟩ => ⟨S4x256x128, .bf16⟩
  | .local _ .vmem, ⟨25, _⟩ => ⟨S4x128x256, .f32⟩
  | .local _ .vmem, ⟨26, _⟩ => ⟨S128x512, .f32⟩
  | .local _ .vmem, ⟨27, _⟩ => ⟨S128x512, .f32⟩
  | .local _ .vmem, ⟨28, _⟩ => ⟨S128x512, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_scratch9 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem12_0 : DmaSem sig := 16
abbrev cc0_sem13_0 : DmaSem sig := 17
abbrev cc0_sem14_0 : DmaSem sig := 18

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_22 : BitVec 32 := 0#32
  let c8_i32 : BitVec 32 := 8#32
  let v59 : BitVec 32 := Scalar.addi c0_i32_22 c8_i32
  let c1_i32 : BitVec 32 := 1#32
  ⟨c0_i32_22, v59, c1_i32⟩
def k0_mult1 (k0_t1 : Fin k0_t1_loop.trips) : BitVec 32 :=
  let c0_i32_22 : BitVec 32 := 0#32
  let c1_i32 : BitVec 32 := 1#32
  let arg26 : BitVec 32 := Scf.iv c0_i32_22 c1_i32 k0_t1
  let c128_i32 : BitVec 32 := 128#32
  let v123 : BitVec 32 := Scalar.muli arg26 c128_i32
  v123
def k0_off1 (k0_t1 : Fin k0_t1_loop.trips) : Fin 2 → Nat :=
  let c0_i32_22 : BitVec 32 := 0#32
  let c1_i32 : BitVec 32 := 1#32
  let arg26 : BitVec 32 := Scf.iv c0_i32_22 c1_i32 k0_t1
  let c128_i32 : BitVec 32 := 128#32
  let v123 : BitVec 32 := Scalar.muli arg26 c128_i32
  let v124 : BitVec 32 := v123
  let v125 : Index := Scalar.indexCast v124
  let c0_49 : Index := 0#32
  ![v125.toNat, 0]
def k0_off2 (k0_t1 : Fin k0_t1_loop.trips) : Fin 2 → Nat :=
  let c0_i32_22 : BitVec 32 := 0#32
  let c1_i32 : BitVec 32 := 1#32
  let arg26 : BitVec 32 := Scf.iv c0_i32_22 c1_i32 k0_t1
  let c128_i32 : BitVec 32 := 128#32
  let v123 : BitVec 32 := Scalar.muli arg26 c128_i32
  let v124 : BitVec 32 := v123
  let v171 : Index := Scalar.indexCast v124
  let c0_64 : Index := 0#32
  ![v171.toNat, 0]
def k0_off3 (k0_t1 : Fin k0_t1_loop.trips) : Fin 2 → Nat :=
  let c0_i32_22 : BitVec 32 := 0#32
  let c1_i32 : BitVec 32 := 1#32
  let arg26 : BitVec 32 := Scf.iv c0_i32_22 c1_i32 k0_t1
  let c128_i32 : BitVec 32 := 128#32
  let v123 : BitVec 32 := Scalar.muli arg26 c128_i32
  let v124 : BitVec 32 := v123
  let v204 : Index := Scalar.indexCast v124
  let c0_85 : Index := 0#32
  ![v204.toNat, 0]
def k0_off4 (k0_t1 : Fin k0_t1_loop.trips) : Fin 2 → Nat :=
  let c0_i32_22 : BitVec 32 := 0#32
  let c1_i32 : BitVec 32 := 1#32
  let arg26 : BitVec 32 := Scf.iv c0_i32_22 c1_i32 k0_t1
  let c128_i32 : BitVec 32 := 128#32
  let v123 : BitVec 32 := Scalar.muli arg26 c128_i32
  let v124 : BitVec 32 := v123
  let v268 : Index := Scalar.indexCast v124
  let c128_132 : Index := 128#32
  ![v268.toNat, 128]
def k0_off5 (k0_t1 : Fin k0_t1_loop.trips) : Fin 2 → Nat :=
  let c0_i32_22 : BitVec 32 := 0#32
  let c1_i32 : BitVec 32 := 1#32
  let arg26 : BitVec 32 := Scf.iv c0_i32_22 c1_i32 k0_t1
  let c128_i32 : BitVec 32 := 128#32
  let v123 : BitVec 32 := Scalar.muli arg26 c128_i32
  let v124 : BitVec 32 := v123
  let v301 : Index := Scalar.indexCast v124
  let c128_154 : Index := 128#32
  ![v301.toNat, 128]
def k0_off6 (k0_t1 : Fin k0_t1_loop.trips) : Fin 2 → Nat :=
  let c0_i32_22 : BitVec 32 := 0#32
  let c1_i32 : BitVec 32 := 1#32
  let arg26 : BitVec 32 := Scf.iv c0_i32_22 c1_i32 k0_t1
  let c128_i32 : BitVec 32 := 128#32
  let v123 : BitVec 32 := Scalar.muli arg26 c128_i32
  let v124 : BitVec 32 := v123
  let v365 : Index := Scalar.indexCast v124
  let c256 : Index := 256#32
  ![v365.toNat, 256]
def k0_off7 (k0_t1 : Fin k0_t1_loop.trips) : Fin 2 → Nat :=
  let c0_i32_22 : BitVec 32 := 0#32
  let c1_i32 : BitVec 32 := 1#32
  let arg26 : BitVec 32 := Scf.iv c0_i32_22 c1_i32 k0_t1
  let c128_i32 : BitVec 32 := 128#32
  let v123 : BitVec 32 := Scalar.muli arg26 c128_i32
  let v124 : BitVec 32 := v123
  let v398 : Index := Scalar.indexCast v124
  let c256_221 : Index := 256#32
  ![v398.toNat, 256]
def k0_off8 (k0_t1 : Fin k0_t1_loop.trips) : Fin 2 → Nat :=
  let c0_i32_22 : BitVec 32 := 0#32
  let c1_i32 : BitVec 32 := 1#32
  let arg26 : BitVec 32 := Scf.iv c0_i32_22 c1_i32 k0_t1
  let c128_i32 : BitVec 32 := 128#32
  let v123 : BitVec 32 := Scalar.muli arg26 c128_i32
  let v124 : BitVec 32 := v123
  let v462 : Index := Scalar.indexCast v124
  let c384 : Index := 384#32
  ![v462.toNat, 384]
def k0_off9 (k0_t1 : Fin k0_t1_loop.trips) : Fin 2 → Nat :=
  let c0_i32_22 : BitVec 32 := 0#32
  let c1_i32 : BitVec 32 := 1#32
  let arg26 : BitVec 32 := Scf.iv c0_i32_22 c1_i32 k0_t1
  let c128_i32 : BitVec 32 := 128#32
  let v123 : BitVec 32 := Scalar.muli arg26 c128_i32
  let v124 : BitVec 32 := v123
  let v495 : Index := Scalar.indexCast v124
  let c384_288 : Index := 384#32
  ![v495.toNat, 384]
def k0_cond2 (i : grid0.Coords) : BitVec 1 :=
  let arg0 : BitVec 32 := BitVec.ofNat 32 (i 0).val
  let c7_i32 : BitVec 32 := 7#32
  let v120 : BitVec 1 := Scalar.cmpi .eq arg0 c7_i32
  let v121 : BitVec 32 := Scalar.extui v120
  let c0_i32_48 : BitVec 32 := 0#32
  let v122 : BitVec 1 := Scalar.cmpi .ne v121 c0_i32_48
  v122

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== BiasBack.lean ====
abbrev S8x128x384 : Shape := ⟨3, ![8, 128, 384]⟩
abbrev S8x128x256 : Shape := ⟨3, ![8, 128, 256]⟩
abbrev S_ : Shape := ⟨0, ![]⟩
abbrev S8x128x768 : Shape := ⟨3, ![8, 128, 768]⟩
abbrev S8x98304 : Shape := ⟨2, ![8, 98304]⟩
abbrev S8x98432 : Shape := ⟨2, ![8, 98432]⟩
abbrev S8x128x769 : Shape := ⟨3, ![8, 128, 769]⟩
abbrev S8x128x128 : Shape := ⟨3, ![8, 128, 128]⟩
abbrev S8x769 : Shape := ⟨2, ![8, 769]⟩
abbrev S8x128 : Shape := ⟨2, ![8, 128]⟩
abbrev S1x769 : Shape := ⟨2, ![1, 769]⟩
abbrev S1x128x769 : Shape := ⟨3, ![1, 128, 769]⟩
abbrev S128x769 : Shape := ⟨2, ![128, 769]⟩
abbrev S769 : Shape := ⟨1, ![769]⟩
abbrev S1x128 : Shape := ⟨2, ![1, 128]⟩
abbrev S1x1x769 : Shape := ⟨3, ![1, 1, 769]⟩
abbrev S1 : Shape := ⟨1, ![1]⟩
abbrev S1x1x1 : Shape := ⟨3, ![1, 1, 1]⟩
abbrev S1x128x128 : Shape := ⟨3, ![1, 128, 128]⟩
abbrev S128x128 : Shape := ⟨2, ![128, 128]⟩
abbrev S8x1 : Shape := ⟨2, ![8, 1]⟩
abbrev S8x255 : Shape := ⟨2, ![8, 255]⟩
abbrev S8x257 : Shape := ⟨2, ![8, 257]⟩

abbrev nBuf : Space → Nat
  | .hbm => 19
  | .vmem => 4
  | .smem => 0
  | _ => 0

abbrev bufTy : (tb : Table) → Fin (tcTables nBuf tb) → BufTy
  | .hbm, ⟨0, _⟩ => ⟨S8x128x384, .f32⟩
  | .hbm, ⟨1, _⟩ => ⟨S8x128x256, .f32⟩
  | .hbm, ⟨2, _⟩ => ⟨S_, .i32⟩
  | .hbm, ⟨3, _⟩ => ⟨S_, .f32⟩
  | .hbm, ⟨4, _⟩ => ⟨S8x128x768, .f32⟩
  | .hbm, ⟨5, _⟩ => ⟨S8x98304, .f32⟩
  | .hbm, ⟨6, _⟩ => ⟨S_, .i32⟩
  | .hbm, ⟨7, _⟩ => ⟨S_, .f32⟩
  | .hbm, ⟨8, _⟩ => ⟨S8x98432, .f32⟩
  | .hbm, ⟨9, _⟩ => ⟨S8x128x769, .f32⟩
  | .hbm, ⟨10, _⟩ => ⟨S8x128x128, .f32⟩
  | .hbm, ⟨11, _⟩ => ⟨S8x769, .f32⟩
  | .hbm, ⟨12, _⟩ => ⟨S8x128, .f32⟩
  | .hbm, ⟨13, _⟩ => ⟨S_, .f32⟩
  | .hbm, ⟨14, _⟩ => ⟨S8x1, .f32⟩
  | .hbm, ⟨15, _⟩ => ⟨S8x255, .f32⟩
  | .hbm, ⟨16, _⟩ => ⟨S8x255, .f32⟩
  | .hbm, ⟨17, _⟩ => ⟨S8x1, .f32⟩
  | .hbm, ⟨18, _⟩ => ⟨S8x257, .f32⟩
  | .local _ .vmem, ⟨0, _⟩ => ⟨S8x128x769, .f32⟩
  | .local _ .vmem, ⟨1, _⟩ => ⟨S8x128x128, .f32⟩
  | .local _ .vmem, ⟨2, _⟩ => ⟨S8x769, .f32⟩
  | .local _ .vmem, ⟨3, _⟩ => ⟨S8x128, .f32⟩
  | _, _ => ⟨S8x128x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_call1_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x128x769 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x769 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== BiasBackRefIdeal.lean ====
abbrev S8x128x384 : Shape := ⟨3, ![8, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S_ : Shape := ⟨0, ![]⟩
abbrev S128x384 : Shape := ⟨2, ![128, 384]⟩
abbrev S8x257 : Shape := ⟨2, ![8, 257]⟩
abbrev S128x384x1 : Shape := ⟨3, ![128, 384, 1]⟩

abbrev nBuf : Space → Nat
  | .hbm => 34
  | .vmem => 0
  | .smem => 0
  | _ => 0

abbrev bufTy : (tb : Table) → Fin (tcTables nBuf tb) → BufTy
  | .hbm, ⟨0, _⟩ => ⟨S8x128x384, .f32⟩
  | .hbm, ⟨1, _⟩ => ⟨S128, .i32⟩
  | .hbm, ⟨2, _⟩ => ⟨S128x1, .i32⟩
  | .hbm, ⟨3, _⟩ => ⟨S384, .i32⟩
  | .hbm, ⟨4, _⟩ => ⟨S1x384, .i32⟩
  | .hbm, ⟨5, _⟩ => ⟨S_, .i32⟩
  | .hbm, ⟨6, _⟩ => ⟨S128x1, .i32⟩
  | .hbm, ⟨7, _⟩ => ⟨S128x1, .i32⟩
  | .hbm, ⟨8, _⟩ => ⟨S128x384, .i32⟩
  | .hbm, ⟨9, _⟩ => ⟨S128x384, .i32⟩
  | .hbm, ⟨10, _⟩ => ⟨S128x384, .i32⟩
  | .hbm, ⟨11, _⟩ => ⟨S_, .i32⟩
  | .hbm, ⟨12, _⟩ => ⟨S128x384, .i32⟩
  | .hbm, ⟨13, _⟩ => ⟨S128x384, .i32⟩
  | .hbm, ⟨14, _⟩ => ⟨S_, .i32⟩
  | .hbm, ⟨15, _⟩ => ⟨S128x384, .i32⟩
  | .hbm, ⟨16, _⟩ => ⟨S128x384, .i32⟩
  | .hbm, ⟨17, _⟩ => ⟨S_, .i32⟩
  | .hbm, ⟨18, _⟩ => ⟨S128x384, .i32⟩
  | .hbm, ⟨19, _⟩ => ⟨S128x384, .i32⟩
  | .hbm, ⟨20, _⟩ => ⟨S_, .f32⟩
  | .hbm, ⟨21, _⟩ => ⟨S8x257, .f32⟩
  | .hbm, ⟨22, _⟩ => ⟨S_, .i32⟩
  | .hbm, ⟨23, _⟩ => ⟨S128x384, .i32⟩
  | .hbm, ⟨24, _⟩ => ⟨S128x384, .i1⟩
  | .hbm, ⟨25, _⟩ => ⟨S_, .i32⟩
  | .hbm, ⟨26, _⟩ => ⟨S128x384, .i32⟩
  | .hbm, ⟨27, _⟩ => ⟨S128x384, .i32⟩
  | .hbm, ⟨28, _⟩ => ⟨S128x384, .i32⟩
  | .hbm, ⟨29, _⟩ => ⟨S128x384x1, .i32⟩
  | .hbm, ⟨30, _⟩ => ⟨S8x128x384, .f32⟩
  | .hbm, ⟨31, _⟩ => ⟨S_, .f32⟩
  | .hbm, ⟨32, _⟩ => ⟨S8x257, .f32⟩
  | .hbm, ⟨33, _⟩ => ⟨S8x257, .f32⟩
  | _, _ => ⟨S8x128x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_c_2 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_c_3 : Ref sig .tc := ⟨.hbm, 22, rfl⟩
abbrev main_v16 : Ref sig .tc := ⟨.hbm, 23, rfl⟩
abbrev main_v17 : Ref sig .tc := ⟨.hbm, 24, rfl⟩
abbrev main_c_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Attn.lean ====
abbrev S8192x4608 : Shape := ⟨2, ![8192, 4608]⟩
abbrev S8x257 : Shape := ⟨2, ![8, 257]⟩
abbrev S8x1 : Shape := ⟨2, ![8, 1]⟩
abbrev S8x255 : Shape := ⟨2, ![8, 255]⟩
abbrev S8x385 : Shape := ⟨2, ![8, 385]⟩
abbrev S8x129 : Shape := ⟨2, ![8, 129]⟩
abbrev S8x769 : Shape := ⟨2, ![8, 769]⟩
abbrev S1x8x1x769 : Shape := ⟨4, ![1, 8, 1, 769]⟩
abbrev S1x8x128x769 : Shape := ⟨4, ![1, 8, 128, 769]⟩
abbrev S8x98432 : Shape := ⟨2, ![8, 98432]⟩
abbrev S8x98304 : Shape := ⟨2, ![8, 98304]⟩
abbrev S8x128x768 : Shape := ⟨3, ![8, 128, 768]⟩
abbrev S128 : Shape := ⟨1, ![128]⟩
abbrev S128x1 : Shape := ⟨2, ![128, 1]⟩
abbrev S640 : Shape := ⟨1, ![640]⟩
abbrev S1x640 : Shape := ⟨2, ![1, 640]⟩
abbrev S_ : Shape := ⟨0, ![]⟩
abbrev S128x640 : Shape := ⟨2, ![128, 640]⟩
abbrev S1x128x640 : Shape := ⟨3, ![1, 128, 640]⟩
abbrev S8x128x640 : Shape := ⟨3, ![8, 128, 640]⟩
abbrev S8192x512 : Shape := ⟨2, ![8192, 512]⟩
abbrev S8192x8 : Shape := ⟨2, ![8192, 8]⟩
abbrev S128x512 : Shape := ⟨2, ![128, 512]⟩
abbrev S128x8 : Shape := ⟨2, ![128, 8]⟩
abbrev S128x64 : Shape := ⟨2, ![128, 64]⟩
abbrev S640x64 : Shape := ⟨2, ![640, 64]⟩

abbrev nBuf : Space → Nat
  | .hbm => 72
  | .vmem => 29
  | .smem => 0
  | _ => 0

abbrev bufTy : (tb : Table) → Fin (tcTables nBuf tb) → BufTy
  | .hbm, ⟨0, _⟩ => ⟨S8192x4608, .bf16⟩
  | .hbm, ⟨1, _⟩ => ⟨S8x257, .f32⟩
  | .hbm, ⟨2, _⟩ => ⟨S8x1, .f32⟩
  | .hbm, ⟨3, _⟩ => ⟨S8x255, .f32⟩
  | .hbm, ⟨4, _⟩ => ⟨S8x255, .f32⟩
  | .hbm, ⟨5, _⟩ => ⟨S8x385, .f32⟩
  | .hbm, ⟨6, _⟩ => ⟨S8x129, .f32⟩
  | .hbm, ⟨7, _⟩ => ⟨S8x769, .f32⟩
  | .hbm, ⟨8, _⟩ => ⟨S1x8x1x769, .f32⟩
  | .hbm, ⟨9, _⟩ => ⟨S1x8x128x769, .f32⟩
  | .hbm, ⟨10, _⟩ => ⟨S8x98432, .f32⟩
  | .hbm, ⟨11, _⟩ => ⟨S8x98304, .f32⟩
  | .hbm, ⟨12, _⟩ => ⟨S8x128x768, .f32⟩
  | .hbm, ⟨13, _⟩ => ⟨S128, .i32⟩
  | .hbm, ⟨14, _⟩ => ⟨S128x1, .i32⟩
  | .hbm, ⟨15, _⟩ => ⟨S640, .i32⟩
  | .hbm, ⟨16, _⟩ => ⟨S1x640, .i32⟩
  | .hbm, ⟨17, _⟩ => ⟨S_, .i32⟩
  | .hbm, ⟨18, _⟩ => ⟨S_, .i32⟩
  | .hbm, ⟨19, _⟩ => ⟨S128x1, .i32⟩
  | .hbm, ⟨20, _⟩ => ⟨S128x1, .i32⟩
  | .hbm, ⟨21, _⟩ => ⟨S128x1, .i32⟩
  | .hbm, ⟨22, _⟩ => ⟨S_, .i32⟩
  | .hbm, ⟨23, _⟩ => ⟨S128x1, .i32⟩
  | .hbm, ⟨24, _⟩ => ⟨S128x1, .i1⟩
  | .hbm, ⟨25, _⟩ => ⟨S128x1, .i32⟩
  | .hbm, ⟨26, _⟩ => ⟨S128x1, .i32⟩
  | .hbm, ⟨27, _⟩ => ⟨S_, .i32⟩
  | .hbm, ⟨28, _⟩ => ⟨S128x1, .i32⟩
  | .hbm, ⟨29, _⟩ => ⟨S128x1, .i1⟩
  | .hbm, ⟨30, _⟩ => ⟨S128x1, .i1⟩
  | .hbm, ⟨31, _⟩ => ⟨S_, .i32⟩
  | .hbm, ⟨32, _⟩ => ⟨S128x1, .i32⟩
  | .hbm, ⟨33, _⟩ => ⟨S128x1, .i32⟩
  | .hbm, ⟨34, _⟩ => ⟨S128x1, .i32⟩
  | .hbm, ⟨35, _⟩ => ⟨S_, .i32⟩
  | .hbm, ⟨36, _⟩ => ⟨S_, .i32⟩
  | .hbm, ⟨37, _⟩ => ⟨S1x640, .i32⟩
  | .hbm, ⟨38, _⟩ => ⟨S1x640, .i32⟩
  | .hbm, ⟨39, _⟩ => ⟨S1x640, .i32⟩
  | .hbm, ⟨40, _⟩ => ⟨S_, .i32⟩
  | .hbm, ⟨41, _⟩ => ⟨S1x640, .i32⟩
  | .hbm, ⟨42, _⟩ => ⟨S1x640, .i1⟩
  | .hbm, ⟨43, _⟩ => ⟨S1x640, .i32⟩
  | .hbm, ⟨44, _⟩ => ⟨S1x640, .i32⟩
  | .hbm, ⟨45, _⟩ => ⟨S_, .i32⟩
  | .hbm, ⟨46, _⟩ => ⟨S1x640, .i32⟩
  | .hbm, ⟨47, _⟩ => ⟨S1x640, .i1⟩
  | .hbm, ⟨48, _⟩ => ⟨S1x640, .i1⟩
  | .hbm, ⟨49, _⟩ => ⟨S_, .i32⟩
  | .hbm, ⟨50, _⟩ => ⟨S1x640, .i32⟩
  | .hbm, ⟨51, _⟩ => ⟨S1x640, .i32⟩
  | .hbm, ⟨52, _⟩ => ⟨S1x640, .i32⟩
  | .hbm, ⟨53, _⟩ => ⟨S128x640, .i32⟩
  | .hbm, ⟨54, _⟩ => ⟨S128x640, .i32⟩
  | .hbm, ⟨55, _⟩ => ⟨S128x640, .i1⟩
  | .hbm, ⟨56, _⟩ => ⟨S_, .i32⟩
  | .hbm, ⟨57, _⟩ => ⟨S128x1, .i32⟩
  | .hbm, ⟨58, _⟩ => ⟨S128x1, .i32⟩
  | .hbm, ⟨59, _⟩ => ⟨S128x640, .i32⟩
  | .hbm, ⟨60, _⟩ => ⟨S128x640, .i32⟩
  | .hbm, ⟨61, _⟩ => ⟨S128x640, .i1⟩
  | .hbm, ⟨62, _⟩ => ⟨S128x640, .i1⟩
  | .hbm, ⟨63, _⟩ => ⟨S1x128x640, .i1⟩
  | .hbm, ⟨64, _⟩ => ⟨S8x128x640, .f32⟩
  | .hbm, ⟨65, _⟩ => ⟨S_, .f32⟩
  | .hbm, ⟨66, _⟩ => ⟨S_, .f32⟩
  | .hbm, ⟨67, _⟩ => ⟨S8x128x640, .i1⟩
  | .hbm, ⟨68, _⟩ => ⟨S8x128x640, .f32⟩
  | .hbm, ⟨69, _⟩ => ⟨S8x128x640, .f32⟩
  | .hbm, ⟨70, _⟩ => ⟨S8192x512, .bf16⟩
  | .hbm, ⟨71, _⟩ => ⟨S8192x8, .f32⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S128x512, .bf16⟩
  | .local _ .vmem, ⟨15, _⟩ => ⟨S128x512, .bf16⟩
  | .local _ .vmem, ⟨16, _⟩ => ⟨S128x512, .bf16⟩
  | .local _ .vmem, ⟨17, _⟩ => ⟨S128x512, .bf16⟩
  | .local _ .vmem, ⟨18, _⟩ => ⟨S128x512, .bf16⟩
  | .local _ .vmem, ⟨19, _⟩ => ⟨S128x512, .bf16⟩
  | .local _ .vmem, ⟨20, _⟩ => ⟨S128x512, .bf16⟩
  | .local _ .vmem, ⟨21, _⟩ => ⟨S128x512, .bf16⟩
  | .local _ .vmem, ⟨22, _⟩ => ⟨S8x128x640, .f32⟩
  | .local _ .vmem, ⟨23, _⟩ => ⟨S128x512, .bf16⟩
  | .local _ .vmem, ⟨24, _⟩ => ⟨S128x512, .bf16⟩
  | .local _ .vmem, ⟨25, _⟩ => ⟨S128x8, .f32⟩
  | .local _ .vmem, ⟨26, _⟩ => ⟨S128x8, .f32⟩
  | .local _ .vmem, ⟨27, _⟩ => ⟨S8x128x640, .f32⟩
  | .local _ .vmem, ⟨28, _⟩ => ⟨S8x128x640, .bf16⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v15 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_c_1 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v28 : Ref sig .tc := ⟨.hbm, 69, rfl⟩
abbrev main_v29_0 : Ref sig .tc := ⟨.hbm, 70, rfl⟩
abbrev main_v29_1 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.addi v0 c0_i32
  let c0_i32_0 : BitVec 32 := 0#32
  let c63_i32 : BitVec 32 := 63#32
  let v2 : BitVec 32 := Scalar.maxsi c0_i32_0 v1
  let v3 : BitVec 32 := Scalar.minsi c63_i32 v2
  let c1_i32 : BitVec 32 := 1#32
  let c0_i32_1 : BitVec 32 := 0#32
  ![v3.toNat, c1_i32.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.addi v0 c1_i32
  let c0_i32 : BitVec 32 := 0#32
  let c63_i32 : BitVec 32 := 63#32
  let v2 : BitVec 32 := Scalar.maxsi c0_i32 v1
  let v3 : BitVec 32 := Scalar.minsi c63_i32 v2
  let c1_i32_0 : BitVec 32 := 1#32
  let c0_i32_1 : BitVec 32 := 0#32
  ![v3.toNat, c1_i32_0.toNat]

def cc0_transform_3 (i : grid0.Coords) : Fin 2 → Nat :=
  let arg0 : BitVec 32 := BitVec.ofNat 32 (i 0).val
  let c4_i32 : BitVec 32 := 4#32
  let v0 : BitVec 32 := Scalar.subi arg0 c4_i32
  let c2_i32 : BitVec 32 := 2#32
  let v1 : BitVec 32 := Scalar.addi v0 c2_i32
  let c0_i32 : BitVec 32 := 0#32
  let c63_i32 : BitVec 32 := 63#32
  let v2 : BitVec 32 := Scalar.maxsi c0_i32 v1
  let v3 : BitVec 32 := Scalar.minsi c63_i32 v2
  let c1_i32 : BitVec 32 := 1#32
  let c0_i32_0 : BitVec 32 := 0#32
  ![v3.toNat, c1_i32.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c3_i32 : BitVec 32 := 3#32
  let v1 : BitVec 32 := Scalar.addi v0 c3_i32
  let c0_i32 : BitVec 32 := 0#32
  let c63_i32 : BitVec 32 := 63#32
  let v2 : BitVec 32 := Scalar.maxsi c0_i32 v1
  let v3 : BitVec 32 := Scalar.minsi c63_i32 v2
  let c1_i32 : BitVec 32 := 1#32
  let c0_i32_0 : BitVec 32 := 0#32
  ![v3.toNat, c1_i32.toNat]

def cc0_transform_5 (i : grid0.Coords) : Fin 2 → Nat :=
  let arg0 : BitVec 32 := BitVec.ofNat 32 (i 0).val
  let c4_i32 : BitVec 32 := 4#32
  let v0 : BitVec 32 := Scalar.subi arg0 c4_i32
  let c4_i32_0 : BitVec 32 := 4#32
  let v1 : BitVec 32 := Scalar.addi v0 c4_i32_0
  let c0_i32 : BitVec 32 := 0#32
  let c63_i32 : BitVec 32 := 63#32
  let v2 : BitVec 32 := Scalar.maxsi c0_i32 v1
  let v3 : BitVec 32 := Scalar.minsi c63_i32 v2
  let c1_i32 : BitVec 32 := 1#32
  let c0_i32_1 : BitVec 32 := 0#32
  ![v3.toNat, c1_i32.toNat]

def cc0_transform_6 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.addi v0 c0_i32
  let c0_i32_0 : BitVec 32 := 0#32
  let c63_i32 : BitVec 32 := 63#32
  let v2 : BitVec 32 := Scalar.maxsi c0_i32_0 v1
  let v3 : BitVec 32 := Scalar.minsi c63_i32 v2
  let c2_i32 : BitVec 32 := 2#32
  let c0_i32_1 : BitVec 32 := 0#32
  ![v3.toNat, c2_i32.toNat]

def cc0_transform_7 (i : grid0.Coords) : Fin 2 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.addi v0 c1_i32
  let c0_i32 : BitVec 32 := 0#32
  let c63_i32 : BitVec 32 := 63#32
  let v2 : BitVec 32 := Scalar.maxsi c0_i32 v1
  let v3 : BitVec 32 := Scalar.minsi c63_i32 v2
  let c2_i32 : BitVec 32 := 2#32
  let c0_i32_0 : BitVec 32 := 0#32
  ![v3.toNat, c2_i32.toNat]

def cc0_transform_8 (i : grid0.Coords) : Fin 2 → Nat :=
  let arg0 : BitVec 32 := BitVec.ofNat 32 (i 0).val
  let c4_i32 : BitVec 32 := 4#32
  let v0 : BitVec 32 := Scalar.subi arg0 c4_i32
  let c2_i32 : BitVec 32 := 2#32
  let v1 : BitVec 32 := Scalar.addi v0 c2_i32
  let c0_i32 : BitVec 32 := 0#32
  let c63_i32 : BitVec 32 := 63#32
  let v2 : BitVec 32 := Scalar.maxsi c0_i32 v1
  let v3 : BitVec 32 := Scalar.minsi c63_i32 v2
  let c2_i32_0 : BitVec 32 := 2#32
  let c0_i32_1 : BitVec 32 := 0#32
  ![v3.toNat, c2_i32_0.toNat]

def cc0_transform_9 (i : grid0.Coords) : Fin 2 → Nat :=
  let arg0 : BitVec 32 := BitVec.ofNat 32 (i 0).val
  let c4_i32 : BitVec 32 := 4#32
  let v0 : BitVec 32 := Scalar.subi arg0 c4_i32
  let c3_i32 : BitVec 32 := 3#32
  let v1 : BitVec 32 := Scalar.addi v0 c3_i32
  let c0_i32 : BitVec 32 := 0#32
  let c63_i32 : BitVec 32 := 63#32
  let v2 : BitVec 32 := Scalar.maxsi c0_i32 v1
  let v3 : BitVec 32 := Scalar.minsi c63_i32 v2
  let c2_i32 : BitVec 32 := 2#32
  let c0_i32_0 : BitVec 32 := 0#32
  ![v3.toNat, c2_i32.toNat]

def cc0_transform_10 (i : grid0.Coords) : Fin 2 → Nat :=
  let arg0 : BitVec 32 := BitVec.ofNat 32 (i 0).val
  let c4_i32 : BitVec 32 := 4#32
  let v0 : BitVec 32 := Scalar.subi arg0 c4_i32
  let c4_i32_0 : BitVec 32 := 4#32
  let v1 : BitVec 32 := Scalar.addi v0 c4_i32_0
  let c0_i32 : BitVec 32 := 0#32
  let c63_i32 : BitVec 32 := 63#32
  let v2 : BitVec 32 := Scalar.maxsi c0_i32 v1
  let v3 : BitVec 32 := Scalar.minsi c63_i32 v2
  let c2_i32 : BitVec 32 := 2#32
  let c0_i32_1 : BitVec 32 := 0#32
  ![v3.toNat, c2_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128x640 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== AttnIdeal.lean ====
variable {F : FTy → Type} [FloatOps F] [Named F]
def κ : String → Option EReal := fun
  | "mask" => some ⊥
  | _ => none
-- ==== AttnRefIdeal.lean ====
abbrev S8192x4608 : Shape := ⟨2, ![8192, 4608]⟩
abbrev S8x257 : Shape := ⟨2, ![8, 257]⟩
abbrev S8192x512 : Shape := ⟨2, ![8192, 512]⟩
abbrev S8192x8x64 : Shape := ⟨3, ![8192, 8, 64]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S8x8192x8192 : Shape := ⟨3, ![8, 8192, 8192]⟩
abbrev S8192x8192x1 : Shape := ⟨3, ![8192, 8192, 1]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8192x8 : Shape := ⟨2, ![8192, 8]⟩

abbrev nBuf : Space → Nat
  | .hbm => 80
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S8x257, .f32⟩
  | .hbm, ⟨2, _⟩ => ⟨S8192x512, .bf16⟩
  | .hbm, ⟨3, _⟩ => ⟨S8192x512, .f32⟩
  | .hbm, ⟨4, _⟩ => ⟨S8192x8x64, .f32⟩
  | .hbm, ⟨5, _⟩ => ⟨S8192x512, .bf16⟩
  | .hbm, ⟨6, _⟩ => ⟨S8192x512, .f32⟩
  | .hbm, ⟨7, _⟩ => ⟨S8192x8x64, .f32⟩
  | .hbm, ⟨8, _⟩ => ⟨S8192x512, .bf16⟩
  | .hbm, ⟨9, _⟩ => ⟨S8192x512, .f32⟩
  | .hbm, ⟨10, _⟩ => ⟨S8192x8x64, .f32⟩
  | .hbm, ⟨11, _⟩ => ⟨S8192, .i32⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192x1, .i32⟩
  | .hbm, ⟨16, _⟩ => ⟨S1x8192, .i32⟩
  | .hbm, ⟨17, _⟩ => ⟨S8192x8192, .i32⟩
  | .hbm, ⟨18, _⟩ => ⟨S8192x8192, .i32⟩
  | .hbm, ⟨19, _⟩ => ⟨S8192x8192, .i32⟩
  | .hbm, ⟨20, _⟩ => ⟨S8192x1, .i32⟩
  | .hbm, ⟨21, _⟩ => ⟨S1x8192, .i32⟩
  | .hbm, ⟨22, _⟩ => ⟨S8192x8192, .i32⟩
  | .hbm, ⟨23, _⟩ => ⟨S8192x8192, .i32⟩
  | .hbm, ⟨24, _⟩ => ⟨S8192x8192, .i32⟩
  | .hbm, ⟨25, _⟩ => ⟨S_, .i32⟩
  | .hbm, ⟨26, _⟩ => ⟨S8192x8192, .i32⟩
  | .hbm, ⟨27, _⟩ => ⟨S8192x8192, .i32⟩
  | .hbm, ⟨28, _⟩ => ⟨S_, .i32⟩
  | .hbm, ⟨29, _⟩ => ⟨S8192x8192, .i32⟩
  | .hbm, ⟨30, _⟩ => ⟨S8192x8192, .i32⟩
  | .hbm, ⟨31, _⟩ => ⟨S_, .i32⟩
  | .hbm, ⟨32, _⟩ => ⟨S8192x8192, .i32⟩
  | .hbm, ⟨33, _⟩ => ⟨S8192x8192, .i32⟩
  | .hbm, ⟨34, _⟩ => ⟨S_, .f32⟩
  | .hbm, ⟨35, _⟩ => ⟨S8192x8x64, .f32⟩
  | .hbm, ⟨36, _⟩ => ⟨S8192x8x64, .f32⟩
  | .hbm, ⟨37, _⟩ => ⟨S8x8192x8192, .f32⟩
  | .hbm, ⟨38, _⟩ => ⟨S_, .i32⟩
  | .hbm, ⟨39, _⟩ => ⟨S8192x8192, .i32⟩
  | .hbm, ⟨40, _⟩ => ⟨S8192x8192, .i1⟩
  | .hbm, ⟨41, _⟩ => ⟨S_, .i32⟩
  | .hbm, ⟨42, _⟩ => ⟨S8192x8192, .i32⟩
  | .hbm, ⟨43, _⟩ => ⟨S8192x8192, .i32⟩
  | .hbm, ⟨44, _⟩ => ⟨S8192x8192, .i32⟩
  | .hbm, ⟨45, _⟩ => ⟨S8192x8192x1, .i32⟩
  | .hbm, ⟨46, _⟩ => ⟨S8x8192x8192, .f32⟩
  | .hbm, ⟨47, _⟩ => ⟨S8x8192x8192, .f32⟩
  | .hbm, ⟨48, _⟩ => ⟨S_, .i32⟩
  | .hbm, ⟨49, _⟩ => ⟨S8192x8192, .i32⟩
  | .hbm, ⟨50, _⟩ => ⟨S8192x8192, .i1⟩
  | .hbm, ⟨51, _⟩ => ⟨S_, .i32⟩
  | .hbm, ⟨52, _⟩ => ⟨S8192x8192, .i32⟩
  | .hbm, ⟨53, _⟩ => ⟨S8192x8192, .i1⟩
  | .hbm, ⟨54, _⟩ => ⟨S8192x8192, .i1⟩
  | .hbm, ⟨55, _⟩ => ⟨S1x8192x8192, .i1⟩
  | .hbm, ⟨56, _⟩ => ⟨S_, .f32⟩
  | .hbm, ⟨57, _⟩ => ⟨S_, .f32⟩
  | .hbm, ⟨58, _⟩ => ⟨S8x8192x8192, .i1⟩
  | .hbm, ⟨59, _⟩ => ⟨S8x8192x8192, .f32⟩
  | .hbm, ⟨60, _⟩ => ⟨S8x8192x8192, .f32⟩
  | .hbm, ⟨61, _⟩ => ⟨S_, .f32⟩
  | .hbm, ⟨62, _⟩ => ⟨S8x8192, .f32⟩
  | .hbm, ⟨63, _⟩ => ⟨S8x8192x1, .f32⟩
  | .hbm, ⟨64, _⟩ => ⟨S8x8192x8192, .f32⟩
  | .hbm, ⟨65, _⟩ => ⟨S8x8192x8192, .f32⟩
  | .hbm, ⟨66, _⟩ => ⟨S8x8192x8192, .f32⟩
  | .hbm, ⟨67, _⟩ => ⟨S_, .f32⟩
  | .hbm, ⟨68, _⟩ => ⟨S8x8192, .f32⟩
  | .hbm, ⟨69, _⟩ => ⟨S8x8192x1, .f32⟩
  | .hbm, ⟨70, _⟩ => ⟨S8x8192x8192, .f32⟩
  | .hbm, ⟨71, _⟩ => ⟨S8x8192x8192, .f32⟩
  | .hbm, ⟨72, _⟩ => ⟨S8x64x8192, .f32⟩
  | .hbm, ⟨73, _⟩ => ⟨S8192x8x64, .f32⟩
  | .hbm, ⟨74, _⟩ => ⟨S8192x512, .f32⟩
  | .hbm, ⟨75, _⟩ => ⟨S8192x512, .bf16⟩
  | .hbm, ⟨76, _⟩ => ⟨S8x8192x1, .f32⟩
  | .hbm, ⟨77, _⟩ => ⟨S8x8192x1, .f32⟩
  | .hbm, ⟨78, _⟩ => ⟨S8x8192, .f32⟩
  | .hbm, ⟨79, _⟩ => ⟨S8192x8, .f32⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_c_0 : Ref sig .tc := ⟨.hbm, 25, rfl⟩
abbrev main_v22 : Ref sig .tc := ⟨.hbm, 26, rfl⟩
abbrev main_v23 : Ref sig .tc := ⟨.hbm, 27, rfl⟩
abbrev main_c_1 : Ref sig .tc := ⟨.hbm, 28, rfl⟩
abbrev main_v24 : Ref sig .tc := ⟨.hbm, 29, rfl⟩
abbrev main_v25 : Ref sig .tc := ⟨.hbm, 30, rfl⟩
abbrev main_c_2 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_3 : Ref sig .tc := ⟨.hbm, 38, rfl⟩
abbrev main_v31 : Ref sig .tc := ⟨.hbm, 39, rfl⟩
abbrev main_v32 : Ref sig .tc := ⟨.hbm, 40, rfl⟩
abbrev main_c_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c_5 : Ref sig .tc := ⟨.hbm, 48, rfl⟩
abbrev main_v39 : Ref sig .tc := ⟨.hbm, 49, rfl⟩
abbrev main_v40 : Ref sig .tc := ⟨.hbm, 50, rfl⟩
abbrev main_c_6 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_7 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩

abbrev nD : Nat := 1
abbrev τ : Topo := Topo.v7x

variable {F : FTy → Type} [FloatOps F]
-- ==== MixIn.lean ====
abbrev S8192x1024 : Shape := ⟨2, ![8192, 1024]⟩
abbrev S1x1024 : Shape := ⟨2, ![1, 1024]⟩
abbrev S1024x4608 : Shape := ⟨2, ![1024, 4608]⟩
abbrev S1024x4x1152 : Shape := ⟨3, ![1024, 4, 1152]⟩
abbrev S4x1024x1152 : Shape := ⟨3, ![4, 1024, 1152]⟩
abbrev S8192x4608 : Shape := ⟨2, ![8192, 4608]⟩
abbrev S512x1024 : Shape := ⟨2, ![512, 1024]⟩
abbrev S512x4608 : Shape := ⟨2, ![512, 4608]⟩
abbrev S512 : Shape := ⟨1, ![512]⟩
abbrev S512x1 : Shape := ⟨2, ![512, 1]⟩
abbrev S1x1024x1152 : Shape := ⟨3, ![1, 1024, 1152]⟩
abbrev S1024x1152 : Shape := ⟨2, ![1024, 1152]⟩
abbrev S512x1152 : Shape := ⟨2, ![512, 1152]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4608, .f32⟩
  | .hbm, ⟨3, _⟩ => ⟨S1024x4608, .bf16⟩
  | .hbm, ⟨4, _⟩ => ⟨S1024x4x1152, .bf16⟩
  | .hbm, ⟨5, _⟩ => ⟨S4x1024x1152, .bf16⟩
  | .hbm, ⟨6, _⟩ => ⟨S8192x1024, .bf16⟩
  | .hbm, ⟨7, _⟩ => ⟨S8192x4608, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1152, .bf16⟩
  | .local _ .vmem, ⟨4, _⟩ => ⟨S512x1024, .bf16⟩
  | .local _ .vmem, ⟨5, _⟩ => ⟨S512x1024, .bf16⟩
  | .local _ .vmem, ⟨6, _⟩ => ⟨S512x4608, .bf16⟩
  | .local _ .vmem, ⟨7, _⟩ => ⟨S512x4608, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4608 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixInRefIdeal.lean ====
abbrev S8192x1024 : Shape := ⟨2, ![8192, 1024]⟩
abbrev S1x1024 : Shape := ⟨2, ![1, 1024]⟩
abbrev S1024x4608 : Shape := ⟨2, ![1024, 4608]⟩
abbrev S_ : Shape := ⟨0, ![]⟩
abbrev S8192 : Shape := ⟨1, ![8192]⟩
abbrev S8192x1 : Shape := ⟨2, ![8192, 1]⟩
abbrev S8192x4608 : Shape := ⟨2, ![8192, 4608]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4608, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x4608, .f32⟩
  | .hbm, ⟨20, _⟩ => ⟨S8192x4608, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== QueryIn.lean ====
abbrev S8192x1024 : Shape := ⟨2, ![8192, 1024]⟩
abbrev S1x1024 : Shape := ⟨2, ![1, 1024]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .f32⟩
  | .hbm, ⟨3, _⟩ => ⟨S1024x1024, .bf16⟩
  | .hbm, ⟨4, _⟩ => ⟨S1x1024x1024, .bf16⟩
  | .hbm, ⟨5, _⟩ => ⟨S8192x1024, .bf16⟩
  | .hbm, ⟨6, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QueryInRefIdeal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== MemoryIn.lean ====
abbrev S256x1024 : Shape := ⟨2, ![256, 1024]⟩
abbrev S1x1024 : Shape := ⟨2, ![1, 1024]⟩
abbrev S1024x2048 : Shape := ⟨2, ![1024, 2048]⟩
abbrev S1024x4x512 : Shape := ⟨3, ![1024, 4, 512]⟩
abbrev S4x1024x512 : Shape := ⟨3, ![4, 1024, 512]⟩
abbrev S256x2048 : Shape := ⟨2, ![256, 2048]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩

abbrev nBuf : Space → Nat
  | .hbm => 8
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S1024x2048, .bf16⟩
  | .hbm, ⟨4, _⟩ => ⟨S1024x4x512, .bf16⟩
  | .hbm, ⟨5, _⟩ => ⟨S4x1024x512, .bf16⟩
  | .hbm, ⟨6, _⟩ => ⟨S256x1024, .bf16⟩
  | .hbm, ⟨7, _⟩ => ⟨S256x2048, .bf16⟩
  | .local _ .vmem, ⟨0, _⟩ => ⟨S256x1024, .f32⟩
  | .local _ .vmem, ⟨1, _⟩ => ⟨S1x1024, .f32⟩
  | .local _ .vmem, ⟨2, _⟩ => ⟨S4x1024x512, .bf16⟩
  | .local _ .vmem, ⟨3, _⟩ => ⟨S256x1024, .bf16⟩
  | .local _ .vmem, ⟨4, _⟩ => ⟨S256x2048, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== MemoryInRefIdeal.lean ====
abbrev S256x1024 : Shape := ⟨2, ![256, 1024]⟩
abbrev S1x1024 : Shape := ⟨2, ![1, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S256x2048 : Shape := ⟨2, ![256, 2048]⟩

abbrev nBuf : Space → Nat
  | .hbm => 21
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .bf16⟩
  | .hbm, ⟨19, _⟩ => ⟨S256x2048, .f32⟩
  | .hbm, ⟨20, _⟩ => ⟨S256x2048, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== FfnIn.lean ====
abbrev S8192x1024 : Shape := ⟨2, ![8192, 1024]⟩
abbrev S1x1024 : Shape := ⟨2, ![1, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S8192x5632 : Shape := ⟨2, ![8192, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S1024x5632, .bf16⟩
  | .hbm, ⟨4, _⟩ => ⟨S1024x4x1408, .bf16⟩
  | .hbm, ⟨5, _⟩ => ⟨S4x1024x1408, .bf16⟩
  | .hbm, ⟨6, _⟩ => ⟨S8192x1024, .bf16⟩
  | .hbm, ⟨7, _⟩ => ⟨S8192x5632, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1408, .bf16⟩
  | .local _ .vmem, ⟨4, _⟩ => ⟨S512x1024, .bf16⟩
  | .local _ .vmem, ⟨5, _⟩ => ⟨S512x1024, .bf16⟩
  | .local _ .vmem, ⟨6, _⟩ => ⟨S512x5632, .bf16⟩
  | .local _ .vmem, ⟨7, _⟩ => ⟨S512x5632, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnInRefIdeal.lean ====
abbrev S8192x1024 : Shape := ⟨2, ![8192, 1024]⟩
abbrev S1x1024 : Shape := ⟨2, ![1, 1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x5632, .f32⟩
  | .hbm, ⟨20, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Gating.lean ====
abbrev S8192x4608 : Shape := ⟨2, ![8192, 4608]⟩
abbrev S8x64 : Shape := ⟨2, ![8, 64]⟩
abbrev S8x128x128 : Shape := ⟨3, ![8, 128, 128]⟩
abbrev S8x128 : Shape := ⟨2, ![8, 128]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S1x128x128 : Shape := ⟨3, ![1, 128, 128]⟩
abbrev S4x2x128x128 : Shape := ⟨4, ![4, 2, 128, 128]⟩
abbrev S4x128x2x128 : Shape := ⟨4, ![4, 128, 2, 128]⟩
abbrev S4x128x256 : Shape := ⟨3, ![4, 128, 256]⟩
abbrev S128x8 : Shape := ⟨2, ![128, 8]⟩
abbrev S128x8x64 : Shape := ⟨3, ![128, 8, 64]⟩
abbrev S128x512 : Shape := ⟨2, ![128, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S8192x512 : Shape := ⟨2, ![8192, 512]⟩
abbrev S1024x512 : Shape := ⟨2, ![1024, 512]⟩
abbrev S4x256x128 : Shape := ⟨3, ![4, 256, 128]⟩
abbrev S2048x512 : Shape := ⟨2, ![2048, 512]⟩
abbrev S1x256x128 : Shape := ⟨3, ![1, 256, 128]⟩
abbrev S256x128 : Shape := ⟨2, ![256, 128]⟩
abbrev S1x128x256 : Shape := ⟨3, ![1, 128, 256]⟩
abbrev S128x256 : Shape := ⟨2, ![128, 256]⟩

abbrev nBuf : Space → Nat
  | .hbm => 92
  | .vmem => 13
  | .smem => 0
  | _ => 0

abbrev bufTy : (tb : Table) → Fin (tcTables nBuf tb) → BufTy
  | .hbm, ⟨0, _⟩ => ⟨S8192x4608, .bf16⟩
  | .hbm, ⟨1, _⟩ => ⟨S8x64, .f32⟩
  | .hbm, ⟨2, _⟩ => ⟨S8x64, .f32⟩
  | .hbm, ⟨3, _⟩ => ⟨S8x128x128, .f32⟩
  | .hbm, ⟨4, _⟩ => ⟨S8x128, .f32⟩
  | .hbm, ⟨5, _⟩ => ⟨S128, .i32⟩
  | .hbm, ⟨6, _⟩ => ⟨S1x128, .i32⟩
  | .hbm, ⟨7, _⟩ => ⟨S_, .i32⟩
  | .hbm, ⟨8, _⟩ => ⟨S_, .i32⟩
  | .hbm, ⟨9, _⟩ => ⟨S1x128, .i32⟩
  | .hbm, ⟨10, _⟩ => ⟨S1x128, .i32⟩
  | .hbm, ⟨11, _⟩ => ⟨S1x128, .i32⟩
  | .hbm, ⟨12, _⟩ => ⟨S_, .i32⟩
  | .hbm, ⟨13, _⟩ => ⟨S1x128, .i32⟩
  | .hbm, ⟨14, _⟩ => ⟨S1x128, .i1⟩
  | .hbm, ⟨15, _⟩ => ⟨S1x128, .i32⟩
  | .hbm, ⟨16, _⟩ => ⟨S1x128, .i32⟩
  | .hbm, ⟨17, _⟩ => ⟨S_, .i32⟩
  | .hbm, ⟨18, _⟩ => ⟨S1x128, .i32⟩
  | .hbm, ⟨19, _⟩ => ⟨S1x128, .i1⟩
  | .hbm, ⟨20, _⟩ => ⟨S1x128, .i1⟩
  | .hbm, ⟨21, _⟩ => ⟨S_, .i32⟩
  | .hbm, ⟨22, _⟩ => ⟨S1x128, .i32⟩
  | .hbm, ⟨23, _⟩ => ⟨S1x128, .i32⟩
  | .hbm, ⟨24, _⟩ => ⟨S1x128, .i32⟩
  | .hbm, ⟨25, _⟩ => ⟨S128x1, .i32⟩
  | .hbm, ⟨26, _⟩ => ⟨S_, .i32⟩
  | .hbm, ⟨27, _⟩ => ⟨S_, .i32⟩
  | .hbm, ⟨28, _⟩ => ⟨S128x1, .i32⟩
  | .hbm, ⟨29, _⟩ => ⟨S128x1, .i32⟩
  | .hbm, ⟨30, _⟩ => ⟨S128x1, .i32⟩
  | .hbm, ⟨31, _⟩ => ⟨S_, .i32⟩
  | .hbm, ⟨32, _⟩ => ⟨S128x1, .i32⟩
  | .hbm, ⟨33, _⟩ => ⟨S128x1, .i1⟩
  | .hbm, ⟨34, _⟩ => ⟨S128x1, .i32⟩
  | .hbm, ⟨35, _⟩ => ⟨S128x1, .i32⟩
  | .hbm, ⟨36, _⟩ => ⟨S_, .i32⟩
  | .hbm, ⟨37, _⟩ => ⟨S128x1, .i32⟩
  | .hbm, ⟨38, _⟩ => ⟨S128x1, .i1⟩
  | .hbm, ⟨39, _⟩ => ⟨S128x1, .i1⟩
  | .hbm, ⟨40, _⟩ => ⟨S_, .i32⟩
  | .hbm, ⟨41, _⟩ => ⟨S128x1, .i32⟩
  | .hbm, ⟨42, _⟩ => ⟨S128x1, .i32⟩
  | .hbm, ⟨43, _⟩ => ⟨S128x1, .i32⟩
  | .hbm, ⟨44, _⟩ => ⟨S128x128, .i32⟩
  | .hbm, ⟨45, _⟩ => ⟨S128x128, .i32⟩
  | .hbm, ⟨46, _⟩ => ⟨S128x128, .i1⟩
  | .hbm, ⟨47, _⟩ => ⟨S1x128x128, .i1⟩
  | .hbm, ⟨48, _⟩ => ⟨S_, .f32⟩
  | .hbm, ⟨49, _⟩ => ⟨S_, .f32⟩
  | .hbm, ⟨50, _⟩ => ⟨S8x128x128, .i1⟩
  | .hbm, ⟨51, _⟩ => ⟨S8x128x128, .f32⟩
  | .hbm, ⟨52, _⟩ => ⟨S8x128x128, .f32⟩
  | .hbm, ⟨53, _⟩ => ⟨S4x2x128x128, .f32⟩
  | .hbm, ⟨54, _⟩ => ⟨S4x128x2x128, .f32⟩
  | .hbm, ⟨55, _⟩ => ⟨S4x128x256, .f32⟩
  | .hbm, ⟨56, _⟩ => ⟨S4x128x256, .bf16⟩
  | .hbm, ⟨57, _⟩ => ⟨S128x8, .f32⟩
  | .hbm, ⟨58, _⟩ => ⟨S128x8x64, .f32⟩
  | .hbm, ⟨59, _⟩ => ⟨S128x512, .f32⟩
  | .hbm, ⟨60, _⟩ => ⟨S512, .i32⟩
  | .hbm, ⟨61, _⟩ => ⟨S_, .i32⟩
  | .hbm, ⟨62, _⟩ => ⟨S_, .i32⟩
  | .hbm, ⟨63, _⟩ => ⟨S512, .i32⟩
  | .hbm, ⟨64, _⟩ => ⟨S512, .i32⟩
  | .hbm, ⟨65, _⟩ => ⟨S512, .i32⟩
  | .hbm, ⟨66, _⟩ => ⟨S_, .i32⟩
  | .hbm, ⟨67, _⟩ => ⟨S512, .i32⟩
  | .hbm, ⟨68, _⟩ => ⟨S512, .i1⟩
  | .hbm, ⟨69, _⟩ => ⟨S512, .i32⟩
  | .hbm, ⟨70, _⟩ => ⟨S512, .i32⟩
  | .hbm, ⟨71, _⟩ => ⟨S_, .i32⟩
  | .hbm, ⟨72, _⟩ => ⟨S512, .i32⟩
  | .hbm, ⟨73, _⟩ => ⟨S512, .i1⟩
  | .hbm, ⟨74, _⟩ => ⟨S512, .i1⟩
  | .hbm, ⟨75, _⟩ => ⟨S_, .i32⟩
  | .hbm, ⟨76, _⟩ => ⟨S512, .i32⟩
  | .hbm, ⟨77, _⟩ => ⟨S512, .i32⟩
  | .hbm, ⟨78, _⟩ => ⟨S512, .i32⟩
  | .hbm, ⟨79, _⟩ => ⟨S512x1, .i32⟩
  | .hbm, ⟨80, _⟩ => ⟨S1x512, .i32⟩
  | .hbm, ⟨81, _⟩ => ⟨S512x512, .i32⟩
  | .hbm, ⟨82, _⟩ => ⟨S512x512, .i32⟩
  | .hbm, ⟨83, _⟩ => ⟨S512x512, .i1⟩
  | .hbm, ⟨84, _⟩ => ⟨S512x512, .f32⟩
  | .hbm, ⟨85, _⟩ => ⟨S_, .f32⟩
  | .hbm, ⟨86, _⟩ => ⟨S512x512, .f32⟩
  | .hbm, ⟨87, _⟩ => ⟨S512x512, .f32⟩
  | .hbm, ⟨88, _⟩ => ⟨S512x512, .bf16⟩
  | .hbm, ⟨89, _⟩ => ⟨S1x512, .f32⟩
  | .hbm, ⟨90, _⟩ => ⟨S1x512, .f32⟩
  | .hbm, ⟨91, _⟩ => ⟨S8192x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x512, .bf16⟩
  | .local _ .vmem, ⟨5, _⟩ => ⟨S1x512, .f32⟩
  | .local _ .vmem, ⟨6, _⟩ => ⟨S1x512, .f32⟩
  | .local _ .vmem, ⟨7, _⟩ => ⟨S4x128x256, .bf16⟩
  | .local _ .vmem, ⟨8, _⟩ => ⟨S128x512, .f32⟩
  | .local _ .vmem, ⟨9, _⟩ => ⟨S1024x512, .bf16⟩
  | .local _ .vmem, ⟨10, _⟩ => ⟨S1024x512, .bf16⟩
  | .local _ .vmem, ⟨11, _⟩ => ⟨S1024x512, .f32⟩
  | .local _ .vmem, ⟨12, _⟩ => ⟨S4x256x128, .bf16⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_cst : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_c_1 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_c : Ref sig .tc := ⟨.hbm, 71, rfl⟩
abbrev main_call3_v9 : Ref sig .tc := ⟨.hbm, 72, rfl⟩
abbrev main_call3_v10 : Ref sig .tc := ⟨.hbm, 73, rfl⟩
abbrev main_call3_v11 : Ref sig .tc := ⟨.hbm, 74, rfl⟩
abbrev main_call3_c_0 : Ref sig .tc := ⟨.hbm, 75, rfl⟩
abbrev main_call3_v12 : Ref sig .tc := ⟨.hbm, 76, rfl⟩
abbrev main_call3_v13 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_cst_2 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v54 : BitVec 32 := Scalar.addi c0_i32 c8_i32
  let c1_i32 : BitVec 32 := 1#32
  ⟨c0_i32, v54, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32 : BitVec 32 := 128#32
  let v55 : BitVec 32 := Scalar.muli arg11 c128_i32
  v55
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v55 : BitVec 32 := Scalar.muli arg11 c128_i32
  let v56 : BitVec 32 := v55
  let v57 : Index := Scalar.indexCast v56
  let c0_18 : Index := 0#32
  ![v57.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v55 : BitVec 32 := Scalar.muli arg11 c128_i32
  let v56 : BitVec 32 := v55
  let v73 : Index := Scalar.indexCast v56
  let c0_23 : Index := 0#32
  ![v73.toNat, 0]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v55 : BitVec 32 := Scalar.muli arg11 c128_i32
  let v56 : BitVec 32 := v55
  let v107 : Index := Scalar.indexCast v56
  let c128_45 : Index := 128#32
  ![v107.toNat, 128]
def k0_off4 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v55 : BitVec 32 := Scalar.muli arg11 c128_i32
  let v56 : BitVec 32 := v55
  let v141 : Index := Scalar.indexCast v56
  let c256 : Index := 256#32
  ![v141.toNat, 256]
def k0_off5 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v55 : BitVec 32 := Scalar.muli arg11 c128_i32
  let v56 : BitVec 32 := v55
  let v175 : Index := Scalar.indexCast v56
  let c384 : Index := 384#32
  ![v175.toNat, 384]
def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GatingRefIdeal.lean ====
abbrev S8192x4608 : Shape := ⟨2, ![8192, 4608]⟩
abbrev S8x64 : Shape := ⟨2, ![8, 64]⟩
abbrev S8x128x128 : Shape := ⟨3, ![8, 128, 128]⟩
abbrev S8x128 : Shape := ⟨2, ![8, 128]⟩
abbrev S1x8192x4608 : Shape := ⟨3, ![1, 8192, 4608]⟩
abbrev S1x8192x512 : Shape := ⟨3, ![1, 8192, 512]⟩
abbrev S_ : Shape := ⟨0, ![]⟩
abbrev S1x64x128x8x64 : Shape := ⟨5, ![1, 64, 128, 8, 64]⟩
abbrev S1x64x128x8 : Shape := ⟨4, ![1, 64, 128, 8]⟩
abbrev S1x64x128x8x1 : Shape := ⟨5, ![1, 64, 128, 8, 1]⟩
abbrev S1x1x1x8x64 : Shape := ⟨5, ![1, 1, 1, 8, 64]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x1x64x64x128 : Shape := ⟨5, ![8, 1, 64, 64, 128]⟩
abbrev S128x8 : Shape := ⟨2, ![128, 8]⟩
abbrev S1x1x128x8x1 : Shape := ⟨5, ![1, 1, 128, 8, 1]⟩
abbrev S8192x512 : Shape := ⟨2, ![8192, 512]⟩

abbrev nBuf : Space → Nat
  | .hbm => 132
  | .vmem => 0
  | .smem => 0
  | _ => 0

abbrev hbmTy0_0 (i : Nat) : BufTy := match i % 128 with
  | 0 => ⟨S8192x4608, .bf16⟩
  | 1 => ⟨S8x64, .f32⟩
  | 2 => ⟨S8x64, .f32⟩
  | 3 => ⟨S8x128x128, .f32⟩
  | 4 => ⟨S8x128, .f32⟩
  | 5 => ⟨S8192x4608, .f32⟩
  | 6 => ⟨S1x8192x4608, .f32⟩
  | 7 => ⟨S1x8192x512, .f32⟩
  | 8 => ⟨S1x8192x512, .f32⟩
  | 9 => ⟨S1x8192x512, .f32⟩
  | 10 => ⟨S1x8192x512, .f32⟩
  | 11 => ⟨S_, .f32⟩
  | 12 => ⟨S1x8192x512, .f32⟩
  | 13 => ⟨S1x8192x512, .f32⟩
  | 14 => ⟨S1x8192x512, .f32⟩
  | 15 => ⟨S_, .f32⟩
  | 16 => ⟨S1x8192x512, .f32⟩
  | 17 => ⟨S1x8192x512, .f32⟩
  | 18 => ⟨S1x8192x512, .f32⟩
  | 19 => ⟨S_, .f32⟩
  | 20 => ⟨S1x8192x512, .f32⟩
  | 21 => ⟨S1x8192x512, .f32⟩
  | 22 => ⟨S_, .f32⟩
  | 23 => ⟨S1x8192x512, .f32⟩
  | 24 => ⟨S1x8192x512, .f32⟩
  | 25 => ⟨S1x8192x512, .f32⟩
  | 26 => ⟨S1x8192x512, .f32⟩
  | 27 => ⟨S1x8192x512, .f32⟩
  | 28 => ⟨S_, .f32⟩
  | 29 => ⟨S1x8192x512, .f32⟩
  | 30 => ⟨S1x8192x512, .f32⟩
  | 31 => ⟨S1x8192x512, .f32⟩
  | 32 => ⟨S_, .f32⟩
  | 33 => ⟨S1x8192x512, .f32⟩
  | 34 => ⟨S1x8192x512, .f32⟩
  | 35 => ⟨S1x8192x512, .f32⟩
  | 36 => ⟨S_, .f32⟩
  | 37 => ⟨S1x8192x512, .f32⟩
  | 38 => ⟨S1x8192x512, .f32⟩
  | 39 => ⟨S_, .f32⟩
  | 40 => ⟨S1x8192x512, .f32⟩
  | 41 => ⟨S1x8192x512, .f32⟩
  | 42 => ⟨S1x8192x512, .f32⟩
  | 43 => ⟨S1x64x128x8x64, .f32⟩
  | 44 => ⟨S_, .f32⟩
  | 45 => ⟨S1x64x128x8, .f32⟩
  | 46 => ⟨S1x64x128x8x1, .f32⟩
  | 47 => ⟨S_, .f32⟩
  | 48 => ⟨S1x64x128x8x1, .f32⟩
  | 49 => ⟨S1x64x128x8x1, .f32⟩
  | 50 => ⟨S1x64x128x8x64, .f32⟩
  | 51 => ⟨S1x64x128x8x64, .f32⟩
  | 52 => ⟨S1x64x128x8x64, .f32⟩
  | 53 => ⟨S_, .f32⟩
  | 54 => ⟨S1x64x128x8, .f32⟩
  | 55 => ⟨S1x64x128x8x1, .f32⟩
  | 56 => ⟨S_, .f32⟩
  | 57 => ⟨S1x64x128x8x1, .f32⟩
  | 58 => ⟨S1x64x128x8x1, .f32⟩
  | 59 => ⟨S1x64x128x8x64, .f32⟩
  | 60 => ⟨S1x64x128x8x64, .f32⟩
  | 61 => ⟨S_, .f32⟩
  | 62 => ⟨S1x64x128x8x1, .f32⟩
  | 63 => ⟨S1x64x128x8x1, .f32⟩
  | 64 => ⟨S1x64x128x8x1, .f32⟩
  | 65 => ⟨S1x64x128x8x64, .f32⟩
  | 66 => ⟨S1x64x128x8x64, .f32⟩
  | 67 => ⟨S1x1x1x8x64, .f32⟩
  | 68 => ⟨S1x64x128x8x64, .f32⟩
  | 69 => ⟨S1x64x128x8x64, .f32⟩
  | 70 => ⟨S1x1x1x8x64, .f32⟩
  | 71 => ⟨S1x64x128x8x64, .f32⟩
  | 72 => ⟨S1x64x128x8x64, .f32⟩
  | 73 => ⟨S128, .i32⟩
  | 74 => ⟨S1x128, .i32⟩
  | 75 => ⟨S_, .i32⟩
  | 76 => ⟨S_, .i32⟩
  | 77 => ⟨S1x128, .i32⟩
  | 78 => ⟨S1x128, .i32⟩
  | 79 => ⟨S1x128, .i32⟩
  | 80 => ⟨S_, .i32⟩
  | 81 => ⟨S1x128, .i32⟩
  | 82 => ⟨S1x128, .i1⟩
  | 83 => ⟨S1x128, .i32⟩
  | 84 => ⟨S1x128, .i32⟩
  | 85 => ⟨S_, .i32⟩
  | 86 => ⟨S1x128, .i32⟩
  | 87 => ⟨S1x128, .i1⟩
  | 88 => ⟨S1x128, .i1⟩
  | 89 => ⟨S_, .i32⟩
  | 90 => ⟨S1x128, .i32⟩
  | 91 => ⟨S1x128, .i32⟩
  | 92 => ⟨S1x128, .i32⟩
  | 93 => ⟨S128x1, .i32⟩
  | 94 => ⟨S_, .i32⟩
  | 95 => ⟨S_, .i32⟩
  | 96 => ⟨S128x1, .i32⟩
  | 97 => ⟨S128x1, .i32⟩
  | 98 => ⟨S128x1, .i32⟩
  | 99 => ⟨S_, .i32⟩
  | 100 => ⟨S128x1, .i32⟩
  | 101 => ⟨S128x1, .i1⟩
  | 102 => ⟨S128x1, .i32⟩
  | 103 => ⟨S128x1, .i32⟩
  | 104 => ⟨S_, .i32⟩
  | 105 => ⟨S128x1, .i32⟩
  | 106 => ⟨S128x1, .i1⟩
  | 107 => ⟨S128x1, .i1⟩
  | 108 => ⟨S_, .i32⟩
  | 109 => ⟨S128x1, .i32⟩
  | 110 => ⟨S128x1, .i32⟩
  | 111 => ⟨S128x1, .i32⟩
  | 112 => ⟨S128x128, .i32⟩
  | 113 => ⟨S128x128, .i32⟩
  | 114 => ⟨S128x128, .i1⟩
  | 115 => ⟨S1x128x128, .i1⟩
  | 116 => ⟨S_, .f32⟩
  | 117 => ⟨S_, .f32⟩
  | 118 => ⟨S8x128x128, .i1⟩
  | 119 => ⟨S8x128x128, .f32⟩
  | 120 => ⟨S8x128x128, .f32⟩
  | 121 => ⟨S8x1x64x64x128, .f32⟩
  | 122 => ⟨S1x64x128x8x64, .f32⟩
  | 123 => ⟨S128x8, .f32⟩
  | 124 => ⟨S1x1x128x8x1, .f32⟩
  | 125 => ⟨S1x64x128x8x64, .f32⟩
  | 126 => ⟨S1x64x128x8x64, .f32⟩
  | 127 => ⟨S1x64x128x8x64, .f32⟩
  | _ => ⟨S8192x4608, .bf16⟩

abbrev hbmTy0_1 (i : Nat) : BufTy := match i % 128 with
  | 0 => ⟨S1x64x128x8x64, .f32⟩
  | 1 => ⟨S1x8192x512, .f32⟩
  | 2 => ⟨S8192x512, .f32⟩
  | 3 => ⟨S8192x512, .bf16⟩
  | _ => ⟨S8192x4608, .bf16⟩

abbrev hbmTy (i : Nat) : BufTy := match i / 128 with
  | 0 => hbmTy0_0 i
  | 1 => hbmTy0_1 i
  | _ => ⟨S8192x4608, .bf16⟩

abbrev bufTy : (tb : Table) → Fin (tcTables nBuf tb) → BufTy
  | .hbm, ⟨i, _⟩ => hbmTy i
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_v8 : Ref sig .tc := ⟨.hbm, 84, rfl⟩
abbrev main_call0_c : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_call0_c_0 : Ref sig .tc := ⟨.hbm, 89, rfl⟩
abbrev main_call0_v12 : Ref sig .tc := ⟨.hbm, 90, rfl⟩
abbrev main_call0_v13 : Ref sig .tc := ⟨.hbm, 91, rfl⟩
abbrev main_v57 : Ref sig .tc := ⟨.hbm, 92, rfl⟩
abbrev main_v58 : Ref sig .tc := ⟨.hbm, 93, rfl⟩
abbrev main_c_12 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_v5 : Ref sig .tc := ⟨.hbm, 100, rfl⟩
abbrev main_call1_v6 : Ref sig .tc := ⟨.hbm, 101, rfl⟩
abbrev main_call1_v7 : Ref sig .tc := ⟨.hbm, 102, rfl⟩
abbrev main_call1_v8 : Ref sig .tc := ⟨.hbm, 103, rfl⟩
abbrev main_call1_c : Ref sig .tc := ⟨.hbm, 104, rfl⟩
abbrev main_call1_v9 : Ref sig .tc := ⟨.hbm, 105, rfl⟩
abbrev main_call1_v10 : Ref sig .tc := ⟨.hbm, 106, rfl⟩
abbrev main_call1_v11 : Ref sig .tc := ⟨.hbm, 107, rfl⟩
abbrev main_call1_c_0 : Ref sig .tc := ⟨.hbm, 108, rfl⟩
abbrev main_call1_v12 : Ref sig .tc := ⟨.hbm, 109, rfl⟩
abbrev main_call1_v13 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_13 : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩

abbrev nD : Nat := 1
abbrev τ : Topo := Topo.v7x

variable {F : FTy → Type} [FloatOps F]
-- ==== FfnWeight.lean ====
abbrev S8192x1024 : Shape := ⟨2, ![8192, 1024]⟩
abbrev S8192x5632 : Shape := ⟨2, ![8192, 5632]⟩
abbrev S4x1024x1408 : Shape := ⟨3, ![4, 1024, 1408]⟩
abbrev S1024x1024 : Shape := ⟨2, ![1024, 1024]⟩
abbrev S1024x2816 : Shape := ⟨2, ![1024, 2816]⟩
abbrev S2x1024x1408 : Shape := ⟨3, ![2, 1024, 1408]⟩
abbrev S1024x1408 : Shape := ⟨2, ![1024, 1408]⟩
abbrev S1x1024x1408 : Shape := ⟨3, ![1, 1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S2x1024x1408, .bf16⟩
  | .local _ .vmem, ⟨5, _⟩ => ⟨S2x1024x1408, .bf16⟩
  | .local _ .vmem, ⟨6, _⟩ => ⟨S1024x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnWeightRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MixWeight.lean ====
abbrev S8192x1024 : Shape := ⟨2, ![8192, 1024]⟩
abbrev S8192x1536 : Shape := ⟨2, ![8192, 1536]⟩
abbrev S8192x2048 : Shape := ⟨2, ![8192, 2048]⟩
abbrev S4x1024x1152 : Shape := ⟨3, ![4, 1024, 1152]⟩
abbrev S1024x1024 : Shape := ⟨2, ![1024, 1024]⟩
abbrev S1024x1536 : Shape := ⟨2, ![1024, 1536]⟩
abbrev S1024x2048 : Shape := ⟨2, ![1024, 2048]⟩
abbrev S2x1024x1152 : Shape := ⟨3, ![2, 1024, 1152]⟩
abbrev S1024x2304 : Shape := ⟨2, ![1024, 2304]⟩
abbrev S1024x768 : Shape := ⟨2, ![1024, 768]⟩
abbrev S1024x256 : Shape := ⟨2, ![1024, 256]⟩
abbrev S1024x1152 : Shape := ⟨2, ![1024, 1152]⟩
abbrev S1x1024x1152 : Shape := ⟨3, ![1, 1024, 1152]⟩

abbrev nBuf : Space → Nat
  | .hbm => 5
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x1024, .bf16⟩
  | .hbm, ⟨3, _⟩ => ⟨S8192x2048, .bf16⟩
  | .hbm, ⟨4, _⟩ => ⟨S4x1024x1152, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | .local _ .vmem, ⟨7, _⟩ => ⟨S1024x2048, .bf16⟩
  | .local _ .vmem, ⟨8, _⟩ => ⟨S2x1024x1152, .bf16⟩
  | .local _ .vmem, ⟨9, _⟩ => ⟨S2x1024x1152, .bf16⟩
  | .local _ .vmem, ⟨10, _⟩ => ⟨S1024x2304, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_cond4 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x1024x1152 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MixWeightRefIdeal.lean ====
abbrev S8192x1024 : Shape := ⟨2, ![8192, 1024]⟩
abbrev S8192x1536 : Shape := ⟨2, ![8192, 1536]⟩
abbrev S8192x2048 : Shape := ⟨2, ![8192, 2048]⟩
abbrev S8192x4608 : Shape := ⟨2, ![8192, 4608]⟩
abbrev S_ : Shape := ⟨0, ![]⟩
abbrev S1024x4608 : Shape := ⟨2, ![1024, 4608]⟩
abbrev S4608x1024 : Shape := ⟨2, ![4608, 1024]⟩
abbrev S1024x4x1152 : Shape := ⟨3, ![1024, 4, 1152]⟩
abbrev S4x1024x1152 : Shape := ⟨3, ![4, 1024, 1152]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x1024, .bf16⟩
  | .hbm, ⟨3, _⟩ => ⟨S8192x2048, .bf16⟩
  | .hbm, ⟨4, _⟩ => ⟨S8192x4608, .bf16⟩
  | .hbm, ⟨5, _⟩ => ⟨S_, .f32⟩
  | .hbm, ⟨6, _⟩ => ⟨S1024x4608, .f32⟩
  | .hbm, ⟨7, _⟩ => ⟨S8192x1024, .f32⟩
  | .hbm, ⟨8, _⟩ => ⟨S8192x4608, .f32⟩
  | .hbm, ⟨9, _⟩ => ⟨S8192x4608, .f32⟩
  | .hbm, ⟨10, _⟩ => ⟨S4608x1024, .f32⟩
  | .hbm, ⟨11, _⟩ => ⟨S1024x4608, .f32⟩
  | .hbm, ⟨12, _⟩ => ⟨S1024x4x1152, .f32⟩
  | .hbm, ⟨13, _⟩ => ⟨S4x1024x1152, .f32⟩
  | .hbm, ⟨14, _⟩ => ⟨S4x1024x1152, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Adam.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== BlockSum.lean ====
abbrev S8x1112x128 : Shape := ⟨3, ![8, 1112, 128]⟩
abbrev S1112x128 : Shape := ⟨2, ![1112, 128]⟩
abbrev S1x1112x128 : Shape := ⟨3, ![1, 1112, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1112x128, .f32⟩
  | .hbm, ⟨1, _⟩ => ⟨S1112x128, .f32⟩
  | .local _ .vmem, ⟨0, _⟩ => ⟨S8x1112x128, .f32⟩
  | .local _ .vmem, ⟨1, _⟩ => ⟨S1112x128, .f32⟩
  | _, _ => ⟨S8x1112x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1112x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1112x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== BlockSumRefIdeal.lean ====
abbrev S8x1112x128 : Shape := ⟨3, ![8, 1112, 128]⟩
abbrev S_ : Shape := ⟨0, ![]⟩
abbrev S1112x128 : Shape := ⟨2, ![1112, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1112x128, .f32⟩
  | .hbm, ⟨1, _⟩ => ⟨S_, .f32⟩
  | .hbm, ⟨2, _⟩ => ⟨S1112x128, .f32⟩
  | _, _ => ⟨S8x1112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Reals.lean ====
/- Reading extended-real terms as real ones: finite arrays, sums, the float constants the programs use. -/
module
public import Idealize.ShloMosaic.Lib.Pointwise
public import Idealize.ShloMosaic.Lib.ReduceAll
public import Idealize.ShloMosaic.PureOps.Ideal
@[expose] public section
set_option maxRecDepth 16384
noncomputable section

namespace Cert.Reals

open Idealize.ShloMosaic

/-- The array of extended reals whose entries are the real numbers `r`. -/
abbrev up {s : Shape} (r : s.Idx → ℝ) : s.Idx → EReal := fun i => (r i : EReal)

/-- A finite sum of real numbers, taken among the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem inf_lit : Ideal.ofBits .f32 0x7F800000#32 = ⊤ := by
  simp [Ideal.ofBits, Ideal.ieee]

/-- An extended real whose absolute value is below infinity is a real number. -/
theorem real_of_abs_lt_top {x : EReal} (h : max x (-x) < ⊤) : ∃ r : ℝ, x = (r : EReal) := by
  induction x using EReal.rec with
  | bot => simp at h
  | coe r => exact ⟨r, rfl⟩
  | top => simp at h

/-- What `jnp.all(jnp.abs(x) < jnp.inf)` says of an array. -/
theorem real_of_all {s t : Shape} {axes : List (Fin s.rank)} [Subsingleton t.Idx] (x : FVec Ideal s .f32)
    {u : Shape} (inf : FVec Ideal s .f32) (hinf : ∀ i, inf i = (⊤ : EReal)) (init : u.Idx → BitVec 1)
    (hr : s.ReducesTo axes t) (hu : 0 < u.numel) (j : t.Idx)
    (e : Host.reduce IntOp.andi (cmpf .olt (Host.absf x) inf) init hr hu j = 1#1) :
    ∃ r : s.Idx → ℝ, x = up r := by
  have h : ∀ i, ∃ r : ℝ, x i = (r : EReal) := fun i => by
    have := Host.reduce_andi_all _ init hr hu j e i
    refine real_of_abs_lt_top ?_
    pointwise at this
    rw [hinf] at this
    by_contra hc
    have e : (decide ((FloatOps.absf (x i) : Ideal .f32) < (⊤ : EReal))) = false := decide_eq_false hc
    rw [e] at this
    exact absurd this (by decide)
  choose r hr using h
  exact ⟨r, funext hr⟩

theorem half32 : Ideal.ofBits .f32 0x3F000000#32 = ((1 / 2 : ℝ) : EReal) := by
  simp [Ideal.ofBits, Ideal.ieee]; norm_num; rw [← EReal.coe_mul]; norm_num
theorem half16 : Ideal.ofBits .bf16 0x3F00#16 = ((1 / 2 : ℝ) : EReal) := by
  simp [Ideal.ofBits, Ideal.ieee]; norm_num; rw [← EReal.coe_mul]; norm_num
theorem one32 : Ideal.ofBits .f32 0x3F800000#32 = ((1 : ℝ) : EReal) := by
  simp [Ideal.ofBits, Ideal.ieee]; rw [← EReal.coe_mul]; norm_num
theorem one16 : Ideal.ofBits .bf16 0x3F80#16 = ((1 : ℝ) : EReal) := by
  simp [Ideal.ofBits, Ideal.ieee]; rw [← EReal.coe_mul]; norm_num
theorem zero32 : Ideal.ofBits .f32 0x00000000#32 = ((0 : ℝ) : EReal) := by
  simp [Ideal.ofBits, Ideal.ieee]

/-- The logistic function. -/
def sig (x : ℝ) : ℝ := 1 / (1 + Real.exp (-x))

theorem sig_tanh (x : ℝ) : 1 / 2 * Real.tanh (1 / 2 * x) + 1 / 2 = sig x := by
  have h : Real.exp (-x) = Real.exp (-(1 / 2 * x)) * Real.exp (-(1 / 2 * x)) := by rw [← Real.exp_add]; ring_nf
  have h' : Real.exp (1 / 2 * x) * Real.exp (-(1 / 2 * x)) = 1 := by rw [← Real.exp_add]; simp
  rw [sig, h, Real.tanh_eq_sinh_div_cosh, Real.sinh_eq, Real.cosh_eq]
  have a := Real.exp_pos (1 / 2 * x)
  have b := Real.exp_pos (-(1 / 2 * x))
  generalize Real.exp (1 / 2 * x) = p at *
  generalize Real.exp (-(1 / 2 * x)) = q at *
  have : 1 + q * q ≠ 0 := by positivity
  have : p + q ≠ 0 := by positivity
  field_simp
  nlinarith

/-- The quotient of two real numbers, the divisor not zero. -/
theorem div_coe (x : ℝ) {y : ℝ} (h : y ≠ 0) : Ideal.div (x : EReal) (y : EReal) = ((x / y : ℝ) : EReal) := by
  rw [Ideal.div_coe h, ← EReal.coe_mul, mul_one_div]

/-- The logistic function as the host computes it. -/
theorem sig_host (r : ℝ) : Ideal.div 1 (1 + Ideal.exp (-(r : EReal))) = (sig r : EReal) := by
  rw [← EReal.coe_neg, Ideal.exp_coe, ← EReal.coe_one, ← EReal.coe_add, div_coe _ (by positivity), sig]

/-- A sum over 1024 terms as four sums over 256, one after the other. -/
theorem sum_four (f : Fin 1024 → ℝ) : ∑ j, f j = ∑ k : Fin 256, f ⟨k, by omega⟩ + ∑ k : Fin 256, f ⟨256 + k, by omega⟩
    + ∑ k : Fin 256, f ⟨512 + k, by omega⟩ + ∑ k : Fin 256, f ⟨768 + k, by omega⟩ := by
  rw [show (∑ j, f j) = _ from Fin.sum_univ_add (a := 768) (b := 256) f,
    show (∑ i : Fin 768, f (Fin.castAdd 256 i)) = _ from Fin.sum_univ_add (a := 512) (b := 256) _,
    show (∑ i : Fin 512, f (Fin.castAdd 256 (Fin.castAdd 256 i))) = _ from Fin.sum_univ_add (a := 256) (b := 256) _]
  rfl

/-- The array whose entry at row `i`, column `j` is `f i j`. -/
def arr {a b : Nat} (f : Fin a → Fin b → ℝ) (x : (⟨2, ![a, b]⟩ : Shape).Idx) : ℝ := f (x 0) (x 1)

theorem arr_ix {a b : Nat} (f : Fin a → Fin b → ℝ) (i : Fin a) (j : Fin b) : arr f (ix2 i j) = f i j := rfl
-- ==== Proof.ActSpec.lean ====
/- The gradient of the gated product `silu(gate) * up` through the plain product after it, over the real numbers, and
   the reference's own term read as it. -/
module
public import proofs.«01_k».proof.Proof.Reals
public import proofs.«01_k».proof.Proof.Gen.ActRefIdeal.Run
@[expose] public section
set_option maxRecDepth 16384
noncomputable section

namespace Cert.ActSpec

open Idealize.ShloMosaic Cert.ActRefIdeal Cert.ActRefIdeal.Gen Cert.Reals

/-- The reference's composed term, of the three argument arrays. -/
def REF (gu : FVec Ideal S8192x5632 .bf16) (w : FVec Ideal S2816x1024 .f32) (dx : FVec Ideal S8192x1024 .f32) :
    FVec Ideal S8192x5632 .bf16 :=
  truncf .bf16 (concatenate S8192x5632 1 [⟨S8192x2816, (addf (mulf (mulf (Host.dotGeneral dot_S8192x1024_S2816x1024_S8192x2816_1_1_0_0_n_n none dx w) (extractStridedSlice S8192x2816 ![0, 2816] (extf .f32 gu bitsLt_bf16_f32) slices_S8192x5632_S8192x2816_0_2816)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extractStridedSlice S8192x2816 ![0, 0] (extf .f32 gu bitsLt_bf16_f32) slices_S8192x5632_S8192x2816_0_0)))))) (mulf (mulf (extractStridedSlice S8192x2816 ![0, 0] (extf .f32 gu bitsLt_bf16_f32) slices_S8192x5632_S8192x2816_0_0) (mulf (Host.dotGeneral dot_S8192x1024_S2816x1024_S8192x2816_1_1_0_0_n_n none dx w) (extractStridedSlice S8192x2816 ![0, 2816] (extf .f32 gu bitsLt_bf16_f32) slices_S8192x5632_S8192x2816_0_2816))) (mulf (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extractStridedSlice S8192x2816 ![0, 0] (extf .f32 gu bitsLt_bf16_f32) slices_S8192x5632_S8192x2816_0_0))))) (subf (broadcastInDim S8192x2816 ![] bcast_S_S8192x2816 (constant S_ .f32 0x3F800000#32)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extractStridedSlice S8192x2816 ![0, 0] (extf .f32 gu bitsLt_bf16_f32) slices_S8192x5632_S8192x2816_0_0)))))))))⟩, ⟨S8192x2816, (mulf (mulf (extractStridedSlice S8192x2816 ![0, 0] (extf .f32 gu bitsLt_bf16_f32) slices_S8192x5632_S8192x2816_0_0) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extractStridedSlice S8192x2816 ![0, 0] (extf .f32 gu bitsLt_bf16_f32) slices_S8192x5632_S8192x2816_0_0)))))) (Host.dotGeneral dot_S8192x1024_S2816x1024_S8192x2816_1_1_0_0_n_n none dx w))⟩] concatenates_S8192x2816_S8192x2816_S8192x5632_d1) bitsLt_bf16_f32

/-- The cotangent of the activation: row `i` of `dx` against row `j` of `w`. -/
def dact (w : S2816x1024.Idx → ℝ) (dx : S8192x1024.Idx → ℝ) (i : Fin 8192) (j : Fin 2816) : ℝ :=
  ∑ k : Fin 1024, dx (ix2 i k) * w (ix2 j k)

/-- The gradient at row `i`, column `j`: in the first 2816 columns that of the gate, in the others that of `up`. -/
def Gat (gu : S8192x5632.Idx → ℝ) (w : S2816x1024.Idx → ℝ) (dx : S8192x1024.Idx → ℝ) (i : Fin 8192) (j : Fin 5632) : ℝ :=
  if h : j.val < 2816 then
    dact w dx i ⟨j.val, h⟩ * gu (ix2 i ⟨2816 + j.val, by omega⟩) * (sig (gu (ix2 i j)) * (1 + gu (ix2 i j) * (1 - sig (gu (ix2 i j)))))
  else
    dact w dx i ⟨j.val - 2816, by omega⟩
      * (gu (ix2 i ⟨j.val - 2816, by omega⟩) * sig (gu (ix2 i ⟨j.val - 2816, by omega⟩)))

/-- The gradient, index by index. -/
def G (gu : S8192x5632.Idx → ℝ) (w : S2816x1024.Idx → ℝ) (dx : S8192x1024.Idx → ℝ) (x : S8192x5632.Idx) : ℝ :=
  Gat gu w dx (x 0) (x 1)

theorem G_gate (gu : S8192x5632.Idx → ℝ) (w : S2816x1024.Idx → ℝ) (dx : S8192x1024.Idx → ℝ) (i : Fin 8192) (j j' : Fin 5632)
    (k : Fin 2816) (hj : j.val = k.val) (hj' : j'.val = 2816 + k.val) :
    G gu w dx (ix2 i j) = dact w dx i k * gu (ix2 i j') * (sig (gu (ix2 i j)) * (1 + gu (ix2 i j) * (1 - sig (gu (ix2 i j))))) := by
  have h : j.val < 2816 := hj.trans_lt k.isLt
  show Gat gu w dx i j = _
  obtain rfl : k = ⟨j.val, h⟩ := Fin.ext hj.symm
  rw [show j' = ⟨2816 + j.val, by omega⟩ from Fin.ext hj', Gat, dif_pos h]

theorem G_up (gu : S8192x5632.Idx → ℝ) (w : S2816x1024.Idx → ℝ) (dx : S8192x1024.Idx → ℝ) (i : Fin 8192) (j j' : Fin 5632)
    (k : Fin 2816) (hj : j.val = k.val) (hj' : j'.val = 2816 + k.val) :
    G gu w dx (ix2 i j') = dact w dx i k * (gu (ix2 i j) * sig (gu (ix2 i j))) := by
  have h : ¬ j'.val < 2816 := by omega
  show Gat gu w dx i j' = _
  have ek : ∀ h', (⟨j'.val - 2816, h'⟩ : Fin 2816) = k := fun _ => Fin.ext (by simp only; omega)
  have ej : ∀ h', (⟨j'.val - 2816, h'⟩ : Fin 5632) = j := fun _ => Fin.ext (by simp only; omega)
  rw [Gat, dif_neg h, ek, ej]

theorem ref_eq (gu : S8192x5632.Idx → ℝ) (w : S2816x1024.Idx → ℝ) (dx : S8192x1024.Idx → ℝ) :
    REF (up gu) (up w) (up dx) = up (G gu w dx) := by
  funext x
  idx_vars x
  pointwise [REF]
  have h1 : (1 : EReal) = ((1 : ℝ) : EReal) := EReal.coe_one.symm
  simp only [up, sig_host, ← EReal.coe_mul, coe_sum]
  rw [h1]
  simp only [← EReal.coe_mul, ← EReal.coe_add, ← EReal.coe_sub]
  by_cases h : x1.val < 2816
  · rw [dif_pos h, G_gate gu w dx x0 x1 ⟨2816 + x1, by omega⟩ ⟨x1, h⟩ rfl rfl, EReal.coe_eq_coe_iff, dact]
    ring
  · rw [dif_neg h, G_up gu w dx x0 ⟨x1 - 2816, by omega⟩ x1 ⟨x1 - 2816, by omega⟩ rfl (by simp only; omega), EReal.coe_eq_coe_iff, dact]
    ring
-- ==== Proof.ActValue.lean ====
/- What the kernel of the activation's gradient leaves in its result array. -/
module
public import proofs.«01_k».proof.Proof.ActSpec
public import proofs.«01_k».proof.Proof.Gen.ActIdeal.Value
public import Idealize.ShloMosaic.Lib.Pipeline.ValueKit
@[expose] public section
set_option maxRecDepth 16384
noncomputable section

namespace Cert.ActIdeal.Hand

open Idealize.ShloMosaic Idealize.ShloMosaic.TcCoe Idealize.SL.Sem
open Idealize.ShloMosaic.Pipeline (Dat)
open Cert.ActIdeal Cert.ActIdeal.Gen Cert.Reals

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

/-- The array row at which row `i` of point `t`'s blocks sits. -/
def row (t : Fin cfg0.N) (i : Fin 512) : Fin 8192 :=
  ⟨t.val * 512 + i, by have := lt_of_lt_of_eq t.isLt N_0; omega⟩

theorem row_val (t : Fin cfg0.N) (i : Fin 512) : (row t i).val = t.val * 512 + i := rfl

section Blocks

variable {m} {c : Dev nD} {gu : S8192x5632.Idx → ℝ} {w : S2816x1024.Idx → ℝ} {dx : S8192x1024.Idx → ℝ}

/-- Point `t`'s rows of a matrix of real numbers. -/
def rows {n : Nat} (r : (⟨2, ![8192, n]⟩ : Shape).Idx → ℝ) (t : Fin cfg0.N) : (⟨2, ![512, n]⟩ : Shape).Idx → ℝ :=
  fun x => r (ix2 (row t (x 0)) (x 1))

theorem rows_apply {n : Nat} (r : (⟨2, ![8192, n]⟩ : Shape).Idx → ℝ) (t : Fin cfg0.N) (i : Fin 512) (k : Fin n) :
    rows r t (ix2 i k) = r (ix2 (row t i) k) := rfl

theorem block_dx (t : Fin cfg0.N) (h : m ((c : Thread nD τ).loc main_arg2) = up dx) :
    (iblk m c 0 t : FVec Ideal S512x1024 .f32) = up (rows dx t) := by
  funext x
  have e : iblk m c 0 t x = m ((c : Thread nD τ).loc main_arg2) (ix2 (row t (x 0)) (x 1)) := by
    have := row_val t (x 0)
    blk_ext [iblk, V, idx t]
  rw [e, h]; rfl

theorem block_gu (t : Fin cfg0.N) (h : m ((c : Thread nD τ).loc main_arg0) = up gu) :
    (iblk m c 1 t : FVec Ideal S512x5632 .bf16) = up (rows gu t) := by
  funext x
  have e : iblk m c 1 t x = m ((c : Thread nD τ).loc main_arg0) (ix2 (row t (x 0)) (x 1)) := by
    have := row_val t (x 0)
    blk_ext [iblk, V, idx t]
  rw [e, h]; rfl

theorem block_w (t : Fin cfg0.N) (h : m ((c : Thread nD τ).loc main_arg1) = up w) :
    (iblk m c 2 t : FVec Ideal S2816x1024 .bf16) = up w := by
  funext x
  have e : iblk m c 2 t x = m ((c : Thread nD τ).loc main_arg1) x := by
    blk_simp [iblk, idx t]
    entry_read
    pointwise
    blk_ext [idx t]
  rw [e, h]

end Blocks

set_option backward.isDefEq.respectTransparency false in
/-- The body's result over blocks of real numbers. -/
theorem core (gu : S8192x5632.Idx → ℝ) (w : S2816x1024.Idx → ℝ) (dx : S8192x1024.Idx → ℝ) (t : Fin cfg0.N) (y : S512x5632.Idx) :
    out0_3 (F := Ideal) (up (rows dx t)) (up (rows gu t)) (up w) y = up (ActSpec.G gu w dx) (ix2 (row t (y 0)) (y 1)) := by
  have e1 : (1 : EReal) = ((1 : ℝ) : EReal) := EReal.coe_one.symm
  canon_tiles x h
  all_goals
    idx_vars x
    open_payloads
    pointwise
    try rw [e1]
    simp only [up, half16, ← EReal.coe_mul, coe_sum, Ideal.tanh_coe, ← EReal.coe_add, ← EReal.coe_sub, sig_tanh]
    refine congrArg Real.toEReal ?_
    rw [show y 0 = x0 from Fin.ext h0, show y 1 = ⟨_, lt_of_eq_of_lt h1.symm (y 1).isLt⟩ from Fin.ext h1]
    simp only [rows_apply]
  · rw [ActSpec.G_up _ _ _ _ ⟨1408 + x1, by omega⟩ _ ⟨1408 + x1, by omega⟩ rfl (by simp only; omega)]; rfl
  · rw [ActSpec.G_gate _ _ _ _ _ ⟨4224 + x1, by omega⟩ ⟨1408 + x1, by omega⟩ rfl (by simp only; omega), ActSpec.dact]; ring
  · rw [ActSpec.G_up _ _ _ _ ⟨x1, by omega⟩ _ ⟨x1, by omega⟩ rfl (by simp only)]; rfl
  · rw [ActSpec.G_gate _ _ _ _ _ ⟨2816 + x1, by omega⟩ ⟨x1, by omega⟩ rfl (by simp only), ActSpec.dact]; ring

theorem point (c : Dev nD) (t : Fin cfg0.N) (gu : S8192x5632.Idx → ℝ) (w : S2816x1024.Idx → ℝ) (dx : S8192x1024.Idx → ℝ)
    (g0 : m ((c : Thread nD τ).loc main_arg0) = up gu) (g1 : m ((c : Thread nD τ).loc main_arg1) = up w)
    (g2 : m ((c : Thread nD τ).loc main_arg2) = up dx) (y : S512x5632.Idx) :
    out0_3 (iblk m c 0 t) (iblk m c 1 t) (iblk m c 2 t) y = up (ActSpec.G gu w dx) (((cfg0.win 3).blk t).view.emb y) := by
  have hy : ((cfg0.win 3).blk t).view.emb y = ix2 (row t (y 0)) (y 1) := by
    have := row_val t (y 0)
    blk_ext [idx t]
  rw [hy, block_dx t g2, block_gu t g0, block_w t g1]
  exact core gu w dx t y

/-- The result array after the run. -/
theorem final (c : Dev nD) (gu : S8192x5632.Idx → ℝ) (w : S2816x1024.Idx → ℝ) (dx : S8192x1024.Idx → ℝ)
    (g0 : m ((c : Thread nD τ).loc main_arg0) = up gu) (g1 : m ((c : Thread nD τ).loc main_arg1) = up w)
    (g2 : m ((c : Thread nD τ).loc main_arg2) = up dx) : (dats m 0 c).arrAt 3 (cfgs 0).N = up (ActSpec.G gu w dx) := by
  refine (dats m 0 c).arrAt_eq_of_covers 3 _ (by decide +kernel) fun t _ y => ?_
  blk_simp
  rw [after0_3]
  exact point m c t gu w dx g0 g1 g2 y
-- ==== Proof.ActClaim.lean ====
/- The claims about the activation's gradient. -/
module
public import proofs.«01_k».proof.Defs
public import proofs.«01_k».proof.Proof.ActValue
public import proofs.«01_k».proof.Proof.Gen.Pre_act_finite
public import proofs.«01_k».proof.Proof.Gen.Act.Frame
@[expose] public section
set_option maxRecDepth 16384
noncomputable section

namespace Cert.ActClaim

open Idealize.ShloMosaic Idealize.ShloMosaic.TcCoe Idealize.SL.Sem Cert.Reals

/-- Every entry of the three arrays is a real number where `act_finite` holds. -/
theorem finite {gu : FVec Ideal Cert.ActIdeal.S8192x5632 .bf16} {w : FVec Ideal Cert.ActIdeal.S2816x1024 .f32}
    {dx : FVec Ideal Cert.ActIdeal.S8192x1024 .f32} (h : Cert.Pre_act_finite.fn (F := Ideal) gu w dx = fun _ => 1#1) :
    (∃ r : Cert.ActIdeal.S8192x5632.Idx → ℝ, gu = up r) ∧ (∃ r : Cert.ActIdeal.S2816x1024.Idx → ℝ, w = up r) ∧ ∃ r : Cert.ActIdeal.S8192x1024.Idx → ℝ, dx = up r := by
  have h' := congrFun h ix0
  obtain ⟨h01, h2⟩ := IntOp.andi_eq_one.1 h'
  obtain ⟨h0, h1⟩ := IntOp.andi_eq_one.1 h01
  have inf : ∀ (s : Shape) (b) , ∀ i, (broadcastInDim s ![] b (constant (F := Ideal) Cert.Pre_act_finite.S_ .f32 0x7F800000#32)) i = (⊤ : EReal) :=
    fun s b i => inf_lit
  exact ⟨real_of_all _ _ (inf _ _) _ _ _ _ h0, real_of_all _ _ (inf _ _) _ _ _ _ h1, real_of_all _ _ (inf _ _) _ _ _ _ h2⟩

theorem algebraic : Cert.algebraic_ActIdeal_ActRefIdeal_pre_act_finite := fun m g m' g' hpre hag => by
  choose fgu fw fdx using fun c => finite (hpre c)
  choose gu hgu using fgu
  choose w hw using fw
  choose dx hdx using fdx
  refine ⟨fun c => up (ActSpec.G (gu c) (w c) (dx c)), ?_, ?_⟩
  · refine (θ_run _ _ _).mono (fun r h c => ?_) (Cert.ActIdeal.Value.run_blocks m g)
    exact ⟨(h c).1.trans (Cert.ActIdeal.Hand.final m c _ _ _ (hgu c) (hw c) (hdx c)), (h c).2⟩
  · refine (θ_run _ _ _).mono (fun r h c => ?_) (Cert.ActRefIdeal.Value.run m' g')
    refine ⟨(h c).1.trans ?_, (h c).2⟩
    rw [(hag c).1, (hag c).2.1, (hag c).2.2, hgu c, hw c, hdx c]
    exact ActSpec.ref_eq _ _ _
-- ==== Proof.MergeSpec.lean ====
/- The gated merge of the two branches and its gradient, over the real numbers, and the reference's own terms read as
   them. -/
module
public import proofs.«01_k».proof.Proof.Reals
public import proofs.«01_k».proof.Proof.Gen.MergeRefIdeal.Run
@[expose] public section
set_option maxRecDepth 16384
noncomputable section

namespace Cert.MergeSpec

open Idealize.ShloMosaic Cert.MergeRefIdeal Cert.MergeRefIdeal.Gen Cert.Reals

def REF_X (z : FVec Ideal S8192x4608 .bf16) (ya : FVec Ideal S8192x512 .bf16) (ys : FVec Ideal S8192x512 .bf16) (x : FVec Ideal S8192x1024 .f32) (wa : FVec Ideal S512x1024 .f32) (wb : FVec Ideal S512x1024 .f32) (wo : FVec Ideal S1024x1024 .f32) (dx : FVec Ideal S8192x1024 .f32) : FVec Ideal S8192x1024 .f32 :=
  addf x (Host.dotGeneral dot_S8192x1024_S1024x1024_S8192x1024_1_0_0_1_n_n none (addf (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 (extractStridedSlice S8192x1024 ![0, 2560] z slices_S8192x4608_S8192x1024_0_2560) bitsLt_bf16_f32))))) (Host.dotGeneral dot_S8192x512_S512x1024_S8192x1024_1_0_0_1_n_n none (extf .f32 ya bitsLt_bf16_f32) wa)) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 (extractStridedSlice S8192x1024 ![0, 3584] z slices_S8192x4608_S8192x1024_0_3584) bitsLt_bf16_f32))))) (Host.dotGeneral dot_S8192x512_S512x1024_S8192x1024_1_0_0_1_n_n none (extf .f32 ys bitsLt_bf16_f32) wb))) wo)

def REF_M (z : FVec Ideal S8192x4608 .bf16) (ya : FVec Ideal S8192x512 .bf16) (ys : FVec Ideal S8192x512 .bf16) (x : FVec Ideal S8192x1024 .f32) (wa : FVec Ideal S512x1024 .f32) (wb : FVec Ideal S512x1024 .f32) (wo : FVec Ideal S1024x1024 .f32) (dx : FVec Ideal S8192x1024 .f32) : FVec Ideal S8192x1024 .bf16 :=
  truncf .bf16 (addf (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 (extractStridedSlice S8192x1024 ![0, 2560] z slices_S8192x4608_S8192x1024_0_2560) bitsLt_bf16_f32))))) (Host.dotGeneral dot_S8192x512_S512x1024_S8192x1024_1_0_0_1_n_n none (extf .f32 ya bitsLt_bf16_f32) wa)) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 (extractStridedSlice S8192x1024 ![0, 3584] z slices_S8192x4608_S8192x1024_0_3584) bitsLt_bf16_f32))))) (Host.dotGeneral dot_S8192x512_S512x1024_S8192x1024_1_0_0_1_n_n none (extf .f32 ys bitsLt_bf16_f32) wb))) bitsLt_bf16_f32

def REF_DA (z : FVec Ideal S8192x4608 .bf16) (ya : FVec Ideal S8192x512 .bf16) (ys : FVec Ideal S8192x512 .bf16) (x : FVec Ideal S8192x1024 .f32) (wa : FVec Ideal S512x1024 .f32) (wb : FVec Ideal S512x1024 .f32) (wo : FVec Ideal S1024x1024 .f32) (dx : FVec Ideal S8192x1024 .f32) : FVec Ideal S8192x1024 .bf16 :=
  truncf .bf16 (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 (extractStridedSlice S8192x1024 ![0, 2560] z slices_S8192x4608_S8192x1024_0_2560) bitsLt_bf16_f32))))) (Host.dotGeneral dot_S8192x1024_S1024x1024_S8192x1024_1_1_0_0_n_n none dx wo)) bitsLt_bf16_f32

def REF_DB (z : FVec Ideal S8192x4608 .bf16) (ya : FVec Ideal S8192x512 .bf16) (ys : FVec Ideal S8192x512 .bf16) (x : FVec Ideal S8192x1024 .f32) (wa : FVec Ideal S512x1024 .f32) (wb : FVec Ideal S512x1024 .f32) (wo : FVec Ideal S1024x1024 .f32) (dx : FVec Ideal S8192x1024 .f32) : FVec Ideal S8192x1024 .bf16 :=
  truncf .bf16 (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 (extractStridedSlice S8192x1024 ![0, 3584] z slices_S8192x4608_S8192x1024_0_3584) bitsLt_bf16_f32))))) (Host.dotGeneral dot_S8192x1024_S1024x1024_S8192x1024_1_1_0_0_n_n none dx wo)) bitsLt_bf16_f32

def REF_DG (z : FVec Ideal S8192x4608 .bf16) (ya : FVec Ideal S8192x512 .bf16) (ys : FVec Ideal S8192x512 .bf16) (x : FVec Ideal S8192x1024 .f32) (wa : FVec Ideal S512x1024 .f32) (wb : FVec Ideal S512x1024 .f32) (wo : FVec Ideal S1024x1024 .f32) (dx : FVec Ideal S8192x1024 .f32) : FVec Ideal S8192x2048 .bf16 :=
  truncf .bf16 (concatenate S8192x2048 1 [⟨S8192x1024, (mulf (mulf (Host.dotGeneral dot_S8192x1024_S1024x1024_S8192x1024_1_1_0_0_n_n none dx wo) (Host.dotGeneral dot_S8192x512_S512x1024_S8192x1024_1_0_0_1_n_n none (extf .f32 ya bitsLt_bf16_f32) wa)) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 (extractStridedSlice S8192x1024 ![0, 2560] z slices_S8192x4608_S8192x1024_0_2560) bitsLt_bf16_f32))))) (subf (broadcastInDim S8192x1024 ![] bcast_S_S8192x1024 (constant S_ .f32 0x3F800000#32)) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 (extractStridedSlice S8192x1024 ![0, 2560] z slices_S8192x4608_S8192x1024_0_2560) bitsLt_bf16_f32))))))))⟩, ⟨S8192x1024, (mulf (mulf (Host.dotGeneral dot_S8192x1024_S1024x1024_S8192x1024_1_1_0_0_n_n none dx wo) (Host.dotGeneral dot_S8192x512_S512x1024_S8192x1024_1_0_0_1_n_n none (extf .f32 ys bitsLt_bf16_f32) wb)) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 (extractStridedSlice S8192x1024 ![0, 3584] z slices_S8192x4608_S8192x1024_0_3584) bitsLt_bf16_f32))))) (subf (broadcastInDim S8192x1024 ![] bcast_S_S8192x1024 (constant S_ .f32 0x3F800000#32)) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 (extractStridedSlice S8192x1024 ![0, 3584] z slices_S8192x4608_S8192x1024_0_3584) bitsLt_bf16_f32))))))))⟩] concatenates_S8192x1024_S8192x1024_S8192x2048_d1) bitsLt_bf16_f32

def REF_DYA (z : FVec Ideal S8192x4608 .bf16) (ya : FVec Ideal S8192x512 .bf16) (ys : FVec Ideal S8192x512 .bf16) (x : FVec Ideal S8192x1024 .f32) (wa : FVec Ideal S512x1024 .f32) (wb : FVec Ideal S512x1024 .f32) (wo : FVec Ideal S1024x1024 .f32) (dx : FVec Ideal S8192x1024 .f32) : FVec Ideal S8192x512 .bf16 :=
  truncf .bf16 (Host.dotGeneral dot_S8192x1024_S512x1024_S8192x512_1_1_0_0_n_n none (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 (extractStridedSlice S8192x1024 ![0, 2560] z slices_S8192x4608_S8192x1024_0_2560) bitsLt_bf16_f32))))) (Host.dotGeneral dot_S8192x1024_S1024x1024_S8192x1024_1_1_0_0_n_n none dx wo)) wa) bitsLt_bf16_f32

def REF_DYS (z : FVec Ideal S8192x4608 .bf16) (ya : FVec Ideal S8192x512 .bf16) (ys : FVec Ideal S8192x512 .bf16) (x : FVec Ideal S8192x1024 .f32) (wa : FVec Ideal S512x1024 .f32) (wb : FVec Ideal S512x1024 .f32) (wo : FVec Ideal S1024x1024 .f32) (dx : FVec Ideal S8192x1024 .f32) : FVec Ideal S8192x512 .bf16 :=
  truncf .bf16 (Host.dotGeneral dot_S8192x1024_S512x1024_S8192x512_1_1_0_0_n_n none (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 (extractStridedSlice S8192x1024 ![0, 3584] z slices_S8192x4608_S8192x1024_0_3584) bitsLt_bf16_f32))))) (Host.dotGeneral dot_S8192x1024_S1024x1024_S8192x1024_1_1_0_0_n_n none dx wo)) wb) bitsLt_bf16_f32

/-- A branch's product: row `i` of `y` against column `j` of `w`. -/
def br (y : S8192x512.Idx → ℝ) (w : S512x1024.Idx → ℝ) (i : Fin 8192) (j : Fin 1024) : ℝ := ∑ k : Fin 512, y (ix2 i k) * w (ix2 k j)

/-- The gate columns of `z`: those of the first branch start at 2560, those of the second at 3584. -/
def ga (z : S8192x4608.Idx → ℝ) (i : Fin 8192) (j : Fin 1024) : ℝ := sig (z (ix2 i ⟨2560 + j.val, by omega⟩))
def gb (z : S8192x4608.Idx → ℝ) (i : Fin 8192) (j : Fin 1024) : ℝ := sig (z (ix2 i ⟨3584 + j.val, by omega⟩))

def M (z : S8192x4608.Idx → ℝ) (ya ys : S8192x512.Idx → ℝ) (wa wb : S512x1024.Idx → ℝ) (i : Fin 8192) (j : Fin 1024) : ℝ :=
  ga z i j * br ya wa i j + gb z i j * br ys wb i j

def X (z : S8192x4608.Idx → ℝ) (ya ys : S8192x512.Idx → ℝ) (x : S8192x1024.Idx → ℝ) (wa wb : S512x1024.Idx → ℝ)
    (wo : S1024x1024.Idx → ℝ) (i : Fin 8192) (j : Fin 1024) : ℝ :=
  x (ix2 i j) + ∑ k : Fin 1024, M z ya ys wa wb i k * wo (ix2 k j)

/-- The cotangent of the merged branches. -/
def dm (wo : S1024x1024.Idx → ℝ) (dx : S8192x1024.Idx → ℝ) (i : Fin 8192) (j : Fin 1024) : ℝ :=
  ∑ k : Fin 1024, dx (ix2 i k) * wo (ix2 j k)

def DA (z : S8192x4608.Idx → ℝ) (wo : S1024x1024.Idx → ℝ) (dx : S8192x1024.Idx → ℝ) (i : Fin 8192) (j : Fin 1024) : ℝ := ga z i j * dm wo dx i j
def DB (z : S8192x4608.Idx → ℝ) (wo : S1024x1024.Idx → ℝ) (dx : S8192x1024.Idx → ℝ) (i : Fin 8192) (j : Fin 1024) : ℝ := gb z i j * dm wo dx i j

/-- The gates' gradient: the first branch's in the first 1024 columns, the second's in the others. -/
def DG (z : S8192x4608.Idx → ℝ) (ya ys : S8192x512.Idx → ℝ) (wa wb : S512x1024.Idx → ℝ) (wo : S1024x1024.Idx → ℝ)
    (dx : S8192x1024.Idx → ℝ) (i : Fin 8192) (j : Fin 2048) : ℝ :=
  if h : j.val < 1024 then dm wo dx i ⟨j.val, h⟩ * (br ya wa i ⟨j.val, h⟩ * (ga z i ⟨j.val, h⟩ * (1 - ga z i ⟨j.val, h⟩)))
  else dm wo dx i ⟨j.val - 1024, by omega⟩ * (br ys wb i ⟨j.val - 1024, by omega⟩
    * (gb z i ⟨j.val - 1024, by omega⟩ * (1 - gb z i ⟨j.val - 1024, by omega⟩)))

/-- A branch's gradient: its product's cotangent against the rows of its weight. -/
def DY (d : Fin 8192 → Fin 1024 → ℝ) (w : S512x1024.Idx → ℝ) (i : Fin 8192) (k : Fin 512) : ℝ := ∑ j : Fin 1024, d i j * w (ix2 k j)

theorem ref_X (z : S8192x4608.Idx → ℝ) (ya ys : S8192x512.Idx → ℝ) (x : S8192x1024.Idx → ℝ) (wa wb : S512x1024.Idx → ℝ)
    (wo : S1024x1024.Idx → ℝ) (dx : S8192x1024.Idx → ℝ) :
    REF_X (up z) (up ya) (up ys) (up x) (up wa) (up wb) (up wo) (up dx) = up (arr (X z ya ys x wa wb wo)) := by
  funext x
  idx_vars x
  pointwise [REF_X]
  have h1 : (1 : EReal) = ((1 : ℝ) : EReal) := EReal.coe_one.symm
  simp only [up, sig_host, ← EReal.coe_mul, coe_sum]
  try rw [h1]
  try simp only [← EReal.coe_mul, ← EReal.coe_add, ← EReal.coe_sub, coe_sum]
  refine congrArg Real.toEReal ?_
  rfl

theorem ref_M (z : S8192x4608.Idx → ℝ) (ya ys : S8192x512.Idx → ℝ) (x : S8192x1024.Idx → ℝ) (wa wb : S512x1024.Idx → ℝ)
    (wo : S1024x1024.Idx → ℝ) (dx : S8192x1024.Idx → ℝ) :
    REF_M (up z) (up ya) (up ys) (up x) (up wa) (up wb) (up wo) (up dx) = up (arr (M z ya ys wa wb)) := by
  funext x
  idx_vars x
  pointwise [REF_M]
  have h1 : (1 : EReal) = ((1 : ℝ) : EReal) := EReal.coe_one.symm
  simp only [up, sig_host, ← EReal.coe_mul, coe_sum]
  try rw [h1]
  try simp only [← EReal.coe_mul, ← EReal.coe_add, ← EReal.coe_sub, coe_sum]
  refine congrArg Real.toEReal ?_
  rfl

theorem ref_DA (z : S8192x4608.Idx → ℝ) (ya ys : S8192x512.Idx → ℝ) (x : S8192x1024.Idx → ℝ) (wa wb : S512x1024.Idx → ℝ)
    (wo : S1024x1024.Idx → ℝ) (dx : S8192x1024.Idx → ℝ) :
    REF_DA (up z) (up ya) (up ys) (up x) (up wa) (up wb) (up wo) (up dx) = up (arr (DA z wo dx)) := by
  funext x
  idx_vars x
  pointwise [REF_DA]
  have h1 : (1 : EReal) = ((1 : ℝ) : EReal) := EReal.coe_one.symm
  simp only [up, sig_host, ← EReal.coe_mul, coe_sum]
  try rw [h1]
  try simp only [← EReal.coe_mul, ← EReal.coe_add, ← EReal.coe_sub, coe_sum]
  refine congrArg Real.toEReal ?_
  rfl

theorem ref_DB (z : S8192x4608.Idx → ℝ) (ya ys : S8192x512.Idx → ℝ) (x : S8192x1024.Idx → ℝ) (wa wb : S512x1024.Idx → ℝ)
    (wo : S1024x1024.Idx → ℝ) (dx : S8192x1024.Idx → ℝ) :
    REF_DB (up z) (up ya) (up ys) (up x) (up wa) (up wb) (up wo) (up dx) = up (arr (DB z wo dx)) := by
  funext x
  idx_vars x
  pointwise [REF_DB]
  have h1 : (1 : EReal) = ((1 : ℝ) : EReal) := EReal.coe_one.symm
  simp only [up, sig_host, ← EReal.coe_mul, coe_sum]
  try rw [h1]
  try simp only [← EReal.coe_mul, ← EReal.coe_add, ← EReal.coe_sub, coe_sum]
  refine congrArg Real.toEReal ?_
  rfl

theorem ref_DG (z : S8192x4608.Idx → ℝ) (ya ys : S8192x512.Idx → ℝ) (x : S8192x1024.Idx → ℝ) (wa wb : S512x1024.Idx → ℝ)
    (wo : S1024x1024.Idx → ℝ) (dx : S8192x1024.Idx → ℝ) :
    REF_DG (up z) (up ya) (up ys) (up x) (up wa) (up wb) (up wo) (up dx) = up (arr (DG z ya ys wa wb wo dx)) := by
  funext x
  idx_vars x
  pointwise [REF_DG]
  have h1 : (1 : EReal) = ((1 : ℝ) : EReal) := EReal.coe_one.symm
  simp only [up, sig_host, ← EReal.coe_mul, coe_sum]
  try rw [h1]
  try simp only [← EReal.coe_mul, ← EReal.coe_add, ← EReal.coe_sub, coe_sum]
  show _ = ((DG z ya ys wa wb wo dx x0 x1 : ℝ) : EReal)
  unfold DG
  by_cases h : x1.val < 1024
  · rw [dif_pos h, dif_pos h]; exact congrArg Real.toEReal (mul_assoc _ _ _)
  · rw [dif_neg h, dif_neg h]; exact congrArg Real.toEReal (mul_assoc _ _ _)

theorem ref_DYA (z : S8192x4608.Idx → ℝ) (ya ys : S8192x512.Idx → ℝ) (x : S8192x1024.Idx → ℝ) (wa wb : S512x1024.Idx → ℝ)
    (wo : S1024x1024.Idx → ℝ) (dx : S8192x1024.Idx → ℝ) :
    REF_DYA (up z) (up ya) (up ys) (up x) (up wa) (up wb) (up wo) (up dx) = up (arr (DY (DA z wo dx) wa)) := by
  funext x
  idx_vars x
  pointwise [REF_DYA]
  have h1 : (1 : EReal) = ((1 : ℝ) : EReal) := EReal.coe_one.symm
  simp only [up, sig_host, ← EReal.coe_mul, coe_sum]
  try rw [h1]
  try simp only [← EReal.coe_mul, ← EReal.coe_add, ← EReal.coe_sub, coe_sum]
  refine congrArg Real.toEReal ?_
  rfl

theorem ref_DYS (z : S8192x4608.Idx → ℝ) (ya ys : S8192x512.Idx → ℝ) (x : S8192x1024.Idx → ℝ) (wa wb : S512x1024.Idx → ℝ)
    (wo : S1024x1024.Idx → ℝ) (dx : S8192x1024.Idx → ℝ) :
    REF_DYS (up z) (up ya) (up ys) (up x) (up wa) (up wb) (up wo) (up dx) = up (arr (DY (DB z wo dx) wb)) := by
  funext x
  idx_vars x
  pointwise [REF_DYS]
  have h1 : (1 : EReal) = ((1 : ℝ) : EReal) := EReal.coe_one.symm
  simp only [up, sig_host, ← EReal.coe_mul, coe_sum]
  try rw [h1]
  try simp only [← EReal.coe_mul, ← EReal.coe_add, ← EReal.coe_sub, coe_sum]
  refine congrArg Real.toEReal ?_
  rfl
-- ==== Proof.MergeBlocks.lean ====
/- The merge's two kernels: what their windows' blocks hold over arrays of real numbers. -/
module
public import proofs.«01_k».proof.Proof.MergeSpec
public import proofs.«01_k».proof.Proof.Gen.MergeIdeal.Frame
public import Idealize.ShloMosaic.Lib.Pipeline.ValueKit
@[expose] public section
set_option maxRecDepth 16384
noncomputable section

namespace Cert.MergeIdeal.Hand

open Idealize.ShloMosaic Idealize.ShloMosaic.TcCoe Idealize.SL.Sem
open Idealize.ShloMosaic.Pipeline (Dat)
open Cert.MergeIdeal Cert.MergeIdeal.Gen Cert.Reals

theorem idx0 : ∀ t : Fin cfg0.N, win0_0.index t = ![t.val, 0] ∧ win0_1.index t = ![t.val, 0] ∧ win0_2.index t = ![t.val, 5]
    ∧ win0_3.index t = ![t.val, 6] ∧ win0_4.index t = ![t.val, 7] ∧ win0_5.index t = ![t.val, 8] ∧ win0_6.index t = ![t.val, 0]
    ∧ win0_7.index t = ![0, 0, 0] ∧ win0_8.index t = ![0, 0, 0] ∧ win0_9.index t = ![0, 0] ∧ win0_10.index t = ![t.val, 0]
    ∧ win0_11.index t = ![t.val, 0] ∧ win0_12.index t = ![t.val, 0] ∧ win0_13.index t = ![t.val, 0] :=
  (by decide +kernel : ∀ t : Fin grid0.N, _)

theorem idx1 : ∀ t : Fin cfg1.N, win1_0.index t = ![t.val, 0] ∧ win1_1.index t = ![0, 0] ∧ win1_2.index t = ![t.val, 0]
    ∧ win1_3.index t = ![t.val, 0] ∧ win1_4.index t = ![t.val, 5] ∧ win1_5.index t = ![t.val, 6] ∧ win1_6.index t = ![t.val, 7]
    ∧ win1_7.index t = ![t.val, 8] ∧ win1_8.index t = ![0, 0, 0] ∧ win1_9.index t = ![0, 0, 0] ∧ win1_10.index t = ![t.val, 0]
    ∧ win1_11.index t = ![t.val, 0] ∧ win1_12.index t = ![t.val, 0] ∧ win1_13.index t = ![t.val, 0] ∧ win1_14.index t = ![t.val, 0] :=
  (by decide +kernel : ∀ t : Fin grid1.N, _)

/-- The array row at which row `i` of point `t`'s blocks sits. -/
def row (t : Fin 16) (i : Fin 512) : Fin 8192 := ⟨t.val * 512 + i, by omega⟩

theorem row_val (t : Fin 16) (i : Fin 512) : (row t i).val = t.val * 512 + i := rfl

/-- Point `t`'s rows of a matrix of real numbers. -/
def rows {n : Nat} (r : (⟨2, ![8192, n]⟩ : Shape).Idx → ℝ) (t : Fin 16) : (⟨2, ![512, n]⟩ : Shape).Idx → ℝ :=
  fun x => r (ix2 (row t (x 0)) (x 1))

theorem rows_apply {n : Nat} (r : (⟨2, ![8192, n]⟩ : Shape).Idx → ℝ) (t : Fin 16) (i : Fin 512) (k : Fin n) :
    rows r t (ix2 i k) = r (ix2 (row t i) k) := rfl

/-- Point `t`'s rows of a block of 512 columns of `z`, the block's first column at `512 * k`. -/
def gate (z : S8192x4608.Idx → ℝ) (k : Fin 9) (t : Fin 16) : S512x512.Idx → ℝ :=
  fun x => z (ix2 (row t (x 0)) ⟨512 * k + (x 1).val, by have : (x 1).val < 512 := (x 1).isLt; omega⟩)

/-- A weight's four blocks of 256 columns, one after the other. -/
def shard (w : S512x1024.Idx → ℝ) : S4x512x256.Idx → ℝ :=
  fun x => w (ix2 (x 1) ⟨256 * (x 0).val + (x 2).val, by have : (x 0).val < 4 := (x 0).isLt; have : (x 2).val < 256 := (x 2).isLt; omega⟩)

section Blocks

variable {V : (c : Dev nD) → (b : Ref sig .tc) → Buf (Elt Ideal) ((c : Thread nD τ).loc b)} {c : Dev nD}
  {z : S8192x4608.Idx → ℝ} {y : S8192x512.Idx → ℝ} {x : S8192x1024.Idx → ℝ} {w : S512x1024.Idx → ℝ} {wo : S1024x1024.Idx → ℝ}

theorem b0_0 (t : Fin cfg0.N) (h : V c main_arg1 = up y) :
    (iblk0 V c 0 t : FVec Ideal S512x512 .bf16) = up (rows y (t.cast N_0)) := by
  funext x
  have e : iblk0 V c 0 t x = V c main_arg1 (ix2 (row (t.cast N_0) (x 0)) (x 1)) := by
    have : (row (t.cast N_0) (x 0)).val = t.val * 512 + (x 0).val := rfl
    blk_ext [iblk0, idx0 t]
  rw [e, h]; rfl

theorem b0_1 (t : Fin cfg0.N) (h : V c main_arg2 = up y) :
    (iblk0 V c 1 t : FVec Ideal S512x512 .bf16) = up (rows y (t.cast N_0)) := by
  funext x
  have e : iblk0 V c 1 t x = V c main_arg2 (ix2 (row (t.cast N_0) (x 0)) (x 1)) := by
    have : (row (t.cast N_0) (x 0)).val = t.val * 512 + (x 0).val := rfl
    blk_ext [iblk0, idx0 t]
  rw [e, h]; rfl

theorem b0_2 (t : Fin cfg0.N) (h : V c main_arg0 = up z) :
    (iblk0 V c 2 t : FVec Ideal S512x512 .bf16) = up (gate z 5 (t.cast N_0)) := by
  funext x
  have e : iblk0 V c 2 t x = V c main_arg0 (ix2 (row (t.cast N_0) (x 0)) ⟨512 * 5 + (x 1).val, by have : (x 1).val < 512 := (x 1).isLt; omega⟩) := by
    have : (row (t.cast N_0) (x 0)).val = t.val * 512 + (x 0).val := rfl
    blk_ext [iblk0, idx0 t]
  rw [e, h]; rfl

theorem b0_3 (t : Fin cfg0.N) (h : V c main_arg0 = up z) :
    (iblk0 V c 3 t : FVec Ideal S512x512 .bf16) = up (gate z 6 (t.cast N_0)) := by
  funext x
  have e : iblk0 V c 3 t x = V c main_arg0 (ix2 (row (t.cast N_0) (x 0)) ⟨512 * 6 + (x 1).val, by have : (x 1).val < 512 := (x 1).isLt; omega⟩) := by
    have : (row (t.cast N_0) (x 0)).val = t.val * 512 + (x 0).val := rfl
    blk_ext [iblk0, idx0 t]
  rw [e, h]; rfl

theorem b0_4 (t : Fin cfg0.N) (h : V c main_arg0 = up z) :
    (iblk0 V c 4 t : FVec Ideal S512x512 .bf16) = up (gate z 7 (t.cast N_0)) := by
  funext x
  have e : iblk0 V c 4 t x = V c main_arg0 (ix2 (row (t.cast N_0) (x 0)) ⟨512 * 7 + (x 1).val, by have : (x 1).val < 512 := (x 1).isLt; omega⟩) := by
    have : (row (t.cast N_0) (x 0)).val = t.val * 512 + (x 0).val := rfl
    blk_ext [iblk0, idx0 t]
  rw [e, h]; rfl

theorem b0_5 (t : Fin cfg0.N) (h : V c main_arg0 = up z) :
    (iblk0 V c 5 t : FVec Ideal S512x512 .bf16) = up (gate z 8 (t.cast N_0)) := by
  funext x
  have e : iblk0 V c 5 t x = V c main_arg0 (ix2 (row (t.cast N_0) (x 0)) ⟨512 * 8 + (x 1).val, by have : (x 1).val < 512 := (x 1).isLt; omega⟩) := by
    have : (row (t.cast N_0) (x 0)).val = t.val * 512 + (x 0).val := rfl
    blk_ext [iblk0, idx0 t]
  rw [e, h]; rfl

theorem b0_6 (t : Fin cfg0.N) (h : V c main_arg3 = up x) :
    (iblk0 V c 6 t : FVec Ideal S512x1024 .f32) = up (rows x (t.cast N_0)) := by
  funext x
  have e : iblk0 V c 6 t x = V c main_arg3 (ix2 (row (t.cast N_0) (x 0)) (x 1)) := by
    have : (row (t.cast N_0) (x 0)).val = t.val * 512 + (x 0).val := rfl
    blk_ext [iblk0, idx0 t]
  rw [e, h]; rfl

theorem b0_7 (t : Fin cfg0.N) (h : V c main_v2 = up (shard w)) : (iblk0 V c 7 t : FVec Ideal S4x512x256 .bf16) = up ((shard w)) := by
  funext x
  have e : iblk0 V c 7 t x = V c main_v2 x := by blk_ext [iblk0, idx0 t]
  rw [e, h]

theorem b0_8 (t : Fin cfg0.N) (h : V c main_v5 = up (shard w)) : (iblk0 V c 8 t : FVec Ideal S4x512x256 .bf16) = up ((shard w)) := by
  funext x
  have e : iblk0 V c 8 t x = V c main_v5 x := by blk_ext [iblk0, idx0 t]
  rw [e, h]

theorem b0_9 (t : Fin cfg0.N) (h : V c main_v6 = up wo) : (iblk0 V c 9 t : FVec Ideal S1024x1024 .bf16) = up (wo) := by
  funext x
  have e : iblk0 V c 9 t x = V c main_v6 x := by blk_ext [iblk0, idx0 t]
  rw [e, h]

theorem b1_0 (t : Fin cfg1.N) (h : V c main_arg7 = up x) :
    (iblk1 V c 0 t : FVec Ideal S512x1024 .f32) = up (rows x (t.cast N_1)) := by
  funext x
  have e : iblk1 V c 0 t x = V c main_arg7 (ix2 (row (t.cast N_1) (x 0)) (x 1)) := by
    have : (row (t.cast N_1) (x 0)).val = t.val * 512 + (x 0).val := rfl
    blk_ext [iblk1, idx1 t]
  rw [e, h]; rfl

theorem b1_1 (t : Fin cfg1.N) (h : V c main_v6 = up wo) : (iblk1 V c 1 t : FVec Ideal S1024x1024 .bf16) = up (wo) := by
  funext x
  have e : iblk1 V c 1 t x = V c main_v6 x := by blk_ext [iblk1, idx1 t]
  rw [e, h]

theorem b1_2 (t : Fin cfg1.N) (h : V c main_v7_0 = up x) :
    (iblk1 V c 2 t : FVec Ideal S512x1024 .bf16) = up (rows x (t.cast N_1)) := by
  funext x
  have e : iblk1 V c 2 t x = V c main_v7_0 (ix2 (row (t.cast N_1) (x 0)) (x 1)) := by
    have : (row (t.cast N_1) (x 0)).val = t.val * 512 + (x 0).val := rfl
    blk_ext [iblk1, idx1 t]
  rw [e, h]; rfl

theorem b1_3 (t : Fin cfg1.N) (h : V c main_v7_1 = up x) :
    (iblk1 V c 3 t : FVec Ideal S512x1024 .bf16) = up (rows x (t.cast N_1)) := by
  funext x
  have e : iblk1 V c 3 t x = V c main_v7_1 (ix2 (row (t.cast N_1) (x 0)) (x 1)) := by
    have : (row (t.cast N_1) (x 0)).val = t.val * 512 + (x 0).val := rfl
    blk_ext [iblk1, idx1 t]
  rw [e, h]; rfl

theorem b1_4 (t : Fin cfg1.N) (h : V c main_arg0 = up z) :
    (iblk1 V c 4 t : FVec Ideal S512x512 .bf16) = up (gate z 5 (t.cast N_1)) := by
  funext x
  have e : iblk1 V c 4 t x = V c main_arg0 (ix2 (row (t.cast N_1) (x 0)) ⟨512 * 5 + (x 1).val, by have : (x 1).val < 512 := (x 1).isLt; omega⟩) := by
    have : (row (t.cast N_1) (x 0)).val = t.val * 512 + (x 0).val := rfl
    blk_ext [iblk1, idx1 t]
  rw [e, h]; rfl

theorem b1_5 (t : Fin cfg1.N) (h : V c main_arg0 = up z) :
    (iblk1 V c 5 t : FVec Ideal S512x512 .bf16) = up (gate z 6 (t.cast N_1)) := by
  funext x
  have e : iblk1 V c 5 t x = V c main_arg0 (ix2 (row (t.cast N_1) (x 0)) ⟨512 * 6 + (x 1).val, by have : (x 1).val < 512 := (x 1).isLt; omega⟩) := by
    have : (row (t.cast N_1) (x 0)).val = t.val * 512 + (x 0).val := rfl
    blk_ext [iblk1, idx1 t]
  rw [e, h]; rfl

theorem b1_6 (t : Fin cfg1.N) (h : V c main_arg0 = up z) :
    (iblk1 V c 6 t : FVec Ideal S512x512 .bf16) = up (gate z 7 (t.cast N_1)) := by
  funext x
  have e : iblk1 V c 6 t x = V c main_arg0 (ix2 (row (t.cast N_1) (x 0)) ⟨512 * 7 + (x 1).val, by have : (x 1).val < 512 := (x 1).isLt; omega⟩) := by
    have : (row (t.cast N_1) (x 0)).val = t.val * 512 + (x 0).val := rfl
    blk_ext [iblk1, idx1 t]
  rw [e, h]; rfl

theorem b1_7 (t : Fin cfg1.N) (h : V c main_arg0 = up z) :
    (iblk1 V c 7 t : FVec Ideal S512x512 .bf16) = up (gate z 8 (t.cast N_1)) := by
  funext x
  have e : iblk1 V c 7 t x = V c main_arg0 (ix2 (row (t.cast N_1) (x 0)) ⟨512 * 8 + (x 1).val, by have : (x 1).val < 512 := (x 1).isLt; omega⟩) := by
    have : (row (t.cast N_1) (x 0)).val = t.val * 512 + (x 0).val := rfl
    blk_ext [iblk1, idx1 t]
  rw [e, h]; rfl

theorem b1_8 (t : Fin cfg1.N) (h : V c main_v2 = up (shard w)) : (iblk1 V c 8 t : FVec Ideal S4x512x256 .bf16) = up ((shard w)) := by
  funext x
  have e : iblk1 V c 8 t x = V c main_v2 x := by blk_ext [iblk1, idx1 t]
  rw [e, h]

theorem b1_9 (t : Fin cfg1.N) (h : V c main_v5 = up (shard w)) : (iblk1 V c 9 t : FVec Ideal S4x512x256 .bf16) = up ((shard w)) := by
  funext x
  have e : iblk1 V c 9 t x = V c main_v5 x := by blk_ext [iblk1, idx1 t]
  rw [e, h]
-- ==== Proof.MergeValue.lean ====
/- What the merge's forward and backward bodies compute from blocks of real numbers. -/
module
public import proofs.«01_k».proof.Proof.MergeBlocks
@[expose] public section
set_option maxRecDepth 16384
noncomputable section

namespace Cert.MergeIdeal.Hand

open Idealize.ShloMosaic Idealize.ShloMosaic.TcCoe Idealize.SL.Sem
open Idealize.ShloMosaic.Pipeline (Dat)
open Cert.MergeIdeal Cert.MergeIdeal.Gen Cert.Reals Cert.MergeSpec

variable (z : S8192x4608.Idx → ℝ) (ya ys : S8192x512.Idx → ℝ) (x a b : S8192x1024.Idx → ℝ) (wa wb : S512x1024.Idx → ℝ)
  (wo : S1024x1024.Idx → ℝ) (dx : S8192x1024.Idx → ℝ)

theorem shard_sum (f : Fin 1024 → ℝ) (w : S512x1024.Idx → ℝ) (i : Fin 512) :
    ∑ j, f j * w (ix2 i j) = ∑ k : Fin 256, f ⟨k, by omega⟩ * shard w (ix3 0 i k) + ∑ k : Fin 256, f ⟨256 + k, by omega⟩ * shard w (ix3 1 i k)
      + ∑ k : Fin 256, f ⟨512 + k, by omega⟩ * shard w (ix3 2 i k) + ∑ k : Fin 256, f ⟨768 + k, by omega⟩ * shard w (ix3 3 i k) := by
  rw [sum_four]
  have e (j : Fin 4) (k : Fin 256) (h) : w (ix2 i ⟨256 * j.val + k.val, h⟩) = shard w (ix3 j i k) := rfl
  have e0 (k : Fin 256) (h) : (⟨k.val, h⟩ : Fin 1024) = ⟨256 * (0 : Fin 4).val + k.val, by omega⟩ := Fin.ext (by simp)
  have e1 (k : Fin 256) (h) : (⟨256 + k.val, h⟩ : Fin 1024) = ⟨256 * (1 : Fin 4).val + k.val, by simp; omega⟩ := Fin.ext (by simp)
  have e2 (k : Fin 256) (h) : (⟨512 + k.val, h⟩ : Fin 1024) = ⟨256 * (2 : Fin 4).val + k.val, by simp; omega⟩ := Fin.ext (by simp)
  have e3 (k : Fin 256) (h) : (⟨768 + k.val, h⟩ : Fin 1024) = ⟨256 * (3 : Fin 4).val + k.val, by simp; omega⟩ := Fin.ext (by simp)
  simp only [e0, e1, e2, e3]
  rfl

theorem shard_col (w : S512x1024.Idx → ℝ) (i : Fin 512) (j : Fin 1024) (k : Fin 4) (l : Fin 256) (h : 256 * k.val + l.val = j.val) :
    shard w (ix3 k i l) = w (ix2 i j) := congrArg (fun c => w (ix2 i c)) (Fin.ext h)

theorem gate_col (k : Fin 9) (t : Fin 16) (i j : Fin 512) (l : Fin 4608) (h : 512 * k.val + j.val = l.val) :
    gate z k t (ix2 i j) = z (ix2 (row t i) l) := congrArg (fun c => z (ix2 (row t i) c)) (Fin.ext h)

theorem gate_if (k k' : Fin 9) (t : Fin 16) (i : Fin 512) (j : Fin 1024) (l : Fin 4608) (h : 512 * k.val + j.val = l.val)
    (hk : k'.val = k.val + 1) :
    (if h : j.val < 512 then (up (gate z k t) : FVec Ideal S512x512 .bf16) (ix2 i ⟨j.val, h⟩)
      else (up (gate z k' t) : FVec Ideal S512x512 .bf16) (ix2 i ⟨j.val - 512, by have := j.isLt; omega⟩))
      = ((z (ix2 (row t i) l) : ℝ) : EReal) := by
  split_ifs with h'
  · exact congrArg Real.toEReal (gate_col z k t i _ l h)
  · exact congrArg Real.toEReal (gate_col z k' t i _ l (by simp only [hk]; omega))

set_option backward.isDefEq.respectTransparency false in
theorem p13 (t : Fin 16) :
    (k1_pay13 (up (rows dx t)) (up wo) (up (rows (arr (br ya wa)) t)) (up (rows (arr (br ys wb)) t)) (up (gate z 5 t)) (up (gate z 6 t)) (up (gate z 7 t)) (up (gate z 8 t)) (up (shard wa)) (up (shard wb)) : FVec Ideal S512x1024 .f32) = up (rows (arr (dm wo dx)) t) := by
  funext u
  idx_vars u
  unfold k1_pay13 k1_pay3
  pointwise
  try simp only [up, half16, half32, one16, ← EReal.coe_mul, coe_sum, Ideal.tanh_coe, ← EReal.coe_add, ← EReal.coe_sub, sig_tanh]
  rfl

set_option backward.isDefEq.respectTransparency false in
theorem p14 (t : Fin 16) :
    (k1_pay14 (up (rows dx t)) (up wo) (up (rows (arr (br ya wa)) t)) (up (rows (arr (br ys wb)) t)) (up (gate z 5 t)) (up (gate z 6 t)) (up (gate z 7 t)) (up (gate z 8 t)) (up (shard wa)) (up (shard wb)) : FVec Ideal S512x1024 .bf16) = up (rows (arr (ga z)) t) := by
  funext u
  idx_vars u
  unfold k1_pay14 k1_pay4
  pointwise
  by_cases h : (u1 : ℕ) < 512
  · simp only [dif_pos h]
    try simp only [up, half16, half32, one16, ← EReal.coe_mul, coe_sum, Ideal.tanh_coe, ← EReal.coe_add, ← EReal.coe_sub, sig_tanh]
    exact congrArg (fun c => ((Reals.sig c : ℝ) : EReal)) (gate_col z 5 t u0 _ _ (by simp <;> omega))
  · simp only [dif_neg h]
    try simp only [up, half16, half32, one16, ← EReal.coe_mul, coe_sum, Ideal.tanh_coe, ← EReal.coe_add, ← EReal.coe_sub, sig_tanh]
    exact congrArg (fun c => ((Reals.sig c : ℝ) : EReal)) (gate_col z 6 t u0 _ _ (by simp <;> omega))

set_option backward.isDefEq.respectTransparency false in
theorem p15 (t : Fin 16) :
    (k1_pay15 (up (rows dx t)) (up wo) (up (rows (arr (br ya wa)) t)) (up (rows (arr (br ys wb)) t)) (up (gate z 5 t)) (up (gate z 6 t)) (up (gate z 7 t)) (up (gate z 8 t)) (up (shard wa)) (up (shard wb)) : FVec Ideal S512x1024 .bf16) = up (rows (arr (gb z)) t) := by
  funext u
  idx_vars u
  unfold k1_pay15 k1_pay5
  pointwise
  by_cases h : (u1 : ℕ) < 512
  · simp only [dif_pos h]
    try simp only [up, half16, half32, one16, ← EReal.coe_mul, coe_sum, Ideal.tanh_coe, ← EReal.coe_add, ← EReal.coe_sub, sig_tanh]
    exact congrArg (fun c => ((Reals.sig c : ℝ) : EReal)) (gate_col z 7 t u0 _ _ (by simp <;> omega))
  · simp only [dif_neg h]
    try simp only [up, half16, half32, one16, ← EReal.coe_mul, coe_sum, Ideal.tanh_coe, ← EReal.coe_add, ← EReal.coe_sub, sig_tanh]
    exact congrArg (fun c => ((Reals.sig c : ℝ) : EReal)) (gate_col z 8 t u0 _ _ (by simp <;> omega))

set_option backward.isDefEq.respectTransparency false in
theorem p8 (p q : Fin 8192 → Fin 1024 → ℝ) (t : Fin 16) :
    (k1_pay8 (up (rows (arr p) t)) (up (rows (arr q) t)) : FVec Ideal S512x1024 .bf16) = up (rows (arr fun i j => q i j * p i j) t) := by
  funext u
  idx_vars u
  unfold k1_pay8
  pointwise
  try simp only [up, half16, half32, one16, ← EReal.coe_mul, coe_sum, Ideal.tanh_coe, ← EReal.coe_add, ← EReal.coe_sub, sig_tanh]
  exact congrArg Real.toEReal (mul_comm _ _)

set_option backward.isDefEq.respectTransparency false in
theorem p9 (p q : Fin 8192 → Fin 1024 → ℝ) (t : Fin 16) :
    (k1_pay9 (up (rows (arr p) t)) (up (rows (arr q) t)) : FVec Ideal S512x1024 .bf16) = up (rows (arr fun i j => q i j * p i j) t) := by
  funext u
  idx_vars u
  unfold k1_pay9
  pointwise
  try simp only [up, half16, half32, one16, ← EReal.coe_mul, coe_sum, Ideal.tanh_coe, ← EReal.coe_add, ← EReal.coe_sub, sig_tanh]
  exact congrArg Real.toEReal (mul_comm _ _)

set_option maxHeartbeats 1000000 in
set_option backward.isDefEq.respectTransparency false in
theorem q10 (t : Fin 16) :
    (k0_pay10 (up (rows ya t)) (up (rows ys t)) (up (gate z 5 t)) (up (gate z 6 t)) (up (gate z 7 t)) (up (gate z 8 t)) (up (rows x t)) (up (shard wa)) (up (shard wb)) (up wo) : FVec Ideal S512x1024 .f32) = up (rows (arr (br ya wa)) t) := by
  funext u
  idx_vars u
  unfold k0_pay10 k0_pay2
  pointwise
  have c (k : Fin 4) (l : Fin 256) (h : 256 * k.val + l.val = u1.val) : ∑ i, rows ya t (ix2 u0 i) * shard wa (ix3 k i l) = rows (arr (br ya wa)) t (ix2 u0 u1) :=
    Finset.sum_congr rfl fun i _ => congrArg (_ * ·) (shard_col wa i u1 k l h)
  have := u1.isLt
  rcases (by omega : (u1 : ℕ) < 256 ∨ (256 ≤ (u1 : ℕ) ∧ (u1 : ℕ) < 512) ∨ (512 ≤ (u1 : ℕ) ∧ (u1 : ℕ) < 768) ∨ 768 ≤ (u1 : ℕ)) with h | h | h | h
  all_goals
    split_ifs
    all_goals try omega
    try simp only [up, half16, half32, one16, ← EReal.coe_mul, coe_sum, Ideal.tanh_coe, ← EReal.coe_add, ← EReal.coe_sub, sig_tanh]
    exact congrArg Real.toEReal (c _ _ (by simp <;> omega))

set_option maxHeartbeats 1000000 in
set_option backward.isDefEq.respectTransparency false in
theorem q6 (t : Fin 16) :
    (k0_pay6 (View.ld (Val := Elt Ideal) (up (rows ys t)) r0_0) (k0_pay11 (up (rows ya t)) (up (rows ys t)) (up (gate z 5 t)) (up (gate z 6 t)) (up (gate z 7 t)) (up (gate z 8 t)) (up (rows x t)) (up (shard wa)) (up (shard wb)) (up wo)) (k0_pay12 (up (rows ya t)) (up (rows ys t)) (up (gate z 5 t)) (up (gate z 6 t)) (up (gate z 7 t)) (up (gate z 8 t)) (up (rows x t)) (up (shard wa)) (up (shard wb)) (up wo)) (k0_pay13 (up (rows ya t)) (up (rows ys t)) (up (gate z 5 t)) (up (gate z 6 t)) (up (gate z 7 t)) (up (gate z 8 t)) (up (rows x t)) (up (shard wa)) (up (shard wb)) (up wo)) (View.ld (Val := Elt Ideal) (up (shard wb)) r0_4) : FVec Ideal S512x1024 .f32) = up (rows (arr (br ys wb)) t) := by
  funext u
  idx_vars u
  unfold k0_pay6 k0_pay11 k0_pay12 k0_pay13 k0_pay3 k0_pay4 k0_pay5
  pointwise
  have c (k : Fin 4) (l : Fin 256) (h : 256 * k.val + l.val = u1.val) : ∑ i, rows ys t (ix2 u0 i) * shard wb (ix3 k i l) = rows (arr (br ys wb)) t (ix2 u0 u1) :=
    Finset.sum_congr rfl fun i _ => congrArg (_ * ·) (shard_col wb i u1 k l h)
  have := u1.isLt
  rcases (by omega : (u1 : ℕ) < 256 ∨ (256 ≤ (u1 : ℕ) ∧ (u1 : ℕ) < 512) ∨ (512 ≤ (u1 : ℕ) ∧ (u1 : ℕ) < 768) ∨ 768 ≤ (u1 : ℕ)) with h | h | h | h
  all_goals
    split_ifs
    all_goals try omega
    try simp only [up, half16, half32, one16, ← EReal.coe_mul, coe_sum, Ideal.tanh_coe, ← EReal.coe_add, ← EReal.coe_sub, sig_tanh]
    exact congrArg Real.toEReal (c _ _ (by simp <;> omega))

set_option backward.isDefEq.respectTransparency false in
theorem q9 (t : Fin 16) :
    (k0_pay9 (View.ld (Val := Elt Ideal) (up (rows ys t)) r0_0) (k0_pay10 (up (rows ya t)) (up (rows ys t)) (up (gate z 5 t)) (up (gate z 6 t)) (up (gate z 7 t)) (up (gate z 8 t)) (up (rows x t)) (up (shard wa)) (up (shard wb)) (up wo)) (k0_pay11 (up (rows ya t)) (up (rows ys t)) (up (gate z 5 t)) (up (gate z 6 t)) (up (gate z 7 t)) (up (gate z 8 t)) (up (rows x t)) (up (shard wa)) (up (shard wb)) (up wo)) (k0_pay12 (up (rows ya t)) (up (rows ys t)) (up (gate z 5 t)) (up (gate z 6 t)) (up (gate z 7 t)) (up (gate z 8 t)) (up (rows x t)) (up (shard wa)) (up (shard wb)) (up wo)) (k0_pay13 (up (rows ya t)) (up (rows ys t)) (up (gate z 5 t)) (up (gate z 6 t)) (up (gate z 7 t)) (up (gate z 8 t)) (up (rows x t)) (up (shard wa)) (up (shard wb)) (up wo)) (View.ld (Val := Elt Ideal) (up (shard wb)) r0_4) (View.ld (Val := Elt Ideal) (up (gate z 5 t)) r0_0) (View.ld (Val := Elt Ideal) (up (gate z 6 t)) r0_0) (View.ld (Val := Elt Ideal) (up (gate z 7 t)) r0_0) (View.ld (Val := Elt Ideal) (up (gate z 8 t)) r0_0) : FVec Ideal S512x1024 .bf16) = up (rows (arr (M z ya ys wa wb)) t) := by
  funext u
  idx_vars u
  unfold k0_pay9
  rw [q10, q6]
  pointwise
  rw [gate_if z 5 6 t u0 u1 ⟨2560 + u1.val, by omega⟩ (by simp) rfl, gate_if z 7 8 t u0 u1 ⟨3584 + u1.val, by omega⟩ (by simp) rfl]
  try simp only [up, half16, half32, one16, ← EReal.coe_mul, coe_sum, Ideal.tanh_coe, ← EReal.coe_add, ← EReal.coe_sub, sig_tanh]
  rfl

set_option backward.isDefEq.respectTransparency false in
theorem core1_10 (t : Fin 16) (y : S512x1024.Idx) :
    out1_10 (F := Ideal) (up (rows dx t)) (up wo) (up (rows (arr (br ya wa)) t)) (up (rows (arr (br ys wb)) t)) (up (gate z 5 t)) (up (gate z 6 t)) (up (gate z 7 t)) (up (gate z 8 t)) (up (shard wa)) (up (shard wb)) y = up (arr (DA z wo dx)) (ix2 (row t (y 0)) (y 1)) := by
  unfold out1_10
  rw [p13, p14, p8]
  canon_tiles u h
  all_goals
    idx_vars u
    rw [show y 0 = u0 from Fin.ext h0, show y 1 = u1 from Fin.ext h1]
    rfl

set_option backward.isDefEq.respectTransparency false in
theorem core1_11 (t : Fin 16) (y : S512x1024.Idx) :
    out1_11 (F := Ideal) (up (rows dx t)) (up wo) (up (rows (arr (br ya wa)) t)) (up (rows (arr (br ys wb)) t)) (up (gate z 5 t)) (up (gate z 6 t)) (up (gate z 7 t)) (up (gate z 8 t)) (up (shard wa)) (up (shard wb)) y = up (arr (DB z wo dx)) (ix2 (row t (y 0)) (y 1)) := by
  unfold out1_11
  rw [p13, p15, p9]
  canon_tiles u h
  all_goals
    idx_vars u
    rw [show y 0 = u0 from Fin.ext h0, show y 1 = u1 from Fin.ext h1]
    rfl

set_option backward.isDefEq.respectTransparency false in
theorem core1_13 (t : Fin 16) (y : S512x512.Idx) :
    out1_13 (F := Ideal) (up (rows dx t)) (up wo) (up (rows (arr (br ya wa)) t)) (up (rows (arr (br ys wb)) t)) (up (gate z 5 t)) (up (gate z 6 t)) (up (gate z 7 t)) (up (gate z 8 t)) (up (shard wa)) (up (shard wb)) y = up (arr (DY (DA z wo dx) wa)) (ix2 (row t (y 0)) (y 1)) := by
  unfold out1_13
  rw [p13, p14]
  canon_tiles u h
  all_goals
    idx_vars u
    rw [show y 0 = u0 from Fin.ext h0, show y 1 = u1 from Fin.ext h1]
    unfold k1_pay1 k1_pay11
    rw [p8]
    pointwise
    try simp only [up, half16, half32, one16, ← EReal.coe_mul, coe_sum, Ideal.tanh_coe, ← EReal.coe_add, ← EReal.coe_sub, sig_tanh]
    refine congrArg Real.toEReal ?_
    exact (shard_sum (DA z wo dx (row t u0)) wa u1).symm

set_option backward.isDefEq.respectTransparency false in
theorem core1_14 (t : Fin 16) (y : S512x512.Idx) :
    out1_14 (F := Ideal) (up (rows dx t)) (up wo) (up (rows (arr (br ya wa)) t)) (up (rows (arr (br ys wb)) t)) (up (gate z 5 t)) (up (gate z 6 t)) (up (gate z 7 t)) (up (gate z 8 t)) (up (shard wa)) (up (shard wb)) y = up (arr (DY (DB z wo dx) wb)) (ix2 (row t (y 0)) (y 1)) := by
  unfold out1_14
  rw [p13, p15]
  canon_tiles u h
  all_goals
    idx_vars u
    rw [show y 0 = u0 from Fin.ext h0, show y 1 = u1 from Fin.ext h1]
    unfold k1_pay2 k1_pay10 k1_pay12
    rw [p9]
    pointwise
    try simp only [up, half16, half32, one16, ← EReal.coe_mul, coe_sum, Ideal.tanh_coe, ← EReal.coe_add, ← EReal.coe_sub, sig_tanh]
    refine congrArg Real.toEReal ?_
    exact (shard_sum (DB z wo dx (row t u0)) wb u1).symm

set_option backward.isDefEq.respectTransparency false in
theorem core0_10 (t : Fin 16) (y : S512x1024.Idx) :
    out0_10 (F := Ideal) (up (rows ya t)) (up (rows ys t)) (up (gate z 5 t)) (up (gate z 6 t)) (up (gate z 7 t)) (up (gate z 8 t)) (up (rows x t)) (up (shard wa)) (up (shard wb)) (up wo) y = up (arr (br ya wa)) (ix2 (row t (y 0)) (y 1)) := by
  unfold out0_10
  rw [q10]
  canon_tiles u h
  all_goals
    idx_vars u
    rw [show y 0 = u0 from Fin.ext h0, show y 1 = u1 from Fin.ext h1]
    rfl

set_option backward.isDefEq.respectTransparency false in
theorem core0_11 (t : Fin 16) (y : S512x1024.Idx) :
    out0_11 (F := Ideal) (up (rows ya t)) (up (rows ys t)) (up (gate z 5 t)) (up (gate z 6 t)) (up (gate z 7 t)) (up (gate z 8 t)) (up (rows x t)) (up (shard wa)) (up (shard wb)) (up wo) y = up (arr (br ys wb)) (ix2 (row t (y 0)) (y 1)) := by
  unfold out0_11
  unfold k0_pay8
  rw [q6]
  canon_tiles u h
  all_goals
    idx_vars u
    rw [show y 0 = u0 from Fin.ext h0, show y 1 = u1 from Fin.ext h1]
    rfl

set_option backward.isDefEq.respectTransparency false in
theorem core0_12 (t : Fin 16) (y : S512x1024.Idx) :
    out0_12 (F := Ideal) (up (rows ya t)) (up (rows ys t)) (up (gate z 5 t)) (up (gate z 6 t)) (up (gate z 7 t)) (up (gate z 8 t)) (up (rows x t)) (up (shard wa)) (up (shard wb)) (up wo) y = up (arr (M z ya ys wa wb)) (ix2 (row t (y 0)) (y 1)) := by
  unfold out0_12
  rw [q9]
  canon_tiles u h
  all_goals
    idx_vars u
    rw [show y 0 = u0 from Fin.ext h0, show y 1 = u1 from Fin.ext h1]
    rfl

set_option backward.isDefEq.respectTransparency false in
theorem core0_13 (t : Fin 16) (y : S512x1024.Idx) :
    out0_13 (F := Ideal) (up (rows ya t)) (up (rows ys t)) (up (gate z 5 t)) (up (gate z 6 t)) (up (gate z 7 t)) (up (gate z 8 t)) (up (rows x t)) (up (shard wa)) (up (shard wb)) (up wo) y = up (arr (X z ya ys x wa wb wo)) (ix2 (row t (y 0)) (y 1)) := by
  unfold out0_13
  rw [q9]
  canon_tiles u h
  all_goals
    idx_vars u
    rw [show y 0 = u0 from Fin.ext h0, show y 1 = u1 from Fin.ext h1]
    unfold k0_pay1
    pointwise
    try simp only [up, half16, half32, one16, ← EReal.coe_mul, coe_sum, Ideal.tanh_coe, ← EReal.coe_add, ← EReal.coe_sub, sig_tanh]
    rfl

set_option backward.isDefEq.respectTransparency false in
theorem core1_12 (t : Fin 16) (y : S512x2048.Idx) :
    out1_12 (F := Ideal) (up (rows dx t)) (up wo) (up (rows (arr (br ya wa)) t)) (up (rows (arr (br ys wb)) t)) (up (gate z 5 t)) (up (gate z 6 t)) (up (gate z 7 t)) (up (gate z 8 t)) (up (shard wa)) (up (shard wb)) y = up (arr (DG z ya ys wa wb wo dx)) (ix2 (row t (y 0)) (y 1)) := by
  unfold out1_12
  rw [p13, p15]
  canon_tiles u h
  · idx_vars u
    rw [show y 0 = u0 from Fin.ext h0]
    unfold k1_pay7
    pointwise
    try simp only [up, half16, half32, one16, ← EReal.coe_mul, coe_sum, Ideal.tanh_coe, ← EReal.coe_add, ← EReal.coe_sub, sig_tanh]
    rw [EReal.coe_one.symm]
    simp only [← EReal.coe_sub, ← EReal.coe_mul]
    refine congrArg Real.toEReal ?_
    rw [arr_ix]
    unfold DG
    have e : ∀ h', (⟨(y 1).val - 1024, h'⟩ : Fin 1024) = u1 := fun _ => Fin.ext (by simp only; omega)
    rw [dif_neg (by omega)]
    simp only [e]
    rfl
  · idx_vars u
    rw [show y 0 = u0 from Fin.ext h0]
    have e3 : (k1_pay3 (View.ld (Val := Elt Ideal) (up (rows dx t)) r1_0) (View.ld (Val := Elt Ideal) (up wo) r1_1) : FVec Ideal S512x1024 .f32) = _ :=
      p13 z ya ys wa wb wo dx t
    have e4 : (k1_pay4 (View.ld (Val := Elt Ideal) (up (gate z 5 t)) r1_2) (View.ld (Val := Elt Ideal) (up (gate z 6 t)) r1_2) : FVec Ideal S512x1024 .bf16) = _ :=
      p14 z ya ys wa wb wo dx t
    unfold k1_pay6
    rw [e3, e4]
    pointwise
    try simp only [up, half16, half32, one16, ← EReal.coe_mul, coe_sum, Ideal.tanh_coe, ← EReal.coe_add, ← EReal.coe_sub, sig_tanh]
    rw [EReal.coe_one.symm]
    simp only [← EReal.coe_sub, ← EReal.coe_mul]
    refine congrArg Real.toEReal ?_
    rw [arr_ix]
    unfold DG
    have e : ∀ h', (⟨(y 1).val, h'⟩ : Fin 1024) = u1 := fun _ => Fin.ext (by simp only; omega)
    rw [dif_pos (by omega)]
    simp only [e]
    rfl
-- ==== Proof.MergeFinal.lean ====
/- What the merge's two kernels leave in their result arrays. -/
module
public import proofs.«01_k».proof.Proof.MergeValue
@[expose] public section
set_option maxRecDepth 16384
noncomputable section

namespace Cert.MergeIdeal.Hand

open Idealize.ShloMosaic Idealize.ShloMosaic.TcCoe Idealize.SL.Sem
open Idealize.ShloMosaic.Pipeline (Dat)
open Cert.MergeIdeal Cert.MergeIdeal.Gen Cert.Reals Cert.MergeSpec

section Final

variable (V : (c : Dev nD) → (b : Ref sig .tc) → Buf (Elt Ideal) ((c : Thread nD τ).loc b)) (c : Dev nD)
  {z : S8192x4608.Idx → ℝ} {ya ys : S8192x512.Idx → ℝ} {x : S8192x1024.Idx → ℝ} {wa wb : S512x1024.Idx → ℝ}
  {wo : S1024x1024.Idx → ℝ} {dx : S8192x1024.Idx → ℝ}

theorem final0_10 (hya : V c main_arg1 = up ya) (hys : V c main_arg2 = up ys) (hz : V c main_arg0 = up z) (hx : V c main_arg3 = up x) (hwa : V c main_v2 = up (shard wa)) (hwb : V c main_v5 = up (shard wb)) (hwo : V c main_v6 = up wo) :
    (dat0 V c).arrAt 10 cfg0.N = up (arr (br ya wa)) := by
  refine (dat0 V c).arrAt_eq_of_covers 10 _ (by decide +kernel) fun t _ y => ?_
  blk_simp
  rw [after0_10, b0_0 t hya, b0_1 t hys, b0_2 t hz, b0_3 t hz, b0_4 t hz, b0_5 t hz, b0_6 t hx, b0_7 t hwa, b0_8 t hwb, b0_9 t hwo, core0_10]
  refine congrArg (up (arr (br ya wa))) ?_
  have : (row (t.cast N_0) (y 0)).val = t.val * 512 + (y 0).val := rfl
  blk_ext [idx0 t]

theorem final0_11 (hya : V c main_arg1 = up ya) (hys : V c main_arg2 = up ys) (hz : V c main_arg0 = up z) (hx : V c main_arg3 = up x) (hwa : V c main_v2 = up (shard wa)) (hwb : V c main_v5 = up (shard wb)) (hwo : V c main_v6 = up wo) :
    (dat0 V c).arrAt 11 cfg0.N = up (arr (br ys wb)) := by
  refine (dat0 V c).arrAt_eq_of_covers 11 _ (by decide +kernel) fun t _ y => ?_
  blk_simp
  rw [after0_11, b0_0 t hya, b0_1 t hys, b0_2 t hz, b0_3 t hz, b0_4 t hz, b0_5 t hz, b0_6 t hx, b0_7 t hwa, b0_8 t hwb, b0_9 t hwo, core0_11]
  refine congrArg (up (arr (br ys wb))) ?_
  have : (row (t.cast N_0) (y 0)).val = t.val * 512 + (y 0).val := rfl
  blk_ext [idx0 t]

theorem final0_12 (hya : V c main_arg1 = up ya) (hys : V c main_arg2 = up ys) (hz : V c main_arg0 = up z) (hx : V c main_arg3 = up x) (hwa : V c main_v2 = up (shard wa)) (hwb : V c main_v5 = up (shard wb)) (hwo : V c main_v6 = up wo) :
    (dat0 V c).arrAt 12 cfg0.N = up (arr (M z ya ys wa wb)) := by
  refine (dat0 V c).arrAt_eq_of_covers 12 _ (by decide +kernel) fun t _ y => ?_
  blk_simp
  rw [after0_12, b0_0 t hya, b0_1 t hys, b0_2 t hz, b0_3 t hz, b0_4 t hz, b0_5 t hz, b0_6 t hx, b0_7 t hwa, b0_8 t hwb, b0_9 t hwo, core0_12]
  refine congrArg (up (arr (M z ya ys wa wb))) ?_
  have : (row (t.cast N_0) (y 0)).val = t.val * 512 + (y 0).val := rfl
  blk_ext [idx0 t]

theorem final0_13 (hya : V c main_arg1 = up ya) (hys : V c main_arg2 = up ys) (hz : V c main_arg0 = up z) (hx : V c main_arg3 = up x) (hwa : V c main_v2 = up (shard wa)) (hwb : V c main_v5 = up (shard wb)) (hwo : V c main_v6 = up wo) :
    (dat0 V c).arrAt 13 cfg0.N = up (arr (X z ya ys x wa wb wo)) := by
  refine (dat0 V c).arrAt_eq_of_covers 13 _ (by decide +kernel) fun t _ y => ?_
  blk_simp
  rw [after0_13, b0_0 t hya, b0_1 t hys, b0_2 t hz, b0_3 t hz, b0_4 t hz, b0_5 t hz, b0_6 t hx, b0_7 t hwa, b0_8 t hwb, b0_9 t hwo, core0_13]
  refine congrArg (up (arr (X z ya ys x wa wb wo))) ?_
  have : (row (t.cast N_0) (y 0)).val = t.val * 512 + (y 0).val := rfl
  blk_ext [idx0 t]

theorem final1_10 (hdx : V c main_arg7 = up dx) (hwo : V c main_v6 = up wo) (ha : V c main_v7_0 = up (arr (br ya wa))) (hb : V c main_v7_1 = up (arr (br ys wb))) (hz : V c main_arg0 = up z) (hwa : V c main_v2 = up (shard wa)) (hwb : V c main_v5 = up (shard wb)) :
    (dat1 V c).arrAt 10 cfg1.N = up (arr (DA z wo dx)) := by
  refine (dat1 V c).arrAt_eq_of_covers 10 _ (by decide +kernel) fun t _ y => ?_
  blk_simp
  rw [after1_10, b1_0 t hdx, b1_1 t hwo, b1_2 t ha, b1_3 t hb, b1_4 t hz, b1_5 t hz, b1_6 t hz, b1_7 t hz, b1_8 t hwa, b1_9 t hwb, core1_10]
  refine congrArg (up (arr (DA z wo dx))) ?_
  have : (row (t.cast N_1) (y 0)).val = t.val * 512 + (y 0).val := rfl
  blk_ext [idx1 t]

theorem final1_11 (hdx : V c main_arg7 = up dx) (hwo : V c main_v6 = up wo) (ha : V c main_v7_0 = up (arr (br ya wa))) (hb : V c main_v7_1 = up (arr (br ys wb))) (hz : V c main_arg0 = up z) (hwa : V c main_v2 = up (shard wa)) (hwb : V c main_v5 = up (shard wb)) :
    (dat1 V c).arrAt 11 cfg1.N = up (arr (DB z wo dx)) := by
  refine (dat1 V c).arrAt_eq_of_covers 11 _ (by decide +kernel) fun t _ y => ?_
  blk_simp
  rw [after1_11, b1_0 t hdx, b1_1 t hwo, b1_2 t ha, b1_3 t hb, b1_4 t hz, b1_5 t hz, b1_6 t hz, b1_7 t hz, b1_8 t hwa, b1_9 t hwb, core1_11]
  refine congrArg (up (arr (DB z wo dx))) ?_
  have : (row (t.cast N_1) (y 0)).val = t.val * 512 + (y 0).val := rfl
  blk_ext [idx1 t]

theorem final1_12 (hdx : V c main_arg7 = up dx) (hwo : V c main_v6 = up wo) (ha : V c main_v7_0 = up (arr (br ya wa))) (hb : V c main_v7_1 = up (arr (br ys wb))) (hz : V c main_arg0 = up z) (hwa : V c main_v2 = up (shard wa)) (hwb : V c main_v5 = up (shard wb)) :
    (dat1 V c).arrAt 12 cfg1.N = up (arr (DG z ya ys wa wb wo dx)) := by
  refine (dat1 V c).arrAt_eq_of_covers 12 _ (by decide +kernel) fun t _ y => ?_
  blk_simp
  rw [after1_12, b1_0 t hdx, b1_1 t hwo, b1_2 t ha, b1_3 t hb, b1_4 t hz, b1_5 t hz, b1_6 t hz, b1_7 t hz, b1_8 t hwa, b1_9 t hwb, core1_12]
  refine congrArg (up (arr (DG z ya ys wa wb wo dx))) ?_
  have : (row (t.cast N_1) (y 0)).val = t.val * 512 + (y 0).val := rfl
  blk_ext [idx1 t]

theorem final1_13 (hdx : V c main_arg7 = up dx) (hwo : V c main_v6 = up wo) (ha : V c main_v7_0 = up (arr (br ya wa))) (hb : V c main_v7_1 = up (arr (br ys wb))) (hz : V c main_arg0 = up z) (hwa : V c main_v2 = up (shard wa)) (hwb : V c main_v5 = up (shard wb)) :
    (dat1 V c).arrAt 13 cfg1.N = up (arr (DY (DA z wo dx) wa)) := by
  refine (dat1 V c).arrAt_eq_of_covers 13 _ (by decide +kernel) fun t _ y => ?_
  blk_simp
  rw [after1_13, b1_0 t hdx, b1_1 t hwo, b1_2 t ha, b1_3 t hb, b1_4 t hz, b1_5 t hz, b1_6 t hz, b1_7 t hz, b1_8 t hwa, b1_9 t hwb, core1_13]
  refine congrArg (up (arr (DY (DA z wo dx) wa))) ?_
  have : (row (t.cast N_1) (y 0)).val = t.val * 512 + (y 0).val := rfl
  blk_ext [idx1 t]

theorem final1_14 (hdx : V c main_arg7 = up dx) (hwo : V c main_v6 = up wo) (ha : V c main_v7_0 = up (arr (br ya wa))) (hb : V c main_v7_1 = up (arr (br ys wb))) (hz : V c main_arg0 = up z) (hwa : V c main_v2 = up (shard wa)) (hwb : V c main_v5 = up (shard wb)) :
    (dat1 V c).arrAt 14 cfg1.N = up (arr (DY (DB z wo dx) wb)) := by
  refine (dat1 V c).arrAt_eq_of_covers 14 _ (by decide +kernel) fun t _ y => ?_
  blk_simp
  rw [after1_14, b1_0 t hdx, b1_1 t hwo, b1_2 t ha, b1_3 t hb, b1_4 t hz, b1_5 t hz, b1_6 t hz, b1_7 t hz, b1_8 t hwa, b1_9 t hwb, core1_14]
  refine congrArg (up (arr (DY (DB z wo dx) wb))) ?_
  have : (row (t.cast N_1) (y 0)).val = t.val * 512 + (y 0).val := rfl
  blk_ext [idx1 t]

end Final

section Host

variable (m : (ℓ : Loc nD τ sig) → Buf (Elt Ideal) ℓ) (ρ : Dev nD → PrngReg) (c : Dev nD)

/-- A weight, rounded and split into four blocks of columns. -/
theorem shard_host (w : S512x1024.Idx → ℝ) :
    transpose S4x512x256 [1, 0, 2] (shapeCast S512x4x256 (truncf (F := Ideal) (s := S512x1024) .bf16 (up w) bitsLt_bf16_f32)
      shapeCasts_S512x1024_S512x4x256) transposes_S512x4x256_S4x512x256_1_0_2 = (up (shard w) : FVec Ideal S4x512x256 .bf16) := by
  funext u
  idx_vars u
  pointwise
  exact congrArg Real.toEReal (shard_col w u1 _ u0 u2 (by simp only []; omega)).symm

theorem v1_wa (w : S512x1024.Idx → ℝ) (h : m ((c : Thread nD τ).loc main_arg4) = up w) : V1 m ρ c main_v2 = up (shard w) := by
  have e : @Eq (FVec Ideal S4x512x256 .bf16) (V1 m ρ c main_v2) (transpose S4x512x256 [1, 0, 2] (shapeCast S512x4x256 (truncf (F := Ideal) (s := S512x1024) .bf16 (m ((c : Thread nD τ).loc main_arg4)) bitsLt_bf16_f32) shapeCasts_S512x1024_S512x4x256) transposes_S512x4x256_S4x512x256_1_0_2) := by
    unfold_abbrev_sides
    after_results <;> rfl
  rw [e, h]
  exact shard_host w

theorem v1_wb (w : S512x1024.Idx → ℝ) (h : m ((c : Thread nD τ).loc main_arg5) = up w) : V1 m ρ c main_v5 = up (shard w) := by
  have e : @Eq (FVec Ideal S4x512x256 .bf16) (V1 m ρ c main_v5) (transpose S4x512x256 [1, 0, 2] (shapeCast S512x4x256 (truncf (F := Ideal) (s := S512x1024) .bf16 (m ((c : Thread nD τ).loc main_arg5)) bitsLt_bf16_f32) shapeCasts_S512x1024_S512x4x256) transposes_S512x4x256_S4x512x256_1_0_2) := by
    unfold_abbrev_sides
    after_results <;> rfl
  rw [e, h]
  exact shard_host w

theorem v1_wo (wo : S1024x1024.Idx → ℝ) (h : m ((c : Thread nD τ).loc main_arg6) = up wo) : V1 m ρ c main_v6 = up wo := by
  have e : @Eq (FVec Ideal S1024x1024 .bf16) (V1 m ρ c main_v6) (truncf (F := Ideal) (s := S1024x1024) .bf16 (m ((c : Thread nD τ).loc main_arg6)) bitsLt_bf16_f32) := by
    unfold_abbrev_sides
    after_results <;> rfl
  rw [e, h]
  rfl

/-- The result arrays at the end, where the arguments hold real numbers. -/
theorem results {z : S8192x4608.Idx → ℝ} {ya ys : S8192x512.Idx → ℝ} {x : S8192x1024.Idx → ℝ} {wa wb : S512x1024.Idx → ℝ}
    {wo : S1024x1024.Idx → ℝ} {dx : S8192x1024.Idx → ℝ}
    (h0 : m ((c : Thread nD τ).loc main_arg0) = up z) (h1 : m ((c : Thread nD τ).loc main_arg1) = up ya) (h2 : m ((c : Thread nD τ).loc main_arg2) = up ys)
    (h3 : m ((c : Thread nD τ).loc main_arg3) = up x) (h4 : m ((c : Thread nD τ).loc main_arg4) = up wa) (h5 : m ((c : Thread nD τ).loc main_arg5) = up wb)
    (h6 : m ((c : Thread nD τ).loc main_arg6) = up wo) (h7 : m ((c : Thread nD τ).loc main_arg7) = up dx) :
    V3 m ρ c main_v7_2 = up (arr (M z ya ys wa wb)) ∧ V3 m ρ c main_v7_3 = up (arr (X z ya ys x wa wb wo))
      ∧ V3 m ρ c main_v8_0 = up (arr (DA z wo dx)) ∧ V3 m ρ c main_v8_1 = up (arr (DB z wo dx))
      ∧ V3 m ρ c main_v8_2 = up (arr (DG z ya ys wa wb wo dx)) ∧ V3 m ρ c main_v8_3 = up (arr (DY (DA z wo dx) wa))
      ∧ V3 m ρ c main_v8_4 = up (arr (DY (DB z wo dx) wb)) := by
  have a (r : Ref sig .tc) (hr : r ∈ argRefs) : V1 m ρ c r = m ((c : Thread nD τ).loc r) := W1_args m ρ c r hr
  have b (r : Ref sig .tc) (hr : r ∈ argRefs) : V2 m ρ c r = m ((c : Thread nD τ).loc r) := W2_args m ρ c r hr
  have wa1 := v1_wa m ρ c wa h4
  have wb1 := v1_wb m ρ c wb h5
  have wo1 := v1_wo m ρ c wo h6
  have wa2 : V2 m ρ c main_v2 = up (shard wa) := (W2_of m ρ c main_v2 (by decide)).trans wa1
  have wb2 : V2 m ρ c main_v5 = up (shard wb) := (W2_of m ρ c main_v5 (by decide)).trans wb1
  have wo2 : V2 m ρ c main_v6 = up wo := (W2_of m ρ c main_v6 (by decide)).trans wo1
  have z1 := (a main_arg0 (by decide)).trans h0
  have ya1 := (a main_arg1 (by decide)).trans h1
  have ys1 := (a main_arg2 (by decide)).trans h2
  have x1 := (a main_arg3 (by decide)).trans h3
  have z2 := (b main_arg0 (by decide)).trans h0
  have dx2 := (b main_arg7 (by decide)).trans h7
  have a2 : V2 m ρ c main_v7_0 = up (arr (br ya wa)) := (hF0 m ρ c 10).symm.trans (final0_10 (V1 m ρ) c ya1 ys1 z1 x1 wa1 wb1 wo1)
  have b2 : V2 m ρ c main_v7_1 = up (arr (br ys wb)) := (hF0 m ρ c 11).symm.trans (final0_11 (V1 m ρ) c ya1 ys1 z1 x1 wa1 wb1 wo1)
  exact ⟨(W3_of m ρ c main_v7_2 (by decide)).trans ((hF0 m ρ c 12).symm.trans (final0_12 (V1 m ρ) c ya1 ys1 z1 x1 wa1 wb1 wo1)),
    (W3_of m ρ c main_v7_3 (by decide)).trans ((hF0 m ρ c 13).symm.trans (final0_13 (V1 m ρ) c ya1 ys1 z1 x1 wa1 wb1 wo1)),
    (hF1 m ρ c 10).symm.trans (final1_10 (V2 m ρ) c dx2 wo2 a2 b2 z2 wa2 wb2), (hF1 m ρ c 11).symm.trans (final1_11 (V2 m ρ) c dx2 wo2 a2 b2 z2 wa2 wb2),
    (hF1 m ρ c 12).symm.trans (final1_12 (V2 m ρ) c dx2 wo2 a2 b2 z2 wa2 wb2), (hF1 m ρ c 13).symm.trans (final1_13 (V2 m ρ) c dx2 wo2 a2 b2 z2 wa2 wb2),
    (hF1 m ρ c 14).symm.trans (final1_14 (V2 m ρ) c dx2 wo2 a2 b2 z2 wa2 wb2)⟩
-- ==== Proof.MergeRun.lean ====
/- The merge's two kernels run one after the other: every array at the end. -/
module
public import proofs.«01_k».proof.Proof.MergeFinal
@[expose] public section
set_option maxRecDepth 16384
noncomputable section

namespace Cert.MergeIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MergeIdeal Cert.MergeIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch, read at every array of the program: each ends at the contents after the second kernel. -/
theorem run : θ_run defs (onTc (τ := τ) (main (F := F))) ⟨m, fun _ => 0, ρ⟩ (fun r => ∀ c : Dev nD, ∀ b : Ref sig .tc,
    (Proc.devRef .tc b : DevRef τ sig) ∈ Pipeline.ucRefs τ sig → r.2.mem ((c : Thread nD τ).loc b) = V3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c b hb => h c _ hb)
-- ==== Proof.MergeClaim.lean ====
/- The claims about the gated merge: its forward call and its gradient. -/
module
public import proofs.«01_k».proof.Defs
public import proofs.«01_k».proof.Proof.MergeRun
public import proofs.«01_k».proof.Proof.Gen.Pre_merge_finite
public import Idealize.ShloMosaic.Lib.Claim
@[expose] public section
set_option maxRecDepth 16384
noncomputable section

namespace Cert.MergeClaim

open Idealize.ShloMosaic Idealize.ShloMosaic.TcCoe Idealize.SL.Sem Cert.Reals Cert.MergeSpec

/-- Every entry of the arrays is a real number where `merge_finite` holds. -/
theorem finite {z : FVec Ideal Cert.MergeIdeal.S8192x4608 .bf16} {ya : FVec Ideal Cert.MergeIdeal.S8192x512 .bf16} {ys : FVec Ideal Cert.MergeIdeal.S8192x512 .bf16} {x : FVec Ideal Cert.MergeIdeal.S8192x1024 .f32} {wa : FVec Ideal Cert.MergeIdeal.S512x1024 .f32} {wb : FVec Ideal Cert.MergeIdeal.S512x1024 .f32} {wo : FVec Ideal Cert.MergeIdeal.S1024x1024 .f32} {dx : FVec Ideal Cert.MergeIdeal.S8192x1024 .f32} (h : Cert.Pre_merge_finite.fn (F := Ideal) z ya ys x wa wb wo dx = fun _ => 1#1) :
    (∃ r : Cert.MergeIdeal.S8192x4608.Idx → ℝ, z = up r)
    ∧ (∃ r : Cert.MergeIdeal.S8192x512.Idx → ℝ, ya = up r)
    ∧ (∃ r : Cert.MergeIdeal.S8192x512.Idx → ℝ, ys = up r)
    ∧ (∃ r : Cert.MergeIdeal.S8192x1024.Idx → ℝ, x = up r)
    ∧ (∃ r : Cert.MergeIdeal.S512x1024.Idx → ℝ, wa = up r)
    ∧ (∃ r : Cert.MergeIdeal.S512x1024.Idx → ℝ, wb = up r)
    ∧ (∃ r : Cert.MergeIdeal.S1024x1024.Idx → ℝ, wo = up r)
    ∧ (∃ r : Cert.MergeIdeal.S8192x1024.Idx → ℝ, dx = up r) := by
  have h' := congrFun h ix0
  obtain ⟨c6, e7⟩ := IntOp.andi_eq_one.1 h'
  obtain ⟨c5, e6⟩ := IntOp.andi_eq_one.1 c6
  obtain ⟨c4, e5⟩ := IntOp.andi_eq_one.1 c5
  obtain ⟨c3, e4⟩ := IntOp.andi_eq_one.1 c4
  obtain ⟨c2, e3⟩ := IntOp.andi_eq_one.1 c3
  obtain ⟨c1, e2⟩ := IntOp.andi_eq_one.1 c2
  obtain ⟨e0, e1⟩ := IntOp.andi_eq_one.1 c1
  have inf : ∀ (s : Shape) (b), ∀ i, (broadcastInDim s ![] b (constant (F := Ideal) Cert.Pre_merge_finite.S_ .f32 0x7F800000#32)) i = (⊤ : EReal) :=
    fun s b i => inf_lit
  exact ⟨real_of_all _ _ (inf _ _) _ _ _ _ e0, real_of_all _ _ (inf _ _) _ _ _ _ e1, real_of_all _ _ (inf _ _) _ _ _ _ e2, real_of_all _ _ (inf _ _) _ _ _ _ e3, real_of_all _ _ (inf _ _) _ _ _ _ e4, real_of_all _ _ (inf _ _) _ _ _ _ e5, real_of_all _ _ (inf _ _) _ _ _ _ e6, real_of_all _ _ (inf _ _) _ _ _ _ e7⟩

theorem congr8 {α₀ α₁ α₂ α₃ α₄ α₅ α₆ α₇ β : Type} (f : α₀ → α₁ → α₂ → α₃ → α₄ → α₅ → α₆ → α₇ → β) {a₀ b₀ : α₀} {a₁ b₁ : α₁} {a₂ b₂ : α₂}
    {a₃ b₃ : α₃} {a₄ b₄ : α₄} {a₅ b₅ : α₅} {a₆ b₆ : α₆} {a₇ b₇ : α₇} (h₀ : a₀ = b₀) (h₁ : a₁ = b₁) (h₂ : a₂ = b₂) (h₃ : a₃ = b₃)
    (h₄ : a₄ = b₄) (h₅ : a₅ = b₅) (h₆ : a₆ = b₆) (h₇ : a₇ = b₇) : f a₀ a₁ a₂ a₃ a₄ a₅ a₆ a₇ = f b₀ b₁ b₂ b₃ b₄ b₅ b₆ b₇ := by
  subst h₀ h₁ h₂ h₃ h₄ h₅ h₆ h₇; rfl

theorem algebraic : Cert.algebraic_MergeIdeal_MergeRefIdeal_pre_merge_finite := fun m g m' g' hpre hag => by
  choose fz fya fys fx fwa fwb fwo fdx using fun c => finite (hpre c)
  choose z hz using fz
  choose ya hya using fya
  choose ys hys using fys
  choose x hx using fx
  choose wa hwa using fwa
  choose wb hwb using fwb
  choose wo hwo using fwo
  choose dx hdx using fdx
  refine ⟨fun c => up (arr (M (z c) (ya c) (ys c) (wa c) (wb c))), fun c => up (arr (X (z c) (ya c) (ys c) (x c) (wa c) (wb c) (wo c))), fun c => up (arr (DA (z c) (wo c) (dx c))), fun c => up (arr (DB (z c) (wo c) (dx c))), fun c => up (arr (DG (z c) (ya c) (ys c) (wa c) (wb c) (wo c) (dx c))), fun c => up (arr (DY (DA (z c) (wo c) (dx c)) (wa c))), fun c => up (arr (DY (DB (z c) (wo c) (dx c)) (wb c))), ?_, ?_⟩
  · refine (θ_run _ _ _).mono (fun r h c => ?_) (Cert.MergeIdeal.Hand.run m g)
    have R := Cert.MergeIdeal.Hand.results m g c (hz c) (hya c) (hys c) (hx c) (hwa c) (hwb c) (hwo c) (hdx c)
    have A (b : Ref Cert.MergeIdeal.sig .tc) (hb : b ∈ Cert.MergeIdeal.Gen.argRefs) := Cert.MergeIdeal.Gen.W3_args m g c b hb
    exact ⟨(h c Cert.MergeIdeal.main_v7_2 (Cert.MergeIdeal.Gen.mem_uc _ (by decide))).trans R.1,
      (h c Cert.MergeIdeal.main_v7_3 (Cert.MergeIdeal.Gen.mem_uc _ (by decide))).trans R.2.1,
      (h c Cert.MergeIdeal.main_v8_0 (Cert.MergeIdeal.Gen.mem_uc _ (by decide))).trans R.2.2.1,
      (h c Cert.MergeIdeal.main_v8_1 (Cert.MergeIdeal.Gen.mem_uc _ (by decide))).trans R.2.2.2.1,
      (h c Cert.MergeIdeal.main_v8_2 (Cert.MergeIdeal.Gen.mem_uc _ (by decide))).trans R.2.2.2.2.1,
      (h c Cert.MergeIdeal.main_v8_3 (Cert.MergeIdeal.Gen.mem_uc _ (by decide))).trans R.2.2.2.2.2.1,
      (h c Cert.MergeIdeal.main_v8_4 (Cert.MergeIdeal.Gen.mem_uc _ (by decide))).trans R.2.2.2.2.2.2,
      (h c Cert.MergeIdeal.main_arg0 (Cert.MergeIdeal.Gen.mem_uc _ (by decide))).trans (A Cert.MergeIdeal.main_arg0 (by decide)),
      (h c Cert.MergeIdeal.main_arg1 (Cert.MergeIdeal.Gen.mem_uc _ (by decide))).trans (A Cert.MergeIdeal.main_arg1 (by decide)),
      (h c Cert.MergeIdeal.main_arg2 (Cert.MergeIdeal.Gen.mem_uc _ (by decide))).trans (A Cert.MergeIdeal.main_arg2 (by decide)),
      (h c Cert.MergeIdeal.main_arg3 (Cert.MergeIdeal.Gen.mem_uc _ (by decide))).trans (A Cert.MergeIdeal.main_arg3 (by decide)),
      (h c Cert.MergeIdeal.main_arg4 (Cert.MergeIdeal.Gen.mem_uc _ (by decide))).trans (A Cert.MergeIdeal.main_arg4 (by decide)),
      (h c Cert.MergeIdeal.main_arg5 (Cert.MergeIdeal.Gen.mem_uc _ (by decide))).trans (A Cert.MergeIdeal.main_arg5 (by decide)),
      (h c Cert.MergeIdeal.main_arg6 (Cert.MergeIdeal.Gen.mem_uc _ (by decide))).trans (A Cert.MergeIdeal.main_arg6 (by decide)),
      (h c Cert.MergeIdeal.main_arg7 (Cert.MergeIdeal.Gen.mem_uc _ (by decide))).trans (A Cert.MergeIdeal.main_arg7 (by decide))⟩
  · refine (θ_run _ _ _).mono (fun r h c => ?_) (Cert.MergeRefIdeal.Value.run m' g')
    obtain ⟨q0, q1, q2, q3, q4, q5, q6, q7⟩ := hag c
    obtain ⟨r0, r1, r2, r3, r4, r5, r6, hk⟩ := h c
    replace q0 := q0.trans (hz c)
    replace q1 := q1.trans (hya c)
    replace q2 := q2.trans (hys c)
    replace q3 := q3.trans (hx c)
    replace q4 := q4.trans (hwa c)
    replace q5 := q5.trans (hwb c)
    replace q6 := q6.trans (hwo c)
    replace q7 := q7.trans (hdx c)
    exact ⟨r0.trans ((congr8 REF_M q0 q1 q2 q3 q4 q5 q6 q7).trans (ref_M _ _ _ _ _ _ _ _)),
      r1.trans ((congr8 REF_X q0 q1 q2 q3 q4 q5 q6 q7).trans (ref_X _ _ _ _ _ _ _ _)),
      r2.trans ((congr8 REF_DA q0 q1 q2 q3 q4 q5 q6 q7).trans (ref_DA _ _ _ _ _ _ _ _)),
      r3.trans ((congr8 REF_DB q0 q1 q2 q3 q4 q5 q6 q7).trans (ref_DB _ _ _ _ _ _ _ _)),
      r4.trans ((congr8 REF_DG q0 q1 q2 q3 q4 q5 q6 q7).trans (ref_DG _ _ _ _ _ _ _ _)),
      r5.trans ((congr8 REF_DYA q0 q1 q2 q3 q4 q5 q6 q7).trans (ref_DYA _ _ _ _ _ _ _ _)),
      r6.trans ((congr8 REF_DYS q0 q1 q2 q3 q4 q5 q6 q7).trans (ref_DYS _ _ _ _ _ _ _ _)), hk⟩
-- ==== Proof.Softmax.lean ====
/- One head of a softmax attention and its gradient over the real numbers, and the extended-real terms that compute it. -/
module
public import proofs.«01_k».proof.Proof.Reals
@[expose] public section
set_option maxRecDepth 16384
noncomputable section

namespace Cert.Softmax

open Idealize.ShloMosaic Cert.Reals

theorem ninf_lit : Ideal.ofBits .f32 0xFF800000#32 = ⊥ := by
  simp [Ideal.ofBits, Ideal.ieee]

theorem sixteenth32 : Ideal.ofBits .f32 0x3D800000#32 = ((1 / 16 : ℝ) : EReal) := by
  simp [Ideal.ofBits, Ideal.ieee]; rw [← EReal.coe_mul]; norm_num

/-- The largest of finitely many real numbers, taken among the extended reals, is a real number. -/
theorem real_max {ι : Type*} (s : Finset ι) (hs : s.Nonempty) (f : ι → ℝ) :
    ∃ r : ℝ, s.fold max (⊥ : EReal) (fun i => (f i : EReal)) = (r : EReal) := by
  classical
  induction hs using Finset.Nonempty.cons_induction with
  | singleton a => exact ⟨f a, by simp⟩
  | cons a s ha hs ih =>
    obtain ⟨r, hr⟩ := ih
    refine ⟨max (f a) r, ?_⟩
    rw [Finset.fold_cons, hr]
    exact (EReal.coe_strictMono.monotone.map_max).symm

theorem log_pos {r : ℝ} (h : 0 < r) : Ideal.log (r : EReal) = (Real.log r : EReal) := by
  rw [Ideal.log_coe, if_neg (not_le.2 h)]

section Head

variable {n : Nat} (a g : (⟨2, ![n, 256]⟩ : Shape).Idx → ℝ) (b v : (⟨2, ![256, 256]⟩ : Shape).Idx → ℝ)

/-- The scores. -/
def sc (i : Fin n) (m : Fin 256) : ℝ := ∑ d : Fin 256, a (ix2 i d) * b (ix2 m d)

/-- A row's sum of exponentials. -/
def zz (i : Fin n) : ℝ := ∑ m : Fin 256, Real.exp (sc a b i m)

/-- The probabilities. -/
def pr (i : Fin n) (m : Fin 256) : ℝ := Real.exp (sc a b i m) / zz a b i

/-- The logarithm of a row's sum. -/
def lse (i : Fin n) : ℝ := Real.log (zz a b i)

/-- The output. -/
def oo (i : Fin n) (d : Fin 256) : ℝ := ∑ m : Fin 256, pr a b i m * v (ix2 m d)

/-- The probabilities' gradient. -/
def dp (i : Fin n) (m : Fin 256) : ℝ := ∑ d : Fin 256, g (ix2 i d) * v (ix2 m d)

/-- The scores' gradient. -/
def ds (i : Fin n) (m : Fin 256) : ℝ := pr a b i m * (dp g v i m - ∑ k : Fin 256, pr a b i k * dp g v i k)

/-- The queries' gradient, before the scale of the scores. -/
def dq (i : Fin n) (d : Fin 256) : ℝ := (∑ m : Fin 256, ds a g b v i m * b (ix2 m d)) * (1 / 16)

/-- The keys' gradient. -/
def dk (m d : Fin 256) : ℝ := ∑ i : Fin n, ds a g b v i m * a (ix2 i d)

/-- The values' gradient. -/
def dv (m d : Fin 256) : ℝ := ∑ i : Fin n, pr a b i m * g (ix2 i d)

theorem zz_pos (i : Fin n) : 0 < zz a b i := Finset.sum_pos (fun _ _ => Real.exp_pos _) ⟨0, Finset.mem_univ _⟩

/-- A row's exponentials after subtracting `r`: the same, divided by `exp r`. -/
theorem shifted (i : Fin n) (r : ℝ) : ∑ m : Fin 256, Real.exp (sc a b i m - r) = zz a b i / Real.exp r := by
  rw [zz, Finset.sum_div]
  exact Finset.sum_congr rfl fun m _ => Real.exp_sub _ _

theorem shifted_pos (i : Fin n) (r : ℝ) : 0 < ∑ m : Fin 256, Real.exp (sc a b i m - r) :=
  Finset.sum_pos (fun _ _ => Real.exp_pos _) ⟨0, Finset.mem_univ _⟩

theorem pr_shifted (i : Fin n) (m : Fin 256) (r : ℝ) :
    Real.exp (sc a b i m - r) / ∑ m : Fin 256, Real.exp (sc a b i m - r) = pr a b i m := by
  rw [shifted, Real.exp_sub, pr]
  have := (zz_pos a b i).ne'
  have := (Real.exp_pos r).ne'
  field_simp

theorem lse_shifted (i : Fin n) (r : ℝ) : r + Real.log (∑ m : Fin 256, Real.exp (sc a b i m - r)) = lse a b i := by
  rw [shifted, Real.log_div (zz_pos a b i).ne' (Real.exp_pos r).ne', Real.log_exp, lse]
  ring

theorem oo_shifted (i : Fin n) (d : Fin 256) (r : ℝ) :
    (∑ m : Fin 256, Real.exp (sc a b i m - r) * v (ix2 m d)) / ∑ m : Fin 256, Real.exp (sc a b i m - r) = oo a b v i d := by
  rw [oo, Finset.sum_div]
  refine Finset.sum_congr rfl fun m _ => ?_
  rw [← pr_shifted a b i m r]
  ring

theorem exp_lse (i : Fin n) (m : Fin 256) : Real.exp (sc a b i m - lse a b i) = pr a b i m := by
  rw [Real.exp_sub, lse, Real.exp_log (zz_pos a b i), pr]

/-- The row's sum of gradient times output is its sum of probability times the probability's gradient. -/
theorem delta (i : Fin n) : ∑ d : Fin 256, g (ix2 i d) * oo a b v i d = ∑ k : Fin 256, pr a b i k * dp g v i k := by
  simp only [oo, dp, Finset.mul_sum]
  rw [Finset.sum_comm]
  exact Finset.sum_congr rfl fun k _ => Finset.sum_congr rfl fun d _ => by ring

/-- The scores' gradient in the order the reference's derivative takes it. -/
theorem ds_host (i : Fin n) (m : Fin 256) (r z : ℝ) (hz : z = ∑ m : Fin 256, Real.exp (sc a b i m - r)) :
    (dp g v i m / z + -∑ k : Fin 256, dp g v i k * (1 / (z * z)) * Real.exp (sc a b i k - r)) * Real.exp (sc a b i m - r) = ds a g b v i m := by
  have hp : 0 < z := hz ▸ shifted_pos a b i r
  have e (k : Fin 256) : Real.exp (sc a b i k - r) = pr a b i k * z := by
    rw [← pr_shifted a b i k r, ← hz]; field_simp
  have e' : ∑ k : Fin 256, dp g v i k * (1 / (z * z)) * Real.exp (sc a b i k - r) = (∑ k : Fin 256, pr a b i k * dp g v i k) / z := by
    rw [Finset.sum_div]
    refine Finset.sum_congr rfl fun k _ => ?_
    rw [e]; field_simp
  rw [e', e, ds]
  field_simp
  ring
-- ==== Proof.XattnSpec.lean ====
/- The cross-attention and its gradient over the real numbers, and the reference's own terms read as them. -/
module
public import proofs.«01_k».proof.Proof.Softmax
public import proofs.«01_k».proof.Proof.Gen.XattnRefIdeal.Run
@[expose] public section
set_option maxRecDepth 16384
noncomputable section

namespace Cert.XattnSpec

open Idealize.ShloMosaic Cert.Reals Cert.Softmax

section Spec

variable {n : Nat} (q : (⟨2, ![n, 1024]⟩ : Shape).Idx → ℝ) (kv : (⟨2, ![256, 2048]⟩ : Shape).Idx → ℝ)
  (wo : (⟨2, ![1024, 1024]⟩ : Shape).Idx → ℝ) (x dx : (⟨2, ![n, 1024]⟩ : Shape).Idx → ℝ)

/-- Column `d` of head `h`. -/
def col (h : Fin 4) (d : Fin 256) : Fin 1024 := ⟨h.val * 256 + d.val, by omega⟩

/-- A column's head. -/
def hd (j : Fin 1024) : Fin 4 := ⟨j.val / 256, by omega⟩

/-- A column's place in its head. -/
def ln (j : Fin 1024) : Fin 256 := ⟨j.val % 256, by omega⟩

/-- A head's columns. -/
def cut (h : Fin 4) (y : (⟨2, ![n, 256]⟩ : Shape).Idx) : ℝ := q (ix2 (y 0) (col h (y 1)))

/-- A head's keys. -/
def kh (h : Fin 4) (y : (⟨2, ![256, 256]⟩ : Shape).Idx) : ℝ := kv (ix2 (y 0) ⟨(col h (y 1)).val, by omega⟩)

/-- A head's values. -/
def vh (h : Fin 4) (y : (⟨2, ![256, 256]⟩ : Shape).Idx) : ℝ := kv (ix2 (y 0) ⟨1024 + (col h (y 1)).val, by omega⟩)

/-- The heads' outputs side by side. -/
def O (i : Fin n) (j : Fin 1024) : ℝ := oo (cut q (hd j)) (kh kv (hd j)) (vh kv (hd j)) i (ln j)

/-- The residual stream after the attention. -/
def X2 (i : Fin n) (j : Fin 1024) : ℝ := x (ix2 i j) + ∑ k : Fin 1024, O q kv i k * wo (ix2 k j)

/-- The outputs' gradient. -/
def G (i : Fin n) (j : Fin 1024) : ℝ := ∑ k : Fin 1024, dx (ix2 i k) * wo (ix2 j k)

/-- The queries' gradient. -/
def DQ (i : Fin n) (j : Fin 1024) : ℝ :=
  dq (cut q (hd j)) (cut (arr (G wo dx)) (hd j)) (kh kv (hd j)) (vh kv (hd j)) i (ln j)

/-- The keys' gradient. -/
def DK (m : Fin 256) (j : Fin 1024) : ℝ :=
  dk (cut q (hd j)) (cut (arr (G wo dx)) (hd j)) (kh kv (hd j)) (vh kv (hd j)) m (ln j)

/-- The values' gradient. -/
def DV (m : Fin 256) (j : Fin 1024) : ℝ :=
  dv (cut q (hd j)) (cut (arr (G wo dx)) (hd j)) (kh kv (hd j)) m (ln j)

/-- The keys' gradient beside the values'. -/
def DKV (m : Fin 256) (j : Fin 2048) : ℝ :=
  if h : j.val < 1024 then DK q kv wo dx m ⟨j.val, h⟩ else DV q kv wo dx m ⟨j.val - 1024, by omega⟩

end Spec

/-- The array whose entry at `i`, `j`, `k` is `f i j k`. -/
def arr3 {a b c : Nat} (f : Fin a → Fin b → Fin c → ℝ) (x : (⟨3, ![a, b, c]⟩ : Shape).Idx) : ℝ := f (x 0) (x 1) (x 2)

theorem arr3_ix {a b c : Nat} (f : Fin a → Fin b → Fin c → ℝ) (i : Fin a) (j : Fin b) (k : Fin c) : arr3 f (ix3 i j k) = f i j k := rfl

open Cert.XattnRefIdeal Cert.XattnRefIdeal.Gen

section Ref

variable (q : FVec Ideal S8192x1024 .bf16) (kv : FVec Ideal S256x2048 .bf16) (wo : FVec Ideal S1024x1024 .f32)
  (x dx : FVec Ideal S8192x1024 .f32)

def hQ : FVec Ideal S8192x4x256 .f32 := shapeCast _ (extf .f32 q bitsLt_bf16_f32) shapeCasts_S8192x1024_S8192x4x256

def hK : FVec Ideal S256x4x256 .f32 :=
  shapeCast _ (extractStridedSlice S256x1024 ![0, 0] (extf .f32 kv bitsLt_bf16_f32) slices_S256x2048_S256x1024_0_0) shapeCasts_S256x1024_S256x4x256

def hV : FVec Ideal S256x4x256 .f32 :=
  shapeCast _ (extractStridedSlice S256x1024 ![0, 1024] (extf .f32 kv bitsLt_bf16_f32) slices_S256x2048_S256x1024_0_1024) shapeCasts_S256x1024_S256x4x256

def hS : FVec Ideal S4x8192x256 .f32 :=
  Host.dotGeneral dot_S8192x4x256_S256x4x256_S4x8192x256_2_2_0_0_1_1 none (hQ q) (hK kv)

def hMx : FVec Ideal S4x8192 .f32 :=
  maximumf (broadcastInDim S4x8192 ![] bcast_S_S4x8192 (constant S_ .f32 0xFF800000#32)) (Host.reduce FloatOps.maximumf (hS q kv) (constant S_ .f32 0xFF800000#32) reducesTo_S4x8192x256_S4x8192_d2 h_S_)

def hE : FVec Ideal S4x8192x256 .f32 :=
  Host.exp (subf (hS q kv) (broadcastInDim S4x8192x256 ![0, 1, 2] bcast_S4x8192x1_S4x8192x256_0_1_2 (broadcastInDim S4x8192x1 ![0, 1] bcast_S4x8192_S4x8192x1_0_1 (hMx q kv))))

def hZ : FVec Ideal S4x8192x1 .f32 :=
  broadcastInDim S4x8192x1 ![0, 1] bcast_S4x8192_S4x8192x1_0_1 (Host.reduceAdd (hE q kv) (constant S_ .f32 0x00000000#32) reducesTo_S4x8192x256_S4x8192_d2 h_S_)

def hP : FVec Ideal S4x8192x256 .f32 :=
  Host.divf (hE q kv) (broadcastInDim S4x8192x256 ![0, 1, 2] bcast_S4x8192x1_S4x8192x256_0_1_2 (hZ q kv))

def hO : FVec Ideal S8192x1024 .f32 :=
  shapeCast _ (transpose S8192x4x256 [2, 0, 1] (Host.dotGeneral dot_S256x4x256_S4x8192x256_S4x256x8192_0_2_2_1_1_0 none (hV kv) (hP q kv)) transposes_S4x256x8192_S8192x4x256_2_0_1) shapeCasts_S8192x4x256_S8192x1024

def hX : FVec Ideal S8192x1024 .f32 :=
  addf x (Host.dotGeneral dot_S8192x1024_S1024x1024_S8192x1024_1_0_0_1_n_n none (hO q kv) wo)

def hG : FVec Ideal S4x256x8192 .f32 :=
  transpose S4x256x8192 [1, 2, 0] (shapeCast _ (Host.dotGeneral dot_S8192x1024_S1024x1024_S8192x1024_1_1_0_0_n_n none dx wo) shapeCasts_S8192x1024_S8192x4x256) transposes_S8192x4x256_S4x256x8192_1_2_0

def hDP : FVec Ideal S4x8192x256 .f32 :=
  Host.dotGeneral dot_S4x256x8192_S256x4x256_S4x8192x256_1_2_2_0_0_1 none (hG wo dx) (hV kv)

/-- The gradient that reaches a row's sum. -/
def hDZ : FVec Ideal S4x8192 .f32 :=
  Host.reduceAdd (mulf (mulf (hDP kv wo dx) (broadcastInDim S4x8192x256 ![0, 1, 2] bcast_S4x8192x1_S4x8192x256_0_1_2 (Host.divf (broadcastInDim S4x8192x1 ![] bcast_S_S4x8192x1 (constant S_ .f32 0x3F800000#32)) (mulf (hZ q kv) (hZ q kv))))) (hE q kv)) (constant S_ .f32 0x00000000#32) reducesTo_S4x8192x256_S4x8192_d2 h_S_

def hDS : FVec Ideal S4x8192x256 .f32 :=
  mulf (addf (Host.divf (hDP kv wo dx) (broadcastInDim S4x8192x256 ![0, 1, 2] bcast_S4x8192x1_S4x8192x256_0_1_2 (hZ q kv))) (broadcastInDim S4x8192x256 ![0, 1] bcast_S4x8192_S4x8192x256_0_1 (Host.reduceAdd (Host.negf (shapeCast _ (hDZ q kv wo dx) shapeCasts_S4x8192_S4x8192x1)) (constant S_ .f32 0x00000000#32) reducesTo_S4x8192x1_S4x8192_d2 h_S_))) (hE q kv)

def hDQ : FVec Ideal S8192x1024 .bf16 :=
  truncf .bf16 (mulf (shapeCast _ (transpose S8192x4x256 [1, 0, 2] (Host.dotGeneral dot_S4x8192x256_S256x4x256_S4x8192x256_2_0_1_2_0_1 none (hDS q kv wo dx) (hK kv)) transposes_S4x8192x256_S8192x4x256_1_0_2) shapeCasts_S8192x4x256_S8192x1024) (broadcastInDim S8192x1024 ![] bcast_S_S8192x1024 (constant S_ .f32 0x3D800000#32))) bitsLt_bf16_f32

def hDK : FVec Ideal S256x1024 .f32 :=
  shapeCast _ (transpose S256x4x256 [1, 0, 2] (Host.dotGeneral dot_S4x8192x256_S8192x4x256_S4x256x256_1_0_2_2_0_1 none (hDS q kv wo dx) (hQ q)) transposes_S4x256x256_S256x4x256_1_0_2) shapeCasts_S256x4x256_S256x1024

def hDV : FVec Ideal S256x1024 .f32 :=
  shapeCast _ (transpose S256x4x256 [2, 0, 1] (Host.dotGeneral dot_S4x256x8192_S4x8192x256_S4x256x256_2_1_1_2_0_0 none (hG wo dx) (hP q kv)) transposes_S4x256x256_S256x4x256_2_0_1) shapeCasts_S256x4x256_S256x1024

def hDKV : FVec Ideal S256x2048 .f32 :=
  concatenate S256x2048 1 [⟨S256x1024, hDK q kv wo dx⟩, ⟨S256x1024, hDV q kv wo dx⟩] concatenates_S256x1024_S256x1024_S256x2048_d1

end Ref

section Eval

variable (q : S8192x1024.Idx → ℝ) (kv : S256x2048.Idx → ℝ) (wo : S1024x1024.Idx → ℝ) (x dx : S8192x1024.Idx → ℝ)

theorem hQ_eq : hQ (up q) = up (arr3 fun i h d => cut q h (ix2 i d)) := by
  funext u
  idx_vars u
  pointwise [hQ]
  rfl

theorem hK_eq : hK (up kv) = up (arr3 fun i h d => kh kv h (ix2 i d)) := by
  funext u
  idx_vars u
  pointwise [hK]
  rfl

theorem hV_eq : hV (up kv) = up (arr3 fun i h d => vh kv h (ix2 i d)) := by
  funext u
  idx_vars u
  pointwise [hV]
  rfl

theorem hS_eq : hS (up q) (up kv) = up (arr3 fun h i m => sc (cut q h) (kh kv h) i m) := by
  funext u
  idx_vars u
  unfold hS
  rw [hQ_eq, hK_eq]
  pointwise
  simp only [up, ← EReal.coe_mul, coe_sum]
  rfl

theorem rowMax (s : FVec Ideal S4x8192x256 .f32) (v : FVec Ideal S_ .f32) (h : Fin 4) (i : Fin 8192) :
    Host.reduce FloatOps.maximumf s v reducesTo_S4x8192x256_S4x8192_d2 h_S_ (ix2 h i)
      = (Finset.univ.fold max (v (Shape.Idx.first h_S_)) fun m : Fin 256 => s (ix3 h i m) : EReal) := by
  pointwise

theorem lowest (u : S_.Idx) : constant (F := Ideal) S_ .f32 0xFF800000#32 u = (⊥ : EReal) := ninf_lit

theorem lowests (u : S4x8192.Idx) :
    broadcastInDim S4x8192 ![] bcast_S_S4x8192 (constant (F := Ideal) S_ .f32 0xFF800000#32) u = (⊥ : EReal) := ninf_lit

theorem max_ix (a b : FVec Ideal S4x8192 .f32) (u : S4x8192.Idx) : maximumf a b u = (max (a u) (b u) : EReal) := rfl

/-- A row's largest score is a real number. -/
theorem hMx_eq : ∃ r : Fin 4 → Fin 8192 → ℝ, hMx (up q) (up kv) = up (arr r) := by
  have e (h : Fin 4) (i : Fin 8192) : ∃ r : ℝ, hMx (up q) (up kv) (ix2 h i) = (r : EReal) := by
    obtain ⟨r, hr⟩ := real_max Finset.univ Finset.univ_nonempty fun m : Fin 256 => sc (cut q h) (kh kv h) i m
    refine ⟨r, ?_⟩
    unfold hMx
    rw [hS_eq, max_ix, lowests, rowMax, lowest, max_eq_right bot_le]
    exact hr
  choose r hr using e
  refine ⟨r, ?_⟩
  funext u
  idx_vars u
  exact hr _ _

/-- The exponentials, less the number `r` the row subtracts. -/
def E (r : Fin 4 → Fin 8192 → ℝ) (h : Fin 4) (i : Fin 8192) (m : Fin 256) : ℝ := Real.exp (sc (cut q h) (kh kv h) i m - r h i)

theorem hE_eq : ∃ r : Fin 4 → Fin 8192 → ℝ, hE (up q) (up kv) = up (arr3 (E q kv r)) := by
  obtain ⟨r, hr⟩ := hMx_eq q kv
  refine ⟨r, ?_⟩
  funext u
  idx_vars u
  unfold hE
  rw [hS_eq, hr]
  pointwise
  simp only [up, ← EReal.coe_sub, Ideal.exp_coe]
  rfl

theorem hG_eq : hG (up wo) (up dx) = up (arr3 fun h d i => cut (arr (G wo dx)) h (ix2 i d)) := by
  funext u
  idx_vars u
  pointwise [hG]
  simp only [up, ← EReal.coe_mul, coe_sum]
  rfl

theorem hDP_eq : hDP (up kv) (up wo) (up dx) = up (arr3 fun h i m => dp (cut (arr (G wo dx)) h) (vh kv h) i m) := by
  funext u
  idx_vars u
  unfold hDP
  rw [hG_eq, hV_eq]
  pointwise
  simp only [up, ← EReal.coe_mul, coe_sum]
  rfl

section Shifted

variable {q kv} {r : Fin 4 → Fin 8192 → ℝ} (hr : hE (up q) (up kv) = up (arr3 (E q kv r)))

include hr

omit hr in
theorem E_pos (h : Fin 4) (i : Fin 8192) : 0 < ∑ m, E q kv r h i m := shifted_pos _ _ _ (r h i)

theorem hZ_eq : hZ (up q) (up kv) = up (arr3 fun h i _ => ∑ m, E q kv r h i m) := by
  funext u
  idx_vars u
  unfold hZ
  rw [hr]
  pointwise
  simp only [up, coe_sum]
  rfl

theorem hP_eq : hP (up q) (up kv) = up (arr3 fun h i m => pr (cut q h) (kh kv h) i m) := by
  funext u
  idx_vars u
  unfold hP
  rw [hr, hZ_eq hr]
  pointwise
  simp only [up, arr3_ix, arr_ix]
  rw [div_coe _ (E_pos u0 u1).ne']
  exact congrArg Real.toEReal (pr_shifted _ _ _ _ (r u0 u1))

theorem hDZ_eq : hDZ (up q) (up kv) (up wo) (up dx) = up (arr fun h i => ∑ m, dp (cut (arr (G wo dx)) h) (vh kv h) i m
    * (1 / ((∑ m, E q kv r h i m) * (∑ m, E q kv r h i m))) * E q kv r h i m) := by
  funext u
  idx_vars u
  unfold hDZ
  rw [hr, hZ_eq hr, hDP_eq]
  pointwise
  have h1 : (1 : EReal) = ((1 : ℝ) : EReal) := EReal.coe_one.symm
  have hp : 0 < ∑ m, E q kv r u0 u1 m := E_pos u0 u1
  simp only [up, arr3_ix, arr_ix, ← EReal.coe_mul]
  rw [h1, div_coe _ (mul_pos hp hp).ne']
  simp only [← EReal.coe_mul, coe_sum]

theorem hDS_eq : hDS (up q) (up kv) (up wo) (up dx)
    = up (arr3 fun h i m => ds (cut q h) (cut (arr (G wo dx)) h) (kh kv h) (vh kv h) i m) := by
  funext u
  idx_vars u
  unfold hDS
  rw [hr, hZ_eq hr, hDZ_eq wo dx hr, hDP_eq]
  pointwise
  have hp : 0 < ∑ m, E q kv r u0 u1 m := E_pos u0 u1
  simp only [up, arr3_ix, arr_ix]
  rw [div_coe _ hp.ne']
  simp only [← EReal.coe_mul, ← EReal.coe_neg]
  rw [Fin.sum_univ_one]
  simp only [← EReal.coe_mul, ← EReal.coe_add]
  exact congrArg Real.toEReal (ds_host _ _ _ _ _ _ (r u0 u1) _ rfl)

end Shifted

theorem hO_eq : hO (up q) (up kv) = up (arr (O q kv)) := by
  obtain ⟨r, hr⟩ := hE_eq q kv
  funext u
  idx_vars u
  unfold hO
  rw [hV_eq, hP_eq hr]
  pointwise
  simp only [up, ← EReal.coe_mul, coe_sum]
  exact congrArg Real.toEReal (Finset.sum_congr rfl fun _ _ => mul_comm _ _)

theorem hX_eq : hX (up q) (up kv) (up wo) (up x) = up (arr (X2 q kv wo x)) := by
  funext u
  idx_vars u
  unfold hX
  rw [hO_eq]
  pointwise
  simp only [up, ← EReal.coe_mul, coe_sum, ← EReal.coe_add]
  rfl

theorem hDQ_eq : hDQ (up q) (up kv) (up wo) (up dx) = up (arr (DQ q kv wo dx)) := by
  obtain ⟨r, hr⟩ := hE_eq q kv
  funext u
  idx_vars u
  unfold hDQ
  rw [hDS_eq wo dx hr, hK_eq]
  pointwise
  rw [sixteenth32]
  simp only [up, ← EReal.coe_mul, coe_sum]
  rfl

theorem hDK_eq : hDK (up q) (up kv) (up wo) (up dx) = up (arr (DK q kv wo dx)) := by
  obtain ⟨r, hr⟩ := hE_eq q kv
  funext u
  idx_vars u
  unfold hDK
  rw [hDS_eq wo dx hr, hQ_eq]
  pointwise
  simp only [up, ← EReal.coe_mul, coe_sum]
  rfl

theorem hDV_eq : hDV (up q) (up kv) (up wo) (up dx) = up (arr (DV q kv wo dx)) := by
  obtain ⟨r, hr⟩ := hE_eq q kv
  funext u
  idx_vars u
  unfold hDV
  rw [hP_eq hr, hG_eq]
  pointwise
  simp only [up, ← EReal.coe_mul, coe_sum]
  exact congrArg Real.toEReal (Finset.sum_congr rfl fun _ _ => mul_comm _ _)

theorem hDKV_eq : hDKV (up q) (up kv) (up wo) (up dx) = up (arr (DKV q kv wo dx)) := by
  funext u
  idx_vars u
  unfold hDKV
  rw [hDK_eq, hDV_eq]
  pointwise
  simp only [up, arr_ix, DKV]
  by_cases h : u1.val < 1024
  · rw [dif_pos h, dif_pos h]
  · rw [dif_neg h, dif_neg h]

end Eval

open Idealize.ShloMosaic.TcCoe
-- ==== Proof.XattnBlocks.lean ====
/- The cross-attention's two kernels: what their windows' blocks hold over arrays of real numbers. -/
module
public import proofs.«01_k».proof.Proof.XattnSpec
public import proofs.«01_k».proof.Proof.Gen.XattnIdeal.Frame
public import Idealize.ShloMosaic.Lib.Pipeline.ValueKit
@[expose] public section
set_option maxRecDepth 16384
noncomputable section

namespace Cert.XattnIdeal.Hand

open Idealize.ShloMosaic Idealize.ShloMosaic.TcCoe Idealize.SL.Sem
open Idealize.ShloMosaic.Pipeline (Dat)
open Cert.XattnIdeal Cert.XattnIdeal.Gen Cert.Reals Cert.Softmax Cert.XattnSpec

theorem idx0 : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] :=
  (by decide +kernel : ∀ t : Fin grid0.N, _)

theorem idx1 : ∀ t : Fin cfg1.N, win1_0.index t = ![t.val, 0] ∧ win1_1.index t = ![t.val, 0] ∧ win1_2.index t = ![t.val, 0]
    ∧ win1_3.index t = ![t.val, 0] ∧ win1_4.index t = ![0, 0] ∧ win1_5.index t = ![0, 0] ∧ win1_6.index t = ![t.val, 0]
    ∧ win1_7.index t = ![0, 0] :=
  (by decide +kernel : ∀ t : Fin grid1.N, _)

/-- The array row at which row `i` of point `t`'s blocks sits. -/
def row (t : Fin 8) (i : Fin 1024) : Fin 8192 := ⟨t.val * 1024 + i, by omega⟩

/-- Point `t`'s rows of a matrix of real numbers. -/
def rows {n : Nat} (r : (⟨2, ![8192, n]⟩ : Shape).Idx → ℝ) (t : Fin 8) : (⟨2, ![1024, n]⟩ : Shape).Idx → ℝ :=
  fun x => r (ix2 (row t (x 0)) (x 1))

section Blocks

variable {V : (c : Dev nD) → (b : Ref sig .tc) → Buf (Elt Ideal) ((c : Thread nD τ).loc b)} {c : Dev nD}
  {q x : S8192x1024.Idx → ℝ} {l : S8192x4.Idx → ℝ} {kv : S256x2048.Idx → ℝ} {wo : S1024x1024.Idx → ℝ}

theorem b0_0 (t : Fin cfg0.N) (h : V c main_arg0 = up q) :
    (iblk0 V c 0 t : FVec Ideal S1024x1024 .bf16) = up (rows q (t.cast N_0)) := by
  funext x
  have e : iblk0 V c 0 t x = V c main_arg0 (ix2 (row (t.cast N_0) (x 0)) (x 1)) := by
    have : (row (t.cast N_0) (x 0)).val = t.val * 1024 + (x 0).val := rfl
    blk_ext [iblk0, idx0 t]
  rw [e, h]; rfl

theorem b0_1 (t : Fin cfg0.N) (h : V c main_arg1 = up kv) : (iblk0 V c 1 t : FVec Ideal S256x2048 .bf16) = up kv := by
  funext x
  have e : iblk0 V c 1 t x = V c main_arg1 x := by blk_ext [iblk0, idx0 t]
  rw [e, h]

theorem b0_2 (t : Fin cfg0.N) (h : V c main_v0 = up wo) : (iblk0 V c 2 t : FVec Ideal S1024x1024 .bf16) = up wo := by
  funext x
  have e : iblk0 V c 2 t x = V c main_v0 x := by blk_ext [iblk0, idx0 t]
  rw [e, h]

theorem b0_3 (t : Fin cfg0.N) (h : V c main_arg3 = up x) :
    (iblk0 V c 3 t : FVec Ideal S1024x1024 .f32) = up (rows x (t.cast N_0)) := by
  funext x
  have e : iblk0 V c 3 t x = V c main_arg3 (ix2 (row (t.cast N_0) (x 0)) (x 1)) := by
    have : (row (t.cast N_0) (x 0)).val = t.val * 1024 + (x 0).val := rfl
    blk_ext [iblk0, idx0 t]
  rw [e, h]; rfl

theorem b1_0 (t : Fin cfg1.N) (h : V c main_arg4 = up x) :
    (iblk1 V c 0 t : FVec Ideal S1024x1024 .f32) = up (rows x (t.cast N_1)) := by
  funext x
  have e : iblk1 V c 0 t x = V c main_arg4 (ix2 (row (t.cast N_1) (x 0)) (x 1)) := by
    have : (row (t.cast N_1) (x 0)).val = t.val * 1024 + (x 0).val := rfl
    blk_ext [iblk1, idx1 t]
  rw [e, h]; rfl

theorem b1_1 (t : Fin cfg1.N) (h : V c main_arg0 = up x) :
    (iblk1 V c 1 t : FVec Ideal S1024x1024 .bf16) = up (rows x (t.cast N_1)) := by
  funext x
  have e : iblk1 V c 1 t x = V c main_arg0 (ix2 (row (t.cast N_1) (x 0)) (x 1)) := by
    have : (row (t.cast N_1) (x 0)).val = t.val * 1024 + (x 0).val := rfl
    blk_ext [iblk1, idx1 t]
  rw [e, h]; rfl

theorem b1_2 (t : Fin cfg1.N) (h : V c main_v1_0 = up x) :
    (iblk1 V c 2 t : FVec Ideal S1024x1024 .bf16) = up (rows x (t.cast N_1)) := by
  funext x
  have e : iblk1 V c 2 t x = V c main_v1_0 (ix2 (row (t.cast N_1) (x 0)) (x 1)) := by
    have : (row (t.cast N_1) (x 0)).val = t.val * 1024 + (x 0).val := rfl
    blk_ext [iblk1, idx1 t]
  rw [e, h]; rfl

theorem b1_3 (t : Fin cfg1.N) (h : V c main_v1_1 = up l) :
    (iblk1 V c 3 t : FVec Ideal S1024x4 .f32) = up (rows l (t.cast N_1)) := by
  funext x
  have e : iblk1 V c 3 t x = V c main_v1_1 (ix2 (row (t.cast N_1) (x 0)) (x 1)) := by
    have : (row (t.cast N_1) (x 0)).val = t.val * 1024 + (x 0).val := rfl
    blk_ext [iblk1, idx1 t]
  rw [e, h]; rfl

theorem b1_4 (t : Fin cfg1.N) (h : V c main_arg1 = up kv) : (iblk1 V c 4 t : FVec Ideal S256x2048 .bf16) = up kv := by
  funext x
  have e : iblk1 V c 4 t x = V c main_arg1 x := by blk_ext [iblk1, idx1 t]
  rw [e, h]

theorem b1_5 (t : Fin cfg1.N) (h : V c main_v0 = up wo) : (iblk1 V c 5 t : FVec Ideal S1024x1024 .bf16) = up wo := by
  funext x
  have e : iblk1 V c 5 t x = V c main_v0 x := by blk_ext [iblk1, idx1 t]
  rw [e, h]

end Blocks

section Loads

/-- A head's columns of a block of rows. -/
theorem ld_cut (a : S1024x1024.Idx → ℝ) (h : Fin 4) (o : Nat) (ho : o = h.val * 256)
    (i : ∀ k, (![0, o] : Fin 2 → Nat) k + S1024x256.size k ≤ S1024x1024.size k) :
    @Eq (S1024x256.Idx → EReal) (View.ld (Val := Elt Ideal) (e' := .bf16) (up a) (Rect.unit (s := S1024x1024) ![0, o] S1024x256.size i)) (up (cut a h)) := by
  funext u
  subst ho
  refine congrArg (up a) ?_
  idx_vars u
  pointwise
  rfl

/-- A head's keys. -/
theorem ld_kh (a : S256x2048.Idx → ℝ) (h : Fin 4) (o : Nat) (ho : o = h.val * 256)
    (i : ∀ k, (![0, o] : Fin 2 → Nat) k + S256x256.size k ≤ S256x2048.size k) :
    @Eq (S256x256.Idx → EReal) (View.ld (Val := Elt Ideal) (e' := .bf16) (up a) (Rect.unit (s := S256x2048) ![0, o] S256x256.size i)) (up (kh a h)) := by
  funext u
  subst ho
  refine congrArg (up a) ?_
  idx_vars u
  pointwise
  rfl

/-- A head's values. -/
theorem ld_vh (a : S256x2048.Idx → ℝ) (h : Fin 4) (o : Nat) (ho : o = 1024 + h.val * 256)
    (i : ∀ k, (![0, o] : Fin 2 → Nat) k + S256x256.size k ≤ S256x2048.size k) :
    @Eq (S256x256.Idx → EReal) (View.ld (Val := Elt Ideal) (e' := .bf16) (up a) (Rect.unit (s := S256x2048) ![0, o] S256x256.size i)) (up (vh a h)) := by
  funext u
  subst ho
  refine congrArg (up a) ?_
  idx_vars u
  pointwise
  exact congrArg (ix2 u0) (Fin.ext (Nat.add_assoc _ _ _))

/-- A head's logarithms. -/
theorem ld_lse (a : S1024x4.Idx → ℝ) (h : Fin 4) (o : Nat) (ho : o = h.val)
    (i : ∀ k, (![0, o] : Fin 2 → Nat) k + S1024x1.size k ≤ S1024x4.size k) :
    @Eq (S1024x1.Idx → EReal) (View.ld (Val := Elt Ideal) (e' := .f32) (up a) (Rect.unit (s := S1024x4) ![0, o] S1024x1.size i)) (up (arr (fun i _ => a (ix2 i h)))) := by
  funext u
  subst ho
  refine congrArg (up a) ?_
  idx_vars u
  pointwise
-- ==== Proof.XattnValue.lean ====
/- The cross-attention's forward kernel, over blocks of real numbers. -/
module
public import proofs.«01_k».proof.Proof.XattnBlocks
@[expose] public section
set_option maxRecDepth 16384
noncomputable section

namespace Cert.XattnIdeal.Hand

open Idealize.ShloMosaic Idealize.ShloMosaic.TcCoe Idealize.SL.Sem
open Cert.XattnIdeal Cert.XattnIdeal.Gen Cert.Reals Cert.Softmax Cert.XattnSpec

section Head

variable (a : S1024x256.Idx → ℝ) (b v : S256x256.Idx → ℝ)

theorem f4 : (k0_pay4 (up a) (up b) : FVec Ideal S1024x256 .f32) = up (arr (sc a b)) := by
  funext u
  idx_vars u
  unfold k0_pay4
  pointwise
  simp only [up, ← EReal.coe_mul, coe_sum]
  rfl

theorem rowMax (s : FVec Ideal S1024x256 .f32) (i : Fin 1024) (z : Fin 1) :
    shapeCast S1024x1 (multiReduction .maximumf [1] S1024 s 0xFF800000#32 reduces_S1024x256_S1024 (.inl rfl) rfl) shapeCasts_S1024_S1024x1 (ix2 i z)
      = (Finset.univ.fold max (Ideal.ofBits .f32 0xFF800000#32) fun m : Fin 256 => s (ix2 i m) : EReal) := by
  pointwise

theorem f5 : ∃ r : Fin 1024 → ℝ, (k0_pay5 (up a) (up b) : FVec Ideal S1024x1 .f32) = up (arr fun i _ => r i) := by
  have e (i : Fin 1024) : ∃ r : ℝ, ∀ z : Fin 1, (k0_pay5 (up a) (up b) : FVec Ideal S1024x1 .f32) (ix2 i z) = (r : EReal) := by
    obtain ⟨r, hr⟩ := real_max Finset.univ Finset.univ_nonempty fun m : Fin 256 => sc a b i m
    refine ⟨r, fun z => ?_⟩
    unfold k0_pay5
    rw [f4]
    refine (rowMax _ i z).trans ?_
    rw [ninf_lit]
    exact hr
  choose r hr using e
  refine ⟨r, ?_⟩
  funext u
  idx_vars u
  exact hr _ _

section Shifted

variable {a b} {r : Fin 1024 → ℝ} (hr : (k0_pay5 (up a) (up b) : FVec Ideal S1024x1 .f32) = up (arr fun i _ => r i))

include hr

theorem f6 : (k0_pay6 (up a) (up b) : FVec Ideal S1024x256 .f32) = up (arr fun i m => Real.exp (sc a b i m - r i)) := by
  funext u
  idx_vars u
  unfold k0_pay6
  rw [f4, hr]
  pointwise
  simp only [up, ← EReal.coe_sub, Ideal.exp_coe]
  rfl

theorem f7 : (k0_pay7 (up a) (up b) : FVec Ideal S1024x1 .f32) = up (arr fun i _ => ∑ m, Real.exp (sc a b i m - r i)) := by
  funext u
  idx_vars u
  unfold k0_pay7
  rw [f6 hr]
  pointwise
  simp only [up, coe_sum]
  rfl

end Shifted

/-- The output. -/
theorem f8 : (k0_pay8 (up a) (up b) (up v) : FVec Ideal S1024x256 .bf16) = up (arr (oo a b v)) := by
  obtain ⟨r, hr⟩ := f5 a b
  funext u
  idx_vars u
  unfold k0_pay8
  rw [f6 hr, f7 hr]
  pointwise
  simp only [up, arr_ix, ← EReal.coe_mul, coe_sum]
  rw [div_coe _ (shifted_pos a b u0 (r u0)).ne']
  exact congrArg Real.toEReal (oo_shifted a b v u0 u1 (r u0))

/-- The logarithm of the rows' sums. -/
theorem f9 : (k0_pay9 (up a) (up b) : FVec Ideal S1024x1 .f32) = up (arr fun i _ => lse a b i) := by
  obtain ⟨r, hr⟩ := f5 a b
  funext u
  idx_vars u
  unfold k0_pay9
  rw [hr, f7 hr]
  pointwise
  simp only [up, arr_ix]
  rw [log_pos (shifted_pos a b u0 (r u0)), ← EReal.coe_add]
  exact congrArg Real.toEReal (lse_shifted a b u0 (r u0))

end Head

theorem congrArg₃ {α β γ δ : Type} (f : α → β → γ → δ) {a a' : α} {b b' : β} {c c' : γ} (h : a = a') (h' : b = b') (h'' : c = c') : f a b c = f a' b' c' := by
  subst h h' h''; rfl

section Heads

variable (q x : S1024x1024.Idx → ℝ) (kv : S256x2048.Idx → ℝ) (wo : S1024x1024.Idx → ℝ)

/-- The four heads' outputs side by side. -/
theorem same2 (a : FVec Ideal S1024x256 .bf16) (b v : FVec Ideal S256x256 .bf16) (o0 o1 o2 : FVec Ideal S1024x256 .bf16) :
    (k0_pay2 o0 o1 o2 (k0_pay26 a b) (k0_pay27 a b v) : FVec Ideal S1024x1024 .bf16)
      = concatenate S1024x1024 1 [⟨S1024x256, o0⟩, ⟨S1024x256, o1⟩, ⟨S1024x256, o2⟩, ⟨S1024x256, k0_pay8 a b v⟩] concatenates_S1024x256_S1024x256_S1024x256_S1024x256_S1024x1024_d1 := rfl

theorem O_at (h : Fin 4) (d : Fin 256) (i j : Fin 1024) (e : j.val = h.val * 256 + d.val) :
    O q kv i j = oo (cut q h) (kh kv h) (vh kv h) i d := by
  have e1 : hd j = h := Fin.ext (by simp only [hd]; omega)
  have e2 : ln j = d := Fin.ext (by simp only [ln]; omega)
  unfold O
  rw [e1, e2]

theorem side : concatenate S1024x1024 1 [⟨S1024x256, (up (arr (oo (cut q 0) (kh kv 0) (vh kv 0))) : FVec Ideal S1024x256 .bf16)⟩,
    ⟨S1024x256, up (arr (oo (cut q 1) (kh kv 1) (vh kv 1)))⟩, ⟨S1024x256, up (arr (oo (cut q 2) (kh kv 2) (vh kv 2)))⟩,
    ⟨S1024x256, up (arr (oo (cut q 3) (kh kv 3) (vh kv 3)))⟩] concatenates_S1024x256_S1024x256_S1024x256_S1024x256_S1024x1024_d1
      = (up (arr (O q kv)) : FVec Ideal S1024x1024 .bf16) := by
  funext u
  idx_vars u
  pointwise
  by_cases h0 : u1.val < 256
  · rw [dif_pos h0]
    exact congrArg Real.toEReal (O_at q kv 0 _ u0 u1 (by simp)).symm
  rw [dif_neg h0]
  by_cases h1 : u1.val - 256 < 256
  · rw [dif_pos h1]
    exact congrArg Real.toEReal (O_at q kv 1 _ u0 u1 (by simp; omega)).symm
  rw [dif_neg h1]
  by_cases h2 : u1.val - 256 - 256 < 256
  · rw [dif_pos h2]
    exact congrArg Real.toEReal (O_at q kv 2 _ u0 u1 (by simp; omega)).symm
  rw [dif_neg h2]
  exact congrArg Real.toEReal (O_at q kv 3 _ u0 u1 (by simp; omega)).symm

theorem g28 (x2 : Vec Ideal S1024x1024 .bf16) (x3 : Vec Ideal S1024x1024 .f32) :
    (k0_pay28 (up q) (up kv) x2 x3 : FVec Ideal S1024x256 .bf16) = up (arr (oo (cut q 0) (kh kv 0) (vh kv 0))) := by
  unfold k0_pay28
  exact (congrArg₃ k0_pay8 (ld_cut q 0 _ rfl _) (ld_kh kv 0 _ rfl _) (ld_vh kv 0 _ rfl _)).trans (f8 _ _ _)

theorem g29 (x2 : Vec Ideal S1024x1024 .bf16) (x3 : Vec Ideal S1024x1024 .f32) :
    (k0_pay29 (up q) (up kv) x2 x3 : FVec Ideal S1024x256 .bf16) = up (arr (oo (cut q 1) (kh kv 1) (vh kv 1))) := by
  unfold k0_pay29
  exact (congrArg₃ k0_pay8 (ld_cut q 1 _ rfl _) (ld_kh kv 1 _ rfl _) (ld_vh kv 1 _ rfl _)).trans (f8 _ _ _)

theorem g30 (x2 : Vec Ideal S1024x1024 .bf16) (x3 : Vec Ideal S1024x1024 .f32) :
    (k0_pay30 (up q) (up kv) x2 x3 : FVec Ideal S1024x256 .bf16) = up (arr (oo (cut q 2) (kh kv 2) (vh kv 2))) := by
  unfold k0_pay30
  exact (congrArg₃ k0_pay8 (ld_cut q 2 _ rfl _) (ld_kh kv 2 _ rfl _) (ld_vh kv 2 _ rfl _)).trans (f8 _ _ _)

theorem g31 : (k0_pay8 (View.ld (Val := Elt Ideal) (e' := .bf16) (up q) r0_12) (View.ld (Val := Elt Ideal) (e' := .bf16) (up kv) r0_13)
    (View.ld (Val := Elt Ideal) (e' := .bf16) (up kv) r0_14) : FVec Ideal S1024x256 .bf16) = up (arr (oo (cut q 3) (kh kv 3) (vh kv 3))) :=
  (congrArg₃ k0_pay8 (ld_cut q 3 _ rfl _) (ld_kh kv 3 _ rfl _) (ld_vh kv 3 _ rfl _)).trans (f8 _ _ _)

theorem g2 (x2 : Vec Ideal S1024x1024 .bf16) (x3 : Vec Ideal S1024x1024 .f32) :
    (k0_pay2 (k0_pay28 (up q) (up kv) x2 x3) (k0_pay29 (up q) (up kv) x2 x3) (k0_pay30 (up q) (up kv) x2 x3) (k0_pay31 (up q) (up kv) x2 x3)
      (k0_pay32 (up q) (up kv) x2 x3) : FVec Ideal S1024x1024 .bf16) = up (arr (O q kv)) := by
  rw [g28, g29, g30]
  refine (same2 _ _ _ _ _ _).trans ?_
  rw [g31]
  exact side q kv

theorem canon_all (v : FVec Ideal S1024x1024 .bf16) (y : S1024x1024.Idx) : (View.canon (Val := Elt Ideal) (e := .bf16) [⟨r0_16, v⟩]) y = v y := by
  canon_tiles u h
  all_goals
    idx_vars u
    idx_vars y
    rw [show y0 = u0 from Fin.ext h0, show y1 = u1 from Fin.ext h1]

theorem core0_4 (x2 : Vec Ideal S1024x1024 .bf16) (x3 : Vec Ideal S1024x1024 .f32) (y : S1024x1024.Idx) :
    out0_4 (F := Ideal) (up q) (up kv) x2 x3 y = up (arr (O q kv)) y := by
  unfold out0_4
  rw [g2]
  exact canon_all _ y

theorem core0_6 (y : S1024x1024.Idx) : out0_6 (F := Ideal) (up q) (up kv) (up wo) (up x) y = up (arr (X2 q kv wo x)) y := by
  unfold out0_6 k0_pay3
  rw [g2]
  canon_tiles u h
  all_goals
    idx_vars u
    idx_vars y
    rw [show y0 = u0 from Fin.ext h0, show y1 = u1 from Fin.ext h1]
    pointwise
    simp only [up, ← EReal.coe_mul, coe_sum, ← EReal.coe_add]
    rfl

theorem core0_5 (x2 : Vec Ideal S1024x1024 .bf16) (x3 : Vec Ideal S1024x1024 .f32) (y : S1024x4.Idx) :
    out0_5 (F := Ideal) (up q) (up kv) x2 x3 y = up (arr fun i h => lse (cut q h) (kh kv h) i) y := by
  unfold out0_5
  have e (h : Fin 4) (u : S1024x1.Idx) (h0 : (y 0).val = (u 0).val) (h1 : (y 1).val = h.val + (u 1).val) (v : FVec Ideal S1024x1 .f32)
      (hv : v = k0_pay9 (up (cut q h)) (up (kh kv h))) : v u = up (arr fun i h => lse (cut q h) (kh kv h) i) y := by
    rw [hv, f9]
    idx_vars u
    idx_vars y
    have e0 : y0 = u0 := Fin.ext h0
    have e1 : y1 = h := Fin.ext (h1.trans (by simp))
    subst e0 e1
    rfl
  canon_tiles u h
  · exact e 3 u h0 h1 _ (congrArg₂ k0_pay9 (ld_cut q 3 _ rfl _) (ld_kh kv 3 _ rfl _))
  · exact e 2 u h0 h1 _ (congrArg₂ k0_pay9 (ld_cut q 2 _ rfl _) (ld_kh kv 2 _ rfl _))
  · exact e 1 u h0 h1 _ (congrArg₂ k0_pay9 (ld_cut q 1 _ rfl _) (ld_kh kv 1 _ rfl _))
  · exact e 0 u h0 (h1.trans (Nat.zero_add _).symm) _ (congrArg₂ k0_pay9 (ld_cut q 0 _ rfl _) (ld_kh kv 0 _ rfl _))
-- ==== Proof.Canon.lean ====
/- What a list of stores leaves in a block. -/
module
public import proofs.«01_k».proof.Proof.Reals
public import Idealize.ShloMosaic.Lib.Pipeline.ReadBack
public import Idealize.ShloMosaic.Lib.Pipeline.ValueKit
@[expose] public section
noncomputable section

namespace Cert.Canon

open Idealize.ShloMosaic Idealize.ShloMosaic.TcCoe Idealize.SL.Sem

/-- Stores that cover an index leave there what they would over any earlier ones. -/
theorem canon_drop {S : Shape} {e : EltTy} (L L' : List (View.Piece (Elt Ideal) S e)) (y : S.Idx) (hc : ∃ p ∈ L, y ∈ p.1.set) :
    View.canon (L ++ L') y = View.canon L y := by
  induction L with
  | nil => exact absurd hc.choose_spec.1 List.not_mem_nil
  | cons p L ih =>
    by_cases hy : y ∈ p.1.set
    · obtain ⟨x, hx⟩ := p.1.exists_idx_of_mem hy
      have hx : p.1.emb x = y := hx
      rw [← hx]
      exact (View.canon_cons_emb p.1 p.2 (L ++ L') x).trans (View.canon_cons_emb p.1 p.2 L x).symm
    · rw [List.cons_append, View.canon_cons_of_not_mem p _ hy, View.canon_cons_of_not_mem p _ hy]
      refine ih ?_
      obtain ⟨r, hr, hm⟩ := hc
      rcases List.mem_cons.mp hr with rfl | hr
      · exact absurd hm hy
      · exact ⟨r, hr, hm⟩
-- ==== Proof.XattnBack.lean ====
/- The cross-attention's backward kernel, over blocks of real numbers: one head. -/
module
public import proofs.«01_k».proof.Proof.XattnValue
public import proofs.«01_k».proof.Proof.Canon
@[expose] public section
set_option maxRecDepth 16384
noncomputable section

namespace Cert.XattnIdeal.Hand

open Idealize.ShloMosaic Idealize.ShloMosaic.TcCoe Idealize.SL.Sem
open Cert.XattnIdeal Cert.XattnIdeal.Gen Cert.Reals Cert.Softmax Cert.XattnSpec Cert.Canon

section Head

variable (a g : S1024x256.Idx → ℝ) (b v : S256x256.Idx → ℝ) (acc : S256x256.Idx → ℝ)

/-- The scores less the logarithm of their row's sum. -/
theorem d32 : (k1_pay32 (up a) (up b) (up (arr fun i _ => lse a b i)) : FVec Ideal S1024x256 .f32) = up (arr fun i m => sc a b i m - lse a b i) := by
  funext u
  idx_vars u
  unfold k1_pay32
  pointwise
  simp only [up, ← EReal.coe_mul, coe_sum, ← EReal.coe_sub]
  rfl

/-- The probabilities. -/
theorem d1 : (k1_pay1 (up (arr fun i m => sc a b i m - lse a b i)) : FVec Ideal S1024x256 .f32) = up (arr (pr a b)) := by
  funext u
  idx_vars u
  unfold k1_pay1
  pointwise
  simp only [up, arr_ix, Ideal.exp_coe]
  exact congrArg Real.toEReal (exp_lse a b u0 u1)

/-- The scores' gradient. -/
theorem d2 : (k1_pay2 (up v) (up g) (up g) (up (arr fun i m => sc a b i m - lse a b i)) (up (arr (oo a b v))) : FVec Ideal S1024x256 .bf16) = up (arr (ds a g b v)) := by
  funext u
  idx_vars u
  unfold k1_pay2
  rw [d1]
  pointwise
  simp only [up, arr_ix, ← EReal.coe_mul, coe_sum, ← EReal.coe_sub]
  refine congrArg Real.toEReal ?_
  rw [delta]
  rfl

/-- The queries' gradient. -/
theorem d3 : (k1_pay3 (up b) (up v) (up g) (up g) (up (arr fun i m => sc a b i m - lse a b i)) (up (arr (oo a b v))) : FVec Ideal S1024x256 .bf16) = up (arr (dq a g b v)) := by
  funext u
  idx_vars u
  unfold k1_pay3
  rw [d2]
  pointwise
  rw [sixteenth32]
  simp only [up, arr_ix, ← EReal.coe_mul, coe_sum]
  rfl

/-- The keys' gradient, added to what was there. -/
theorem d4 : (k1_pay4 (up a) (up v) (up g) (up g) (up (arr fun i m => sc a b i m - lse a b i)) (up (arr (oo a b v))) (up acc) : FVec Ideal S256x256 .f32)
    = up (fun y => acc y + arr (dk a g b v) y) := by
  funext u
  idx_vars u
  unfold k1_pay4
  rw [d2]
  pointwise
  simp only [up, arr_ix, ← EReal.coe_mul, coe_sum, ← EReal.coe_add]
  rfl

/-- The values' gradient, added to what was there. -/
theorem d5 : (k1_pay5 (up g) (up (arr fun i m => sc a b i m - lse a b i)) (up acc) : FVec Ideal S256x256 .f32)
    = up (fun y => acc y + arr (dv a g b) y) := by
  funext u
  idx_vars u
  unfold k1_pay5
  rw [d1]
  pointwise
  simp only [up, arr_ix, ← EReal.coe_mul, coe_sum, ← EReal.coe_add]
  rfl

end Head

theorem d7 (x wo : S1024x1024.Idx → ℝ) : (k1_pay7 (up x) (up wo) : FVec Ideal S1024x1024 .f32) = up (arr (G wo x)) := by
  funext u
  idx_vars u
  unfold k1_pay7
  pointwise
  simp only [up, ← EReal.coe_mul, coe_sum]
  rfl

/-- A head's columns of a matrix. -/
theorem slice_cut (x : S1024x1024.Idx → ℝ) (h : Fin 4) (o : Nat) (ho : o = h.val * 256) (e) :
    (extractStridedSlice S1024x256 ![0, o] (up x : FVec Ideal S1024x1024 .f32) e : FVec Ideal S1024x256 .f32) = up (cut x h) := by
  funext u
  subst ho
  refine congrArg (up x) ?_
  idx_vars u
  funext k
  refine Fin.ext ?_
  fin_cases k
  · exact Nat.zero_add _
  · rfl

section Same

variable (x0 g7 : FVec Ideal S1024x1024 .f32) (x5 : FVec Ideal S1024x1024 .bf16) (g Q O : FVec Ideal S1024x256 .bf16)
  (B V : FVec Ideal S256x256 .bf16) (L : FVec Ideal S1024x1 .f32) (A : FVec Ideal S256x256 .f32)

theorem v0 : (k1_pay14 g (k1_pay10 Q B L) A : FVec Ideal S256x256 .f32) = k1_pay5 g (k1_pay32 Q B L) A := rfl
theorem v1 : (k1_pay21 g (k1_pay17 Q B L) A : FVec Ideal S256x256 .f32) = k1_pay5 g (k1_pay32 Q B L) A := rfl
theorem v2 : (k1_pay29 g (k1_pay24 Q B L) A : FVec Ideal S256x256 .f32) = k1_pay5 g (k1_pay32 Q B L) A := rfl

theorem k0 : (k1_pay13 Q (k1_pay11 x0 x5 Q B V L O) A : FVec Ideal S256x256 .f32) = k1_pay4 Q V (k1_pay8 x0 x5) (k1_pay9 x0 x5) (k1_pay32 Q B L) O A := rfl
theorem k1 : (k1_pay20 Q (k1_pay18 g7 Q B V L O) A : FVec Ideal S256x256 .f32) = k1_pay4 Q V (k1_pay15 g7) (k1_pay16 g7) (k1_pay32 Q B L) O A := rfl
theorem k2 : (k1_pay28 Q V (k1_pay23 g7) (k1_pay24 Q B L) (k1_pay25 g7 O) A : FVec Ideal S256x256 .f32) = k1_pay4 Q V (k1_pay22 g7) (k1_pay23 g7) (k1_pay32 Q B L) O A := rfl

theorem q0 : (k1_pay12 x0 x5 Q B V L O : FVec Ideal S1024x256 .bf16) = k1_pay3 B V (k1_pay8 x0 x5) (k1_pay9 x0 x5) (k1_pay32 Q B L) O := rfl
theorem q1 : (k1_pay19 B (k1_pay18 g7 Q B V L O) : FVec Ideal S1024x256 .bf16) = k1_pay3 B V (k1_pay15 g7) (k1_pay16 g7) (k1_pay32 Q B L) O := rfl
theorem q2 : (k1_pay27 B V (k1_pay23 g7) (k1_pay24 Q B L) (k1_pay25 g7 O) : FVec Ideal S1024x256 .bf16) = k1_pay3 B V (k1_pay22 g7) (k1_pay23 g7) (k1_pay32 Q B L) O := rfl

end Same

section Pieces

variable (dx q wo : S1024x1024.Idx → ℝ) (kv : S256x2048.Idx → ℝ) (acc : S256x2048.Idx → ℝ)

/-- A head's columns of the outputs. -/
theorem cut_O (h : Fin 4) : cut (arr (O q kv)) h = arr (oo (cut q h) (kh kv h) (vh kv h)) :=
  funext fun u => O_at q kv h (u 1) (u 0) (col h (u 1)) rfl

/-- The rows' logarithms of their sums. -/
def ls (i : Fin 1024) (h : Fin 4) : ℝ := lse (cut q h) (kh kv h) i

/-- The head's gradient of the outputs, as it is and rounded. -/
theorem g0 : (k1_pay8 (up dx) (up wo) : FVec Ideal S1024x256 .f32) = up (cut (arr (G wo dx)) 0) := by
  unfold k1_pay8
  rw [d7]
  exact slice_cut _ 0 _ rfl _

theorem g1 : (k1_pay15 (up (arr (G wo dx))) : FVec Ideal S1024x256 .f32) = up (cut (arr (G wo dx)) 1) := slice_cut _ 1 256 rfl slices_S1024x1024_o0_256_S1024x256

theorem g2' : (k1_pay22 (up (arr (G wo dx))) : FVec Ideal S1024x256 .f32) = up (cut (arr (G wo dx)) 2) := slice_cut _ 2 512 rfl slices_S1024x1024_o0_512_S1024x256

theorem g3 : (k1_pay30 (up (arr (G wo dx))) : FVec Ideal S1024x256 .f32) = up (cut (arr (G wo dx)) 3) := slice_cut _ 3 768 rfl slices_S1024x1024_o0_768_S1024x256

theorem b0 : (k1_pay9 (up dx) (up wo) : FVec Ideal S1024x256 .bf16) = up (cut (arr (G wo dx)) 0) := g0 dx wo

theorem b1 : (k1_pay16 (up (arr (G wo dx))) : FVec Ideal S1024x256 .bf16) = up (cut (arr (G wo dx)) 1) := g1 dx wo

theorem b2 : (k1_pay23 (up (arr (G wo dx))) : FVec Ideal S1024x256 .bf16) = up (cut (arr (G wo dx)) 2) := g2' dx wo

theorem b3 : (k1_pay31 (up (arr (G wo dx))) : FVec Ideal S1024x256 .bf16) = up (cut (arr (G wo dx)) 3) := g3 dx wo

variable (h : Fin 4) {gf : FVec Ideal S1024x256 .f32} {gb Q Ob : FVec Ideal S1024x256 .bf16} {B V : FVec Ideal S256x256 .bf16}
  {L : FVec Ideal S1024x1 .f32} {A : FVec Ideal S256x256 .f32} {α : S256x256.Idx → ℝ}
  (hgf : gf = up (cut (arr (G wo dx)) h)) (hgb : gb = up (cut (arr (G wo dx)) h)) (hQ : Q = up (cut q h)) (hB : B = up (kh kv h)) (hV : V = up (vh kv h))
  (hL : L = up (arr fun i _ => ls q kv i h)) (hO : Ob = up (cut (arr (O q kv)) h)) (hA : A = up α)

include hgf hgb hQ hB hV hL hO in
theorem piece_q : (k1_pay3 B V gf gb (k1_pay32 Q B L) Ob : FVec Ideal S1024x256 .bf16)
    = up (arr (dq (cut q h) (cut (arr (G wo dx)) h) (kh kv h) (vh kv h))) := by
  subst hgf hgb hQ hB hV hL hO
  unfold ls
  rw [cut_O, d32, d3]

include hgf hgb hQ hB hV hL hO hA in
theorem piece_k : (k1_pay4 Q V gf gb (k1_pay32 Q B L) Ob A : FVec Ideal S256x256 .f32)
    = up (fun y => α y + arr (dk (cut q h) (cut (arr (G wo dx)) h) (kh kv h) (vh kv h)) y) := by
  subst hgf hgb hQ hB hV hL hO hA
  unfold ls
  rw [cut_O, d32, d4]

include hgb hQ hB hL hA in
theorem piece_v : (k1_pay5 gb (k1_pay32 Q B L) A : FVec Ideal S256x256 .f32)
    = up (fun y => α y + arr (dv (cut q h) (cut (arr (G wo dx)) h) (kh kv h)) y) := by
  subst hgb hQ hB hL hA
  unfold ls
  rw [d32, d5]

end Pieces

section At

variable (dx q wo : S1024x1024.Idx → ℝ) (kv : S256x2048.Idx → ℝ) (acc : S256x2048.Idx → ℝ)

theorem col_eq (h : Fin 4) (d : Fin 256) (j : Fin 1024) (e : j.val = h.val * 256 + d.val) : hd j = h ∧ ln j = d :=
  ⟨Fin.ext (by simp only [hd]; omega), Fin.ext (by simp only [ln]; omega)⟩

theorem DQ_at (h : Fin 4) (u : S1024x256.Idx) (y : S1024x1024.Idx) (h0 : (y 0).val = (u 0).val) (h1 : (y 1).val = h.val * 256 + (u 1).val) :
    arr (DQ q kv wo dx) y = arr (dq (cut q h) (cut (arr (G wo dx)) h) (kh kv h) (vh kv h)) u := by
  idx_vars u
  idx_vars y
  obtain ⟨e1, e2⟩ := col_eq h u1 y1 h1
  have e0 : y0 = u0 := Fin.ext h0
  rw [arr_ix, arr_ix]
  unfold DQ
  rw [e0, e1, e2]

theorem DK_at (h : Fin 4) (u : S256x256.Idx) (y : S256x2048.Idx) (h0 : (y 0).val = (u 0).val) (h1 : (y 1).val = h.val * 256 + (u 1).val) :
    arr (DKV q kv wo dx) y = arr (dk (cut q h) (cut (arr (G wo dx)) h) (kh kv h) (vh kv h)) u := by
  idx_vars u
  idx_vars y
  change y1.val = h.val * 256 + u1.val at h1
  have hlt : y1.val < 1024 := by omega
  obtain ⟨e1, e2⟩ := col_eq h u1 ⟨y1.val, hlt⟩ h1
  have e0 : y0 = u0 := Fin.ext h0
  rw [arr_ix, arr_ix]
  unfold DKV
  rw [dif_pos hlt]
  unfold DK
  rw [e0, e1, e2]

theorem DV_at (h : Fin 4) (u : S256x256.Idx) (y : S256x2048.Idx) (h0 : (y 0).val = (u 0).val) (h1 : (y 1).val = 1024 + h.val * 256 + (u 1).val) :
    arr (DKV q kv wo dx) y = arr (dv (cut q h) (cut (arr (G wo dx)) h) (kh kv h)) u := by
  idx_vars u
  idx_vars y
  change y1.val = 1024 + h.val * 256 + u1.val at h1
  have hlt : ¬ y1.val < 1024 := by omega
  obtain ⟨e1, e2⟩ := col_eq h u1 ⟨y1.val - 1024, by omega⟩ (by show y1.val - 1024 = _; omega)
  have e0 : y0 = u0 := Fin.ext h0
  rw [arr_ix, arr_ix]
  unfold DKV
  rw [dif_neg hlt]
  unfold DV
  rw [e0, e1, e2]

/-- What was there before, in a tile at column `o`. -/
def part (o : Nat) (i : ∀ k, (![0, o] : Fin 2 → Nat) k + S256x256.size k ≤ S256x2048.size k) (u : S256x256.Idx) : ℝ :=
  acc ((Rect.unit (s := S256x2048) ![0, o] S256x256.size i).emb u)

theorem ld_part (o : Nat) (i : ∀ k, (![0, o] : Fin 2 → Nat) k + S256x256.size k ≤ S256x2048.size k) :
    @Eq (S256x256.Idx → EReal) (View.ld (Val := Elt Ideal) (e' := .f32) (up acc) (Rect.unit (s := S256x2048) ![0, o] S256x256.size i)) (up (part acc o i)) := rfl

theorem part_at (o : Nat) (i : ∀ k, (![0, o] : Fin 2 → Nat) k + S256x256.size k ≤ S256x2048.size k) (u : S256x256.Idx) (y : S256x2048.Idx)
    (h0 : (y 0).val = (u 0).val) (h1 : (y 1).val = o + (u 1).val) : part acc o i u = acc y := by
  refine congrArg acc ?_
  idx_vars u
  idx_vars y
  rw [show y0 = u0 from Fin.ext h0, show y1 = ⟨o + u1.val, by have := h1; have := y1.isLt; change y1.val = _ at h1; omega⟩ from Fin.ext h1]
  funext k
  refine Fin.ext ?_
  fin_cases k
  · show 0 + 1 * u0.val = u0.val
    omega
  · show o + 1 * u1.val = o + u1.val
    omega

/-- The keys' and values' gradients are added to what was there. -/
theorem DK_put (h : Fin 4) (o : Nat) (ho : o = h.val * 256) (i) (u : S256x256.Idx) (y : S256x2048.Idx)
    (h0 : (y 0).val = (u 0).val) (h1 : (y 1).val = o + (u 1).val) {P : FVec Ideal S256x256 .f32}
    (hP : P = up (fun y => part acc o i y + arr (dk (cut q h) (cut (arr (G wo dx)) h) (kh kv h) (vh kv h)) y)) :
    P u = up (fun y => acc y + arr (DKV q kv wo dx) y) y := by
  rw [hP]
  refine congrArg Real.toEReal ?_
  show _ + _ = _ + _
  rw [part_at acc o i u y h0 h1, DK_at dx q wo kv h u y h0 (ho ▸ h1)]

theorem DV_put (h : Fin 4) (o : Nat) (ho : o = 1024 + h.val * 256) (i) (u : S256x256.Idx) (y : S256x2048.Idx)
    (h0 : (y 0).val = (u 0).val) (h1 : (y 1).val = o + (u 1).val) {P : FVec Ideal S256x256 .f32}
    (hP : P = up (fun y => part acc o i y + arr (dv (cut q h) (cut (arr (G wo dx)) h) (kh kv h)) y)) :
    P u = up (fun y => acc y + arr (DKV q kv wo dx) y) y := by
  rw [hP]
  refine congrArg Real.toEReal ?_
  show _ + _ = _ + _
  rw [part_at acc o i u y h0 h1, DV_at dx q wo kv h u y h0 (ho ▸ h1)]

end At

section Outs

variable (c : Dev nD) (i : grid1.Coords) (arg1 : Memref sig .tc .vmem S1024x1024 .f32) (harg1 : arg1.IsWhole) (arg2 : Memref sig .tc .vmem S1024x1024 .bf16) (harg2 : arg2.IsWhole)
  (arg3 : Memref sig .tc .vmem S1024x1024 .bf16) (harg3 : arg3.IsWhole) (arg4 : Memref sig .tc .vmem S1024x4 .f32) (harg4 : arg4.IsWhole)
  (arg5 : Memref sig .tc .vmem S256x2048 .bf16) (harg5 : arg5.IsWhole) (arg6 : Memref sig .tc .vmem S1024x1024 .bf16) (harg6 : arg6.IsWhole)
  (arg7 : Memref sig .tc .vmem S1024x1024 .bf16) (harg7 : arg7.IsWhole) (arg8 : Memref sig .tc .vmem S256x2048 .f32) (harg8 : arg8.IsWhole)
  (dx q wo : S1024x1024.Idx → ℝ) (kv : S256x2048.Idx → ℝ) (acc : S256x2048.Idx → ℝ)

theorem out_B_6 (hc0 : ¬cond1_0 i) (xo7 : Vec Ideal S256x2048 .f32) (y : S1024x1024.Idx) :
    out1_B_6 (F := Ideal) c i arg1 harg1 arg2 harg2 arg3 harg3 arg4 harg4 arg5 harg5 arg6 harg6 arg7 harg7 arg8 harg8 hc0 (up dx) (up q) (up (arr (O q kv))) (up (arr (ls q kv))) (up kv) (up wo) xo7 y = up (arr (DQ q kv wo dx)) y := by
  frame_out
  rw [d7]
  canon_tiles u h
  · exact (congrFun (piece_q dx q wo kv 3 (g3 dx wo) (b3 dx wo) (ld_cut _ 3 _ rfl _) (ld_kh _ 3 _ rfl _) (ld_vh _ 3 _ rfl _) (ld_lse _ 3 _ rfl _) (ld_cut _ 3 _ rfl _)) u).trans (congrArg Real.toEReal (DQ_at dx q wo kv 3 u y h0 h1).symm)
  · exact (congrFun ((q2 _ _ _ _ _ _ ).trans (piece_q dx q wo kv 2 (g2' dx wo) (b2 dx wo) (ld_cut _ 2 _ rfl _) (ld_kh _ 2 _ rfl _) (ld_vh _ 2 _ rfl _) (ld_lse _ 2 _ rfl _) (ld_cut _ 2 _ rfl _))) u).trans (congrArg Real.toEReal (DQ_at dx q wo kv 2 u y h0 h1).symm)
  · exact (congrFun ((q1 _ _ _ _ _ _ ).trans (piece_q dx q wo kv 1 (g1 dx wo) (b1 dx wo) (ld_cut _ 1 _ rfl _) (ld_kh _ 1 _ rfl _) (ld_vh _ 1 _ rfl _) (ld_lse _ 1 _ rfl _) (ld_cut _ 1 _ rfl _))) u).trans (congrArg Real.toEReal (DQ_at dx q wo kv 1 u y h0 h1).symm)
  · exact (congrFun ((q0 _ _ _ _ _ _ _ ).trans (piece_q dx q wo kv 0 (g0 dx wo) (b0 dx wo) (ld_cut _ 0 _ rfl _) (ld_kh _ 0 _ rfl _) (ld_vh _ 0 _ rfl _) (ld_lse _ 0 _ rfl _) (ld_cut _ 0 _ rfl _))) u).trans (congrArg Real.toEReal (DQ_at dx q wo kv 0 u y h0 (h1.trans (Nat.zero_add _).symm)).symm)

theorem out_A_6 (hc0 : cond1_0 i) (y : S1024x1024.Idx) :
    out1_A_6 (F := Ideal) c i arg1 harg1 arg2 harg2 arg3 harg3 arg4 harg4 arg5 harg5 arg6 harg6 arg7 harg7 arg8 harg8 hc0 (up dx) (up q) (up (arr (O q kv))) (up (arr (ls q kv))) (up kv) (up wo) y = up (arr (DQ q kv wo dx)) y := by
  frame_out
  rw [d7]
  canon_tiles u h
  · exact (congrFun (piece_q dx q wo kv 3 (g3 dx wo) (b3 dx wo) (ld_cut _ 3 _ rfl _) (ld_kh _ 3 _ rfl _) (ld_vh _ 3 _ rfl _) (ld_lse _ 3 _ rfl _) (ld_cut _ 3 _ rfl _)) u).trans (congrArg Real.toEReal (DQ_at dx q wo kv 3 u y h0 h1).symm)
  · exact (congrFun ((q2 _ _ _ _ _ _ ).trans (piece_q dx q wo kv 2 (g2' dx wo) (b2 dx wo) (ld_cut _ 2 _ rfl _) (ld_kh _ 2 _ rfl _) (ld_vh _ 2 _ rfl _) (ld_lse _ 2 _ rfl _) (ld_cut _ 2 _ rfl _))) u).trans (congrArg Real.toEReal (DQ_at dx q wo kv 2 u y h0 h1).symm)
  · exact (congrFun ((q1 _ _ _ _ _ _ ).trans (piece_q dx q wo kv 1 (g1 dx wo) (b1 dx wo) (ld_cut _ 1 _ rfl _) (ld_kh _ 1 _ rfl _) (ld_vh _ 1 _ rfl _) (ld_lse _ 1 _ rfl _) (ld_cut _ 1 _ rfl _))) u).trans (congrArg Real.toEReal (DQ_at dx q wo kv 1 u y h0 h1).symm)
  · exact (congrFun ((q0 _ _ _ _ _ _ _ ).trans (piece_q dx q wo kv 0 (g0 dx wo) (b0 dx wo) (ld_cut _ 0 _ rfl _) (ld_kh _ 0 _ rfl _) (ld_vh _ 0 _ rfl _) (ld_lse _ 0 _ rfl _) (ld_cut _ 0 _ rfl _))) u).trans (congrArg Real.toEReal (DQ_at dx q wo kv 0 u y h0 (h1.trans (Nat.zero_add _).symm)).symm)

theorem out_B_7 (hc0 : ¬cond1_0 i) (y : S256x2048.Idx) :
    out1_B_7 (F := Ideal) c i arg1 harg1 arg2 harg2 arg3 harg3 arg4 harg4 arg5 harg5 arg6 harg6 arg7 harg7 arg8 harg8 hc0 (up dx) (up q) (up (arr (O q kv))) (up (arr (ls q kv))) (up kv) (up wo) (up acc) y = up (fun y => acc y + arr (DKV q kv wo dx) y) y := by
  frame_out
  rw [d7]
  canon_tiles u h
  · exact DV_put dx q wo kv acc 3 1792 rfl _ u y h0 h1 (piece_v dx q wo kv 3 (b3 dx wo) (ld_cut _ 3 _ rfl _) (ld_kh _ 3 _ rfl _) (ld_lse _ 3 _ rfl _) (ld_part acc 1792 _))
  · exact DK_put dx q wo kv acc 3 768 rfl _ u y h0 h1 (piece_k dx q wo kv 3 (g3 dx wo) (b3 dx wo) (ld_cut _ 3 _ rfl _) (ld_kh _ 3 _ rfl _) (ld_vh _ 3 _ rfl _) (ld_lse _ 3 _ rfl _) (ld_cut _ 3 _ rfl _) (ld_part acc 768 _))
  · exact DV_put dx q wo kv acc 2 1536 rfl _ u y h0 h1 ((v2 _ _ _ _ _ ).trans (piece_v dx q wo kv 2 (b2 dx wo) (ld_cut _ 2 _ rfl _) (ld_kh _ 2 _ rfl _) (ld_lse _ 2 _ rfl _) (ld_part acc 1536 _)))
  · exact DK_put dx q wo kv acc 2 512 rfl _ u y h0 h1 ((k2 _ _ _ _ _ _ _ ).trans (piece_k dx q wo kv 2 (g2' dx wo) (b2 dx wo) (ld_cut _ 2 _ rfl _) (ld_kh _ 2 _ rfl _) (ld_vh _ 2 _ rfl _) (ld_lse _ 2 _ rfl _) (ld_cut _ 2 _ rfl _) (ld_part acc 512 _)))
  · exact DV_put dx q wo kv acc 1 1280 rfl _ u y h0 h1 ((v1 _ _ _ _ _ ).trans (piece_v dx q wo kv 1 (b1 dx wo) (ld_cut _ 1 _ rfl _) (ld_kh _ 1 _ rfl _) (ld_lse _ 1 _ rfl _) (ld_part acc 1280 _)))
  · exact DK_put dx q wo kv acc 1 256 rfl _ u y h0 h1 ((k1 _ _ _ _ _ _ _ ).trans (piece_k dx q wo kv 1 (g1 dx wo) (b1 dx wo) (ld_cut _ 1 _ rfl _) (ld_kh _ 1 _ rfl _) (ld_vh _ 1 _ rfl _) (ld_lse _ 1 _ rfl _) (ld_cut _ 1 _ rfl _) (ld_part acc 256 _)))
  · exact DV_put dx q wo kv acc 0 1024 rfl _ u y h0 h1 ((v0 _ _ _ _ _ ).trans (piece_v dx q wo kv 0 (b0 dx wo) (ld_cut _ 0 _ rfl _) (ld_kh _ 0 _ rfl _) (ld_lse _ 0 _ rfl _) (ld_part acc 1024 _)))
  · exact DK_put dx q wo kv acc 0 0 rfl _ u y h0 (h1.trans (Nat.zero_add _).symm) ((k0 _ _ _ _ _ _ _ _ ).trans (piece_k dx q wo kv 0 (g0 dx wo) (b0 dx wo) (ld_cut _ 0 _ rfl _) (ld_kh _ 0 _ rfl _) (ld_vh _ 0 _ rfl _) (ld_lse _ 0 _ rfl _) (ld_cut _ 0 _ rfl _) (ld_part acc 0 _)))

theorem fill : (k1_pay6 : FVec Ideal S256x2048 .f32) = up fun _ => 0 := by
  funext u
  unfold k1_pay6
  exact zero32

theorem out_A_7 (hc0 : cond1_0 i) (y : S256x2048.Idx) :
    out1_A_7 (F := Ideal) c i arg1 harg1 arg2 harg2 arg3 harg3 arg4 harg4 arg5 harg5 arg6 harg6 arg7 harg7 arg8 harg8 hc0 (up dx) (up q) (up (arr (O q kv))) (up (arr (ls q kv))) (up kv) (up wo) y = up (fun y => (fun _ => 0 : S256x2048.Idx → ℝ) y + arr (DKV q kv wo dx) y) y := by
  frame_out
  simp (decide := true) only [↓View.readCov_skip, ↓View.readCov_fill]
  rw [d7, fill]
  refine (canon_drop [_, _, _, _, _, _, _, _] [_] y (View.cover_of_tiled_head _ _ _ (by rfl) y)).trans ?_
  canon_tiles u h
  · exact DV_put dx q wo kv (fun _ => 0) 3 1792 rfl _ u y h0 h1 (piece_v dx q wo kv 3 (b3 dx wo) (ld_cut _ 3 _ rfl _) (ld_kh _ 3 _ rfl _) (ld_lse _ 3 _ rfl _) (ld_part (fun _ => 0) 1792 _))
  · exact DK_put dx q wo kv (fun _ => 0) 3 768 rfl _ u y h0 h1 (piece_k dx q wo kv 3 (g3 dx wo) (b3 dx wo) (ld_cut _ 3 _ rfl _) (ld_kh _ 3 _ rfl _) (ld_vh _ 3 _ rfl _) (ld_lse _ 3 _ rfl _) (ld_cut _ 3 _ rfl _) (ld_part (fun _ => 0) 768 _))
  · exact DV_put dx q wo kv (fun _ => 0) 2 1536 rfl _ u y h0 h1 ((v2 _ _ _ _ _ ).trans (piece_v dx q wo kv 2 (b2 dx wo) (ld_cut _ 2 _ rfl _) (ld_kh _ 2 _ rfl _) (ld_lse _ 2 _ rfl _) (ld_part (fun _ => 0) 1536 _)))
  · exact DK_put dx q wo kv (fun _ => 0) 2 512 rfl _ u y h0 h1 ((k2 _ _ _ _ _ _ _ ).trans (piece_k dx q wo kv 2 (g2' dx wo) (b2 dx wo) (ld_cut _ 2 _ rfl _) (ld_kh _ 2 _ rfl _) (ld_vh _ 2 _ rfl _) (ld_lse _ 2 _ rfl _) (ld_cut _ 2 _ rfl _) (ld_part (fun _ => 0) 512 _)))
  · exact DV_put dx q wo kv (fun _ => 0) 1 1280 rfl _ u y h0 h1 ((v1 _ _ _ _ _ ).trans (piece_v dx q wo kv 1 (b1 dx wo) (ld_cut _ 1 _ rfl _) (ld_kh _ 1 _ rfl _) (ld_lse _ 1 _ rfl _) (ld_part (fun _ => 0) 1280 _)))
  · exact DK_put dx q wo kv (fun _ => 0) 1 256 rfl _ u y h0 h1 ((k1 _ _ _ _ _ _ _ ).trans (piece_k dx q wo kv 1 (g1 dx wo) (b1 dx wo) (ld_cut _ 1 _ rfl _) (ld_kh _ 1 _ rfl _) (ld_vh _ 1 _ rfl _) (ld_lse _ 1 _ rfl _) (ld_cut _ 1 _ rfl _) (ld_part (fun _ => 0) 256 _)))
  · exact DV_put dx q wo kv (fun _ => 0) 0 1024 rfl _ u y h0 h1 ((v0 _ _ _ _ _ ).trans (piece_v dx q wo kv 0 (b0 dx wo) (ld_cut _ 0 _ rfl _) (ld_kh _ 0 _ rfl _) (ld_lse _ 0 _ rfl _) (ld_part (fun _ => 0) 1024 _)))
  · exact DK_put dx q wo kv (fun _ => 0) 0 0 rfl _ u y h0 (h1.trans (Nat.zero_add _).symm) ((k0 _ _ _ _ _ _ _ _ ).trans (piece_k dx q wo kv 0 (g0 dx wo) (b0 dx wo) (ld_cut _ 0 _ rfl _) (ld_kh _ 0 _ rfl _) (ld_vh _ 0 _ rfl _) (ld_lse _ 0 _ rfl _) (ld_cut _ 0 _ rfl _) (ld_part (fun _ => 0) 0 _)))
-- ==== Proof.XattnFinal.lean ====
/- What the cross-attention's two kernels leave in their result arrays. -/
module
public import proofs.«01_k».proof.Proof.XattnBack
@[expose] public section
set_option maxRecDepth 16384
noncomputable section

namespace Cert.XattnIdeal.Hand

open Idealize.ShloMosaic Idealize.ShloMosaic.TcCoe Idealize.SL.Sem
open Idealize.ShloMosaic.Pipeline (Dat)
open Cert.XattnIdeal Cert.XattnIdeal.Gen Cert.Reals Cert.Softmax Cert.XattnSpec

theorem sum_rows (f : Fin 8192 → ℝ) : ∑ t : Fin 8, ∑ i : Fin 1024, f (row t i) = ∑ k : Fin 8192, f k := by
  rw [← Fintype.sum_prod_type' fun t i => f (row t i)]
  refine Fintype.sum_equiv (finProdFinEquiv (m := 8) (n := 1024)) _ (fun k : Fin (8 * 1024) => f k) fun p => congrArg f (Fin.ext ?_)
  show p.1.val * 1024 + p.2.val = p.2.val + 1024 * p.1.val
  omega

section Sums

variable (q dx : S8192x1024.Idx → ℝ) (kv : S256x2048.Idx → ℝ) (wo : S1024x1024.Idx → ℝ)

theorem sum_DKV (y : S256x2048.Idx) : ∑ t : Fin 8, arr (DKV (rows q t) kv wo (rows dx t)) y = arr (DKV q kv wo dx) y := by
  idx_vars y
  simp only [arr_ix]
  unfold DKV
  by_cases h : y1.val < 1024
  · simp only [dif_pos h]
    exact sum_rows fun k => ds (cut q (hd ⟨y1.val, h⟩)) (cut (arr (G wo dx)) (hd ⟨y1.val, h⟩)) (kh kv (hd ⟨y1.val, h⟩)) (vh kv (hd ⟨y1.val, h⟩)) k y0 * cut q (hd ⟨y1.val, h⟩) (ix2 k (ln ⟨y1.val, h⟩))
  · simp only [dif_neg h]
    exact sum_rows fun k => pr (cut q (hd ⟨y1.val - 1024, by omega⟩)) (kh kv (hd ⟨y1.val - 1024, by omega⟩)) k y0 * cut (arr (G wo dx)) (hd ⟨y1.val - 1024, by omega⟩) (ix2 k (ln ⟨y1.val - 1024, by omega⟩))

/-- The keys' and values' gradient of the blocks of rows up to the `n`-th. -/
def upto (n : Nat) (y : S256x2048.Idx) : ℝ :=
  ∑ s ∈ Finset.range (n + 1), if h : s < 8 then arr (DKV (rows q ⟨s, h⟩) kv wo (rows dx ⟨s, h⟩)) y else 0

theorem upto_zero (t : Fin 8) (h : t.val = 0) (y : S256x2048.Idx) : upto q dx kv wo t.val y = 0 + arr (DKV (rows q t) kv wo (rows dx t)) y := by
  obtain rfl : t = 0 := Fin.ext h
  simp [upto]

theorem upto_succ (t : Fin 8) (h : t.val ≠ 0) (y : S256x2048.Idx) :
    upto q dx kv wo t.val y = upto q dx kv wo (t.val - 1) y + arr (DKV (rows q t) kv wo (rows dx t)) y := by
  unfold upto
  rw [show t.val - 1 + 1 = t.val by omega, Finset.sum_range_succ, dif_pos t.isLt]

theorem upto_last (y : S256x2048.Idx) : upto q dx kv wo 7 y = arr (DKV q kv wo dx) y := by
  rw [← sum_DKV]
  unfold upto
  rw [Finset.sum_range]
  exact Finset.sum_congr rfl fun s _ => dif_pos s.isLt

end Sums

section Rows

variable (q x dx : S8192x1024.Idx → ℝ) (kv : S256x2048.Idx → ℝ) (wo : S1024x1024.Idx → ℝ) (t : Fin 8)

/-- The rows' logarithms of their sums, of the whole array. -/
def LS (i : Fin 8192) (h : Fin 4) : ℝ := lse (cut q h) (kh kv h) i

theorem O_rows : arr (O (rows q t) kv) = rows (arr (O q kv)) t := rfl

theorem X2_rows : arr (X2 (rows q t) kv wo (rows x t)) = rows (arr (X2 q kv wo x)) t := rfl

theorem DQ_rows : arr (DQ (rows q t) kv wo (rows dx t)) = rows (arr (DQ q kv wo dx)) t := rfl

end Rows

section Final

variable (V : (c : Dev nD) → (b : Ref sig .tc) → Buf (Elt Ideal) ((c : Thread nD τ).loc b)) (c : Dev nD)
  {q : S8192x1024.Idx → ℝ} {kv : S256x2048.Idx → ℝ} {wo : S1024x1024.Idx → ℝ} {x dx : S8192x1024.Idx → ℝ}

theorem final0_4 (hq : V c main_arg0 = up q) (hkv : V c main_arg1 = up kv) (hwo : V c main_v0 = up wo) (hx : V c main_arg3 = up x) :
    (dat0 V c).arrAt 4 cfg0.N = up (arr (O q kv)) := by
  refine (dat0 V c).arrAt_eq_of_covers 4 _ (by decide +kernel) fun t _ y => ?_
  blk_simp
  rw [after0_4, b0_0 t hq, b0_1 t hkv, b0_2 t hwo, b0_3 t hx, core0_4]
  rw [O_rows]
  refine congrArg (up (arr (O q kv))) (?_ : ix2 (row (t.cast N_0) (y 0)) (y 1) = _)
  have : (row (t.cast N_0) (y 0)).val = t.val * 1024 + (y 0).val := rfl
  blk_ext [idx0 t]

theorem final0_5 (hq : V c main_arg0 = up q) (hkv : V c main_arg1 = up kv) (hwo : V c main_v0 = up wo) (hx : V c main_arg3 = up x) :
    (dat0 V c).arrAt 5 cfg0.N = up (arr (LS q kv)) := by
  refine (dat0 V c).arrAt_eq_of_covers 5 _ (by decide +kernel) fun t _ y => ?_
  blk_simp
  rw [after0_5, b0_0 t hq, b0_1 t hkv, b0_2 t hwo, b0_3 t hx, core0_5]
  rw [show (arr fun i h => lse (cut (rows q (t.cast N_0)) h) (kh kv h) i) = rows (arr (LS q kv)) (t.cast N_0) from rfl]
  refine congrArg (up (arr (LS q kv))) (?_ : ix2 (row (t.cast N_0) (y 0)) (y 1) = _)
  have : (row (t.cast N_0) (y 0)).val = t.val * 1024 + (y 0).val := rfl
  blk_ext [idx0 t]

theorem final0_6 (hq : V c main_arg0 = up q) (hkv : V c main_arg1 = up kv) (hwo : V c main_v0 = up wo) (hx : V c main_arg3 = up x) :
    (dat0 V c).arrAt 6 cfg0.N = up (arr (X2 q kv wo x)) := by
  refine (dat0 V c).arrAt_eq_of_covers 6 _ (by decide +kernel) fun t _ y => ?_
  blk_simp
  rw [after0_6, b0_0 t hq, b0_1 t hkv, b0_2 t hwo, b0_3 t hx, core0_6]
  rw [X2_rows]
  refine congrArg (up (arr (X2 q kv wo x))) (?_ : ix2 (row (t.cast N_0) (y 0)) (y 1) = _)
  have : (row (t.cast N_0) (y 0)).val = t.val * 1024 + (y 0).val := rfl
  blk_ext [idx0 t]

section Backward

variable (hdx : V c main_arg4 = up dx) (hq : V c main_arg0 = up q) (ho : V c main_v1_0 = up (arr (O q kv))) (hl : V c main_v1_1 = up (arr (LS q kv)))
  (hkv : V c main_arg1 = up kv) (hwo : V c main_v0 = up wo)

include hdx hq ho hl hkv hwo

/-- What each point leaves in the queries' gradient. -/
theorem at1_6 (t : Fin cfg1.N) (y : S1024x1024.Idx) :
    (outsAt1 V c t.val t.isLt).1 y = up (arr (DQ (rows q (t.cast N_1)) kv wo (rows dx (t.cast N_1)))) y := by
  by_cases h : t.val % 8 = 0
  · rw [outsAt1_A V c t h]
    dsimp only
    rw [b1_0 t hdx, b1_1 t hq, b1_2 t ho, b1_3 t hl, b1_4 t hkv, b1_5 t hwo]
    exact out_A_6 c (grid1.coords t) _ _ _ _ _ _ _ _ _ _ _ _ _ _ _ _ (rows dx (t.cast N_1)) (rows q (t.cast N_1)) wo kv _ y
  · rw [outsAt1_B V c t h]
    dsimp only
    rw [b1_0 t hdx, b1_1 t hq, b1_2 t ho, b1_3 t hl, b1_4 t hkv, b1_5 t hwo]
    exact out_B_6 c (grid1.coords t) _ _ _ _ _ _ _ _ _ _ _ _ _ _ _ _ (rows dx (t.cast N_1)) (rows q (t.cast N_1)) wo kv _ _ y

/-- What each point leaves in the keys' and values' gradient: the sum so far. -/
theorem at1_7 (n : Nat) (hn : n < cfg1.N) : (outsAt1 V c n hn).2 = up (upto q dx kv wo n) := by
  have N : cfg1.N = 8 := N_1
  induction n with
  | zero =>
    funext y
    have e := outsAt1_A V c ⟨0, hn⟩ rfl
    rw [show outsAt1 V c 0 hn = _ from e]
    dsimp only
    rw [b1_0 ⟨0, hn⟩ hdx, b1_1 ⟨0, hn⟩ hq, b1_2 ⟨0, hn⟩ ho, b1_3 ⟨0, hn⟩ hl, b1_4 ⟨0, hn⟩ hkv, b1_5 ⟨0, hn⟩ hwo]
    exact (out_A_7 c (grid1.coords ⟨0, hn⟩) _ _ _ _ _ _ _ _ _ _ _ _ _ _ _ _ (rows dx 0) (rows q 0) wo kv _ y).trans
      (congrArg Real.toEReal (upto_zero q dx kv wo 0 rfl y).symm)
  | succ n ih =>
    funext y
    have hb : ¬ (n + 1) % 8 = 0 := by omega
    have e := outsAt1_B V c ⟨n + 1, hn⟩ hb
    rw [show outsAt1 V c (n + 1) hn = _ from e]
    dsimp only
    rw [b1_0 ⟨n + 1, hn⟩ hdx, b1_1 ⟨n + 1, hn⟩ hq, b1_2 ⟨n + 1, hn⟩ ho, b1_3 ⟨n + 1, hn⟩ hl, b1_4 ⟨n + 1, hn⟩ hkv, b1_5 ⟨n + 1, hn⟩ hwo]
    rw [show (outsAt1 V c (n + 1 - 1) _).2 = _ from ih (by omega)]
    exact (out_B_7 c (grid1.coords ⟨n + 1, hn⟩) _ _ _ _ _ _ _ _ _ _ _ _ _ _ _ _ (rows dx ⟨n + 1, N ▸ hn⟩) (rows q ⟨n + 1, N ▸ hn⟩) wo kv _ _ y).trans
      (congrArg Real.toEReal (upto_succ q dx kv wo ⟨n + 1, N ▸ hn⟩ (by simp) y).symm)

theorem final1_6 : (dat1 V c).arrAt 6 cfg1.N = up (arr (DQ q kv wo dx)) := by
  refine (dat1 V c).arrAt_eq_of_covers 6 _ (by decide +kernel) fun t _ y => ?_
  blk_simp
  rw [after1_6, at1_6 V c hdx hq ho hl hkv hwo]
  rw [DQ_rows]
  refine congrArg (up (arr (DQ q kv wo dx))) (?_ : ix2 (row (t.cast N_1) (y 0)) (y 1) = _)
  have : (row (t.cast N_1) (y 0)).val = t.val * 1024 + (y 0).val := rfl
  blk_ext [idx1 t]

/-- The point after which the accumulated gradient is written out. -/
def last1 : Fin cfg1.N := ⟨7, by decide +kernel⟩

theorem final1_7 : (dat1 V c).arrAt 7 cfg1.N = up (arr (DKV q kv wo dx)) := by
  refine (dat1 V c).arrAt_eq_of_after_last 7 last1 (by decide +kernel) _ fun y => ?_
  blk_simp
  rw [after1_7, at1_7 V c hdx hq ho hl hkv hwo]
  exact congrArg Real.toEReal (upto_last q dx kv wo y)

end Backward

end Final

section Host

variable (m : (ℓ : Loc nD τ sig) → Buf (Elt Ideal) ℓ) (ρ : Dev nD → PrngReg) (c : Dev nD)

theorem v1_wo (wo : S1024x1024.Idx → ℝ) (h : m ((c : Thread nD τ).loc main_arg2) = up wo) : V1 m ρ c main_v0 = up wo := by
  have e : @Eq (FVec Ideal S1024x1024 .bf16) (V1 m ρ c main_v0) (truncf (F := Ideal) (s := S1024x1024) .bf16 (m ((c : Thread nD τ).loc main_arg2)) bitsLt_bf16_f32) := by
    unfold_abbrev_sides
    after_results <;> rfl
  rw [e, h]
  rfl

/-- The result arrays at the end, where the arguments hold real numbers. -/
theorem results {q : S8192x1024.Idx → ℝ} {kv : S256x2048.Idx → ℝ} {wo : S1024x1024.Idx → ℝ} {x dx : S8192x1024.Idx → ℝ}
    (h0 : m ((c : Thread nD τ).loc main_arg0) = up q) (h1 : m ((c : Thread nD τ).loc main_arg1) = up kv) (h2 : m ((c : Thread nD τ).loc main_arg2) = up wo)
    (h3 : m ((c : Thread nD τ).loc main_arg3) = up x) (h4 : m ((c : Thread nD τ).loc main_arg4) = up dx) :
    V3 m ρ c main_v1_0 = up (arr (O q kv)) ∧ V3 m ρ c main_v1_2 = up (arr (X2 q kv wo x))
      ∧ V3 m ρ c main_v2_0 = up (arr (DQ q kv wo dx)) ∧ V3 m ρ c main_v2_1 = up (arr (DKV q kv wo dx)) := by
  have a (r : Ref sig .tc) (hr : r ∈ argRefs) : V1 m ρ c r = m ((c : Thread nD τ).loc r) := W1_args m ρ c r hr
  have b (r : Ref sig .tc) (hr : r ∈ argRefs) : V2 m ρ c r = m ((c : Thread nD τ).loc r) := W2_args m ρ c r hr
  have wo1 := v1_wo m ρ c wo h2
  have wo2 : V2 m ρ c main_v0 = up wo := (W2_of m ρ c main_v0 (by decide)).trans wo1
  have q1 := (a main_arg0 (by decide)).trans h0
  have kv1 := (a main_arg1 (by decide)).trans h1
  have x1 := (a main_arg3 (by decide)).trans h3
  have q2 := (b main_arg0 (by decide)).trans h0
  have kv2 := (b main_arg1 (by decide)).trans h1
  have dx2 := (b main_arg4 (by decide)).trans h4
  have o2 : V2 m ρ c main_v1_0 = up (arr (O q kv)) := (hF0 m ρ c 4).symm.trans (final0_4 (V1 m ρ) c q1 kv1 wo1 x1)
  have l2 : V2 m ρ c main_v1_1 = up (arr (LS q kv)) := (hF0 m ρ c 5).symm.trans (final0_5 (V1 m ρ) c q1 kv1 wo1 x1)
  have y2 : V2 m ρ c main_v1_2 = up (arr (X2 q kv wo x)) := (hF0 m ρ c 6).symm.trans (final0_6 (V1 m ρ) c q1 kv1 wo1 x1)
  exact ⟨(W3_of m ρ c main_v1_0 (by decide)).trans o2, (W3_of m ρ c main_v1_2 (by decide)).trans y2,
    (hF1 m ρ c 6).symm.trans (final1_6 (V2 m ρ) c dx2 q2 o2 l2 kv2 wo2), (hF1 m ρ c 7).symm.trans (final1_7 (V2 m ρ) c dx2 q2 o2 l2 kv2 wo2)⟩
-- ==== Proof.XattnRun.lean ====
/- The cross-attention's two kernels run one after the other: every array at the end. -/
module
public import proofs.«01_k».proof.Proof.XattnFinal
@[expose] public section
set_option maxRecDepth 16384
noncomputable section

namespace Cert.XattnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.XattnIdeal Cert.XattnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch, read at every array of the program: each ends at the contents after the second kernel. -/
theorem run : θ_run defs (onTc (τ := τ) (main (F := F))) ⟨m, fun _ => 0, ρ⟩ (fun r => ∀ c : Dev nD, ∀ b : Ref sig .tc,
    (Proc.devRef .tc b : DevRef τ sig) ∈ Pipeline.ucRefs τ sig → r.2.mem ((c : Thread nD τ).loc b) = V3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c b hb => h c _ hb)
-- ==== Proof.XattnClaim.lean ====
/- The claims about the cross-attention: its forward call and its gradient. -/
module
public import proofs.«01_k».proof.Defs
public import proofs.«01_k».proof.Proof.XattnRun
public import proofs.«01_k».proof.Proof.Gen.Pre_xattn_finite
public import Idealize.ShloMosaic.Lib.Claim
@[expose] public section
set_option maxRecDepth 16384
noncomputable section

namespace Cert.XattnClaim

open Idealize.ShloMosaic Idealize.ShloMosaic.TcCoe Idealize.SL.Sem Cert.Reals Cert.XattnSpec

/-- Every entry of the arrays is a real number where `xattn_finite` holds. -/
theorem finite {q : FVec Ideal Cert.XattnIdeal.S8192x1024 .bf16} {kv : FVec Ideal Cert.XattnIdeal.S256x2048 .bf16} {wo : FVec Ideal Cert.XattnIdeal.S1024x1024 .f32} {x : FVec Ideal Cert.XattnIdeal.S8192x1024 .f32} {dx : FVec Ideal Cert.XattnIdeal.S8192x1024 .f32} (h : Cert.Pre_xattn_finite.fn (F := Ideal) q kv wo x dx = fun _ => 1#1) :
    (∃ r : Cert.XattnIdeal.S8192x1024.Idx → ℝ, q = up r)
    ∧ (∃ r : Cert.XattnIdeal.S256x2048.Idx → ℝ, kv = up r)
    ∧ (∃ r : Cert.XattnIdeal.S1024x1024.Idx → ℝ, wo = up r)
    ∧ (∃ r : Cert.XattnIdeal.S8192x1024.Idx → ℝ, x = up r)
    ∧ (∃ r : Cert.XattnIdeal.S8192x1024.Idx → ℝ, dx = up r) := by
  have h' := congrFun h ix0
  obtain ⟨c3, e4⟩ := IntOp.andi_eq_one.1 h'
  obtain ⟨c2, e3⟩ := IntOp.andi_eq_one.1 c3
  obtain ⟨c1, e2⟩ := IntOp.andi_eq_one.1 c2
  obtain ⟨e0, e1⟩ := IntOp.andi_eq_one.1 c1
  have inf : ∀ (s : Shape) (b), ∀ i, (broadcastInDim s ![] b (constant (F := Ideal) Cert.Pre_xattn_finite.S_ .f32 0x7F800000#32)) i = (⊤ : EReal) :=
    fun s b i => inf_lit
  exact ⟨real_of_all _ _ (inf _ _) _ _ _ _ e0, real_of_all _ _ (inf _ _) _ _ _ _ e1, real_of_all _ _ (inf _ _) _ _ _ _ e2, real_of_all _ _ (inf _ _) _ _ _ _ e3, real_of_all _ _ (inf _ _) _ _ _ _ e4⟩

theorem congr2 {α₀ α₁ β : Type} (f : α₀ → α₁ → β) {a₀ b₀ : α₀} {a₁ b₁ : α₁} (h₀ : a₀ = b₀) (h₁ : a₁ = b₁) : f a₀ a₁ = f b₀ b₁ := by
  subst h₀ h₁; rfl

theorem congr4 {α₀ α₁ α₂ α₃ β : Type} (f : α₀ → α₁ → α₂ → α₃ → β) {a₀ b₀ : α₀} {a₁ b₁ : α₁} {a₂ b₂ : α₂} {a₃ b₃ : α₃}
    (h₀ : a₀ = b₀) (h₁ : a₁ = b₁) (h₂ : a₂ = b₂) (h₃ : a₃ = b₃) : f a₀ a₁ a₂ a₃ = f b₀ b₁ b₂ b₃ := by
  subst h₀ h₁ h₂ h₃; rfl

/-- The outputs, rounded. -/
def hOr (q : FVec Ideal Cert.XattnIdeal.S8192x1024 .bf16) (kv : FVec Ideal Cert.XattnIdeal.S256x2048 .bf16) : FVec Ideal Cert.XattnIdeal.S8192x1024 .bf16 :=
  truncf .bf16 (hO q kv) Cert.XattnRefIdeal.Gen.bitsLt_bf16_f32

theorem hOr_eq (q : Cert.XattnIdeal.S8192x1024.Idx → ℝ) (kv : Cert.XattnIdeal.S256x2048.Idx → ℝ) : hOr (up q) (up kv) = up (arr (O q kv)) :=
  hO_eq q kv

theorem algebraic : Cert.algebraic_XattnIdeal_XattnRefIdeal_pre_xattn_finite := fun m g m' g' hpre hag => by
  choose fq fkv fwo fx fdx using fun c => finite (hpre c)
  choose q hq using fq
  choose kv hkv using fkv
  choose wo hwo using fwo
  choose x hx using fx
  choose dx hdx using fdx
  refine ⟨fun c => up (arr (O (q c) (kv c))), fun c => up (arr (X2 (q c) (kv c) (wo c) (x c))), fun c => up (arr (DQ (q c) (kv c) (wo c) (dx c))), fun c => up (arr (DKV (q c) (kv c) (wo c) (dx c))), ?_, ?_⟩
  · refine (θ_run _ _ _).mono (fun r h c => ?_) (Cert.XattnIdeal.Hand.run m g)
    have R := Cert.XattnIdeal.Hand.results m g c (hq c) (hkv c) (hwo c) (hx c) (hdx c)
    have A (b : Ref Cert.XattnIdeal.sig .tc) (hb : b ∈ Cert.XattnIdeal.Gen.argRefs) := Cert.XattnIdeal.Gen.W3_args m g c b hb
    exact ⟨(h c Cert.XattnIdeal.main_v1_0 (Cert.XattnIdeal.Gen.mem_uc _ (by decide))).trans R.1,
      (h c Cert.XattnIdeal.main_v1_2 (Cert.XattnIdeal.Gen.mem_uc _ (by decide))).trans R.2.1,
      (h c Cert.XattnIdeal.main_v2_0 (Cert.XattnIdeal.Gen.mem_uc _ (by decide))).trans R.2.2.1,
      (h c Cert.XattnIdeal.main_v2_1 (Cert.XattnIdeal.Gen.mem_uc _ (by decide))).trans R.2.2.2,
      (h c Cert.XattnIdeal.main_arg0 (Cert.XattnIdeal.Gen.mem_uc _ (by decide))).trans (A Cert.XattnIdeal.main_arg0 (by decide)),
      (h c Cert.XattnIdeal.main_arg1 (Cert.XattnIdeal.Gen.mem_uc _ (by decide))).trans (A Cert.XattnIdeal.main_arg1 (by decide)),
      (h c Cert.XattnIdeal.main_arg2 (Cert.XattnIdeal.Gen.mem_uc _ (by decide))).trans (A Cert.XattnIdeal.main_arg2 (by decide)),
      (h c Cert.XattnIdeal.main_arg3 (Cert.XattnIdeal.Gen.mem_uc _ (by decide))).trans (A Cert.XattnIdeal.main_arg3 (by decide)),
      (h c Cert.XattnIdeal.main_arg4 (Cert.XattnIdeal.Gen.mem_uc _ (by decide))).trans (A Cert.XattnIdeal.main_arg4 (by decide))⟩
  · refine (θ_run _ _ _).mono (fun r h c => ?_) (Cert.XattnRefIdeal.Value.run m' g')
    obtain ⟨q0, q1, q2, q3, q4⟩ := hag c
    obtain ⟨r0, r1, r2, r3, hk⟩ := h c
    replace q0 := q0.trans (hq c)
    replace q1 := q1.trans (hkv c)
    replace q2 := q2.trans (hwo c)
    replace q3 := q3.trans (hx c)
    replace q4 := q4.trans (hdx c)
    exact ⟨r0.trans ((congr2 hOr q0 q1).trans (hOr_eq _ _)),
      r1.trans ((congr4 hX q0 q1 q2 q3).trans (hX_eq _ _ _ _)),
      r2.trans ((congr4 hDQ q0 q1 q2 q4).trans (hDQ_eq _ _ _ _)),
      r3.trans ((congr4 hDKV q0 q1 q2 q4).trans (hDKV_eq _ _ _ _)), hk⟩
-- ==== Proof.Norm.lean ====
/- The root-mean-square norm's gradient over real numbers, as a tile of rows computes it and as the host does. -/
module
public import proofs.«01_k».proof.Proof.Reals
@[expose] public section
set_option maxRecDepth 16384
noncomputable section

namespace Cert.Norm

open Idealize.ShloMosaic Cert.Reals

/-- The number added to a row's mean square. -/
def eps : ℝ := 8796093 / 2 ^ 43

theorem eps_pos : 0 < eps := by unfold eps; positivity

theorem eps32 : Ideal.ofBits .f32 0x358637BD#32 = (eps : EReal) := by
  simp [Ideal.ofBits, Ideal.ieee, eps]
  rw [← EReal.coe_mul]
  norm_num
theorem width32 : Ideal.ofBits .f32 0x44800000#32 = ((1024 : ℝ) : EReal) := by
  simp [Ideal.ofBits, Ideal.ieee]
  rw [← EReal.coe_mul]
  norm_num
theorem neghalf32 : Ideal.ofBits .f32 0xBF000000#32 = ((-(1 / 2) : ℝ) : EReal) := by
  simp [Ideal.ofBits, Ideal.ieee]
  rw [← EReal.coe_mul]
  norm_num

section Real

variable {R : Nat} (x : (⟨2, ![R, 1024]⟩ : Shape).Idx → ℝ) (g : (⟨2, ![1, 1024]⟩ : Shape).Idx → ℝ) (dh : (⟨2, ![R, 1024]⟩ : Shape).Idx → ℝ)

/-- A row's mean square. -/
def ms (r : Fin R) (_ : Fin 1) : ℝ := (∑ k : Fin 1024, x (ix2 r k) * x (ix2 r k)) / 1024

/-- The reciprocal root of a row's mean square. -/
def rs (r : Fin R) (_ : Fin 1) : ℝ := (Real.sqrt (ms x r 0 + eps))⁻¹

/-- A row over its root mean square. -/
def xh (r : Fin R) (k : Fin 1024) : ℝ := x (ix2 r k) * rs x r 0

/-- The gradient of the rows. -/
def dx (r : Fin R) (k : Fin 1024) : ℝ :=
  rs x r 0 * (dh (ix2 r k) * g (ix2 0 k) - xh x r k * ((∑ j : Fin 1024, dh (ix2 r j) * g (ix2 0 j) * xh x r j) / 1024))

/-- A row's term of the weights' gradient. -/
def dgr (r : Fin R) (k : Fin 1024) : ℝ := dh (ix2 r k) * xh x r k

theorem ms_pos (r : Fin R) : 0 < ms x r 0 + eps := by
  have : 0 ≤ ms x r 0 := div_nonneg (Finset.sum_nonneg fun k _ => mul_self_nonneg _) (by norm_num)
  have := eps_pos
  linarith

theorem rsqrt_ms (r : Fin R) : Ideal.rsqrt ((ms x r 0 + eps : ℝ) : EReal) = (rs x r 0 : EReal) := by
  have h := ms_pos x r
  rw [Ideal.rsqrt_coe, if_neg (not_lt.2 h.le), if_neg h.ne']
  rfl

end Real

theorem idx2 {a b : Nat} (u : (⟨2, ![a, b]⟩ : Shape).Idx) : ∃ i j, u = ix2 i j := ⟨u 0, u 1, by funext k; fin_cases k <;> rfl⟩

/-- A column of `R` numbers as an array of `R` rows. -/
theorem col_cast {α : Type} {R : Nat} (f : (⟨1, ![R]⟩ : Shape).Idx → α) (h : (⟨1, ![R]⟩ : Shape).ShapeCasts ⟨2, ![R, 1]⟩) (i : Fin R) (j : Fin 1) :
    shapeCast ⟨2, ![R, 1]⟩ f h (ix2 i j) = f (ix1 i) := by
  refine congrArg f (Shape.reshapeEquiv_eq_of_rowMajor h ?_)
  rw [Shape.rowMajor_val_two, Shape.rowMajor_val_one]
  show i.val = i.val * 1 + j.val
  omega

/-- A row of `n` numbers as an array of one row. -/
theorem row_cast {α : Type} {n : Nat} (f : (⟨1, ![n]⟩ : Shape).Idx → α) (h : (⟨1, ![n]⟩ : Shape).ShapeCasts ⟨2, ![1, n]⟩) (i : Fin 1) (j : Fin n) :
    shapeCast ⟨2, ![1, n]⟩ f h (ix2 i j) = f (ix1 j) := by
  refine congrArg f (Shape.reshapeEquiv_eq_of_rowMajor h ?_)
  rw [Shape.rowMajor_val_two, Shape.rowMajor_val_one]
  show j.val = i.val * n + j.val
  rw [Nat.lt_one_iff.1 i.isLt]
  omega

/-- A column repeated along its rows. -/
theorem col_bcast {α : Type} {R n : Nat} (f : (⟨2, ![R, 1]⟩ : Shape).Idx → α) (h : (⟨2, ![R, 1]⟩ : Shape).Broadcasts ⟨2, ![R, n]⟩) (i : Fin R) (j : Fin n) :
    broadcastTo ⟨2, ![R, n]⟩ f h (ix2 i j) = f (ix2 i 0) := by
  refine congrArg f ?_
  funext k
  refine Fin.ext ?_
  fin_cases k
  · show (Fin.val (if h1 : R = 1 then _ else _)) = i.val
    split_ifs with h1
    · subst h1
      exact (Nat.lt_one_iff.1 i.isLt).symm
    · rfl
  · rfl

/-- A product of arrays of real numbers. -/
theorem mul_up {s : Shape} (a b : s.Idx → ℝ) : mulf (F := Ideal) (φ := .f32) (up a) (up b) = up fun y => a y * b y := funext fun y => (EReal.coe_mul _ _).symm

theorem add_up {s : Shape} (a b : s.Idx → ℝ) : addf (F := Ideal) (φ := .f32) (up a) (up b) = up fun y => a y + b y := funext fun y => (EReal.coe_add _ _).symm

/-- The product with a transposed matrix. -/
def DH {R n : Nat} (a : (⟨2, ![R, n]⟩ : Shape).Idx → ℝ) (w : (⟨2, ![1024, n]⟩ : Shape).Idx → ℝ) (r : Fin R) (k : Fin 1024) : ℝ :=
  ∑ j : Fin n, a (ix2 r j) * w (ix2 k j)

/-- The columns of a matrix from column `o` on. -/
def cols {R n c : Nat} (a : (⟨2, ![R, n]⟩ : Shape).Idx → ℝ) (o : Nat) (h : o + c ≤ n) (u : (⟨2, ![R, c]⟩ : Shape).Idx) : ℝ :=
  a (ix2 (u 0) ⟨o + (u 1).val, by have : (u 1).val < c := (u 1).isLt; omega⟩)

theorem ld_cols {R n c : Nat} {e : EltTy} (a : (⟨2, ![R, n]⟩ : Shape).Idx → ℝ) (o : Nat) (h : o + c ≤ n) (i) :
    @Eq ((⟨2, ![R, c]⟩ : Shape).Idx → EReal) (View.ld (Val := fun _ => EReal) (e' := e) (up a) (Rect.unit (s := ⟨2, ![R, n]⟩) ![0, o] (⟨2, ![R, c]⟩ : Shape).size i))
      (up (cols a o h)) := by
  funext u
  refine congrArg (fun z => (a z : EReal)) ?_
  funext k
  refine Fin.ext ?_
  fin_cases k
  · show 0 + 1 * (u 0).val = (u 0).val
    omega
  · show o + 1 * (u 1).val = o + (u 1).val
    omega

/-- A matrix cut into shards of `c` columns. -/
def shards {n c : Nat} (w : (⟨2, ![1024, n]⟩ : Shape).Idx → ℝ) (h : 4 * c = n) (u : (⟨3, ![4, 1024, c]⟩ : Shape).Idx) : ℝ :=
  w (ix2 (u 1) ⟨(u 0).val * c + (u 2).val, by have h0 : (u 0).val < 4 := (u 0).isLt; have h2 : (u 2).val < c := (u 2).isLt; nlinarith⟩)

/-- A sum over four times as many terms. -/
theorem sum_four {c n : Nat} (e : n = c + c + c + c) (f : Fin n → ℝ) : ∑ j, f j = ∑ k : Fin c, f ⟨k, by omega⟩ + ∑ k : Fin c, f ⟨c + k, by omega⟩
    + ∑ k : Fin c, f ⟨c + c + k, by omega⟩ + ∑ k : Fin c, f ⟨c + c + c + k, by omega⟩ := by
  subst e
  rw [Fin.sum_univ_add, Fin.sum_univ_add, Fin.sum_univ_add]
  rfl

/-- One shard of a weight. -/
def shard {n c : Nat} (w : (⟨2, ![1024, n]⟩ : Shape).Idx → ℝ) (hn : 4 * c = n) (o : Nat) (h : o < 4) (u : (⟨3, ![1, 1024, c]⟩ : Shape).Idx) : ℝ :=
  shards w hn (ix3 ⟨o, h⟩ (u 1) (u 2))

theorem ld_shard {n c : Nat} {e : EltTy} (w : (⟨2, ![1024, n]⟩ : Shape).Idx → ℝ) (hn : 4 * c = n) (o : Nat) (h : o < 4) (i) :
    @Eq ((⟨3, ![1, 1024, c]⟩ : Shape).Idx → EReal) (View.ld (Val := fun _ => EReal) (e' := e) (up (shards w hn))
      (Rect.unit (s := ⟨3, ![4, 1024, c]⟩) ![o, 0, 0] (⟨3, ![1, 1024, c]⟩ : Shape).size i)) (up (shard w hn o h)) := by
  funext u
  refine congrArg (fun z => ((shards w hn z : ℝ) : EReal)) ?_
  funext k
  refine Fin.ext ?_
  have : (u 0).val < 1 := (u 0).isLt
  fin_cases k
  · show o + 1 * (u 0).val = o
    omega
  · show 0 + 1 * (u 1).val = (u 1).val
    omega
  · show 0 + 1 * (u 2).val = (u 2).val
    omega

/-- The product with the transposed matrix, shard by shard. -/
theorem DH_shards {R n c : Nat} (a : (⟨2, ![R, n]⟩ : Shape).Idx → ℝ) (w : (⟨2, ![1024, n]⟩ : Shape).Idx → ℝ) (e : n = c + c + c + c) (hn : 4 * c = n)
    (h0 : 0 + c ≤ n) (o1 o2 o3 : Nat) (h1 : o1 + c ≤ n) (h2 : o2 + c ≤ n) (h3 : o3 + c ≤ n) (e1 : o1 = c) (e2 : o2 = c + c) (e3 : o3 = c + c + c) (r : Fin R) (k : Fin 1024) :
    ∑ j : Fin c, cols a 0 h0 (ix2 r j) * shard w hn 0 (by omega) (ix3 0 k j) + ∑ j : Fin c, cols a o1 h1 (ix2 r j) * shard w hn 1 (by omega) (ix3 0 k j)
      + ∑ j : Fin c, cols a o2 h2 (ix2 r j) * shard w hn 2 (by omega) (ix3 0 k j) + ∑ j : Fin c, cols a o3 h3 (ix2 r j) * shard w hn 3 (by omega) (ix3 0 k j) = DH a w r k := by
  rw [DH, sum_four e]
  refine congrArg₂ (· + ·) (congrArg₂ (· + ·) (congrArg₂ (· + ·) ?_ ?_) ?_) ?_ <;> refine Finset.sum_congr rfl fun j _ => ?_
  all_goals refine congrArg₂ (· * ·) (congrArg a (congrArg (ix2 r) (Fin.ext ?_))) (congrArg w (congrArg (ix2 k) (Fin.ext ?_)))
  · exact Nat.zero_add _
  · exact (congrArg (· + j.val) (Nat.zero_mul c)).trans (Nat.zero_add _)
  · exact congrArg (· + j.val) e1
  · exact congrArg (· + j.val) (Nat.one_mul c)
  · exact congrArg (· + j.val) e2
  · exact congrArg (· + j.val) (Nat.two_mul c)
  · exact congrArg (· + j.val) e3
  · exact congrArg (· + j.val) (by ring : 3 * c = c + c + c)

/-- Columns `o` on of shard `k` of a weight. -/
def piece {n c e : Nat} (w : (⟨2, ![1024, n]⟩ : Shape).Idx → ℝ) (hn : 4 * c = n) (k : Nat) (hk : k < 4) (o : Nat) (ho : o + e ≤ c) (u : (⟨3, ![1, 1024, e]⟩ : Shape).Idx) : ℝ :=
  shards w hn (ix3 ⟨k, hk⟩ (u 1) ⟨o + (u 2).val, by have : (u 2).val < e := (u 2).isLt; omega⟩)

theorem ld_piece {n c e : Nat} {φ : EltTy} (w : (⟨2, ![1024, n]⟩ : Shape).Idx → ℝ) (hn : 4 * c = n) (k : Nat) (hk : k < 4) (o : Nat) (ho : o + e ≤ c) (i) :
    @Eq ((⟨3, ![1, 1024, e]⟩ : Shape).Idx → EReal) (View.ld (Val := fun _ => EReal) (e' := φ) (up (shards w hn))
      (Rect.unit (s := ⟨3, ![4, 1024, c]⟩) ![k, 0, o] (⟨3, ![1, 1024, e]⟩ : Shape).size i)) (up (piece w hn k hk o ho)) := by
  funext u
  refine congrArg (fun z => ((shards w hn z : ℝ) : EReal)) ?_
  funext j
  refine Fin.ext ?_
  have : (u 0).val < 1 := (u 0).isLt
  fin_cases j
  · show k + 1 * (u 0).val = k
    omega
  · show 0 + 1 * (u 1).val = (u 1).val
    omega
  · show o + 1 * (u 2).val = o + (u 2).val
    omega

/-- A sum in six parts. -/
theorem sum_six {n a b c d e f : Nat} (h : n = a + b + c + d + e + f) (g : Fin n → ℝ) : ∑ j, g j = ∑ k : Fin a, g ⟨k, by omega⟩ + ∑ k : Fin b, g ⟨a + k, by omega⟩
    + ∑ k : Fin c, g ⟨a + b + k, by omega⟩ + ∑ k : Fin d, g ⟨a + b + c + k, by omega⟩ + ∑ k : Fin e, g ⟨a + b + c + d + k, by omega⟩
    + ∑ k : Fin f, g ⟨a + b + c + d + e + k, by omega⟩ := by
  subst h
  rw [Fin.sum_univ_add, Fin.sum_univ_add, Fin.sum_univ_add, Fin.sum_univ_add, Fin.sum_univ_add]
  rfl

/-- Three matrices side by side. -/
def cat {R a b c n : Nat} (h : n = a + b + c) (p : (⟨2, ![R, a]⟩ : Shape).Idx → ℝ) (q : (⟨2, ![R, b]⟩ : Shape).Idx → ℝ) (r : (⟨2, ![R, c]⟩ : Shape).Idx → ℝ)
    (u : (⟨2, ![R, n]⟩ : Shape).Idx) : ℝ :=
  if h1 : (u 1).val < a then p (ix2 (u 0) ⟨(u 1).val, h1⟩)
  else if h2 : (u 1).val - a < b then q (ix2 (u 0) ⟨(u 1).val - a, h2⟩)
  else r (ix2 (u 0) ⟨(u 1).val - a - b, by have : (u 1).val < n := (u 1).isLt; omega⟩)

section Cat

variable {R a b c n : Nat} (h : n = a + b + c) (p : (⟨2, ![R, a]⟩ : Shape).Idx → ℝ) (q : (⟨2, ![R, b]⟩ : Shape).Idx → ℝ) (r : (⟨2, ![R, c]⟩ : Shape).Idx → ℝ)

theorem cat_1 (i : Fin R) (j : Fin n) (k : Fin a) (e : j.val = k.val) : cat h p q r (ix2 i j) = p (ix2 i k) := by
  refine (dif_pos (show j.val < a by omega)).trans ?_
  exact congrArg p (congrArg (ix2 i) (Fin.ext e))

theorem cat_2 (i : Fin R) (j : Fin n) (k : Fin b) (e : j.val = a + k.val) : cat h p q r (ix2 i j) = q (ix2 i k) := by
  refine (dif_neg (show ¬ j.val < a by omega)).trans ((dif_pos (show j.val - a < b by omega)).trans ?_)
  exact congrArg q (congrArg (ix2 i) (Fin.ext (show j.val - a = k.val by omega)))

theorem cat_3 (i : Fin R) (j : Fin n) (k : Fin c) (e : j.val = a + b + k.val) : cat h p q r (ix2 i j) = r (ix2 i k) := by
  refine (dif_neg (show ¬ j.val < a by omega)).trans ((dif_neg (show ¬ j.val - a < b by omega)).trans ?_)
  exact congrArg r (congrArg (ix2 i) (Fin.ext (show j.val - a - b = k.val by omega)))

end Cat

/-- The array row at which row `i` of tile `t` sits. -/
def row {N n b : Nat} (h : N = n * b) (t : Fin n) (i : Fin b) : Fin N :=
  ⟨t.val * b + i.val, by have := t.isLt; have := i.isLt; subst h; nlinarith⟩

/-- Tile `t`'s rows. -/
def rows {N n b w : Nat} (h : N = n * b) (r : (⟨2, ![N, w]⟩ : Shape).Idx → ℝ) (t : Fin n) : (⟨2, ![b, w]⟩ : Shape).Idx → ℝ :=
  fun x => r (ix2 (row h t (x 0)) (x 1))

/-- The sum over the rows, tile by tile. -/
theorem sum_rows {N n b : Nat} (h : N = n * b) (f : Fin N → ℝ) : ∑ t : Fin n, ∑ i : Fin b, f (row h t i) = ∑ r, f r := by
  subst h
  rw [← Fintype.sum_prod_type']
  refine Fintype.sum_equiv finProdFinEquiv _ _ fun p => congrArg f (Fin.ext ?_)
  show p.1.val * b + p.2.val = p.2.val + b * p.1.val
  ring

/-- The sum of the tiles' terms up to tile `m`. -/
def upto {n : Nat} (f : Fin n → ℝ) (m : Nat) : ℝ := ∑ s ∈ Finset.range (m + 1), if h : s < n then f ⟨s, h⟩ else 0

theorem upto_zero {n : Nat} (f : Fin n → ℝ) (h : 0 < n) : upto f 0 = 0 + f ⟨0, h⟩ := by
  unfold upto
  rw [Finset.sum_range_one, dif_pos h, zero_add]

theorem upto_succ {n : Nat} (f : Fin n → ℝ) (m : Nat) (h : m + 1 < n) : upto f (m + 1) = upto f m + f ⟨m + 1, h⟩ := by
  unfold upto
  rw [Finset.sum_range_succ, dif_pos h]

theorem upto_last {n : Nat} (f : Fin n → ℝ) (m : Nat) (h : m + 1 = n) : upto f m = ∑ t, f t := by
  subst h
  unfold upto
  rw [Finset.sum_range]
  exact Finset.sum_congr rfl fun s _ => dif_pos s.isLt

section Tile

variable {R : Nat} (hr : (⟨2, ![R, 1024]⟩ : Shape).Reduces [1] ⟨1, ![R]⟩) (hc : (⟨1, ![R]⟩ : Shape).ShapeCasts ⟨2, ![R, 1]⟩)
  (hb : (⟨2, ![R, 1]⟩ : Shape).Broadcasts ⟨2, ![R, 1024]⟩) (hg : (⟨2, ![1, 1024]⟩ : Shape).Broadcasts ⟨2, ![R, 1024]⟩)
  (h0 : (⟨2, ![R, 1024]⟩ : Shape).Reduces [0] ⟨1, ![1024]⟩)

/-- A tile's row means. -/
def kmean (x : FVec Ideal ⟨2, ![R, 1024]⟩ .f32) : FVec Ideal ⟨2, ![R, 1]⟩ .f32 :=
  divf (shapeCast ⟨2, ![R, 1]⟩ (multiReduction .add [1] ⟨1, ![R]⟩ x 0x00000000#32 hr (.inl rfl) rfl) hc) (broadcast ⟨2, ![R, 1]⟩ (Scalar.ofBits .f32 0x44800000#32))

theorem kmean_eq (x : (⟨2, ![R, 1024]⟩ : Shape).Idx → ℝ) : kmean hr hc (up x) = up (arr fun i _ => (∑ k : Fin 1024, x (ix2 i k)) / 1024) := by
  funext u
  obtain ⟨i, j, rfl⟩ := idx2 u
  refine (congrArg (Ideal.div · _) (col_cast _ hc i j)).trans ?_
  pointwise
  rw [width32]
  simp only [up, arr_ix, coe_sum]
  exact div_coe _ (by norm_num)

/-- The reciprocal roots, from the means of the squares. -/
def krs (v : FVec Ideal ⟨2, ![R, 1]⟩ .f32) : FVec Ideal ⟨2, ![R, 1]⟩ .f32 :=
  rsqrt (addf v (broadcast ⟨2, ![R, 1]⟩ (Scalar.ofBits .f32 0x358637BD#32)))

theorem krs_eq (x : (⟨2, ![R, 1024]⟩ : Shape).Idx → ℝ) : krs (kmean hr hc (mulf (up x : FVec Ideal ⟨2, ![R, 1024]⟩ .f32) (up x))) = up (arr (rs x)) := by
  rw [mul_up, kmean_eq]
  funext u
  obtain ⟨i, j, rfl⟩ := idx2 u
  unfold krs
  pointwise
  rw [eps32, show j = 0 from Subsingleton.elim _ _]
  exact rsqrt_ms x i

/-- A tile over its rows' root mean squares. -/
def kxh (x : FVec Ideal ⟨2, ![R, 1024]⟩ .f32) (q : FVec Ideal ⟨2, ![R, 1]⟩ .f32) : FVec Ideal ⟨2, ![R, 1024]⟩ .f32 :=
  mulf x (broadcastTo ⟨2, ![R, 1024]⟩ q hb)

theorem kxh_eq (x : (⟨2, ![R, 1024]⟩ : Shape).Idx → ℝ) : kxh hb (up x) (up (arr (rs x))) = up (arr (xh x)) := by
  funext u
  obtain ⟨i, j, rfl⟩ := idx2 u
  exact (congrArg (_ * ·) (col_bcast _ hb i j)).trans (EReal.coe_mul _ _).symm

/-- The weighted cotangent. -/
def kdxh (dh : FVec Ideal ⟨2, ![R, 1024]⟩ .f32) (g : FVec Ideal ⟨2, ![1, 1024]⟩ .f32) : FVec Ideal ⟨2, ![R, 1024]⟩ .f32 :=
  mulf dh (broadcastTo ⟨2, ![R, 1024]⟩ g hg)

/-- The gradient of a tile's rows. -/
def kdx (dh : FVec Ideal ⟨2, ![R, 1024]⟩ .f32) (g : FVec Ideal ⟨2, ![1, 1024]⟩ .f32) (xh : FVec Ideal ⟨2, ![R, 1024]⟩ .f32)
    (q : FVec Ideal ⟨2, ![R, 1]⟩ .f32) : FVec Ideal ⟨2, ![R, 1024]⟩ .f32 :=
  mulf (broadcastTo ⟨2, ![R, 1024]⟩ q hb) (subf (kdxh hg dh g) (mulf xh (broadcastTo ⟨2, ![R, 1024]⟩ (kmean hr hc (mulf (kdxh hg dh g) xh)) hb)))

theorem kdx_eq (x : (⟨2, ![R, 1024]⟩ : Shape).Idx → ℝ) (g : (⟨2, ![1, 1024]⟩ : Shape).Idx → ℝ) (dh : (⟨2, ![R, 1024]⟩ : Shape).Idx → ℝ) :
    kdx hr hc hb hg (up dh) (up g) (up (arr (xh x))) (up (arr (rs x))) = up (arr (dx x g dh)) := by
  have e : kdxh hg (up dh) (up g) = up (arr fun i k => dh (ix2 i k) * g (ix2 0 k)) := by
    funext u
    obtain ⟨i, j, rfl⟩ := idx2 u
    unfold kdxh
    pointwise
    exact (EReal.coe_mul _ _).symm
  unfold kdx
  rw [e, mul_up, kmean_eq]
  funext u
  obtain ⟨i, j, rfl⟩ := idx2 u
  refine (congrArg₂ (· * ·) (col_bcast _ hb i j) (congrArg (_ - _ * ·) (col_bcast _ hb i j))).trans ?_
  simp only [up, arr_ix, ← EReal.coe_mul, ← EReal.coe_sub]
  rfl

/-- A tile's part of the weights' gradient. -/
def kdg (dh xh : FVec Ideal ⟨2, ![R, 1024]⟩ .f32) : FVec Ideal ⟨1, ![1024]⟩ .f32 :=
  multiReduction .add [0] ⟨1, ![1024]⟩ (mulf dh xh) 0x00000000#32 h0 (.inl rfl) rfl

theorem kdg_eq (x dh : (⟨2, ![R, 1024]⟩ : Shape).Idx → ℝ) (j : Fin 1024) :
    kdg h0 (up dh) (up (arr (xh x))) (ix1 j) = ((∑ i : Fin R, dgr x dh i j : ℝ) : EReal) := by
  unfold kdg
  pointwise
  simp only [up, arr_ix, ← EReal.coe_mul, coe_sum]
  rfl

end Tile

section Host

/-- A list of numbers, one for each row. -/
theorem list_bcast {α : Type} {R n : Nat} (f : (⟨1, ![R]⟩ : Shape).Idx → α) (h : (⟨1, ![R]⟩ : Shape).BroadcastsInDim ⟨2, ![R, n]⟩ ![0]) (i : Fin R) (j : Fin n) :
    broadcastInDim ⟨2, ![R, n]⟩ ![0] h f (ix2 i j) = f (ix1 i) := by
  refine congrArg f ?_
  funext k
  refine Fin.ext ?_
  fin_cases k
  show (Fin.val (if h1 : R = 1 then _ else _)) = i.val
  split_ifs with h1
  · subst h1
    exact (Nat.lt_one_iff.1 i.isLt).symm
  · rfl

/-- A column of numbers, one for each row. -/
theorem column_bcast {α : Type} {R n : Nat} (f : (⟨2, ![R, 1]⟩ : Shape).Idx → α) (h : (⟨2, ![R, 1]⟩ : Shape).BroadcastsInDim ⟨2, ![R, n]⟩ ![0, 1]) (i : Fin R) (j : Fin n) :
    broadcastInDim ⟨2, ![R, n]⟩ ![0, 1] h f (ix2 i j) = f (ix2 i 0) := by
  refine congrArg f ?_
  funext k
  refine Fin.ext ?_
  fin_cases k
  · show (Fin.val (if h1 : R = 1 then _ else _)) = i.val
    split_ifs with h1
    · subst h1
      exact (Nat.lt_one_iff.1 i.isLt).symm
    · rfl
  · rfl

variable {R : Nat} (hz : 0 < (⟨0, ![]⟩ : Shape).numel) (hr : (⟨2, ![R, 1024]⟩ : Shape).ReducesTo [1] ⟨1, ![R]⟩)
  (bc : (⟨1, ![R]⟩ : Shape).BroadcastsInDim ⟨2, ![R, 1]⟩ ![0]) (b0 : (⟨0, ![]⟩ : Shape).BroadcastsInDim ⟨2, ![R, 1]⟩ ![])
  (bx : (⟨2, ![R, 1]⟩ : Shape).BroadcastsInDim ⟨2, ![R, 1024]⟩ ![0, 1]) (bg : (⟨2, ![1, 1024]⟩ : Shape).BroadcastsInDim ⟨2, ![R, 1024]⟩ ![0, 1])
  (hc : (⟨1, ![R]⟩ : Shape).ShapeCasts ⟨2, ![R, 1]⟩) (h1 : (⟨2, ![R, 1]⟩ : Shape).ReducesTo [1] ⟨1, ![R]⟩)
  (bl : (⟨1, ![R]⟩ : Shape).BroadcastsInDim ⟨2, ![R, 1024]⟩ ![0]) (h0 : (⟨2, ![R, 1024]⟩ : Shape).ReducesTo [0] ⟨1, ![1024]⟩)
  (hn : (⟨1, ![1024]⟩ : Shape).ShapeCasts ⟨2, ![1, 1024]⟩)
  (x : (⟨2, ![R, 1024]⟩ : Shape).Idx → ℝ) (g : (⟨2, ![1, 1024]⟩ : Shape).Idx → ℝ) (dh d : (⟨2, ![R, 1024]⟩ : Shape).Idx → ℝ)

/-- The sum of each row. -/
def hsum (y : FVec Ideal ⟨2, ![R, 1024]⟩ .f32) : FVec Ideal ⟨1, ![R]⟩ .f32 := Host.reduceAdd y (constant ⟨0, ![]⟩ .f32 0x00000000#32) hr hz

theorem hsum_eq (y : (⟨2, ![R, 1024]⟩ : Shape).Idx → ℝ) (i : Fin R) : hsum hz hr (up y) (ix1 i) = ((∑ k : Fin 1024, y (ix2 i k) : ℝ) : EReal) := by
  unfold hsum
  pointwise
  simp only [up, coe_sum]

/-- The mean squares, with the number added to them. -/
def hv (x : FVec Ideal ⟨2, ![R, 1024]⟩ .f32) : FVec Ideal ⟨2, ![R, 1]⟩ .f32 :=
  addf (Host.divf (broadcastInDim ⟨2, ![R, 1]⟩ ![0] bc (hsum hz hr (mulf x x)))
    (broadcastInDim ⟨2, ![R, 1]⟩ ![] b0 (constant ⟨0, ![]⟩ .f32 0x44800000#32))) (broadcastInDim ⟨2, ![R, 1]⟩ ![] b0 (constant ⟨0, ![]⟩ .f32 0x358637BD#32))

theorem hv_eq : hv hz hr bc b0 (up x) = up (arr fun i _ => ms x i 0 + eps) := by
  funext u
  obtain ⟨i, j, rfl⟩ := idx2 u
  unfold hv
  rw [mul_up]
  refine (congrArg₂ (· + ·) (congrArg₂ Ideal.div ((list_bcast _ bc i j).trans (hsum_eq hz hr _ i)) width32) eps32).trans ?_
  rw [div_coe _ (by norm_num), ← EReal.coe_add]
  rfl

theorem hrs_eq : Host.rsqrt (hv hz hr bc b0 (up x)) = up (arr (rs x)) := by
  rw [hv_eq]
  funext u
  obtain ⟨i, j, rfl⟩ := idx2 u
  rw [show j = 0 from Subsingleton.elim _ _]
  exact rsqrt_ms x i

/-- The derivative of the reciprocal root. -/
def hq (q v : FVec Ideal ⟨2, ![R, 1]⟩ .f32) : FVec Ideal ⟨2, ![R, 1]⟩ .f32 :=
  mulf (broadcastInDim ⟨2, ![R, 1]⟩ ![] b0 (constant ⟨0, ![]⟩ .f32 0xBF000000#32)) (Host.divf q v)

theorem hq_eq : hq b0 (up (arr (rs x))) (up (arr fun i _ => ms x i 0 + eps)) = up (arr fun i _ => -(1 / 2) * (rs x i 0 / (ms x i 0 + eps))) := by
  funext u
  obtain ⟨i, j, rfl⟩ := idx2 u
  refine (congrArg₂ (· * ·) neghalf32 (div_coe (rs x i 0) (ms_pos x i).ne')).trans ?_
  rw [← EReal.coe_mul]
  rfl

/-- What the mean square's gradient adds to each entry, over the entry, halved. -/
def hs (p q : FVec Ideal ⟨2, ![R, 1]⟩ .f32) : FVec Ideal ⟨2, ![R, 1024]⟩ .f32 :=
  broadcastInDim ⟨2, ![R, 1024]⟩ ![0] bl (Host.reduceAdd (Host.divf (mulf p q)
    (broadcastInDim ⟨2, ![R, 1]⟩ ![] b0 (constant ⟨0, ![]⟩ .f32 0x44800000#32))) (constant ⟨0, ![]⟩ .f32 0x00000000#32) h1 hz)

theorem hs_eq (p q : (⟨2, ![R, 1]⟩ : Shape).Idx → ℝ) : hs hz b0 h1 bl (up p) (up q) = up (arr fun i _ => p (ix2 i 0) * q (ix2 i 0) / 1024) := by
  funext u
  obtain ⟨i, j, rfl⟩ := idx2 u
  unfold hs
  refine (list_bcast _ bl i j).trans ?_
  pointwise
  rw [Fin.sum_univ_one, width32]
  simp only [up, ← EReal.coe_mul]
  exact div_coe _ (by norm_num)

/-- The weighted cotangent. -/
def hdxh (dh : FVec Ideal ⟨2, ![R, 1024]⟩ .f32) (g : FVec Ideal ⟨2, ![1, 1024]⟩ .f32) : FVec Ideal ⟨2, ![R, 1024]⟩ .f32 :=
  mulf dh (broadcastInDim ⟨2, ![R, 1024]⟩ ![0, 1] bg g)

theorem hdxh_eq : hdxh bg (up dh) (up g) = up (arr fun i k => dh (ix2 i k) * g (ix2 0 k)) := by
  funext u
  obtain ⟨i, j, rfl⟩ := idx2 u
  unfold hdxh
  pointwise
  exact (EReal.coe_mul _ _).symm

/-- The part of the rows' gradient that goes by the mean square. -/
def hsq (x : FVec Ideal ⟨2, ![R, 1024]⟩ .f32) (y : FVec Ideal ⟨2, ![R, 1024]⟩ .f32) : FVec Ideal ⟨2, ![R, 1024]⟩ .f32 :=
  hs hz b0 h1 bl (shapeCast ⟨2, ![R, 1]⟩ (hsum hz hr (mulf x y)) hc) (hq b0 (Host.rsqrt (hv hz hr bc b0 x)) (hv hz hr bc b0 x))

/-- The sum over a row of its entries and their cotangents. -/
def dot (y : (⟨2, ![R, 1024]⟩ : Shape).Idx → ℝ) (i : Fin R) (_ : Fin 1) : ℝ := ∑ k : Fin 1024, x (ix2 i k) * y (ix2 i k)

theorem hsq_eq (y : (⟨2, ![R, 1024]⟩ : Shape).Idx → ℝ) : hsq hz hr bc b0 hc h1 bl (up x) (up y)
    = up (arr fun i _ => dot x y i 0 * (-(1 / 2) * (rs x i 0 / (ms x i 0 + eps))) / 1024) := by
  have e : shapeCast ⟨2, ![R, 1]⟩ (hsum hz hr (mulf (up x) (up y))) hc = up (arr (dot x y)) := by
    funext u
    obtain ⟨i, j, rfl⟩ := idx2 u
    rw [mul_up]
    exact (col_cast _ hc i j).trans (hsum_eq hz hr _ i)
  unfold hsq
  rw [e, hrs_eq, hv_eq, hq_eq, hs_eq]
  rfl

/-- The gradient of the rows by the norm's own lines. -/
theorem dx_ref (i : Fin R) (k : Fin 1024) :
    dh (ix2 i k) * g (ix2 0 k) * rs x i 0 + x (ix2 i k) * (dot x (arr fun i k => dh (ix2 i k) * g (ix2 0 k)) i 0 * (-(1 / 2) * (rs x i 0 / (ms x i 0 + eps))) / 1024)
      + dot x (arr fun i k => dh (ix2 i k) * g (ix2 0 k)) i 0 * (-(1 / 2) * (rs x i 0 / (ms x i 0 + eps))) / 1024 * x (ix2 i k) = dx x g dh i k := by
  have h := ms_pos x i
  have hq : rs x i 0 / (ms x i 0 + eps) = rs x i 0 * rs x i 0 * rs x i 0 := by
    have : rs x i 0 * rs x i 0 = 1 / (ms x i 0 + eps) := by
      unfold rs
      rw [← mul_inv, Real.mul_self_sqrt h.le, one_div]
    rw [this]
    ring
  have hd : (∑ j : Fin 1024, dh (ix2 i j) * g (ix2 0 j) * xh x i j) = rs x i 0 * dot x (arr fun i k => dh (ix2 i k) * g (ix2 0 k)) i 0 := by
    unfold dot xh
    rw [Finset.mul_sum]
    exact Finset.sum_congr rfl fun j _ => by rw [arr_ix]; ring
  unfold dx
  rw [hq, hd]
  unfold xh
  ring

/-- The gradient of the rows. -/
def hdx (x dh : FVec Ideal ⟨2, ![R, 1024]⟩ .f32) (g : FVec Ideal ⟨2, ![1, 1024]⟩ .f32) : FVec Ideal ⟨2, ![R, 1024]⟩ .f32 :=
  addf (addf (mulf (hdxh bg dh g) (broadcastInDim ⟨2, ![R, 1024]⟩ ![0, 1] bx (Host.rsqrt (hv hz hr bc b0 x))))
    (mulf x (hsq hz hr bc b0 hc h1 bl x (hdxh bg dh g)))) (mulf (hsq hz hr bc b0 hc h1 bl x (hdxh bg dh g)) x)

theorem hdx_eq : hdx hz hr bc b0 bx bg hc h1 bl (up x) (up dh) (up g) = up (arr (dx x g dh)) := by
  unfold hdx
  rw [hdxh_eq, hrs_eq, hsq_eq]
  funext u
  obtain ⟨i, j, rfl⟩ := idx2 u
  refine (congrArg₂ (· + ·) (congrArg₂ (· + ·) (congrArg (_ * ·) (column_bcast _ bx i j)) rfl) rfl).trans ?_
  simp only [up, mulf_apply, arr_ix, ← EReal.coe_mul]
  exact congrArg Real.toEReal (dx_ref x g dh i j)

/-- The gradient of the rows, added to what comes by the residual. -/
def hdx' (d x dh : FVec Ideal ⟨2, ![R, 1024]⟩ .f32) (g : FVec Ideal ⟨2, ![1, 1024]⟩ .f32) : FVec Ideal ⟨2, ![R, 1024]⟩ .f32 :=
  addf (addf (addf d (mulf (hdxh bg dh g) (broadcastInDim ⟨2, ![R, 1024]⟩ ![0, 1] bx (Host.rsqrt (hv hz hr bc b0 x)))))
    (mulf x (hsq hz hr bc b0 hc h1 bl x (hdxh bg dh g)))) (mulf (hsq hz hr bc b0 hc h1 bl x (hdxh bg dh g)) x)

theorem hdx'_eq : hdx' hz hr bc b0 bx bg hc h1 bl (up d) (up x) (up dh) (up g) = up (arr fun i k => dx x g dh i k + d (ix2 i k)) := by
  rw [show hdx' hz hr bc b0 bx bg hc h1 bl (up d) (up x) (up dh) (up g) = addf (hdx hz hr bc b0 bx bg hc h1 bl (up x) (up dh) (up g)) (up d) from ?_, hdx_eq]
  · funext u
    obtain ⟨i, j, rfl⟩ := idx2 u
    exact (EReal.coe_add _ _).symm
  · funext u
    unfold hdx' hdx
    show (_ + _) + _ + _ = (_ + _) + _ + _
    abel

/-- The weights' gradient. -/
def hdg (x dh : FVec Ideal ⟨2, ![R, 1024]⟩ .f32) : FVec Ideal ⟨2, ![1, 1024]⟩ .f32 :=
  shapeCast ⟨2, ![1, 1024]⟩ (Host.reduceAdd (mulf (mulf x (broadcastInDim ⟨2, ![R, 1024]⟩ ![0, 1] bx (Host.rsqrt (hv hz hr bc b0 x)))) dh)
    (constant ⟨0, ![]⟩ .f32 0x00000000#32) h0 hz) hn

theorem hdg_eq : hdg hz hr bc b0 bx h0 hn (up x) (up dh) = up (arr fun _ k => ∑ i, dgr x dh i k) := by
  unfold hdg
  rw [hrs_eq]
  rw [show mulf (F := Ideal) (φ := .f32) (up x) (broadcastInDim ⟨2, ![R, 1024]⟩ ![0, 1] bx (up (arr (rs x)))) = up (arr (xh x)) from ?_, mul_up]
  · funext u
    obtain ⟨i, j, rfl⟩ := idx2 u
    refine (row_cast _ hn i j).trans ?_
    pointwise
    simp only [up, coe_sum]
    refine congrArg Real.toEReal (Finset.sum_congr rfl fun i _ => ?_)
    exact mul_comm _ _
  · funext u
    obtain ⟨i, j, rfl⟩ := idx2 u
    exact (congrArg (_ * ·) (column_bcast _ bx i j)).trans (EReal.coe_mul _ _).symm
-- ==== Proof.LossSpec.lean ====
/- The feed-forward's last product, the last norm and the loss, with their gradient, over the real numbers. -/
module
public import proofs.«01_k».proof.Proof.Norm
@[expose] public section
noncomputable section

namespace Cert.LossSpec

open Idealize.ShloMosaic Cert.Reals Cert.Norm

variable {R : Nat} (gu : (⟨2, ![R, 5632]⟩ : Shape).Idx → ℝ) (w : (⟨2, ![2816, 1024]⟩ : Shape).Idx → ℝ) (x2 x t : (⟨2, ![R, 1024]⟩ : Shape).Idx → ℝ)
  (g : (⟨2, ![1, 1024]⟩ : Shape).Idx → ℝ)

/-- The activation: the gate through `silu`, times the other half of the columns. -/
def act (i : Fin R) (k : Fin 2816) : ℝ :=
  gu (ix2 i ⟨k.val, by omega⟩) * sig (gu (ix2 i ⟨k.val, by omega⟩)) * gu (ix2 i ⟨2816 + k.val, by omega⟩)

/-- The residual after the feed-forward. -/
def x3 (i : Fin R) (k : Fin 1024) : ℝ := x2 (ix2 i k) + ∑ j : Fin 2816, act gu i j * w (ix2 j k)

/-- The normed and weighted residual less the target. -/
def err (i : Fin R) (k : Fin 1024) : ℝ := xh x i k * g (ix2 0 k) - t (ix2 i k)

/-- The loss's gradient at the normed residual. -/
def cot (i : Fin R) (k : Fin 1024) : ℝ := err x t g i k * (1 / 1024)

/-- A row's part of the loss. -/
def part (i : Fin R) : ℝ := 1 / 2 * ((∑ k : Fin 1024, err x t g i k * err x t g i k) / 1024)
-- ==== Proof.LossValue.lean ====
/- What the kernel of the last product, the last norm and the loss leaves in its result arrays. -/
module
public import proofs.«01_k».proof.Proof.LossSpec
public import Idealize.ShloMosaic.Lib.Pipeline.ValueKit
public import proofs.«01_k».proof.Proof.Gen.LossIdeal.Value
@[expose] public section
set_option maxRecDepth 16384
noncomputable section

namespace Cert.LossIdeal.Hand

open Idealize.ShloMosaic Idealize.ShloMosaic.TcCoe Idealize.SL.Sem
open Idealize.ShloMosaic.Pipeline (Dat)
open Cert.LossIdeal Cert.LossIdeal.Gen Cert.Reals Cert.Norm Cert.LossSpec

section Body

variable (gu : S512x5632.Idx → ℝ) (w : S2816x1024.Idx → ℝ) (x2 x t : S512x1024.Idx → ℝ) (g : S1x1024.Idx → ℝ) (acc : S1x1024.Idx → ℝ) (lacc : S1x128.Idx → ℝ)

/-- The kernel's gate: half the argument, and the hyperbolic tangent of it. -/
theorem gate (a b : ℝ) : (a * (1 / 2) * b) * (Real.tanh (a * (1 / 2)) + 1) = a * Reals.sig a * b := by
  rw [← sig_tanh, mul_comm (1 / 2) a]
  ring

theorem acts {b0 b1 : Vec Ideal S512x2816 .bf16} (e0 : b0 = up (cols gu 0 (by omega))) (e1 : b1 = up (cols gu 2816 (by omega))) :
    (k0_pay7 b0 b1 : FVec Ideal S512x2816 .bf16) = up (arr (act gu)) := by
  subst e0 e1
  funext u
  obtain ⟨i, j, rfl⟩ := idx2 u
  have e : ∀ b b' : Vec Ideal S512x2816 .bf16, (k0_pay7 b b' : FVec Ideal S512x2816 .bf16) (ix2 i j)
      = (b (ix2 i j) * Ideal.ofBits .bf16 0x3F00#16 * b' (ix2 i j)) * (Ideal.tanh (b (ix2 i j) * Ideal.ofBits .bf16 0x3F00#16) + Ideal.ofBits .bf16 0x3F80#16) := fun _ _ => rfl
  rw [e, half16, one16]
  simp only [up, ← EReal.coe_mul, Ideal.tanh_coe, ← EReal.coe_add]
  refine congrArg Real.toEReal ((gate _ _).trans ?_)
  have z : ∀ h h', (⟨0 + j.val, h⟩ : Fin 5632) = ⟨j.val, h'⟩ := fun _ _ => Fin.ext (Nat.zero_add _)
  exact congrArg (fun k => gu (ix2 i k) * Reals.sig (gu (ix2 i k)) * gu (ix2 i ⟨2816 + j.val, by omega⟩)) (z (by omega) (by omega))

theorem product (a : S512x2816.Idx → ℝ) :
    (matmul (F := Ideal) (φ₁ := .bf16) (φ₂ := .bf16) dot_S512x2816_S2816x1024_S512x1024_1_0_0_1_n_n none (up a)
      (shapeCast (α := EReal) S2816x1024 (up w) shapeCasts_S2816x1024_S2816x1024) (constant S512x1024 .f32 0x00000000#32) : FVec Ideal S512x1024 .f32)
      = up (arr fun i k => ∑ j : Fin 2816, a (ix2 i j) * w (ix2 j k)) := by
  funext u
  idx_vars u
  pointwise
  simp only [up, ← EReal.coe_mul, coe_sum]
  rfl

section Pays

variable {b0 b1 : Vec Ideal S512x2816 .bf16} (e0 : b0 = up (cols gu 0 (by omega))) (e1 : b1 = up (cols gu 2816 (by omega)))

include e0 e1

theorem sums : (k0_pay9 b0 b1 (up x2) (up w) : FVec Ideal S512x1024 .f32) = up (arr (x3 gu w x2)) := by
  unfold k0_pay9
  dsimp only
  rw [acts gu e0 e1, product]
  refine (add_up _ _).trans (congrArg up (funext fun u => ?_))
  obtain ⟨i, j, rfl⟩ := idx2 u
  rfl

theorem roots : (k0_pay10 b0 b1 (up x2) (up w) : FVec Ideal S512x1 .f32) = up (arr (rs (arr (x3 gu w x2)))) := by
  rw [← krs_eq reduces_S512x1024_S512 shapeCasts_S512_S512x1, ← sums gu w x2 e0 e1]
  rfl

theorem hats : (k0_pay11 b0 b1 (up x2) (up w) : FVec Ideal S512x1024 .f32) = up (arr (xh (arr (x3 gu w x2)))) := by
  rw [← kxh_eq broadcasts_S512x1_S512x1024, ← roots gu w x2 e0 e1, ← sums gu w x2 e0 e1]
  rfl

theorem errs : (k0_pay12 b0 b1 (up g) (up x2) (up w) (up t) : FVec Ideal S512x1024 .f32) = up (arr (err (arr (x3 gu w x2)) t g)) := by
  unfold k0_pay12
  rw [hats gu w x2 e0 e1]
  funext u
  obtain ⟨i, j, rfl⟩ := idx2 u
  unfold k0_pay8
  pointwise
  simp only [up, arr_ix, ← EReal.coe_mul, ← EReal.coe_sub]
  rfl

end Pays

theorem small32 : Ideal.ofBits .f32 0x3A800000#32 = ((1 / 1024 : ℝ) : EReal) := by
  simp [Ideal.ofBits, Ideal.ieee]
  norm_num
  rw [← EReal.coe_mul]
  norm_num

theorem cots : (k0_pay2 (up (arr (err x t g))) : FVec Ideal S512x1024 .f32) = up (arr (cot x t g)) := by
  funext u
  obtain ⟨i, j, rfl⟩ := idx2 u
  unfold k0_pay2
  pointwise
  rw [small32]
  exact (EReal.coe_mul _ _).symm

/-- The residual's gradient. -/
theorem grads : (k0_pay3 (k0_pay8 (up g)) (up (arr (rs x))) (up (arr (xh x))) (up (arr (err x t g))) : FVec Ideal S512x1024 .f32)
    = up (arr (dx x g (arr (cot x t g)))) := by
  rw [← kdx_eq reduces_S512x1024_S512 shapeCasts_S512_S512x1 broadcasts_S512x1_S512x1024 broadcasts_S1x1024_S512x1024, ← cots]
  unfold k0_pay3 k0_pay8 kdx kdxh kmean
  dsimp only
  have e : shapeCast S1x1024 (up g : FVec Ideal S1x1024 .f32) shapeCasts_S1x1024_S1x1024 = up g := by
    funext u
    pointwise
  rw [e]

/-- The weights' gradient, added to what was there. -/
theorem gains : (k0_pay4 (up (arr (xh x))) (up (arr (err x t g))) (up acc) : FVec Ideal S1x1024 .f32)
    = up fun y => acc y + ∑ i, dgr x (arr (cot x t g)) i (y 1) := by
  funext u
  idx_vars u
  have e : (k0_pay4 (up (arr (xh x))) (up (arr (err x t g))) (up acc) : FVec Ideal S1x1024 .f32) (ix2 u0 u1)
      = acc (ix2 u0 u1) + kdg reduces_S512x1024_S1024 (k0_pay2 (up (arr (err x t g)))) (up (arr (xh x))) (ix1 u1) := by
    unfold k0_pay4 kdg
    generalize k0_pay2 (F := Ideal) (up (arr (err x t g))) = q
    pointwise
  rw [e, cots, kdg_eq, ← EReal.coe_add]
  rfl

/-- The tile's part of the loss, added to what was there. -/
theorem losses : (k0_pay1 (up (arr (err x t g))) (up lacc) : FVec Ideal S1x128 .f32) = up fun y => lacc y + ∑ i, part x t g i := by
  have e : (k0_pay1 (up (arr (err x t g))) (up lacc) : FVec Ideal S1x128 .f32)
      = fun y => (lacc y : EReal) + Ideal.ofBits .f32 0x3F000000#32 * ∑ i : Fin 512, kmean reduces_S512x1024_S512 shapeCasts_S512_S512x1 (mulf (up (arr (err x t g))) (up (arr (err x t g)))) (ix2 i 0) := by
    unfold k0_pay1 kmean
    funext u
    idx_vars u
    pointwise
    exact congrArg (_ + _ * ·) (Finset.sum_congr rfl fun i _ => Fin.sum_univ_one _)
  rw [e, mul_up, kmean_eq, half32]
  funext u
  simp only [up, arr_ix, coe_sum, ← EReal.coe_mul, ← EReal.coe_add, Finset.mul_sum]
  rfl

theorem fillL : (k0_pay5 : FVec Ideal S1x128 .f32) = up fun _ => 0 := by
  funext u
  unfold k0_pay5
  exact zero32

theorem fillG : (k0_pay6 : FVec Ideal S1x1024 .f32) = up fun _ => 0 := by
  funext u
  unfold k0_pay6
  exact zero32

variable (c : Dev nD) (i : grid0.Coords) (arg1 : Memref sig .tc .vmem S512x5632 .bf16) (harg1 : arg1.IsWhole) (arg2 : Memref sig .tc .vmem S2816x1024 .bf16) (harg2 : arg2.IsWhole)
  (arg3 : Memref sig .tc .vmem S512x1024 .f32) (harg3 : arg3.IsWhole) (arg4 : Memref sig .tc .vmem S1x1024 .f32) (harg4 : arg4.IsWhole)
  (arg5 : Memref sig .tc .vmem S512x1024 .f32) (harg5 : arg5.IsWhole) (arg6 : Memref sig .tc .vmem S512x2816 .bf16) (harg6 : arg6.IsWhole)
  (arg7 : Memref sig .tc .vmem S1x128 .f32) (harg7 : arg7.IsWhole) (arg8 : Memref sig .tc .vmem S512x1024 .f32) (harg8 : arg8.IsWhole)
  (arg9 : Memref sig .tc .vmem S1x1024 .f32) (harg9 : arg9.IsWhole)

theorem out_A_5 (hc0 : cond0_0 i) (y : S512x2816.Idx) : out0_A_5 (F := Ideal) c i arg1 harg1 arg2 harg2 arg3 harg3 arg4 harg4 arg5 harg5 arg6 harg6 arg7 harg7 arg8 harg8 arg9 harg9 hc0 (up gu) (up w) (up x2) (up g) (up t) y = up (arr (act gu)) y := by
  frame_out
  exact congrFun (acts gu (ld_cols (e := .bf16) gu 0 _ _) (ld_cols (e := .bf16) gu 2816 _ _)) y

theorem out_A_7 (hc0 : cond0_0 i) (y : S512x1024.Idx) : out0_A_7 (F := Ideal) c i arg1 harg1 arg2 harg2 arg3 harg3 arg4 harg4 arg5 harg5 arg6 harg6 arg7 harg7 arg8 harg8 arg9 harg9 hc0 (up gu) (up w) (up x2) (up g) (up t) y
    = up (arr (dx (arr (x3 gu w x2)) g (arr (cot (arr (x3 gu w x2)) t g)))) y := by
  frame_out
  rw [roots gu w x2 (ld_cols (e := .bf16) gu 0 _ _) (ld_cols (e := .bf16) gu 2816 _ _), hats gu w x2 (ld_cols (e := .bf16) gu 0 _ _) (ld_cols (e := .bf16) gu 2816 _ _), errs gu w x2 t g (ld_cols (e := .bf16) gu 0 _ _) (ld_cols (e := .bf16) gu 2816 _ _), grads]

theorem out_B_5 (hc0 : ¬cond0_0 i) (xl : Vec Ideal S1x128 .f32) (xo : Vec Ideal S1x1024 .f32) (y : S512x2816.Idx) : out0_B_5 (F := Ideal) c i arg1 harg1 arg2 harg2 arg3 harg3 arg4 harg4 arg5 harg5 arg6 harg6 arg7 harg7 arg8 harg8 arg9 harg9 hc0 (up gu) (up w) (up x2) (up g) (up t) xl xo y = up (arr (act gu)) y := by
  frame_out
  exact congrFun (acts gu (ld_cols (e := .bf16) gu 0 _ _) (ld_cols (e := .bf16) gu 2816 _ _)) y

theorem out_B_7 (hc0 : ¬cond0_0 i) (xl : Vec Ideal S1x128 .f32) (xo : Vec Ideal S1x1024 .f32) (y : S512x1024.Idx) : out0_B_7 (F := Ideal) c i arg1 harg1 arg2 harg2 arg3 harg3 arg4 harg4 arg5 harg5 arg6 harg6 arg7 harg7 arg8 harg8 arg9 harg9 hc0 (up gu) (up w) (up x2) (up g) (up t) xl xo y
    = up (arr (dx (arr (x3 gu w x2)) g (arr (cot (arr (x3 gu w x2)) t g)))) y := by
  frame_out
  rw [roots gu w x2 (ld_cols (e := .bf16) gu 0 _ _) (ld_cols (e := .bf16) gu 2816 _ _), hats gu w x2 (ld_cols (e := .bf16) gu 0 _ _) (ld_cols (e := .bf16) gu 2816 _ _), errs gu w x2 t g (ld_cols (e := .bf16) gu 0 _ _) (ld_cols (e := .bf16) gu 2816 _ _), grads]

theorem out_A_6 (hc0 : cond0_0 i) (y : S1x128.Idx) : out0_A_6 (F := Ideal) c i arg1 harg1 arg2 harg2 arg3 harg3 arg4 harg4 arg5 harg5 arg6 harg6 arg7 harg7 arg8 harg8 arg9 harg9 hc0 (up gu) (up w) (up x2) (up g) (up t) y = ((0 + ∑ i, part (arr (x3 gu w x2)) t g i : ℝ) : EReal) := by
  frame_out
  rw [fillL, errs gu w x2 t g (ld_cols (e := .bf16) gu 0 _ _) (ld_cols (e := .bf16) gu 2816 _ _), losses]

theorem out_B_6 (hc0 : ¬cond0_0 i) (xo : Vec Ideal S1x1024 .f32) (y : S1x128.Idx) : out0_B_6 (F := Ideal) c i arg1 harg1 arg2 harg2 arg3 harg3 arg4 harg4 arg5 harg5 arg6 harg6 arg7 harg7 arg8 harg8 arg9 harg9 hc0 (up gu) (up w) (up x2) (up g) (up t) (up lacc) xo y
    = ((lacc y + ∑ i, part (arr (x3 gu w x2)) t g i : ℝ) : EReal) := by
  frame_out
  rw [errs gu w x2 t g (ld_cols (e := .bf16) gu 0 _ _) (ld_cols (e := .bf16) gu 2816 _ _), losses]

theorem out_A_8 (hc0 : cond0_0 i) (y : S1x1024.Idx) : out0_A_8 (F := Ideal) c i arg1 harg1 arg2 harg2 arg3 harg3 arg4 harg4 arg5 harg5 arg6 harg6 arg7 harg7 arg8 harg8 arg9 harg9 hc0 (up gu) (up w) (up x2) (up g) (up t) y = ((0 + ∑ i, dgr (arr (x3 gu w x2)) (arr (cot (arr (x3 gu w x2)) t g)) i (y 1) : ℝ) : EReal) := by
  frame_out
  rw [fillG, hats gu w x2 (ld_cols (e := .bf16) gu 0 _ _) (ld_cols (e := .bf16) gu 2816 _ _), errs gu w x2 t g (ld_cols (e := .bf16) gu 0 _ _) (ld_cols (e := .bf16) gu 2816 _ _), gains]

theorem out_B_8 (hc0 : ¬cond0_0 i) (xl : Vec Ideal S1x128 .f32) (y : S1x1024.Idx) : out0_B_8 (F := Ideal) c i arg1 harg1 arg2 harg2 arg3 harg3 arg4 harg4 arg5 harg5 arg6 harg6 arg7 harg7 arg8 harg8 arg9 harg9 hc0 (up gu) (up w) (up x2) (up g) (up t) xl (up acc) y
    = ((acc y + ∑ i, dgr (arr (x3 gu w x2)) (arr (cot (arr (x3 gu w x2)) t g)) i (y 1) : ℝ) : EReal) := by
  frame_out
  rw [hats gu w x2 (ld_cols (e := .bf16) gu 0 _ _) (ld_cols (e := .bf16) gu 2816 _ _), errs gu w x2 t g (ld_cols (e := .bf16) gu 0 _ _) (ld_cols (e := .bf16) gu 2816 _ _), gains]

end Body

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] ∧ win0_7.index t = ![t.val, 0] ∧ win0_8.index t = ![0, 0] :=
  (by decide +kernel : ∀ t : Fin grid0.N, _)

theorem tiles : 8192 = cfg0.N * 512 := congrArg (· * 512) N_0.symm

variable {m : (ℓ : Loc nD τ sig) → Buf (Elt Ideal) ℓ} {c : Dev nD} {gu : S8192x5632.Idx → ℝ} {w : S2816x1024.Idx → ℝ} {x2 s : S8192x1024.Idx → ℝ} {g : S1024.Idx → ℝ}

/-- The weights as a matrix of one row. -/
abbrev one (g : S1024.Idx → ℝ) : S1x1024.Idx → ℝ := fun y => g (ix1 (y 1))

theorem block_gu (t : Fin cfg0.N) (h : m ((c : Thread nD τ).loc main_arg0) = up gu) : (iblk m c 0 t : FVec Ideal S512x5632 .bf16) = up (rows tiles gu t) := by
  funext y
  have e : iblk m c 0 t y = m ((c : Thread nD τ).loc main_arg0) (ix2 (row tiles t (y 0)) (y 1)) := by
    have : (row tiles t (y 0)).val = t.val * 512 + (y 0).val := rfl
    blk_ext [iblk, V, idx t]
  rw [e, h]; rfl

theorem block_w (t : Fin cfg0.N) (h : m ((c : Thread nD τ).loc main_arg1) = up w) : (iblk m c 1 t : FVec Ideal S2816x1024 .bf16) = up w := by
  funext x
  have e : iblk m c 1 t x = m ((c : Thread nD τ).loc main_arg1) x := by
    blk_simp [iblk, idx t]
    entry_read
    pointwise
    blk_ext [idx t]
  rw [e, h]

theorem block_x2 (t : Fin cfg0.N) (h : m ((c : Thread nD τ).loc main_arg2) = up x2) : (iblk m c 2 t : FVec Ideal S512x1024 .f32) = up (rows tiles x2 t) := by
  funext y
  have e : iblk m c 2 t y = m ((c : Thread nD τ).loc main_arg2) (ix2 (row tiles t (y 0)) (y 1)) := by
    have : (row tiles t (y 0)).val = t.val * 512 + (y 0).val := rfl
    blk_ext [iblk, V, idx t]
  rw [e, h]; rfl

theorem block_g (t : Fin cfg0.N) (h : m ((c : Thread nD τ).loc main_arg3) = up g) : (iblk m c 3 t : FVec Ideal S1x1024 .f32) = up (one g) := by
  funext x
  have e : iblk m c 3 t x = m ((c : Thread nD τ).loc main_arg3) (ix1 (x 1)) := by
    idx_vars x
    blk_simp [iblk, idx t]
    entry_read
    pointwise
    blk_ext [idx t]
  rw [e, h]

theorem block_t (t : Fin cfg0.N) (h : m ((c : Thread nD τ).loc main_arg4) = up s) : (iblk m c 4 t : FVec Ideal S512x1024 .f32) = up (rows tiles s t) := by
  funext y
  have e : iblk m c 4 t y = m ((c : Thread nD τ).loc main_arg4) (ix2 (row tiles t (y 0)) (y 1)) := by
    have : (row tiles t (y 0)).val = t.val * 512 + (y 0).val := rfl
    blk_ext [iblk, V, idx t]
  rw [e, h]; rfl

variable (h0 : m ((c : Thread nD τ).loc main_arg0) = up gu) (h1 : m ((c : Thread nD τ).loc main_arg1) = up w) (h2 : m ((c : Thread nD τ).loc main_arg2) = up x2)
  (h3 : m ((c : Thread nD τ).loc main_arg3) = up g) (h4 : m ((c : Thread nD τ).loc main_arg4) = up s)

include h0 h1 h2 h3 h4

theorem at_5 (t : Fin cfg0.N) (y : S512x2816.Idx) : (outsAt0 m c t.val t.isLt).1 y = up (arr (act gu)) (ix2 (row tiles t (y 0)) (y 1)) := by
  by_cases h : t.val % 16 = 0
  · rw [outsAt0_A m c t h]
    dsimp only
    rw [block_gu t h0, block_w t h1, block_x2 t h2, block_g t h3, block_t t h4]
    exact out_A_5 (rows tiles gu t) w (rows tiles x2 t) (rows tiles s t) (one g) c (grid0.coords t) _ _ _ _ _ _ _ _ _ _ _ _ _ _ _ _ _ _ _ y
  · rw [outsAt0_B m c t h]
    dsimp only
    rw [block_gu t h0, block_w t h1, block_x2 t h2, block_g t h3, block_t t h4]
    exact out_B_5 (rows tiles gu t) w (rows tiles x2 t) (rows tiles s t) (one g) c (grid0.coords t) _ _ _ _ _ _ _ _ _ _ _ _ _ _ _ _ _ _ _ _ _ y

theorem at_7 (t : Fin cfg0.N) (y : S512x1024.Idx) : (outsAt0 m c t.val t.isLt).2.2.1 y = up (arr (dx (arr (x3 gu w x2)) (one g) (arr (cot (arr (x3 gu w x2)) s (one g))))) (ix2 (row tiles t (y 0)) (y 1)) := by
  by_cases h : t.val % 16 = 0
  · rw [outsAt0_A m c t h]
    dsimp only
    rw [block_gu t h0, block_w t h1, block_x2 t h2, block_g t h3, block_t t h4]
    exact out_A_7 (rows tiles gu t) w (rows tiles x2 t) (rows tiles s t) (one g) c (grid0.coords t) _ _ _ _ _ _ _ _ _ _ _ _ _ _ _ _ _ _ _ y
  · rw [outsAt0_B m c t h]
    dsimp only
    rw [block_gu t h0, block_w t h1, block_x2 t h2, block_g t h3, block_t t h4]
    exact out_B_7 (rows tiles gu t) w (rows tiles x2 t) (rows tiles s t) (one g) c (grid0.coords t) _ _ _ _ _ _ _ _ _ _ _ _ _ _ _ _ _ _ _ _ _ y

/-- A tile's part of the loss. -/
def lpart (gu : S8192x5632.Idx → ℝ) (w : S2816x1024.Idx → ℝ) (x2 s : S8192x1024.Idx → ℝ) (g : S1024.Idx → ℝ) (t : Fin cfg0.N) : ℝ :=
  ∑ i : Fin 512, part (arr (x3 gu w x2)) s (one g) (row tiles t i)

/-- A tile's part of the weights' gradient. -/
def gpart (gu : S8192x5632.Idx → ℝ) (w : S2816x1024.Idx → ℝ) (x2 s : S8192x1024.Idx → ℝ) (g : S1024.Idx → ℝ) (k : Fin 1024) (t : Fin cfg0.N) : ℝ :=
  ∑ i : Fin 512, dgr (arr (x3 gu w x2)) (arr (cot (arr (x3 gu w x2)) s (one g))) (row tiles t i) k

theorem at_6 (n : Nat) (hn : n < cfg0.N) : (outsAt0 m c n hn).2.1 = up fun y => upto (lpart gu w x2 s g) n := by
  induction n with
  | zero =>
    funext y
    rw [show outsAt0 m c 0 hn = _ from outsAt0_A m c ⟨0, hn⟩ rfl]
    dsimp only
    rw [block_gu ⟨0, hn⟩ h0, block_w ⟨0, hn⟩ h1, block_x2 ⟨0, hn⟩ h2, block_g ⟨0, hn⟩ h3, block_t ⟨0, hn⟩ h4]
    exact (out_A_6 (rows tiles gu ⟨0, hn⟩) w (rows tiles x2 ⟨0, hn⟩) (rows tiles s ⟨0, hn⟩) (one g) c (grid0.coords ⟨0, hn⟩) _ _ _ _ _ _ _ _ _ _ _ _ _ _ _ _ _ _ _ y).trans (congrArg Real.toEReal (upto_zero (lpart gu w x2 s g) hn).symm)
  | succ n ih =>
    funext y
    have hb : ¬ (n + 1) % 16 = 0 := by have : cfg0.N = 16 := N_0; omega
    rw [show outsAt0 m c (n + 1) hn = _ from outsAt0_B m c ⟨n + 1, hn⟩ hb]
    dsimp only
    rw [block_gu ⟨n + 1, hn⟩ h0, block_w ⟨n + 1, hn⟩ h1, block_x2 ⟨n + 1, hn⟩ h2, block_g ⟨n + 1, hn⟩ h3, block_t ⟨n + 1, hn⟩ h4]
    rw [show (outsAt0 m c (n + 1 - 1) _).2.1 = _ from ih (by omega)]
    exact (out_B_6 (rows tiles gu ⟨n + 1, hn⟩) w (rows tiles x2 ⟨n + 1, hn⟩) (rows tiles s ⟨n + 1, hn⟩) (one g) _ c (grid0.coords ⟨n + 1, hn⟩) _ _ _ _ _ _ _ _ _ _ _ _ _ _ _ _ _ _ _ _ y).trans (congrArg Real.toEReal (upto_succ (lpart gu w x2 s g) n hn).symm)

theorem at_8 (n : Nat) (hn : n < cfg0.N) : (outsAt0 m c n hn).2.2.2 = up fun y => upto (gpart gu w x2 s g (y 1)) n := by
  induction n with
  | zero =>
    funext y
    rw [show outsAt0 m c 0 hn = _ from outsAt0_A m c ⟨0, hn⟩ rfl]
    dsimp only
    rw [block_gu ⟨0, hn⟩ h0, block_w ⟨0, hn⟩ h1, block_x2 ⟨0, hn⟩ h2, block_g ⟨0, hn⟩ h3, block_t ⟨0, hn⟩ h4]
    exact (out_A_8 (rows tiles gu ⟨0, hn⟩) w (rows tiles x2 ⟨0, hn⟩) (rows tiles s ⟨0, hn⟩) (one g) c (grid0.coords ⟨0, hn⟩) _ _ _ _ _ _ _ _ _ _ _ _ _ _ _ _ _ _ _ y).trans (congrArg Real.toEReal (upto_zero (gpart gu w x2 s g (y 1)) hn).symm)
  | succ n ih =>
    funext y
    have hb : ¬ (n + 1) % 16 = 0 := by have : cfg0.N = 16 := N_0; omega
    rw [show outsAt0 m c (n + 1) hn = _ from outsAt0_B m c ⟨n + 1, hn⟩ hb]
    dsimp only
    rw [block_gu ⟨n + 1, hn⟩ h0, block_w ⟨n + 1, hn⟩ h1, block_x2 ⟨n + 1, hn⟩ h2, block_g ⟨n + 1, hn⟩ h3, block_t ⟨n + 1, hn⟩ h4]
    rw [show (outsAt0 m c (n + 1 - 1) _).2.2.2 = _ from ih (by omega)]
    exact (out_B_8 (rows tiles gu ⟨n + 1, hn⟩) w (rows tiles x2 ⟨n + 1, hn⟩) (rows tiles s ⟨n + 1, hn⟩) (one g) _ c (grid0.coords ⟨n + 1, hn⟩) _ _ _ _ _ _ _ _ _ _ _ _ _ _ _ _ _ _ _ _ y).trans (congrArg Real.toEReal (upto_succ (gpart gu w x2 s g (y 1)) n hn).symm)

theorem final_5 : (dats m 0 c).arrAt 5 (cfgs 0).N = up (arr (act gu)) := by
  refine (dats m 0 c).arrAt_eq_of_covers 5 _ (by decide +kernel) fun t _ y => ?_
  blk_simp
  rw [after0_5, at_5 h0 h1 h2 h3 h4]
  refine congrArg (up _) (?_ : ix2 (row tiles t (y 0)) (y 1) = _)
  have : (row tiles t (y 0)).val = t.val * 512 + (y 0).val := rfl
  blk_ext [idx t]

theorem final_7 : (dats m 0 c).arrAt 7 (cfgs 0).N = up (arr (dx (arr (x3 gu w x2)) (one g) (arr (cot (arr (x3 gu w x2)) s (one g))))) := by
  refine (dats m 0 c).arrAt_eq_of_covers 7 _ (by decide +kernel) fun t _ y => ?_
  blk_simp
  rw [after0_7, at_7 h0 h1 h2 h3 h4]
  refine congrArg (up _) (?_ : ix2 (row tiles t (y 0)) (y 1) = _)
  have : (row tiles t (y 0)).val = t.val * 512 + (y 0).val := rfl
  blk_ext [idx t]

/-- The point after which the sums are written out. -/
def last : Fin cfg0.N := ⟨15, by decide +kernel⟩

theorem final_6 : (dats m 0 c).arrAt 6 (cfgs 0).N = up (fun _ => ∑ i, part (arr (x3 gu w x2)) s (one g) i) := by
  refine (dats m 0 c).arrAt_eq_of_after_last 6 last (by decide +kernel) _ fun y => ?_
  blk_simp
  rw [after0_6, at_6 h0 h1 h2 h3 h4]
  exact congrArg Real.toEReal ((upto_last _ 15 N_0.symm).trans (sum_rows tiles (part (arr (x3 gu w x2)) s (one g))))

theorem final_8 : (dats m 0 c).arrAt 8 (cfgs 0).N = up (arr fun _ k => ∑ i, dgr (arr (x3 gu w x2)) (arr (cot (arr (x3 gu w x2)) s (one g))) i k) := by
  refine (dats m 0 c).arrAt_eq_of_after_last 8 last (by decide +kernel) _ fun y => ?_
  blk_simp
  rw [after0_8, at_8 h0 h1 h2 h3 h4]
  exact congrArg Real.toEReal ((upto_last _ 15 N_0.symm).trans (sum_rows tiles (fun i => dgr (arr (x3 gu w x2)) (arr (cot (arr (x3 gu w x2)) s (one g))) i (y 1))))
-- ==== Proof.LossClaim.lean ====
/- The claims about the last product, the last norm and the loss. -/
module
public import proofs.«01_k».proof.Defs
public import proofs.«01_k».proof.Proof.LossValue
public import proofs.«01_k».proof.Proof.Gen.Pre_loss_finite
public import proofs.«01_k».proof.Proof.Gen.Loss.Frame
public import proofs.«01_k».proof.Proof.Gen.LossRefIdeal.Run
@[expose] public section
set_option maxRecDepth 16384
noncomputable section

namespace Cert.LossClaim

open Idealize.ShloMosaic Idealize.ShloMosaic.TcCoe Idealize.SL.Sem Cert.Reals Cert.Norm Cert.LossSpec Cert.LossRefIdeal Cert.LossRefIdeal.Gen

/-- Every entry of the arrays is a real number where `loss_finite` holds. -/
theorem finite {a : FVec Ideal S8192x5632 .bf16} {w : FVec Ideal S2816x1024 .f32} {x : FVec Ideal S8192x1024 .f32} {g : FVec Ideal S1024 .f32}
    {d : FVec Ideal S8192x1024 .f32} (h : Cert.Pre_loss_finite.fn (F := Ideal) a w x g d = fun _ => 1#1) :
    (∃ r : S8192x5632.Idx → ℝ, a = up r) ∧ (∃ r : S2816x1024.Idx → ℝ, w = up r) ∧ (∃ r : S8192x1024.Idx → ℝ, x = up r)
      ∧ (∃ r : S1024.Idx → ℝ, g = up r) ∧ ∃ r : S8192x1024.Idx → ℝ, d = up r := by
  have h' := congrFun h ix0
  obtain ⟨h, h4⟩ := IntOp.andi_eq_one.1 h'
  obtain ⟨h, h3⟩ := IntOp.andi_eq_one.1 h
  obtain ⟨h, h2⟩ := IntOp.andi_eq_one.1 h
  obtain ⟨h0, h1⟩ := IntOp.andi_eq_one.1 h
  have inf : ∀ (s : Shape) (b) , ∀ i, (broadcastInDim s ![] b (constant (F := Ideal) Cert.Pre_loss_finite.S_ .f32 0x7F800000#32)) i = (⊤ : EReal) :=
    fun s b i => inf_lit
  exact ⟨real_of_all _ _ (inf _ _) _ _ _ _ h0, real_of_all _ _ (inf _ _) _ _ _ _ h1, real_of_all _ _ (inf _ _) _ _ _ _ h2,
    real_of_all _ _ (inf _ _) _ _ _ _ h3, real_of_all _ _ (inf _ _) _ _ _ _ h4⟩

/-- The host's activation. -/
def hact (gu : FVec Ideal S8192x5632 .bf16) : FVec Ideal S8192x2816 .f32 :=
  mulf (mulf (extractStridedSlice S8192x2816 ![0, 0] (extf .f32 gu bitsLt_bf16_f32) slices_S8192x5632_S8192x2816_0_0)
    (Host.divf (broadcastInDim S8192x2816 ![] bcast_S_S8192x2816 (constant S_ .f32 0x3F800000#32))
      (addf (broadcastInDim S8192x2816 ![] bcast_S_S8192x2816 (constant S_ .f32 0x3F800000#32))
        (Host.exp (Host.negf (extractStridedSlice S8192x2816 ![0, 0] (extf .f32 gu bitsLt_bf16_f32) slices_S8192x5632_S8192x2816_0_0))))))
    (extractStridedSlice S8192x2816 ![0, 2816] (extf .f32 gu bitsLt_bf16_f32) slices_S8192x5632_S8192x2816_0_2816)

theorem hact_eq (gu : S8192x5632.Idx → ℝ) : hact (up gu) = up (arr (act gu)) := by
  funext x
  idx_vars x
  unfold hact
  pointwise
  simp only [up, sig_host, ← EReal.coe_mul]
  rfl

/-- The host's residual after the feed-forward. -/
def hx3 (gu : FVec Ideal S8192x5632 .bf16) (w : FVec Ideal S2816x1024 .f32) (x2 : FVec Ideal S8192x1024 .f32) : FVec Ideal S8192x1024 .f32 :=
  addf x2 (Host.dotGeneral (F := Ideal) (φ₁ := .f32) (φ₂ := .f32) dot_S8192x2816_S2816x1024_S8192x1024_1_0_0_1_n_n none (hact gu) w)

theorem product (a : S8192x2816.Idx → ℝ) (w : S2816x1024.Idx → ℝ) :
    Host.dotGeneral (F := Ideal) (φ₁ := .f32) (φ₂ := .f32) dot_S8192x2816_S2816x1024_S8192x1024_1_0_0_1_n_n none (up a : FVec Ideal S8192x2816 .f32) (up w : FVec Ideal S2816x1024 .f32)
      = up (arr fun i k => ∑ j : Fin 2816, a (ix2 i j) * w (ix2 j k)) := by
  funext u
  idx_vars u
  pointwise
  simp only [up, ← EReal.coe_mul, coe_sum]
  rfl

theorem hx3_eq (gu : S8192x5632.Idx → ℝ) (w : S2816x1024.Idx → ℝ) (x2 : S8192x1024.Idx → ℝ) : hx3 (up gu) (up w) (up x2) = up (arr (x3 gu w x2)) := by
  unfold hx3
  rw [hact_eq, product]
  refine (add_up _ _).trans (congrArg up (funext fun u => ?_))
  obtain ⟨i, j, rfl⟩ := idx2 u
  rfl

/-- The norm's weights as a matrix of one row. -/
abbrev one (g : S1024.Idx → ℝ) : S1x1024.Idx → ℝ := fun y => g (ix1 (y 1))

theorem hone_eq (g : S1024.Idx → ℝ) : (broadcastInDim S1x1024 ![1] bcast_S1024_S1x1024_1 (up g : FVec Ideal S1024 .f32) : FVec Ideal S1x1024 .f32) = up (one g) := by
  funext u
  idx_vars u
  pointwise
  rfl

/-- The host's normed and weighted residual less the target. -/
def herr (x : FVec Ideal S8192x1024 .f32) (g : FVec Ideal S1x1024 .f32) (t : FVec Ideal S8192x1024 .f32) : FVec Ideal S8192x1024 .f32 :=
  subf (mulf (mulf x (broadcastInDim S8192x1024 ![0, 1] bcast_S8192x1_S8192x1024_0_1
    (Host.rsqrt (hv h_S_ reducesTo_S8192x1024_S8192_d1 bcast_S8192_S8192x1_0 bcast_S_S8192x1 x))))
      (broadcastInDim S8192x1024 ![0, 1] bcast_S1x1024_S8192x1024_0_1 g)) t

theorem herr_eq (x t : S8192x1024.Idx → ℝ) (g : S1x1024.Idx → ℝ) : herr (up x) (up g) (up t) = up (arr (err x t g)) := by
  unfold herr
  rw [hrs_eq]
  funext u
  idx_vars u
  pointwise
  simp only [up, arr_ix, ← EReal.coe_mul, ← EReal.coe_sub]
  rfl

/-- The host's gradient of the loss at the normed residual. -/
def hcot (e : FVec Ideal S8192x1024 .f32) : FVec Ideal S8192x1024 .f32 :=
  mulf (broadcastInDim S8192x1024 ![0] bcast_S8192_S8192x1024_0 (Host.divf (broadcastInDim S8192 ![] bcast_S_S8192
      (mulf (constant S_ .f32 0x3F000000#32) (constant S_ .f32 0x3F800000#32))) (broadcastInDim S8192 ![] bcast_S_S8192 (constant S_ .f32 0x44800000#32))))
    (mulf (broadcastInDim S8192x1024 ![] bcast_S_S8192x1024 (constant S_ .f32 0x40000000#32)) e)

theorem two32 : Ideal.ofBits .f32 0x40000000#32 = ((2 : ℝ) : EReal) := by
  simp [Ideal.ofBits, Ideal.ieee]
  rw [← EReal.coe_mul]
  norm_num

theorem hcot_eq (x t : S8192x1024.Idx → ℝ) (g : S1x1024.Idx → ℝ) : hcot (up (arr (err x t g))) = up (arr (cot x t g)) := by
  funext u
  obtain ⟨i, j, rfl⟩ := idx2 u
  have e : ∀ b : FVec Ideal S8192x1024 .f32, hcot b (ix2 i j)
      = Ideal.div (Ideal.ofBits .f32 0x3F000000#32 * Ideal.ofBits .f32 0x3F800000#32) (Ideal.ofBits .f32 0x44800000#32) * (Ideal.ofBits .f32 0x40000000#32 * b (ix2 i j)) := fun _ => rfl
  rw [e, half32, one32, width32, two32, ← EReal.coe_mul, div_coe _ (by norm_num)]
  simp only [up, arr_ix, ← EReal.coe_mul]
  refine congrArg Real.toEReal ?_
  unfold cot
  ring

/-- The host's loss, repeated. -/
def hloss (e : FVec Ideal S8192x1024 .f32) : FVec Ideal S1x128 .f32 :=
  broadcastInDim S1x128 ![] bcast_S_S1x128 (mulf (constant S_ .f32 0x3F000000#32) (Host.reduceAdd (Host.divf
    (hsum h_S_ reducesTo_S8192x1024_S8192_d1 (mulf e e)) (broadcastInDim S8192 ![] bcast_S_S8192 (constant S_ .f32 0x44800000#32)))
      (constant S_ .f32 0x00000000#32) reducesTo_S8192_S_d0 h_S_))

theorem hloss_eq (x t : S8192x1024.Idx → ℝ) (g : S1x1024.Idx → ℝ) : hloss (up (arr (err x t g))) = up fun _ => ∑ i, part x t g i := by
  have e : hloss (up (arr (err x t g))) = fun _ => Ideal.ofBits .f32 0x3F000000#32 * ∑ i : Fin 8192,
      Ideal.div (hsum h_S_ reducesTo_S8192x1024_S8192_d1 (mulf (up (arr (err x t g))) (up (arr (err x t g)))) (ix1 i)) (Ideal.ofBits .f32 0x44800000#32) := by
    unfold hloss
    generalize hsum h_S_ reducesTo_S8192x1024_S8192_d1 (mulf (up (arr (err x t g))) (up (arr (err x t g)))) = q
    funext u
    idx_vars u
    pointwise
  rw [e, mul_up]
  funext u
  simp only [hsum_eq, half32, width32, div_coe _ (show (1024 : ℝ) ≠ 0 by norm_num), coe_sum, ← EReal.coe_mul]
  refine congrArg Real.toEReal ?_
  rw [Finset.mul_sum]
  rfl

theorem again (f : Fin 1024 → ℝ) : shapeCast S1x1024 (Host.reduceAdd (F := Ideal) (φ := .f32) (up (arr fun (_ : Fin 1) k => f k)) (constant S_ .f32 0x00000000#32) reducesTo_S1x1024_S1024_d0 h_S_)
    shapeCasts_S1024_S1x1024 = up (arr fun (_ : Fin 1) k => f k) := by
  funext u
  obtain ⟨i, j, rfl⟩ := idx2 u
  refine (row_cast _ shapeCasts_S1024_S1x1024 i j).trans ?_
  pointwise
  exact Fin.sum_univ_one _

/-- The weights' gradient, summed once more over the matrix's one row. -/
theorem twice (x dh : S8192x1024.Idx → ℝ) : shapeCast S1x1024 (Host.reduceAdd (F := Ideal) (φ := .f32)
    (hdg h_S_ reducesTo_S8192x1024_S8192_d1 bcast_S8192_S8192x1_0 bcast_S_S8192x1 bcast_S8192x1_S8192x1024_0_1 reducesTo_S8192x1024_S1024_d0 shapeCasts_S1024_S1x1024 (up x) (up dh))
    (constant S_ .f32 0x00000000#32) reducesTo_S1x1024_S1024_d0 h_S_) shapeCasts_S1024_S1x1024 = up (arr fun _ k => ∑ i, dgr x dh i k) := by
  have e : hdg h_S_ reducesTo_S8192x1024_S8192_d1 bcast_S8192_S8192x1_0 bcast_S_S8192x1 bcast_S8192x1_S8192x1024_0_1 reducesTo_S8192x1024_S1024_d0 shapeCasts_S1024_S1x1024 (up x) (up dh)
      = up (arr fun _ k => ∑ i, dgr x dh i k) := hdg_eq _ _ _ _ _ _ _ x dh
  rw [e]
  exact again _

section Results

variable {m : (ℓ : Loc nD τ Cert.LossRefIdeal.sig) → Buf (Elt Ideal) ℓ} {c : Dev nD} {a : S8192x5632.Idx → ℝ} {w : S2816x1024.Idx → ℝ} {x t : S8192x1024.Idx → ℝ} {g : S1024.Idx → ℝ}
  (a0 : m ((c.tc : Thread nD τ).loc main_arg0) = up a) (a1 : m ((c.tc : Thread nD τ).loc main_arg1) = up w) (a2 : m ((c.tc : Thread nD τ).loc main_arg2) = up x)
  (a3 : m ((c.tc : Thread nD τ).loc main_arg3) = up g) (a4 : m ((c.tc : Thread nD τ).loc main_arg4) = up t)

include a0 a1 a2 a3 a4

theorem ref_loss : Cert.LossRefIdeal.Value.res_main_v59 m c = up fun _ => ∑ i, part (arr (x3 a w x)) t (one g) i := by
  unfold Cert.LossRefIdeal.Value.res_main_v59
  rw [a0, a1, a2, a3, a4]
  exact (congrArg hloss ((congrArg₂ (fun p q => herr p q (up t)) (hx3_eq a w x) (hone_eq g)).trans (herr_eq _ _ _))).trans (hloss_eq _ _ _)

theorem ref_dx : Cert.LossRefIdeal.Value.res_main_v57 m c = up (arr (dx (arr (x3 a w x)) (one g) (arr (cot (arr (x3 a w x)) t (one g))))) := by
  unfold Cert.LossRefIdeal.Value.res_main_v57
  rw [a0, a1, a2, a3, a4]
  refine Eq.trans (?_ : _ = hdx h_S_ reducesTo_S8192x1024_S8192_d1 bcast_S8192_S8192x1_0 bcast_S_S8192x1 bcast_S8192x1_S8192x1024_0_1 bcast_S1x1024_S8192x1024_0_1
    shapeCasts_S8192_S8192x1 reducesTo_S8192x1_S8192_d1 bcast_S8192_S8192x1024_0 (up (arr (x3 a w x))) (hcot (herr (up (arr (x3 a w x))) (up (one g)) (up t))) (up (one g))) ?_
  · rw [← hx3_eq, ← hone_eq]
    rfl
  · rw [herr_eq, hcot_eq]
    exact hdx_eq _ _ _ _ _ _ _ _ bcast_S8192_S8192x1024_0 _ _ _

theorem ref_dg : Cert.LossRefIdeal.Value.res_main_v60 m c = up (arr fun _ k => ∑ i, dgr (arr (x3 a w x)) (arr (cot (arr (x3 a w x)) t (one g))) i k) := by
  unfold Cert.LossRefIdeal.Value.res_main_v60
  rw [a0, a1, a2, a3, a4]
  refine Eq.trans (?_ : _ = shapeCast S1x1024 (Host.reduceAdd (hdg h_S_ reducesTo_S8192x1024_S8192_d1 bcast_S8192_S8192x1_0 bcast_S_S8192x1 bcast_S8192x1_S8192x1024_0_1
    reducesTo_S8192x1024_S1024_d0 shapeCasts_S1024_S1x1024 (up (arr (x3 a w x))) (hcot (herr (up (arr (x3 a w x))) (up (one g)) (up t))))
    (constant S_ .f32 0x00000000#32) reducesTo_S1x1024_S1024_d0 h_S_) shapeCasts_S1024_S1x1024) ?_
  · rw [← hx3_eq, ← hone_eq]
    rfl
  · rw [herr_eq, hcot_eq]
    exact twice _ _

end Results

theorem algebraic : Cert.algebraic_LossIdeal_LossRefIdeal_pre_loss_finite := fun m ρ m' ρ' hpre hag => by
  choose fa fw fx fg ft using fun c => finite (hpre c)
  choose a ha using fa
  choose w hw using fw
  choose x hx using fx
  choose g hg using fg
  choose t ht using ft
  refine ⟨fun c => up (arr (act (a c))), fun c => up fun _ => ∑ i, part (arr (x3 (a c) (w c) (x c))) (t c) (one (g c)) i,
    fun c => up (arr (dx (arr (x3 (a c) (w c) (x c))) (one (g c)) (arr (cot (arr (x3 (a c) (w c) (x c))) (t c) (one (g c)))))),
    fun c => up (arr fun _ k => ∑ i, dgr (arr (x3 (a c) (w c) (x c))) (arr (cot (arr (x3 (a c) (w c) (x c))) (t c) (one (g c)))) i k), ?_, ?_⟩
  · refine (θ_run _ _ _).mono (fun r h c => ?_) (Cert.LossIdeal.Value.run_blocks m ρ)
    exact ⟨(h c).1.trans (Cert.LossIdeal.Hand.final_5 (ha c) (hw c) (hx c) (hg c) (ht c)),
      (h c).2.1.trans (Cert.LossIdeal.Hand.final_6 (ha c) (hw c) (hx c) (hg c) (ht c)),
      (h c).2.2.1.trans (Cert.LossIdeal.Hand.final_7 (ha c) (hw c) (hx c) (hg c) (ht c)),
      (h c).2.2.2.1.trans (Cert.LossIdeal.Hand.final_8 (ha c) (hw c) (hx c) (hg c) (ht c)), (h c).2.2.2.2⟩
  · refine (θ_run _ _ _).mono (fun r h c => ?_) (Cert.LossRefIdeal.Value.run m' ρ')
    obtain ⟨a0, a1, a2, a3, a4⟩ := hag c
    refine ⟨(h c).1.trans ?_, (h c).2.1.trans (ref_loss (a0.trans (ha c)) (a1.trans (hw c)) (a2.trans (hx c)) (a3.trans (hg c)) (a4.trans (ht c))),
      (h c).2.2.1.trans (ref_dx (a0.trans (ha c)) (a1.trans (hw c)) (a2.trans (hx c)) (a3.trans (hg c)) (a4.trans (ht c))),
      (h c).2.2.2.1.trans (ref_dg (a0.trans (ha c)) (a1.trans (hw c)) (a2.trans (hx c)) (a3.trans (hg c)) (a4.trans (ht c))), (h c).2.2.2.2⟩
    rw [a0, ha c]
    exact hact_eq (a c)
-- ==== Proof.FfnNormValue.lean ====
/- What the backward kernel of the feed-forward's norm leaves in its result arrays. -/
module
public import proofs.«01_k».proof.Proof.Norm
public import proofs.«01_k».proof.Proof.Canon
public import proofs.«01_k».proof.Proof.Gen.FfnNormIdeal.Value
@[expose] public section
set_option maxRecDepth 16384
noncomputable section

namespace Cert.FfnNormIdeal.Hand

open Idealize.ShloMosaic Idealize.ShloMosaic.TcCoe Idealize.SL.Sem
open Idealize.ShloMosaic.Pipeline (Dat)
open Cert.FfnNormIdeal Cert.FfnNormIdeal.Gen Cert.Reals Cert.Norm Cert.Canon

section Body

variable (a : S512x5632.Idx → ℝ) (w : S1024x5632.Idx → ℝ) (x d : S512x1024.Idx → ℝ) (g acc : S1x1024.Idx → ℝ)

/-- One product of the columns with a shard. -/
theorem product (b : S512x1408.Idx → ℝ) (v : S1x1024x1408.Idx → ℝ) :
    (matmul (F := Ideal) (φ₁ := .bf16) (φ₂ := .bf16) dot_S512x1408_S1024x1408_S512x1024_1_1_0_0_n_n none (up b)
      (shapeCast (α := EReal) S1024x1408 (up v) shapeCasts_S1x1024x1408_S1024x1408) (constant S512x1024 .f32 0x00000000#32) : FVec Ideal S512x1024 .f32)
      = up (arr fun i k => ∑ j : Fin 1408, b (ix2 i j) * v (ix3 0 k j)) := by
  funext u
  idx_vars u
  pointwise
  simp only [up, ← EReal.coe_mul, coe_sum]
  rfl

/-- The product with the transposed weight, from the columns and shards loaded. -/
theorem products {b0 b1 b2 b3 : Vec Ideal S512x1408 .bf16} {v0 v1 v2 v3 : Vec Ideal S1x1024x1408 .bf16} (e0 : b0 = up (cols a 0 (by omega)))
    (f0 : v0 = up (shard w rfl 0 (by omega))) (e1 : b1 = up (cols a 1408 (by omega))) (f1 : v1 = up (shard w rfl 1 (by omega)))
    (e2 : b2 = up (cols a 2816 (by omega))) (f2 : v2 = up (shard w rfl 2 (by omega))) (e3 : b3 = up (cols a 4224 (by omega)))
    (f3 : v3 = up (shard w rfl 3 (by omega))) : (k0_pay6 b0 v0 b1 v1 b2 v2 b3 v3 : FVec Ideal S512x1024 .f32) = up (arr (DH a w)) := by
  subst e0 e1 e2 e3 f0 f1 f2 f3
  unfold k0_pay6
  dsimp only
  rw [product, product, product, product]
  simp only [add_up]
  exact congrArg up (funext fun u => DH_shards a w rfl rfl _ 1408 2816 4224 _ _ _ rfl rfl rfl (u 0) (u 1))

theorem means : (k0_pay7 (up x) : FVec Ideal S512x1 .f32) = kmean reduces_S512x1024_S512 shapeCasts_S512_S512x1 (mulf (up x) (up x)) := rfl

theorem roots : (k0_pay1 (k0_pay7 (up x)) : FVec Ideal S512x1 .f32) = up (arr (rs x)) := (krs_eq _ _ x)

theorem hats : (k0_pay2 (up x) (k0_pay7 (up x)) : FVec Ideal S512x1024 .f32) = up (arr (xh x)) := by
  refine Eq.trans ?_ (kxh_eq broadcasts_S512x1_S512x1024 x)
  rw [← roots x]
  rfl

/-- The inputs' gradient. -/
theorem grads (dh : S512x1024.Idx → ℝ) : (k0_pay3 (up dh) (up x) (k0_pay7 (up x)) (up g) (up d) : FVec Ideal S512x1024 .f32)
    = up (arr fun i k => dx x g dh i k + d (ix2 i k)) := by
  have e : (k0_pay3 (up dh) (up x) (k0_pay7 (up x)) (up g) (up d) : FVec Ideal S512x1024 .f32)
      = addf (kdx reduces_S512x1024_S512 shapeCasts_S512_S512x1 broadcasts_S512x1_S512x1024 broadcasts_S1x1024_S512x1024 (up dh) (up g)
        (k0_pay2 (up x) (k0_pay7 (up x))) (k0_pay1 (k0_pay7 (up x)))) (up d) := rfl
  rw [e, hats, roots, kdx_eq]
  refine (add_up _ _).trans (congrArg up (funext fun u => ?_))
  obtain ⟨i, j, rfl⟩ := idx2 u
  rfl

/-- The gain's gradient, added to what was there. -/
theorem gains (dh : S512x1024.Idx → ℝ) : (k0_pay4 (up dh) (up x) (k0_pay7 (up x)) (up acc) : FVec Ideal S1x1024 .f32)
    = up fun y => acc y + ∑ i, dgr x dh i (y 1) := by
  funext u
  idx_vars u
  have e : (k0_pay4 (up dh) (up x) (k0_pay7 (up x)) (up acc) : FVec Ideal S1x1024 .f32) (ix2 u0 u1)
      = acc (ix2 u0 u1) + kdg reduces_S512x1024_S1024 (up dh) (k0_pay2 (up x) (k0_pay7 (up x))) (ix1 u1) := by
    unfold k0_pay4 kdg
    generalize k0_pay2 (F := Ideal) (up x) (k0_pay7 (up x)) = q
    pointwise
  rw [e, hats, kdg_eq, ← EReal.coe_add]
  rfl

theorem fill : (k0_pay5 : FVec Ideal S1x1024 .f32) = up fun _ => 0 := by
  funext u
  unfold k0_pay5
  exact zero32

variable (c : Dev nD) (i : grid0.Coords) (arg1 : Memref sig .tc .vmem S512x5632 .bf16) (harg1 : arg1.IsWhole) (arg2 : Memref sig .tc .vmem S4x1024x1408 .bf16)
  (harg2 : arg2.IsWhole) (arg3 : Memref sig .tc .vmem S512x1024 .f32) (harg3 : arg3.IsWhole) (arg4 : Memref sig .tc .vmem S1x1024 .f32) (harg4 : arg4.IsWhole)
  (arg5 : Memref sig .tc .vmem S512x1024 .f32) (harg5 : arg5.IsWhole) (arg6 : Memref sig .tc .vmem S512x1024 .f32) (harg6 : arg6.IsWhole)
  (arg7 : Memref sig .tc .vmem S1x1024 .f32) (harg7 : arg7.IsWhole)

theorem out_A_5 (hc0 : cond0_0 i) (y : S512x1024.Idx) :
    out0_A_5 (F := Ideal) c i arg1 harg1 arg2 harg2 arg3 harg3 arg4 harg4 arg5 harg5 arg6 harg6 arg7 harg7 hc0 (up a) (up (shards w rfl)) (up x) (up g) (up d) y
      = up (arr fun i k => dx x g (arr (DH a w)) i k + d (ix2 i k)) y := by
  frame_out
  refine (congrFun (congrArg (fun p => k0_pay3 (F := Ideal) p (up x) (k0_pay7 (up x)) (up g) (up d)) (products a w (ld_cols (e := .bf16) a 0 _ _) (ld_shard (e := .bf16) w _ 0 _ _) (ld_cols (e := .bf16) a 1408 _ _) (ld_shard (e := .bf16) w _ 1 _ _) (ld_cols (e := .bf16) a 2816 _ _) (ld_shard (e := .bf16) w _ 2 _ _) (ld_cols (e := .bf16) a 4224 _ _) (ld_shard (e := .bf16) w _ 3 _ _))) y).trans ?_
  rw [grads]

theorem out_B_5 (hc0 : ¬cond0_0 i) (xo : Vec Ideal S1x1024 .f32) (y : S512x1024.Idx) :
    out0_B_5 (F := Ideal) c i arg1 harg1 arg2 harg2 arg3 harg3 arg4 harg4 arg5 harg5 arg6 harg6 arg7 harg7 hc0 (up a) (up (shards w rfl)) (up x) (up g) (up d) xo y
      = up (arr fun i k => dx x g (arr (DH a w)) i k + d (ix2 i k)) y := by
  frame_out
  refine (congrFun (congrArg (fun p => k0_pay3 (F := Ideal) p (up x) (k0_pay7 (up x)) (up g) (up d)) (products a w (ld_cols (e := .bf16) a 0 _ _) (ld_shard (e := .bf16) w _ 0 _ _) (ld_cols (e := .bf16) a 1408 _ _) (ld_shard (e := .bf16) w _ 1 _ _) (ld_cols (e := .bf16) a 2816 _ _) (ld_shard (e := .bf16) w _ 2 _ _) (ld_cols (e := .bf16) a 4224 _ _) (ld_shard (e := .bf16) w _ 3 _ _))) y).trans ?_
  rw [grads]

theorem out_A_6 (hc0 : cond0_0 i) (y : S1x1024.Idx) :
    out0_A_6 (F := Ideal) c i arg1 harg1 arg2 harg2 arg3 harg3 arg4 harg4 arg5 harg5 arg6 harg6 arg7 harg7 hc0 (up a) (up (shards w rfl)) (up x) (up g) (up d) y
      = ((0 + ∑ i, dgr x (arr (DH a w)) i (y 1) : ℝ) : EReal) := by
  frame_out
  rw [fill]
  refine (congrFun (congrArg (fun p => k0_pay4 (F := Ideal) p (up x) (k0_pay7 (up x)) (up fun _ => 0)) (products a w (ld_cols (e := .bf16) a 0 _ _) (ld_shard (e := .bf16) w _ 0 _ _) (ld_cols (e := .bf16) a 1408 _ _) (ld_shard (e := .bf16) w _ 1 _ _) (ld_cols (e := .bf16) a 2816 _ _) (ld_shard (e := .bf16) w _ 2 _ _) (ld_cols (e := .bf16) a 4224 _ _) (ld_shard (e := .bf16) w _ 3 _ _))) y).trans ?_
  rw [gains]

theorem out_B_6 (hc0 : ¬cond0_0 i) (y : S1x1024.Idx) :
    out0_B_6 (F := Ideal) c i arg1 harg1 arg2 harg2 arg3 harg3 arg4 harg4 arg5 harg5 arg6 harg6 arg7 harg7 hc0 (up a) (up (shards w rfl)) (up x) (up g) (up d) (up acc) y
      = ((acc y + ∑ i, dgr x (arr (DH a w)) i (y 1) : ℝ) : EReal) := by
  frame_out
  refine (congrFun (congrArg (fun p => k0_pay4 (F := Ideal) p (up x) (k0_pay7 (up x)) (up acc)) (products a w (ld_cols (e := .bf16) a 0 _ _) (ld_shard (e := .bf16) w _ 0 _ _) (ld_cols (e := .bf16) a 1408 _ _) (ld_shard (e := .bf16) w _ 1 _ _) (ld_cols (e := .bf16) a 2816 _ _) (ld_shard (e := .bf16) w _ 2 _ _) (ld_cols (e := .bf16) a 4224 _ _) (ld_shard (e := .bf16) w _ 3 _ _))) y).trans ?_
  rw [gains]

end Body

theorem idx : ∀ t : Fin cfg0.N, win0_0.index t = ![t.val, 0] ∧ win0_1.index t = ![0, 0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

theorem tiles : 8192 = cfg0.N * 512 := congrArg (· * 512) N_0.symm

variable {m : (ℓ : Loc nD τ sig) → Buf (Elt Ideal) ℓ} {c : Dev nD} {a : S8192x5632.Idx → ℝ} {w : S1024x5632.Idx → ℝ} {x d : S8192x1024.Idx → ℝ} {g : S1x1024.Idx → ℝ}

theorem block_a (t : Fin cfg0.N) (h : m ((c : Thread nD τ).loc main_arg0) = up a) : (iblk m c 0 t : FVec Ideal S512x5632 .bf16) = up (rows tiles a t) := by
  funext y
  have e : iblk m c 0 t y = m ((c : Thread nD τ).loc main_arg0) (ix2 (row tiles t (y 0)) (y 1)) := by
    have : (row tiles t (y 0)).val = t.val * 512 + (y 0).val := rfl
    blk_ext [iblk, V, idx t]
  rw [e, h]; rfl

theorem block_w (t : Fin cfg0.N) (h : m ((c : Thread nD τ).loc main_arg1) = up w) : (iblk m c 1 t : FVec Ideal S4x1024x1408 .bf16) = up (shards w rfl) := by
  funext y
  have e : iblk m c 1 t y = m ((c : Thread nD τ).loc main_arg1) (ix2 (y 1) ⟨(y 0).val * 1408 + (y 2).val, by have h0 : (y 0).val < 4 := (y 0).isLt; have h2 : (y 2).val < 1408 := (y 2).isLt; omega⟩) := by
    idx_vars y
    blk_simp [iblk, idx t]
    entry_read
    pointwise
    blk_ext [idx t]
  rw [e, h]; rfl

theorem block_x (t : Fin cfg0.N) (h : m ((c : Thread nD τ).loc main_arg2) = up x) : (iblk m c 2 t : FVec Ideal S512x1024 .f32) = up (rows tiles x t) := by
  funext y
  have e : iblk m c 2 t y = m ((c : Thread nD τ).loc main_arg2) (ix2 (row tiles t (y 0)) (y 1)) := by
    have : (row tiles t (y 0)).val = t.val * 512 + (y 0).val := rfl
    blk_ext [iblk, V, idx t]
  rw [e, h]; rfl

theorem block_g (t : Fin cfg0.N) (h : m ((c : Thread nD τ).loc main_arg3) = up g) : (iblk m c 3 t : FVec Ideal S1x1024 .f32) = up g := by
  funext y
  have e : iblk m c 3 t y = m ((c : Thread nD τ).loc main_arg3) y := by blk_ext [iblk, V, idx t]
  rw [e, h]

theorem block_d (t : Fin cfg0.N) (h : m ((c : Thread nD τ).loc main_arg4) = up d) : (iblk m c 4 t : FVec Ideal S512x1024 .f32) = up (rows tiles d t) := by
  funext y
  have e : iblk m c 4 t y = m ((c : Thread nD τ).loc main_arg4) (ix2 (row tiles t (y 0)) (y 1)) := by
    have : (row tiles t (y 0)).val = t.val * 512 + (y 0).val := rfl
    blk_ext [iblk, V, idx t]
  rw [e, h]; rfl

variable (h0 : m ((c : Thread nD τ).loc main_arg0) = up a) (h1 : m ((c : Thread nD τ).loc main_arg1) = up w) (h2 : m ((c : Thread nD τ).loc main_arg2) = up x)
  (h3 : m ((c : Thread nD τ).loc main_arg3) = up g) (h4 : m ((c : Thread nD τ).loc main_arg4) = up d)

include h0 h1 h2 h3 h4

theorem at_5 (t : Fin cfg0.N) (y : S512x1024.Idx) : (outsAt0 m c t.val t.isLt).1 y
    = up (arr fun i k => dx x g (arr (DH a w)) i k + d (ix2 i k)) (ix2 (row tiles t (y 0)) (y 1)) := by
  by_cases h : t.val % 16 = 0
  · rw [outsAt0_A m c t h]
    dsimp only
    rw [block_a t h0, block_w t h1, block_x t h2, block_g t h3, block_d t h4]
    exact out_A_5 (rows tiles a t) w (rows tiles x t) (rows tiles d t) g c (grid0.coords t) _ _ _ _ _ _ _ _ _ _ _ _ _ _ _ y
  · rw [outsAt0_B m c t h]
    dsimp only
    rw [block_a t h0, block_w t h1, block_x t h2, block_g t h3, block_d t h4]
    exact out_B_5 (rows tiles a t) w (rows tiles x t) (rows tiles d t) g c (grid0.coords t) _ _ _ _ _ _ _ _ _ _ _ _ _ _ _ _ y

/-- A tile's part of the gain's gradient. -/
def part (a : S8192x5632.Idx → ℝ) (w : S1024x5632.Idx → ℝ) (x : S8192x1024.Idx → ℝ) (k : Fin 1024) (t : Fin cfg0.N) : ℝ :=
  ∑ i : Fin 512, dgr x (arr (DH a w)) (row tiles t i) k

theorem at_6 (n : Nat) (hn : n < cfg0.N) : (outsAt0 m c n hn).2 = up fun y => upto (part a w x (y 1)) n := by
  induction n with
  | zero =>
    funext y
    rw [show outsAt0 m c 0 hn = _ from outsAt0_A m c ⟨0, hn⟩ rfl]
    dsimp only
    rw [block_a ⟨0, hn⟩ h0, block_w ⟨0, hn⟩ h1, block_x ⟨0, hn⟩ h2, block_g ⟨0, hn⟩ h3, block_d ⟨0, hn⟩ h4]
    exact (out_A_6 (rows tiles a ⟨0, hn⟩) w (rows tiles x ⟨0, hn⟩) (rows tiles d ⟨0, hn⟩) g c (grid0.coords ⟨0, hn⟩) _ _ _ _ _ _ _ _ _ _ _ _ _ _ _ y).trans
      (congrArg Real.toEReal (upto_zero (part a w x (y 1)) hn).symm)
  | succ n ih =>
    funext y
    have hb : ¬ (n + 1) % 16 = 0 := by have : cfg0.N = 16 := N_0; omega
    rw [show outsAt0 m c (n + 1) hn = _ from outsAt0_B m c ⟨n + 1, hn⟩ hb]
    dsimp only
    rw [block_a ⟨n + 1, hn⟩ h0, block_w ⟨n + 1, hn⟩ h1, block_x ⟨n + 1, hn⟩ h2, block_g ⟨n + 1, hn⟩ h3, block_d ⟨n + 1, hn⟩ h4]
    rw [show (outsAt0 m c (n + 1 - 1) _).2 = _ from ih (by omega)]
    exact (out_B_6 (rows tiles a ⟨n + 1, hn⟩) w (rows tiles x ⟨n + 1, hn⟩) (rows tiles d ⟨n + 1, hn⟩) g _ c (grid0.coords ⟨n + 1, hn⟩) _ _ _ _ _ _ _ _ _ _ _ _ _ _ _ y).trans
      (congrArg Real.toEReal (upto_succ (part a w x (y 1)) n hn).symm)

theorem final_5 : (dats m 0 c).arrAt 5 (cfgs 0).N = up (arr fun i k => dx x g (arr (DH a w)) i k + d (ix2 i k)) := by
  refine (dats m 0 c).arrAt_eq_of_covers 5 _ (by decide +kernel) fun t _ y => ?_
  blk_simp
  rw [after0_5, at_5 h0 h1 h2 h3 h4]
  refine congrArg (up _) (?_ : ix2 (row tiles t (y 0)) (y 1) = _)
  have : (row tiles t (y 0)).val = t.val * 512 + (y 0).val := rfl
  blk_ext [idx t]

/-- The point after which the gain's gradient is written out. -/
def last : Fin cfg0.N := ⟨15, by decide +kernel⟩

theorem final_6 : (dats m 0 c).arrAt 6 (cfgs 0).N = up (arr fun _ k => ∑ i, dgr x (arr (DH a w)) i k) := by
  refine (dats m 0 c).arrAt_eq_of_after_last 6 last (by decide +kernel) _ fun y => ?_
  blk_simp
  rw [after0_6, at_6 h0 h1 h2 h3 h4]
  exact congrArg Real.toEReal ((upto_last _ 15 N_0.symm).trans (sum_rows tiles fun i => dgr x (arr (DH a w)) i (y 1)))
-- ==== Proof.FfnNormClaim.lean ====
/- The claims about the gradient of the feed-forward's norm. -/
module
public import proofs.«01_k».proof.Defs
public import proofs.«01_k».proof.Proof.FfnNormValue
public import proofs.«01_k».proof.Proof.Gen.Pre_ffn_norm_finite
public import proofs.«01_k».proof.Proof.Gen.FfnNorm.Frame
public import proofs.«01_k».proof.Proof.Gen.FfnNormRefIdeal.Run
@[expose] public section
set_option maxRecDepth 16384
noncomputable section

namespace Cert.FfnNormClaim

open Idealize.ShloMosaic Idealize.ShloMosaic.TcCoe Idealize.SL.Sem Cert.Reals Cert.Norm Cert.FfnNormRefIdeal Cert.FfnNormRefIdeal.Gen

/-- Every entry of the arrays is a real number where `ffn_norm_finite` holds. -/
theorem finite {a : FVec Ideal S8192x5632 .bf16} {w : FVec Ideal S1024x5632 .f32} {x : FVec Ideal S8192x1024 .f32} {g : FVec Ideal S1x1024 .f32}
    {d : FVec Ideal S8192x1024 .f32} (h : Cert.Pre_ffn_norm_finite.fn (F := Ideal) a w x g d = fun _ => 1#1) :
    (∃ r : S8192x5632.Idx → ℝ, a = up r) ∧ (∃ r : S1024x5632.Idx → ℝ, w = up r) ∧ (∃ r : S8192x1024.Idx → ℝ, x = up r)
      ∧ (∃ r : S1x1024.Idx → ℝ, g = up r) ∧ ∃ r : S8192x1024.Idx → ℝ, d = up r := by
  have h' := congrFun h ix0
  obtain ⟨h, h4⟩ := IntOp.andi_eq_one.1 h'
  obtain ⟨h, h3⟩ := IntOp.andi_eq_one.1 h
  obtain ⟨h, h2⟩ := IntOp.andi_eq_one.1 h
  obtain ⟨h0, h1⟩ := IntOp.andi_eq_one.1 h
  have inf : ∀ (s : Shape) (b) , ∀ i, (broadcastInDim s ![] b (constant (F := Ideal) Cert.Pre_ffn_norm_finite.S_ .f32 0x7F800000#32)) i = (⊤ : EReal) :=
    fun s b i => inf_lit
  exact ⟨real_of_all _ _ (inf _ _) _ _ _ _ h0, real_of_all _ _ (inf _ _) _ _ _ _ h1, real_of_all _ _ (inf _ _) _ _ _ _ h2,
    real_of_all _ _ (inf _ _) _ _ _ _ h3, real_of_all _ _ (inf _ _) _ _ _ _ h4⟩

theorem product (a : S8192x5632.Idx → ℝ) (w : S1024x5632.Idx → ℝ) :
    Host.dotGeneral (F := Ideal) (φ₁ := .f32) (φ₂ := .f32) dot_S8192x5632_S1024x5632_S8192x1024_1_1_0_0_n_n none (extf .f32 (up a : FVec Ideal S8192x5632 .bf16) bitsLt_bf16_f32) (up w : FVec Ideal S1024x5632 .f32)
      = up (arr (DH a w)) := by
  funext u
  idx_vars u
  pointwise
  simp only [up, ← EReal.coe_mul, coe_sum]
  rfl

theorem algebraic : Cert.algebraic_FfnNormIdeal_FfnNormRefIdeal_pre_ffn_norm_finite := fun m ρ m' ρ' hpre hag => by
  choose fa fw fx fg fd using fun c => finite (hpre c)
  choose a ha using fa
  choose w hw using fw
  choose x hx using fx
  choose g hg using fg
  choose d hd using fd
  refine ⟨fun c => up (arr fun i k => dx (x c) (g c) (arr (DH (a c) (w c))) i k + d c (ix2 i k)),
    fun c => up (arr fun _ k => ∑ i, dgr (x c) (arr (DH (a c) (w c))) i k), ?_, ?_⟩
  · refine (θ_run _ _ _).mono (fun r h c => ?_) (Cert.FfnNormIdeal.Value.run_blocks m ρ)
    exact ⟨(h c).1.trans (Cert.FfnNormIdeal.Hand.final_5 (ha c) (hw c) (hx c) (hg c) (hd c)),
      (h c).2.1.trans (Cert.FfnNormIdeal.Hand.final_6 (ha c) (hw c) (hx c) (hg c) (hd c)), (h c).2.2⟩
  · refine (θ_run _ _ _).mono (fun r h c => ?_) (Cert.FfnNormRefIdeal.Value.run m' ρ')
    refine ⟨(h c).1.trans ?_, (h c).2.1.trans ?_, (h c).2.2⟩
    · unfold Cert.FfnNormRefIdeal.Value.res_main_v37
      rw [(hag c).1, (hag c).2.1, (hag c).2.2.1, (hag c).2.2.2.1, (hag c).2.2.2.2, ha c, hw c, hx c, hg c, hd c, product]
      exact hdx'_eq _ _ _ _ _ _ _ _ bcast_S8192_S8192x1024_0 _ _ _ _
    · rw [(hag c).1, (hag c).2.1, (hag c).2.2.1, ha c, hw c, hx c, product]
      exact hdg_eq _ _ _ _ _ _ _ _ _
-- ==== Proof.QueryNormValue.lean ====
/- What the backward kernel of the queries' norm leaves in its result arrays. -/
module
public import proofs.«01_k».proof.Proof.Norm
public import proofs.«01_k».proof.Proof.Canon
public import proofs.«01_k».proof.Proof.Gen.QueryNormIdeal.Value
@[expose] public section
set_option maxRecDepth 16384
noncomputable section

namespace Cert.QueryNormIdeal.Hand

open Idealize.ShloMosaic Idealize.ShloMosaic.TcCoe Idealize.SL.Sem
open Idealize.ShloMosaic.Pipeline (Dat)
open Cert.QueryNormIdeal Cert.QueryNormIdeal.Gen Cert.Reals Cert.Norm Cert.Canon

section Body

variable (a : S1024x1024.Idx → ℝ) (w : S1024x1024.Idx → ℝ) (x d : S1024x1024.Idx → ℝ) (g acc : S1x1024.Idx → ℝ)

/-- The weight as the kernel's array holds it: one shard. -/
def whole (u : S1x1024x1024.Idx) : ℝ := w (ix2 (u 1) (u 2))

theorem product : (k0_pay3 (up a) (up (whole w)) : FVec Ideal S1024x1024 .f32) = up (arr (DH a w)) := by
  funext u
  idx_vars u
  unfold k0_pay3
  pointwise
  simp only [up, ← EReal.coe_mul, coe_sum]
  rfl

theorem roots : (k0_pay4 (up x) : FVec Ideal S1024x1 .f32) = up (arr (rs x)) :=
  krs_eq reduces_S1024x1024_S1024 shapeCasts_S1024_S1024x1 x

theorem hats : (k0_pay5 (up x) : FVec Ideal S1024x1024 .f32) = up (arr (xh x)) := by
  refine Eq.trans ?_ (kxh_eq broadcasts_S1024x1_S1024x1024 x)
  rw [← roots x]
  rfl

/-- The inputs' gradient. -/
theorem grads : (k0_pay7 (up a) (up (whole w)) (up x) (up g) (up d) : FVec Ideal S1024x1024 .f32)
    = up (arr fun i k => dx x g (arr (DH a w)) i k + d (ix2 i k)) := by
  have e : (k0_pay7 (up a) (up (whole w)) (up x) (up g) (up d) : FVec Ideal S1024x1024 .f32)
      = addf (kdx reduces_S1024x1024_S1024 shapeCasts_S1024_S1024x1 broadcasts_S1024x1_S1024x1024 broadcasts_S1x1024_S1024x1024 (k0_pay3 (up a) (up (whole w))) (up g)
        (k0_pay5 (up x)) (k0_pay4 (up x))) (up d) := rfl
  rw [e, hats, roots, product, kdx_eq]
  refine (add_up _ _).trans (congrArg up (funext fun u => ?_))
  obtain ⟨i, j, rfl⟩ := idx2 u
  rfl

/-- The gain's gradient, added to what was there. -/
theorem gains : (k0_pay1 (k0_pay6 (up a) (up (whole w)) (up x)) (up acc) : FVec Ideal S1x1024 .f32)
    = up fun y => acc y + ∑ i, dgr x (arr (DH a w)) i (y 1) := by
  funext u
  idx_vars u
  have e : (k0_pay1 (k0_pay6 (up a) (up (whole w)) (up x)) (up acc) : FVec Ideal S1x1024 .f32) (ix2 u0 u1)
      = acc (ix2 u0 u1) + kdg reduces_S1024x1024_S1024_2 (k0_pay3 (up a) (up (whole w))) (k0_pay5 (up x)) (ix1 u1) := by
    unfold k0_pay1 k0_pay6 kdg
    generalize k0_pay5 (F := Ideal) (up x) = q
    generalize k0_pay3 (F := Ideal) (up a) (up (whole w)) = p
    pointwise
  rw [e, hats, product, kdg_eq, ← EReal.coe_add]
  rfl

theorem fill : (k0_pay2 : FVec Ideal S1x1024 .f32) = up fun _ => 0 := by
  funext u
  unfold k0_pay2
  exact zero32

variable (c : Dev nD) (i : grid0.Coords) (arg1 : Memref sig .tc .vmem S1024x1024 .bf16) (harg1 : arg1.IsWhole) (arg2 : Memref sig .tc .vmem S1x1024x1024 .bf16)
  (harg2 : arg2.IsWhole) (arg3 : Memref sig .tc .vmem S1024x1024 .f32) (harg3 : arg3.IsWhole) (arg4 : Memref sig .tc .vmem S1x1024 .f32) (harg4 : arg4.IsWhole)
  (arg5 : Memref sig .tc .vmem S1024x1024 .f32) (harg5 : arg5.IsWhole) (arg6 : Memref sig .tc .vmem S1024x1024 .f32) (harg6 : arg6.IsWhole)
  (arg7 : Memref sig .tc .vmem S1x1024 .f32) (harg7 : arg7.IsWhole)

theorem out_A_5 (hc0 : cond0_0 i) (y : S1024x1024.Idx) :
    out0_A_5 (F := Ideal) c i arg1 harg1 arg2 harg2 arg3 harg3 arg4 harg4 arg5 harg5 arg6 harg6 arg7 harg7 hc0 (up a) (up (whole w)) (up x) (up g) (up d) y
      = up (arr fun i k => dx x g (arr (DH a w)) i k + d (ix2 i k)) y := by
  frame_out
  rw [grads]

theorem out_B_5 (hc0 : ¬cond0_0 i) (xo : Vec Ideal S1x1024 .f32) (y : S1024x1024.Idx) :
    out0_B_5 (F := Ideal) c i arg1 harg1 arg2 harg2 arg3 harg3 arg4 harg4 arg5 harg5 arg6 harg6 arg7 harg7 hc0 (up a) (up (whole w)) (up x) (up g) (up d) xo y
      = up (arr fun i k => dx x g (arr (DH a w)) i k + d (ix2 i k)) y := by
  frame_out
  rw [grads]

theorem out_A_6 (hc0 : cond0_0 i) (y : S1x1024.Idx) :
    out0_A_6 (F := Ideal) c i arg1 harg1 arg2 harg2 arg3 harg3 arg4 harg4 arg5 harg5 arg6 harg6 arg7 harg7 hc0 (up a) (up (whole w)) (up x) (up g) (up d) y
      = ((0 + ∑ i, dgr x (arr (DH a w)) i (y 1) : ℝ) : EReal) := by
  frame_out
  rw [fill]
  rw [gains]

theorem out_B_6 (hc0 : ¬cond0_0 i) (y : S1x1024.Idx) :
    out0_B_6 (F := Ideal) c i arg1 harg1 arg2 harg2 arg3 harg3 arg4 harg4 arg5 harg5 arg6 harg6 arg7 harg7 hc0 (up a) (up (whole w)) (up x) (up g) (up d) (up acc) y
      = ((acc y + ∑ i, dgr x (arr (DH a w)) i (y 1) : ℝ) : EReal) := by
  frame_out
  rw [gains]

end Body

theorem idx : ∀ t : Fin cfg0.N, win0_0.index t = ![t.val, 0] ∧ win0_1.index t = ![0, 0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

theorem tiles : 8192 = cfg0.N * 1024 := congrArg (· * 1024) N_0.symm

variable {m : (ℓ : Loc nD τ sig) → Buf (Elt Ideal) ℓ} {c : Dev nD} {a : S8192x1024.Idx → ℝ} {w : S1024x1024.Idx → ℝ} {x d : S8192x1024.Idx → ℝ} {g : S1x1024.Idx → ℝ}

theorem block_a (t : Fin cfg0.N) (h : m ((c : Thread nD τ).loc main_arg0) = up a) : (iblk m c 0 t : FVec Ideal S1024x1024 .bf16) = up (rows tiles a t) := by
  funext y
  have e : iblk m c 0 t y = m ((c : Thread nD τ).loc main_arg0) (ix2 (row tiles t (y 0)) (y 1)) := by
    have : (row tiles t (y 0)).val = t.val * 1024 + (y 0).val := rfl
    blk_ext [iblk, V, idx t]
  rw [e, h]; rfl

theorem block_w (t : Fin cfg0.N) (h : m ((c : Thread nD τ).loc main_arg1) = up w) : (iblk m c 1 t : FVec Ideal S1x1024x1024 .bf16) = up (whole w) := by
  funext y
  have e : iblk m c 1 t y = m ((c : Thread nD τ).loc main_arg1) (ix2 (y 1) (y 2)) := by
    idx_vars y
    blk_simp [iblk, idx t]
    entry_read
    pointwise
    blk_ext [idx t]
  rw [e, h]; rfl

theorem block_x (t : Fin cfg0.N) (h : m ((c : Thread nD τ).loc main_arg2) = up x) : (iblk m c 2 t : FVec Ideal S1024x1024 .f32) = up (rows tiles x t) := by
  funext y
  have e : iblk m c 2 t y = m ((c : Thread nD τ).loc main_arg2) (ix2 (row tiles t (y 0)) (y 1)) := by
    have : (row tiles t (y 0)).val = t.val * 1024 + (y 0).val := rfl
    blk_ext [iblk, V, idx t]
  rw [e, h]; rfl

theorem block_g (t : Fin cfg0.N) (h : m ((c : Thread nD τ).loc main_arg3) = up g) : (iblk m c 3 t : FVec Ideal S1x1024 .f32) = up g := by
  funext y
  have e : iblk m c 3 t y = m ((c : Thread nD τ).loc main_arg3) y := by blk_ext [iblk, V, idx t]
  rw [e, h]

theorem block_d (t : Fin cfg0.N) (h : m ((c : Thread nD τ).loc main_arg4) = up d) : (iblk m c 4 t : FVec Ideal S1024x1024 .f32) = up (rows tiles d t) := by
  funext y
  have e : iblk m c 4 t y = m ((c : Thread nD τ).loc main_arg4) (ix2 (row tiles t (y 0)) (y 1)) := by
    have : (row tiles t (y 0)).val = t.val * 1024 + (y 0).val := rfl
    blk_ext [iblk, V, idx t]
  rw [e, h]; rfl

variable (h0 : m ((c : Thread nD τ).loc main_arg0) = up a) (h1 : m ((c : Thread nD τ).loc main_arg1) = up w) (h2 : m ((c : Thread nD τ).loc main_arg2) = up x)
  (h3 : m ((c : Thread nD τ).loc main_arg3) = up g) (h4 : m ((c : Thread nD τ).loc main_arg4) = up d)

include h0 h1 h2 h3 h4

theorem at_5 (t : Fin cfg0.N) (y : S1024x1024.Idx) : (outsAt0 m c t.val t.isLt).1 y
    = up (arr fun i k => dx x g (arr (DH a w)) i k + d (ix2 i k)) (ix2 (row tiles t (y 0)) (y 1)) := by
  by_cases h : t.val % 8 = 0
  · rw [outsAt0_A m c t h]
    dsimp only
    rw [block_a t h0, block_w t h1, block_x t h2, block_g t h3, block_d t h4]
    exact out_A_5 (rows tiles a t) w (rows tiles x t) (rows tiles d t) g c (grid0.coords t) _ _ _ _ _ _ _ _ _ _ _ _ _ _ _ y
  · rw [outsAt0_B m c t h]
    dsimp only
    rw [block_a t h0, block_w t h1, block_x t h2, block_g t h3, block_d t h4]
    exact out_B_5 (rows tiles a t) w (rows tiles x t) (rows tiles d t) g c (grid0.coords t) _ _ _ _ _ _ _ _ _ _ _ _ _ _ _ _ y

/-- A tile's part of the gain's gradient. -/
def part (a : S8192x1024.Idx → ℝ) (w : S1024x1024.Idx → ℝ) (x : S8192x1024.Idx → ℝ) (k : Fin 1024) (t : Fin cfg0.N) : ℝ :=
  ∑ i : Fin 1024, dgr x (arr (DH a w)) (row tiles t i) k

theorem at_6 (n : Nat) (hn : n < cfg0.N) : (outsAt0 m c n hn).2 = up fun y => upto (part a w x (y 1)) n := by
  induction n with
  | zero =>
    funext y
    rw [show outsAt0 m c 0 hn = _ from outsAt0_A m c ⟨0, hn⟩ rfl]
    dsimp only
    rw [block_a ⟨0, hn⟩ h0, block_w ⟨0, hn⟩ h1, block_x ⟨0, hn⟩ h2, block_g ⟨0, hn⟩ h3, block_d ⟨0, hn⟩ h4]
    exact (out_A_6 (rows tiles a ⟨0, hn⟩) w (rows tiles x ⟨0, hn⟩) (rows tiles d ⟨0, hn⟩) g c (grid0.coords ⟨0, hn⟩) _ _ _ _ _ _ _ _ _ _ _ _ _ _ _ y).trans
      (congrArg Real.toEReal (upto_zero (part a w x (y 1)) hn).symm)
  | succ n ih =>
    funext y
    have hb : ¬ (n + 1) % 8 = 0 := by have : cfg0.N = 8 := N_0; omega
    rw [show outsAt0 m c (n + 1) hn = _ from outsAt0_B m c ⟨n + 1, hn⟩ hb]
    dsimp only
    rw [block_a ⟨n + 1, hn⟩ h0, block_w ⟨n + 1, hn⟩ h1, block_x ⟨n + 1, hn⟩ h2, block_g ⟨n + 1, hn⟩ h3, block_d ⟨n + 1, hn⟩ h4]
    rw [show (outsAt0 m c (n + 1 - 1) _).2 = _ from ih (by omega)]
    exact (out_B_6 (rows tiles a ⟨n + 1, hn⟩) w (rows tiles x ⟨n + 1, hn⟩) (rows tiles d ⟨n + 1, hn⟩) g _ c (grid0.coords ⟨n + 1, hn⟩) _ _ _ _ _ _ _ _ _ _ _ _ _ _ _ y).trans
      (congrArg Real.toEReal (upto_succ (part a w x (y 1)) n hn).symm)

theorem final_5 : (dats m 0 c).arrAt 5 (cfgs 0).N = up (arr fun i k => dx x g (arr (DH a w)) i k + d (ix2 i k)) := by
  refine (dats m 0 c).arrAt_eq_of_covers 5 _ (by decide +kernel) fun t _ y => ?_
  blk_simp
  rw [after0_5, at_5 h0 h1 h2 h3 h4]
  refine congrArg (up _) (?_ : ix2 (row tiles t (y 0)) (y 1) = _)
  have : (row tiles t (y 0)).val = t.val * 1024 + (y 0).val := rfl
  blk_ext [idx t]

/-- The point after which the gain's gradient is written out. -/
def last : Fin cfg0.N := ⟨7, by decide +kernel⟩

theorem final_6 : (dats m 0 c).arrAt 6 (cfgs 0).N = up (arr fun _ k => ∑ i, dgr x (arr (DH a w)) i k) := by
  refine (dats m 0 c).arrAt_eq_of_after_last 6 last (by decide +kernel) _ fun y => ?_
  blk_simp
  rw [after0_6, at_6 h0 h1 h2 h3 h4]
  exact congrArg Real.toEReal ((upto_last _ 7 N_0.symm).trans (sum_rows tiles fun i => dgr x (arr (DH a w)) i (y 1)))
-- ==== Proof.QueryNormClaim.lean ====
/- The claims about the gradient of the queries' norm. -/
module
public import proofs.«01_k».proof.Defs
public import proofs.«01_k».proof.Proof.QueryNormValue
public import proofs.«01_k».proof.Proof.Gen.Pre_query_norm_finite
public import proofs.«01_k».proof.Proof.Gen.QueryNorm.Frame
public import proofs.«01_k».proof.Proof.Gen.QueryNormRefIdeal.Run
@[expose] public section
set_option maxRecDepth 16384
noncomputable section

namespace Cert.QueryNormClaim

open Idealize.ShloMosaic Idealize.ShloMosaic.TcCoe Idealize.SL.Sem Cert.Reals Cert.Norm Cert.QueryNormRefIdeal Cert.QueryNormRefIdeal.Gen

/-- Every entry of the arrays is a real number where `query_norm_finite` holds. -/
theorem finite {a : FVec Ideal S8192x1024 .bf16} {w : FVec Ideal S1024x1024 .f32} {x : FVec Ideal S8192x1024 .f32} {g : FVec Ideal S1x1024 .f32}
    {d : FVec Ideal S8192x1024 .f32} (h : Cert.Pre_query_norm_finite.fn (F := Ideal) a w x g d = fun _ => 1#1) :
    (∃ r : S8192x1024.Idx → ℝ, a = up r) ∧ (∃ r : S1024x1024.Idx → ℝ, w = up r) ∧ (∃ r : S8192x1024.Idx → ℝ, x = up r)
      ∧ (∃ r : S1x1024.Idx → ℝ, g = up r) ∧ ∃ r : S8192x1024.Idx → ℝ, d = up r := by
  have h' := congrFun h ix0
  obtain ⟨h, h4⟩ := IntOp.andi_eq_one.1 h'
  obtain ⟨h, h3⟩ := IntOp.andi_eq_one.1 h
  obtain ⟨h, h2⟩ := IntOp.andi_eq_one.1 h
  obtain ⟨h0, h1⟩ := IntOp.andi_eq_one.1 h
  have inf : ∀ (s : Shape) (b) , ∀ i, (broadcastInDim s ![] b (constant (F := Ideal) Cert.Pre_query_norm_finite.S_ .f32 0x7F800000#32)) i = (⊤ : EReal) :=
    fun s b i => inf_lit
  exact ⟨real_of_all _ _ (inf _ _) _ _ _ _ h0, real_of_all _ _ (inf _ _) _ _ _ _ h1, real_of_all _ _ (inf _ _) _ _ _ _ h2,
    real_of_all _ _ (inf _ _) _ _ _ _ h3, real_of_all _ _ (inf _ _) _ _ _ _ h4⟩

theorem product (a : S8192x1024.Idx → ℝ) (w : S1024x1024.Idx → ℝ) :
    Host.dotGeneral (F := Ideal) (φ₁ := .f32) (φ₂ := .f32) dot_S8192x1024_S1024x1024_S8192x1024_1_1_0_0_n_n none (extf .f32 (up a : FVec Ideal S8192x1024 .bf16) bitsLt_bf16_f32) (up w : FVec Ideal S1024x1024 .f32)
      = up (arr (DH a w)) := by
  funext u
  idx_vars u
  pointwise
  simp only [up, ← EReal.coe_mul, coe_sum]
  rfl

theorem algebraic : Cert.algebraic_QueryNormIdeal_QueryNormRefIdeal_pre_query_norm_finite := fun m ρ m' ρ' hpre hag => by
  choose fa fw fx fg fd using fun c => finite (hpre c)
  choose a ha using fa
  choose w hw using fw
  choose x hx using fx
  choose g hg using fg
  choose d hd using fd
  refine ⟨fun c => up (arr fun i k => dx (x c) (g c) (arr (DH (a c) (w c))) i k + d c (ix2 i k)),
    fun c => up (arr fun _ k => ∑ i, dgr (x c) (arr (DH (a c) (w c))) i k), ?_, ?_⟩
  · refine (θ_run _ _ _).mono (fun r h c => ?_) (Cert.QueryNormIdeal.Value.run_blocks m ρ)
    exact ⟨(h c).1.trans (Cert.QueryNormIdeal.Hand.final_5 (ha c) (hw c) (hx c) (hg c) (hd c)),
      (h c).2.1.trans (Cert.QueryNormIdeal.Hand.final_6 (ha c) (hw c) (hx c) (hg c) (hd c)), (h c).2.2⟩
  · refine (θ_run _ _ _).mono (fun r h c => ?_) (Cert.QueryNormRefIdeal.Value.run m' ρ')
    refine ⟨(h c).1.trans ?_, (h c).2.1.trans ?_, (h c).2.2⟩
    · unfold Cert.QueryNormRefIdeal.Value.res_main_v37
      rw [(hag c).1, (hag c).2.1, (hag c).2.2.1, (hag c).2.2.2.1, (hag c).2.2.2.2, ha c, hw c, hx c, hg c, hd c, product]
      exact hdx'_eq _ _ _ _ _ _ _ _ bcast_S8192_S8192x1024_0 _ _ _ _
    · rw [(hag c).1, (hag c).2.1, (hag c).2.2.1, ha c, hw c, hx c, product]
      exact hdg_eq _ _ _ _ _ _ _ _ _
-- ==== Proof.MemoryNormValue.lean ====
/- What the backward kernel of the memories' norm leaves in its result arrays. -/
module
public import proofs.«01_k».proof.Proof.Norm
public import proofs.«01_k».proof.Proof.Canon
public import proofs.«01_k».proof.Proof.Gen.MemoryNormIdeal.Value
@[expose] public section
set_option maxRecDepth 16384
noncomputable section

namespace Cert.MemoryNormIdeal.Hand

open Idealize.ShloMosaic Idealize.ShloMosaic.TcCoe Idealize.SL.Sem
open Idealize.ShloMosaic.Pipeline (Dat)
open Cert.MemoryNormIdeal Cert.MemoryNormIdeal.Gen Cert.Reals Cert.Norm Cert.Canon

section Body

variable (a : S256x2048.Idx → ℝ) (w : S1024x2048.Idx → ℝ) (x d : S256x1024.Idx → ℝ) (g acc : S1x1024.Idx → ℝ)

/-- One product of the columns with a shard. -/
theorem product (b : S256x512.Idx → ℝ) (v : S1x1024x512.Idx → ℝ) :
    (matmul (F := Ideal) (φ₁ := .bf16) (φ₂ := .bf16) dot_S256x512_S1024x512_S256x1024_1_1_0_0_n_n none (shapeCast (α := EReal) S256x512 (up b) shapeCasts_S256x512_S256x512)
      (shapeCast (α := EReal) S1024x512 (up v) shapeCasts_S1x1024x512_S1024x512) (constant S256x1024 .f32 0x00000000#32) : FVec Ideal S256x1024 .f32)
      = up (arr fun i k => ∑ j : Fin 512, b (ix2 i j) * v (ix3 0 k j)) := by
  funext u
  idx_vars u
  pointwise
  simp only [up, ← EReal.coe_mul, coe_sum]
  rfl

/-- The product with the transposed weight, from the columns and shards loaded. -/
theorem products {b0 b1 b2 b3 : Vec Ideal S256x512 .bf16} {v0 v1 v2 v3 : Vec Ideal S1x1024x512 .bf16} (e0 : b0 = up (cols a 0 (by omega)))
    (f0 : v0 = up (shard w rfl 0 (by omega))) (e1 : b1 = up (cols a 512 (by omega))) (f1 : v1 = up (shard w rfl 1 (by omega)))
    (e2 : b2 = up (cols a 1024 (by omega))) (f2 : v2 = up (shard w rfl 2 (by omega))) (e3 : b3 = up (cols a 1536 (by omega)))
    (f3 : v3 = up (shard w rfl 3 (by omega))) : (k0_pay6 b0 v0 b1 v1 b2 v2 b3 v3 : FVec Ideal S256x1024 .f32) = up (arr (DH a w)) := by
  subst e0 e1 e2 e3 f0 f1 f2 f3
  unfold k0_pay6
  dsimp only
  rw [product, product, product, product]
  simp only [add_up]
  exact congrArg up (funext fun u => DH_shards a w rfl rfl _ 512 1024 1536 _ _ _ rfl rfl rfl (u 0) (u 1))

theorem roots : (k0_pay1 (k0_pay7 (up x)) : FVec Ideal S256x1 .f32) = up (arr (rs x)) :=
  krs_eq reduces_S256x1024_S256 shapeCasts_S256_S256x1 x

theorem hats : (k0_pay2 (up x) (k0_pay7 (up x)) : FVec Ideal S256x1024 .f32) = up (arr (xh x)) := by
  refine Eq.trans ?_ (kxh_eq broadcasts_S256x1_S256x1024 x)
  rw [← roots x]
  rfl

/-- The inputs' gradient. -/
theorem grads (dh : S256x1024.Idx → ℝ) : (k0_pay3 (up dh) (up x) (k0_pay7 (up x)) (up g) : FVec Ideal S256x1024 .f32) = up (arr (dx x g dh)) := by
  have e : (k0_pay3 (up dh) (up x) (k0_pay7 (up x)) (up g) : FVec Ideal S256x1024 .f32)
      = kdx reduces_S256x1024_S256 shapeCasts_S256_S256x1 broadcasts_S256x1_S256x1024 broadcasts_S1x1024_S256x1024 (up dh) (up g)
        (k0_pay2 (up x) (k0_pay7 (up x))) (k0_pay1 (k0_pay7 (up x))) := rfl
  rw [e, hats, roots, kdx_eq]

/-- The gain's gradient, added to what was there. -/
theorem gains (dh : S256x1024.Idx → ℝ) : (k0_pay4 (up dh) (up x) (k0_pay7 (up x)) (up acc) : FVec Ideal S1x1024 .f32)
    = up fun y => acc y + ∑ i, dgr x dh i (y 1) := by
  funext u
  idx_vars u
  have e : (k0_pay4 (up dh) (up x) (k0_pay7 (up x)) (up acc) : FVec Ideal S1x1024 .f32) (ix2 u0 u1)
      = acc (ix2 u0 u1) + kdg reduces_S256x1024_S1024 (up dh) (k0_pay2 (up x) (k0_pay7 (up x))) (ix1 u1) := by
    unfold k0_pay4 kdg
    generalize k0_pay2 (F := Ideal) (up x) (k0_pay7 (up x)) = q
    pointwise
  rw [e, hats, kdg_eq, ← EReal.coe_add]
  rfl

theorem fill : (k0_pay5 : FVec Ideal S1x1024 .f32) = up fun _ => 0 := by
  funext u
  unfold k0_pay5
  exact zero32

variable (c : Dev nD) (i : grid0.Coords) (arg1 : Memref sig .tc .vmem S256x2048 .bf16) (harg1 : arg1.IsWhole) (arg2 : Memref sig .tc .vmem S4x1024x512 .bf16)
  (harg2 : arg2.IsWhole) (arg3 : Memref sig .tc .vmem S256x1024 .f32) (harg3 : arg3.IsWhole) (arg4 : Memref sig .tc .vmem S1x1024 .f32) (harg4 : arg4.IsWhole)
  (arg5 : Memref sig .tc .vmem S256x1024 .f32) (harg5 : arg5.IsWhole) (arg6 : Memref sig .tc .vmem S1x1024 .f32) (harg6 : arg6.IsWhole)

theorem out_4 (hc0 : cond0_0 i) (y : S256x1024.Idx) :
    out0_A_4 (F := Ideal) c i arg1 harg1 arg2 harg2 arg3 harg3 arg4 harg4 arg5 harg5 arg6 harg6 hc0 (up a) (up (shards w rfl)) (up x) (up g) y
      = up (arr (dx x g (arr (DH a w)))) y := by
  frame_out
  refine (congrFun (congrArg (fun p => k0_pay3 (F := Ideal) p (up x) (k0_pay7 (up x)) (up g)) (products a w (ld_cols (e := .bf16) a 0 _ _) (ld_shard (e := .bf16) w _ 0 _ _) (ld_cols (e := .bf16) a 512 _ _) (ld_shard (e := .bf16) w _ 1 _ _) (ld_cols (e := .bf16) a 1024 _ _) (ld_shard (e := .bf16) w _ 2 _ _) (ld_cols (e := .bf16) a 1536 _ _) (ld_shard (e := .bf16) w _ 3 _ _))) y).trans ?_
  rw [grads]

theorem out_5 (hc0 : cond0_0 i) (y : S1x1024.Idx) :
    out0_A_5 (F := Ideal) c i arg1 harg1 arg2 harg2 arg3 harg3 arg4 harg4 arg5 harg5 arg6 harg6 hc0 (up a) (up (shards w rfl)) (up x) (up g) y
      = ((0 + ∑ i, dgr x (arr (DH a w)) i (y 1) : ℝ) : EReal) := by
  frame_out
  rw [fill]
  refine (congrFun (congrArg (fun p => k0_pay4 (F := Ideal) p (up x) (k0_pay7 (up x)) (up fun _ => 0)) (products a w (ld_cols (e := .bf16) a 0 _ _) (ld_shard (e := .bf16) w _ 0 _ _) (ld_cols (e := .bf16) a 512 _ _) (ld_shard (e := .bf16) w _ 1 _ _) (ld_cols (e := .bf16) a 1024 _ _) (ld_shard (e := .bf16) w _ 2 _ _) (ld_cols (e := .bf16) a 1536 _ _) (ld_shard (e := .bf16) w _ 3 _ _))) y).trans ?_
  rw [gains]

end Body

theorem idx : ∀ t : Fin cfg0.N, win0_0.index t = ![0, 0] ∧ win0_1.index t = ![0, 0, 0] ∧ win0_2.index t = ![0, 0] ∧ win0_3.index t = ![0, 0]
    ∧ win0_4.index t = ![0, 0] ∧ win0_5.index t = ![0, 0] :=
  (by decide +kernel : ∀ t : Fin grid0.N, _)

variable {m : (ℓ : Loc nD τ sig) → Buf (Elt Ideal) ℓ} {c : Dev nD} {a : S256x2048.Idx → ℝ} {w : S1024x2048.Idx → ℝ} {x : S256x1024.Idx → ℝ} {g : S1x1024.Idx → ℝ}

theorem block_a (t : Fin cfg0.N) (h : m ((c : Thread nD τ).loc main_arg0) = up a) : (iblk m c 0 t : FVec Ideal S256x2048 .bf16) = up a := by
  funext y
  have e : iblk m c 0 t y = m ((c : Thread nD τ).loc main_arg0) y := by
    blk_simp [iblk, idx t]
    entry_read
    pointwise
    blk_ext [idx t]
  rw [e, h]

theorem block_w (t : Fin cfg0.N) (h : m ((c : Thread nD τ).loc main_arg1) = up w) : (iblk m c 1 t : FVec Ideal S4x1024x512 .bf16) = up (shards w rfl) := by
  funext y
  have e : iblk m c 1 t y = m ((c : Thread nD τ).loc main_arg1) (ix2 (y 1) ⟨(y 0).val * 512 + (y 2).val, by have h0 : (y 0).val < 4 := (y 0).isLt; have h2 : (y 2).val < 512 := (y 2).isLt; omega⟩) := by
    idx_vars y
    blk_simp [iblk, idx t]
    entry_read
    pointwise
    blk_ext [idx t]
  rw [e, h]; rfl

theorem block_x (t : Fin cfg0.N) (h : m ((c : Thread nD τ).loc main_arg2) = up x) : (iblk m c 2 t : FVec Ideal S256x1024 .f32) = up x := by
  funext y
  have e : iblk m c 2 t y = m ((c : Thread nD τ).loc main_arg2) y := by blk_ext [iblk, V, idx t]
  rw [e, h]

theorem block_g (t : Fin cfg0.N) (h : m ((c : Thread nD τ).loc main_arg3) = up g) : (iblk m c 3 t : FVec Ideal S1x1024 .f32) = up g := by
  funext y
  have e : iblk m c 3 t y = m ((c : Thread nD τ).loc main_arg3) y := by blk_ext [iblk, V, idx t]
  rw [e, h]

variable (h0 : m ((c : Thread nD τ).loc main_arg0) = up a) (h1 : m ((c : Thread nD τ).loc main_arg1) = up w) (h2 : m ((c : Thread nD τ).loc main_arg2) = up x)
  (h3 : m ((c : Thread nD τ).loc main_arg3) = up g)

include h0 h1 h2 h3

theorem final_4 : (dats m 0 c).arrAt 4 (cfgs 0).N = up (arr (dx x g (arr (DH a w)))) := by
  refine (dats m 0 c).arrAt_eq_of_covers 4 _ (by decide +kernel) fun t _ y => ?_
  blk_simp
  rw [after0_4]
  unfold outsAt0
  dsimp only
  rw [block_a t h0, block_w t h1, block_x t h2, block_g t h3]
  refine (out_4 a w x g c (grid0.coords t) _ _ _ _ _ _ _ _ _ _ _ _ _ y).trans ?_
  refine congrArg (up _) (?_ : y = _)
  blk_ext [idx t]

theorem final_5 : (dats m 0 c).arrAt 5 (cfgs 0).N = up (arr fun _ k => ∑ i, dgr x (arr (DH a w)) i k) := by
  refine (dats m 0 c).arrAt_eq_of_covers 5 _ (by decide +kernel) fun t _ y => ?_
  blk_simp
  rw [after0_5]
  unfold outsAt0
  dsimp only
  rw [block_a t h0, block_w t h1, block_x t h2, block_g t h3]
  refine (out_5 a w x g c (grid0.coords t) _ _ _ _ _ _ _ _ _ _ _ _ _ y).trans ?_
  rw [zero_add]
  refine congrArg (up (arr fun _ k => ∑ i, dgr x (arr (DH a w)) i k)) (?_ : y = _)
  blk_ext [idx t]
-- ==== Proof.MemoryNormClaim.lean ====
/- The claims about the gradient of the memories' norm. -/
module
public import proofs.«01_k».proof.Defs
public import proofs.«01_k».proof.Proof.MemoryNormValue
public import proofs.«01_k».proof.Proof.Gen.Pre_memory_norm_finite
public import proofs.«01_k».proof.Proof.Gen.MemoryNorm.Frame
public import proofs.«01_k».proof.Proof.Gen.MemoryNormRefIdeal.Run
@[expose] public section
set_option maxRecDepth 16384
noncomputable section

namespace Cert.MemoryNormClaim

open Idealize.ShloMosaic Idealize.ShloMosaic.TcCoe Idealize.SL.Sem Cert.Reals Cert.Norm Cert.MemoryNormRefIdeal Cert.MemoryNormRefIdeal.Gen

/-- Every entry of the arrays is a real number where `memory_norm_finite` holds. -/
theorem finite {a : FVec Ideal S256x2048 .f32} {w : FVec Ideal S1024x2048 .f32} {x : FVec Ideal S256x1024 .f32} {g : FVec Ideal S1x1024 .f32}
    (h : Cert.Pre_memory_norm_finite.fn (F := Ideal) a w x g = fun _ => 1#1) :
    (∃ r : S256x2048.Idx → ℝ, a = up r) ∧ (∃ r : S1024x2048.Idx → ℝ, w = up r) ∧ (∃ r : S256x1024.Idx → ℝ, x = up r) ∧ ∃ r : S1x1024.Idx → ℝ, g = up r := by
  have h' := congrFun h ix0
  obtain ⟨h, h3⟩ := IntOp.andi_eq_one.1 h'
  obtain ⟨h, h2⟩ := IntOp.andi_eq_one.1 h
  obtain ⟨h0, h1⟩ := IntOp.andi_eq_one.1 h
  have inf : ∀ (s : Shape) (b) , ∀ i, (broadcastInDim s ![] b (constant (F := Ideal) Cert.Pre_memory_norm_finite.S_ .f32 0x7F800000#32)) i = (⊤ : EReal) :=
    fun s b i => inf_lit
  exact ⟨real_of_all _ _ (inf _ _) _ _ _ _ h0, real_of_all _ _ (inf _ _) _ _ _ _ h1, real_of_all _ _ (inf _ _) _ _ _ _ h2,
    real_of_all _ _ (inf _ _) _ _ _ _ h3⟩

theorem product (a : S256x2048.Idx → ℝ) (w : S1024x2048.Idx → ℝ) :
    Host.dotGeneral (F := Ideal) (φ₁ := .f32) (φ₂ := .f32) dot_S256x2048_S1024x2048_S256x1024_1_1_0_0_n_n none (up a : FVec Ideal S256x2048 .f32) (up w : FVec Ideal S1024x2048 .f32)
      = up (arr (DH a w)) := by
  funext u
  idx_vars u
  pointwise
  simp only [up, ← EReal.coe_mul, coe_sum]
  rfl

theorem algebraic : Cert.algebraic_MemoryNormIdeal_MemoryNormRefIdeal_pre_memory_norm_finite := fun m ρ m' ρ' hpre hag => by
  choose fa fw fx fg using fun c => finite (hpre c)
  choose a ha using fa
  choose w hw using fw
  choose x hx using fx
  choose g hg using fg
  refine ⟨fun c => up (arr (dx (x c) (g c) (arr (DH (a c) (w c))))), fun c => up (arr fun _ k => ∑ i, dgr (x c) (arr (DH (a c) (w c))) i k), ?_, ?_⟩
  · refine (θ_run _ _ _).mono (fun r h c => ?_) (Cert.MemoryNormIdeal.Value.run_blocks m ρ)
    exact ⟨(h c).1.trans (Cert.MemoryNormIdeal.Hand.final_4 (ha c) (hw c) (hx c) (hg c)),
      (h c).2.1.trans (Cert.MemoryNormIdeal.Hand.final_5 (ha c) (hw c) (hx c) (hg c)), (h c).2.2⟩
  · refine (θ_run _ _ _).mono (fun r h c => ?_) (Cert.MemoryNormRefIdeal.Value.run m' ρ')
    refine ⟨(h c).1.trans ?_, (h c).2.1.trans ?_, (h c).2.2⟩
    · rw [(hag c).1, (hag c).2.1, (hag c).2.2.1, (hag c).2.2.2, ha c, hw c, hx c, hg c, product]
      exact hdx_eq _ _ _ _ _ _ _ _ bcast_S256_S256x1024_0 _ _ _
    · rw [(hag c).1, (hag c).2.1, (hag c).2.2.1, ha c, hw c, hx c, product]
      exact hdg_eq _ _ _ _ _ _ _ _ _
-- ==== Proof.MixNormValue.lean ====
/- What the backward kernel of the first norm leaves in its result arrays. -/
module
public import proofs.«01_k».proof.Proof.Norm
public import proofs.«01_k».proof.Proof.Canon
public import proofs.«01_k».proof.Proof.Gen.MixNormIdeal.Value
@[expose] public section
set_option maxRecDepth 16384
noncomputable section

namespace Cert.MixNormIdeal.Hand

open Idealize.ShloMosaic Idealize.ShloMosaic.TcCoe Idealize.SL.Sem
open Idealize.ShloMosaic.Pipeline (Dat)
open Cert.MixNormIdeal Cert.MixNormIdeal.Gen Cert.Reals Cert.Norm Cert.Canon

section Body

variable (p : S512x1536.Idx → ℝ) (q : S512x1024.Idx → ℝ) (r : S512x2048.Idx → ℝ) (w : S1024x4608.Idx → ℝ) (x d : S512x1024.Idx → ℝ) (g acc : S1x1024.Idx → ℝ)

/-- The three cotangents side by side. -/
abbrev all (p : S512x1536.Idx → ℝ) (q : S512x1024.Idx → ℝ) (r : S512x2048.Idx → ℝ) : (⟨2, ![512, 4608]⟩ : Shape).Idx → ℝ := cat rfl p q r

theorem product1152 (b : S512x1152.Idx → ℝ) (v : S1x1024x1152.Idx → ℝ) :
    (matmul (F := Ideal) (φ₁ := .bf16) (φ₂ := .bf16) dot_S512x1152_S1024x1152_S512x1024_1_1_0_0_n_n none (up b)
      (shapeCast (α := EReal) S1024x1152 (up v) shapeCasts_S1x1024x1152_S1024x1152) (constant S512x1024 .f32 0x00000000#32) : FVec Ideal S512x1024 .f32)
      = up (arr fun i k => ∑ j : Fin 1152, b (ix2 i j) * v (ix3 0 k j)) := by
  funext u
  idx_vars u
  pointwise
  simp only [up, ← EReal.coe_mul, coe_sum]
  rfl

theorem product384 (b : S512x384.Idx → ℝ) (v : S1x1024x384.Idx → ℝ) :
    (matmul (F := Ideal) (φ₁ := .bf16) (φ₂ := .bf16) dot_S512x384_S1024x384_S512x1024_1_1_0_0_n_n none (up b)
      (shapeCast (α := EReal) S1024x384 (up v) shapeCasts_S1x1024x384_S1024x384) (constant S512x1024 .f32 0x00000000#32) : FVec Ideal S512x1024 .f32)
      = up (arr fun i k => ∑ j : Fin 384, b (ix2 i j) * v (ix3 0 k j)) := by
  funext u
  idx_vars u
  pointwise
  simp only [up, ← EReal.coe_mul, coe_sum]
  rfl

theorem product768 (b : S512x768.Idx → ℝ) (v : S1x1024x768.Idx → ℝ) :
    (matmul (F := Ideal) (φ₁ := .bf16) (φ₂ := .bf16) dot_S512x768_S1024x768_S512x1024_1_1_0_0_n_n none (up b)
      (shapeCast (α := EReal) S1024x768 (up v) shapeCasts_S1x1024x768_S1024x768) (constant S512x1024 .f32 0x00000000#32) : FVec Ideal S512x1024 .f32)
      = up (arr fun i k => ∑ j : Fin 768, b (ix2 i j) * v (ix3 0 k j)) := by
  funext u
  idx_vars u
  pointwise
  simp only [up, ← EReal.coe_mul, coe_sum]
  rfl

theorem product256 (b : S512x256.Idx → ℝ) (v : S1x1024x256.Idx → ℝ) :
    (matmul (F := Ideal) (φ₁ := .bf16) (φ₂ := .bf16) dot_S512x256_S1024x256_S512x1024_1_1_0_0_n_n none (up b)
      (shapeCast (α := EReal) S1024x256 (up v) shapeCasts_S1x1024x256_S1024x256) (constant S512x1024 .f32 0x00000000#32) : FVec Ideal S512x1024 .f32)
      = up (arr fun i k => ∑ j : Fin 256, b (ix2 i j) * v (ix3 0 k j)) := by
  funext u
  idx_vars u
  pointwise
  simp only [up, ← EReal.coe_mul, coe_sum]
  rfl

theorem product896 (b : S512x896.Idx → ℝ) (v : S1x1024x896.Idx → ℝ) :
    (matmul (F := Ideal) (φ₁ := .bf16) (φ₂ := .bf16) dot_S512x896_S1024x896_S512x1024_1_1_0_0_n_n none (up b)
      (shapeCast (α := EReal) S1024x896 (up v) shapeCasts_S1x1024x896_S1024x896) (constant S512x1024 .f32 0x00000000#32) : FVec Ideal S512x1024 .f32)
      = up (arr fun i k => ∑ j : Fin 896, b (ix2 i j) * v (ix3 0 k j)) := by
  funext u
  idx_vars u
  pointwise
  simp only [up, ← EReal.coe_mul, coe_sum]
  rfl

/-- The product with the transposed weight, from the columns and pieces loaded. -/
theorem products {b0 : Vec Ideal S512x1152 .bf16} {v0 : Vec Ideal S1x1024x1152 .bf16} {b1 : Vec Ideal S512x384 .bf16} {v1 : Vec Ideal S1x1024x384 .bf16} {b2 : Vec Ideal S512x768 .bf16} {v2 : Vec Ideal S1x1024x768 .bf16} {b3 : Vec Ideal S512x256 .bf16} {v3 : Vec Ideal S1x1024x256 .bf16} {b4 : Vec Ideal S512x896 .bf16} {v4 : Vec Ideal S1x1024x896 .bf16} {b5 : Vec Ideal S512x1152 .bf16} {v5 : Vec Ideal S1x1024x1152 .bf16}
    (e0 : b0 = up (cols p 0 (by omega))) (f0 : v0 = up (piece (e := 1152) (c := 1152) w rfl 0 (by omega) 0 (by omega))) (e1 : b1 = up (cols p 1152 (by omega))) (f1 : v1 = up (piece (e := 384) (c := 1152) w rfl 1 (by omega) 0 (by omega))) (e2 : b2 = up (cols q 0 (by omega))) (f2 : v2 = up (piece (e := 768) (c := 1152) w rfl 1 (by omega) 384 (by omega))) (e3 : b3 = up (cols q 768 (by omega))) (f3 : v3 = up (piece (e := 256) (c := 1152) w rfl 2 (by omega) 0 (by omega))) (e4 : b4 = up (cols r 0 (by omega))) (f4 : v4 = up (piece (e := 896) (c := 1152) w rfl 2 (by omega) 256 (by omega))) (e5 : b5 = up (cols r 896 (by omega))) (f5 : v5 = up (piece (e := 1152) (c := 1152) w rfl 3 (by omega) 0 (by omega))) : (k0_pay5 (k0_pay3 b0 v0 b1 v1 b2 v2 b3 v3) (k0_pay4 b4 v4) b5 v5 : FVec Ideal S512x1024 .f32) = up (arr (DH (all p q r) w)) := by
  subst e0 e1 e2 e3 e4 e5 f0 f1 f2 f3 f4 f5
  unfold k0_pay5 k0_pay3 k0_pay4
  dsimp only
  rw [product1152, product1152, product384, product768, product256, product896]
  simp only [add_up]
  refine congrArg up (funext fun u => ?_)
  obtain ⟨i, k, rfl⟩ := idx2 u
  show _ = DH (all p q r) w i k
  rw [DH, sum_six (a := 1152) (b := 384) (c := 768) (d := 256) (e := 896) (f := 1152) rfl]
  refine congrArg₂ (· + ·) (congrArg₂ (· + ·) (congrArg₂ (· + ·) (congrArg₂ (· + ·) (congrArg₂ (· + ·) ?_ ?_) ?_) ?_) ?_) ?_ <;> refine Finset.sum_congr rfl fun j _ => ?_
  · refine congrArg₂ (· * ·) (cat_1 rfl p q r i _ ⟨0 + j.val, by omega⟩ (by simp only [] <;> omega)).symm (congrArg w (congrArg (ix2 k) (Fin.ext (?_ : 0 * 1152 + (0 + j.val) = _))))
    simp only []
    omega
  · refine congrArg₂ (· * ·) (cat_1 rfl p q r i _ ⟨1152 + j.val, by omega⟩ (by simp only [] <;> omega)).symm (congrArg w (congrArg (ix2 k) (Fin.ext (?_ : 1 * 1152 + (0 + j.val) = _))))
    simp only []
    omega
  · refine congrArg₂ (· * ·) (cat_2 rfl p q r i _ ⟨0 + j.val, by omega⟩ (by simp only [] <;> omega)).symm (congrArg w (congrArg (ix2 k) (Fin.ext (?_ : 1 * 1152 + (384 + j.val) = _))))
    simp only []
    omega
  · refine congrArg₂ (· * ·) (cat_2 rfl p q r i _ ⟨768 + j.val, by omega⟩ (by simp only [] <;> omega)).symm (congrArg w (congrArg (ix2 k) (Fin.ext (?_ : 2 * 1152 + (0 + j.val) = _))))
    simp only []
    omega
  · refine congrArg₂ (· * ·) (cat_3 rfl p q r i _ ⟨0 + j.val, by omega⟩ (by simp only [] <;> omega)).symm (congrArg w (congrArg (ix2 k) (Fin.ext (?_ : 2 * 1152 + (256 + j.val) = _))))
    simp only []
    omega
  · refine congrArg₂ (· * ·) (cat_3 rfl p q r i _ ⟨896 + j.val, by omega⟩ (by simp only [] <;> omega)).symm (congrArg w (congrArg (ix2 k) (Fin.ext (?_ : 3 * 1152 + (0 + j.val) = _))))
    simp only []
    omega

theorem roots : (k0_pay6 (up x) : FVec Ideal S512x1 .f32) = up (arr (rs x)) := krs_eq reduces_S512x1024_S512 shapeCasts_S512_S512x1 x

theorem hats : (k0_pay7 (up x) : FVec Ideal S512x1024 .f32) = up (arr (xh x)) := by
  refine Eq.trans ?_ (kxh_eq broadcasts_S512x1_S512x1024 x)
  rw [← roots x]
  rfl

/-- The inputs' gradient. -/
theorem grads (a b : FVec Ideal S512x1024 .f32) (b5 : Vec Ideal S512x1152 .bf16) (v5 : Vec Ideal S1x1024x1152 .bf16) (dh : S512x1024.Idx → ℝ) (h : k0_pay5 a b b5 v5 = up dh) :
    (k0_pay8 a b b5 v5 (up x) (up g) (up d) : FVec Ideal S512x1024 .f32) = up (arr fun i k => dx x g dh i k + d (ix2 i k)) := by
  have e : (k0_pay8 a b b5 v5 (up x) (up g) (up d) : FVec Ideal S512x1024 .f32)
      = addf (kdx reduces_S512x1024_S512 shapeCasts_S512_S512x1 broadcasts_S512x1_S512x1024 broadcasts_S1x1024_S512x1024 (k0_pay5 a b b5 v5) (up g)
        (k0_pay7 (up x)) (k0_pay6 (up x))) (up d) := rfl
  rw [e, h, hats, roots, kdx_eq]
  refine (add_up _ _).trans (congrArg up (funext fun u => ?_))
  obtain ⟨i, j, rfl⟩ := idx2 u
  rfl

/-- The gain's gradient, added to what was there. -/
theorem gains (a b : FVec Ideal S512x1024 .f32) (b5 : Vec Ideal S512x1152 .bf16) (v5 : Vec Ideal S1x1024x1152 .bf16) (dh : S512x1024.Idx → ℝ) (h : k0_pay5 a b b5 v5 = up dh) :
    (k0_pay1 (k0_pay9 (up acc)) (k0_pay10 a b b5 v5 (up x)) : FVec Ideal S1x1024 .f32) = up fun y => acc y + ∑ i, dgr x dh i (y 1) := by
  funext u
  idx_vars u
  have e : (k0_pay1 (k0_pay9 (up acc)) (k0_pay10 a b b5 v5 (up x)) : FVec Ideal S1x1024 .f32) (ix2 u0 u1)
      = acc (ix2 u0 u1) + kdg reduces_S512x1024_S1024 (k0_pay5 a b b5 v5) (k0_pay7 (up x)) (ix1 u1) := by
    unfold k0_pay1 k0_pay9 k0_pay10 kdg
    generalize k0_pay7 (F := Ideal) (up x) = z
    generalize k0_pay5 (F := Ideal) a b b5 v5 = z'
    pointwise
  rw [e, h, hats, kdg_eq, ← EReal.coe_add]
  rfl

theorem fill : (k0_pay2 : FVec Ideal S1x1024 .f32) = up fun _ => 0 := by
  funext u
  unfold k0_pay2
  exact zero32

variable (c : Dev nD) (i : grid0.Coords) (arg1 : Memref sig .tc .vmem S512x1536 .bf16) (harg1 : arg1.IsWhole) (arg2 : Memref sig .tc .vmem S512x1024 .bf16) (harg2 : arg2.IsWhole)
  (arg3 : Memref sig .tc .vmem S512x2048 .bf16) (harg3 : arg3.IsWhole) (arg4 : Memref sig .tc .vmem S4x1024x1152 .bf16) (harg4 : arg4.IsWhole)
  (arg5 : Memref sig .tc .vmem S512x1024 .f32) (harg5 : arg5.IsWhole) (arg6 : Memref sig .tc .vmem S1x1024 .f32) (harg6 : arg6.IsWhole)
  (arg7 : Memref sig .tc .vmem S512x1024 .f32) (harg7 : arg7.IsWhole) (arg8 : Memref sig .tc .vmem S512x1024 .f32) (harg8 : arg8.IsWhole)
  (arg9 : Memref sig .tc .vmem S1x1024 .f32) (harg9 : arg9.IsWhole)

theorem out_A_7 (hc0 : cond0_0 i) (y : S512x1024.Idx) : out0_A_7 (F := Ideal) c i arg1 harg1 arg2 harg2 arg3 harg3 arg4 harg4 arg5 harg5 arg6 harg6 arg7 harg7 arg8 harg8 arg9 harg9 hc0 (up p) (up q) (up r) (up (shards w rfl)) (up x) (up g) (up d) y
    = up (arr fun i k => dx x g (arr (DH (all p q r) w)) i k + d (ix2 i k)) y := by
  frame_out
  rw [grads x d g _ _ _ _ _ (products p q r w (ld_cols (e := .bf16) p 0 _ _) (ld_piece (φ := .bf16) w _ 0 _ 0 _ _) (ld_cols (e := .bf16) p 1152 _ _) (ld_piece (φ := .bf16) w _ 1 _ 0 _ _) (ld_cols (e := .bf16) q 0 _ _) (ld_piece (φ := .bf16) w _ 1 _ 384 _ _) (ld_cols (e := .bf16) q 768 _ _) (ld_piece (φ := .bf16) w _ 2 _ 0 _ _) (ld_cols (e := .bf16) r 0 _ _) (ld_piece (φ := .bf16) w _ 2 _ 256 _ _) (ld_cols (e := .bf16) r 896 _ _) (ld_piece (φ := .bf16) w _ 3 _ 0 _ _))]

theorem out_B_7 (hc0 : ¬cond0_0 i) (xo : Vec Ideal S1x1024 .f32) (y : S512x1024.Idx) : out0_B_7 (F := Ideal) c i arg1 harg1 arg2 harg2 arg3 harg3 arg4 harg4 arg5 harg5 arg6 harg6 arg7 harg7 arg8 harg8 arg9 harg9 hc0 (up p) (up q) (up r) (up (shards w rfl)) (up x) (up g) (up d) xo y
    = up (arr fun i k => dx x g (arr (DH (all p q r) w)) i k + d (ix2 i k)) y := by
  frame_out
  rw [grads x d g _ _ _ _ _ (products p q r w (ld_cols (e := .bf16) p 0 _ _) (ld_piece (φ := .bf16) w _ 0 _ 0 _ _) (ld_cols (e := .bf16) p 1152 _ _) (ld_piece (φ := .bf16) w _ 1 _ 0 _ _) (ld_cols (e := .bf16) q 0 _ _) (ld_piece (φ := .bf16) w _ 1 _ 384 _ _) (ld_cols (e := .bf16) q 768 _ _) (ld_piece (φ := .bf16) w _ 2 _ 0 _ _) (ld_cols (e := .bf16) r 0 _ _) (ld_piece (φ := .bf16) w _ 2 _ 256 _ _) (ld_cols (e := .bf16) r 896 _ _) (ld_piece (φ := .bf16) w _ 3 _ 0 _ _))]

theorem out_A_8 (hc0 : cond0_0 i) (y : S1x1024.Idx) : out0_A_8 (F := Ideal) c i arg1 harg1 arg2 harg2 arg3 harg3 arg4 harg4 arg5 harg5 arg6 harg6 arg7 harg7 arg8 harg8 arg9 harg9 hc0 (up p) (up q) (up r) (up (shards w rfl)) (up x) (up g) (up d) y
    = ((0 + ∑ i, dgr x (arr (DH (all p q r) w)) i (y 1) : ℝ) : EReal) := by
  frame_out
  rw [fill, gains x _ _ _ _ _ _ (products p q r w (ld_cols (e := .bf16) p 0 _ _) (ld_piece (φ := .bf16) w _ 0 _ 0 _ _) (ld_cols (e := .bf16) p 1152 _ _) (ld_piece (φ := .bf16) w _ 1 _ 0 _ _) (ld_cols (e := .bf16) q 0 _ _) (ld_piece (φ := .bf16) w _ 1 _ 384 _ _) (ld_cols (e := .bf16) q 768 _ _) (ld_piece (φ := .bf16) w _ 2 _ 0 _ _) (ld_cols (e := .bf16) r 0 _ _) (ld_piece (φ := .bf16) w _ 2 _ 256 _ _) (ld_cols (e := .bf16) r 896 _ _) (ld_piece (φ := .bf16) w _ 3 _ 0 _ _))]

theorem out_B_8 (hc0 : ¬cond0_0 i) (y : S1x1024.Idx) : out0_B_8 (F := Ideal) c i arg1 harg1 arg2 harg2 arg3 harg3 arg4 harg4 arg5 harg5 arg6 harg6 arg7 harg7 arg8 harg8 arg9 harg9 hc0 (up p) (up q) (up r) (up (shards w rfl)) (up x) (up g) (up d) (up acc) y
    = ((acc y + ∑ i, dgr x (arr (DH (all p q r) w)) i (y 1) : ℝ) : EReal) := by
  frame_out
  rw [gains x _ _ _ _ _ _ (products p q r w (ld_cols (e := .bf16) p 0 _ _) (ld_piece (φ := .bf16) w _ 0 _ 0 _ _) (ld_cols (e := .bf16) p 1152 _ _) (ld_piece (φ := .bf16) w _ 1 _ 0 _ _) (ld_cols (e := .bf16) q 0 _ _) (ld_piece (φ := .bf16) w _ 1 _ 384 _ _) (ld_cols (e := .bf16) q 768 _ _) (ld_piece (φ := .bf16) w _ 2 _ 0 _ _) (ld_cols (e := .bf16) r 0 _ _) (ld_piece (φ := .bf16) w _ 2 _ 256 _ _) (ld_cols (e := .bf16) r 896 _ _) (ld_piece (φ := .bf16) w _ 3 _ 0 _ _))]

end Body

theorem idx : ∀ t : Fin cfg0.N, win0_0.index t = ![t.val, 0] ∧ win0_1.index t = ![t.val, 0] ∧ win0_2.index t = ![t.val, 0] ∧ win0_3.index t = ![0, 0, 0]
    ∧ win0_4.index t = ![t.val, 0] ∧ win0_5.index t = ![0, 0] ∧ win0_6.index t = ![t.val, 0] ∧ win0_7.index t = ![t.val, 0] ∧ win0_8.index t = ![0, 0] :=
  (by decide +kernel : ∀ t : Fin grid0.N, _)

theorem tiles : 8192 = cfg0.N * 512 := congrArg (· * 512) N_0.symm

variable {m : (ℓ : Loc nD τ sig) → Buf (Elt Ideal) ℓ} {c : Dev nD} {p : S8192x1536.Idx → ℝ} {q : S8192x1024.Idx → ℝ} {r : S8192x2048.Idx → ℝ}
  {w : S1024x4608.Idx → ℝ} {x d : S8192x1024.Idx → ℝ} {g : S1x1024.Idx → ℝ}

theorem block_p (t : Fin cfg0.N) (h : m ((c : Thread nD τ).loc main_arg0) = up p) : (iblk m c 0 t : FVec Ideal S512x1536 .bf16) = up (rows tiles p t) := by
  funext y
  have e : iblk m c 0 t y = m ((c : Thread nD τ).loc main_arg0) (ix2 (row tiles t (y 0)) (y 1)) := by
    have : (row tiles t (y 0)).val = t.val * 512 + (y 0).val := rfl
    blk_ext [iblk, V, idx t]
  rw [e, h]; rfl

theorem block_q (t : Fin cfg0.N) (h : m ((c : Thread nD τ).loc main_arg1) = up q) : (iblk m c 1 t : FVec Ideal S512x1024 .bf16) = up (rows tiles q t) := by
  funext y
  have e : iblk m c 1 t y = m ((c : Thread nD τ).loc main_arg1) (ix2 (row tiles t (y 0)) (y 1)) := by
    have : (row tiles t (y 0)).val = t.val * 512 + (y 0).val := rfl
    blk_ext [iblk, V, idx t]
  rw [e, h]; rfl

theorem block_r (t : Fin cfg0.N) (h : m ((c : Thread nD τ).loc main_arg2) = up r) : (iblk m c 2 t : FVec Ideal S512x2048 .bf16) = up (rows tiles r t) := by
  funext y
  have e : iblk m c 2 t y = m ((c : Thread nD τ).loc main_arg2) (ix2 (row tiles t (y 0)) (y 1)) := by
    have : (row tiles t (y 0)).val = t.val * 512 + (y 0).val := rfl
    blk_ext [iblk, V, idx t]
  rw [e, h]; rfl

theorem block_w (t : Fin cfg0.N) (h : m ((c : Thread nD τ).loc main_arg3) = up w) : (iblk m c 3 t : FVec Ideal S4x1024x1152 .bf16) = up (shards w rfl) := by
  funext y
  have e : iblk m c 3 t y = m ((c : Thread nD τ).loc main_arg3) (ix2 (y 1) ⟨(y 0).val * 1152 + (y 2).val, by have h0 : (y 0).val < 4 := (y 0).isLt; have h2 : (y 2).val < 1152 := (y 2).isLt; omega⟩) := by
    idx_vars y
    blk_simp [iblk, idx t]
    entry_read
    pointwise
    blk_ext [idx t]
  rw [e, h]; rfl

theorem block_x (t : Fin cfg0.N) (h : m ((c : Thread nD τ).loc main_arg4) = up x) : (iblk m c 4 t : FVec Ideal S512x1024 .f32) = up (rows tiles x t) := by
  funext y
  have e : iblk m c 4 t y = m ((c : Thread nD τ).loc main_arg4) (ix2 (row tiles t (y 0)) (y 1)) := by
    have : (row tiles t (y 0)).val = t.val * 512 + (y 0).val := rfl
    blk_ext [iblk, V, idx t]
  rw [e, h]; rfl

theorem block_g (t : Fin cfg0.N) (h : m ((c : Thread nD τ).loc main_arg5) = up g) : (iblk m c 5 t : FVec Ideal S1x1024 .f32) = up g := by
  funext y
  have e : iblk m c 5 t y = m ((c : Thread nD τ).loc main_arg5) y := by blk_ext [iblk, V, idx t]
  rw [e, h]

theorem block_d (t : Fin cfg0.N) (h : m ((c : Thread nD τ).loc main_arg6) = up d) : (iblk m c 6 t : FVec Ideal S512x1024 .f32) = up (rows tiles d t) := by
  funext y
  have e : iblk m c 6 t y = m ((c : Thread nD τ).loc main_arg6) (ix2 (row tiles t (y 0)) (y 1)) := by
    have : (row tiles t (y 0)).val = t.val * 512 + (y 0).val := rfl
    blk_ext [iblk, V, idx t]
  rw [e, h]; rfl

variable (h0 : m ((c : Thread nD τ).loc main_arg0) = up p) (h1 : m ((c : Thread nD τ).loc main_arg1) = up q) (h2 : m ((c : Thread nD τ).loc main_arg2) = up r)
  (h3 : m ((c : Thread nD τ).loc main_arg3) = up w) (h4 : m ((c : Thread nD τ).loc main_arg4) = up x) (h5 : m ((c : Thread nD τ).loc main_arg5) = up g)
  (h6 : m ((c : Thread nD τ).loc main_arg6) = up d)

/-- The three cotangents side by side. -/
abbrev whole (p : S8192x1536.Idx → ℝ) (q : S8192x1024.Idx → ℝ) (r : S8192x2048.Idx → ℝ) : (⟨2, ![8192, 4608]⟩ : Shape).Idx → ℝ := cat rfl p q r

include h0 h1 h2 h3 h4 h5 h6

theorem at_7 (t : Fin cfg0.N) (y : S512x1024.Idx) : (outsAt0 m c t.val t.isLt).1 y
    = up (arr fun i k => dx x g (arr (DH (whole p q r) w)) i k + d (ix2 i k)) (ix2 (row tiles t (y 0)) (y 1)) := by
  by_cases h : t.val % 16 = 0
  · rw [outsAt0_A m c t h]
    dsimp only
    rw [block_p t h0, block_q t h1, block_r t h2, block_w t h3, block_x t h4, block_g t h5, block_d t h6]
    exact out_A_7 (rows tiles p t) (rows tiles q t) (rows tiles r t) w (rows tiles x t) (rows tiles d t) g c (grid0.coords t) _ _ _ _ _ _ _ _ _ _ _ _ _ _ _ _ _ _ _ y
  · rw [outsAt0_B m c t h]
    dsimp only
    rw [block_p t h0, block_q t h1, block_r t h2, block_w t h3, block_x t h4, block_g t h5, block_d t h6]
    exact out_B_7 (rows tiles p t) (rows tiles q t) (rows tiles r t) w (rows tiles x t) (rows tiles d t) g c (grid0.coords t) _ _ _ _ _ _ _ _ _ _ _ _ _ _ _ _ _ _ _ _ y

/-- A tile's part of the gain's gradient. -/
def part (p : S8192x1536.Idx → ℝ) (q : S8192x1024.Idx → ℝ) (r : S8192x2048.Idx → ℝ) (w : S1024x4608.Idx → ℝ) (x : S8192x1024.Idx → ℝ) (k : Fin 1024) (t : Fin cfg0.N) : ℝ :=
  ∑ i : Fin 512, dgr x (arr (DH (whole p q r) w)) (row tiles t i) k

theorem at_8 (n : Nat) (hn : n < cfg0.N) : (outsAt0 m c n hn).2 = up fun y => upto (part p q r w x (y 1)) n := by
  induction n with
  | zero =>
    funext y
    rw [show outsAt0 m c 0 hn = _ from outsAt0_A m c ⟨0, hn⟩ rfl]
    dsimp only
    rw [block_p ⟨0, hn⟩ h0, block_q ⟨0, hn⟩ h1, block_r ⟨0, hn⟩ h2, block_w ⟨0, hn⟩ h3, block_x ⟨0, hn⟩ h4, block_g ⟨0, hn⟩ h5, block_d ⟨0, hn⟩ h6]
    exact (out_A_8 (rows tiles p ⟨0, hn⟩) (rows tiles q ⟨0, hn⟩) (rows tiles r ⟨0, hn⟩) w (rows tiles x ⟨0, hn⟩) (rows tiles d ⟨0, hn⟩) g c (grid0.coords ⟨0, hn⟩) _ _ _ _ _ _ _ _ _ _ _ _ _ _ _ _ _ _ _ y).trans
      (congrArg Real.toEReal (upto_zero (part p q r w x (y 1)) hn).symm)
  | succ n ih =>
    funext y
    have hb : ¬ (n + 1) % 16 = 0 := by have : cfg0.N = 16 := N_0; omega
    rw [show outsAt0 m c (n + 1) hn = _ from outsAt0_B m c ⟨n + 1, hn⟩ hb]
    dsimp only
    rw [block_p ⟨n + 1, hn⟩ h0, block_q ⟨n + 1, hn⟩ h1, block_r ⟨n + 1, hn⟩ h2, block_w ⟨n + 1, hn⟩ h3, block_x ⟨n + 1, hn⟩ h4, block_g ⟨n + 1, hn⟩ h5, block_d ⟨n + 1, hn⟩ h6]
    rw [show (outsAt0 m c (n + 1 - 1) _).2 = _ from ih (by omega)]
    exact (out_B_8 (rows tiles p ⟨n + 1, hn⟩) (rows tiles q ⟨n + 1, hn⟩) (rows tiles r ⟨n + 1, hn⟩) w (rows tiles x ⟨n + 1, hn⟩) (rows tiles d ⟨n + 1, hn⟩) g _ c (grid0.coords ⟨n + 1, hn⟩) _ _ _ _ _ _ _ _ _ _ _ _ _ _ _ _ _ _ _ y).trans
      (congrArg Real.toEReal (upto_succ (part p q r w x (y 1)) n hn).symm)

theorem final_7 : (dats m 0 c).arrAt 7 (cfgs 0).N = up (arr fun i k => dx x g (arr (DH (whole p q r) w)) i k + d (ix2 i k)) := by
  refine (dats m 0 c).arrAt_eq_of_covers 7 _ (by decide +kernel) fun t _ y => ?_
  blk_simp
  rw [after0_7, at_7 h0 h1 h2 h3 h4 h5 h6]
  refine congrArg (up _) (?_ : ix2 (row tiles t (y 0)) (y 1) = _)
  have : (row tiles t (y 0)).val = t.val * 512 + (y 0).val := rfl
  blk_ext [idx t]

/-- The point after which the gain's gradient is written out. -/
def last : Fin cfg0.N := ⟨15, by decide +kernel⟩

theorem final_8 : (dats m 0 c).arrAt 8 (cfgs 0).N = up (arr fun _ k => ∑ i, dgr x (arr (DH (whole p q r) w)) i k) := by
  refine (dats m 0 c).arrAt_eq_of_after_last 8 last (by decide +kernel) _ fun y => ?_
  blk_simp
  rw [after0_8, at_8 h0 h1 h2 h3 h4 h5 h6]
  exact congrArg Real.toEReal ((upto_last _ 15 N_0.symm).trans (sum_rows tiles fun i => dgr x (arr (DH (whole p q r) w)) i (y 1)))
-- ==== Proof.MixNormClaim.lean ====
/- The claims about the gradient of the first norm. -/
module
public import proofs.«01_k».proof.Defs
public import proofs.«01_k».proof.Proof.MixNormValue
public import proofs.«01_k».proof.Proof.Gen.Pre_mix_norm_finite
public import proofs.«01_k».proof.Proof.Gen.MixNorm.Frame
public import proofs.«01_k».proof.Proof.Gen.MixNormRefIdeal.Run
@[expose] public section
set_option maxRecDepth 16384
noncomputable section

namespace Cert.MixNormClaim

open Idealize.ShloMosaic Idealize.ShloMosaic.TcCoe Idealize.SL.Sem Cert.Reals Cert.Norm Cert.MixNormRefIdeal Cert.MixNormRefIdeal.Gen

/-- Every entry of the arrays is a real number where `mix_norm_finite` holds. -/
theorem finite {p : FVec Ideal S8192x1536 .bf16} {q : FVec Ideal S8192x1024 .bf16} {s : FVec Ideal S8192x2048 .bf16} {w : FVec Ideal S1024x4608 .f32}
    {x : FVec Ideal S8192x1024 .f32} {g : FVec Ideal S1x1024 .f32} {d : FVec Ideal S8192x1024 .f32}
    (h : Cert.Pre_mix_norm_finite.fn (F := Ideal) p q s w x g d = fun _ => 1#1) :
    (∃ r : S8192x1536.Idx → ℝ, p = up r) ∧ (∃ r : S8192x1024.Idx → ℝ, q = up r) ∧ (∃ r : S8192x2048.Idx → ℝ, s = up r)
      ∧ (∃ r : S1024x4608.Idx → ℝ, w = up r) ∧ (∃ r : S8192x1024.Idx → ℝ, x = up r) ∧ (∃ r : S1x1024.Idx → ℝ, g = up r)
      ∧ ∃ r : S8192x1024.Idx → ℝ, d = up r := by
  have h' := congrFun h ix0
  obtain ⟨h, h6⟩ := IntOp.andi_eq_one.1 h'
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  have inf : ∀ (s : Shape) (b) , ∀ i, (broadcastInDim s ![] b (constant (F := Ideal) Cert.Pre_mix_norm_finite.S_ .f32 0x7F800000#32)) i = (⊤ : EReal) :=
    fun s b i => inf_lit
  exact ⟨real_of_all _ _ (inf _ _) _ _ _ _ h0, real_of_all _ _ (inf _ _) _ _ _ _ h1, real_of_all _ _ (inf _ _) _ _ _ _ h2,
    real_of_all _ _ (inf _ _) _ _ _ _ h3, real_of_all _ _ (inf _ _) _ _ _ _ h4, real_of_all _ _ (inf _ _) _ _ _ _ h5,
    real_of_all _ _ (inf _ _) _ _ _ _ h6⟩

/-- The host's concatenation puts the three cotangents side by side. -/
theorem beside (p : S8192x1536.Idx → ℝ) (q : S8192x1024.Idx → ℝ) (r : S8192x2048.Idx → ℝ) :
    (concatenate S8192x4608 1 [⟨S8192x1536, (extf .f32 (up p : FVec Ideal S8192x1536 .bf16) bitsLt_bf16_f32 : FVec Ideal S8192x1536 .f32)⟩,
      ⟨S8192x1024, (extf .f32 (up q : FVec Ideal S8192x1024 .bf16) bitsLt_bf16_f32 : FVec Ideal S8192x1024 .f32)⟩,
      ⟨S8192x2048, (extf .f32 (up r : FVec Ideal S8192x2048 .bf16) bitsLt_bf16_f32 : FVec Ideal S8192x2048 .f32)⟩]
      concatenates_S8192x1536_S8192x1024_S8192x2048_S8192x4608_d1 : FVec Ideal S8192x4608 .f32) = up (cat rfl p q r) := by
  funext u
  obtain ⟨i, j, rfl⟩ := idx2 u
  have off : ∀ b : Fin 2, b ≠ 1 → b = 0 := by decide
  by_cases h1 : j.val < 1536
  · refine (concatenate_apply_piece (α := EReal) 1 _ _ (ix2 i j) 0 (Nat.lt_of_sub_eq_succ rfl) S8192x1536 _ rfl rfl 0 rfl (ix2 i ⟨j.val, h1⟩) (fun b hb => ?_) (Nat.zero_add _)).trans
      (congrArg (fun v : ℝ => (v : EReal)) (cat_1 rfl p q r i j ⟨j.val, h1⟩ rfl).symm)
    obtain rfl := off b hb
    rfl
  by_cases h2 : j.val < 2560
  · refine (concatenate_apply_piece (α := EReal) 1 _ _ (ix2 i j) 1 (Nat.lt_of_sub_eq_succ rfl) S8192x1024 _ rfl rfl 1536 rfl (ix2 i ⟨j.val - 1536, by omega⟩) (fun b hb => ?_)
      (Nat.add_sub_cancel' (by omega))).trans (congrArg (fun v : ℝ => (v : EReal)) (cat_2 rfl p q r i j ⟨j.val - 1536, by omega⟩ (by simp only []; omega)).symm)
    obtain rfl := off b hb
    rfl
  · refine (concatenate_apply_piece (α := EReal) 1 _ _ (ix2 i j) 2 (Nat.lt_of_sub_eq_succ rfl) S8192x2048 _ rfl rfl 2560 rfl (ix2 i ⟨j.val - 2560, by omega⟩) (fun b hb => ?_)
      (Nat.add_sub_cancel' (by omega))).trans (congrArg (fun v : ℝ => (v : EReal)) (cat_3 rfl p q r i j ⟨j.val - 2560, by omega⟩ (by simp only []; omega)).symm)
    obtain rfl := off b hb
    rfl

theorem product (a : S8192x4608.Idx → ℝ) (w : S1024x4608.Idx → ℝ) :
    Host.dotGeneral (F := Ideal) (φ₁ := .f32) (φ₂ := .f32) dot_S8192x4608_S1024x4608_S8192x1024_1_1_0_0_n_n none (up a : FVec Ideal S8192x4608 .f32) (up w : FVec Ideal S1024x4608 .f32)
      = up (arr (DH a w)) := by
  funext u
  idx_vars u
  pointwise
  simp only [up, ← EReal.coe_mul, coe_sum]
  rfl

theorem algebraic : Cert.algebraic_MixNormIdeal_MixNormRefIdeal_pre_mix_norm_finite := fun m ρ m' ρ' hpre hag => by
  choose fp fq fs fw fx fg fd using fun c => finite (hpre c)
  choose p hp using fp
  choose q hq using fq
  choose s hs using fs
  choose w hw using fw
  choose x hx using fx
  choose g hg using fg
  choose d hd using fd
  refine ⟨fun c => up (arr fun i k => dx (x c) (g c) (arr (DH (cat rfl (p c) (q c) (s c)) (w c))) i k + d c (ix2 i k)),
    fun c => up (arr fun _ k => ∑ i, dgr (x c) (arr (DH (cat rfl (p c) (q c) (s c)) (w c))) i k), ?_, ?_⟩
  · refine (θ_run _ _ _).mono (fun r h c => ?_) (Cert.MixNormIdeal.Value.run_blocks m ρ)
    exact ⟨(h c).1.trans (Cert.MixNormIdeal.Hand.final_7 (hp c) (hq c) (hs c) (hw c) (hx c) (hg c) (hd c)),
      (h c).2.1.trans (Cert.MixNormIdeal.Hand.final_8 (hp c) (hq c) (hs c) (hw c) (hx c) (hg c) (hd c)), (h c).2.2⟩
  · refine (θ_run _ _ _).mono (fun r h c => ?_) (Cert.MixNormRefIdeal.Value.run m' ρ')
    obtain ⟨a0, a1, a2, a3, a4, a5, a6⟩ := hag c
    refine ⟨(h c).1.trans ?_, (h c).2.1.trans ?_, (h c).2.2⟩
    · unfold Cert.MixNormRefIdeal.Value.res_main_v40
      rw [a0, a1, a2, a3, a4, a5, a6, hp c, hq c, hs c, hw c, hx c, hg c, hd c, beside, product]
      exact hdx'_eq _ _ _ _ _ _ _ _ bcast_S8192_S8192x1024_0 _ _ _ _
    · rw [a0, a1, a2, a3, a4, hp c, hq c, hs c, hw c, hx c, beside, product]
      exact hdg_eq _ _ _ _ _ _ _ _ _
-- ==== Proof.AttnBackFrame.lean ====
/-
The frame of the attention's backward call: it runs at every point of its grid, its arguments end as they began, and
every counter ends at zero. The kernel keeps the last five key tiles' sums in a ring whose slot is a point's number
modulo five; the ring's offsets are computed words, closed here.
-/
module
public import proofs.«01_k».proof.Defs
public import proofs.«01_k».proof.Proof.Gen.AttnBack.Frame
public import proofs.«01_k».proof.Proof.Gen.AttnBack.Skeleton
public import proofs.«01_k».proof.Proof.Gen.AttnBackIdeal
@[expose] public section
set_option maxRecDepth 16384
noncomputable section

namespace Cert.AttnBackFrame

open Cert.AttnBack Cert.AttnBack.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The slot of the ring the body computes from a point's number. -/
def slotOf (w : BitVec 32) : Nat :=
  let five : BitVec 32 := Scalar.select (Scalar.cmpi .eq 5#32 0#32) 1#32 5#32
  let r : BitVec 32 := Scalar.remsi w five
  let neg : BitVec 1 := Scalar.xori (Scalar.cmpi .slt r 0#32) (Scalar.cmpi .slt five 0#32)
  (Scalar.indexCast (Scalar.select (Scalar.andi neg (Scalar.cmpi .ne r 0#32)) (Scalar.addi r five) r)).toNat

theorem slot_here : ∀ n : Fin 68, slotOf (BitVec.ofNat 32 n.val) = n.val % 5 := by decide +kernel
theorem slot_next : ∀ n : Fin 68, slotOf (Scalar.addi (BitVec.ofNat 32 n.val) 1#32) = (n.val + 1) % 5 := by decide +kernel
theorem slot_key : ∀ (n : Fin 68) (r : Fin 5), slotOf (Scalar.addi (Scalar.addi (BitVec.ofNat 32 n.val) 1#32) (BitVec.ofNat 32 r.val)) = (n.val + 1 + r.val) % 5 := by decide +kernel

instance (i : grid0.Coords) : ClosedOff (k0_off1 i) := ⟨![(i 0).val % 5, 0, 0], congrArg (fun k => ![k, 0, 0]) (slot_here (i 0))⟩
instance (i : grid0.Coords) : ClosedOff (k0_off2 i 0#32) := ⟨![((i 0).val + 1 + 0) % 5, 0, 0], congrArg (fun k => ![k, 0, 0]) (slot_key (i 0) 0)⟩
instance (i : grid0.Coords) : ClosedOff (k0_off2 i 1#32) := ⟨![((i 0).val + 1 + 1) % 5, 0, 0], congrArg (fun k => ![k, 0, 0]) (slot_key (i 0) 1)⟩
instance (i : grid0.Coords) : ClosedOff (k0_off2 i 2#32) := ⟨![((i 0).val + 1 + 2) % 5, 0, 0], congrArg (fun k => ![k, 0, 0]) (slot_key (i 0) 2)⟩
instance (i : grid0.Coords) : ClosedOff (k0_off2 i 3#32) := ⟨![((i 0).val + 1 + 3) % 5, 0, 0], congrArg (fun k => ![k, 0, 0]) (slot_key (i 0) 3)⟩
instance (i : grid0.Coords) : ClosedOff (k0_off2 i 4#32) := ⟨![((i 0).val + 1 + 4) % 5, 0, 0], congrArg (fun k => ![k, 0, 0]) (slot_key (i 0) 4)⟩
instance (i : grid0.Coords) : ClosedOff (k0_off3 i) := ⟨![(i 0).val % 5, 0, 64], congrArg (fun k => ![k, 0, 64]) (slot_here (i 0))⟩
instance (i : grid0.Coords) : ClosedOff (k0_off4 i 0#32) := ⟨![((i 0).val + 1 + 0) % 5, 64, 0], congrArg (fun k => ![k, 64, 0]) (slot_key (i 0) 0)⟩
instance (i : grid0.Coords) : ClosedOff (k0_off4 i 1#32) := ⟨![((i 0).val + 1 + 1) % 5, 64, 0], congrArg (fun k => ![k, 64, 0]) (slot_key (i 0) 1)⟩
instance (i : grid0.Coords) : ClosedOff (k0_off4 i 2#32) := ⟨![((i 0).val + 1 + 2) % 5, 64, 0], congrArg (fun k => ![k, 64, 0]) (slot_key (i 0) 2)⟩
instance (i : grid0.Coords) : ClosedOff (k0_off4 i 3#32) := ⟨![((i 0).val + 1 + 3) % 5, 64, 0], congrArg (fun k => ![k, 64, 0]) (slot_key (i 0) 3)⟩
instance (i : grid0.Coords) : ClosedOff (k0_off4 i 4#32) := ⟨![((i 0).val + 1 + 4) % 5, 64, 0], congrArg (fun k => ![k, 64, 0]) (slot_key (i 0) 4)⟩
instance (i : grid0.Coords) : ClosedOff (k0_off5 i) := ⟨![(i 0).val % 5, 0, 128], congrArg (fun k => ![k, 0, 128]) (slot_here (i 0))⟩
instance (i : grid0.Coords) : ClosedOff (k0_off6 i 0#32) := ⟨![((i 0).val + 1 + 0) % 5, 128, 0], congrArg (fun k => ![k, 128, 0]) (slot_key (i 0) 0)⟩
instance (i : grid0.Coords) : ClosedOff (k0_off6 i 1#32) := ⟨![((i 0).val + 1 + 1) % 5, 128, 0], congrArg (fun k => ![k, 128, 0]) (slot_key (i 0) 1)⟩
instance (i : grid0.Coords) : ClosedOff (k0_off6 i 2#32) := ⟨![((i 0).val + 1 + 2) % 5, 128, 0], congrArg (fun k => ![k, 128, 0]) (slot_key (i 0) 2)⟩
instance (i : grid0.Coords) : ClosedOff (k0_off6 i 3#32) := ⟨![((i 0).val + 1 + 3) % 5, 128, 0], congrArg (fun k => ![k, 128, 0]) (slot_key (i 0) 3)⟩
instance (i : grid0.Coords) : ClosedOff (k0_off6 i 4#32) := ⟨![((i 0).val + 1 + 4) % 5, 128, 0], congrArg (fun k => ![k, 128, 0]) (slot_key (i 0) 4)⟩
instance (i : grid0.Coords) : ClosedOff (k0_off7 i) := ⟨![(i 0).val % 5, 0, 192], congrArg (fun k => ![k, 0, 192]) (slot_here (i 0))⟩
instance (i : grid0.Coords) : ClosedOff (k0_off8 i 0#32) := ⟨![((i 0).val + 1 + 0) % 5, 192, 0], congrArg (fun k => ![k, 192, 0]) (slot_key (i 0) 0)⟩
instance (i : grid0.Coords) : ClosedOff (k0_off8 i 1#32) := ⟨![((i 0).val + 1 + 1) % 5, 192, 0], congrArg (fun k => ![k, 192, 0]) (slot_key (i 0) 1)⟩
instance (i : grid0.Coords) : ClosedOff (k0_off8 i 2#32) := ⟨![((i 0).val + 1 + 2) % 5, 192, 0], congrArg (fun k => ![k, 192, 0]) (slot_key (i 0) 2)⟩
instance (i : grid0.Coords) : ClosedOff (k0_off8 i 3#32) := ⟨![((i 0).val + 1 + 3) % 5, 192, 0], congrArg (fun k => ![k, 192, 0]) (slot_key (i 0) 3)⟩
instance (i : grid0.Coords) : ClosedOff (k0_off8 i 4#32) := ⟨![((i 0).val + 1 + 4) % 5, 192, 0], congrArg (fun k => ![k, 192, 0]) (slot_key (i 0) 4)⟩
instance (i : grid0.Coords) : ClosedOff (k0_off9 i) := ⟨![(i 0).val % 5, 0, 256], congrArg (fun k => ![k, 0, 256]) (slot_here (i 0))⟩
instance (i : grid0.Coords) : ClosedOff (k0_off10 i 0#32) := ⟨![((i 0).val + 1 + 0) % 5, 256, 0], congrArg (fun k => ![k, 256, 0]) (slot_key (i 0) 0)⟩
instance (i : grid0.Coords) : ClosedOff (k0_off10 i 1#32) := ⟨![((i 0).val + 1 + 1) % 5, 256, 0], congrArg (fun k => ![k, 256, 0]) (slot_key (i 0) 1)⟩
instance (i : grid0.Coords) : ClosedOff (k0_off10 i 2#32) := ⟨![((i 0).val + 1 + 2) % 5, 256, 0], congrArg (fun k => ![k, 256, 0]) (slot_key (i 0) 2)⟩
instance (i : grid0.Coords) : ClosedOff (k0_off10 i 3#32) := ⟨![((i 0).val + 1 + 3) % 5, 256, 0], congrArg (fun k => ![k, 256, 0]) (slot_key (i 0) 3)⟩
instance (i : grid0.Coords) : ClosedOff (k0_off10 i 4#32) := ⟨![((i 0).val + 1 + 4) % 5, 256, 0], congrArg (fun k => ![k, 256, 0]) (slot_key (i 0) 4)⟩
instance (i : grid0.Coords) : ClosedOff (k0_off11 i) := ⟨![(i 0).val % 5, 0, 320], congrArg (fun k => ![k, 0, 320]) (slot_here (i 0))⟩
instance (i : grid0.Coords) : ClosedOff (k0_off12 i 0#32) := ⟨![((i 0).val + 1 + 0) % 5, 320, 0], congrArg (fun k => ![k, 320, 0]) (slot_key (i 0) 0)⟩
instance (i : grid0.Coords) : ClosedOff (k0_off12 i 1#32) := ⟨![((i 0).val + 1 + 1) % 5, 320, 0], congrArg (fun k => ![k, 320, 0]) (slot_key (i 0) 1)⟩
instance (i : grid0.Coords) : ClosedOff (k0_off12 i 2#32) := ⟨![((i 0).val + 1 + 2) % 5, 320, 0], congrArg (fun k => ![k, 320, 0]) (slot_key (i 0) 2)⟩
instance (i : grid0.Coords) : ClosedOff (k0_off12 i 3#32) := ⟨![((i 0).val + 1 + 3) % 5, 320, 0], congrArg (fun k => ![k, 320, 0]) (slot_key (i 0) 3)⟩
instance (i : grid0.Coords) : ClosedOff (k0_off12 i 4#32) := ⟨![((i 0).val + 1 + 4) % 5, 320, 0], congrArg (fun k => ![k, 320, 0]) (slot_key (i 0) 4)⟩
instance (i : grid0.Coords) : ClosedOff (k0_off13 i) := ⟨![(i 0).val % 5, 0, 384], congrArg (fun k => ![k, 0, 384]) (slot_here (i 0))⟩
instance (i : grid0.Coords) : ClosedOff (k0_off14 i 0#32) := ⟨![((i 0).val + 1 + 0) % 5, 384, 0], congrArg (fun k => ![k, 384, 0]) (slot_key (i 0) 0)⟩
instance (i : grid0.Coords) : ClosedOff (k0_off14 i 1#32) := ⟨![((i 0).val + 1 + 1) % 5, 384, 0], congrArg (fun k => ![k, 384, 0]) (slot_key (i 0) 1)⟩
instance (i : grid0.Coords) : ClosedOff (k0_off14 i 2#32) := ⟨![((i 0).val + 1 + 2) % 5, 384, 0], congrArg (fun k => ![k, 384, 0]) (slot_key (i 0) 2)⟩
instance (i : grid0.Coords) : ClosedOff (k0_off14 i 3#32) := ⟨![((i 0).val + 1 + 3) % 5, 384, 0], congrArg (fun k => ![k, 384, 0]) (slot_key (i 0) 3)⟩
instance (i : grid0.Coords) : ClosedOff (k0_off14 i 4#32) := ⟨![((i 0).val + 1 + 4) % 5, 384, 0], congrArg (fun k => ![k, 384, 0]) (slot_key (i 0) 4)⟩
instance (i : grid0.Coords) : ClosedOff (k0_off15 i) := ⟨![(i 0).val % 5, 0, 448], congrArg (fun k => ![k, 0, 448]) (slot_here (i 0))⟩
instance (i : grid0.Coords) : ClosedOff (k0_off16 i 0#32) := ⟨![((i 0).val + 1 + 0) % 5, 448, 0], congrArg (fun k => ![k, 448, 0]) (slot_key (i 0) 0)⟩
instance (i : grid0.Coords) : ClosedOff (k0_off16 i 1#32) := ⟨![((i 0).val + 1 + 1) % 5, 448, 0], congrArg (fun k => ![k, 448, 0]) (slot_key (i 0) 1)⟩
instance (i : grid0.Coords) : ClosedOff (k0_off16 i 2#32) := ⟨![((i 0).val + 1 + 2) % 5, 448, 0], congrArg (fun k => ![k, 448, 0]) (slot_key (i 0) 2)⟩
instance (i : grid0.Coords) : ClosedOff (k0_off16 i 3#32) := ⟨![((i 0).val + 1 + 3) % 5, 448, 0], congrArg (fun k => ![k, 448, 0]) (slot_key (i 0) 3)⟩
instance (i : grid0.Coords) : ClosedOff (k0_off16 i 4#32) := ⟨![((i 0).val + 1 + 4) % 5, 448, 0], congrArg (fun k => ![k, 448, 0]) (slot_key (i 0) 4)⟩
instance (i : grid0.Coords) : ClosedOff (k0_off17 i) := ⟨![((i 0).val + 1) % 5, 0, 0], congrArg (fun k => ![k, 0, 0]) (slot_next (i 0))⟩
instance (i : grid0.Coords) : ClosedOff (k0_off18 i) := ⟨![((i 0).val + 1) % 5, 0, 0], congrArg (fun k => ![k, 0, 0]) (slot_next (i 0))⟩
instance (i : grid0.Coords) : ClosedOff (k0_off19 i) := ⟨![((i 0).val + 1) % 5, 0, 0], congrArg (fun k => ![k, 0, 0]) (slot_next (i 0))⟩
instance (i : grid0.Coords) : ClosedOff (k0_off20 i) := ⟨![((i 0).val + 1) % 5, 0, 0], congrArg (fun k => ![k, 0, 0]) (slot_next (i 0))⟩

/-- The cases of the body: the first tile, the other tiles, and the points behind the last tile. -/
theorem branches (i : grid0.Coords) :
    k0_cond1 i = 1#1 ∧ k0_cond2 i = 1#1 ∧ ¬ k0_cond3 i = 1#1
      ∨ ¬ k0_cond1 i = 1#1 ∧ k0_cond2 i = 1#1 ∧ ¬ k0_cond3 i = 1#1
      ∨ ¬ k0_cond1 i = 1#1 ∧ ¬ k0_cond2 i = 1#1 ∧ k0_cond3 i = 1#1 :=
  (by decide +kernel : ∀ n : Fin 68,
    (Scalar.cmpi .ne (Scalar.extui (Scalar.cmpi .eq (BitVec.ofNat 32 n.val) 0#32) : BitVec 32) 0#32 = 1#1) ∧ (Scalar.cmpi .ne (Scalar.extui (Scalar.cmpi .slt (BitVec.ofNat 32 n.val) 64#32) : BitVec 32) 0#32 = 1#1) ∧ ¬ (Scalar.cmpi .ne (Scalar.extui (Scalar.cmpi .sge (BitVec.ofNat 32 n.val) 64#32) : BitVec 32) 0#32 = 1#1)
      ∨ ¬ (Scalar.cmpi .ne (Scalar.extui (Scalar.cmpi .eq (BitVec.ofNat 32 n.val) 0#32) : BitVec 32) 0#32 = 1#1) ∧ (Scalar.cmpi .ne (Scalar.extui (Scalar.cmpi .slt (BitVec.ofNat 32 n.val) 64#32) : BitVec 32) 0#32 = 1#1) ∧ ¬ (Scalar.cmpi .ne (Scalar.extui (Scalar.cmpi .sge (BitVec.ofNat 32 n.val) 64#32) : BitVec 32) 0#32 = 1#1)
      ∨ ¬ (Scalar.cmpi .ne (Scalar.extui (Scalar.cmpi .eq (BitVec.ofNat 32 n.val) 0#32) : BitVec 32) 0#32 = 1#1) ∧ ¬ (Scalar.cmpi .ne (Scalar.extui (Scalar.cmpi .slt (BitVec.ofNat 32 n.val) 64#32) : BitVec 32) 0#32 = 1#1) ∧ (Scalar.cmpi .ne (Scalar.extui (Scalar.cmpi .sge (BitVec.ofNat 32 n.val) 64#32) : BitVec 32) 0#32 = 1#1)) (i 0)

set_option maxHeartbeats 8000000 in
/-- The body at any point of the grid: what it reads it leaves, what it writes it leaves at some contents. -/
theorem run (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S128x512 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S128x512 .bf16) (harg11 : arg11.IsWhole) (arg12 : Memref sig .tc .vmem S128x512 .bf16) (harg12 : arg12.IsWhole) (arg13 : Memref sig .tc .vmem S128x512 .bf16) (harg13 : arg13.IsWhole) (arg14 : Memref sig .tc .vmem S128x8 .f32) (harg14 : arg14.IsWhole) (arg15 : Memref sig .tc .vmem S8x128x640 .f32) (harg15 : arg15.IsWhole) (arg16 : Memref sig .tc .vmem S128x1536 .bf16) (harg16 : arg16.IsWhole) (arg17 : Memref sig .tc .vmem S8x128x384 .f32) (harg17 : arg17.IsWhole) (arg18 : Memref sig .tc .vmem S5x512x128 .f32) (harg18 : arg18.IsWhole) (arg19 : Memref sig .tc .vmem S5x512x128 .f32) (harg19 : arg19.IsWhole) (arg20 : Memref sig .tc .vmem S5x128x512 .bf16) (harg20 : arg20.IsWhole)
    (x0 : Vec F S128x512 .bf16) (x1 : Vec F S128x512 .bf16) (x2 : Vec F S128x512 .bf16) (x3 : Vec F S128x512 .bf16) (x4 : Vec F S128x512 .bf16) (x5 : Vec F S128x512 .bf16) (x6 : Vec F S128x512 .bf16) (x7 : Vec F S128x512 .bf16) (x8 : Vec F S128x512 .bf16) (x9 : Vec F S128x512 .bf16) (x10 : Vec F S128x512 .bf16) (x11 : Vec F S128x512 .bf16) (x12 : Vec F S128x512 .bf16) (x13 : Vec F S128x8 .f32) (x14 : Vec F S8x128x640 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
    ⊢ wp frame (wpE (defs₀ (F := F)) Variants.none c none) Set.univ (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_attn_bwd_eq_skeleton]; unfold cc0_attn_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
  rcases branches i with ⟨hc0, hc1, hc2⟩ | ⟨hc0, hc1, hc2⟩ | ⟨hc0, hc1, hc2⟩
  all_goals
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    iexists _, _; isplitr; swap; · iexact H19
    ipureintro; rfl

variable (m : (ℓ : Loc nD τ sig) → Buf (Elt F) ℓ) (ρ : Dev nD → PrngReg)

/-- The output windows: nothing is said of what they hold. -/
def outs : Fin 17 → Bool := fun w => decide (15 ≤ w.val)

/-- What every window holds at a point: an input window its block, an output window anything. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, h⟩ => Pipeline.Dat.unnamed (cfg := cfg0) ⟨15, h⟩ t
    | ⟨16, h⟩ => Pipeline.Dat.unnamed (cfg := cfg0) ⟨16, h⟩ t
    | ⟨_ + 17, h⟩ => absurd h (Nat.not_lt.mpr (Nat.le_add_left _ _))
  Φ _ := Pipeline.ΦA spec0 c
  q w := Pipeline.shareOf spec0 w
  owed _ := 0

theorem data_A (c : Dev nD) (w : Fin cfg0.W) : (data m 0 c).A w = V m c (Pipeline.arrRef spec0 w) := by dsimp only [data]

/-- The scoped buffers beside the windows are the scratch, owned at some contents. -/
theorem inv_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- What the body is given at a point. -/
def Before (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d)) ∗ (∃ d, owns (c : Thread nD τ) (st0_1 t) fullShare ((data m 0 c).before 1 t d)) ∗ (∃ d, owns (c : Thread nD τ) (st0_2 t) fullShare ((data m 0 c).before 2 t d)) ∗ (∃ d, owns (c : Thread nD τ) (st0_3 t) fullShare ((data m 0 c).before 3 t d)) ∗ (∃ d, owns (c : Thread nD τ) (st0_4 t) fullShare ((data m 0 c).before 4 t d)) ∗ (∃ d, owns (c : Thread nD τ) (st0_5 t) fullShare ((data m 0 c).before 5 t d)) ∗ (∃ d, owns (c : Thread nD τ) (st0_6 t) fullShare ((data m 0 c).before 6 t d)) ∗ (∃ d, owns (c : Thread nD τ) (st0_7 t) fullShare ((data m 0 c).before 7 t d)) ∗ (∃ d, owns (c : Thread nD τ) (st0_8 t) fullShare ((data m 0 c).before 8 t d)) ∗ (∃ d, owns (c : Thread nD τ) (st0_9 t) fullShare ((data m 0 c).before 9 t d)) ∗ (∃ d, owns (c : Thread nD τ) (st0_10 t) fullShare ((data m 0 c).before 10 t d)) ∗ (∃ d, owns (c : Thread nD τ) (st0_11 t) fullShare ((data m 0 c).before 11 t d)) ∗ (∃ d, owns (c : Thread nD τ) (st0_12 t) fullShare ((data m 0 c).before 12 t d)) ∗ (∃ d, owns (c : Thread nD τ) (st0_13 t) fullShare ((data m 0 c).before 13 t d)) ∗ (∃ d, owns (c : Thread nD τ) (st0_14 t) fullShare ((data m 0 c).before 14 t d))
    ∗ (∃ d, owns (c : Thread nD τ) (st0_15 t) fullShare d) ∗ (∃ d, owns (c : Thread nD τ) (st0_16 t) fullShare d))

/-- What the body gives back at a point. -/
def After (c : Dev nD) (t : Fin cfg0.N) : sProp 𝕄 :=
  iprop((data m 0 c).Φ t.succ ∗ (data m 0 c).owesAt () t.succ
    ∗ owns (c : Thread nD τ) (st0_0 t) fullShare ((data m 0 c).after 0 t) ∗ owns (c : Thread nD τ) (st0_1 t) fullShare ((data m 0 c).after 1 t) ∗ owns (c : Thread nD τ) (st0_2 t) fullShare ((data m 0 c).after 2 t) ∗ owns (c : Thread nD τ) (st0_3 t) fullShare ((data m 0 c).after 3 t) ∗ owns (c : Thread nD τ) (st0_4 t) fullShare ((data m 0 c).after 4 t) ∗ owns (c : Thread nD τ) (st0_5 t) fullShare ((data m 0 c).after 5 t) ∗ owns (c : Thread nD τ) (st0_6 t) fullShare ((data m 0 c).after 6 t) ∗ owns (c : Thread nD τ) (st0_7 t) fullShare ((data m 0 c).after 7 t) ∗ owns (c : Thread nD τ) (st0_8 t) fullShare ((data m 0 c).after 8 t) ∗ owns (c : Thread nD τ) (st0_9 t) fullShare ((data m 0 c).after 9 t) ∗ owns (c : Thread nD τ) (st0_10 t) fullShare ((data m 0 c).after 10 t) ∗ owns (c : Thread nD τ) (st0_11 t) fullShare ((data m 0 c).after 11 t) ∗ owns (c : Thread nD τ) (st0_12 t) fullShare ((data m 0 c).after 12 t) ∗ owns (c : Thread nD τ) (st0_13 t) fullShare ((data m 0 c).after 13 t) ∗ owns (c : Thread nD τ) (st0_14 t) fullShare ((data m 0 c).after 14 t)
    ∗ (∃ d, owns (c : Thread nD τ) (st0_15 t) fullShare d) ∗ (∃ d, owns (c : Thread nD τ) (st0_16 t) fullShare d))

set_option maxHeartbeats 1600000 in
theorem body_sound (c : Dev nD) (t : Fin cfg0.N) :
    Before m c t ⊢ wp frame (wpE (defs₀ (F := F)) Variants.none c none) Set.univ (bodyAt0 t) (fun _ => After m c t) := by
  unfold Before After bodyAt0
  simp only [before0_0_of m (data m 0 c) (data_A m c 0) (fun _ => by dsimp only [data]), before0_1_of m (data m 0 c) (data_A m c 1) (fun _ => by dsimp only [data]), before0_2_of m (data m 0 c) (data_A m c 2) (fun _ => by dsimp only [data]), before0_3_of m (data m 0 c) (data_A m c 3) (fun _ => by dsimp only [data]), before0_4_of m (data m 0 c) (data_A m c 4) (fun _ => by dsimp only [data]), before0_5_of m (data m 0 c) (data_A m c 5) (fun _ => by dsimp only [data]), before0_6_of m (data m 0 c) (data_A m c 6) (fun _ => by dsimp only [data]), before0_7_of m (data m 0 c) (data_A m c 7) (fun _ => by dsimp only [data]), before0_8_of m (data m 0 c) (data_A m c 8) (fun _ => by dsimp only [data]), before0_9_of m (data m 0 c) (data_A m c 9) (fun _ => by dsimp only [data]), before0_10_of m (data m 0 c) (data_A m c 10) (fun _ => by dsimp only [data]), before0_11_of m (data m 0 c) (data_A m c 11) (fun _ => by dsimp only [data]), before0_12_of m (data m 0 c) (data_A m c 12) (fun _ => by dsimp only [data]), before0_13_of m (data m 0 c) (data_A m c 13) (fun _ => by dsimp only [data]), before0_14_of m (data m 0 c) (data_A m c 14) (fun _ => by dsimp only [data])]
  rw [show (data m 0 c).Φ t.succ = Pipeline.ΦA spec0 c from rfl, show (data m 0 c).Φ t.castSucc = Pipeline.ΦA spec0 c from rfl,
    show (data m 0 c).owesAt () t.succ = (data m 0 c).owesAt () t.castSucc from rfl, inv_eq,
    show (data m 0 c).after 0 t = iblk m c 0 t by dsimp only [data], show (data m 0 c).after 1 t = iblk m c 1 t by dsimp only [data], show (data m 0 c).after 2 t = iblk m c 2 t by dsimp only [data], show (data m 0 c).after 3 t = iblk m c 3 t by dsimp only [data], show (data m 0 c).after 4 t = iblk m c 4 t by dsimp only [data], show (data m 0 c).after 5 t = iblk m c 5 t by dsimp only [data], show (data m 0 c).after 6 t = iblk m c 6 t by dsimp only [data], show (data m 0 c).after 7 t = iblk m c 7 t by dsimp only [data], show (data m 0 c).after 8 t = iblk m c 8 t by dsimp only [data], show (data m 0 c).after 9 t = iblk m c 9 t by dsimp only [data], show (data m 0 c).after 10 t = iblk m c 10 t by dsimp only [data], show (data m 0 c).after 11 t = iblk m c 11 t by dsimp only [data], show (data m 0 c).after 12 t = iblk m c 12 t by dsimp only [data], show (data m 0 c).after 13 t = iblk m c 13 t by dsimp only [data], show (data m 0 c).after 14 t = iblk m c 14 t by dsimp only [data]]
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (run c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [S0]; · iexact S0
  isplitl [S1]; · iexact S1
  isplitl [S2]; · iexact S2
  iintro ⟨H0, H1, H2, H3, H4, H5, H6, H7, H8, H9, H10, H11, H12, H13, H14, H15, H16, S0, S1, S2⟩
  isplitl [S0 S1 S2 Hg]
  · isplitr [Hg]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem obligation (c : Dev nD) : BodyObligation (data (F := F) m 0 c) (defs₀ (F := F)) Variants.none () Set.univ outs := fun t => by
  rw [bigSep_W0, bigSep_W0, show defs₀ (F := F) .tc cfg0.body (cfg0.bodyArgs t (cfg0.slots t)) = bodyAt0 t by unfold defs₀; rw [Defs.onTc_tc]]
  exact triple_restated (body_sound m c t) rfl .rfl fun _ => .rfl

set_option backward.isDefEq.respectTransparency.types false in
theorem launched : θ_run defs (onTc (τ := τ) (main (F := F))) (s₀ m ρ) (fun r => (Pipeline.RDat.FramePost (cfgs 0) (fun c => (data m 0 c).toRForget outs) (V m)) r ∧ r.2.sem = fun _ => 0) :=
  Pipeline.θ_run_frame_forget_shared (Q' := _) cfgs (data m) (0 : Fin 1) launch₀0 defs₀ Variants.none outs m ρ main
    (hbody := fun c => (obligation m c).loose) (hq := fun _ _ _ => rfl)
    (howed := fun _ _ => rfl) (V := V m) (hmain := hmain m Variants.none) (hA := data_A m) (hΦ := fun _ _ => rfl)

/-- The arguments end unchanged and every counter ends at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      )
      ∧ r.2.sem = fun _ => 0) :=
  (θ_run defs _ _).mono (fun _ h => ⟨fun c => ⟨(Pipeline.RDat.FramePost.arr_in h.1 c 10 rfl).trans ((data_A m c 10).trans (V_main_arg0 m c)), (Pipeline.RDat.FramePost.arr_in h.1 c 11 rfl).trans ((data_A m c 11).trans (V_main_arg1 m c)), (Pipeline.RDat.FramePost.arr_in h.1 c 12 rfl).trans ((data_A m c 12).trans (V_main_arg2 m c)), (Pipeline.RDat.FramePost.arr_in h.1 c 13 rfl).trans ((data_A m c 13).trans (V_main_arg3 m c)), (Pipeline.RDat.FramePost.arr_in h.1 c 14 rfl).trans ((data_A m c 14).trans (V_main_arg4 m c))⟩, h.2⟩) (launched m ρ)

/-! ## The two frames

The program read at the reals is the same text, so the one run serves both. -/

theorem bits : quiescent_AttnBack := fun m g _ => kept m g

set_option backward.isDefEq.respectTransparency.types false in
theorem same_body : Cert.AttnBackIdeal.defs₀ (F := Ideal) = Cert.AttnBack.defs₀ (F := Ideal) := by
  unfold Cert.AttnBackIdeal.defs₀ Cert.AttnBack.defs₀
  refine congrArg Defs.onTc (funext fun l => ?_)
  match l with
  | ⟨0, _⟩ => exact funext fun ⟨t, s⟩ => rfl
  | ⟨_ + 1, h⟩ => exact absurd h (Nat.not_lt.2 (Nat.le_add_left _ _))

set_option backward.isDefEq.respectTransparency.types false in
theorem same_table : Cert.AttnBackIdeal.defs (F := Ideal) = Cert.AttnBack.defs (F := Ideal) :=
  congrArg (Pipeline.defs Cert.AttnBack.pcfgs) same_body

set_option backward.isDefEq.respectTransparency.types false in
set_option maxHeartbeats 4000000 in
theorem reals : quiescent_AttnBackIdeal := fun m g _ => by
  rw [same_table]
  exact kept (F := Ideal) m g
-- ==== Proof.GatingBackFrame.lean ====
/-
The frame of the gating's backward call: it runs at every point of its grid, its arguments end as they began, and every
counter ends at zero. The loop over the blocks of a tile is gone through by an invariant.
-/
module
public import proofs.«01_k».proof.Defs
public import proofs.«01_k».proof.Proof.Gen.GatingBack.Frame
public import proofs.«01_k».proof.Proof.Gen.GatingBack.Loops
public import proofs.«01_k».proof.Proof.Gen.GatingBackIdeal
@[expose] public section
set_option maxRecDepth 16384
noncomputable section

namespace Cert.GatingBackFrame

open Cert.GatingBack Cert.GatingBack.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
set_option warn.classDefReducibility false in
/-- The loop over the blocks of the tile: a trip only reads the tile, the tables and the normalised half, and leaves the
    output half, the scratch and the sums at some contents. -/
@[sl_loop] def loopInv (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S4x128x256 .bf16) (harg7 : arg7.IsWhole) (arg8 : Memref sig .tc .vmem S4x128x256 .bf16) (harg8 : arg8.IsWhole) (arg9 : Memref sig .tc .vmem S128x512 .f32) (harg9 : arg9.IsWhole) (arg10 : Memref sig .tc .vmem S4x128x256 .f32) (harg10 : arg10.IsWhole) (arg11 : Memref sig .tc .vmem S1024x1024 .bf16) (harg11 : arg11.IsWhole) (arg12 : Memref sig .tc .vmem S4x128x256 .f32) (harg12 : arg12.IsWhole) (arg13 : Memref sig .tc .vmem S128x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S4x256x128 .bf16) (harg20 : arg20.IsWhole) (arg21 : Memref sig .tc .vmem S4x256x128 .bf16) (harg21 : arg21.IsWhole) (arg22 : Memref sig .tc .vmem S4x128x256 .f32) (harg22 : arg22.IsWhole) (arg23 : Memref sig .tc .vmem S128x512 .f32) (harg23 : arg23.IsWhole) (arg24 : Memref sig .tc .vmem S128x512 .f32) (harg24 : arg24.IsWhole) (arg25 : Memref sig .tc .vmem S128x512 .f32) (harg25 : arg25.IsWhole) (v28 : FVec F S1024x512 .f32) (v42 : FVec F S1024x512 .f32) (f1 : Buf (Elt F) (arg1.view.loc (c : Thread nD τ))) (f3 : Buf (Elt F) (arg3.view.loc (c : Thread nD τ))) (f5 : Buf (Elt F) (arg5.view.loc (c : Thread nD τ))) (f7 : Buf (Elt F) (arg7.view.loc (c : Thread nD τ))) (f8 : Buf (Elt F) (arg8.view.loc (c : Thread nD τ))) (f9 : Buf (Elt F) (arg9.view.loc (c : Thread nD τ))) (f16 : Buf (Elt F) (arg16.view.loc (c : Thread nD τ))) (f18 : Buf (Elt F) (arg18.view.loc (c : Thread nD τ))) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v28 v42 where
  inv _ _ := iprop((arg1.view.loc (c : Thread nD τ) ↦[arg1.view.set]{fullShare} f1) ∗ (arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg16.view.loc (c : Thread nD τ) ↦[arg16.view.set]{fullShare} f16) ∗ (arg18.view.loc (c : Thread nD τ) ↦[arg18.view.set]{fullShare} f18) ∗ (∃ f11, arg11.view.loc (c : Thread nD τ) ↦[arg11.view.set]{fullShare} f11) ∗ (∃ f19, arg19.view.loc (c : Thread nD τ) ↦[arg19.view.set]{fullShare} f19) ∗ (∃ f20, arg20.view.loc (c : Thread nD τ) ↦[arg20.view.set]{fullShare} f20) ∗ (∃ f21, arg21.view.loc (c : Thread nD τ) ↦[arg21.view.set]{fullShare} f21) ∗ (∃ f22, arg22.view.loc (c : Thread nD τ) ↦[arg22.view.set]{fullShare} f22) ∗ (∃ f23, arg23.view.loc (c : Thread nD τ) ↦[arg23.view.set]{fullShare} f23) ∗ (∃ f24, arg24.view.loc (c : Thread nD τ) ↦[arg24.view.set]{fullShare} f24) ∗ (∃ f25, arg25.view.loc (c : Thread nD τ) ↦[arg25.view.set]{fullShare} f25))
  step k _ := by
    unfold k0_t1_body
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    iintro ⟨H1, H3, H5, H7, H8, H9, H16, H18, ⟨%g11, H11⟩, ⟨%g19, H19⟩, ⟨%g20, H20⟩, ⟨%g21, H21⟩, ⟨%g22, H22⟩, ⟨%g23, H23⟩, ⟨%g24, H24⟩, ⟨%g25, H25⟩⟩
    sl_exec
    sl_step
    isplitl [H1]; · iexact H1
    isplitl [H3]; · iexact H3
    isplitl [H5]; · iexact H5
    isplitl [H7]; · iexact H7
    isplitl [H8]; · iexact H8
    isplitl [H9]; · iexact H9
    isplitl [H16]; · iexact H16
    isplitl [H18]; · iexact H18
    isplitl [H11]; · iexists _; iexact H11
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iexists _; iexact H25

/-- The condition of the first branch: the grid is at its first point. -/
abbrev first (i : grid0.Coords) : BitVec 1 :=
  Scalar.cmpi .ne (Scalar.extui (Scalar.cmpi .eq (BitVec.ofNat 32 (i 0).val) 0#32) : BitVec 32) 0#32

/-- The cases of the body: the first tile, the last, and those between. -/
theorem branches (i : grid0.Coords) :
    first i = 1#1 ∧ ¬ k0_cond2 i = 1#1 ∨ ¬ first i = 1#1 ∧ ¬ k0_cond2 i = 1#1 ∨ ¬ first i = 1#1 ∧ k0_cond2 i = 1#1 :=
  (by decide +kernel : ∀ n : Fin 8,
    (Scalar.cmpi .ne (Scalar.extui (Scalar.cmpi .eq (BitVec.ofNat 32 n.val) 0#32) : BitVec 32) 0#32 = 1#1) ∧ ¬ (Scalar.cmpi .ne (Scalar.extui (Scalar.cmpi .eq (BitVec.ofNat 32 n.val) 7#32) : BitVec 32) 0#32 = 1#1)
      ∨ ¬ (Scalar.cmpi .ne (Scalar.extui (Scalar.cmpi .eq (BitVec.ofNat 32 n.val) 0#32) : BitVec 32) 0#32 = 1#1) ∧ ¬ (Scalar.cmpi .ne (Scalar.extui (Scalar.cmpi .eq (BitVec.ofNat 32 n.val) 7#32) : BitVec 32) 0#32 = 1#1)
      ∨ ¬ (Scalar.cmpi .ne (Scalar.extui (Scalar.cmpi .eq (BitVec.ofNat 32 n.val) 0#32) : BitVec 32) 0#32 = 1#1) ∧ (Scalar.cmpi .ne (Scalar.extui (Scalar.cmpi .eq (BitVec.ofNat 32 n.val) 7#32) : BitVec 32) 0#32 = 1#1)) (i 0)

set_option maxHeartbeats 8000000 in
/-- The body at any point of the grid: what it reads it leaves, what it writes it leaves at some contents. -/
theorem run (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S4x128x256 .bf16) (harg7 : arg7.IsWhole) (arg8 : Memref sig .tc .vmem S4x128x256 .bf16) (harg8 : arg8.IsWhole) (arg9 : Memref sig .tc .vmem S128x512 .f32) (harg9 : arg9.IsWhole) (arg10 : Memref sig .tc .vmem S4x128x256 .f32) (harg10 : arg10.IsWhole) (arg11 : Memref sig .tc .vmem S1024x1024 .bf16) (harg11 : arg11.IsWhole) (arg12 : Memref sig .tc .vmem S4x128x256 .f32) (harg12 : arg12.IsWhole) (arg13 : Memref sig .tc .vmem S128x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S4x256x128 .bf16) (harg20 : arg20.IsWhole) (arg21 : Memref sig .tc .vmem S4x256x128 .bf16) (harg21 : arg21.IsWhole) (arg22 : Memref sig .tc .vmem S4x128x256 .f32) (harg22 : arg22.IsWhole) (arg23 : Memref sig .tc .vmem S128x512 .f32) (harg23 : arg23.IsWhole) (arg24 : Memref sig .tc .vmem S128x512 .f32) (harg24 : arg24.IsWhole) (arg25 : Memref sig .tc .vmem S128x512 .f32) (harg25 : arg25.IsWhole)
    (x0 : Vec F S1024x512 .bf16) (x1 : Vec F S1024x512 .bf16) (x2 : Vec F S1024x512 .bf16) (x3 : Vec F S512x512 .bf16) (x4 : Vec F S1x512 .f32) (x5 : Vec F S1x512 .f32) (x6 : Vec F S4x128x256 .bf16) (x7 : Vec F S4x128x256 .bf16) (x8 : Vec F S128x512 .f32) (x9 : Vec F S4x128x256 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
    ⊢ wp frame (wpE (defs₀ (F := F)) Variants.none c none) Set.univ (cc0_sgu_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_sgu_bwd_eq_skeleton]; unfold cc0_sgu_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  rcases branches i with ⟨hc0, hc1⟩ | ⟨hc0, hc1⟩ | ⟨hc0, hc1⟩
  all_goals
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    iexists _, _; isplitr; swap; · iexact H24
    ipureintro; rfl

variable (m : (ℓ : Loc nD τ sig) → Buf (Elt F) ℓ) (ρ : Dev nD → PrngReg)

/-- The output windows: nothing is said of what they hold. -/
def outs : Fin 15 → Bool := fun w => decide (10 ≤ w.val)

/-- What every window holds at a point: an input window its block, an output window anything. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨_ + 15, h⟩ => absurd h (Nat.not_lt.mpr (Nat.le_add_left _ _))
  Φ _ := Pipeline.ΦA spec0 c
  q w := Pipeline.shareOf spec0 w
  owed _ := 0

theorem data_A (c : Dev nD) (w : Fin cfg0.W) : (data m 0 c).A w = V m c (Pipeline.arrRef spec0 w) := by dsimp only [data]

/-- The scoped buffers beside the windows are the scratch, owned at some contents. -/
theorem inv_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d)) ∗ (∃ r, prngReg c r)) := by
  unfold Pipeline.ΦA; rw [scopedRest0_eq]; simp only [owns_whole]; try rfl

/-- What the body is given at a point. -/
def Before (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d)) ∗ (∃ d, owns (c : Thread nD τ) (st0_1 t) fullShare ((data m 0 c).before 1 t d)) ∗ (∃ d, owns (c : Thread nD τ) (st0_2 t) fullShare ((data m 0 c).before 2 t d)) ∗ (∃ d, owns (c : Thread nD τ) (st0_3 t) fullShare ((data m 0 c).before 3 t d)) ∗ (∃ d, owns (c : Thread nD τ) (st0_4 t) fullShare ((data m 0 c).before 4 t d)) ∗ (∃ d, owns (c : Thread nD τ) (st0_5 t) fullShare ((data m 0 c).before 5 t d)) ∗ (∃ d, owns (c : Thread nD τ) (st0_6 t) fullShare ((data m 0 c).before 6 t d)) ∗ (∃ d, owns (c : Thread nD τ) (st0_7 t) fullShare ((data m 0 c).before 7 t d)) ∗ (∃ d, owns (c : Thread nD τ) (st0_8 t) fullShare ((data m 0 c).before 8 t d)) ∗ (∃ d, owns (c : Thread nD τ) (st0_9 t) fullShare ((data m 0 c).before 9 t d))
    ∗ (∃ d, owns (c : Thread nD τ) (st0_10 t) fullShare d) ∗ (∃ d, owns (c : Thread nD τ) (st0_11 t) fullShare d) ∗ (∃ d, owns (c : Thread nD τ) (st0_12 t) fullShare d) ∗ (∃ d, owns (c : Thread nD τ) (st0_13 t) fullShare d) ∗ (∃ d, owns (c : Thread nD τ) (st0_14 t) fullShare d))

/-- What the body gives back at a point. -/
def After (c : Dev nD) (t : Fin cfg0.N) : sProp 𝕄 :=
  iprop((data m 0 c).Φ t.succ ∗ (data m 0 c).owesAt () t.succ
    ∗ owns (c : Thread nD τ) (st0_0 t) fullShare ((data m 0 c).after 0 t) ∗ owns (c : Thread nD τ) (st0_1 t) fullShare ((data m 0 c).after 1 t) ∗ owns (c : Thread nD τ) (st0_2 t) fullShare ((data m 0 c).after 2 t) ∗ owns (c : Thread nD τ) (st0_3 t) fullShare ((data m 0 c).after 3 t) ∗ owns (c : Thread nD τ) (st0_4 t) fullShare ((data m 0 c).after 4 t) ∗ owns (c : Thread nD τ) (st0_5 t) fullShare ((data m 0 c).after 5 t) ∗ owns (c : Thread nD τ) (st0_6 t) fullShare ((data m 0 c).after 6 t) ∗ owns (c : Thread nD τ) (st0_7 t) fullShare ((data m 0 c).after 7 t) ∗ owns (c : Thread nD τ) (st0_8 t) fullShare ((data m 0 c).after 8 t) ∗ owns (c : Thread nD τ) (st0_9 t) fullShare ((data m 0 c).after 9 t)
    ∗ (∃ d, owns (c : Thread nD τ) (st0_10 t) fullShare d) ∗ (∃ d, owns (c : Thread nD τ) (st0_11 t) fullShare d) ∗ (∃ d, owns (c : Thread nD τ) (st0_12 t) fullShare d) ∗ (∃ d, owns (c : Thread nD τ) (st0_13 t) fullShare d) ∗ (∃ d, owns (c : Thread nD τ) (st0_14 t) fullShare d))

set_option maxHeartbeats 1600000 in
theorem body_sound (c : Dev nD) (t : Fin cfg0.N) :
    Before m c t ⊢ wp frame (wpE (defs₀ (F := F)) Variants.none c none) Set.univ (bodyAt0 t) (fun _ => After m c t) := by
  unfold Before After bodyAt0
  simp only [before0_0_of m (data m 0 c) (data_A m c 0) (fun _ => by dsimp only [data]), before0_1_of m (data m 0 c) (data_A m c 1) (fun _ => by dsimp only [data]), before0_2_of m (data m 0 c) (data_A m c 2) (fun _ => by dsimp only [data]), before0_3_of m (data m 0 c) (data_A m c 3) (fun _ => by dsimp only [data]), before0_4_of m (data m 0 c) (data_A m c 4) (fun _ => by dsimp only [data]), before0_5_of m (data m 0 c) (data_A m c 5) (fun _ => by dsimp only [data]), before0_6_of m (data m 0 c) (data_A m c 6) (fun _ => by dsimp only [data]), before0_7_of m (data m 0 c) (data_A m c 7) (fun _ => by dsimp only [data]), before0_8_of m (data m 0 c) (data_A m c 8) (fun _ => by dsimp only [data]), before0_9_of m (data m 0 c) (data_A m c 9) (fun _ => by dsimp only [data])]
  rw [show (data m 0 c).Φ t.succ = Pipeline.ΦA spec0 c from rfl, show (data m 0 c).Φ t.castSucc = Pipeline.ΦA spec0 c from rfl,
    show (data m 0 c).owesAt () t.succ = (data m 0 c).owesAt () t.castSucc from rfl, inv_eq,
    show (data m 0 c).after 0 t = iblk m c 0 t by dsimp only [data], show (data m 0 c).after 1 t = iblk m c 1 t by dsimp only [data], show (data m 0 c).after 2 t = iblk m c 2 t by dsimp only [data], show (data m 0 c).after 3 t = iblk m c 3 t by dsimp only [data], show (data m 0 c).after 4 t = iblk m c 4 t by dsimp only [data], show (data m 0 c).after 5 t = iblk m c 5 t by dsimp only [data], show (data m 0 c).after 6 t = iblk m c 6 t by dsimp only [data], show (data m 0 c).after 7 t = iblk m c 7 t by dsimp only [data], show (data m 0 c).after 8 t = iblk m c 8 t by dsimp only [data], show (data m 0 c).after 9 t = iblk m c 9 t by dsimp only [data]]
  iintro ⟨⟨⟨S0, S1, S2, S3, S4, S5, S6, S7, S8, S9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (run c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iintro ⟨H0, H1, H2, H3, H4, H5, H6, H7, H8, H9, H10, H11, H12, H13, H14, S0, S1, S2, S3, S4, S5, S6, S7, S8, S9⟩
  isplitl [S0 S1 S2 S3 S4 S5 S6 S7 S8 S9 Hg]
  · isplitr [Hg]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem obligation (c : Dev nD) : BodyObligation (data (F := F) m 0 c) (defs₀ (F := F)) Variants.none () Set.univ outs := fun t => by
  rw [bigSep_W0, bigSep_W0, show defs₀ (F := F) .tc cfg0.body (cfg0.bodyArgs t (cfg0.slots t)) = bodyAt0 t by unfold defs₀; rw [Defs.onTc_tc]]
  exact triple_restated (body_sound m c t) rfl .rfl fun _ => .rfl

set_option backward.isDefEq.respectTransparency.types false in
theorem launched : θ_run defs (onTc (τ := τ) (main (F := F))) (s₀ m ρ) (fun r => (Pipeline.RDat.FramePost (cfgs 0) (fun c => (data m 0 c).toRForget outs) (V m)) r ∧ r.2.sem = fun _ => 0) :=
  Pipeline.θ_run_frame_forget_shared (Q' := _) cfgs (data m) (0 : Fin 1) launch₀0 defs₀ Variants.none outs m ρ main
    (hbody := fun c => (obligation m c).loose) (hq := fun _ _ _ => rfl)
    (howed := fun _ _ => rfl) (V := V m) (hmain := hmain m Variants.none) (hA := data_A m) (hΦ := fun _ _ => rfl)

/-- The arguments end unchanged and every counter ends at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      )
      ∧ r.2.sem = fun _ => 0) :=
  (θ_run defs _ _).mono (fun _ h => ⟨fun c => ⟨(Pipeline.RDat.FramePost.arr_in h.1 c 1 rfl).trans ((data_A m c 1).trans (V_main_arg0 m c)), (Pipeline.RDat.FramePost.arr_in h.1 c 2 rfl).trans ((data_A m c 2).trans (V_main_arg1 m c)), (Pipeline.RDat.FramePost.arr_in h.1 c 3 rfl).trans ((data_A m c 3).trans (V_main_arg2 m c)), (Pipeline.RDat.FramePost.arr_in h.1 c 4 rfl).trans ((data_A m c 4).trans (V_main_arg3 m c)), (Pipeline.RDat.FramePost.arr_in h.1 c 5 rfl).trans ((data_A m c 5).trans (V_main_arg4 m c)), (Pipeline.RDat.FramePost.arr_in h.1 c 6 rfl).trans ((data_A m c 6).trans (V_main_arg5 m c)), (Pipeline.RDat.FramePost.arr_in h.1 c 7 rfl).trans ((data_A m c 7).trans (V_main_arg6 m c)), (Pipeline.RDat.FramePost.arr_in h.1 c 8 rfl).trans ((data_A m c 8).trans (V_main_arg7 m c)), (Pipeline.RDat.FramePost.arr_in h.1 c 9 rfl).trans ((data_A m c 9).trans (V_main_arg8 m c))⟩, h.2⟩) (launched m ρ)

/-! ## The two frames

The program read at the reals is the same text, so the one run serves both. -/

theorem bits : quiescent_GatingBack := fun m g _ => kept m g

set_option backward.isDefEq.respectTransparency.types false in
theorem same_body : Cert.GatingBackIdeal.defs₀ (F := Ideal) = Cert.GatingBack.defs₀ (F := Ideal) := by
  unfold Cert.GatingBackIdeal.defs₀ Cert.GatingBack.defs₀
  refine congrArg Defs.onTc (funext fun l => ?_)
  match l with
  | ⟨0, _⟩ => exact funext fun ⟨t, s⟩ => rfl
  | ⟨_ + 1, h⟩ => exact absurd h (Nat.not_lt.2 (Nat.le_add_left _ _))

set_option backward.isDefEq.respectTransparency.types false in
theorem same_table : Cert.GatingBackIdeal.defs (F := Ideal) = Cert.GatingBack.defs (F := Ideal) :=
  congrArg (Pipeline.defs Cert.GatingBack.pcfgs) same_body

set_option backward.isDefEq.respectTransparency.types false in
set_option maxHeartbeats 4000000 in
theorem reals : quiescent_GatingBackIdeal := fun m g _ => by
  rw [same_table]
  exact kept (F := Ideal) m g
-- ==== Proof.AttnSpec.lean ====
/- Attention over a band of keys, over the real numbers: a row's exponentials summed over the keys it may see, the
   output, the logarithm of the sum; and the extended-real terms that compute them from scores masked by minus infinity. -/
module
public import proofs.«01_k».proof.Proof.Softmax
@[expose] public section
set_option maxRecDepth 16384
noncomputable section

namespace Cert.AttnSpec

open Idealize.ShloMosaic Cert.Reals Cert.Softmax

section Row

variable {ι : Type*} [Fintype ι] (P : ι → Prop) [DecidablePred P] (f : ι → ℝ)

/-- The score at `j`: minus infinity where `P` does not hold. -/
def ms (j : ι) : EReal := if P j then (f j : EReal) else ⊥

/-- The exponential of the score at `j`. -/
def wt (j : ι) : ℝ := if P j then Real.exp (f j) else 0

/-- The largest masked score is a real number, where `P` holds somewhere. -/
theorem ms_max (h : ∃ j, P j) : ∃ r : ℝ, Finset.univ.fold max (⊥ : EReal) (ms P f) = (r : EReal) := by
  classical
  obtain ⟨j, hj⟩ := h
  obtain ⟨r, hr⟩ := real_max (Finset.univ.filter P) ⟨j, Finset.mem_filter.2 ⟨Finset.mem_univ _, hj⟩⟩ f
  refine ⟨r, ?_⟩
  have sup (s : Finset ι) (g : ι → EReal) : s.fold max ⊥ g = s.sup g := rfl
  rw [sup] at hr ⊢
  rw [← hr]
  refine le_antisymm (Finset.sup_le fun i _ => ?_) (Finset.sup_le fun i hi => ?_)
  · unfold ms; split
    · rename_i hi
      exact Finset.le_sup (f := fun i => (f i : EReal)) (Finset.mem_filter.2 ⟨Finset.mem_univ _, hi⟩)
    · exact bot_le
  · have e : ms P f i = (f i : EReal) := if_pos (Finset.mem_filter.1 hi).2
    exact e ▸ Finset.le_sup (f := ms P f) (Finset.mem_univ i)

theorem ms_exp (r : ℝ) (j : ι) : Ideal.exp (ms P f j - (r : EReal)) = ((wt P f j / Real.exp r : ℝ) : EReal) := by
  unfold ms wt
  split
  · rw [← EReal.coe_sub, Ideal.exp_coe, Real.exp_sub]
  · rw [EReal.bot_sub, Ideal.exp_bot, zero_div, EReal.coe_zero]

theorem wt_nonneg (j : ι) : 0 ≤ wt P f j := by
  unfold wt; split
  · exact (Real.exp_pos _).le
  · exact le_rfl

theorem wt_pos (h : ∃ j, P j) : 0 < ∑ j, wt P f j := by
  obtain ⟨j, hj⟩ := h
  refine Finset.sum_pos' (fun j _ => wt_nonneg P f j) ⟨j, Finset.mem_univ _, ?_⟩
  unfold wt; rw [if_pos hj]; exact Real.exp_pos _

theorem wt_shifted (r : ℝ) : ∑ j, wt P f j / Real.exp r = (∑ j, wt P f j) / Real.exp r := (Finset.sum_div _ _ _).symm

theorem out_shifted (r : ℝ) (v : ι → ℝ) :
    (∑ j, wt P f j / Real.exp r * v j) / ((∑ j, wt P f j) / Real.exp r) = (∑ j, wt P f j * v j) / ∑ j, wt P f j := by
  rw [show ∑ j, wt P f j / Real.exp r * v j = (∑ j, wt P f j * v j) / Real.exp r by
    rw [Finset.sum_div]; exact Finset.sum_congr rfl fun j _ => by ring]
  exact div_div_div_cancel_right₀ (Real.exp_pos r).ne' _ _

theorem lse_shifted (h : ∃ j, P j) (r : ℝ) : r + Real.log ((∑ j, wt P f j) / Real.exp r) = Real.log (∑ j, wt P f j) := by
  rw [Real.log_div (wt_pos P f h).ne' (Real.exp_pos r).ne', Real.log_exp]
  ring

/-- A sum over the window's places that satisfy `P` is the sum over all keys that satisfy `Q`, where `k` carries the
    first one to one onto the second. -/
theorem sum_window {κ : Type*} [Fintype κ] (Q : κ → Prop) [DecidablePred Q] (F : κ → ℝ) (G : ι → ℝ) (k : ι → κ)
    (h1 : ∀ m, P m → Q (k m)) (h2 : ∀ m m', P m → P m' → k m = k m' → m = m') (h3 : ∀ j, Q j → ∃ m, P m ∧ k m = j)
    (h4 : ∀ m, P m → G m = F (k m)) :
    ∑ m, (if P m then G m else 0) = ∑ j, (if Q j then F j else 0) := by
  classical
  rw [← Finset.sum_filter, ← Finset.sum_filter]
  refine Finset.sum_bij (fun m _ => k m) (fun m hm => ?_) (fun m hm m' hm' e => ?_) (fun j hj => ?_) (fun m hm => ?_)
  · exact Finset.mem_filter.2 ⟨Finset.mem_univ _, h1 m (Finset.mem_filter.1 hm).2⟩
  · exact h2 m m' (Finset.mem_filter.1 hm).2 (Finset.mem_filter.1 hm').2 e
  · obtain ⟨m, hm, e⟩ := h3 j (Finset.mem_filter.1 hj).2
    exact ⟨m, Finset.mem_filter.2 ⟨Finset.mem_univ _, hm⟩, e⟩
  · exact h4 m (Finset.mem_filter.1 hm).2

end Row

section Band

variable (z : (⟨2, ![8192, 4608]⟩ : Shape).Idx → ℝ) (rb : (⟨2, ![8, 257]⟩ : Shape).Idx → ℝ)

/-- Row `i` sees key `j`: its chunk of 64 rows and the eight before it. -/
def sees (i j : ℕ) : Prop := j / 64 ≤ i / 64 ∧ i / 64 ≤ j / 64 + 8

instance (i j : ℕ) : Decidable (sees i j) := inferInstanceAs (Decidable (_ ∧ _))

/-- The bias of row `i` at key `j`, a distance clipped to 128. -/
def dist (i j : ℕ) : Fin 257 := ⟨min (i + 128 - j) 256, by omega⟩

/-- The score of head `h`: query row `i` against key row `j`, and the bias. -/
def sc (h : Fin 8) (i j : Fin 8192) : ℝ :=
  (∑ d : Fin 64, z (ix2 i ⟨h.val * 64 + d.val, by omega⟩) * (1 / 8) * z (ix2 j ⟨512 + h.val * 64 + d.val, by omega⟩))
    + rb (ix2 h (dist i.val j.val))

/-- A row's exponentials. -/
def ww (h : Fin 8) (i : Fin 8192) : Fin 8192 → ℝ := wt (fun j => sees i.val j.val) (sc z rb h i)

/-- The output of head `h`. -/
def oo (h : Fin 8) (i : Fin 8192) (d : Fin 64) : ℝ :=
  (∑ j : Fin 8192, ww z rb h i j * z (ix2 j ⟨1024 + h.val * 64 + d.val, by omega⟩)) / ∑ j : Fin 8192, ww z rb h i j

/-- The logarithm of a row's sum. -/
def ll (h : Fin 8) (i : Fin 8192) : ℝ := Real.log (∑ j : Fin 8192, ww z rb h i j)

/-- The output array: the heads side by side. -/
def YY : (⟨2, ![8192, 512]⟩ : Shape).Idx → ℝ :=
  arr fun i j => oo z rb ⟨j.val / 64, by omega⟩ i ⟨j.val % 64, by omega⟩

/-- The array of the rows' logarithms, a head a column. -/
def LL : (⟨2, ![8192, 8]⟩ : Shape).Idx → ℝ := arr fun i h => ll z rb h i

theorem sees_self (i : ℕ) : sees i i := ⟨le_rfl, by omega⟩

theorem YY_at (h : Fin 8) (i : Fin 8192) (d : Fin 64) (j : Fin 512) (hj : j.val = h.val * 64 + d.val) :
    YY z rb (ix2 i j) = oo z rb h i d := by
  obtain ⟨h, hh⟩ := h
  obtain ⟨d, hd⟩ := d
  show oo z rb ⟨j.val / 64, _⟩ i ⟨j.val % 64, _⟩ = _
  congr 1
  · exact Fin.ext (by simp only at hj ⊢; omega)
  · exact Fin.ext (by simp only at hj ⊢; omega)
-- ==== Proof.AttnKern.lean ====
/- The attention kernel's point, head by head: the scores a head stores and reads back, and the arrays it stores of them. -/
module
public import proofs.«01_k».proof.Proof.AttnSpec
public import proofs.«01_k».proof.Proof.Gen.AttnIdeal.Value
public import Idealize.ShloMosaic.Lib.Pipeline.ValueKit
public import Idealize.ShloMosaic.Lib.Pipeline.ReadBack
@[expose] public section
set_option maxRecDepth 16384
noncomputable section

namespace Cert.AttnIdeal.Hand

open Idealize.ShloMosaic Idealize.ShloMosaic.TcCoe Idealize.SL.Sem
open Cert.AttnIdeal Cert.AttnIdeal.Gen Cert.Reals

theorem slot_inb (h : Fin 8) : ∀ a, (![h.val, 0, 0] : Fin 3 → ℕ) a + S1x128x640.size a ≤ S8x128x640.size a := by
  revert h; decide

/-- Head `h`'s slot of a buffer of eight arrays. -/
abbrev slot (h : Fin 8) : Rect S8x128x640 := Rect.unit ![h.val, 0, 0] S1x128x640.size (slot_inb h)

theorem slot_disj : ∀ g h : Fin 8, g ≠ h → LoadRect.disj (slot g) (slot h).toLoadRect = true := by decide +kernel

/-- A slot read back after each was written once. -/
theorem slot_read {e : EltTy} (v : View sig .tc .vmem S8x128x640 e) (f : Fin 8 → S1x128x640.Idx → Elt Ideal e) (h : Fin 8) :
    v.readCov (Val := Elt Ideal) [⟨slot 7, f 7⟩, ⟨slot 6, f 6⟩, ⟨slot 5, f 5⟩, ⟨slot 4, f 4⟩, ⟨slot 3, f 3⟩, ⟨slot 2, f 2⟩, ⟨slot 1, f 1⟩, ⟨slot 0, f 0⟩]
      (slot h).toLoadRect = f h := by
  have skip (g : Fin 8) (w : S1x128x640.Idx → Elt Ideal e) (L : List (View.Piece (Elt Ideal) S8x128x640 e)) (hg : g ≠ h) :=
    View.readCov_skip v (slot g) w L (slot h).toLoadRect (slot_disj g h hg)
  by_cases h7 : h = 7
  · subst h7; exact View.readCov_cons_toLoadRect v _ _ _
  rw [skip 7 _ _ (Ne.symm h7)]
  by_cases h6 : h = 6
  · subst h6; exact View.readCov_cons_toLoadRect v _ _ _
  rw [skip 6 _ _ (Ne.symm h6)]
  by_cases h5 : h = 5
  · subst h5; exact View.readCov_cons_toLoadRect v _ _ _
  rw [skip 5 _ _ (Ne.symm h5)]
  by_cases h4 : h = 4
  · subst h4; exact View.readCov_cons_toLoadRect v _ _ _
  rw [skip 4 _ _ (Ne.symm h4)]
  by_cases h3 : h = 3
  · subst h3; exact View.readCov_cons_toLoadRect v _ _ _
  rw [skip 3 _ _ (Ne.symm h3)]
  by_cases h2 : h = 2
  · subst h2; exact View.readCov_cons_toLoadRect v _ _ _
  rw [skip 2 _ _ (Ne.symm h2)]
  by_cases h1 : h = 1
  · subst h1; exact View.readCov_cons_toLoadRect v _ _ _
  rw [skip 1 _ _ (Ne.symm h1)]
  obtain rfl : h = 0 := by omega
  exact View.readCov_cons_toLoadRect v _ _ _

theorem col_inb (h : Fin 8) : ∀ a, (![0, h.val * 64] : Fin 2 → ℕ) a + S128x64.size a ≤ S128x512.size a := by
  revert h; decide

/-- Head `h`'s columns of a block of 128 rows. -/
abbrev col (h : Fin 8) : Rect S128x512 := Rect.unit ![0, h.val * 64] S128x64.size (col_inb h)

/-- Head `h`'s columns of the block `x`, read through the buffer that holds it. -/
def rd (a : Memref sig .tc .vmem S128x512 .bf16) (ha : a.IsWhole) (x : Vec Ideal S128x512 .bf16) (h : Fin 8) : Vec Ideal S128x64 .bf16 :=
  View.readAt (Elt Ideal) a.view (col h).toLoadRect (ha.unread x)

theorem rd_at (a : Memref sig .tc .vmem S128x512 .bf16) (ha : a.IsWhole) (x : Vec Ideal S128x512 .bf16) (h : Fin 8) (i : Fin 128)
    (d : Fin 64) : rd a ha x h (ix2 i d) = x (ix2 i ⟨h.val * 64 + d.val, by omega⟩) := by
  unfold rd
  rw [View.readAt_eq_ld, ha.read_unread]
  refine congrArg x ?_
  funext k
  refine Fin.ext ?_
  rw [Rect.idx_unit_val]
  fin_cases k
  · show 0 + i.val = i.val; omega
  · rfl

/-- Head `h`'s slot of the table, read through the buffer that holds it. -/
def rt (a : Memref sig .tc .vmem S8x128x640 .f32) (ha : a.IsWhole) (x : Vec Ideal S8x128x640 .f32) (h : Fin 8) : Vec Ideal S1x128x640 .f32 :=
  View.readAt (Elt Ideal) a.view (slot h).toLoadRect (ha.unread x)

theorem rt_at (a : Memref sig .tc .vmem S8x128x640 .f32) (ha : a.IsWhole) (x : Vec Ideal S8x128x640 .f32) (h : Fin 8) (i : Fin 128)
    (m : Fin 640) : rt a ha x h (ix3 0 i m) = x (ix3 h i m) := by
  unfold rt
  rw [View.readAt_eq_ld, ha.read_unread]
  refine congrArg x ?_
  funext k
  refine Fin.ext ?_
  rw [Rect.idx_unit_val]
  fin_cases k
  · rfl
  · show 0 + i.val = i.val; omega
  · show 0 + m.val = m.val; omega

section Point

variable (c : Dev nD) (i : grid0.Coords)
  (arg1 : Memref sig .tc .vmem S128x512 .bf16) (harg1 : arg1.IsWhole) (arg2 : Memref sig .tc .vmem S128x512 .bf16) (harg2 : arg2.IsWhole)
  (arg3 : Memref sig .tc .vmem S128x512 .bf16) (harg3 : arg3.IsWhole) (arg4 : Memref sig .tc .vmem S128x512 .bf16) (harg4 : arg4.IsWhole)
  (arg5 : Memref sig .tc .vmem S128x512 .bf16) (harg5 : arg5.IsWhole) (arg6 : Memref sig .tc .vmem S128x512 .bf16) (harg6 : arg6.IsWhole)
  (arg12 : Memref sig .tc .vmem S8x128x640 .f32) (harg12 : arg12.IsWhole)
  (arg15 : Memref sig .tc .vmem S8x128x640 .f32) (arg16 : Memref sig .tc .vmem S8x128x640 .bf16)
  (x0 x1 x2 x3 x4 x5 : Vec Ideal S128x512 .bf16) (x11 : Vec Ideal S8x128x640 .f32)

/-- The masked scores of head `h`. -/
def SS (h : Fin 8) : Vec Ideal S1x128x640 .f32 :=
  k0_pay4 i (rd arg2 harg2 x1 h) (rd arg3 harg3 x2 h) (rd arg4 harg4 x3 h) (rd arg5 harg5 x4 h) (rd arg6 harg6 x5 h) (rd arg1 harg1 x0 h)
    (rt arg12 harg12 x11 h)

/-- The scores of head `h` as read back. -/
def WW (h : Fin 8) : Vec Ideal S1x128x640 .f32 :=
  arg15.view.readCov (kernelRun0_A.sl.HS0_8 c i arg1 harg1 arg2 harg2 arg3 harg3 arg4 harg4 arg5 harg5 arg6 harg6 arg12 harg12 x0 x1 x2 x3 x4 x5 x11)
    (slot h).toLoadRect

/-- The exponentials of head `h` as read back. -/
def UU (h : Fin 8) : Vec Ideal S1x128x640 .bf16 :=
  arg16.view.readCov (kernelRun0_A.sl.HS1_8 c i arg1 harg1 arg2 harg2 arg3 harg3 arg4 harg4 arg5 harg5 arg6 harg6 arg12 harg12 arg15 x0 x1 x2 x3 x4 x5 x11)
    (slot h).toLoadRect

theorem WW_eq (h : Fin 8) :
    WW c i arg1 harg1 arg2 harg2 arg3 harg3 arg4 harg4 arg5 harg5 arg6 harg6 arg12 harg12 arg15 x0 x1 x2 x3 x4 x5 x11 h
      = SS i arg1 harg1 arg2 harg2 arg3 harg3 arg4 harg4 arg5 harg5 arg6 harg6 arg12 harg12 x0 x1 x2 x3 x4 x5 x11 h :=
  slot_read arg15.view
    (SS i arg1 harg1 arg2 harg2 arg3 harg3 arg4 harg4 arg5 harg5 arg6 harg6 arg12 harg12 x0 x1 x2 x3 x4 x5 x11) h

theorem UU_eq (h : Fin 8) :
    UU c i arg1 harg1 arg2 harg2 arg3 harg3 arg4 harg4 arg5 harg5 arg6 harg6 arg12 harg12 arg15 arg16 x0 x1 x2 x3 x4 x5 x11 h
      = k0_pay20 (WW c i arg1 harg1 arg2 harg2 arg3 harg3 arg4 harg4 arg5 harg5 arg6 harg6 arg12 harg12 arg15 x0 x1 x2 x3 x4 x5 x11 h) :=
  slot_read arg16.view
    (fun h => k0_pay20 (WW c i arg1 harg1 arg2 harg2 arg3 harg3 arg4 harg4 arg5 harg5 arg6 harg6 arg12 harg12 arg15 x0 x1 x2 x3 x4 x5 x11 h)) h

end Point

section Stored

variable (m : (ℓ : Loc nD τ sig) → Buf (Elt Ideal) ℓ) (c : Dev nD) (t : Fin cfg0.N)

/-- The scores of head `h` at point `t`. -/
def sco (h : Fin 8) : Vec Ideal S1x128x640 .f32 :=
  SS (grid0.coords t) (ms0_0 t) (hs0_0 t) (ms0_1 t) (hs0_1 t) (ms0_2 t) (hs0_2 t) (ms0_3 t) (hs0_3 t) (ms0_4 t) (hs0_4 t) (ms0_5 t) (hs0_5 t)
    (ms0_11 t) (hs0_11 t)
    (iblk m c 0 t) (iblk m c 1 t) (iblk m c 2 t) (iblk m c 3 t) (iblk m c 4 t) (iblk m c 5 t) (iblk m c 11 t) h

/-- The output of head `h` at point `t`. -/
def hout (h : Fin 8) : FVec Ideal S128x64 .bf16 :=
  k0_pay58 (k0_pay19 (sco m c t h)) (rd (ms0_6 t) (hs0_6 t) (iblk m c 6 t) h) (rd (ms0_7 t) (hs0_7 t) (iblk m c 7 t) h) (rd (ms0_8 t) (hs0_8 t) (iblk m c 8 t) h)
    (rd (ms0_9 t) (hs0_9 t) (iblk m c 9 t) h) (rd (ms0_10 t) (hs0_10 t) (iblk m c 10 t) h)
    (k0_pay20 (sco m c t h))

/-- The logarithms of head `h` at point `t`. -/
def hlse (h : Fin 8) : FVec Ideal S128x1 .f32 := k0_pay59 (k0_pay17 (sco m c t h)) (k0_pay19 (sco m c t h))

/-- The scores of head `h` at point `t`, read back. -/
abbrev back (h : Fin 8) : Vec Ideal S1x128x640 .f32 :=
  WW c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_11 t) (hs0_11 t) scM0_0
    (iblk m c 0 t) (iblk m c 1 t) (iblk m c 2 t) (iblk m c 3 t) (iblk m c 4 t) (iblk m c 5 t) (iblk m c 11 t) h

/-- The exponentials of head `h` at point `t`, read back. -/
abbrev ebck (h : Fin 8) : Vec Ideal S1x128x640 .bf16 :=
  UU c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_11 t) (hs0_11 t) scM0_0 scM0_1
    (iblk m c 0 t) (iblk m c 1 t) (iblk m c 2 t) (iblk m c 3 t) (iblk m c 4 t) (iblk m c 5 t) (iblk m c 11 t) h

theorem back_eq (h : Fin 8) : back m c t h = sco m c t h := WW_eq ..

theorem ebck_eq (h : Fin 8) : ebck m c t h = k0_pay20 (sco m c t h) := (UU_eq ..).trans (congrArg k0_pay20 (back_eq m c t h))

theorem hout_eq (h : Fin 8) :
    k0_pay58 (k0_pay19 (back m c t h)) (rd (ms0_6 t) (hs0_6 t) (iblk m c 6 t) h) (rd (ms0_7 t) (hs0_7 t) (iblk m c 7 t) h) (rd (ms0_8 t) (hs0_8 t) (iblk m c 8 t) h)
    (rd (ms0_9 t) (hs0_9 t) (iblk m c 9 t) h) (rd (ms0_10 t) (hs0_10 t) (iblk m c 10 t) h) (ebck m c t h)
      = hout m c t h := by
  rw [ebck_eq, back_eq, hout]

theorem hlse_eq (h : Fin 8) : k0_pay59 (k0_pay17 (back m c t h)) (k0_pay19 (back m c t h)) = hlse m c t h := by
  rw [back_eq, hlse]

theorem out12 (Y : S128x512.Idx → Elt Ideal .bf16)
    (hY : ∀ (h : Fin 8) (u0 : Fin 128) (u1 : Fin 64), hout m c t h (ix2 u0 u1) = Y (ix2 u0 ⟨h.val * 64 + u1.val, by omega⟩))
    (y : S128x512.Idx) : (outsAt0 m c t).1 y = Y y := by
  have piece (h : Fin 8) (u : S128x64.Idx) (h0 : (y 0).val = (u 0).val) (h1 : (y 1).val = h.val * 64 + (u 1).val) :
      k0_pay58 (k0_pay19 (back m c t h)) (rd (ms0_6 t) (hs0_6 t) (iblk m c 6 t) h) (rd (ms0_7 t) (hs0_7 t) (iblk m c 7 t) h) (rd (ms0_8 t) (hs0_8 t) (iblk m c 8 t) h)
    (rd (ms0_9 t) (hs0_9 t) (iblk m c 9 t) h) (rd (ms0_10 t) (hs0_10 t) (iblk m c 10 t) h) (ebck m c t h) u
        = Y y := by
    rw [hout_eq]
    idx_vars u
    idx_vars y
    have b : h.val * 64 + u1.val < 512 := by have : u1.val < 64 := u1.isLt; omega
    rw [hY]
    refine congrArg Y ?_
    rw [show y0 = u0 from Fin.ext h0, show y1 = ⟨h.val * 64 + u1.val, b⟩ from Fin.ext h1]
  unfold outsAt0
  dsimp only
  unfold out0_A_12 kernelRun0_A
  dsimp only
  rw [View.read_writes_junk_apply_eq_canon]
  canon_tiles u h
  · exact piece 7 u h0 h1
  · exact piece 6 u h0 h1
  · exact piece 5 u h0 h1
  · exact piece 4 u h0 h1
  · exact piece 3 u h0 h1
  · exact piece 2 u h0 h1
  · exact piece 1 u h0 h1
  · exact piece 0 u h0 (by simpa using h1)

theorem out13 (Y : S128x8.Idx → Elt Ideal .f32)
    (hY : ∀ (h : Fin 8) (u0 : Fin 128), hlse m c t h (ix2 u0 0) = Y (ix2 u0 h))
    (y : S128x8.Idx) : (outsAt0 m c t).2 y = Y y := by
  have piece (h : Fin 8) (u : S128x1.Idx) (h0 : (y 0).val = (u 0).val) (h1 : (y 1).val = h.val + (u 1).val) :
      k0_pay59 (k0_pay17 (back m c t h)) (k0_pay19 (back m c t h)) u = Y y := by
    rw [hlse_eq]
    idx_vars u
    idx_vars y
    obtain rfl : u1 = 0 := Fin.ext (Nat.lt_one_iff.1 u1.isLt)
    rw [hY]
    refine congrArg Y ?_
    rw [show y0 = u0 from Fin.ext h0, show y1 = h from Fin.ext h1]
  unfold outsAt0
  dsimp only
  unfold out0_A_13 kernelRun0_A
  dsimp only
  rw [View.read_writes_junk_apply_eq_canon]
  canon_tiles u h
  · exact piece 7 u h0 h1
  · exact piece 6 u h0 h1
  · exact piece 5 u h0 h1
  · exact piece 4 u h0 h1
  · exact piece 3 u h0 h1
  · exact piece 2 u h0 h1
  · exact piece 1 u h0 h1
  · exact piece 0 u h0 (by simpa using h1)
-- ==== Proof.AttnHead.lean ====
/- One head of the attention kernel over blocks of real numbers. -/
module
public import proofs.«01_k».proof.Proof.AttnKern
@[expose] public section
set_option maxRecDepth 16384
noncomputable section

namespace Cert.AttnIdeal.Hand

open Idealize.ShloMosaic Idealize.ShloMosaic.TcCoe Idealize.SL.Sem
open Cert.AttnIdeal Cert.AttnIdeal.Gen Cert.Reals Cert.Softmax Cert.AttnSpec

theorem eighth16 : Ideal.ofBits .bf16 0x3E00#16 = ((1 / 8 : ℝ) : EReal) := by
  simp [Ideal.ofBits, Ideal.ieee]; norm_num; rw [← EReal.coe_mul]; norm_num

theorem mask_bot : (Named.named κ "mask" 0xF149F2CA#32 : Ideal .f32) = (⊥ : EReal) :=
  IdealRules.named_const.ideal_named_scalar (φ := .f32) κ "mask" _ ⊥ rfl

/-- Block `n` of a window of five blocks of 128 rows. -/
def part (K : Fin 640 → Fin 64 → ℝ) (n : Fin 5) : S128x64.Idx → ℝ := arr fun r d => K ⟨n.val * 128 + r.val, by omega⟩ d

theorem cat_part (K : Fin 640 → Fin 64 → ℝ) (m : Fin 640) (d : Fin 64) :
    concatenate S640x64 0 [⟨S128x64, (up (part K 0) : FVec Ideal S128x64 .bf16)⟩, ⟨S128x64, (up (part K 1) : FVec Ideal S128x64 .bf16)⟩,
      ⟨S128x64, (up (part K 2) : FVec Ideal S128x64 .bf16)⟩, ⟨S128x64, (up (part K 3) : FVec Ideal S128x64 .bf16)⟩,
      ⟨S128x64, (up (part K 4) : FVec Ideal S128x64 .bf16)⟩]
      concatenates_S128x64_S128x64_S128x64_S128x64_S128x64_S640x64_d0 (ix2 m d) = ((K m d : ℝ) : EReal) := by
  have piece (n : Fin 5) (r : Fin 128) (e : n.val * 128 + r.val = m.val) (x : FVec Ideal S128x64 .bf16) (hx : x = up (part K n)) :
      x (ix2 r d) = ((K m d : ℝ) : EReal) := by
    subst hx
    refine congrArg (fun m => ((K m d : ℝ) : EReal)) (Fin.ext e)
  have hm := m.isLt
  rcases (by omega : m.val / 128 = 0 ∨ m.val / 128 = 1 ∨ m.val / 128 = 2 ∨ m.val / 128 = 3 ∨ m.val / 128 = 4) with q | q | q | q | q
  · refine (concatenate_apply_piece (α := EReal) 0 _ _ (ix2 m d) 0 (Nat.lt_of_sub_eq_succ rfl) S128x64 _ rfl rfl 0 rfl
      (ix2 ⟨m.val % 128, by omega⟩ d) ?_ ?_).trans (piece 0 _ (by simp only [Fin.val_zero]; omega) _ rfl)
    · intro b hb; fin_cases b
      · exact absurd rfl hb
      · rfl
    · show 0 + m.val % 128 = m.val; omega
  · refine (concatenate_apply_piece (α := EReal) 0 _ _ (ix2 m d) 1 (Nat.lt_of_sub_eq_succ rfl) S128x64 _ rfl rfl 128 rfl
      (ix2 ⟨m.val % 128, by omega⟩ d) ?_ ?_).trans (piece 1 _ (by show 1 * 128 + m.val % 128 = _; omega) _ rfl)
    · intro b hb; fin_cases b
      · exact absurd rfl hb
      · rfl
    · show 128 + m.val % 128 = m.val; omega
  · refine (concatenate_apply_piece (α := EReal) 0 _ _ (ix2 m d) 2 (Nat.lt_of_sub_eq_succ rfl) S128x64 _ rfl rfl 256 rfl
      (ix2 ⟨m.val % 128, by omega⟩ d) ?_ ?_).trans (piece 2 _ (by show 2 * 128 + m.val % 128 = _; omega) _ rfl)
    · intro b hb; fin_cases b
      · exact absurd rfl hb
      · rfl
    · show 256 + m.val % 128 = m.val; omega
  · refine (concatenate_apply_piece (α := EReal) 0 _ _ (ix2 m d) 3 (Nat.lt_of_sub_eq_succ rfl) S128x64 _ rfl rfl 384 rfl
      (ix2 ⟨m.val % 128, by omega⟩ d) ?_ ?_).trans (piece 3 _ (by show 3 * 128 + m.val % 128 = _; omega) _ rfl)
    · intro b hb; fin_cases b
      · exact absurd rfl hb
      · rfl
    · show 384 + m.val % 128 = m.val; omega
  · refine (concatenate_apply_piece (α := EReal) 0 _ _ (ix2 m d) 4 (Nat.lt_of_sub_eq_succ rfl) S128x64 _ rfl rfl 512 rfl
      (ix2 ⟨m.val % 128, by omega⟩ d) ?_ ?_).trans (piece 4 _ (by show 4 * 128 + m.val % 128 = _; omega) _ rfl)
    · intro b hb; fin_cases b
      · exact absurd rfl hb
      · rfl
    · show 512 + m.val % 128 = m.val; omega

/-- The window's five blocks as one array. -/
theorem cat_eq (K : Fin 640 → Fin 64 → ℝ) :
    concatenate S640x64 0 [⟨S128x64, (up (part K 0) : FVec Ideal S128x64 .bf16)⟩, ⟨S128x64, (up (part K 1) : FVec Ideal S128x64 .bf16)⟩,
      ⟨S128x64, (up (part K 2) : FVec Ideal S128x64 .bf16)⟩, ⟨S128x64, (up (part K 3) : FVec Ideal S128x64 .bf16)⟩,
      ⟨S128x64, (up (part K 4) : FVec Ideal S128x64 .bf16)⟩]
      concatenates_S128x64_S128x64_S128x64_S128x64_S128x64_S640x64_d0 = up (arr K) := by
  funext u
  idx_vars u
  exact cat_part K u0 u1

/-- The window's place `m` is a key of the sequence, not before its start. -/
theorem valid_word : ∀ (t : Fin 64) (m : Fin 640),
    IntOp.cmpi .sge (BitVec.ofNat 32 m.val + (BitVec.ofNat 32 t.val - 4#32) * 128#32) 0#32 = 1#1 ↔ 512 ≤ t.val * 128 + m.val := by
  decide +kernel

/-- What row `a` of point `i`'s block sees at the window's place `m`. -/
def PM (i : grid0.Coords) (a : Fin 128) (m : Fin 640) : Prop := 512 ≤ (i 0).val * 128 + m.val ∧ sees (a.val + 512) m.val

instance (i : grid0.Coords) (a : Fin 128) : DecidablePred (PM i a) := fun _ => inferInstanceAs (Decidable (_ ∧ _))

theorem PM_some (i : grid0.Coords) (a : Fin 128) : ∃ m, PM i a m :=
  ⟨⟨a.val + 512, by omega⟩, by show 512 ≤ (i 0).val * 128 + (a.val + 512); omega, sees_self _⟩

section Head

variable (i : grid0.Coords) (q : S128x64.Idx → ℝ) (K V : Fin 640 → Fin 64 → ℝ) (b : Fin 128 → Fin 640 → ℝ)
  (tb : Vec Ideal S1x128x640 .f32) (htb : ∀ a m, tb (ix3 0 a m) = if sees (a.val + 512) m.val then ((b a m : ℝ) : EReal) else ⊥)

/-- The window's scores. -/
def fs (a : Fin 128) (m : Fin 640) : ℝ := (∑ d : Fin 64, q (ix2 a d) * (1 / 8) * K m d) + b a m

theorem valid_at (a : Fin 128) (m : Fin 640) : k0_pay3 i (ix2 a m) = 1#1 ↔ 512 ≤ (i 0).val * 128 + m.val := by
  unfold k0_pay3
  pointwise
  exact valid_word (i 0) m

theorem select_if {p : Prop} [Decidable p] {x : BitVec 1} (hx : x = 1#1 ↔ p) (u v : EReal) :
    (if x = 1#1 then u else v) = if p then u else v := by
  by_cases h : p
  · rw [if_pos h, if_pos (hx.2 h)]
  · rw [if_neg h, if_neg (fun e => h (hx.1 e))]

/-- The masked scores. -/
abbrev sc4 : FVec Ideal S1x128x640 .f32 :=
  k0_pay4 i (up (part K 0)) (up (part K 1)) (up (part K 2)) (up (part K 3)) (up (part K 4)) (up q) tb

include htb in
theorem g4 (a : Fin 128) (m : Fin 640) : sc4 i q K tb (ix3 0 a m) = ms (PM i a) (fs q K b a) m := by
  unfold sc4 k0_pay4
  rw [cat_eq]
  pointwise
  rw [mask_bot, eighth16]
  simp only [htb, up, arr_ix, ← EReal.coe_mul, coe_sum]
  refine (select_if (valid_at i a m) _ _).trans ?_
  unfold ms PM
  by_cases h : sees (a.val + 512) m.val
  · simp only [h, if_true, and_true, ← EReal.coe_add]
    rfl
  · simp only [h, if_false, and_false, EReal.add_bot, ite_self]
-- ==== Proof.AttnSoft.lean ====
/- The attention kernel's softmax of one head's masked scores, and what it stores of it. -/
module
public import proofs.«01_k».proof.Proof.AttnHead
@[expose] public section
set_option maxRecDepth 16384
noncomputable section

namespace Cert.AttnIdeal.Hand

open Idealize.ShloMosaic Idealize.ShloMosaic.TcCoe Idealize.SL.Sem
open Cert.AttnIdeal Cert.AttnIdeal.Gen Cert.Reals Cert.Softmax Cert.AttnSpec

section Soft

variable (P : Fin 128 → Fin 640 → Prop) [∀ a, DecidablePred (P a)] (hP : ∀ a, ∃ m, P a m) (f : Fin 128 → Fin 640 → ℝ)
  (s : Vec Ideal S1x128x640 .f32) (hs : ∀ a m, s (ix3 0 a m) = ms (P a) (f a) m)

include hs in
theorem g16 (a : Fin 128) (m : Fin 640) : k0_pay16 s (ix2 a m) = ms (P a) (f a) m := by
  unfold k0_pay16
  pointwise
  exact hs a m

theorem rowMax (s : FVec Ideal S128x640 .f32) (i : Fin 128) (z : Fin 1) :
    shapeCast S128x1 (multiReduction .maximumf [1] S128 s 0xFF800000#32 reduces_S128x640_S128 (.inl rfl) rfl) shapeCasts_S128_S128x1 (ix2 i z)
      = (Finset.univ.fold max (Ideal.ofBits .f32 0xFF800000#32) fun m : Fin 640 => s (ix2 i m) : EReal) := by
  pointwise

include hP hs in
theorem g17 : ∃ r : Fin 128 → ℝ, k0_pay17 s = up (arr fun a (_ : Fin 1) => r a) := by
  have e (a : Fin 128) : ∃ r : ℝ, ∀ z : Fin 1, k0_pay17 s (ix2 a z) = (r : EReal) := by
    obtain ⟨r, hr⟩ := ms_max (P a) (f a) (hP a)
    refine ⟨r, fun z => ?_⟩
    unfold k0_pay17
    refine (rowMax _ a z).trans ?_
    rw [ninf_lit, ← hr]
    exact congrArg (fun g : Fin 640 → EReal => Finset.univ.fold max (⊥ : EReal) g) (funext fun m => g16 P f s hs a m)
  choose r hr using e
  refine ⟨r, ?_⟩
  funext u
  idx_vars u
  exact hr _ _

section Shifted

variable {s} {r : Fin 128 → ℝ} (hr : k0_pay17 s = up (arr fun a (_ : Fin 1) => r a))

include hs hr

theorem g18 : k0_pay18 s = up (arr fun a m => wt (P a) (f a) m / Real.exp (r a)) := by
  funext u
  idx_vars u
  unfold k0_pay18
  rw [hr]
  pointwise
  rw [g16 P f s hs]
  exact ms_exp (P u0) (f u0) (r u0) u1

theorem g19 : k0_pay19 s = up (arr fun a (_ : Fin 1) => (∑ m, wt (P a) (f a) m) / Real.exp (r a)) := by
  funext u
  idx_vars u
  unfold k0_pay19
  rw [g18 P f hs hr]
  pointwise
  simp only [up, arr_ix, coe_sum]
  rw [wt_shifted]

theorem g20 (a : Fin 128) (m : Fin 640) : k0_pay20 s (ix3 0 a m) = ((wt (P a) (f a) m / Real.exp (r a) : ℝ) : EReal) := by
  unfold k0_pay20
  rw [g18 P f hs hr]
  pointwise
  rfl

end Shifted

include hP hs

/-- The head's output. -/
theorem g58 (V : Fin 640 → Fin 64 → ℝ) :
    k0_pay58 (k0_pay19 s) (up (part V 0)) (up (part V 1)) (up (part V 2)) (up (part V 3)) (up (part V 4)) (k0_pay20 s)
      = up (arr fun a d => (∑ m, wt (P a) (f a) m * V m d) / ∑ m, wt (P a) (f a) m) := by
  obtain ⟨r, hr⟩ := g17 P hP f s hs
  funext u
  idx_vars u
  unfold k0_pay58
  rw [cat_eq, g19 P f hs hr]
  pointwise
  simp only [g20 P f hs hr, up, arr_ix, ← EReal.coe_mul, coe_sum]
  rw [div_coe _ (div_pos (wt_pos (P u0) (f u0) (hP u0)) (Real.exp_pos _)).ne']
  exact congrArg Real.toEReal (out_shifted (P u0) (f u0) (r u0) fun m => V m u1)

/-- The logarithm of the head's sums. -/
theorem g59 : k0_pay59 (k0_pay17 s) (k0_pay19 s) = up (arr fun a (_ : Fin 1) => Real.log (∑ m, wt (P a) (f a) m)) := by
  obtain ⟨r, hr⟩ := g17 P hP f s hs
  funext u
  idx_vars u
  unfold k0_pay59
  rw [hr, g19 P f hs hr]
  pointwise
  simp only [up, arr_ix]
  rw [log_pos (div_pos (wt_pos (P u0) (f u0) (hP u0)) (Real.exp_pos _)), ← EReal.coe_add]
  exact congrArg Real.toEReal (AttnSpec.lse_shifted (P u0) (f u0) (hP u0) (r u0))
-- ==== Proof.AttnTable.lean ====
/- The table of biases the attention kernel reads: the host's array, entry by entry. -/
module
public import proofs.«01_k».proof.Proof.AttnSoft
public import Idealize.ShloMosaic.Lib.StableHlo.ReadAt
@[expose] public section
set_option maxRecDepth 16384
noncomputable section

namespace Cert.AttnIdeal.Hand

open Idealize.ShloMosaic Idealize.ShloMosaic.TcCoe Idealize.SL.Sem
open Cert.AttnIdeal Cert.AttnIdeal.Gen Cert.Reals Cert.Softmax Cert.AttnSpec

variable (m : (ℓ : Loc nD τ sig) → Buf (Elt Ideal) ℓ)

theorem idx : ∀ t : Fin cfg0.N, win0_0.index t = ![t.val, 0]
    ∧ (win0_1.index t = ![t.val - 4, 1] ∧ win0_2.index t = ![t.val - 3, 1] ∧ win0_3.index t = ![t.val - 2, 1]
      ∧ win0_4.index t = ![t.val - 1, 1] ∧ win0_5.index t = ![t.val, 1])
    ∧ (win0_6.index t = ![t.val - 4, 2] ∧ win0_7.index t = ![t.val - 3, 2] ∧ win0_8.index t = ![t.val - 2, 2]
      ∧ win0_9.index t = ![t.val - 1, 2] ∧ win0_10.index t = ![t.val, 2])
    ∧ win0_11.index t = ![0, 0, 0] ∧ win0_12.index t = ![t.val, 0] ∧ win0_13.index t = ![t.val, 0] :=
  (by decide +kernel : ∀ t : Fin grid0.N, _)

theorem point : ∀ t : Fin cfg0.N, (grid0.coords t 0).val = t.val := (by decide +kernel : ∀ t : Fin grid0.N, _)

variable {m} {c : Dev nD} {rb : S8x257.Idx → ℝ}

/-- The host's quotient by 64, rounded down. -/
def fdiv (n : BitVec 32) : BitVec 32 :=
  Scalar.select
    (IntOp.andi
      (IntOp.cmpi .ne (if n = 0 then (0 : BitVec 32) else if n.msb = true then -1 else 1)
        (if (64#32 : BitVec 32) = 0 then (0 : BitVec 32) else if BitVec.msb (64#32 : BitVec 32) = true then -1 else 1))
      (IntOp.cmpi .ne (IntOp.remsi ArithUnit.host n 64#32) 0#32))
    (IntOp.subi (IntOp.divsi ArithUnit.host n 64#32) 1#32) (IntOp.divsi ArithUnit.host n 64#32)

theorem fdiv_at : ∀ n : Fin 640, fdiv (BitVec.ofNat 32 n.val) = BitVec.ofNat 32 (n.val / 64) := by decide +kernel

theorem band_small : ∀ (p : Fin 2) (q : Fin 10),
    IntOp.andi (IntOp.cmpi .sge (BitVec.ofNat 32 q.val) (BitVec.ofNat 32 p.val))
      (IntOp.cmpi .sle (BitVec.ofNat 32 q.val) (IntOp.addi (BitVec.ofNat 32 p.val) 8#32)) = 1#1 ↔ p.val ≤ q.val ∧ q.val ≤ p.val + 8 := by
  decide +kernel

theorem band_word (a : Fin 128) (w : Fin 640) :
    IntOp.andi (IntOp.cmpi .sge (fdiv (BitVec.ofNat 32 w.val)) (fdiv (BitVec.ofNat 32 a.val)))
      (IntOp.cmpi .sle (fdiv (BitVec.ofNat 32 w.val)) (IntOp.addi (fdiv (BitVec.ofNat 32 a.val)) 8#32)) = 1#1 ↔ sees (a.val + 512) w.val := by
  rw [fdiv_at w, fdiv_at ⟨a.val, by omega⟩]
  refine (band_small ⟨a.val / 64, by omega⟩ ⟨w.val / 64, by omega⟩).trans ?_
  unfold sees
  simp only
  omega

theorem v3_at (h : Fin 8) (k : Fin 385) :
    (StableHlo.upto [hostOps0, hostOps0_1, hostOps0_2, hostOps0_3, hostOps0_4, hostOps0_5].flatten (fun b => m (c, b)) 5
      (Proc.tc.devRef main_v3) : Vec Ideal S8x385 .f32) (ix2 h k) = m ((c : Thread nD τ).loc main_arg1) (ix2 h 256) := by
  after_reads_at

theorem v2_at (h : Fin 8) (k : Fin 255) :
    (StableHlo.upto [hostOps0, hostOps0_1, hostOps0_2, hostOps0_3, hostOps0_4, hostOps0_5].flatten (fun b => m (c, b)) 5
      (Proc.tc.devRef main_v2) : Vec Ideal S8x255 .f32) (ix2 h k) = m ((c : Thread nD τ).loc main_arg1) (ix2 h ⟨255 - k.val, by omega⟩) := by
  after_reads_at
  refine congrArg₂ (fun (a : Fin 8) (b : Fin 257) => (m ((c : Thread nD τ).loc main_arg1) : Vec Ideal S8x257 .f32) (ix2 a b)) rfl (Fin.ext ?_)
  show 1 + (255 - (k.val + 1)) = 255 - k.val
  omega

theorem v4_at (h : Fin 8) (k : Fin 129) :
    (StableHlo.upto [hostOps0, hostOps0_1, hostOps0_2, hostOps0_3, hostOps0_4, hostOps0_5].flatten (fun b => m (c, b)) 5
      (Proc.tc.devRef main_v4) : Vec Ideal S8x129 .f32) (ix2 h k) = m ((c : Thread nD τ).loc main_arg1) (ix2 h 256) := by
  after_reads_at

theorem block_table (t : Fin cfg0.N) (e1 : m ((c : Thread nD τ).loc main_arg1) = up rb) (h : Fin 8) (a : Fin 128) (w : Fin 640) :
    (iblk m c 11 t : Vec Ideal S8x128x640 .f32) (ix3 h a w) = if sees (a.val + 512) w.val then ((rb (ix2 h (AttnSpec.dist (a.val + 512) w.val)) : ℝ) : EReal) else ⊥ := by
  have e : (iblk m c 11 t : Vec Ideal S8x128x640 .f32) (ix3 h a w) = (V m c main_v28 : Vec Ideal S8x128x640 .f32) (ix3 h a w) := by
    blk_ext [iblk, V, idx t]
  have rbat (k : Fin 257) (h' : (AttnSpec.dist (a.val + 512) w.val).val = k.val) :
      m ((c : Thread nD τ).loc main_arg1) (ix2 h k) = ((rb (ix2 h (AttnSpec.dist (a.val + 512) w.val)) : ℝ) : EReal) := by
    rw [e1, show k = AttnSpec.dist (a.val + 512) w.val from Fin.ext h'.symm]
  rw [e]
  after_reads_at
  refine (select_if (band_word a w) _ _).trans ?_
  refine if_congr Iff.rfl ?_ ninf_lit
  have hw := w.isLt
  have ha := a.isLt
  split
  · rename_i h1
    rw [v3_at, rbat 256 (by show min _ _ = 256; omega)]
  · rename_i h1
    split
    · rename_i h2
      rw [v2_at]
      refine rbat _ ?_
      show min _ _ = 255 - _
      simp only
      omega
    · rename_i h2
      rw [v4_at, rbat 256 (by show min _ _ = 256; omega)]
-- ==== Proof.AttnBlocks.lean ====
/- The attention kernel's blocks of the projections, and the arrays it ends with. -/
module
public import proofs.«01_k».proof.Proof.AttnTable
@[expose] public section
set_option maxRecDepth 16384
noncomputable section

namespace Cert.AttnIdeal.Hand

open Idealize.ShloMosaic Idealize.ShloMosaic.TcCoe Idealize.SL.Sem
open Cert.AttnIdeal Cert.AttnIdeal.Gen Cert.Reals Cert.Softmax Cert.AttnSpec

theorem small (t : Fin cfg0.N) : t.val < 64 := lt_of_lt_of_eq t.isLt N_0

/-- The array row at which row `a` of point `t`'s blocks sits. -/
def row (t : Fin cfg0.N) (a : Fin 128) : Fin 8192 := ⟨t.val * 128 + a.val, by have := small t; omega⟩

/-- The array row at the window's place `w`. -/
def kr (t : Fin cfg0.N) (w : Fin 640) : Fin 8192 := ⟨(t.val + w.val / 128 - 4) * 128 + w.val % 128, by have := small t; omega⟩

theorem row_val (t : Fin cfg0.N) (a : Fin 128) : (row t a).val = t.val * 128 + a.val := rfl

theorem kr_val (t : Fin cfg0.N) (w : Fin 640) : (kr t w).val = (t.val + w.val / 128 - 4) * 128 + w.val % 128 := rfl

/-- Head `h`'s queries at point `t`. -/
def QQ (z : S8192x4608.Idx → ℝ) (h : Fin 8) (t : Fin cfg0.N) : S128x64.Idx → ℝ := arr fun a d => z (ix2 (row t a) ⟨h.val * 64 + d.val, by omega⟩)

/-- Head `h`'s keys over point `t`'s window. -/
def KK (z : S8192x4608.Idx → ℝ) (h : Fin 8) (t : Fin cfg0.N) (w : Fin 640) (d : Fin 64) : ℝ := z (ix2 (kr t w) ⟨512 + h.val * 64 + d.val, by omega⟩)

/-- Head `h`'s values over point `t`'s window. -/
def VV (z : S8192x4608.Idx → ℝ) (h : Fin 8) (t : Fin cfg0.N) (w : Fin 640) (d : Fin 64) : ℝ := z (ix2 (kr t w) ⟨1024 + h.val * 64 + d.val, by omega⟩)

/-- Head `h`'s biases over the window. -/
def BB (rb : S8x257.Idx → ℝ) (h : Fin 8) (a : Fin 128) (w : Fin 640) : ℝ := rb (ix2 h (AttnSpec.dist (a.val + 512) w.val))

section Blocks

variable {m : (ℓ : Loc nD τ sig) → Buf (Elt Ideal) ℓ} {c : Dev nD} {z : S8192x4608.Idx → ℝ} {rb : S8x257.Idx → ℝ}
  (e0 : m ((c : Thread nD τ).loc main_arg0) = up z) (e1 : m ((c : Thread nD τ).loc main_arg1) = up rb) (t : Fin cfg0.N) (h : Fin 8)

include e0

theorem queries : rd (ms0_0 t) (hs0_0 t) (iblk m c 0 t) h = up (QQ z h t) := by
  funext u
  idx_vars u
  have e : (iblk m c 0 t : Vec Ideal S128x512 .bf16) (ix2 u0 ⟨h.val * 64 + u1.val, by omega⟩)
      = m ((c : Thread nD τ).loc main_arg0) (ix2 (row t u0) ⟨h.val * 64 + u1.val, by omega⟩) := by
    have := row_val t u0
    blk_ext [iblk, V, idx t]
  rw [rd_at, e, e0]
  rfl

theorem keys0 : rd (ms0_1 t) (hs0_1 t) (iblk m c 1 t) h = up (part (KK z h t) 0) := by
  funext u
  idx_vars u
  have e : (iblk m c 1 t : Vec Ideal S128x512 .bf16) (ix2 u0 ⟨h.val * 64 + u1.val, by omega⟩)
      = m ((c : Thread nD τ).loc main_arg0) (ix2 (kr t ⟨0 * 128 + u0.val, by omega⟩) ⟨512 + h.val * 64 + u1.val, by omega⟩) := by
    blk_ext [iblk, V, idx t]
    rw [kr_val]
    simp only
    omega
  rw [rd_at, e, e0]
  rfl

theorem keys1 : rd (ms0_2 t) (hs0_2 t) (iblk m c 2 t) h = up (part (KK z h t) 1) := by
  funext u
  idx_vars u
  have e : (iblk m c 2 t : Vec Ideal S128x512 .bf16) (ix2 u0 ⟨h.val * 64 + u1.val, by omega⟩)
      = m ((c : Thread nD τ).loc main_arg0) (ix2 (kr t ⟨1 * 128 + u0.val, by omega⟩) ⟨512 + h.val * 64 + u1.val, by omega⟩) := by
    blk_ext [iblk, V, idx t]
    rw [kr_val]
    simp only
    omega
  rw [rd_at, e, e0]
  rfl

theorem keys2 : rd (ms0_3 t) (hs0_3 t) (iblk m c 3 t) h = up (part (KK z h t) 2) := by
  funext u
  idx_vars u
  have e : (iblk m c 3 t : Vec Ideal S128x512 .bf16) (ix2 u0 ⟨h.val * 64 + u1.val, by omega⟩)
      = m ((c : Thread nD τ).loc main_arg0) (ix2 (kr t ⟨2 * 128 + u0.val, by omega⟩) ⟨512 + h.val * 64 + u1.val, by omega⟩) := by
    have := kr_val t ⟨2 * 128 + u0.val, by omega⟩
    simp only at this
    blk_ext [iblk, V, idx t]
  rw [rd_at, e, e0]
  rfl

theorem keys3 : rd (ms0_4 t) (hs0_4 t) (iblk m c 4 t) h = up (part (KK z h t) 3) := by
  funext u
  idx_vars u
  have e : (iblk m c 4 t : Vec Ideal S128x512 .bf16) (ix2 u0 ⟨h.val * 64 + u1.val, by omega⟩)
      = m ((c : Thread nD τ).loc main_arg0) (ix2 (kr t ⟨3 * 128 + u0.val, by omega⟩) ⟨512 + h.val * 64 + u1.val, by omega⟩) := by
    have := kr_val t ⟨3 * 128 + u0.val, by omega⟩
    simp only at this
    blk_ext [iblk, V, idx t]
  rw [rd_at, e, e0]
  rfl

theorem keys4 : rd (ms0_5 t) (hs0_5 t) (iblk m c 5 t) h = up (part (KK z h t) 4) := by
  funext u
  idx_vars u
  have e : (iblk m c 5 t : Vec Ideal S128x512 .bf16) (ix2 u0 ⟨h.val * 64 + u1.val, by omega⟩)
      = m ((c : Thread nD τ).loc main_arg0) (ix2 (kr t ⟨4 * 128 + u0.val, by omega⟩) ⟨512 + h.val * 64 + u1.val, by omega⟩) := by
    have := kr_val t ⟨4 * 128 + u0.val, by omega⟩
    simp only at this
    blk_ext [iblk, V, idx t]
  rw [rd_at, e, e0]
  rfl

theorem vals0 : rd (ms0_6 t) (hs0_6 t) (iblk m c 6 t) h = up (part (VV z h t) 0) := by
  funext u
  idx_vars u
  have e : (iblk m c 6 t : Vec Ideal S128x512 .bf16) (ix2 u0 ⟨h.val * 64 + u1.val, by omega⟩)
      = m ((c : Thread nD τ).loc main_arg0) (ix2 (kr t ⟨0 * 128 + u0.val, by omega⟩) ⟨1024 + h.val * 64 + u1.val, by omega⟩) := by
    blk_ext [iblk, V, idx t]
    rw [kr_val]
    simp only
    omega
  rw [rd_at, e, e0]
  rfl

theorem vals1 : rd (ms0_7 t) (hs0_7 t) (iblk m c 7 t) h = up (part (VV z h t) 1) := by
  funext u
  idx_vars u
  have e : (iblk m c 7 t : Vec Ideal S128x512 .bf16) (ix2 u0 ⟨h.val * 64 + u1.val, by omega⟩)
      = m ((c : Thread nD τ).loc main_arg0) (ix2 (kr t ⟨1 * 128 + u0.val, by omega⟩) ⟨1024 + h.val * 64 + u1.val, by omega⟩) := by
    blk_ext [iblk, V, idx t]
    rw [kr_val]
    simp only
    omega
  rw [rd_at, e, e0]
  rfl

theorem vals2 : rd (ms0_8 t) (hs0_8 t) (iblk m c 8 t) h = up (part (VV z h t) 2) := by
  funext u
  idx_vars u
  have e : (iblk m c 8 t : Vec Ideal S128x512 .bf16) (ix2 u0 ⟨h.val * 64 + u1.val, by omega⟩)
      = m ((c : Thread nD τ).loc main_arg0) (ix2 (kr t ⟨2 * 128 + u0.val, by omega⟩) ⟨1024 + h.val * 64 + u1.val, by omega⟩) := by
    have := kr_val t ⟨2 * 128 + u0.val, by omega⟩
    simp only at this
    blk_ext [iblk, V, idx t]
  rw [rd_at, e, e0]
  rfl

theorem vals3 : rd (ms0_9 t) (hs0_9 t) (iblk m c 9 t) h = up (part (VV z h t) 3) := by
  funext u
  idx_vars u
  have e : (iblk m c 9 t : Vec Ideal S128x512 .bf16) (ix2 u0 ⟨h.val * 64 + u1.val, by omega⟩)
      = m ((c : Thread nD τ).loc main_arg0) (ix2 (kr t ⟨3 * 128 + u0.val, by omega⟩) ⟨1024 + h.val * 64 + u1.val, by omega⟩) := by
    have := kr_val t ⟨3 * 128 + u0.val, by omega⟩
    simp only at this
    blk_ext [iblk, V, idx t]
  rw [rd_at, e, e0]
  rfl

theorem vals4 : rd (ms0_10 t) (hs0_10 t) (iblk m c 10 t) h = up (part (VV z h t) 4) := by
  funext u
  idx_vars u
  have e : (iblk m c 10 t : Vec Ideal S128x512 .bf16) (ix2 u0 ⟨h.val * 64 + u1.val, by omega⟩)
      = m ((c : Thread nD τ).loc main_arg0) (ix2 (kr t ⟨4 * 128 + u0.val, by omega⟩) ⟨1024 + h.val * 64 + u1.val, by omega⟩) := by
    have := kr_val t ⟨4 * 128 + u0.val, by omega⟩
    simp only at this
    blk_ext [iblk, V, idx t]
  rw [rd_at, e, e0]
  rfl

omit e0 in
include e1 in
theorem table (a : Fin 128) (w : Fin 640) : rt (ms0_11 t) (hs0_11 t) (iblk m c 11 t) h (ix3 0 a w)
    = if sees (a.val + 512) w.val then ((BB rb h a w : ℝ) : EReal) else ⊥ := (rt_at _ _ _ h a w).trans (block_table t e1 h a w)

include e1

theorem scores (a : Fin 128) (w : Fin 640) :
    sco m c t h (ix3 0 a w) = ms (PM (grid0.coords t) a) (fs (QQ z h t) (KK z h t) (BB rb h) a) w := by
  unfold sco SS
  rw [keys0 e0, keys1 e0, keys2 e0, keys3 e0, keys4 e0, queries e0]
  exact g4 (grid0.coords t) (QQ z h t) (KK z h t) (BB rb h) _ (table e1 t h) a w

/-- A weighted sum over the window is the weighted sum over all keys. -/
theorem window (a : Fin 128) (g : Fin 8192 → ℝ) :
    ∑ w, wt (PM (grid0.coords t) a) (fs (QQ z h t) (KK z h t) (BB rb h) a) w * g (kr t w) = ∑ j, ww z rb h (row t a) j * g j := by
  have ht := small t
  have ha := a.isLt
  simp only [ww, wt, ite_mul, zero_mul]
  refine sum_window (PM (grid0.coords t) a) (fun j => sees (row t a).val j.val) (fun j => Real.exp (sc z rb h (row t a) j) * g j) _ (kr t) ?_ ?_ ?_ ?_
  · intro w hp
    obtain ⟨h1, h2, h3⟩ := hp
    rw [point t] at h1
    unfold sees
    rw [row_val, kr_val]
    omega
  · intro w w' hp hp' e
    have h1 := hp.1
    have h1' := hp'.1
    rw [point t] at h1 h1'
    have e' := congrArg Fin.val e
    rw [kr_val, kr_val] at e'
    refine Fin.ext ?_
    omega
  · intro j hj
    obtain ⟨h1, h2⟩ := hj
    rw [row_val] at h1 h2
    refine ⟨⟨j.val + 512 - t.val * 128, by omega⟩, ⟨?_, ?_, ?_⟩, ?_⟩
    · rw [point t]; simp only; omega
    · simp only; omega
    · simp only; omega
    · refine Fin.ext ?_
      rw [kr_val]; simp only; omega
  · intro w hp
    obtain ⟨h1, h2, h3⟩ := hp
    rw [point t] at h1
    refine congrArg (fun x => Real.exp x * g (kr t w)) ?_
    show _ + rb (ix2 h _) = _ + rb (ix2 h _)
    refine congrArg₂ (· + ·) rfl (congrArg (fun k => rb (ix2 h k)) (Fin.ext ?_))
    show min _ _ = min _ _
    rw [row_val, kr_val]
    omega

theorem total (a : Fin 128) :
    ∑ w, wt (PM (grid0.coords t) a) (fs (QQ z h t) (KK z h t) (BB rb h) a) w = ∑ j, ww z rb h (row t a) j := by
  have := window e0 e1 t h a fun _ => 1
  simpa only [mul_one] using this

theorem hout_val : hout m c t h = up (arr fun a d => oo z rb h (row t a) d) := by
  unfold hout
  rw [vals0 e0, vals1 e0, vals2 e0, vals3 e0, vals4 e0]
  refine (g58 (PM (grid0.coords t)) (PM_some _) (fs (QQ z h t) (KK z h t) (BB rb h)) _ (scores e0 e1 t h) (VV z h t)).trans ?_
  funext u
  idx_vars u
  refine congrArg Real.toEReal ?_
  refine (congrArg₂ (· / ·) ?_ (total e0 e1 t h u0) :)
  exact (window e0 e1 t h u0 fun j => z (ix2 j ⟨1024 + h.val * 64 + u1.val, by omega⟩))

theorem hlse_val : hlse m c t h = up (arr fun a (_ : Fin 1) => ll z rb h (row t a)) := by
  unfold hlse
  refine (g59 (PM (grid0.coords t)) (PM_some _) (fs (QQ z h t) (KK z h t) (BB rb h)) _ (scores e0 e1 t h)).trans ?_
  funext u
  idx_vars u
  refine congrArg Real.toEReal ?_
  exact congrArg Real.log (total e0 e1 t h u0)

end Blocks

variable (m : (ℓ : Loc nD τ sig) → Buf (Elt Ideal) ℓ) (c : Dev nD) (z : S8192x4608.Idx → ℝ) (rb : S8x257.Idx → ℝ)
  (e0 : m ((c : Thread nD τ).loc main_arg0) = up z) (e1 : m ((c : Thread nD τ).loc main_arg1) = up rb)

include e0 e1

/-- The first result array after the run. -/
theorem final12 : (dats m 0 c).arrAt 12 (cfgs 0).N = up (YY z rb) := by
  refine (dats m 0 c).arrAt_eq_of_covers 12 _ (by decide +kernel) fun t _ y => ?_
  blk_simp
  rw [after0_12]
  refine (out12 m c t (up (arr fun a j => YY z rb (ix2 (row t a) j))) (fun h u0 u1 => ?_) y).trans ?_
  · rw [hout_val e0 e1 t h]
    exact congrArg Real.toEReal (YY_at z rb h (row t u0) u1 _ rfl).symm
  · have hy : ((cfg0.win 12).blk t).view.emb y = ix2 (row t (y 0)) (y 1) := by
      have := row_val t (y 0)
      blk_ext [idx t]
    exact (congrArg (up (YY z rb)) hy).symm

/-- The second result array after the run. -/
theorem final13 : (dats m 0 c).arrAt 13 (cfgs 0).N = up (LL z rb) := by
  refine (dats m 0 c).arrAt_eq_of_covers 13 _ (by decide +kernel) fun t _ y => ?_
  blk_simp
  rw [after0_13]
  refine (out13 m c t (up (arr fun a j => LL z rb (ix2 (row t a) j))) (fun h u0 => ?_) y).trans ?_
  · rw [hlse_val e0 e1 t h]
    rfl
  · have hy : ((cfg0.win 13).blk t).view.emb y = ix2 (row t (y 0)) (y 1) := by
      have := row_val t (y 0)
      blk_ext [idx t]
    exact (congrArg (up (LL z rb)) hy).symm
-- ==== Proof.AttnRef.lean ====
/- The attention reference's own terms read as the attention over the real numbers. -/
module
public import proofs.«01_k».proof.Proof.AttnSpec
public import proofs.«01_k».proof.Proof.Gen.AttnRefIdeal.Run
@[expose] public section
set_option maxRecDepth 16384
noncomputable section

namespace Cert.AttnSpec

open Idealize.ShloMosaic Cert.Reals Cert.Softmax
open Cert.AttnRefIdeal Cert.AttnRefIdeal.Gen

/-- The array whose entry at `i`, `j`, `k` is `f i j k`. -/
def cube {a b c : Nat} (f : Fin a → Fin b → Fin c → ℝ) (x : (⟨3, ![a, b, c]⟩ : Shape).Idx) : ℝ := f (x 0) (x 1) (x 2)

theorem cube_ix {a b c : Nat} (f : Fin a → Fin b → Fin c → ℝ) (i : Fin a) (j : Fin b) (k : Fin c) : cube f (ix3 i j k) = f i j k := rfl

theorem chunk_word : ∀ (a : Fin 64) (b : Fin 128),
    IntOp.divsi ArithUnit.host (BitVec.ofNat 32 (a.val * 128 + b.val)) 64#32 = BitVec.ofNat 32 ((a.val * 128 + b.val) / 64) := by
  decide +kernel

theorem far_word : ∀ p q : Fin 128,
    IntOp.andi (IntOp.cmpi .sge (IntOp.subi (BitVec.ofNat 32 p.val) (BitVec.ofNat 32 q.val)) 0#32)
      (IntOp.cmpi .sle (IntOp.subi (BitVec.ofNat 32 p.val) (BitVec.ofNat 32 q.val)) 8#32) = 1#1 ↔ q.val ≤ p.val ∧ p.val ≤ q.val + 8 := by
  decide +kernel

/-- A distance clipped to 128 either way, from 0. -/
def clipW (n : BitVec 32) : BitVec 32 := IntOp.addi (IntOp.maxsi (IntOp.minsi n 128#32) 4294967168#32) 128#32

/-- The table's place of a distance, counted from the end where negative. -/
def placeW (n : BitVec 32) : BitVec 32 := Scalar.select (IntOp.cmpi .slt (clipW n) 0#32) (IntOp.addi (clipW n) 257#32) (clipW n)

theorem place_word : ∀ a b : Fin 128,
    (placeW (BitVec.ofNat 32 (a.val * 128 + b.val) - 8192#32)).toInt.toNat = min (a.val * 128 + b.val - 8064) 256 := by
  decide +kernel

theorem chunk_at (i : Fin 8192) : IntOp.divsi ArithUnit.host (BitVec.ofNat 32 i.val) 64#32 = BitVec.ofNat 32 (i.val / 64) := by
  have := chunk_word ⟨i.val / 128, by omega⟩ ⟨i.val % 128, by omega⟩
  rwa [show i.val / 128 * 128 + i.val % 128 = i.val by omega] at this

theorem sees_word (i j : Fin 8192) :
    IntOp.andi (IntOp.cmpi .sge (IntOp.subi (IntOp.divsi ArithUnit.host (BitVec.ofNat 32 i.val) 64#32) (IntOp.divsi ArithUnit.host (BitVec.ofNat 32 j.val) 64#32)) 0#32)
      (IntOp.cmpi .sle (IntOp.subi (IntOp.divsi ArithUnit.host (BitVec.ofNat 32 i.val) 64#32) (IntOp.divsi ArithUnit.host (BitVec.ofNat 32 j.val) 64#32)) 8#32) = 1#1
      ↔ sees i.val j.val := by
  rw [chunk_at, chunk_at]
  exact far_word ⟨i.val / 64, by omega⟩ ⟨j.val / 64, by omega⟩

theorem gap_word (i j : Fin 8192) :
    IntOp.subi (BitVec.ofNat 32 i.val) (BitVec.ofNat 32 j.val) = BitVec.ofNat 32 (i.val + 8192 - j.val) - 8192#32 := by
  show BitVec.ofNat 32 i.val - BitVec.ofNat 32 j.val = _
  refine BitVec.eq_of_toNat_eq ?_
  simp only [BitVec.toNat_sub, BitVec.toNat_ofNat]
  omega

theorem place_at (i j : Fin 8192) :
    (placeW (IntOp.subi (BitVec.ofNat 32 i.val) (BitVec.ofNat 32 j.val))).toInt.toNat = (dist i.val j.val).val := by
  have := place_word ⟨(i.val + 8192 - j.val) / 128, by omega⟩ ⟨(i.val + 8192 - j.val) % 128, by omega⟩
  simp only at this
  rw [show (i.val + 8192 - j.val) / 128 * 128 + (i.val + 8192 - j.val) % 128 = i.val + 8192 - j.val by omega] at this
  rw [gap_word, this]
  show min _ _ = min _ _
  omega

section Ref

variable (z : FVec Ideal S8192x4608 .bf16) (rb : FVec Ideal S8x257 .f32)

def hQ : FVec Ideal S8192x8x64 .f32 :=
  mulf (shapeCast _ (extf .f32 (extractStridedSlice S8192x512 ![0, 0] z slices_S8192x4608_S8192x512_0_0) bitsLt_bf16_f32) shapeCasts_S8192x512_S8192x8x64) (broadcastInDim S8192x8x64 ![] bcast_S_S8192x8x64 (constant S_ .f32 0x3E000000#32))

def hK : FVec Ideal S8192x8x64 .f32 :=
  shapeCast _ (extf .f32 (extractStridedSlice S8192x512 ![0, 512] z slices_S8192x4608_S8192x512_0_512) bitsLt_bf16_f32) shapeCasts_S8192x512_S8192x8x64

def hV : FVec Ideal S8192x8x64 .f32 :=
  shapeCast _ (extf .f32 (extractStridedSlice S8192x512 ![0, 1024] z slices_S8192x4608_S8192x512_0_1024) bitsLt_bf16_f32) shapeCasts_S8192x512_S8192x8x64

def down (x : IVec S8192 32) : IVec S8192x8192 32 :=
  broadcastInDim S8192x8192 ![0, 1] bcast_S8192x1_S8192x8192_0_1 (broadcastInDim S8192x1 ![0] bcast_S8192_S8192x1_0 x)

def along (x : IVec S8192 32) : IVec S8192x8192 32 :=
  broadcastInDim S8192x8192 ![0, 1] bcast_S1x8192_S8192x8192_0_1 (broadcastInDim S1x8192 ![1] bcast_S8192_S1x8192_1 x)

def all (n : BitVec 32) : IVec S8192x8192 32 := broadcastInDim S8192x8192 ![] bcast_S_S8192x8192 (constantI S_ 32 n)

def chunks : IVec S8192 32 := Host.divsi (iotaInDim S8192 32 0) (broadcastInDim S8192 ![] bcast_S_S8192 (constantI S_ 32 64#32))

def far : IVec S8192x8192 32 := subi (down chunks) (along chunks)

def clipped : IVec S8192x8192 32 :=
  addi (maxsi (minsi (subi (down (iotaInDim S8192 32 0)) (along (iotaInDim S8192 32 0))) (all 128#32)) (all 4294967168#32)) (all 128#32)

def place : IVec S8192x8192x1 32 :=
  broadcastInDim S8192x8192x1 ![0, 1] bcast_S8192x8192_S8192x8192x1_0_1 (select (cmpi .slt clipped (all 0#32)) (addi clipped (all 257#32)) clipped)

def seen : IVec S8x8192x8192 1 :=
  broadcastInDim S8x8192x8192 ![0, 1, 2] bcast_S1x8192x8192_S8x8192x8192_0_1_2 (broadcastInDim S1x8192x8192 ![1, 2] bcast_S8192x8192_S1x8192x8192_1_2 (andi (cmpi .sge far (all 0#32)) (cmpi .sle far (all 8#32))))

def hB : FVec Ideal S8x8192x8192 .f32 := Host.gather gather_S8x257_S8192x8192x1_S8x8192x8192_0_1_n_n_1_2_81 rb place

def hS : FVec Ideal S8x8192x8192 .f32 :=
  select seen (addf (Host.dotGeneral dot_S8192x8x64_S8192x8x64_S8x8192x8192_2_2_0_0_1_1 none (hQ z) (hK z)) (hB rb))
    (broadcastInDim S8x8192x8192 ![] bcast_S_S8x8192x8192 (constant S_ .f32 0xFF800000#32))

def hMx : FVec Ideal S8x8192 .f32 := Host.reduce FloatOps.maximumf (hS z rb) (constant S_ .f32 0xFF800000#32) reducesTo_S8x8192x8192_S8x8192_d2 h_S_

def hM1 : FVec Ideal S8x8192x1 .f32 := broadcastInDim S8x8192x1 ![0, 1] bcast_S8x8192_S8x8192x1_0_1 (hMx z rb)

def hE : FVec Ideal S8x8192x8192 .f32 :=
  Host.exp (subf (hS z rb) (broadcastInDim S8x8192x8192 ![0, 1, 2] bcast_S8x8192x1_S8x8192x8192_0_1_2 (hM1 z rb)))

def hZ : FVec Ideal S8x8192x1 .f32 :=
  broadcastInDim S8x8192x1 ![0, 1] bcast_S8x8192_S8x8192x1_0_1 (Host.reduceAdd (hE z rb) (constant S_ .f32 0x00000000#32) reducesTo_S8x8192x8192_S8x8192_d2 h_S_)

def hP : FVec Ideal S8x8192x8192 .f32 :=
  Host.divf (hE z rb) (broadcastInDim S8x8192x8192 ![0, 1, 2] bcast_S8x8192x1_S8x8192x8192_0_1_2 (hZ z rb))

def hY : FVec Ideal S8192x512 .bf16 :=
  truncf .bf16 (shapeCast _ (transpose S8192x8x64 [2, 0, 1] (Host.dotGeneral dot_S8192x8x64_S8x8192x8192_S8x64x8192_0_2_2_1_1_0 none (hV z) (hP z rb)) transposes_S8x64x8192_S8192x8x64_2_0_1) shapeCasts_S8192x8x64_S8192x512) bitsLt_bf16_f32

def hL : FVec Ideal S8192x8 .f32 :=
  transpose S8192x8 [1, 0] (shapeCast _ (addf (hM1 z rb) (Host.log (hZ z rb))) shapeCasts_S8x8192x1_S8x8192) transposes_S8x8192_S8192x8_1_0

end Ref

section Eval

theorem place_eq (i j : Fin 8192) : place (ix3 i j 0) = placeW (IntOp.subi (BitVec.ofNat 32 i.val) (BitVec.ofNat 32 j.val)) := by
  rfl

theorem seen_eq (h : Fin 8) (i j : Fin 8192) : seen (ix3 h i j) = 1#1 ↔ sees i.val j.val := sees_word i j
-- ==== Proof.AttnRefEval.lean ====
/- The attention reference's stages over the real numbers. -/
module
public import proofs.«01_k».proof.Proof.AttnRef
@[expose] public section
set_option maxRecDepth 16384
noncomputable section

namespace Cert.AttnSpec

open Idealize.ShloMosaic Cert.Reals Cert.Softmax
open Cert.AttnRefIdeal Cert.AttnRefIdeal.Gen

variable (z : S8192x4608.Idx → ℝ) (rb : S8x257.Idx → ℝ)

theorem eighth32 : Ideal.ofBits .f32 0x3E000000#32 = ((1 / 8 : ℝ) : EReal) := by
  simp [Ideal.ofBits, Ideal.ieee]; rw [← EReal.coe_mul]; norm_num

theorem hQ_eq : hQ (up z) = up (cube fun i h d => z (ix2 i ⟨h.val * 64 + d.val, by omega⟩) * (1 / 8)) := by
  funext u
  idx_vars u
  pointwise [hQ]
  rw [eighth32]
  simp only [up, ← EReal.coe_mul]
  rfl

theorem hK_eq : hK (up z) = up (cube fun i h d => z (ix2 i ⟨512 + h.val * 64 + d.val, by omega⟩)) := by
  funext u
  idx_vars u
  pointwise [hK]
  exact congrArg (fun j => up z (ix2 u0 j)) (Fin.ext (Nat.add_assoc 512 _ _).symm)

theorem hV_eq : hV (up z) = up (cube fun i h d => z (ix2 i ⟨1024 + h.val * 64 + d.val, by omega⟩)) := by
  funext u
  idx_vars u
  pointwise [hV]
  exact congrArg (fun j => up z (ix2 u0 j)) (Fin.ext (Nat.add_assoc 1024 _ _).symm)

/-- The reference's gather, read at an index. -/
theorem gather_at (x : FVec Ideal S8x257 .f32) (y : IVec S8192x8192x1 32) (h : Fin 8) (i j : Fin 8192) :
    Host.gather gather_S8x257_S8192x8192x1_S8x8192x8192_0_1_n_n_1_2_81 x y (ix3 h i j)
      = x (ix2 h ⟨min (y (ix3 i j 0)).toInt.toNat 256, by omega⟩) := by
  unfold Host.gather
  refine congrArg x ?_
  funext a
  refine Fin.ext ?_
  show GatherDims.start _ (ix3 h i j) y a + GatherDims.batchCoord _ (ix3 h i j) a + GatherDims.offCoord _ (ix3 h i j) a = _
  rw [GatherDims.batchCoord_eq_zero _ _ _ (List.not_mem_nil)]
  have h01 : a = (0 : Fin 2) ∨ a = (1 : Fin 2) := by
    match a with
    | ⟨0, _⟩ => exact Or.inl rfl
    | ⟨1, _⟩ => exact Or.inr rfl
  rcases h01 with rfl | rfl
  · unfold GatherDims.start
    rw [dif_neg (show ¬ (0 : Fin 2) ∈ gather_S8x257_S8192x8192x1_S8x8192x8192_0_1_n_n_1_2_81.startIndexMap by decide)]
    exact Nat.zero_add _
  · rw [GatherDims.offCoord_eq_zero _ _ _ (fun h => ((GatherDims.mem_sKept _ _).mp h).1 (List.mem_singleton.mpr rfl))]
    unfold GatherDims.start
    rw [dif_pos (show (1 : Fin 2) ∈ gather_S8x257_S8192x8192x1_S8x8192x8192_0_1_n_n_1_2_81.startIndexMap from List.mem_singleton.mpr rfl)]
    refine congrArg (fun k => min (y k).toInt.toNat 256) ?_
    funext b
    refine Fin.ext ?_
    match b with
    | ⟨0, _⟩ => rfl
    | ⟨1, _⟩ => rfl
    | ⟨2, _⟩ => rfl

theorem hB_eq (x : FVec Ideal S8x257 .f32) (h : Fin 8) (i j : Fin 8192) : hB x (ix3 h i j) = x (ix2 h (dist i.val j.val)) := by
  unfold hB
  rw [gather_at]
  refine congrArg (fun k => x (ix2 h k)) (Fin.ext ?_)
  show min _ 256 = _
  rw [place_eq, place_at]
  exact min_eq_left (by have := (dist i.val j.val).isLt; omega)

theorem ninf_at (u : S8x8192x8192.Idx) :
    broadcastInDim S8x8192x8192 ![] bcast_S_S8x8192x8192 (constant (F := Ideal) S_ .f32 0xFF800000#32) u = (⊥ : EReal) := ninf_lit

theorem ninf_one (u : S_.Idx) : constant (F := Ideal) S_ .f32 0xFF800000#32 u = (⊥ : EReal) := ninf_lit

theorem hS_eq (h : Fin 8) (i j : Fin 8192) : hS (up z) (up rb) (ix3 h i j) = ms (fun j => sees i.val j.val) (sc z rb h i) j := by
  unfold hS
  rw [hQ_eq, hK_eq]
  show Scalar.select _ _ _ = _
  unfold Scalar.select
  refine if_congr (seen_eq h i j) ?_ (ninf_at _)
  show _ + hB (up rb) (ix3 h i j) = _
  rw [hB_eq]
  pointwise
  simp only [up, ← EReal.coe_mul, coe_sum, ← EReal.coe_add]
  rfl

theorem rowMax (s : FVec Ideal S8x8192x8192 .f32) (v : FVec Ideal S_ .f32) (h : Fin 8) (i : Fin 8192) :
    Host.reduce FloatOps.maximumf s v reducesTo_S8x8192x8192_S8x8192_d2 h_S_ (ix2 h i)
      = (Finset.univ.fold max (v (Shape.Idx.first h_S_)) fun m : Fin 8192 => s (ix3 h i m) : EReal) := by
  pointwise

theorem some_key (i : Fin 8192) : ∃ j : Fin 8192, sees i.val j.val := ⟨i, sees_self _⟩

/-- A row's largest score is a real number. -/
theorem hMx_eq : ∃ r : Fin 8 → Fin 8192 → ℝ, hMx (up z) (up rb) = up (arr r) := by
  have e (h : Fin 8) (i : Fin 8192) : ∃ r : ℝ, hMx (up z) (up rb) (ix2 h i) = (r : EReal) := by
    obtain ⟨r, hr⟩ := ms_max (fun j : Fin 8192 => sees i.val j.val) (sc z rb h i) (some_key i)
    refine ⟨r, ?_⟩
    unfold hMx
    rw [rowMax, ninf_one]
    simp only [hS_eq]
    exact hr
  choose r hr using e
  refine ⟨r, ?_⟩
  funext u
  idx_vars u
  exact hr _ _

/-- The exponentials, less the number `r` the row subtracts. -/
def E (r : Fin 8 → Fin 8192 → ℝ) (h : Fin 8) (i j : Fin 8192) : ℝ := ww z rb h i j / Real.exp (r h i)

section Shifted

variable {z rb} {r : Fin 8 → Fin 8192 → ℝ} (hr : hMx (up z) (up rb) = up (arr r))

include hr

theorem hE_eq : hE (up z) (up rb) = up (cube (E z rb r)) := by
  funext u
  idx_vars u
  unfold hE hM1
  rw [hr]
  show Ideal.exp (hS (up z) (up rb) (ix3 u0 u1 u2) - ((r u0 u1 : ℝ) : EReal)) = _
  rw [hS_eq, ms_exp]
  rfl

theorem E_sum (h : Fin 8) (i : Fin 8192) : ∑ j, E z rb r h i j = (∑ j, ww z rb h i j) / Real.exp (r h i) := wt_shifted _ _ _

theorem E_pos (h : Fin 8) (i : Fin 8192) : 0 < ∑ j, E z rb r h i j := by
  rw [E_sum hr]
  exact div_pos (wt_pos _ _ (some_key i)) (Real.exp_pos _)

theorem hZ_eq : hZ (up z) (up rb) = up (cube fun h i (_ : Fin 1) => ∑ j, E z rb r h i j) := by
  funext u
  idx_vars u
  unfold hZ
  rw [hE_eq hr]
  pointwise
  simp only [up, coe_sum]
  rfl

theorem hP_eq : hP (up z) (up rb) = up (cube fun h i j => E z rb r h i j / ∑ j, E z rb r h i j) := by
  funext u
  idx_vars u
  unfold hP
  rw [hE_eq hr, hZ_eq hr]
  pointwise
  simp only [up, cube_ix]
  rw [div_coe _ (E_pos hr u0 u1).ne']

theorem out_host (h : Fin 8) (i : Fin 8192) (d : Fin 64) :
    ∑ j : Fin 8192, z (ix2 j ⟨1024 + h.val * 64 + d.val, by omega⟩) * (E z rb r h i j / ∑ j, E z rb r h i j) = oo z rb h i d := by
  rw [E_sum hr]
  refine Eq.trans ?_ (out_shifted (fun j : Fin 8192 => sees i.val j.val) (sc z rb h i) (r h i) fun j => z (ix2 j ⟨1024 + h.val * 64 + d.val, by omega⟩))
  refine Eq.trans (Finset.sum_congr rfl fun j _ => ?_) (Finset.sum_div _ _ _).symm
  exact (mul_comm _ _).trans (div_mul_eq_mul_div _ _ _)

theorem hY_eq : hY (up z) (up rb) = up (YY z rb) := by
  funext u
  idx_vars u
  unfold hY
  rw [hV_eq, hP_eq hr]
  pointwise
  simp only [up, ← EReal.coe_mul, coe_sum]
  refine congrArg Real.toEReal ?_
  exact out_host hr ⟨u1.val / 64, by omega⟩ u0 ⟨u1.val % 64, by omega⟩

theorem hL_eq : hL (up z) (up rb) = up (LL z rb) := by
  funext u
  idx_vars u
  unfold hL hM1
  rw [hZ_eq hr, hr]
  pointwise
  simp only [up, cube_ix, arr_ix]
  rw [log_pos (E_pos hr _ _), ← EReal.coe_add, E_sum hr]
  exact congrArg Real.toEReal (lse_shifted _ _ (some_key u0) _)

end Shifted

theorem ref_y (m : (ℓ : Loc nD τ sig) → Buf (Elt Ideal) ℓ) (c : Dev nD) (e0 : m ((c.tc : Thread nD τ).loc main_arg0) = up z)
    (e1 : m ((c.tc : Thread nD τ).loc main_arg1) = up rb) : Value.res_main_v58 m c = up (YY z rb) := by
  obtain ⟨r, hr⟩ := hMx_eq z rb
  refine Eq.trans ?_ (hY_eq hr)
  rw [← e0, ← e1]
  rfl

theorem ref_l (m : (ℓ : Loc nD τ sig) → Buf (Elt Ideal) ℓ) (c : Dev nD) (e0 : m ((c.tc : Thread nD τ).loc main_arg0) = up z)
    (e1 : m ((c.tc : Thread nD τ).loc main_arg1) = up rb) : Value.res_main_v62 m c = up (LL z rb) := by
  obtain ⟨r, hr⟩ := hMx_eq z rb
  refine Eq.trans ?_ (hL_eq hr)
  rw [← e0, ← e1]
  rfl
-- ==== Proof.AttnClaim.lean ====
/- The claims about the attention. -/
module
public import proofs.«01_k».proof.Defs
public import proofs.«01_k».proof.Proof.AttnBlocks
public import proofs.«01_k».proof.Proof.AttnRefEval
public import proofs.«01_k».proof.Proof.Gen.Pre_attn_finite
@[expose] public section
set_option maxRecDepth 16384
noncomputable section

namespace Cert.AttnClaim

open Idealize.ShloMosaic Idealize.ShloMosaic.TcCoe Idealize.SL.Sem Cert.Reals

/-- Every entry of the two arrays is a real number where `attn_finite` holds. -/
theorem finite {z : FVec Ideal Cert.AttnIdeal.S8192x4608 .bf16} {rb : FVec Ideal Cert.AttnIdeal.S8x257 .f32}
    (h : Cert.Pre_attn_finite.fn (F := Ideal) z rb = fun _ => 1#1) :
    (∃ r : Cert.AttnIdeal.S8192x4608.Idx → ℝ, z = up r) ∧ ∃ r : Cert.AttnIdeal.S8x257.Idx → ℝ, rb = up r := by
  have h' := congrFun h ix0
  obtain ⟨h0, h1⟩ := IntOp.andi_eq_one.1 h'
  have inf : ∀ (s : Shape) (b) , ∀ i, (broadcastInDim s ![] b (constant (F := Ideal) Cert.Pre_attn_finite.S_ .f32 0x7F800000#32)) i = (⊤ : EReal) :=
    fun s b i => inf_lit
  exact ⟨real_of_all _ _ (inf _ _) _ _ _ _ h0, real_of_all _ _ (inf _ _) _ _ _ _ h1⟩

theorem algebraic : Cert.algebraic_AttnIdeal_AttnRefIdeal_pre_attn_finite := fun m g m' g' hpre hag => by
  choose fz frb using fun c => finite (hpre c)
  choose z hz using fz
  choose rb hrb using frb
  refine ⟨fun c => up (AttnSpec.YY (z c) (rb c)), fun c => up (AttnSpec.LL (z c) (rb c)), ?_, ?_⟩
  · refine (θ_run _ _ _).mono (fun r h c => ?_) (Cert.AttnIdeal.Value.run_blocks m g)
    exact ⟨(h c).1.trans (Cert.AttnIdeal.Hand.final12 m c _ _ (hz c) (hrb c)), (h c).2.1.trans (Cert.AttnIdeal.Hand.final13 m c _ _ (hz c) (hrb c)), (h c).2.2⟩
  · refine (θ_run _ _ _).mono (fun r h c => ?_) (Cert.AttnRefIdeal.Value.run m' g')
    exact ⟨(h c).1.trans (AttnSpec.ref_y _ _ m' c ((hag c).1.trans (hz c)) ((hag c).2.trans (hrb c))),
      (h c).2.1.trans (AttnSpec.ref_l _ _ m' c ((hag c).1.trans (hz c)) ((hag c).2.trans (hrb c))), (h c).2.2⟩
-- ==== Proof.FwdNorm.lean ====
/- A norm of rows and the product it feeds, as the forward pass has them: the terms both programs come to. -/
module
public import Idealize.ShloMosaic.Lib.Pipeline.ValueKit
public import Idealize.ShloMosaic.Lib.Claim
@[expose] public section
noncomputable section

namespace Cert.FwdNorm

open Idealize.ShloMosaic

/-- An entry of the normalised rows. -/
def entry {R : Nat} (x : (⟨2, ![R, 1024]⟩ : Shape).Idx → EReal) (g : (⟨2, ![1, 1024]⟩ : Shape).Idx → EReal) (i : Fin R) (k : Fin 1024) : EReal :=
  x (ix2 i k) * Ideal.rsqrt (Ideal.div (∑ l : Fin 1024, x (ix2 i l) * x (ix2 i l)) (Ideal.ofBits .f32 0x44800000#32) + Ideal.ofBits .f32 0x358637BD#32)
    * g (ix2 0 k)

/-- The normalised rows. -/
def normed {R : Nat} (x : (⟨2, ![R, 1024]⟩ : Shape).Idx → EReal) (g : (⟨2, ![1, 1024]⟩ : Shape).Idx → EReal) (u : (⟨2, ![R, 1024]⟩ : Shape).Idx) : EReal :=
  entry x g (u 0) (u 1)

/-- Their product with a matrix. -/
def product {R n : Nat} (x : (⟨2, ![R, 1024]⟩ : Shape).Idx → EReal) (g : (⟨2, ![1, 1024]⟩ : Shape).Idx → EReal)
    (w : (⟨2, ![1024, n]⟩ : Shape).Idx → EReal) (u : (⟨2, ![R, n]⟩ : Shape).Idx) : EReal :=
  ∑ k : Fin 1024, entry x g (u 0) k * w (ix2 k (u 1))

/-- The product times the queries' factor. -/
def scaled {R n : Nat} (x : (⟨2, ![R, 1024]⟩ : Shape).Idx → EReal) (g : (⟨2, ![1, 1024]⟩ : Shape).Idx → EReal)
    (w : (⟨2, ![1024, n]⟩ : Shape).Idx → EReal) (u : (⟨2, ![R, n]⟩ : Shape).Idx) : EReal :=
  product x g w u * Ideal.ofBits .f32 0x3D800000#32

/-- Row `i` of tile `t`. -/
def row {N n b : Nat} (h : N = n * b) (t : Fin n) (i : Fin b) : Fin N :=
  ⟨t.val * b + i.val, by
    subst h
    calc t.val * b + i.val < t.val * b + b := by omega
      _ = (t.val + 1) * b := by ring
      _ ≤ n * b := Nat.mul_le_mul_right _ t.isLt⟩

/-- A matrix cut into four shards of `c` columns. -/
def shards {n c : Nat} (w : (⟨2, ![1024, n]⟩ : Shape).Idx → EReal) (h : 4 * c = n) (u : (⟨3, ![4, 1024, c]⟩ : Shape).Idx) : EReal :=
  w (ix2 (u 1) ⟨(u 0).val * c + (u 2).val, by have h0 : (u 0).val < 4 := (u 0).isLt; have h2 : (u 2).val < c := (u 2).isLt; nlinarith⟩)

theorem product_shards {R n c : Nat} (x : (⟨2, ![R, 1024]⟩ : Shape).Idx → EReal) (g : (⟨2, ![1, 1024]⟩ : Shape).Idx → EReal)
    (w : (⟨2, ![1024, n]⟩ : Shape).Idx → EReal) (h : 4 * c = n) (i : Fin R) (o : Fin 4) (j : Fin c) (v : Fin n) (e : v.val = o.val * c + j.val) :
    ∑ k : Fin 1024, entry x g i k * shards w h (ix3 o k j) = product x g w (ix2 i v) :=
  Finset.sum_congr rfl fun k _ => congrArg (fun q => entry x g i k * w (ix2 k q)) (Fin.ext e.symm)

/-- The rows of a tile. -/
def tile {N n b : Nat} (h : N = n * b) (x : (⟨2, ![N, 1024]⟩ : Shape).Idx → EReal) (t : Fin n) : (⟨2, ![b, 1024]⟩ : Shape).Idx → EReal :=
  fun u => x (ix2 (row h t (u 0)) (u 1))
-- ==== Proof.MixInValue.lean ====
/- What the norm before the mixers and its product leave in their result arrays. -/
module
public import proofs.«01_k».proof.Proof.FwdNorm
public import proofs.«01_k».proof.Proof.Gen.MixInIdeal.Value
@[expose] public section
set_option maxRecDepth 16384
noncomputable section

namespace Cert.MixInIdeal.Hand

open Idealize.ShloMosaic Idealize.ShloMosaic.TcCoe Idealize.SL.Sem
open Idealize.ShloMosaic.Pipeline (Dat)
open Cert.MixInIdeal Cert.MixInIdeal.Gen Cert.FwdNorm

variable (m : (ℓ : Loc nD τ sig) → Buf (Elt Ideal) ℓ)

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

theorem tiles : 8192 = cfg0.N * 512 := by rw [show cfg0.N = 16 from N_0]

section Blocks

variable {m} {c : Dev nD} {x : S8192x1024.Idx → EReal} {g : S1x1024.Idx → EReal} {w : S1024x4608.Idx → EReal}

theorem block_x (t : Fin cfg0.N) (h : m ((c : Thread nD τ).loc main_arg0) = x) : (iblk m c 0 t : FVec Ideal S512x1024 .f32) = tile tiles x t := by
  funext y
  have e : iblk m c 0 t y = m ((c : Thread nD τ).loc main_arg0) (ix2 (row tiles t (y 0)) (y 1)) := by
    have : (row tiles t (y 0)).val = t.val * 512 + (y 0).val := rfl
    blk_ext [iblk, V, idx t]
  rw [e, h]; rfl

theorem block_g (t : Fin cfg0.N) (h : m ((c : Thread nD τ).loc main_arg1) = g) : (iblk m c 1 t : FVec Ideal S1x1024 .f32) = g := by
  funext y
  have e : iblk m c 1 t y = m ((c : Thread nD τ).loc main_arg1) y := by blk_ext [iblk, V, idx t]
  rw [e, h]

theorem block_w (t : Fin cfg0.N) (h : m ((c : Thread nD τ).loc main_arg2) = w) : (iblk m c 2 t : FVec Ideal S4x1024x1152 .bf16) = shards w rfl := by
  funext y
  have e : iblk m c 2 t y = m ((c : Thread nD τ).loc main_arg2) (ix2 (y 1) ⟨(y 0).val * 1152 + (y 2).val, by have h0 : (y 0).val < 4 := (y 0).isLt; have h2 : (y 2).val < 1152 := (y 2).isLt; omega⟩) := by
    idx_vars y
    blk_simp [iblk, idx t]
    entry_read
    pointwise
    blk_ext [idx t]
  rw [e, h]; rfl

end Blocks

theorem core3 (x : S8192x1024.Idx → EReal) (g : S1x1024.Idx → EReal) (w : S4x1024x1152.Idx → EReal) (t : Fin cfg0.N) (y : S512x1024.Idx) :
    out0_3 (F := Ideal) (tile tiles x t) g w y = normed x g (ix2 (row tiles t (y 0)) (y 1)) := by
  canon_tiles u h
  idx_vars u
  open_payloads
  pointwise
  rw [show y 0 = u0 from Fin.ext h0, show y 1 = u1 from Fin.ext h1]
  rfl

theorem core4 (x : S8192x1024.Idx → EReal) (g : S1x1024.Idx → EReal) (w : S1024x4608.Idx → EReal) (t : Fin cfg0.N) (y : S512x4608.Idx) :
    out0_4 (F := Ideal) (tile tiles x t) g (shards w rfl) y = product x g w (ix2 (row tiles t (y 0)) (y 1)) := by
  canon_tiles u h
  all_goals
    idx_vars u
    open_payloads
    pointwise
    rw [show y 0 = u0 from Fin.ext h0]
    exact product_shards x g w rfl _ _ u1 (y 1) (by rw [h1]; simp)

/-- The normalised rows after the run. -/
theorem final3 (c : Dev nD) (x : S8192x1024.Idx → EReal) (g : S1x1024.Idx → EReal)
    (h0 : m ((c : Thread nD τ).loc main_arg0) = x) (h1 : m ((c : Thread nD τ).loc main_arg1) = g) :
    (dats m 0 c).arrAt 3 (cfgs 0).N = normed x g := by
  refine (dats m 0 c).arrAt_eq_of_covers 3 _ (by decide +kernel) fun t _ y => ?_
  blk_simp
  rw [after0_3]
  have hy : ((cfg0.win 3).blk t).view.emb y = ix2 (row tiles t (y 0)) (y 1) := by
    have : (row tiles t (y 0)).val = t.val * 512 + (y 0).val := rfl
    blk_ext [idx t]
  rw [hy, block_x t h0, block_g t h1]
  exact core3 x g _ t y

/-- The product after the run. -/
theorem final4 (c : Dev nD) (x : S8192x1024.Idx → EReal) (g : S1x1024.Idx → EReal) (w : S1024x4608.Idx → EReal)
    (h0 : m ((c : Thread nD τ).loc main_arg0) = x) (h1 : m ((c : Thread nD τ).loc main_arg1) = g) (h2 : m ((c : Thread nD τ).loc main_arg2) = w) :
    (dats m 0 c).arrAt 4 (cfgs 0).N = product x g w := by
  refine (dats m 0 c).arrAt_eq_of_covers 4 _ (by decide +kernel) fun t _ y => ?_
  blk_simp
  rw [after0_4]
  have hy : ((cfg0.win 4).blk t).view.emb y = ix2 (row tiles t (y 0)) (y 1) := by
    have : (row tiles t (y 0)).val = t.val * 512 + (y 0).val := rfl
    blk_ext [idx t]
  rw [hy, block_x t h0, block_g t h1, block_w t h2]
  exact core4 x g w t y
-- ==== Proof.MixInClaim.lean ====
/- The claim about the norm before the mixers and its product. -/
module
public import proofs.«01_k».proof.Defs
public import proofs.«01_k».proof.Proof.MixInValue
public import proofs.«01_k».proof.Proof.Gen.MixInRefIdeal.Run
@[expose] public section
set_option maxRecDepth 16384
noncomputable section

namespace Cert.MixInClaim

open Idealize.ShloMosaic Idealize.ShloMosaic.TcCoe Idealize.SL.Sem Cert.FwdNorm

theorem algebraic : Cert.algebraic_MixInIdeal_MixInRefIdeal := fun m g m' g' _ hag => by
  refine ⟨fun c => (normed (m ((c.tc : Thread Cert.MixInIdeal.nD Cert.MixInIdeal.τ).loc Cert.MixInIdeal.main_arg0)) (m ((c.tc : Thread Cert.MixInIdeal.nD Cert.MixInIdeal.τ).loc Cert.MixInIdeal.main_arg1)) : Cert.MixInIdeal.S8192x1024.Idx → EReal),
    fun c => (product (m ((c.tc : Thread Cert.MixInIdeal.nD Cert.MixInIdeal.τ).loc Cert.MixInIdeal.main_arg0)) (m ((c.tc : Thread Cert.MixInIdeal.nD Cert.MixInIdeal.τ).loc Cert.MixInIdeal.main_arg1))
      (m ((c.tc : Thread Cert.MixInIdeal.nD Cert.MixInIdeal.τ).loc Cert.MixInIdeal.main_arg2)) : Cert.MixInIdeal.S8192x4608.Idx → EReal), ?_, ?_⟩
  · refine (θ_run _ _ _).mono (fun r h c => ?_) (Cert.MixInIdeal.Value.run_blocks m g)
    exact ⟨(h c).1.trans (Cert.MixInIdeal.Hand.final3 m c _ _ rfl rfl), (h c).2.1.trans (Cert.MixInIdeal.Hand.final4 m c _ _ _ rfl rfl rfl), (h c).2.2⟩
  · refine (θ_run _ _ _).mono (fun r h c => ?_) (Cert.MixInRefIdeal.Value.run m' g')
    refine ⟨(h c).1.trans ?_, (h c).2.1.trans ?_, (h c).2.2⟩
    · rw [(hag c).1, (hag c).2.1]
      funext u
      idx_vars u
      pointwise
      rfl
    · rw [(hag c).1, (hag c).2.1, (hag c).2.2]
      funext u
      idx_vars u
      pointwise
      rfl
-- ==== Proof.QueryInValue.lean ====
/- What the norm before the queries and its product leave in their result arrays. -/
module
public import proofs.«01_k».proof.Proof.FwdNorm
public import proofs.«01_k».proof.Proof.Gen.QueryInIdeal.Value
@[expose] public section
set_option maxRecDepth 16384
noncomputable section

namespace Cert.QueryInIdeal.Hand

open Idealize.ShloMosaic Idealize.ShloMosaic.TcCoe Idealize.SL.Sem
open Idealize.ShloMosaic.Pipeline (Dat)
open Cert.QueryInIdeal Cert.QueryInIdeal.Gen Cert.FwdNorm

variable (m : (ℓ : Loc nD τ sig) → Buf (Elt Ideal) ℓ)

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

theorem tiles : 8192 = cfg0.N * 1024 := by rw [show cfg0.N = 8 from N_0]

section Blocks

variable {m} {c : Dev nD} {x : S8192x1024.Idx → EReal} {g : S1x1024.Idx → EReal} {w : S1024x1024.Idx → EReal}

theorem block_x (t : Fin cfg0.N) (h : m ((c : Thread nD τ).loc main_arg0) = x) : (iblk m c 0 t : FVec Ideal S1024x1024 .f32) = tile tiles x t := by
  funext y
  have e : iblk m c 0 t y = m ((c : Thread nD τ).loc main_arg0) (ix2 (row tiles t (y 0)) (y 1)) := by
    have : (row tiles t (y 0)).val = t.val * 1024 + (y 0).val := rfl
    blk_ext [iblk, V, idx t]
  rw [e, h]; rfl

theorem block_g (t : Fin cfg0.N) (h : m ((c : Thread nD τ).loc main_arg1) = g) : (iblk m c 1 t : FVec Ideal S1x1024 .f32) = g := by
  funext y
  have e : iblk m c 1 t y = m ((c : Thread nD τ).loc main_arg1) y := by blk_ext [iblk, V, idx t]
  rw [e, h]

theorem block_w (t : Fin cfg0.N) (h : m ((c : Thread nD τ).loc main_arg2) = w) : (iblk m c 2 t : FVec Ideal S1x1024x1024 .bf16) = fun y => w (ix2 (y 1) (y 2)) := by
  funext y
  have e : iblk m c 2 t y = m ((c : Thread nD τ).loc main_arg2) (ix2 (y 1) (y 2)) := by
    idx_vars y
    blk_simp [iblk, idx t]
    entry_read
    pointwise
    blk_ext [idx t]
  rw [e, h]

end Blocks

theorem core3 (x : S8192x1024.Idx → EReal) (g : S1x1024.Idx → EReal) (w : S1x1024x1024.Idx → EReal) (t : Fin cfg0.N) (y : S1024x1024.Idx) :
    out0_3 (F := Ideal) (tile tiles x t) g w y = normed x g (ix2 (row tiles t (y 0)) (y 1)) := by
  canon_tiles u h
  idx_vars u
  open_payloads
  pointwise
  rw [show y 0 = u0 from Fin.ext h0, show y 1 = u1 from Fin.ext h1]
  rfl

theorem core4 (x : S8192x1024.Idx → EReal) (g : S1x1024.Idx → EReal) (w : S1024x1024.Idx → EReal) (t : Fin cfg0.N) (y : S1024x1024.Idx) :
    out0_4 (F := Ideal) (tile tiles x t) g (fun y => w (ix2 (y 1) (y 2))) y = scaled x g w (ix2 (row tiles t (y 0)) (y 1)) := by
  canon_tiles u h
  idx_vars u
  open_payloads
  pointwise
  rw [show y 0 = u0 from Fin.ext h0, show y 1 = u1 from Fin.ext h1]
  rfl

/-- The normalised rows after the run. -/
theorem final3 (c : Dev nD) (x : S8192x1024.Idx → EReal) (g : S1x1024.Idx → EReal)
    (h0 : m ((c : Thread nD τ).loc main_arg0) = x) (h1 : m ((c : Thread nD τ).loc main_arg1) = g) :
    (dats m 0 c).arrAt 3 (cfgs 0).N = normed x g := by
  refine (dats m 0 c).arrAt_eq_of_covers 3 _ (by decide +kernel) fun t _ y => ?_
  blk_simp
  rw [after0_3]
  have hy : ((cfg0.win 3).blk t).view.emb y = ix2 (row tiles t (y 0)) (y 1) := by
    have : (row tiles t (y 0)).val = t.val * 1024 + (y 0).val := rfl
    blk_ext [idx t]
  rw [hy, block_x t h0, block_g t h1]
  exact core3 x g _ t y

/-- The product after the run. -/
theorem final4 (c : Dev nD) (x : S8192x1024.Idx → EReal) (g : S1x1024.Idx → EReal) (w : S1024x1024.Idx → EReal)
    (h0 : m ((c : Thread nD τ).loc main_arg0) = x) (h1 : m ((c : Thread nD τ).loc main_arg1) = g) (h2 : m ((c : Thread nD τ).loc main_arg2) = w) :
    (dats m 0 c).arrAt 4 (cfgs 0).N = scaled x g w := by
  refine (dats m 0 c).arrAt_eq_of_covers 4 _ (by decide +kernel) fun t _ y => ?_
  blk_simp
  rw [after0_4]
  have hy : ((cfg0.win 4).blk t).view.emb y = ix2 (row tiles t (y 0)) (y 1) := by
    have : (row tiles t (y 0)).val = t.val * 1024 + (y 0).val := rfl
    blk_ext [idx t]
  rw [hy, block_x t h0, block_g t h1, block_w t h2]
  exact core4 x g w t y
-- ==== Proof.QueryInClaim.lean ====
/- The claim about the norm before the queries and its product. -/
module
public import proofs.«01_k».proof.Defs
public import proofs.«01_k».proof.Proof.QueryInValue
public import proofs.«01_k».proof.Proof.Gen.QueryInRefIdeal.Run
@[expose] public section
set_option maxRecDepth 16384
noncomputable section

namespace Cert.QueryInClaim

open Idealize.ShloMosaic Idealize.ShloMosaic.TcCoe Idealize.SL.Sem Cert.FwdNorm

theorem algebraic : Cert.algebraic_QueryInIdeal_QueryInRefIdeal := fun m g m' g' _ hag => by
  refine ⟨fun c => (normed (m ((c.tc : Thread Cert.QueryInIdeal.nD Cert.QueryInIdeal.τ).loc Cert.QueryInIdeal.main_arg0)) (m ((c.tc : Thread Cert.QueryInIdeal.nD Cert.QueryInIdeal.τ).loc Cert.QueryInIdeal.main_arg1)) : Cert.QueryInIdeal.S8192x1024.Idx → EReal),
    fun c => (scaled (m ((c.tc : Thread Cert.QueryInIdeal.nD Cert.QueryInIdeal.τ).loc Cert.QueryInIdeal.main_arg0)) (m ((c.tc : Thread Cert.QueryInIdeal.nD Cert.QueryInIdeal.τ).loc Cert.QueryInIdeal.main_arg1))
      (m ((c.tc : Thread Cert.QueryInIdeal.nD Cert.QueryInIdeal.τ).loc Cert.QueryInIdeal.main_arg2)) : Cert.QueryInIdeal.S8192x1024.Idx → EReal), ?_, ?_⟩
  · refine (θ_run _ _ _).mono (fun r h c => ?_) (Cert.QueryInIdeal.Value.run_blocks m g)
    exact ⟨(h c).1.trans (Cert.QueryInIdeal.Hand.final3 m c _ _ rfl rfl), (h c).2.1.trans (Cert.QueryInIdeal.Hand.final4 m c _ _ _ rfl rfl rfl), (h c).2.2⟩
  · refine (θ_run _ _ _).mono (fun r h c => ?_) (Cert.QueryInRefIdeal.Value.run m' g')
    refine ⟨(h c).1.trans ?_, (h c).2.1.trans ?_, (h c).2.2⟩
    · rw [(hag c).1, (hag c).2.1]
      funext u
      idx_vars u
      pointwise
      rfl
    · rw [(hag c).1, (hag c).2.1, (hag c).2.2]
      funext u
      idx_vars u
      pointwise
      rfl
-- ==== Proof.MemoryInValue.lean ====
/- What the norm of the memory and its product leave in their result arrays. -/
module
public import proofs.«01_k».proof.Proof.FwdNorm
public import proofs.«01_k».proof.Proof.Gen.MemoryInIdeal.Value
@[expose] public section
set_option maxRecDepth 16384
noncomputable section

namespace Cert.MemoryInIdeal.Hand

open Idealize.ShloMosaic Idealize.ShloMosaic.TcCoe Idealize.SL.Sem
open Idealize.ShloMosaic.Pipeline (Dat)
open Cert.MemoryInIdeal Cert.MemoryInIdeal.Gen Cert.FwdNorm

variable (m : (ℓ : Loc nD τ sig) → Buf (Elt Ideal) ℓ)

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

theorem tiles : 256 = cfg0.N * 256 := by rw [show cfg0.N = 1 from N_0]

section Blocks

variable {m} {c : Dev nD} {x : S256x1024.Idx → EReal} {g : S1x1024.Idx → EReal} {w : S1024x2048.Idx → EReal}

theorem block_x (t : Fin cfg0.N) (h : m ((c : Thread nD τ).loc main_arg0) = x) : (iblk m c 0 t : FVec Ideal S256x1024 .f32) = tile tiles x t := by
  funext y
  have e : iblk m c 0 t y = m ((c : Thread nD τ).loc main_arg0) (ix2 (row tiles t (y 0)) (y 1)) := by
    have : (row tiles t (y 0)).val = t.val * 256 + (y 0).val := rfl
    blk_ext [iblk, V, idx t]
  rw [e, h]; rfl

theorem block_g (t : Fin cfg0.N) (h : m ((c : Thread nD τ).loc main_arg1) = g) : (iblk m c 1 t : FVec Ideal S1x1024 .f32) = g := by
  funext y
  have e : iblk m c 1 t y = m ((c : Thread nD τ).loc main_arg1) y := by blk_ext [iblk, V, idx t]
  rw [e, h]

theorem block_w (t : Fin cfg0.N) (h : m ((c : Thread nD τ).loc main_arg2) = w) : (iblk m c 2 t : FVec Ideal S4x1024x512 .bf16) = shards w rfl := by
  funext y
  have e : iblk m c 2 t y = m ((c : Thread nD τ).loc main_arg2) (ix2 (y 1) ⟨(y 0).val * 512 + (y 2).val, by have h0 : (y 0).val < 4 := (y 0).isLt; have h2 : (y 2).val < 512 := (y 2).isLt; omega⟩) := by
    idx_vars y
    blk_simp [iblk, idx t]
    entry_read
    pointwise
    blk_ext [idx t]
  rw [e, h]; rfl

end Blocks

theorem core3 (x : S256x1024.Idx → EReal) (g : S1x1024.Idx → EReal) (w : S4x1024x512.Idx → EReal) (t : Fin cfg0.N) (y : S256x1024.Idx) :
    out0_3 (F := Ideal) (tile tiles x t) g w y = normed x g (ix2 (row tiles t (y 0)) (y 1)) := by
  canon_tiles u h
  idx_vars u
  open_payloads
  pointwise
  rw [show y 0 = u0 from Fin.ext h0, show y 1 = u1 from Fin.ext h1]
  rfl

theorem core4 (x : S256x1024.Idx → EReal) (g : S1x1024.Idx → EReal) (w : S1024x2048.Idx → EReal) (t : Fin cfg0.N) (y : S256x2048.Idx) :
    out0_4 (F := Ideal) (tile tiles x t) g (shards w rfl) y = product x g w (ix2 (row tiles t (y 0)) (y 1)) := by
  canon_tiles u h
  all_goals
    idx_vars u
    open_payloads
    pointwise
    rw [show y 0 = u0 from Fin.ext h0]
    exact product_shards x g w rfl _ _ u1 (y 1) (by rw [h1]; simp)

/-- The normalised rows after the run. -/
theorem final3 (c : Dev nD) (x : S256x1024.Idx → EReal) (g : S1x1024.Idx → EReal)
    (h0 : m ((c : Thread nD τ).loc main_arg0) = x) (h1 : m ((c : Thread nD τ).loc main_arg1) = g) :
    (dats m 0 c).arrAt 3 (cfgs 0).N = normed x g := by
  refine (dats m 0 c).arrAt_eq_of_covers 3 _ (by decide +kernel) fun t _ y => ?_
  blk_simp
  rw [after0_3]
  have hy : ((cfg0.win 3).blk t).view.emb y = ix2 (row tiles t (y 0)) (y 1) := by
    have : (row tiles t (y 0)).val = t.val * 256 + (y 0).val := rfl
    blk_ext [idx t]
  rw [hy, block_x t h0, block_g t h1]
  exact core3 x g _ t y

/-- The product after the run. -/
theorem final4 (c : Dev nD) (x : S256x1024.Idx → EReal) (g : S1x1024.Idx → EReal) (w : S1024x2048.Idx → EReal)
    (h0 : m ((c : Thread nD τ).loc main_arg0) = x) (h1 : m ((c : Thread nD τ).loc main_arg1) = g) (h2 : m ((c : Thread nD τ).loc main_arg2) = w) :
    (dats m 0 c).arrAt 4 (cfgs 0).N = product x g w := by
  refine (dats m 0 c).arrAt_eq_of_covers 4 _ (by decide +kernel) fun t _ y => ?_
  blk_simp
  rw [after0_4]
  have hy : ((cfg0.win 4).blk t).view.emb y = ix2 (row tiles t (y 0)) (y 1) := by
    have : (row tiles t (y 0)).val = t.val * 256 + (y 0).val := rfl
    blk_ext [idx t]
  rw [hy, block_x t h0, block_g t h1, block_w t h2]
  exact core4 x g w t y
-- ==== Proof.MemoryInClaim.lean ====
/- The claim about the norm of the memory and its product. -/
module
public import proofs.«01_k».proof.Defs
public import proofs.«01_k».proof.Proof.MemoryInValue
public import proofs.«01_k».proof.Proof.Gen.MemoryInRefIdeal.Run
@[expose] public section
set_option maxRecDepth 16384
noncomputable section

namespace Cert.MemoryInClaim

open Idealize.ShloMosaic Idealize.ShloMosaic.TcCoe Idealize.SL.Sem Cert.FwdNorm

theorem algebraic : Cert.algebraic_MemoryInIdeal_MemoryInRefIdeal := fun m g m' g' _ hag => by
  refine ⟨fun c => (normed (m ((c.tc : Thread Cert.MemoryInIdeal.nD Cert.MemoryInIdeal.τ).loc Cert.MemoryInIdeal.main_arg0)) (m ((c.tc : Thread Cert.MemoryInIdeal.nD Cert.MemoryInIdeal.τ).loc Cert.MemoryInIdeal.main_arg1)) : Cert.MemoryInIdeal.S256x1024.Idx → EReal),
    fun c => (product (m ((c.tc : Thread Cert.MemoryInIdeal.nD Cert.MemoryInIdeal.τ).loc Cert.MemoryInIdeal.main_arg0)) (m ((c.tc : Thread Cert.MemoryInIdeal.nD Cert.MemoryInIdeal.τ).loc Cert.MemoryInIdeal.main_arg1))
      (m ((c.tc : Thread Cert.MemoryInIdeal.nD Cert.MemoryInIdeal.τ).loc Cert.MemoryInIdeal.main_arg2)) : Cert.MemoryInIdeal.S256x2048.Idx → EReal), ?_, ?_⟩
  · refine (θ_run _ _ _).mono (fun r h c => ?_) (Cert.MemoryInIdeal.Value.run_blocks m g)
    exact ⟨(h c).1.trans (Cert.MemoryInIdeal.Hand.final3 m c _ _ rfl rfl), (h c).2.1.trans (Cert.MemoryInIdeal.Hand.final4 m c _ _ _ rfl rfl rfl), (h c).2.2⟩
  · refine (θ_run _ _ _).mono (fun r h c => ?_) (Cert.MemoryInRefIdeal.Value.run m' g')
    refine ⟨(h c).1.trans ?_, (h c).2.1.trans ?_, (h c).2.2⟩
    · rw [(hag c).1, (hag c).2.1]
      funext u
      idx_vars u
      pointwise
      rfl
    · rw [(hag c).1, (hag c).2.1, (hag c).2.2]
      funext u
      idx_vars u
      pointwise
      rfl
-- ==== Proof.FfnInValue.lean ====
/- What the norm before the gated layers and its product leave in their result arrays. -/
module
public import proofs.«01_k».proof.Proof.FwdNorm
public import proofs.«01_k».proof.Proof.Gen.FfnInIdeal.Value
@[expose] public section
set_option maxRecDepth 16384
noncomputable section

namespace Cert.FfnInIdeal.Hand

open Idealize.ShloMosaic Idealize.ShloMosaic.TcCoe Idealize.SL.Sem
open Idealize.ShloMosaic.Pipeline (Dat)
open Cert.FfnInIdeal Cert.FfnInIdeal.Gen Cert.FwdNorm

variable (m : (ℓ : Loc nD τ sig) → Buf (Elt Ideal) ℓ)

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

theorem tiles : 8192 = cfg0.N * 512 := by rw [show cfg0.N = 16 from N_0]

section Blocks

variable {m} {c : Dev nD} {x : S8192x1024.Idx → EReal} {g : S1x1024.Idx → EReal} {w : S1024x5632.Idx → EReal}

theorem block_x (t : Fin cfg0.N) (h : m ((c : Thread nD τ).loc main_arg0) = x) : (iblk m c 0 t : FVec Ideal S512x1024 .f32) = tile tiles x t := by
  funext y
  have e : iblk m c 0 t y = m ((c : Thread nD τ).loc main_arg0) (ix2 (row tiles t (y 0)) (y 1)) := by
    have : (row tiles t (y 0)).val = t.val * 512 + (y 0).val := rfl
    blk_ext [iblk, V, idx t]
  rw [e, h]; rfl

theorem block_g (t : Fin cfg0.N) (h : m ((c : Thread nD τ).loc main_arg1) = g) : (iblk m c 1 t : FVec Ideal S1x1024 .f32) = g := by
  funext y
  have e : iblk m c 1 t y = m ((c : Thread nD τ).loc main_arg1) y := by blk_ext [iblk, V, idx t]
  rw [e, h]

theorem block_w (t : Fin cfg0.N) (h : m ((c : Thread nD τ).loc main_arg2) = w) : (iblk m c 2 t : FVec Ideal S4x1024x1408 .bf16) = shards w rfl := by
  funext y
  have e : iblk m c 2 t y = m ((c : Thread nD τ).loc main_arg2) (ix2 (y 1) ⟨(y 0).val * 1408 + (y 2).val, by have h0 : (y 0).val < 4 := (y 0).isLt; have h2 : (y 2).val < 1408 := (y 2).isLt; omega⟩) := by
    idx_vars y
    blk_simp [iblk, idx t]
    entry_read
    pointwise
    blk_ext [idx t]
  rw [e, h]; rfl

end Blocks

theorem core3 (x : S8192x1024.Idx → EReal) (g : S1x1024.Idx → EReal) (w : S4x1024x1408.Idx → EReal) (t : Fin cfg0.N) (y : S512x1024.Idx) :
    out0_3 (F := Ideal) (tile tiles x t) g w y = normed x g (ix2 (row tiles t (y 0)) (y 1)) := by
  canon_tiles u h
  idx_vars u
  open_payloads
  pointwise
  rw [show y 0 = u0 from Fin.ext h0, show y 1 = u1 from Fin.ext h1]
  rfl

theorem core4 (x : S8192x1024.Idx → EReal) (g : S1x1024.Idx → EReal) (w : S1024x5632.Idx → EReal) (t : Fin cfg0.N) (y : S512x5632.Idx) :
    out0_4 (F := Ideal) (tile tiles x t) g (shards w rfl) y = product x g w (ix2 (row tiles t (y 0)) (y 1)) := by
  canon_tiles u h
  all_goals
    idx_vars u
    open_payloads
    pointwise
    rw [show y 0 = u0 from Fin.ext h0]
    exact product_shards x g w rfl _ _ u1 (y 1) (by rw [h1]; simp)

/-- The normalised rows after the run. -/
theorem final3 (c : Dev nD) (x : S8192x1024.Idx → EReal) (g : S1x1024.Idx → EReal)
    (h0 : m ((c : Thread nD τ).loc main_arg0) = x) (h1 : m ((c : Thread nD τ).loc main_arg1) = g) :
    (dats m 0 c).arrAt 3 (cfgs 0).N = normed x g := by
  refine (dats m 0 c).arrAt_eq_of_covers 3 _ (by decide +kernel) fun t _ y => ?_
  blk_simp
  rw [after0_3]
  have hy : ((cfg0.win 3).blk t).view.emb y = ix2 (row tiles t (y 0)) (y 1) := by
    have : (row tiles t (y 0)).val = t.val * 512 + (y 0).val := rfl
    blk_ext [idx t]
  rw [hy, block_x t h0, block_g t h1]
  exact core3 x g _ t y

/-- The product after the run. -/
theorem final4 (c : Dev nD) (x : S8192x1024.Idx → EReal) (g : S1x1024.Idx → EReal) (w : S1024x5632.Idx → EReal)
    (h0 : m ((c : Thread nD τ).loc main_arg0) = x) (h1 : m ((c : Thread nD τ).loc main_arg1) = g) (h2 : m ((c : Thread nD τ).loc main_arg2) = w) :
    (dats m 0 c).arrAt 4 (cfgs 0).N = product x g w := by
  refine (dats m 0 c).arrAt_eq_of_covers 4 _ (by decide +kernel) fun t _ y => ?_
  blk_simp
  rw [after0_4]
  have hy : ((cfg0.win 4).blk t).view.emb y = ix2 (row tiles t (y 0)) (y 1) := by
    have : (row tiles t (y 0)).val = t.val * 512 + (y 0).val := rfl
    blk_ext [idx t]
  rw [hy, block_x t h0, block_g t h1, block_w t h2]
  exact core4 x g w t y
-- ==== Proof.FfnInClaim.lean ====
/- The claim about the norm before the gated layers and its product. -/
module
public import proofs.«01_k».proof.Defs
public import proofs.«01_k».proof.Proof.FfnInValue
public import proofs.«01_k».proof.Proof.Gen.FfnInRefIdeal.Run
@[expose] public section
set_option maxRecDepth 16384
noncomputable section

namespace Cert.FfnInClaim

open Idealize.ShloMosaic Idealize.ShloMosaic.TcCoe Idealize.SL.Sem Cert.FwdNorm

theorem algebraic : Cert.algebraic_FfnInIdeal_FfnInRefIdeal := fun m g m' g' _ hag => by
  refine ⟨fun c => (normed (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) : Cert.FfnInIdeal.S8192x1024.Idx → EReal),
    fun c => (product (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1))
      (m ((c.tc : Thread Cert.FfnInIdeal.nD Cert.FfnInIdeal.τ).loc Cert.FfnInIdeal.main_arg2)) : Cert.FfnInIdeal.S8192x5632.Idx → EReal), ?_, ?_⟩
  · refine (θ_run _ _ _).mono (fun r h c => ?_) (Cert.FfnInIdeal.Value.run_blocks m g)
    exact ⟨(h c).1.trans (Cert.FfnInIdeal.Hand.final3 m c _ _ rfl rfl), (h c).2.1.trans (Cert.FfnInIdeal.Hand.final4 m c _ _ _ rfl rfl rfl), (h c).2.2⟩
  · refine (θ_run _ _ _).mono (fun r h c => ?_) (Cert.FfnInRefIdeal.Value.run m' g')
    refine ⟨(h c).1.trans ?_, (h c).2.1.trans ?_, (h c).2.2⟩
    · rw [(hag c).1, (hag c).2.1]
      funext u
      idx_vars u
      pointwise
      rfl
    · rw [(hag c).1, (hag c).2.1, (hag c).2.2]
      funext u
      idx_vars u
      pointwise
      rfl
-- ==== Proof.GatingRun.lean ====
/-
One run of the gating's forward call: at every tile the normalised half is left in the scratch, then each block of
positions of the output tile is written from it, and what is written is named.
-/
module
public import proofs.«01_k».proof.Defs
public import proofs.«01_k».proof.Proof.Gen.Gating.Frame
public import proofs.«01_k».proof.Proof.Gen.Gating.Skeleton
public import proofs.«01_k».proof.Proof.Gen.Gating.Loops
public import proofs.«01_k».proof.Proof.Gen.GatingIdeal
public import Idealize.ShloMosaic.Lib.Pointwise
@[expose] public section
set_option maxRecDepth 16384
noncomputable section

namespace Cert.GatingRun

open Cert.Gating Cert.Gating.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Two square halves, one above the other. -/
def stack {α : Type} (P Q : S1x128x128.Idx → α) : S1x256x128.Idx → α := fun u =>
  if h : (u 1).val < 128 then P (ix3 0 ⟨(u 1).val, h⟩ (u 2))
  else Q (ix3 0 ⟨(u 1).val - 128, by have := (u 1).isLt; change (u 1).val < 256 at this; omega⟩ (u 2))

/-- Two halves written one after the other into a plane of a buffer, read back as one. -/
theorem read_stack {κ : Kind} {sp : Space} {e : EltTy} (v : View sig κ sp S4x256x128 e) (p : ℕ)
    {i1 : ∀ a, ![p, 128, 0] a + S1x128x128.size a ≤ S4x256x128.size a} {i2 : ∀ a, ![p, 0, 0] a + S1x128x128.size a ≤ S4x256x128.size a}
    {i3 : ∀ a, ![p, 0, 0] a + S1x256x128.size a ≤ S4x256x128.size a}
    (P Q : S1x128x128.Idx → Elt F e) (L : List (View.Piece (Elt F) S4x256x128 e)) :
    v.readCov (⟨Rect.unit ![p, 128, 0] S1x128x128.size i1, Q⟩ :: ⟨Rect.unit ![p, 0, 0] S1x128x128.size i2, P⟩ :: L)
      (Rect.unit (s := S4x256x128) ![p, 0, 0] S1x256x128.size i3).toLoadRect = stack P Q := by
  rw [View.readCov_eq_canon']
  funext u
  have hu1 : (u 1).val < 256 := (u 1).isLt
  have hu2 : (u 2).val < 128 := (u 2).isLt
  have hu0 : (u 0).val < 1 := (u 0).isLt
  unfold stack
  by_cases h : (u 1).val < 128
  · rw [dif_pos h, View.canon_cons_of_not_mem]
    · suffices e : (Rect.unit (s := S4x256x128) ![p, 0, 0] S1x128x128.size i2).emb (ix3 0 ⟨(u 1).val, h⟩ (u 2))
          = (Rect.unit (s := S4x256x128) ![p, 0, 0] S1x256x128.size i3).idx u by
        rw [← e, View.canon_cons_emb]
      funext a; apply Fin.ext
      match a with
      | ⟨0, _⟩ => change p + 1 * 0 = p + 1 * (u 0).val; omega
      | ⟨1, _⟩ => rfl
      | ⟨2, _⟩ => rfl
    · intro hm
      replace hm : _ ∈ (Rect.unit (s := S4x256x128) ![p, 128, 0] S1x128x128.size i1).set := hm
      have := (Rect.mem_set_unit.1 hm 1).1
      change 128 ≤ 0 + 1 * (u 1).val at this
      omega
  · rw [dif_neg h]
    suffices e : (Rect.unit (s := S4x256x128) ![p, 128, 0] S1x128x128.size i1).emb (ix3 0 ⟨(u 1).val - 128, by omega⟩ (u 2))
        = (Rect.unit (s := S4x256x128) ![p, 0, 0] S1x256x128.size i3).idx u by
      rw [← e, View.canon_cons_emb]
    funext a; apply Fin.ext
    match a with
    | ⟨0, _⟩ => change p + 1 * 0 = p + 1 * (u 0).val; omega
    | ⟨1, _⟩ => change 128 + 1 * ((u 1).val - 128) = 0 + 1 * (u 1).val; omega
    | ⟨2, _⟩ => rfl

theorem trips_eq : k0_t1_loop.trips = 8 := by decide +kernel

/-- What block `k` writes in lanes `128 p` to `128 p + 127`. -/
def piece (x : Vec F S1024x512 .bf16) (w : Vec F S4x128x256 .bf16) (b : Vec F S128x512 .f32) (v : Vec F S1024x512 .f32)
    (k : Fin k0_t1_loop.trips) : Fin 4 → S128x128.Idx → Elt F .bf16
  | 0 => k0_pay9 (k0_pay4 (View.ld x (Rect.unit (k0_off1 k) S128x512.size (k0_off1_inb k))))
      (View.ld w (Rect.unit ![0, 0, 0] S1x128x256.size inb_S4x128x256_S1x128x256_0_0_0))
      (stack (k0_pay6 (View.ld v (Rect.unit (k0_off2 k) S128x128.size (k0_off2_inb k)))) (k0_pay8 (k0_pay7 (View.ld v (Rect.unit (k0_off2 k) S128x128.size (k0_off2_inb k))))))
      (View.ld b (Rect.unit ![0, 0] S128x128.size inb_S128x512_S128x128_0_0))
  | 1 => k0_pay14 (k0_pay4 (View.ld x (Rect.unit (k0_off1 k) S128x512.size (k0_off1_inb k))))
      (View.ld w (Rect.unit ![1, 0, 0] S1x128x256.size inb_S4x128x256_S1x128x256_1_0_0))
      (stack (k0_pay11 (View.ld v (Rect.unit (k0_off3 k) S128x128.size (k0_off3_inb k)))) (k0_pay13 (k0_pay12 (View.ld v (Rect.unit (k0_off3 k) S128x128.size (k0_off3_inb k))))))
      (View.ld b (Rect.unit ![0, 128] S128x128.size inb_S128x512_S128x128_0_128))
  | 2 => k0_pay19 (k0_pay4 (View.ld x (Rect.unit (k0_off1 k) S128x512.size (k0_off1_inb k))))
      (View.ld w (Rect.unit ![2, 0, 0] S1x128x256.size inb_S4x128x256_S1x128x256_2_0_0))
      (stack (k0_pay16 (View.ld v (Rect.unit (k0_off4 k) S128x128.size (k0_off4_inb k)))) (k0_pay18 (k0_pay17 (View.ld v (Rect.unit (k0_off4 k) S128x128.size (k0_off4_inb k))))))
      (View.ld b (Rect.unit ![0, 256] S128x128.size inb_S128x512_S128x128_0_256))
  | 3 => k0_pay3 (k0_pay4 (View.ld x (Rect.unit (k0_off1 k) S128x512.size (k0_off1_inb k))))
      (View.ld w (Rect.unit ![3, 0, 0] S1x128x256.size inb_S4x128x256_S1x128x256_3_0_0))
      (stack (k0_pay21 (View.ld v (Rect.unit (k0_off5 k) S128x128.size (k0_off5_inb k)))) (k0_pay2 (k0_pay22 (View.ld v (Rect.unit (k0_off5 k) S128x128.size (k0_off5_inb k))))))
      (View.ld b (Rect.unit ![0, 384] S128x128.size inb_S128x512_S128x128_0_384))

/-- What the blocks write, over a tile. -/
def out (x : Vec F S1024x512 .bf16) (w : Vec F S4x128x256 .bf16) (b : Vec F S128x512 .f32) (v : Vec F S1024x512 .f32) :
    Vec F S1024x512 .bf16 := fun y =>
  piece x w b v ⟨(y 0).val / 128, by have := (y 0).isLt; change (y 0).val < 1024 at this; rw [trips_eq]; omega⟩
    ⟨(y 1).val / 128, by have := (y 1).isLt; change (y 1).val < 512 at this; omega⟩
    (ix2 ⟨(y 0).val % 128, Nat.mod_lt _ (by decide)⟩ ⟨(y 1).val % 128, Nat.mod_lt _ (by decide)⟩)

/-- A write at rows past an index is not seen at it. -/
theorem read_above {κ : Kind} {sp : Space} {e : EltTy} (v : View sig κ sp S1024x512 e) (f : v.ty.Contents (Elt F)) (o : Fin 2 → ℕ)
    (ho : ∀ a, o a + S128x128.size a ≤ S1024x512.size a) (w : S128x128.Idx → Elt F e) (L : List (View.Piece (Elt F) S1024x512 e))
    (y : S1024x512.Idx) (h : (y 0).val < o 0 ∨ (y 1).val < o 1) :
    v.read (Elt F) (v.writes (Elt F) f (⟨Rect.unit o S128x128.size ho, w⟩ :: L)) y = v.read (Elt F) (v.writes (Elt F) f L) y := by
  rw [View.writes_cons, View.read_slice_write_of_not_mem]
  rw [Rect.map_emb_univ]
  intro hm
  replace hm : y ∈ (Rect.unit (s := S1024x512) o S128x128.size ho).set := hm
  have h0 := (Rect.mem_set_unit.1 hm 0).1
  have h1 := (Rect.mem_set_unit.1 hm 1).1
  omega

/-- A write holding an index is read at it. -/
theorem read_here {κ : Kind} {sp : Space} {e : EltTy} (v : View sig κ sp S1024x512 e) (f : v.ty.Contents (Elt F)) (o : Fin 2 → ℕ)
    (ho : ∀ a, o a + S128x128.size a ≤ S1024x512.size a) (w : S128x128.Idx → Elt F e) (L : List (View.Piece (Elt F) S1024x512 e))
    (y : S1024x512.Idx) (u0 u1 : Fin 128) (h0 : (y 0).val = o 0 + u0.val) (h1 : (y 1).val = o 1 + u1.val) :
    v.read (Elt F) (v.writes (Elt F) f (⟨Rect.unit o S128x128.size ho, w⟩ :: L)) y = w (ix2 u0 u1) := by
  refine Eq.trans (congrArg _ ?_) (View.read_writes_cons_emb v f (Rect.unit o S128x128.size ho) w L (ix2 u0 u1))
  funext a; apply Fin.ext
  match a with
  | ⟨0, _⟩ => exact h0.trans (by change _ = o 0 + 1 * u0.val; omega)
  | ⟨1, _⟩ => exact h1.trans (by change _ = o 1 + 1 * u1.val; omega)

/-- The four writes of block `k`: below its rows the buffer is as before, in its rows it holds the pieces. -/
theorem read_block {κ : Kind} {sp : Space} (V : View sig κ sp S1024x512 .bf16) (f : V.ty.Contents (Elt F))
    (x : Vec F S1024x512 .bf16) (w : Vec F S4x128x256 .bf16) (b : Vec F S128x512 .f32) (v : Vec F S1024x512 .f32)
    (k : Fin k0_t1_loop.trips) (h : ∀ y : S1024x512.Idx, (y 0).val < 128 * k.val → V.read (Elt F) f y = out x w b v y)
    (y : S1024x512.Idx) (hy : (y 0).val < 128 * (k.val + 1)) :
    V.read (Elt F) (V.writes (Elt F) f
      [⟨Rect.unit (k0_off5 k) S128x128.size (k0_off5_inb k), piece x w b v k 3⟩, ⟨Rect.unit (k0_off4 k) S128x128.size (k0_off4_inb k), piece x w b v k 2⟩,
       ⟨Rect.unit (k0_off3 k) S128x128.size (k0_off3_inb k), piece x w b v k 1⟩, ⟨Rect.unit (k0_off2 k) S128x128.size (k0_off2_inb k), piece x w b v k 0⟩]) y
      = out x w b v y := by
  have e5 := k0_off5_eq k; have e4 := k0_off4_eq k; have e3 := k0_off3_eq k; have e2 := k0_off2_eq k
  have hy1 : (y 1).val < 512 := (y 1).isLt
  have r5 : k0_off5 k 0 = 128 * k.val ∧ k0_off5 k 1 = 384 := by rw [e5]; exact ⟨rfl, rfl⟩
  have r4 : k0_off4 k 0 = 128 * k.val ∧ k0_off4 k 1 = 256 := by rw [e4]; exact ⟨rfl, rfl⟩
  have r3 : k0_off3 k 0 = 128 * k.val ∧ k0_off3 k 1 = 128 := by rw [e3]; exact ⟨rfl, rfl⟩
  have r2 : k0_off2 k 0 = 128 * k.val ∧ k0_off2 k 1 = 0 := by rw [e2]; exact ⟨rfl, rfl⟩
  by_cases hk : (y 0).val < 128 * k.val
  · rw [read_above _ _ _ _ _ _ _ (by omega), read_above _ _ _ _ _ _ _ (by omega), read_above _ _ _ _ _ _ _ (by omega),
      read_above _ _ _ _ _ _ _ (by omega)]
    exact h y hk
  · have hrow : (y 0).val / 128 = k.val := by omega
    have key : ∀ p : Fin 4, (y 1).val / 128 = p.val → out x w b v y
        = piece x w b v k p (ix2 ⟨(y 0).val % 128, Nat.mod_lt _ (by decide)⟩ ⟨(y 1).val % 128, Nat.mod_lt _ (by decide)⟩) := by
      intro p hp
      unfold out
      rw [show (⟨(y 0).val / 128, _⟩ : Fin k0_t1_loop.trips) = k from Fin.ext hrow,
        show (⟨(y 1).val / 128, _⟩ : Fin 4) = p from Fin.ext hp]
    have hp : (y 1).val / 128 = 0 ∨ (y 1).val / 128 = 1 ∨ (y 1).val / 128 = 2 ∨ (y 1).val / 128 = 3 := by omega
    rcases hp with hp | hp | hp | hp
    · rw [read_above _ _ _ _ _ _ _ (by omega), read_above _ _ _ _ _ _ _ (by omega), read_above _ _ _ _ _ _ _ (by omega), key 0 hp]
      exact read_here _ _ _ _ _ _ _ _ _ (by simp only; omega) (by simp only; omega)
    · rw [read_above _ _ _ _ _ _ _ (by omega), read_above _ _ _ _ _ _ _ (by omega), key 1 hp]
      exact read_here _ _ _ _ _ _ _ _ _ (by simp only; omega) (by simp only; omega)
    · rw [read_above _ _ _ _ _ _ _ (by omega), key 2 hp]
      exact read_here _ _ _ _ _ _ _ _ _ (by simp only; omega) (by simp only; omega)
    · rw [key 3 hp]
      exact read_here _ _ _ _ _ _ _ _ _ (by simp only; omega) (by simp only; omega)

/-- The same with what each write took from the scratch given. -/
theorem read_trip {κ : Kind} {sp : Space} (V : View sig κ sp S1024x512 .bf16) (f : V.ty.Contents (Elt F))
    (x : Vec F S1024x512 .bf16) (w : Vec F S4x128x256 .bf16) (b : Vec F S128x512 .f32) (v : Vec F S1024x512 .f32)
    (k : Fin k0_t1_loop.trips) (h : ∀ y : S1024x512.Idx, (y 0).val < 128 * k.val → V.read (Elt F) f y = out x w b v y)
    (r0 r1 r2 r3 : Vec F S1x256x128 .bf16)
    (h0 : r0 = stack (k0_pay6 (View.ld v (Rect.unit (k0_off2 k) S128x128.size (k0_off2_inb k)))) (k0_pay8 (k0_pay7 (View.ld v (Rect.unit (k0_off2 k) S128x128.size (k0_off2_inb k))))))
    (h1 : r1 = stack (k0_pay11 (View.ld v (Rect.unit (k0_off3 k) S128x128.size (k0_off3_inb k)))) (k0_pay13 (k0_pay12 (View.ld v (Rect.unit (k0_off3 k) S128x128.size (k0_off3_inb k))))))
    (h2 : r2 = stack (k0_pay16 (View.ld v (Rect.unit (k0_off4 k) S128x128.size (k0_off4_inb k)))) (k0_pay18 (k0_pay17 (View.ld v (Rect.unit (k0_off4 k) S128x128.size (k0_off4_inb k))))))
    (h3 : r3 = stack (k0_pay21 (View.ld v (Rect.unit (k0_off5 k) S128x128.size (k0_off5_inb k)))) (k0_pay2 (k0_pay22 (View.ld v (Rect.unit (k0_off5 k) S128x128.size (k0_off5_inb k))))))
    (y : S1024x512.Idx) (hy : (y 0).val < 128 * (k.val + 1)) :
    V.read (Elt F) (V.writes (Elt F) f
      [⟨Rect.unit (k0_off5 k) S128x128.size (k0_off5_inb k), k0_pay3 (k0_pay4 (View.ld x (Rect.unit (k0_off1 k) S128x512.size (k0_off1_inb k)))) (View.ld w (Rect.unit ![3, 0, 0] S1x128x256.size inb_S4x128x256_S1x128x256_3_0_0)) r3 (View.ld b (Rect.unit ![0, 384] S128x128.size inb_S128x512_S128x128_0_384))⟩, ⟨Rect.unit (k0_off4 k) S128x128.size (k0_off4_inb k), k0_pay19 (k0_pay4 (View.ld x (Rect.unit (k0_off1 k) S128x512.size (k0_off1_inb k)))) (View.ld w (Rect.unit ![2, 0, 0] S1x128x256.size inb_S4x128x256_S1x128x256_2_0_0)) r2 (View.ld b (Rect.unit ![0, 256] S128x128.size inb_S128x512_S128x128_0_256))⟩, ⟨Rect.unit (k0_off3 k) S128x128.size (k0_off3_inb k), k0_pay14 (k0_pay4 (View.ld x (Rect.unit (k0_off1 k) S128x512.size (k0_off1_inb k)))) (View.ld w (Rect.unit ![1, 0, 0] S1x128x256.size inb_S4x128x256_S1x128x256_1_0_0)) r1 (View.ld b (Rect.unit ![0, 128] S128x128.size inb_S128x512_S128x128_0_128))⟩, ⟨Rect.unit (k0_off2 k) S128x128.size (k0_off2_inb k), k0_pay9 (k0_pay4 (View.ld x (Rect.unit (k0_off1 k) S128x512.size (k0_off1_inb k)))) (View.ld w (Rect.unit ![0, 0, 0] S1x128x256.size inb_S4x128x256_S1x128x256_0_0_0)) r0 (View.ld b (Rect.unit ![0, 0] S128x128.size inb_S128x512_S128x128_0_0))⟩]) y
      = out x w b v y := by
  subst h0 h1 h2 h3
  exact read_block V f x w b v k h y hy

/-- A write of a whole tile is what is read. -/
theorem read_full {κ : Kind} {sp : Space} {e : EltTy} (v : View sig κ sp S1024x512 e) (f : v.ty.Contents (Elt F))
    (ho : ∀ a, ![0, 0] a + S1024x512.size a ≤ S1024x512.size a) (w : S1024x512.Idx → Elt F e) :
    v.read (Elt F) (v.writes (Elt F) f [⟨Rect.unit (s := S1024x512) ![0, 0] S1024x512.size ho, w⟩]) = w := by
  funext y
  have hy : (Rect.unit (s := S1024x512) ![0, 0] S1024x512.size ho).emb y = y := by
    funext a; apply Fin.ext
    match a with
    | ⟨0, _⟩ => change 0 + 1 * (y 0).val = (y 0).val; omega
    | ⟨1, _⟩ => change 0 + 1 * (y 1).val = (y 1).val; omega
  exact (congrArg _ hy.symm).trans (View.read_writes_cons_emb v f (Rect.unit (s := S1024x512) ![0, 0] S1024x512.size ho) w [] y)

/-- A load of a whole array is the array. -/
theorem ld_whole {e : EltTy} {a b : ℕ} (X : (⟨2, ![a, b]⟩ : Shape).Idx → Elt F e)
    {ho : ∀ k, (![0, 0] : Fin 2 → ℕ) k + (⟨2, ![a, b]⟩ : Shape).size k ≤ (⟨2, ![a, b]⟩ : Shape).size k} :
    View.ld X (Rect.unit (s := ⟨2, ![a, b]⟩) ![0, 0] (⟨2, ![a, b]⟩ : Shape).size ho) = X := by
  funext y
  refine congrArg X (funext fun k => Fin.ext ?_)
  match k with
  | ⟨0, _⟩ => change 0 + 1 * (y 0).val = (y 0).val; omega
  | ⟨1, _⟩ => change 0 + 1 * (y 1).val = (y 1).val; omega

set_option maxHeartbeats 4000000 in
set_option warn.classDefReducibility false in
/-- The loop over the blocks of the tile: after `k` of them the rows below `128 k` are written. -/
@[sl_loop] def loopInv (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S4x128x256 .bf16) (harg6 : arg6.IsWhole) (arg7 : Memref sig .tc .vmem S128x512 .f32) (harg7 : arg7.IsWhole) (arg8 : Memref sig .tc .vmem S1024x512 .bf16) (harg8 : arg8.IsWhole) (arg9 : Memref sig .tc .vmem S1024x512 .f32) (harg9 : arg9.IsWhole) (arg10 : Memref sig .tc .vmem S4x256x128 .bf16) (harg10 : arg10.IsWhole) (f1 : BufTy.Contents (Elt F) arg1.view.ty) (f6 : BufTy.Contents (Elt F) arg6.view.ty) (f7 : BufTy.Contents (Elt F) arg7.view.ty) (f9 : BufTy.Contents (Elt F) arg9.view.ty) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 where
  inv k _ := iprop((arg1.view.loc (c : Thread nD τ) ↦[arg1.view.set]{fullShare} f1) ∗ (arg6.view.loc (c : Thread nD τ) ↦[arg6.view.set]{fullShare} f6) ∗ (arg7.view.loc (c : Thread nD τ) ↦[arg7.view.set]{fullShare} f7) ∗ (arg9.view.loc (c : Thread nD τ) ↦[arg9.view.set]{fullShare} f9) ∗ (∃ f8, (arg8.view.loc (c : Thread nD τ) ↦[arg8.view.set]{fullShare} f8) ∗ ⌜∀ y : S1024x512.Idx, (y 0).val < 128 * k → arg8.view.read (Elt F) f8 y = out (arg1.view.read (Elt F) f1) (arg6.view.read (Elt F) f6) (arg7.view.read (Elt F) f7) (arg9.view.read (Elt F) f9) y⌝) ∗ (∃ f10, arg10.view.loc (c : Thread nD τ) ↦[arg10.view.set]{fullShare} f10))
  step k _ := by
    unfold k0_t1_body
    simp only [k0_part1_eq_skeleton, k0_part2_eq_skeleton, k0_part3_eq_skeleton, k0_part4_eq_skeleton]
    iintro ⟨H1, H6, H7, H9, ⟨%g8, H8, %h8⟩, ⟨%g10, H10⟩⟩
    sl_exec
    sl_step
    isplitl [H1]; · iexact H1
    isplitl [H6]; · iexact H6
    isplitl [H7]; · iexact H7
    isplitl [H9]; · iexact H9
    isplitl [H8]
    · iexists _; isplitl [H8]; · iexact H8
      ipureintro
      intro y hy
      unfold loopInv.sl.v198 loopInv.sl.v164 loopInv.sl.v130 loopInv.sl.v96 loopInv.sl.r
      exact read_trip arg8.view g8 (arg1.view.read (Elt F) f1) (arg6.view.read (Elt F) f6) (arg7.view.read (Elt F) f7) (arg9.view.read (Elt F) f9) k h8 _ _ _ _
        (by unfold loopInv.sl.H10_2 loopInv.sl.H10_1; exact read_stack arg10.view 0 _ _ _)
        (by unfold loopInv.sl.H10_4 loopInv.sl.H10_3; exact read_stack arg10.view 1 _ _ _)
        (by unfold loopInv.sl.H10_6 loopInv.sl.H10_5; exact read_stack arg10.view 2 _ _ _)
        (by unfold loopInv.sl.H10_8 loopInv.sl.H10_7; exact read_stack arg10.view 3 _ _ _) y hy
    iexists _; iexact H10

/-- The normalised half of a tile, as the scratch holds it. -/
def norm (x1 : Vec F S1024x512 .bf16) (x2 : Vec F S512x512 .bf16) (x3 : Vec F S1x512 .f32) (x4 : Vec F S1x512 .f32) : Vec F S1024x512 .f32 :=
  k0_pay1 (k0_pay23 x1 x2 x2) x3 x4

set_option maxHeartbeats 4000000 in
/-- The body at any point of the grid: what it reads it leaves, and the output tile is what the blocks write. -/
theorem run (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S4x128x256 .bf16) (harg6 : arg6.IsWhole) (arg7 : Memref sig .tc .vmem S128x512 .f32) (harg7 : arg7.IsWhole) (arg8 : Memref sig .tc .vmem S1024x512 .bf16) (harg8 : arg8.IsWhole) (arg9 : Memref sig .tc .vmem S1024x512 .f32) (harg9 : arg9.IsWhole) (arg10 : Memref sig .tc .vmem S4x256x128 .bf16) (harg10 : arg10.IsWhole)
    (x0 : Vec F S1024x512 .bf16) (x1 : Vec F S1024x512 .bf16) (x2 : Vec F S512x512 .bf16) (x3 : Vec F S1x512 .f32) (x4 : Vec F S1x512 .f32) (x5 : Vec F S4x128x256 .bf16) (x6 : Vec F S128x512 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out x0 x5 x6 (norm x1 x2 x3 x4)) ∗ (∃ d, owns (c : Thread nD τ) arg9 fullShare d) ∗ (∃ d, owns (c : Thread nD τ) arg10 fullShare d)) -∗ K ⟨⟩))
    ⊢ wp frame (wpE (defs₀ (F := F)) Variants.none c none) Set.univ (cc0_sgu_fwd i arg1 harg1 arg2 harg2 arg3 harg3 arg4 harg4 arg5 harg5 arg6 harg6 arg7 harg7 arg8 harg8 arg9 harg9 arg10 harg10) K := by
  simp only [cc0_sgu_fwd_eq_skeleton]; unfold cc0_sgu_fwd_skel
  simp only [k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    have hn : View.read (Elt F) arg9.view (arg9.view.writes (Elt F) arg9.view.junk (run.sl.H8_1 c arg2 harg2 arg3 harg3 arg4 harg4 arg5 harg5 x1 x2 x3 x4)) = norm x1 x2 x3 x4 := by
      unfold run.sl.H8_1 run.sl.r
      refine (read_full arg9.view _ _ _).trans ?_
      unfold norm
      congr 1
      · congr 1
        · exact (View.readAt_eq_ld _ _ _).trans ((ld_whole _).trans hf1)
        · exact (View.readAt_eq_ld _ _ _).trans ((ld_whole _).trans hf2)
        · exact (View.readAt_eq_ld _ _ _).trans ((ld_whole _).trans hf2)
      · exact (View.readAt_eq_ld _ _ _).trans ((ld_whole _).trans hf3)
      · exact (View.readAt_eq_ld _ _ _).trans ((ld_whole _).trans hf4)
    funext y
    have hy : (y 0).val < 1024 := (y 0).isLt
    have ht : Scf.trips k0_t1_loop.lb k0_t1_loop.ub k0_t1_loop.st = 8 := trips_eq
    rw [hL5 y (by rw [ht]; omega), hf0, hf5, hf6, hn]
  isplitl [H8]
  · iexists _, _; isplitr; swap; · iexact H8
    ipureintro; rfl
  iexists _, _; isplitr; swap; · iexact H9
  ipureintro; rfl

variable (m : (ℓ : Loc nD τ sig) → Buf (Elt F) ℓ) (ρ : Dev nD → PrngReg)

/-- What the output window holds after a point. -/
def result (c : Dev nD) (t : Fin cfg0.N) : Vec F S1024x512 .bf16 :=
  out (iblk m c 0 t) (iblk m c 5 t) (iblk m c 6 t) (norm (iblk m c 1 t) (iblk m c 2 t) (iblk m c 3 t) (iblk m c 4 t))

/-- What every window holds after a point: an input window its block, the output window what the blocks write. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => result m c t
    | ⟨_ + 8, h⟩ => absurd h (Nat.not_lt.mpr (Nat.le_add_left _ _))
  Φ _ := Pipeline.ΦA spec0 c
  q w := Pipeline.shareOf spec0 w
  owed _ := 0

theorem data_A (c : Dev nD) (w : Fin cfg0.W) : (data m 0 c).A w = V m c (Pipeline.arrRef spec0 w) := by dsimp only [data]

/-- The scoped buffers beside the windows are the scratch, owned at some contents. -/
theorem inv_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ g, prngReg c g)) := by
  unfold Pipeline.ΦA; rw [scopedRest0_eq]; simp only [owns_whole]; try rfl

/-- What the body is given at a point. -/
def Before (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d)) ∗ (∃ d, owns (c : Thread nD τ) (st0_1 t) fullShare ((data m 0 c).before 1 t d)) ∗ (∃ d, owns (c : Thread nD τ) (st0_2 t) fullShare ((data m 0 c).before 2 t d)) ∗ (∃ d, owns (c : Thread nD τ) (st0_3 t) fullShare ((data m 0 c).before 3 t d)) ∗ (∃ d, owns (c : Thread nD τ) (st0_4 t) fullShare ((data m 0 c).before 4 t d)) ∗ (∃ d, owns (c : Thread nD τ) (st0_5 t) fullShare ((data m 0 c).before 5 t d)) ∗ (∃ d, owns (c : Thread nD τ) (st0_6 t) fullShare ((data m 0 c).before 6 t d)) ∗ (∃ d, owns (c : Thread nD τ) (st0_7 t) fullShare ((data m 0 c).before 7 t d)))

/-- What the body gives back at a point. -/
def After (c : Dev nD) (t : Fin cfg0.N) : sProp 𝕄 :=
  iprop((data m 0 c).Φ t.succ ∗ (data m 0 c).owesAt () t.succ
    ∗ owns (c : Thread nD τ) (st0_0 t) fullShare ((data m 0 c).after 0 t) ∗ owns (c : Thread nD τ) (st0_1 t) fullShare ((data m 0 c).after 1 t) ∗ owns (c : Thread nD τ) (st0_2 t) fullShare ((data m 0 c).after 2 t) ∗ owns (c : Thread nD τ) (st0_3 t) fullShare ((data m 0 c).after 3 t) ∗ owns (c : Thread nD τ) (st0_4 t) fullShare ((data m 0 c).after 4 t) ∗ owns (c : Thread nD τ) (st0_5 t) fullShare ((data m 0 c).after 5 t) ∗ owns (c : Thread nD τ) (st0_6 t) fullShare ((data m 0 c).after 6 t) ∗ owns (c : Thread nD τ) (st0_7 t) fullShare ((data m 0 c).after 7 t))

set_option maxHeartbeats 1600000 in
theorem body_sound (c : Dev nD) (t : Fin cfg0.N) :
    Before m c t ⊢ wp frame (wpE (defs₀ (F := F)) Variants.none c none) Set.univ (bodyAt0 t) (fun _ => After m c t) := by
  unfold Before After bodyAt0
  simp only [before0_0_of m (data m 0 c) (data_A m c 0) (fun _ => by dsimp only [data]), before0_1_of m (data m 0 c) (data_A m c 1) (fun _ => by dsimp only [data]), before0_2_of m (data m 0 c) (data_A m c 2) (fun _ => by dsimp only [data]), before0_3_of m (data m 0 c) (data_A m c 3) (fun _ => by dsimp only [data]), before0_4_of m (data m 0 c) (data_A m c 4) (fun _ => by dsimp only [data]), before0_5_of m (data m 0 c) (data_A m c 5) (fun _ => by dsimp only [data]), before0_6_of m (data m 0 c) (data_A m c 6) (fun _ => by dsimp only [data])]
  rw [show (data m 0 c).Φ t.succ = Pipeline.ΦA spec0 c from rfl, show (data m 0 c).Φ t.castSucc = Pipeline.ΦA spec0 c from rfl,
    show (data m 0 c).owesAt () t.succ = (data m 0 c).owesAt () t.castSucc from rfl, inv_eq,
    show (data m 0 c).after 0 t = iblk m c 0 t by dsimp only [data], show (data m 0 c).after 1 t = iblk m c 1 t by dsimp only [data], show (data m 0 c).after 2 t = iblk m c 2 t by dsimp only [data], show (data m 0 c).after 3 t = iblk m c 3 t by dsimp only [data], show (data m 0 c).after 4 t = iblk m c 4 t by dsimp only [data], show (data m 0 c).after 5 t = iblk m c 5 t by dsimp only [data], show (data m 0 c).after 6 t = iblk m c 6 t by dsimp only [data],
    show (data m 0 c).after 7 t = result m c t by dsimp only [data]]
  iintro ⟨⟨⟨S0, S1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run c (grid0.coords t) _ _ _ _ _ _ _ _ _ _ _ _ _ _ _ _ _ _ _ _  (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S0]; · iexact S0
  isplitl [S1]; · iexact S1
  iintro ⟨H0, H1, H2, H3, H4, H5, H6, H7, S0, S1⟩
  isplitl [S0 S1 Hg]
  · isplitr [Hg]
    · isplitl [S0]; · iexact S0
      iexact S1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem obligation (c : Dev nD) : BodyObligation (data (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body_sound m c t) rfl .rfl fun _ => .rfl

set_option backward.isDefEq.respectTransparency.types false in
theorem launched : θ_run defs (onTc (τ := τ) (main (F := F))) (s₀ m ρ) (fun r => (Pipeline.FramePost cfgs (data m) 0 (V m)) r ∧ r.2.sem = fun _ => 0) :=
  Pipeline.θ_run_frame_shared (Q' := _) cfgs (data m) (0 : Fin 1) launch₀0 defs₀ Variants.none m ρ main
    (hbody := fun c => (obligation m c).loose) (hq := fun _ _ _ => rfl)
    (howed := fun _ _ => rfl) (V := V m) (hmain := hmain m Variants.none) (hA := data_A m) (hΦ := fun _ _ => rfl)

/-- The result array ends at what the points wrote, the arguments as they began, and every counter at zero. -/
theorem ended : θ_run defs (onTc (τ := τ) (main (F := F))) ⟨m, fun _ => 0, ρ⟩ (fun r => (∀ c : Dev nD,
      r.2.mem ((c.tc : Thread nD τ).loc main_v30) = (data m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 7, ((h.1 c).1 1).trans (((data m 0 c).arrAt_in 1 rfl _).trans ((data_A m c 1).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (launched m ρ)

/-- The arguments end unchanged and every counter ends at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (ended m ρ)

/-! ## The frames

The program read at the reals is the same text, so the one run serves both. -/

theorem bits : quiescent_Gating := fun m g _ => kept m g

set_option backward.isDefEq.respectTransparency.types false in
theorem same_body : Cert.GatingIdeal.defs₀ (F := Ideal) = Cert.Gating.defs₀ (F := Ideal) := by
  unfold Cert.GatingIdeal.defs₀ Cert.Gating.defs₀
  refine congrArg Defs.onTc (funext fun l => ?_)
  match l with
  | ⟨0, _⟩ => exact funext fun ⟨t, s⟩ => rfl
  | ⟨_ + 1, h⟩ => exact absurd h (Nat.not_lt.2 (Nat.le_add_left _ _))

set_option backward.isDefEq.respectTransparency.types false in
theorem same_table : Cert.GatingIdeal.defs (F := Ideal) = Cert.Gating.defs (F := Ideal) :=
  congrArg (Pipeline.defs Cert.Gating.pcfgs) same_body

set_option backward.isDefEq.respectTransparency.types false in
set_option maxHeartbeats 4000000 in
theorem reals : quiescent_GatingIdeal := fun m g _ => by
  rw [same_table]
  exact kept (F := Ideal) m g
-- ==== Proof.GatingSpec.lean ====
/- The gating over positions as mathematics: the tanh gelu, a group's normalised entries, and a row's gate. -/
module
public import proofs.«01_k».proof.Proof.Reals
@[expose] public section
noncomputable section

namespace Cert.GatingSpec

open Idealize.ShloMosaic Cert.Reals

/-- The tanh form of the gelu, with its four constants. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

theorem cubic_lit : ∃ k : ℝ, Ideal.ofBits .f32 0x3D372713#32 = (k : EReal) := by
  simp only [Ideal.ofBits, Ideal.ieee]
  exact ⟨_, rfl⟩

theorem slope_lit : ∃ k : ℝ, Ideal.ofBits .f32 0x3F4C422A#32 = (k : EReal) := by
  simp only [Ideal.ofBits, Ideal.ieee]
  exact ⟨_, rfl⟩

/-- The gelu of a real number is one. -/
theorem gelu_real (r : ℝ) : ∃ g : ℝ, gelu (r : EReal) = (g : EReal) := by
  obtain ⟨k, hk⟩ := cubic_lit
  obtain ⟨s, hs⟩ := slope_lit
  unfold gelu
  rw [hk, hs, half32, one32]
  simp only [← EReal.coe_mul, ← EReal.coe_add, Ideal.tanh_coe]
  exact ⟨_, rfl⟩

def gel (r : ℝ) : ℝ := (gelu_real r).choose

theorem gelu_coe (r : ℝ) : gelu (r : EReal) = (gel r : EReal) := (gelu_real r).choose_spec

/-- Lane `d` of group `h`. -/
def lane (h : Fin 8) (d : Fin 64) : Fin 512 := ⟨h.val * 64 + d.val, by omega⟩

/-- A group's mean. -/
def mean (f : Fin 512 → ℝ) (h : Fin 8) : ℝ := (∑ d : Fin 64, f (lane h d)) / 64

/-- Which group a lane is of. -/
def group (j : Fin 512) : Fin 8 := ⟨j.val / 64, by omega⟩

/-- A lane's place in its group. -/
def pos (j : Fin 512) : Fin 64 := ⟨j.val % 64, Nat.mod_lt _ (by decide)⟩

theorem lane_pos (j : Fin 512) : lane (group j) (pos j) = j := Fin.ext (by show j.val / 64 * 64 + j.val % 64 = j.val; omega)

/-- The table of groups' means: 1/64 where the two lanes are of one group. -/
def avg (k j : Fin 512) : ℝ := if k.val / 64 = j.val / 64 then 1 / 64 else 0

/-- A product with the table of means is the group's mean. -/
theorem mean_avg (f : Fin 512 → ℝ) (j : Fin 512) : ∑ k : Fin 512, f k * avg k j = mean f (group j) := by
  rw [← (finProdFinEquiv (m := 8) (n := 64)).sum_comp, Fintype.sum_prod_type, Finset.sum_eq_single (group j)]
  · unfold mean
    rw [Finset.sum_div]
    refine Finset.sum_congr rfl fun d _ => ?_
    rw [show (finProdFinEquiv (group j, d) : Fin 512) = lane (group j) d from Fin.ext (by
      show d.val + 64 * (j.val / 64) = j.val / 64 * 64 + d.val
      omega)]
    have := d.isLt
    unfold avg
    rw [if_pos (by show (j.val / 64 * 64 + d.val) / 64 = j.val / 64; omega)]
    ring
  · intro h _ hne
    refine Finset.sum_eq_zero fun d _ => ?_
    unfold avg
    rw [if_neg, mul_zero]
    intro e
    refine hne (Fin.ext ?_)
    have := d.isLt
    have e' : (d.val + 64 * h.val) / 64 = j.val / 64 := e
    show h.val = j.val / 64
    omega
  · exact fun h => absurd (Finset.mem_univ _) h

/-- A row with each group's mean taken off. -/
def centred (f : Fin 512 → ℝ) (j : Fin 512) : ℝ := f j - mean f (group j)

/-- A row normalised group by group. -/
def unit (f : Fin 512 → ℝ) (j : Fin 512) : EReal :=
  (centred f j : EReal) * Ideal.rsqrt ((mean (fun k => centred f k * centred f k) (group j) : EReal) + Ideal.ofBits .f32 0x358637BD#32)

/-- The host's quotient of a number by 64, rounded down. -/
def quot (n : BitVec 32) : BitVec 32 :=
  Scalar.select
    (IntOp.andi
      (IntOp.cmpi .ne (if n = 0 then (0 : BitVec 32) else if n.msb = true then -1 else 1)
        (if (64#32 : BitVec 32) = 0 then (0 : BitVec 32) else if BitVec.msb (64#32 : BitVec 32) = true then -1 else 1))
      (IntOp.cmpi .ne (IntOp.remsi ArithUnit.host n 64#32) 0#32))
    (IntOp.subi (IntOp.divsi ArithUnit.host n 64#32) 1#32) (IntOp.divsi ArithUnit.host n 64#32)

theorem quot_at : ∀ n : Fin 512, quot (BitVec.ofNat 32 n.val) = BitVec.ofNat 32 (n.val / 64) := by decide +kernel

theorem le_word : ∀ a b : Fin 2, IntOp.cmpi .sle (BitVec.ofNat 32 a.val) (BitVec.ofNat 32 b.val) = 1#1 ↔ a.val ≤ b.val := by decide +kernel

theorem eq_word : ∀ a b : Fin 8, IntOp.cmpi .eq (BitVec.ofNat 32 a.val) (BitVec.ofNat 32 b.val) = if a.val = b.val then 1#1 else 0#1 := by decide +kernel

theorem sees_word (s t : Fin 128) :
    IntOp.cmpi .sle (quot (BitVec.ofNat 32 s.val)) (quot (BitVec.ofNat 32 t.val)) = 1#1 ↔ s.val / 64 ≤ t.val / 64 := by
  rw [quot_at ⟨s.val, by omega⟩, quot_at ⟨t.val, by omega⟩]
  exact le_word ⟨s.val / 64, by omega⟩ ⟨t.val / 64, by omega⟩

theorem lanes_lit : Ideal.ofBits .f32 0x42800000#32 = ((64 : ℝ) : EReal) := by
  simp [Ideal.ofBits, Ideal.ieee]; rw [← EReal.coe_mul]; norm_num

theorem avg_word (k j : Fin 512) :
    Ideal.div (FloatOps.uitofp (F := Ideal) .f32 (IntOp.cmpi .eq (quot (BitVec.ofNat 32 k.val)) (quot (BitVec.ofNat 32 j.val)))) (Ideal.ofBits .f32 0x42800000#32)
      = (avg k j : EReal) := by
  rw [quot_at, quot_at, eq_word ⟨k.val / 64, by omega⟩ ⟨j.val / 64, by omega⟩, lanes_lit]
  unfold avg
  show Ideal.div (((if k.val / 64 = j.val / 64 then 1#1 else 0#1 : BitVec 1).toNat : ℝ) : EReal) _ = _
  split
  · rw [div_coe _ (by norm_num)]
    norm_num
  · rw [div_coe _ (by norm_num)]
    norm_num

variable (z : (⟨2, ![8192, 4608]⟩ : Shape).Idx → ℝ) (lg lb : (⟨2, ![8, 64]⟩ : Shape).Idx → EReal)
  (w : (⟨3, ![8, 128, 128]⟩ : Shape).Idx → EReal) (b : (⟨2, ![8, 128]⟩ : Shape).Idx → EReal)

/-- The gelu of the half that is normalised. -/
def half (i : Fin 8192) (j : Fin 512) : ℝ := gel (z (ix2 i ⟨2048 + j.val, by omega⟩))

/-- A normalised entry with its scale and its shift. -/
def scaled (i : Fin 8192) (h : Fin 8) (d : Fin 64) : EReal := unit (half z i) (lane h d) * lg (ix2 h d) + lb (ix2 h d)

/-- A weight between two positions of a block, where the mask lets it through. -/
def weight (h : Fin 8) (t s : Fin 128) : EReal := if s.val / 64 ≤ t.val / 64 then w (ix3 h t s) else 0

/-- Position `s` of the block that row `i` is in. -/
def mate (i : Fin 8192) (s : Fin 128) : Fin 8192 := ⟨i.val / 128 * 128 + s.val, by omega⟩

/-- A row's place in its block. -/
def place (i : Fin 8192) : Fin 128 := ⟨i.val % 128, Nat.mod_lt _ (by decide)⟩

/-- The result at row `i`, group `h`, lane `d`. -/
def gated (i : Fin 8192) (h : Fin 8) (d : Fin 64) : EReal :=
  gelu (z (ix2 i ⟨1536 + (lane h d).val, by omega⟩))
    * ((∑ s : Fin 128, weight w h (place i) s * scaled z lg lb (mate i s) h d) + b (ix2 h (place i)))

/-- The result as an array. -/
def YY (u : (⟨2, ![8192, 512]⟩ : Shape).Idx) : EReal := gated z lg lb w b (u 0) (group (u 1)) (pos (u 1))
-- ==== Proof.GatingNorm.lean ====
/- The gating kernel's normalised half, read as mathematics. -/
module
public import proofs.«01_k».proof.Proof.GatingRun
public import proofs.«01_k».proof.Proof.GatingSpec
public import Idealize.ShloMosaic.Lib.Pipeline.ValueKit
@[expose] public section
set_option maxRecDepth 16384
noncomputable section

namespace Cert.GatingRun

open Idealize.ShloMosaic Idealize.ShloMosaic.TcCoe
open Cert.Gating Cert.Gating.Gen Cert.Reals Cert.GatingSpec

/-- The gelu as the kernel writes it, over a tile. -/
def geluTile (x : FVec Ideal S1024x512 .bf16) : FVec Ideal S1024x512 .f32 :=
  let y : FVec Ideal S1024x512 .f32 := extf .f32 x bitsLt_bf16_f32
  mulf y (mulf (broadcast S1024x512 (Scalar.ofBits .f32 0x3F000000#32)) (addf (broadcast S1024x512 (Scalar.ofBits .f32 0x3F800000#32))
    (tanh (mulf (broadcast S1024x512 (Scalar.ofBits .f32 0x3F4C422A#32)) (addf y (mulf (broadcast S1024x512 (Scalar.ofBits .f32 0x3D372713#32)) (mulf (mulf y y) y)))))))

/-- A tile's rounded part over what the rounding left. -/
def parts (v : FVec Ideal S1024x512 .f32) : FVec Ideal S2048x512 .bf16 :=
  concatenate S2048x512 0 [⟨S1024x512, truncf .bf16 v bitsLt_bf16_f32⟩,
    ⟨S1024x512, truncf .bf16 (subf v (extf .f32 (truncf .bf16 v bitsLt_bf16_f32) bitsLt_bf16_f32)) bitsLt_bf16_f32⟩] concatenates_S1024x512_S1024x512_S2048x512_d0

/-- A tile's means by the table, as the kernel computes them. -/
def means (v : FVec Ideal S1024x512 .f32) (a : FVec Ideal S512x512 .bf16) : FVec Ideal S1024x512 .f32 :=
  let y := matmul dot_S2048x512_S512x512_S2048x512_1_0_0_1_n_n none (parts v) (shapeCast S512x512 a shapeCasts_S512x512_S512x512)
    (constant S2048x512 .f32 0x00000000#32)
  addf (extractStridedSlice S1024x512 ![0, 0] y slices_S2048x512_o0_0_S1024x512)
    (extractStridedSlice S1024x512 ![1024, 0] y slices_S2048x512_o1024_0_S1024x512)

theorem pay23_eq (x : Vec Ideal S1024x512 .bf16) (a : Vec Ideal S512x512 .bf16) : k0_pay23 x a a =
    mulf (subf (geluTile x) (means (geluTile x) a))
      (rsqrt (addf (means (mulf (subf (geluTile x) (means (geluTile x) a)) (subf (geluTile x) (means (geluTile x) a))) a)
        (broadcast S1024x512 (Scalar.ofBits .f32 0x358637BD#32)))) := rfl

theorem parts_at (v : S1024x512.Idx → ℝ) (i : Fin 1024) (j : Fin 512) : parts (up v) (ix2 (⟨i.val, by omega⟩ : Fin 2048) j) = (v (ix2 i j) : EReal)
    ∧ parts (up v) (ix2 (⟨1024 + i.val, by omega⟩ : Fin 2048) j) = 0 := by
  unfold parts
  constructor
  · refine (concatenate_apply_piece (α := EReal) 0 _ _ (ix2 (⟨i.val, by omega⟩ : Fin 2048) j) 0 (Nat.lt_of_sub_eq_succ rfl) S1024x512 _ rfl rfl 0 rfl
      (ix2 i j) ?_ ?_).trans ?_
    · intro b hb; fin_cases b
      · exact absurd rfl hb
      · rfl
    · show 0 + i.val = i.val; omega
    · rfl
  · refine (concatenate_apply_piece (α := EReal) 0 _ _ (ix2 (⟨1024 + i.val, by omega⟩ : Fin 2048) j) 1 (Nat.lt_of_sub_eq_succ rfl) S1024x512
      _ rfl rfl 1024 rfl (ix2 i j) ?_ ?_).trans ?_
    · intro b hb; fin_cases b
      · exact absurd rfl hb
      · rfl
    · rfl
    · show (v (ix2 i j) : EReal) - v (ix2 i j) = 0
      rw [← EReal.coe_sub, sub_self, EReal.coe_zero]

theorem means_eq (v : S1024x512.Idx → ℝ) (a : Fin 512 → Fin 512 → ℝ) :
    means (up v) (up (arr a)) = up (arr fun i j => ∑ k, v (ix2 i k) * a k j) := by
  funext u
  idx_vars u
  unfold means
  generalize hp : parts (up v) = p
  have top (k : Fin 512) : p (ix2 ⟨u0.val, by omega⟩ k) = (v (ix2 u0 k) : EReal) := hp ▸ (parts_at v u0 k).1
  have low (k : Fin 512) : p (ix2 ⟨1024 + u0.val, by omega⟩ k) = 0 := hp ▸ (parts_at v u0 k).2
  pointwise
  simp only [top, low, zero_mul, Finset.sum_const_zero, add_zero, up, ← EReal.coe_mul, coe_sum]
  rfl

variable {x : S1024x512.Idx → ℝ}

/-- The gelu of a row of the tile. -/
def rowOf (x : S1024x512.Idx → ℝ) (i : Fin 1024) (j : Fin 512) : ℝ := gel (x (ix2 i j))

theorem geluTile_eq : geluTile (up x) = up (arr (rowOf x)) := by
  funext u
  idx_vars u
  exact gelu_coe _

theorem centre_eq : subf (geluTile (up x)) (means (geluTile (up x)) (up (arr avg))) = up (arr fun i => centred (rowOf x i)) := by
  rw [geluTile_eq, means_eq]
  funext u
  idx_vars u
  show (rowOf x u0 u1 : EReal) - ((∑ k, rowOf x u0 k * avg k u1 : ℝ) : EReal) = (centred (rowOf x u0) u1 : EReal)
  rw [mean_avg, ← EReal.coe_sub]
  rfl

/-- The tile's rows, normalised group by group. -/
theorem pay23_at (i : Fin 1024) (j : Fin 512) : k0_pay23 (F := Ideal) (up x) (up (arr avg)) (up (arr avg)) (ix2 i j) = unit (rowOf x i) j := by
  rw [pay23_eq, centre_eq]
  have sq : @Eq (FVec Ideal S1024x512 .f32) (mulf (up (arr fun i => centred (rowOf x i)) : FVec Ideal S1024x512 .f32) (up (arr fun i => centred (rowOf x i))))
      (up (arr fun i j => centred (rowOf x i) j * centred (rowOf x i) j)) := by
    funext u
    idx_vars u
    exact (EReal.coe_mul _ _).symm
  rw [sq, means_eq]
  exact congrArg (fun q : ℝ => (centred (rowOf x i) j : EReal) * Ideal.rsqrt ((q : EReal) + Ideal.ofBits .f32 0x358637BD#32))
    (mean_avg (fun k => centred (rowOf x i) k * centred (rowOf x i) k) j)

/-- The tile's scaled and shifted rows. -/
theorem norm_at (g b : Vec Ideal S1x512 .f32) (i : Fin 1024) (j : Fin 512) :
    norm (F := Ideal) (up x) (up (arr avg)) g b (ix2 i j) = unit (rowOf x i) j * g (ix2 0 j) + b (ix2 0 j) := by
  unfold norm
  rw [← pay23_at]
  generalize k0_pay23 (F := Ideal) (up x) (up (arr avg)) (up (arr avg)) = p
  pointwise [k0_pay1]
-- ==== Proof.GatingPiece.lean ====
/- What a block of the gating kernel's tile writes, read as mathematics. -/
module
public import proofs.«01_k».proof.Proof.GatingNorm
@[expose] public section
set_option maxRecDepth 16384
noncomputable section

namespace Cert.GatingRun

open Idealize.ShloMosaic Idealize.ShloMosaic.TcCoe
open Cert.Gating Cert.Gating.Gen Cert.Reals Cert.GatingSpec

theorem low_word : ∀ j : Fin 128, IntOp.cmpi .slt (BitVec.ofNat 32 j.val) 64#32 = 1#1 ↔ j.val < 64 := by decide +kernel

theorem select_low (j : Fin 128) (a b : EReal) : Scalar.select (IntOp.cmpi .slt (BitVec.ofNat 32 j.val) 64#32) a b = if j.val < 64 then a else b := by
  unfold Scalar.select
  exact if_congr (low_word j) rfl rfl

theorem zero_lit : (Scalar.ofBits .f32 0x00000000#32 : Ideal .f32) = (0 : EReal) := zero32.trans EReal.coe_zero

/-- The upper half keeps the first 64 lanes. -/
theorem upper_at (V : Vec Ideal S128x128 .f32) (s j : Fin 128) : k0_pay6 V (ix3 0 s j) = if j.val < 64 then V (ix2 s j) else 0 := by
  pointwise [k0_pay6, k0_pay5]
  exact select_low j _ _

/-- The lower half keeps the last 64 lanes. -/
theorem lower_at (V : Vec Ideal S128x128 .f32) (s j : Fin 128) : k0_pay8 (k0_pay7 V) (ix3 0 s j) = if j.val < 64 then 0 else V (ix2 s j) := by
  pointwise [k0_pay8, k0_pay7, k0_pay5]
  exact select_low j _ _

/-- A product with the two halves one over the other is a product with the half whose lanes it reads. -/
theorem stack_sum (f : Fin 256 → EReal) (V : Vec Ideal S128x128 .f32) (P Q : S1x128x128.Idx → EReal)
    (hP : ∀ s j : Fin 128, P (ix3 0 s j) = if j.val < 64 then V (ix2 s j) else 0) (hQ : ∀ s j : Fin 128, Q (ix3 0 s j) = if j.val < 64 then 0 else V (ix2 s j)) (j : Fin 128) :
    ∑ s : Fin 256, f s * stack P Q (ix3 0 s j) = ∑ s : Fin 128, f ⟨j.val / 64 * 128 + s.val, by omega⟩ * V (ix2 s j) := by
  rw [show (∑ s : Fin 256, f s * stack P Q (ix3 0 s j)) = _ from Fin.sum_univ_add (a := 128) (b := 128) _]
  have top (s : Fin 128) : stack P Q (ix3 0 (Fin.castAdd 128 s) j) = P (ix3 0 s j) := by
    unfold stack
    rw [dif_pos (show ((ix3 0 (Fin.castAdd 128 s) j : S1x256x128.Idx) 1).val < 128 from s.isLt)]
    rfl
  have low (s : Fin 128) : stack P Q (ix3 0 (Fin.natAdd 128 s) j) = Q (ix3 0 s j) := by
    unfold stack
    rw [dif_neg (show ¬ ((ix3 0 (Fin.natAdd 128 s) j : S1x256x128.Idx) 1).val < 128 from Nat.not_lt.2 (Nat.le_add_right 128 s.val))]
    exact congrArg (fun k => Q (ix3 0 k j)) (Fin.ext (Nat.add_sub_cancel_left 128 s.val))
  simp only [top, low, hP, hQ]
  by_cases h : j.val < 64
  · simp only [if_pos h, mul_zero, Finset.sum_const_zero, add_zero]
    exact Finset.sum_congr rfl fun s _ => congrArg (fun k => f k * V (ix2 s j)) (Fin.ext (by show s.val = j.val / 64 * 128 + s.val; omega))
  · simp only [if_neg h, mul_zero, Finset.sum_const_zero, zero_add]
    exact Finset.sum_congr rfl fun s _ => congrArg (fun k => f k * V (ix2 s j)) (Fin.ext (by show 128 + s.val = j.val / 64 * 128 + s.val; omega))

section Gates

variable (x : FVec Ideal S128x512 .f32) (w : Vec Ideal S1x128x256 .bf16) (S : Vec Ideal S1x256x128 .bf16) (b : Vec Ideal S128x128 .f32) (t j : Fin 128)

/-- A gate over a plane: its part of the gelu times the product and its bias. -/
def gate (o : Fin 512) : EReal := x (ix2 t o) * (∑ s : Fin 256, w (ix3 0 t s) * S (ix3 0 s j) + b (ix2 t j))

theorem gate0 : k0_pay9 x w S b (ix2 t j) = gate x w S b t j ⟨0 + j.val, by omega⟩ := by
  pointwise [k0_pay9, gate]

theorem gate1 : k0_pay14 x w S b (ix2 t j) = gate x w S b t j ⟨128 + j.val, by omega⟩ := by
  pointwise [k0_pay14, gate]

theorem gate2 : k0_pay19 x w S b (ix2 t j) = gate x w S b t j ⟨256 + j.val, by omega⟩ := by
  pointwise [k0_pay19, gate]

theorem gate3 : k0_pay3 x w S b (ix2 t j) = gate x w S b t j ⟨384 + j.val, by omega⟩ := by
  pointwise [k0_pay3, gate]

end Gates

theorem gelu_rows (x : Vec Ideal S128x512 .bf16) (u : S128x512.Idx) : k0_pay4 x u = gelu (x u) := rfl

/-- Row `t` of block `k` of a tile. -/
def brow (k : Fin k0_t1_loop.trips) (t : Fin 128) : Fin 1024 := ⟨128 * k.val + t.val, by have := lt_of_lt_of_eq k.isLt trips_eq; omega⟩

/-- Lane `j` of pair `p`. -/
def plane (p : Fin 4) (j : Fin 128) : Fin 512 := ⟨p.val * 128 + j.val, by omega⟩

/-- A gated entry of a block, from the tile, the pair's weights, the biases and the normalised rows. -/
def gatedTile (x : Vec Ideal S1024x512 .bf16) (w : Vec Ideal S4x128x256 .bf16) (b : Vec Ideal S128x512 .f32) (v : Vec Ideal S1024x512 .f32)
    (k : Fin k0_t1_loop.trips) (p : Fin 4) (t j : Fin 128) : EReal :=
  gelu (x (ix2 (brow k t) (plane p j)))
    * (∑ s : Fin 128, w (ix3 p t ⟨j.val / 64 * 128 + s.val, by omega⟩) * v (ix2 (brow k s) (plane p j)) + b (ix2 t (plane p j)))

theorem ld2 {R C r c : ℕ} {e : EltTy} (X : (⟨2, ![R, C]⟩ : Shape).Idx → Elt Ideal e) (off : Fin 2 → ℕ) (inb) (t : Fin r) (j : Fin c) (i : Fin R) (l : Fin C)
    (h0 : i.val = off 0 + t.val) (h1 : l.val = off 1 + j.val) :
    View.ld (Val := Elt Ideal) X (Rect.unit (s := ⟨2, ![R, C]⟩) off ![r, c] inb) (ix2 t j) = X (ix2 i l) :=
  View.ld_unit_apply_of (Val := Elt Ideal) X off _ inb (ix2 t j) (ix2 i l) fun a => match a with
    | ⟨0, _⟩ => h0
    | ⟨1, _⟩ => h1

theorem ldw (w : Vec Ideal S4x128x256 .bf16) (p : Fin 4) (inb) (t : Fin 128) (s : Fin 256) :
    View.ld (Val := Elt Ideal) w (Rect.unit (s := S4x128x256) ![p.val, 0, 0] S1x128x256.size inb) (ix3 0 t s) = w (ix3 p t s) :=
  View.ld_unit_apply_of (Val := Elt Ideal) w _ _ inb (ix3 0 t s) (ix3 p t s) fun a => match a with
    | ⟨0, _⟩ => rfl
    | ⟨1, _⟩ => (Nat.zero_add _).symm
    | ⟨2, _⟩ => (Nat.zero_add _).symm

section Pieces

variable (x : Vec Ideal S1024x512 .bf16) (w : Vec Ideal S4x128x256 .bf16) (b : Vec Ideal S128x512 .f32) (v : Vec Ideal S1024x512 .f32)
    (k : Fin k0_t1_loop.trips)

theorem gate_eq (p : Fin 4) (t j : Fin 128) (xs : Vec Ideal S128x512 .bf16) (ws : Vec Ideal S1x128x256 .bf16) (bs : Vec Ideal S128x128 .f32) (vs : Vec Ideal S128x128 .f32)
    (P Q : Vec Ideal S1x128x128 .bf16) (o : Fin 512) (ho : o = plane p j) (hx : xs (ix2 t (plane p j)) = x (ix2 (brow k t) (plane p j)))
    (hw : ∀ s, ws (ix3 0 t s) = w (ix3 p t s)) (hb : bs (ix2 t j) = b (ix2 t (plane p j))) (hv : ∀ s, vs (ix2 s j) = v (ix2 (brow k s) (plane p j)))
    (hP : ∀ s j : Fin 128, P (ix3 0 s j) = if j.val < 64 then vs (ix2 s j) else 0) (hQ : ∀ s j : Fin 128, Q (ix3 0 s j) = if j.val < 64 then 0 else vs (ix2 s j)) :
    gate (k0_pay4 xs) ws (stack P Q) bs t j o = gatedTile x w b v k p t j := by
  subst ho
  unfold gate gatedTile
  rw [gelu_rows, hx, hb, stack_sum (fun s => ws (ix3 0 t s)) vs P Q hP hQ j]
  simp only [hw, hv]

theorem piece_at (p : Fin 4) (t j : Fin 128) : piece x w b v k p (ix2 t j) = gatedTile x w b v k p t j := by
  have row (s : Fin 128) {n : ℕ} (h : n = 128 * k.val) : (brow k s).val = n + s.val := by rw [h]; rfl
  have col (q : Fin 4) {n : ℕ} (h : n = q.val * 128) : (plane q j).val = n + j.val := by rw [h]; rfl
  have all (q : Fin 4) {n : ℕ} (h : n = 0) : (plane q j).val = n + (plane q j).val := by rw [h, Nat.zero_add]
  have top (s : Fin 128) {n : ℕ} (h : n = 0) : s.val = n + s.val := by rw [h, Nat.zero_add]
  have e1 := k0_off1_eq k
  match p with
  | 0 =>
    have e := k0_off2_eq k
    refine (gate0 _ _ _ _ t j).trans (gate_eq x w b v k 0 t j _ _ _ (View.ld v (Rect.unit (k0_off2 k) S128x128.size (k0_off2_inb k))) _ _ _ (Fin.ext rfl)
      (ld2 x _ _ t _ _ _ (row t (congrFun e1 0)) (all 0 (congrFun e1 1))) (ldw w 0 _ t) (ld2 b _ _ t j _ _ (top t rfl) (col 0 rfl))
      (fun s => ld2 v _ _ s j _ _ (row s (congrFun e 0)) (col 0 (congrFun e 1))) (upper_at _) (lower_at _))
  | 1 =>
    have e := k0_off3_eq k
    refine (gate1 _ _ _ _ t j).trans (gate_eq x w b v k 1 t j _ _ _ (View.ld v (Rect.unit (k0_off3 k) S128x128.size (k0_off3_inb k))) _ _ _ (Fin.ext rfl)
      (ld2 x _ _ t _ _ _ (row t (congrFun e1 0)) (all 1 (congrFun e1 1))) (ldw w 1 _ t) (ld2 b _ _ t j _ _ (top t rfl) (col 1 rfl))
      (fun s => ld2 v _ _ s j _ _ (row s (congrFun e 0)) (col 1 (congrFun e 1))) (upper_at _) (lower_at _))
  | 2 =>
    have e := k0_off4_eq k
    refine (gate2 _ _ _ _ t j).trans (gate_eq x w b v k 2 t j _ _ _ (View.ld v (Rect.unit (k0_off4 k) S128x128.size (k0_off4_inb k))) _ _ _ (Fin.ext rfl)
      (ld2 x _ _ t _ _ _ (row t (congrFun e1 0)) (all 2 (congrFun e1 1))) (ldw w 2 _ t) (ld2 b _ _ t j _ _ (top t rfl) (col 2 rfl))
      (fun s => ld2 v _ _ s j _ _ (row s (congrFun e 0)) (col 2 (congrFun e 1))) (upper_at _) (lower_at _))
  | 3 =>
    have e := k0_off5_eq k
    refine (gate3 _ _ _ _ t j).trans (gate_eq x w b v k 3 t j _ _ _ (View.ld v (Rect.unit (k0_off5 k) S128x128.size (k0_off5_inb k))) _ _ _ (Fin.ext rfl)
      (ld2 x _ _ t _ _ _ (row t (congrFun e1 0)) (all 3 (congrFun e1 1))) (ldw w 3 _ t) (ld2 b _ _ t j _ _ (top t rfl) (col 3 rfl))
      (fun s => ld2 v _ _ s j _ _ (row s (congrFun e 0)) (col 3 (congrFun e 1))) (upper_at _) (lower_at _))

end Pieces

/-- A tile's entry. -/
theorem out_at (x : Vec Ideal S1024x512 .bf16) (w : Vec Ideal S4x128x256 .bf16) (b : Vec Ideal S128x512 .f32) (v : Vec Ideal S1024x512 .f32)
    (i : Fin 1024) (j : Fin 512) :
    out x w b v (ix2 i j) = gatedTile x w b v ⟨i.val / 128, by rw [trips_eq]; omega⟩ ⟨j.val / 128, by omega⟩ ⟨i.val % 128, Nat.mod_lt _ (by decide)⟩ ⟨j.val % 128, Nat.mod_lt _ (by decide)⟩ :=
  piece_at x w b v _ _ _ _
-- ==== Proof.GatingValue.lean ====
/- The gating kernel's blocks, and the array it ends with. -/
module
public import proofs.«01_k».proof.Proof.GatingPiece
public import Idealize.ShloMosaic.Lib.StableHlo.ReadAt
@[expose] public section
set_option maxRecDepth 16384
noncomputable section

namespace Cert.GatingRun

open Idealize.ShloMosaic Idealize.ShloMosaic.TcCoe
open Cert.Gating Cert.Gating.Gen Cert.Reals Cert.GatingSpec

theorem idx : ∀ t : Fin cfg0.N, win0_0.index t = ![t.val, 3] ∧ win0_1.index t = ![t.val, 4] ∧ win0_2.index t = ![0, 0] ∧ win0_3.index t = ![0, 0]
    ∧ win0_4.index t = ![0, 0] ∧ win0_5.index t = ![0, 0, 0] ∧ win0_6.index t = ![0, 0] ∧ win0_7.index t = ![t.val, 0] :=
  (by decide +kernel : ∀ t : Fin grid0.N, _)

theorem small (t : Fin cfg0.N) : t.val < 8 := lt_of_lt_of_eq t.isLt N_0

/-- The array row at which row `i` of tile `t` sits. -/
def arow (t : Fin cfg0.N) (i : Fin 1024) : Fin 8192 := ⟨t.val * 1024 + i.val, by have := small t; omega⟩

variable {m : (ℓ : Loc nD τ sig) → Buf (Elt Ideal) ℓ} {c : Dev nD}

theorem block_u (t : Fin cfg0.N) (i : Fin 1024) (j : Fin 512) :
    (iblk m c 0 t : Vec Ideal S1024x512 .bf16) (ix2 i j) = m ((c.tc : Thread nD τ).loc main_arg0) (ix2 (arow t i) ⟨1536 + j.val, by omega⟩) := by
  have : (arow t i).val = t.val * 1024 + i.val := rfl
  blk_ext [iblk, V, idx t]

theorem block_v (t : Fin cfg0.N) (i : Fin 1024) (j : Fin 512) :
    (iblk m c 1 t : Vec Ideal S1024x512 .bf16) (ix2 i j) = m ((c.tc : Thread nD τ).loc main_arg0) (ix2 (arow t i) ⟨2048 + j.val, by omega⟩) := by
  have : (arow t i).val = t.val * 1024 + i.val := rfl
  blk_ext [iblk, V, idx t]

theorem block_avg (t : Fin cfg0.N) (k j : Fin 512) :
    (iblk m c 2 t : Vec Ideal S512x512 .bf16) (ix2 k j) = (avg k j : EReal) := by
  have e : (iblk m c 2 t : Vec Ideal S512x512 .bf16) (ix2 k j) = (V m c main_v27 : Vec Ideal S512x512 .bf16) (ix2 k j) := by
    blk_ext [iblk, V, idx t]
  rw [e]
  after_reads_at
  exact avg_word k j

theorem block_lng (t : Fin cfg0.N) (h : Fin 8) (d : Fin 64) :
    (iblk m c 3 t : Vec Ideal S1x512 .f32) (ix2 0 (lane h d)) = m ((c.tc : Thread nD τ).loc main_arg1) (ix2 h d) := by
  have e : (iblk m c 3 t : Vec Ideal S1x512 .f32) (ix2 0 (lane h d)) = (V m c main_v28 : Vec Ideal S1x512 .f32) (ix2 0 (lane h d)) := by
    blk_ext [iblk, V, idx t]
  rw [e]
  after_reads_at
  refine congrArg₂ (fun (a : Fin 8) (b : Fin 64) => (m ((c.tc : Thread nD τ).loc main_arg1) : Vec Ideal S8x64 .f32) (ix2 a b)) (Fin.ext ?_) (Fin.ext ?_)
  · show (h.val * 64 + d.val) / 64 = h.val; omega
  · show (h.val * 64 + d.val) % 64 = d.val; omega

theorem block_lnb (t : Fin cfg0.N) (h : Fin 8) (d : Fin 64) :
    (iblk m c 4 t : Vec Ideal S1x512 .f32) (ix2 0 (lane h d)) = m ((c.tc : Thread nD τ).loc main_arg2) (ix2 h d) := by
  have e : (iblk m c 4 t : Vec Ideal S1x512 .f32) (ix2 0 (lane h d)) = (V m c main_v29 : Vec Ideal S1x512 .f32) (ix2 0 (lane h d)) := by
    blk_ext [iblk, V, idx t]
  rw [e]
  after_reads_at
  refine congrArg₂ (fun (a : Fin 8) (b : Fin 64) => (m ((c.tc : Thread nD τ).loc main_arg2) : Vec Ideal S8x64 .f32) (ix2 a b)) (Fin.ext ?_) (Fin.ext ?_)
  · show (h.val * 64 + d.val) / 64 = h.val; omega
  · show (h.val * 64 + d.val) % 64 = d.val; omega

theorem block_w (t : Fin cfg0.N) (p : Fin 4) (q : Fin 2) (a s : Fin 128) :
    (iblk m c 5 t : Vec Ideal S4x128x256 .bf16) (ix3 p a ⟨q.val * 128 + s.val, by omega⟩)
      = weight (m ((c.tc : Thread nD τ).loc main_arg3)) ⟨p.val * 2 + q.val, by omega⟩ a s := by
  have e : (iblk m c 5 t : Vec Ideal S4x128x256 .bf16) (ix3 p a ⟨q.val * 128 + s.val, by omega⟩)
      = (V m c main_v13 : Vec Ideal S4x128x256 .bf16) (ix3 p a ⟨q.val * 128 + s.val, by omega⟩) := by
    blk_ext [iblk, V, idx t]
  rw [e]
  after_reads_at
  refine (if_congr (sees_word ⟨(q.val * 128 + s.val) % 128, Nat.mod_lt _ (by decide)⟩ a) rfl rfl).trans ?_
  unfold weight
  refine if_congr ?_ ?_ zero_lit
  · show (q.val * 128 + s.val) % 128 / 64 ≤ _ ↔ _
    rw [show (q.val * 128 + s.val) % 128 = s.val by omega]
  · refine congrArg₂ (fun (h : Fin 8) (s : Fin 128) => (m ((c.tc : Thread nD τ).loc main_arg3) : Vec Ideal S8x128x128 .f32) (ix3 h a s)) (Fin.ext ?_) (Fin.ext ?_)
    · show p.val * 2 + (q.val * 128 + s.val) / 128 = p.val * 2 + q.val; omega
    · show (q.val * 128 + s.val) % 128 = s.val; omega

theorem block_b (t : Fin cfg0.N) (a : Fin 128) (h : Fin 8) (d : Fin 64) :
    (iblk m c 6 t : Vec Ideal S128x512 .f32) (ix2 a (lane h d)) = m ((c.tc : Thread nD τ).loc main_arg4) (ix2 h a) := by
  have e : (iblk m c 6 t : Vec Ideal S128x512 .f32) (ix2 a (lane h d)) = (V m c main_v16 : Vec Ideal S128x512 .f32) (ix2 a (lane h d)) := by
    blk_ext [iblk, V, idx t]
  rw [e]
  after_reads_at
  refine congrArg (fun (h : Fin 8) => (m ((c.tc : Thread nD τ).loc main_arg4) : Vec Ideal S8x128 .f32) (ix2 h a)) (Fin.ext ?_)
  show (h.val * 64 + d.val) / 64 = h.val; omega

section Final

variable {z : S8192x4608.Idx → ℝ} (e0 : m ((c.tc : Thread nD τ).loc main_arg0) = up z)

/-- The half of a tile that is normalised. -/
def vtile (z : S8192x4608.Idx → ℝ) (t : Fin cfg0.N) : S1024x512.Idx → ℝ := arr fun i j => z (ix2 (arow t i) ⟨2048 + j.val, by omega⟩)

include e0

theorem norm_block (t : Fin cfg0.N) (i : Fin 1024) (j : Fin 512) :
    norm (F := Ideal) (iblk m c 1 t) (iblk m c 2 t) (iblk m c 3 t) (iblk m c 4 t) (ix2 i j)
      = scaled z (m ((c.tc : Thread nD τ).loc main_arg1)) (m ((c.tc : Thread nD τ).loc main_arg2)) (arow t i) (group j) (pos j) := by
  have hv : (iblk m c 1 t : Vec Ideal S1024x512 .bf16) = up (vtile z t) := by
    funext u
    idx_vars u
    rw [block_v, e0]
    rfl
  have ha : (iblk m c 2 t : Vec Ideal S512x512 .bf16) = up (arr avg) := by
    funext u
    idx_vars u
    exact block_avg t u0 u1
  rw [hv, ha, norm_at]
  unfold scaled
  have hg := block_lng (m := m) (c := c) t (group j) (pos j)
  have hb := block_lnb (m := m) (c := c) t (group j) (pos j)
  rw [lane_pos] at hg hb ⊢
  rw [hg, hb]
  rfl

theorem result_at (t : Fin cfg0.N) (i : Fin 1024) (j : Fin 512) : result m c t (ix2 i j)
    = gated z (m ((c.tc : Thread nD τ).loc main_arg1)) (m ((c.tc : Thread nD τ).loc main_arg2)) (m ((c.tc : Thread nD τ).loc main_arg3))
      (m ((c.tc : Thread nD τ).loc main_arg4)) (arow t i) (group j) (pos j) := by
  unfold result
  rw [out_at]
  have hi := i.isLt
  have hj := j.isLt
  have hp : plane ⟨j.val / 128, by omega⟩ ⟨j.val % 128, Nat.mod_lt _ (by decide)⟩ = j := Fin.ext (by show j.val / 128 * 128 + j.val % 128 = j.val; omega)
  have hr : brow ⟨i.val / 128, by rw [trips_eq]; omega⟩ ⟨i.val % 128, Nat.mod_lt _ (by decide)⟩ = i := Fin.ext (by show 128 * (i.val / 128) + i.val % 128 = i.val; omega)
  have hpl : place (arow t i) = ⟨i.val % 128, Nat.mod_lt _ (by decide)⟩ := Fin.ext (by show (t.val * 1024 + i.val) % 128 = i.val % 128; omega)
  have hm (s : Fin 128) : mate (arow t i) s = arow t (brow ⟨i.val / 128, by rw [trips_eq]; omega⟩ s) :=
    Fin.ext (by show (t.val * 1024 + i.val) / 128 * 128 + s.val = t.val * 1024 + (128 * (i.val / 128) + s.val); omega)
  unfold gatedTile gated
  rw [hp, hr, hpl, block_u, e0]
  have hbias := block_b (m := m) (c := c) t ⟨i.val % 128, Nat.mod_lt _ (by decide)⟩ (group j) (pos j)
  rw [lane_pos] at hbias
  rw [hbias]
  refine congrArg₂ (fun (l : Fin 4608) (q : EReal) => gelu (z (ix2 (arow t i) l)) * (q + _)) (Fin.ext (congrArg (fun l : Fin 512 => 1536 + l.val) (lane_pos j).symm)) (Finset.sum_congr rfl fun s _ => ?_)
  rw [hm, norm_block e0 t _ j]
  refine congrArg (fun q => q * _) ?_
  refine (block_w (m := m) (c := c) t ⟨j.val / 128, by omega⟩ ⟨j.val % 128 / 64, by omega⟩ ⟨i.val % 128, Nat.mod_lt _ (by decide)⟩ s).trans ?_
  exact congrArg (fun h => weight _ h _ s) (Fin.ext (by show j.val / 128 * 2 + j.val % 128 / 64 = j.val / 64; omega))

/-- The array the kernel ends with. -/
theorem final : (data m 0 c).arrAt 7 cfg0.N = YY z (m ((c.tc : Thread nD τ).loc main_arg1)) (m ((c.tc : Thread nD τ).loc main_arg2))
    (m ((c.tc : Thread nD τ).loc main_arg3)) (m ((c.tc : Thread nD τ).loc main_arg4)) := by
  refine (data m 0 c).arrAt_eq_of_covers 7 _ (by decide +kernel) fun t _ y => ?_
  blk_simp
  rw [show (data m 0 c).after 7 t = result m c t by dsimp only [data]]
  have hy : ((cfg0.win 7).blk t).view.emb y = ix2 (arow t (y 0)) (y 1) := by
    have : (arow t (y 0)).val = t.val * 1024 + (y 0).val := rfl
    blk_ext [idx t]
  refine (show result m c t y = result m c t (ix2 (y 0) (y 1)) from by idx_vars y).trans ((result_at e0 t (y 0) (y 1)).trans ?_)
  exact (congrArg (YY z _ _ _ _) hy).symm
-- ==== Proof.GatingRefEval.lean ====
/- The gating's reference, read as mathematics. -/
module
public import proofs.«01_k».proof.Proof.GatingSpec
public import proofs.«01_k».proof.Proof.Gen.GatingRefIdeal.Run
public import Idealize.ShloMosaic.Lib.Pipeline.ValueKit
@[expose] public section
set_option maxRecDepth 16384
noncomputable section

namespace Cert.GatingSpec

open Idealize.ShloMosaic Idealize.ShloMosaic.TcCoe
open Cert.GatingRefIdeal Cert.GatingRefIdeal.Gen Cert.Reals

def wide (z : FVec Ideal S8192x4608 .bf16) : FVec Ideal S1x8192x4608 .f32 :=
  broadcastInDim S1x8192x4608 ![1, 2] bcast_S8192x4608_S1x8192x4608_1_2 (extf .f32 z bitsLt_bf16_f32)

def geluHost (x : FVec Ideal S1x8192x512 .f32) : FVec Ideal S1x8192x512 .f32 :=
  mulf x (mulf (broadcastInDim S1x8192x512 ![] bcast_S_S1x8192x512 (constant S_ .f32 0x3F000000#32)) (addf (broadcastInDim S1x8192x512 ![] bcast_S_S1x8192x512 (constant S_ .f32 0x3F800000#32))
    (Host.tanh (mulf (broadcastInDim S1x8192x512 ![] bcast_S_S1x8192x512 (constant S_ .f32 0x3F4C422A#32)) (addf x (mulf (broadcastInDim S1x8192x512 ![] bcast_S_S1x8192x512 (constant S_ .f32 0x3D372713#32)) (mulf (mulf x x) x)))))))

def cut (x : FVec Ideal S1x8192x512 .f32) : FVec Ideal S1x64x128x8x64 .f32 := shapeCast _ x shapeCasts_S1x8192x512_S1x64x128x8x64

def hU (z : FVec Ideal S8192x4608 .bf16) : FVec Ideal S1x64x128x8x64 .f32 :=
  cut (geluHost (extractStridedSlice S1x8192x512 ![0, 0, 1536] (wide z) slices_S1x8192x4608_S1x8192x512_0_0_1536))

def hV (z : FVec Ideal S8192x4608 .bf16) : FVec Ideal S1x64x128x8x64 .f32 :=
  cut (geluHost (extractStridedSlice S1x8192x512 ![0, 0, 2048] (wide z) slices_S1x8192x4608_S1x8192x512_0_0_2048))

def hMean (x : FVec Ideal S1x64x128x8x64 .f32) : FVec Ideal S1x64x128x8x1 .f32 :=
  Host.divf (broadcastInDim S1x64x128x8x1 ![0, 1, 2, 3] bcast_S1x64x128x8_S1x64x128x8x1_0_1_2_3
    (Host.reduceAdd x (constant S_ .f32 0x00000000#32) reducesTo_S1x64x128x8x64_S1x64x128x8_d4 h_S_))
    (broadcastInDim S1x64x128x8x1 ![] bcast_S_S1x64x128x8x1 (constant S_ .f32 0x42800000#32))

def over (x : FVec Ideal S1x64x128x8x1 .f32) : FVec Ideal S1x64x128x8x64 .f32 :=
  broadcastInDim S1x64x128x8x64 ![0, 1, 2, 3, 4] bcast_S1x64x128x8x1_S1x64x128x8x64_0_1_2_3_4 x

def hC (z : FVec Ideal S8192x4608 .bf16) : FVec Ideal S1x64x128x8x64 .f32 := subf (hV z) (over (hMean (hV z)))

def hX (z : FVec Ideal S8192x4608 .bf16) : FVec Ideal S1x64x128x8x64 .f32 :=
  mulf (hC z) (over (Host.rsqrt (addf (hMean (mulf (hC z) (hC z))) (broadcastInDim S1x64x128x8x1 ![] bcast_S_S1x64x128x8x1 (constant S_ .f32 0x358637BD#32)))))

def spread (g : FVec Ideal S8x64 .f32) : FVec Ideal S1x64x128x8x64 .f32 :=
  broadcastInDim S1x64x128x8x64 ![0, 1, 2, 3, 4] bcast_S1x1x1x8x64_S1x64x128x8x64_0_1_2_3_4 (broadcastInDim S1x1x1x8x64 ![3, 4] bcast_S8x64_S1x1x1x8x64_3_4 g)

def hN (z : FVec Ideal S8192x4608 .bf16) (g b : FVec Ideal S8x64 .f32) : FVec Ideal S1x64x128x8x64 .f32 := addf (mulf (hX z) (spread g)) (spread b)

def rowsQuot : IVec S1x128 32 :=
  select (andi (cmpi .ne (signi (broadcastInDim S1x128 ![1] bcast_S128_S1x128_1 (iotaInDim S128 32 0))) (broadcastInDim S1x128 ![] bcast_S_S1x128 (signi (id (constantI S_ 32 64#32)))))
      (cmpi .ne (Host.remsi (broadcastInDim S1x128 ![1] bcast_S128_S1x128_1 (iotaInDim S128 32 0)) (broadcastInDim S1x128 ![] bcast_S_S1x128 (id (constantI S_ 32 64#32)))) (broadcastInDim S1x128 ![] bcast_S_S1x128 (constantI S_ 32 0#32))))
    (subi (Host.divsi (broadcastInDim S1x128 ![1] bcast_S128_S1x128_1 (iotaInDim S128 32 0)) (broadcastInDim S1x128 ![] bcast_S_S1x128 (id (constantI S_ 32 64#32)))) (broadcastInDim S1x128 ![] bcast_S_S1x128 (constantI S_ 32 1#32)))
    (Host.divsi (broadcastInDim S1x128 ![1] bcast_S128_S1x128_1 (iotaInDim S128 32 0)) (broadcastInDim S1x128 ![] bcast_S_S1x128 (id (constantI S_ 32 64#32))))

def colsQuot : IVec S128x1 32 :=
  select (andi (cmpi .ne (signi (broadcastInDim S128x1 ![0] bcast_S128_S128x1_0 (iotaInDim S128 32 0))) (broadcastInDim S128x1 ![] bcast_S_S128x1 (signi (id (constantI S_ 32 64#32)))))
      (cmpi .ne (Host.remsi (broadcastInDim S128x1 ![0] bcast_S128_S128x1_0 (iotaInDim S128 32 0)) (broadcastInDim S128x1 ![] bcast_S_S128x1 (id (constantI S_ 32 64#32)))) (broadcastInDim S128x1 ![] bcast_S_S128x1 (constantI S_ 32 0#32))))
    (subi (Host.divsi (broadcastInDim S128x1 ![0] bcast_S128_S128x1_0 (iotaInDim S128 32 0)) (broadcastInDim S128x1 ![] bcast_S_S128x1 (id (constantI S_ 32 64#32)))) (broadcastInDim S128x1 ![] bcast_S_S128x1 (constantI S_ 32 1#32)))
    (Host.divsi (broadcastInDim S128x1 ![0] bcast_S128_S128x1_0 (iotaInDim S128 32 0)) (broadcastInDim S128x1 ![] bcast_S_S128x1 (id (constantI S_ 32 64#32))))

def hW (w : FVec Ideal S8x128x128 .f32) : FVec Ideal S8x128x128 .f32 :=
  select (broadcastInDim S8x128x128 ![0, 1, 2] bcast_S1x128x128_S8x128x128_0_1_2 (broadcastInDim S1x128x128 ![1, 2] bcast_S128x128_S1x128x128_1_2
    (cmpi .sle (broadcastInDim S128x128 ![0, 1] bcast_S1x128_S128x128_0_1 rowsQuot) (broadcastInDim S128x128 ![0, 1] bcast_S128x1_S128x128_0_1 colsQuot))))
    w (broadcastInDim S8x128x128 ![] bcast_S_S8x128x128 (id (constant S_ .f32 0x00000000#32)))

def hB (b : FVec Ideal S8x128 .f32) : FVec Ideal S1x64x128x8x64 .f32 :=
  broadcastInDim S1x64x128x8x64 ![0, 1, 2, 3, 4] bcast_S1x1x128x8x1_S1x64x128x8x64_0_1_2_3_4 (broadcastInDim S1x1x128x8x1 ![2, 3] bcast_S128x8_S1x1x128x8x1_2_3 (transpose S128x8 [1, 0] b transposes_S8x128_S128x8_1_0))

def hS (x : FVec Ideal S1x64x128x8x64 .f32) (w : FVec Ideal S8x128x128 .f32) : FVec Ideal S1x64x128x8x64 .f32 :=
  transpose S1x64x128x8x64 [1, 2, 4, 0, 3] (Host.dotGeneral dot_S1x64x128x8x64_S8x128x128_S8x1x64x64x128_2_2_014_1_3_0 none x w) transposes_S8x1x64x64x128_S1x64x128x8x64_1_2_4_0_3

def hY (z : FVec Ideal S8192x4608 .bf16) (g b : FVec Ideal S8x64 .f32) (w : FVec Ideal S8x128x128 .f32) (sb : FVec Ideal S8x128 .f32) : FVec Ideal S8192x512 .bf16 :=
  truncf .bf16 (shapeCast _ (shapeCast _ (mulf (hU z) (addf (hS (hN z g b) (hW w)) (hB sb))) shapeCasts_S1x64x128x8x64_S1x8192x512) shapeCasts_S1x8192x512_S8192x512) bitsLt_bf16_f32

theorem res_eq (m : (ℓ : Loc nD τ sig) → Buf (Elt Ideal) ℓ) (c : Dev nD) : Cert.GatingRefIdeal.Value.res_main_v75 m c
    = hY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Cert.GatingRefIdeal.Value.res_main_v75
  rfl

/-- Row `a` of block `n`. -/
def blockRow (n : Fin 64) (a : Fin 128) : Fin 8192 := ⟨n.val * 128 + a.val, by omega⟩

theorem geluHost_at (x : FVec Ideal S1x8192x512 .f32) (u : S1x8192x512.Idx) : geluHost x u = gelu (x u) := rfl

theorem cut_at (x : FVec Ideal S1x8192x512 .f32) (n : Fin 64) (a : Fin 128) (h : Fin 8) (d : Fin 64) :
    cut x (ix5 0 n a h d) = x (ix3 0 (blockRow n a) (lane h d)) := by
  pointwise [cut]
  rfl

/-- A table of rows and lanes, with the rows cut into blocks and the lanes into groups. -/
def five (f : Fin 8192 → Fin 512 → ℝ) (u : S1x64x128x8x64.Idx) : ℝ := f (blockRow (u 1) (u 2)) (lane (u 3) (u 4))

theorem group_lane (h : Fin 8) (d : Fin 64) : group (lane h d) = h := Fin.ext (by show (h.val * 64 + d.val) / 64 = h.val; omega)

variable (z : S8192x4608.Idx → ℝ)

theorem hU_at (n : Fin 64) (a : Fin 128) (h : Fin 8) (d : Fin 64) :
    hU (up z) (ix5 0 n a h d) = gelu (z (ix2 (blockRow n a) ⟨1536 + (lane h d).val, by omega⟩)) := by
  unfold hU
  rw [cut_at, geluHost_at]
  refine congrArg gelu ?_
  pointwise [wide]

theorem hV_eq : hV (up z) = up (five (half z)) := by
  funext u
  idx_vars u
  obtain rfl : u0 = 0 := Subsingleton.elim _ _
  unfold hV
  rw [cut_at, geluHost_at]
  refine Eq.trans (congrArg gelu ?_) (gelu_coe (z (ix2 (blockRow u1 u2) ⟨2048 + (lane u3 u4).val, by omega⟩)))
  pointwise [wide]

theorem hMean_at (f : Fin 8192 → Fin 512 → ℝ) (n : Fin 64) (a : Fin 128) (h : Fin 8) :
    hMean (up (five f)) (ix5 0 n a h 0) = (mean (f (blockRow n a)) h : EReal) := by
  pointwise [hMean]
  rw [lanes_lit, coe_sum, div_coe _ (by norm_num)]
  rfl

theorem over_at (x : FVec Ideal S1x64x128x8x1 .f32) (n : Fin 64) (a : Fin 128) (h : Fin 8) (d : Fin 64) : over x (ix5 0 n a h d) = x (ix5 0 n a h 0) := by
  pointwise [over]

theorem hC_eq : hC (up z) = up (five fun i => centred (half z i)) := by
  unfold hC
  rw [hV_eq]
  funext u
  idx_vars u
  obtain rfl : u0 = 0 := Subsingleton.elim _ _
  show (half z (blockRow u1 u2) (lane u3 u4) : EReal) - over (hMean (up (five (half z)))) (ix5 0 u1 u2 u3 u4) = (centred (half z (blockRow u1 u2)) (lane u3 u4) : EReal)
  rw [over_at, hMean_at, ← EReal.coe_sub, centred, group_lane]

theorem hX_at (n : Fin 64) (a : Fin 128) (h : Fin 8) (d : Fin 64) : hX (up z) (ix5 0 n a h d) = unit (half z (blockRow n a)) (lane h d) := by
  unfold hX
  rw [hC_eq]
  have sq : @Eq (FVec Ideal S1x64x128x8x64 .f32) (mulf (up (five fun i => centred (half z i)) : FVec Ideal S1x64x128x8x64 .f32) (up (five fun i => centred (half z i))))
      (up (five fun i j => centred (half z i) j * centred (half z i) j)) := by
    funext u
    exact (EReal.coe_mul _ _).symm
  rw [sq]
  show (centred (half z (blockRow n a)) (lane h d) : EReal) * over (Host.rsqrt _) (ix5 0 n a h d) = _
  rw [over_at]
  unfold unit
  rw [group_lane, ← hMean_at (fun i j => centred (half z i) j * centred (half z i) j)]
  generalize hMean (up (five fun i j => centred (half z i) j * centred (half z i) j)) = x
  refine congrArg (fun q => (centred (half z (blockRow n a)) (lane h d) : EReal) * q) ?_
  pointwise

theorem hN_at (g b : FVec Ideal S8x64 .f32) (n : Fin 64) (a : Fin 128) (h : Fin 8) (d : Fin 64) :
    hN (up z) g b (ix5 0 n a h d) = scaled z g b (blockRow n a) h d := by
  unfold scaled
  rw [← hX_at]
  unfold hN
  generalize hX (up z) = x
  pointwise [spread]

theorem hW_at (w : FVec Ideal S8x128x128 .f32) (h : Fin 8) (t s : Fin 128) : hW w (ix3 h t s) = weight w h t s := by
  unfold weight
  pointwise [hW, rowsQuot, colsQuot]
  exact if_congr (sees_word s t) rfl (zero32.trans EReal.coe_zero)

theorem hS_at (x : FVec Ideal S1x64x128x8x64 .f32) (w : FVec Ideal S8x128x128 .f32) (n : Fin 64) (a : Fin 128) (h : Fin 8) (d : Fin 64) :
    hS x w (ix5 0 n a h d) = ∑ s : Fin 128, w (ix3 h a s) * x (ix5 0 n s h d) := by
  pointwise [hS]
  exact Finset.sum_congr rfl fun s _ => mul_comm _ _

theorem hB_at (b : FVec Ideal S8x128 .f32) (n : Fin 64) (a : Fin 128) (h : Fin 8) (d : Fin 64) : hB b (ix5 0 n a h d) = b (ix2 h a) := by
  pointwise [hB]

theorem hY_eq (g b : FVec Ideal S8x64 .f32) (w : FVec Ideal S8x128x128 .f32) (sb : FVec Ideal S8x128 .f32) : hY (up z) g b w sb = YY z g b w sb := by
  funext u
  idx_vars u
  unfold hY
  generalize hu : hU (up z) = x
  generalize hs : hS (hN (up z) g b) (hW w) = y
  generalize hb : hB sb = q
  pointwise
  subst hu hs hb
  rw [hU_at, hS_at, hB_at]
  have hr : blockRow ⟨u0.val / 128, by omega⟩ ⟨u0.val % 128, Nat.mod_lt _ (by decide)⟩ = u0 := Fin.ext (by show u0.val / 128 * 128 + u0.val % 128 = u0.val; omega)
  simp only [hW_at, hN_at]
  rw [hr]
  rfl
-- ==== Proof.GatingClaim.lean ====
/- The claims about the gating over positions. -/
module
public import proofs.«01_k».proof.Proof.GatingValue
public import proofs.«01_k».proof.Proof.GatingRefEval
public import proofs.«01_k».proof.Proof.Gen.Pre_gating_finite
public import Idealize.ShloMosaic.Lib.Claim
@[expose] public section
set_option maxRecDepth 16384
noncomputable section

namespace Cert.GatingClaim

open Idealize.ShloMosaic Idealize.ShloMosaic.TcCoe Idealize.SL.Sem Cert.Reals

/-- Every entry of the projections is a real number where `gating_finite` holds. -/
theorem finite {z : FVec Ideal Cert.GatingIdeal.S8192x4608 .bf16} {g b : FVec Ideal Cert.GatingIdeal.S8x64 .f32}
    {w : FVec Ideal Cert.GatingIdeal.S8x128x128 .f32} {sb : FVec Ideal Cert.GatingIdeal.S8x128 .f32}
    (h : Cert.Pre_gating_finite.fn (F := Ideal) z g b w sb = fun _ => 1#1) : ∃ r : Cert.GatingIdeal.S8192x4608.Idx → ℝ, z = up r := by
  unfold Cert.Pre_gating_finite.fn at h
  have h' := congrFun h ix0
  have inf : ∀ (s : Shape) (b) , ∀ i, (broadcastInDim s ![] b (constant (F := Ideal) Cert.Pre_gating_finite.S_ .f32 0x7F800000#32)) i = (⊤ : EReal) :=
    fun s b i => inf_lit
  exact real_of_all _ _ (inf _ _) _ _ _ _ h'

set_option backward.isDefEq.respectTransparency.types false in
set_option maxHeartbeats 4000000 in
/-- The kernel's run over the reals. -/
theorem kernel_run (m : (ℓ : Loc Cert.GatingIdeal.nD Cert.GatingIdeal.τ Cert.GatingIdeal.sig) → Buf (Elt Ideal) ℓ) (g : Dev Cert.GatingIdeal.nD → PrngReg)
    (z : Dev Cert.GatingIdeal.nD → Cert.GatingIdeal.S8192x4608.Idx → ℝ)
    (hz : ∀ c : Dev Cert.GatingIdeal.nD, m ((c.tc : Thread Cert.GatingIdeal.nD Cert.GatingIdeal.τ).loc Cert.GatingIdeal.main_arg0) = up (z c)) :
    θ_run (Cert.GatingIdeal.defs (F := Ideal)) (onTc (τ := Cert.GatingIdeal.τ) (Cert.GatingIdeal.main (F := Ideal))) ⟨m, fun _ => 0, g⟩ (fun r => ∀ c : Dev Cert.GatingIdeal.nD,
      r.2.mem ((c.tc : Thread Cert.GatingIdeal.nD Cert.GatingIdeal.τ).loc Cert.GatingIdeal.main_v30)
        = GatingSpec.YY (z c) (m ((c.tc : Thread Cert.GatingIdeal.nD Cert.GatingIdeal.τ).loc Cert.GatingIdeal.main_arg1)) (m ((c.tc : Thread Cert.GatingIdeal.nD Cert.GatingIdeal.τ).loc Cert.GatingIdeal.main_arg2))
          (m ((c.tc : Thread Cert.GatingIdeal.nD Cert.GatingIdeal.τ).loc Cert.GatingIdeal.main_arg3)) (m ((c.tc : Thread Cert.GatingIdeal.nD Cert.GatingIdeal.τ).loc Cert.GatingIdeal.main_arg4))
      ∧ r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
      ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
      ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
      ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
      ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4)) := by
  rw [GatingRun.same_table]
  exact (θ_run _ _ _).mono (fun r h c => ⟨(h.1 c).1.trans (GatingRun.final (hz c)), (h.1 c).2⟩) (GatingRun.ended (F := Ideal) m g)

theorem algebraic : Cert.algebraic_GatingIdeal_GatingRefIdeal_pre_gating_finite := fun m g m' g' hpre hag => by
  choose z hz using fun c => finite (hpre c)
  refine ⟨fun c => GatingSpec.YY (z c) (m ((c.tc : Thread Cert.GatingIdeal.nD Cert.GatingIdeal.τ).loc Cert.GatingIdeal.main_arg1)) (m ((c.tc : Thread Cert.GatingIdeal.nD Cert.GatingIdeal.τ).loc Cert.GatingIdeal.main_arg2))
          (m ((c.tc : Thread Cert.GatingIdeal.nD Cert.GatingIdeal.τ).loc Cert.GatingIdeal.main_arg3)) (m ((c.tc : Thread Cert.GatingIdeal.nD Cert.GatingIdeal.τ).loc Cert.GatingIdeal.main_arg4)), kernel_run m g z hz, ?_⟩
  refine (θ_run _ _ _).mono (fun r h c => ?_) (Cert.GatingRefIdeal.Value.run m' g')
  obtain ⟨h0, h1, h2, h3, h4⟩ := hag c
  refine ⟨(h c).1.trans ((GatingSpec.res_eq m' c).trans ?_), (h c).2⟩
  rw [h0.trans (hz c), h1, h2, h3, h4]
  exact GatingSpec.hY_eq (z c) _ _ _ _
-- ==== Proof.FfnWeightValue.lean ====
/- What `dw_ffn_in` leaves in its result: every entry is the sum over all the rows of the products of its two columns. -/
module
public import proofs.«01_k».proof.Proof.Gen.FfnWeightIdeal.Value
public import Idealize.ShloMosaic.Lib.Pointwise
public import Idealize.ShloMosaic.Lib.Pipeline.ValueKit
public import Idealize.ShloMosaic.Lib.Pipeline.ReadBack
@[expose] public section
set_option maxRecDepth 16384
noncomputable section

namespace Cert.FfnWeightIdeal.Hand

open Idealize.ShloMosaic Idealize.ShloMosaic.TcCoe Idealize.SL.Sem
open Cert.FfnWeightIdeal Cert.FfnWeightIdeal.Gen

/-- A tile's part of an entry. -/
def part (x : FVec Ideal S1024x1024 .bf16) (w : FVec Ideal S1024x2816 .bf16) (y : S1024x2816.Idx) : EReal :=
  ∑ r : Fin 1024, (x (ix2 r (y 0)) : EReal) * (w (ix2 r (y 1)) : EReal)

theorem step (acc : FVec Ideal S1024x2816 .f32) (x : FVec Ideal S1024x1024 .bf16) (w : FVec Ideal S1024x2816 .bf16) (y : S1024x2816.Idx) :
    @Eq EReal (k0_pay2 (F := Ideal) acc x w y) (acc y + part x w y) := by
  idx_vars y
  unfold k0_pay2 part
  pointwise

theorem zeros (y : S1024x2816.Idx) : @Eq EReal ((k0_pay1 : FVec Ideal S1024x2816 .f32) y) 0 := by
  unfold k0_pay1
  pointwise

section Loads

variable (v : View sig .tc .vmem S1024x2816 .f32) (z : FVec Ideal S1024x2816 .f32)

/-- A load of a tile's second half after the whole was stored. -/
theorem load_hi : v.readCov (Val := Elt Ideal) [⟨Rect.unit ![0, 0] ![1024, 2816] inb_S1024x2816_S1024x2816_0_0, z⟩]
      (Rect.unit ![0, 1408] ![1024, 1408] inb_S1024x2816_S1024x1408_0_1408).toLoadRect
    = fun u : S1024x1408.Idx => z (ix2 (u 0) ⟨1408 + (u 1).val, by have h : (u 1).val < 1408 := (u 1).isLt; omega⟩) := by
  rw [View.readCov_eq_canon']
  funext u
  have h1 : (u 1).val < 1408 := (u 1).isLt
  suffices e : (Rect.unit (s := S1024x2816) ![0, 0] ![1024, 2816] inb_S1024x2816_S1024x2816_0_0).emb (ix2 (u 0) ⟨1408 + (u 1).val, by omega⟩)
      = (Rect.unit (s := S1024x2816) ![0, 1408] ![1024, 1408] inb_S1024x2816_S1024x1408_0_1408).idx u by
    rw [← e, View.canon_cons_emb]
  funext a; apply Fin.ext
  match a with
  | ⟨0, _⟩ => show 0 + 1 * (u 0).val = 0 + 1 * (u 0).val; omega
  | ⟨1, _⟩ => show 0 + 1 * (1408 + (u 1).val) = 1408 + 1 * (u 1).val; omega

/-- A load of its first half. -/
theorem load_lo : v.readCov (Val := Elt Ideal) [⟨Rect.unit ![0, 0] ![1024, 2816] inb_S1024x2816_S1024x2816_0_0, z⟩]
      (Rect.unit ![0, 0] ![1024, 1408] inb_S1024x2816_S1024x1408_0_0).toLoadRect
    = fun u : S1024x1408.Idx => z (ix2 (u 0) ⟨(u 1).val, by have h : (u 1).val < 1408 := (u 1).isLt; omega⟩) := by
  rw [View.readCov_eq_canon']
  funext u
  have h1 : (u 1).val < 1408 := (u 1).isLt
  suffices e : (Rect.unit (s := S1024x2816) ![0, 0] ![1024, 2816] inb_S1024x2816_S1024x2816_0_0).emb (ix2 (u 0) ⟨(u 1).val, by omega⟩)
      = (Rect.unit (s := S1024x2816) ![0, 0] ![1024, 1408] inb_S1024x2816_S1024x1408_0_0).idx u by
    rw [← e, View.canon_cons_emb]
  funext a; apply Fin.ext
  match a with
  | ⟨0, _⟩ => show 0 + 1 * (u 0).val = 0 + 1 * (u 0).val; omega
  | ⟨1, _⟩ => show 0 + 1 * ((u 1).val) = 0 + 1 * (u 1).val; omega

end Loads

section Body

variable (c : Dev nD) (i : grid0.Coords) (arg2 : Memref sig .tc .vmem S1024x1024 .bf16) (harg2 : arg2.IsWhole) (arg3 : Memref sig .tc .vmem S1024x2816 .bf16)
  (harg3 : arg3.IsWhole) (arg4 : Memref sig .tc .vmem S2x1024x1408 .bf16) (harg4 : arg4.IsWhole) (arg5 : Memref sig .tc .vmem S1024x2816 .f32) (harg5 : arg5.IsWhole)
  (x : Vec Ideal S1024x1024 .bf16) (w : Vec Ideal S1024x2816 .bf16) (acc : Vec Ideal S1024x2816 .f32)

theorem kept_A (hc0 : cond0_0 i) (hc1 : ¬cond0_1 i) :
    sout0_A_0 (F := Ideal) c i arg2 harg2 arg3 harg3 arg4 harg4 arg5 harg5 hc0 hc1 x w = k0_pay2 (F := Ideal) (k0_pay1 (F := Ideal)) x w := by
  frame_out

theorem kept_B (hc0 : ¬cond0_0 i) (hc1 : ¬cond0_1 i) :
    sout0_B_0 (F := Ideal) c i arg2 harg2 arg3 harg3 arg4 harg4 arg5 harg5 hc0 hc1 x w acc = k0_pay2 (F := Ideal) acc x w := by
  frame_out

theorem kept_C (hc0 : ¬cond0_0 i) (hc1 : cond0_1 i) :
    sout0_C_0 (F := Ideal) c i arg2 harg2 arg3 harg3 arg4 harg4 arg5 harg5 hc0 hc1 x w acc = k0_pay2 (F := Ideal) acc x w := by
  frame_out

/-- Entry `y` of the two halves of a tile. -/
def half (z : FVec Ideal S1024x2816 .f32) (y : S2x1024x1408.Idx) : EReal :=
  z (ix2 (y 1) ⟨(y 0).val * 1408 + (y 2).val, by have h0 : (y 0).val < 2 := (y 0).isLt; have h2 : (y 2).val < 1408 := (y 2).isLt; omega⟩)

theorem out_C (hc0 : ¬cond0_0 i) (hc1 : cond0_1 i) :
    out0_C_2 (F := Ideal) c i arg2 harg2 arg3 harg3 arg4 harg4 arg5 harg5 hc0 hc1 x w acc = half (k0_pay2 (F := Ideal) acc x w) := by
  funext y
  frame_out
  generalize k0_pay2 (F := Ideal) acc x w = z
  rw [load_hi, load_lo]
  refine View.canon_append_of_piecesOf (Val := Elt Ideal) (e := .bf16) (half z) [] [_, _] ⟨fun v => ?_, fun v => ?_, trivial⟩ y ?_
  · unfold k0_pay4
    idx_vars v
    pointwise [half]
    refine congrArg z (funext fun a => Fin.ext ?_)
    match a with
    | ⟨0, _⟩ => show v1.val = 0 + 1 * v1.val; omega
    | ⟨1, _⟩ => show 1408 + v2.val = (1 + 1 * v0.val) * 1408 + (0 + 1 * v2.val); omega
  · unfold k0_pay3
    idx_vars v
    pointwise [half]
    refine congrArg z (funext fun a => Fin.ext ?_)
    match a with
    | ⟨0, _⟩ => show v1.val = 0 + 1 * v1.val; omega
    | ⟨1, _⟩ => show v2.val = (0 + 1 * v0.val) * 1408 + (0 + 1 * v2.val); omega
  · have h0 : (y 0).val < 2 := (y 0).isLt
    have h1 : (y 1).val < 1024 := (y 1).isLt
    have h2 : (y 2).val < 1408 := (y 2).isLt
    by_cases h : (y 0).val = 1
    · refine ⟨_, List.mem_cons_self, ?_⟩
      show y ∈ (Rect.unit (s := S2x1024x1408) ![1, 0, 0] ![1, 1024, 1408] inb_S2x1024x1408_S1x1024x1408_1_0_0).set
      refine Rect.mem_set_unit.2 fun a => ?_
      match a with
      | ⟨0, _⟩ => show 1 ≤ (y 0).val ∧ (y 0).val < 1 + 1; omega
      | ⟨1, _⟩ => show 0 ≤ (y 1).val ∧ (y 1).val < 0 + 1024; omega
      | ⟨2, _⟩ => show 0 ≤ (y 2).val ∧ (y 2).val < 0 + 1408; omega
    · refine ⟨_, List.mem_cons_of_mem _ List.mem_cons_self, ?_⟩
      show y ∈ (Rect.unit (s := S2x1024x1408) ![0, 0, 0] ![1, 1024, 1408] inb_S2x1024x1408_S1x1024x1408_0_0_0).set
      refine Rect.mem_set_unit.2 fun a => ?_
      match a with
      | ⟨0, _⟩ => show 0 ≤ (y 0).val ∧ (y 0).val < 0 + 1; omega
      | ⟨1, _⟩ => show 0 ≤ (y 1).val ∧ (y 1).val < 0 + 1024; omega
      | ⟨2, _⟩ => show 0 ≤ (y 2).val ∧ (y 2).val < 0 + 1408; omega

end Body

theorem idx : ∀ t : Fin cfg0.N, win0_0.index t = ![t.val % 8, 0] ∧ win0_1.index t = ![t.val % 8, t.val / 8] ∧ win0_2.index t = ![t.val / 8, 0, 0] :=
  (by decide +kernel : ∀ t : Fin grid0.N, _)

theorem size : cfg0.N = 16 := N_0

/-- Row `r` of the rows that point `n` reads. -/
def row (n : ℕ) (r : Fin 1024) : Fin 8192 := ⟨n % 8 * 1024 + r.val, by have := Nat.mod_lt n (by decide : 0 < 8); omega⟩

/-- Column `j` of the columns that point `n` reads. -/
def col (n : ℕ) (j : Fin 2816) : Fin 5632 := ⟨n / 8 % 2 * 2816 + j.val, by have := Nat.mod_lt (n / 8) (by decide : 0 < 2); omega⟩

variable (m : (ℓ : Loc nD τ sig) → Buf (Elt Ideal) ℓ) (c : Dev nD)

theorem block_x (t : Fin cfg0.N) (y : S1024x1024.Idx) : iblk m c 0 t y = m ((c : Thread nD τ).loc main_arg0) (ix2 (row t.val (y 0)) (y 1)) := by
  have : (row t.val (y 0)).val = t.val % 8 * 1024 + (y 0).val := rfl
  blk_ext [iblk, V, idx t]

theorem block_w (t : Fin cfg0.N) (y : S1024x2816.Idx) : iblk m c 1 t y = m ((c : Thread nD τ).loc main_arg1) (ix2 (row t.val (y 0)) (col t.val (y 1))) := by
  have e : (row t.val (y 0)).val = t.val % 8 * 1024 + (y 0).val := rfl
  have e' : (col t.val (y 1)).val = t.val / 8 * 2816 + (y 1).val := by
    have := lt_of_lt_of_eq t.isLt size
    show t.val / 8 % 2 * 2816 + (y 1).val = _
    omega
  blk_ext [iblk, V, idx t]

/-- The part that point `n` adds to entry `y` of its tile. -/
def add (x : S8192x1024.Idx → EReal) (w : S8192x5632.Idx → EReal) (n : ℕ) (y : S1024x2816.Idx) : EReal :=
  ∑ r : Fin 1024, x (ix2 (row n r) (y 0)) * w (ix2 (row n r) (col n (y 1)))

/-- The result: every entry is a sum over all the rows. -/
def total (x : S8192x1024.Idx → EReal) (w : S8192x5632.Idx → EReal) (u : S4x1024x1408.Idx) : EReal :=
  ∑ r : Fin 8192, x (ix2 r (u 1)) * w (ix2 r ⟨(u 0).val * 1408 + (u 2).val, by have h0 : (u 0).val < 4 := (u 0).isLt; have h2 : (u 2).val < 1408 := (u 2).isLt; omega⟩)

theorem part_eq (t : Fin cfg0.N) (y : S1024x2816.Idx) :
    part (iblk m c 0 t) (iblk m c 1 t) y = add (m ((c : Thread nD τ).loc main_arg0)) (m ((c : Thread nD τ).loc main_arg1)) t.val y :=
  Finset.sum_congr rfl fun r _ => congrArg₂ (fun a b : EReal => a * b) (block_x m c t _) (block_w m c t _)

theorem scratch_first (n : ℕ) (hn : n < cfg0.N) (h : n % 8 = 0) (acc : FVec Ideal S1024x2816 .f32) (y : S1024x2816.Idx) :
    @Eq EReal (Value.scAt0_0 m c n hn acc y) (0 + add (m ((c : Thread nD τ).loc main_arg0)) (m ((c : Thread nD τ).loc main_arg1)) n y) := by
  unfold Value.scAt0_0
  rw [dif_pos h, dif_neg (by omega), kept_A, step, zeros, part_eq]

theorem scratch_next (n : ℕ) (hn : n < cfg0.N) (h : ¬n % 8 = 0) (acc : FVec Ideal S1024x2816 .f32) (y : S1024x2816.Idx) :
    @Eq EReal (Value.scAt0_0 m c n hn acc y) (acc y + add (m ((c : Thread nD τ).loc main_arg0)) (m ((c : Thread nD τ).loc main_arg1)) n y) := by
  unfold Value.scAt0_0
  rw [dif_neg h]
  by_cases h1 : n % 8 = 7
  · rw [dif_pos h1, kept_C, step, part_eq]
  · rw [dif_neg h1, kept_B, step, part_eq]

theorem scratch (t : Fin cfg0.N) (h : t.val % 8 = 7) (y : S1024x2816.Idx) : @Eq EReal ((outsAt0 m c t.val t.isLt).2 y)
    (∑ s ∈ Finset.range 8, add (m ((c : Thread nD τ).loc main_arg0)) (m ((c : Thread nD τ).loc main_arg1)) (8 * (t.val / 8) + s) y) := by
  rw [Value.soutsAt0_0_eq]
  refine (Pipeline.accAt_add_apply (β := EReal) _ _ (fun _ => 0) (add (m ((c : Thread nD τ).loc main_arg0)) (m ((c : Thread nD τ).loc main_arg1))) (8 * (t.val / 8)) 7
    (fun hb i => scratch_first m c _ hb (by omega) _ i) (fun n hn acc i h1 h2 => scratch_next m c n hn (by omega) acc i) (t.val % 8) (by omega) _ y).trans ?_
  rw [zero_add, h]

/-- Eight tiles of 1024 rows are all the rows. -/
theorem sum_rows (f : Fin 8192 → EReal) (q : ℕ) : ∑ s ∈ Finset.range 8, ∑ r : Fin 1024, f (row (8 * q + s) r) = ∑ r, f r := by
  rw [Finset.sum_range fun s => ∑ r : Fin 1024, f (row (8 * q + s) r)]
  rw [← Fintype.sum_prod_type' fun (s : Fin 8) r => f (row (8 * q + s.val) r)]
  refine Fintype.sum_equiv (finProdFinEquiv (m := 8) (n := 1024)) _ _ fun p => congrArg f (Fin.ext ?_)
  have := p.1.isLt
  show (8 * q + p.1.val) % 8 * 1024 + p.2.val = p.2.val + 1024 * p.1.val
  omega

theorem written (t : Fin cfg0.N) (h : t.val % 8 = 7) (y : S2x1024x1408.Idx) :
    @Eq EReal ((outsAt0 m c t.val t.isLt).1 y) (half (outsAt0 m c t.val t.isLt).2 y) := by
  rw [outsAt0_C m c t (by omega) h]
  dsimp only
  rw [out_C, kept_C]

theorem final : @Eq (FVec Ideal S4x1024x1408 .bf16) (Value.G2 m c) (total (m ((c : Thread nD τ).loc main_arg0)) (m ((c : Thread nD τ).loc main_arg1))) := by
  funext u
  have h0 : (u 0).val < 4 := (u 0).isLt
  have h1 : (u 1).val < 1024 := (u 1).isLt
  have h2 : (u 2).val < 1408 := (u 2).isLt
  have hp : Value.pt2Of u = 8 * ((u 0).val / 2) + 7 := by
    show 8 * (1 * ((u 0).val / 2 - 0) + 1 * ((u 1).val / 1024 - 0) + 1 * ((u 2).val / 1408 - 0)) + 7 = _
    omega
  have hN : Value.pt2Of u < cfg0.N := by rw [hp, size]; omega
  have hm : Value.pt2Of u % 8 = 7 := by rw [hp]; omega
  unfold Value.G2
  rw [dif_pos hN, ← Value.outsAt0_sweep m c _ hN]
  refine (written m c ⟨_, hN⟩ hm _).trans ((scratch m c ⟨_, hN⟩ hm _).trans ?_)
  refine Eq.trans ?_ (sum_rows (fun r => _) (Value.pt2Of u / 8))
  refine Finset.sum_congr rfl fun s hs => Finset.sum_congr rfl fun r _ => congrArg₂ (fun a b : EReal => a * b) (congrArg _ ?_) (congrArg _ ?_)
  · refine congrArg (ix2 _) (Fin.ext ?_)
    show (u 1).val % 1024 = (u 1).val
    omega
  · refine congrArg (ix2 _) (Fin.ext ?_)
    have := Finset.mem_range.1 hs
    show (8 * (Value.pt2Of u / 8) + s) / 8 % 2 * 2816 + ((u 0).val % 2 * 1408 + (u 2).val % 1408) = (u 0).val * 1408 + (u 2).val
    rw [hp]
    omega
-- ==== Proof.FfnWeightClaim.lean ====
/- The claim about the weights' gradient of the feed-forward block's first product. -/
module
public import proofs.«01_k».proof.Defs
public import proofs.«01_k».proof.Proof.FfnWeightValue
public import proofs.«01_k».proof.Proof.Gen.FfnWeightRefIdeal.Run
@[expose] public section
set_option maxRecDepth 16384
noncomputable section

namespace Cert.FfnWeightClaim

open Idealize.ShloMosaic Idealize.ShloMosaic.TcCoe Idealize.SL.Sem

section Reference

open Cert.FfnWeightRefIdeal Cert.FfnWeightRefIdeal.Gen

/-- The reference's derivative, entry by entry. -/
theorem reference (x : FVec Ideal S8192x1024 .bf16) (w : FVec Ideal S8192x5632 .bf16) :
    @Eq (FVec Ideal S4x1024x1408 .bf16) (truncf .bf16 (transpose S4x1024x1408 [1, 0, 2] (shapeCast _ (transpose S1024x5632 [1, 0] (Host.dotGeneral dot_S8192x5632_S8192x1024_S5632x1024_0_0_1_1_n_n none (extf .f32 w bitsLt_bf16_f32) (extf .f32 x bitsLt_bf16_f32)) transposes_S5632x1024_S1024x5632_1_0) shapeCasts_S1024x5632_S1024x4x1408) transposes_S1024x4x1408_S4x1024x1408_1_0_2) bitsLt_bf16_f32)
      (Cert.FfnWeightIdeal.Hand.total x w) := by
  funext u
  idx_vars u
  pointwise [Cert.FfnWeightIdeal.Hand.total]
  exact Finset.sum_congr rfl fun r _ => mul_comm _ _

end Reference

theorem algebraic : Cert.algebraic_FfnWeightIdeal_FfnWeightRefIdeal := fun m g m' g' _ hag => by
  refine ⟨_, Cert.FfnWeightIdeal.Value.run (F := Ideal) m g, ?_⟩
  refine (θ_run _ _ _).mono (fun r h c => ?_) (Cert.FfnWeightRefIdeal.Value.run m' g')
  obtain ⟨h0, h1⟩ := hag c
  refine ⟨(h c).1.trans ?_, (h c).2⟩
  rw [h0, h1]
  exact (reference _ _).trans (Cert.FfnWeightIdeal.Hand.final m c).symm
-- ==== Proof.MixWeightValue.lean ====
/- What `dw_in` leaves in its result: every entry is the sum over all the rows of the products of its two columns. -/
module
public import proofs.«01_k».proof.Proof.Gen.MixWeightIdeal.Value
public import Idealize.ShloMosaic.Lib.Pointwise
public import Idealize.ShloMosaic.Lib.Pipeline.ValueKit
public import Idealize.ShloMosaic.Lib.Pipeline.ReadBack
@[expose] public section
set_option maxRecDepth 16384
noncomputable section

namespace Cert.MixWeightIdeal.Hand

open Idealize.ShloMosaic Idealize.ShloMosaic.TcCoe Idealize.SL.Sem
open Cert.MixWeightIdeal Cert.MixWeightIdeal.Gen

/-- What a point of the first tile's columns leaves: the first matrix's columns, then the first of the second's. -/
def fill0 (acc : FVec Ideal S1024x2304 .f32) (x : FVec Ideal S1024x1024 .bf16) (a : FVec Ideal S1024x1536 .bf16) (b : FVec Ideal S1024x1024 .bf16) (y : S1024x2304.Idx) : EReal :=
  acc y + ∑ r : Fin 1024, x (ix2 r (y 0)) * (if h : (y 1).val < 1536 then a (ix2 r ⟨(y 1).val, h⟩)
    else b (ix2 r ⟨(y 1).val - 1536, by have h1 : (y 1).val < 2304 := (y 1).isLt; omega⟩))

/-- What a point of the second tile's columns leaves: the last of the second matrix's columns, then the third's. -/
def fill1 (acc : FVec Ideal S1024x2304 .f32) (x : FVec Ideal S1024x1024 .bf16) (b : FVec Ideal S1024x1024 .bf16) (d : FVec Ideal S1024x2048 .bf16) (y : S1024x2304.Idx) : EReal :=
  acc y + ∑ r : Fin 1024, x (ix2 r (y 0)) * (if h : (y 1).val < 256 then b (ix2 r ⟨768 + (y 1).val, by omega⟩)
    else d (ix2 r ⟨(y 1).val - 256, by have h1 : (y 1).val < 2304 := (y 1).isLt; omega⟩))

section Stores

variable (acc : FVec Ideal S1024x2304 .f32) (x : FVec Ideal S1024x1024 .bf16) (a : FVec Ideal S1024x1536 .bf16) (b : FVec Ideal S1024x1024 .bf16) (d : FVec Ideal S1024x2048 .bf16)

theorem stores0 (L : List (View.Piece (Elt Ideal) S1024x2304 .f32)) :
    View.canon (Val := Elt Ideal) (⟨Rect.unit ![0, 1536] ![1024, 768] inb_S1024x2304_S1024x768_0_1536,
          k0_pay3 (F := Ideal) x (View.ld (Val := Elt Ideal) (e' := .f32) acc (Rect.unit ![0, 1536] ![1024, 768] inb_S1024x2304_S1024x768_0_1536)) (View.ld (Val := Elt Ideal) (e' := .bf16) b (Rect.unit ![0, 0] ![1024, 768] inb_S1024x1024_S1024x768_0_0))⟩
        :: ⟨Rect.unit ![0, 0] ![1024, 1536] inb_S1024x2304_S1024x1536_0_0,
          k0_pay2 (F := Ideal) x (View.ld (Val := Elt Ideal) (e' := .f32) acc (Rect.unit ![0, 0] ![1024, 1536] inb_S1024x2304_S1024x1536_0_0)) a⟩ :: L)
      = fill0 acc x a b := by
  funext y
  refine View.canon_append_of_piecesOf (Val := Elt Ideal) (e := .f32) (fill0 acc x a b) L [_, _] ⟨fun v => ?_, fun v => ?_, trivial⟩ y ?_
  · idx_vars v
    have e : (Rect.unit (s := S1024x2304) ![0, 1536] ![1024, 768] inb_S1024x2304_S1024x768_0_1536).emb (ix2 v0 v1) = ix2 v0 ⟨1536 + v1.val, by omega⟩ := by
      funext k; apply Fin.ext
      match k with
      | ⟨0, _⟩ => show 0 + 1 * v0.val = v0.val; omega
      | ⟨1, _⟩ => show 1536 + 1 * v1.val = 1536 + v1.val; omega
    rw [e]
    unfold k0_pay3 fill0
    pointwise
  · idx_vars v
    have e : (Rect.unit (s := S1024x2304) ![0, 0] ![1024, 1536] inb_S1024x2304_S1024x1536_0_0).emb (ix2 v0 v1) = ix2 v0 ⟨v1.val, by omega⟩ := by
      funext k; apply Fin.ext
      match k with
      | ⟨0, _⟩ => show 0 + 1 * v0.val = v0.val; omega
      | ⟨1, _⟩ => show 0 + 1 * v1.val = v1.val; omega
    rw [e]
    unfold k0_pay2 fill0
    pointwise
  · have h0 : (y 0).val < 1024 := (y 0).isLt
    have h1 : (y 1).val < 2304 := (y 1).isLt
    by_cases h : (y 1).val < 1536
    · refine ⟨_, List.mem_cons_of_mem _ List.mem_cons_self, ?_⟩
      show y ∈ (Rect.unit (s := S1024x2304) ![0, 0] ![1024, 1536] inb_S1024x2304_S1024x1536_0_0).set
      refine Rect.mem_set_unit.2 fun k => ?_
      match k with
      | ⟨0, _⟩ => show 0 ≤ (y 0).val ∧ (y 0).val < 0 + 1024; omega
      | ⟨1, _⟩ => show 0 ≤ (y 1).val ∧ (y 1).val < 0 + 1536; omega
    · refine ⟨_, List.mem_cons_self, ?_⟩
      show y ∈ (Rect.unit (s := S1024x2304) ![0, 1536] ![1024, 768] inb_S1024x2304_S1024x768_0_1536).set
      refine Rect.mem_set_unit.2 fun k => ?_
      match k with
      | ⟨0, _⟩ => show 0 ≤ (y 0).val ∧ (y 0).val < 0 + 1024; omega
      | ⟨1, _⟩ => show 1536 ≤ (y 1).val ∧ (y 1).val < 1536 + 768; omega

theorem stores1 (L : List (View.Piece (Elt Ideal) S1024x2304 .f32)) :
    View.canon (Val := Elt Ideal) (⟨Rect.unit ![0, 256] ![1024, 2048] inb_S1024x2304_S1024x2048_0_256,
          k0_pay5 (F := Ideal) x (View.ld (Val := Elt Ideal) (e' := .f32) acc (Rect.unit ![0, 256] ![1024, 2048] inb_S1024x2304_S1024x2048_0_256)) d⟩
        :: ⟨Rect.unit ![0, 0] ![1024, 256] inb_S1024x2304_S1024x256_0_0,
          k0_pay4 (F := Ideal) x (View.ld (Val := Elt Ideal) (e' := .f32) acc (Rect.unit ![0, 0] ![1024, 256] inb_S1024x2304_S1024x256_0_0)) (View.ld (Val := Elt Ideal) (e' := .bf16) b (Rect.unit ![0, 768] ![1024, 256] inb_S1024x1024_S1024x256_0_768))⟩ :: L)
      = fill1 acc x b d := by
  funext y
  refine View.canon_append_of_piecesOf (Val := Elt Ideal) (e := .f32) (fill1 acc x b d) L [_, _] ⟨fun v => ?_, fun v => ?_, trivial⟩ y ?_
  · idx_vars v
    have e : (Rect.unit (s := S1024x2304) ![0, 256] ![1024, 2048] inb_S1024x2304_S1024x2048_0_256).emb (ix2 v0 v1) = ix2 v0 ⟨256 + v1.val, by omega⟩ := by
      funext k; apply Fin.ext
      match k with
      | ⟨0, _⟩ => show 0 + 1 * v0.val = v0.val; omega
      | ⟨1, _⟩ => show 256 + 1 * v1.val = 256 + v1.val; omega
    rw [e]
    unfold k0_pay5 fill1
    pointwise
  · idx_vars v
    have e : (Rect.unit (s := S1024x2304) ![0, 0] ![1024, 256] inb_S1024x2304_S1024x256_0_0).emb (ix2 v0 v1) = ix2 v0 ⟨v1.val, by omega⟩ := by
      funext k; apply Fin.ext
      match k with
      | ⟨0, _⟩ => show 0 + 1 * v0.val = v0.val; omega
      | ⟨1, _⟩ => show 0 + 1 * v1.val = v1.val; omega
    rw [e]
    unfold k0_pay4 fill1
    pointwise
  · have h0 : (y 0).val < 1024 := (y 0).isLt
    have h1 : (y 1).val < 2304 := (y 1).isLt
    by_cases h : (y 1).val < 256
    · refine ⟨_, List.mem_cons_of_mem _ List.mem_cons_self, ?_⟩
      show y ∈ (Rect.unit (s := S1024x2304) ![0, 0] ![1024, 256] inb_S1024x2304_S1024x256_0_0).set
      refine Rect.mem_set_unit.2 fun k => ?_
      match k with
      | ⟨0, _⟩ => show 0 ≤ (y 0).val ∧ (y 0).val < 0 + 1024; omega
      | ⟨1, _⟩ => show 0 ≤ (y 1).val ∧ (y 1).val < 0 + 256; omega
    · refine ⟨_, List.mem_cons_self, ?_⟩
      show y ∈ (Rect.unit (s := S1024x2304) ![0, 256] ![1024, 2048] inb_S1024x2304_S1024x2048_0_256).set
      refine Rect.mem_set_unit.2 fun k => ?_
      match k with
      | ⟨0, _⟩ => show 0 ≤ (y 0).val ∧ (y 0).val < 0 + 1024; omega
      | ⟨1, _⟩ => show 256 ≤ (y 1).val ∧ (y 1).val < 256 + 2048; omega

end Stores

section Loads

variable (v : View sig .tc .vmem S1024x2304 .f32) (z : FVec Ideal S1024x2304 .f32)

theorem load_a : v.readCov (Val := Elt Ideal) [⟨Rect.unit ![0, 0] ![1024, 2304] inb_S1024x2304_S1024x2304_0_0, z⟩]
      (Rect.unit ![0, 1536] ![1024, 768] inb_S1024x2304_S1024x768_0_1536).toLoadRect
    = View.ld (Val := Elt Ideal) (e' := .f32) z (Rect.unit ![0, 1536] ![1024, 768] inb_S1024x2304_S1024x768_0_1536) := by
  rw [View.readCov_eq_canon']
  funext u
  suffices e : (Rect.unit (s := S1024x2304) ![0, 0] ![1024, 2304] inb_S1024x2304_S1024x2304_0_0).emb ((Rect.unit (s := S1024x2304) ![0, 1536] ![1024, 768] inb_S1024x2304_S1024x768_0_1536).idx u)
      = (Rect.unit (s := S1024x2304) ![0, 1536] ![1024, 768] inb_S1024x2304_S1024x768_0_1536).idx u by
    refine (congrArg (View.canon _) e.symm).trans ?_
    rw [View.canon_cons_emb]
  funext k; apply Fin.ext
  match k with
  | ⟨0, _⟩ => show 0 + 1 * (0 + 1 * (u 0).val) = 0 + 1 * (u 0).val; omega
  | ⟨1, _⟩ => show 0 + 1 * (1536 + 1 * (u 1).val) = 1536 + 1 * (u 1).val; omega

theorem load_b : v.readCov (Val := Elt Ideal) [⟨Rect.unit ![0, 0] ![1024, 2304] inb_S1024x2304_S1024x2304_0_0, z⟩]
      (Rect.unit ![0, 0] ![1024, 1536] inb_S1024x2304_S1024x1536_0_0).toLoadRect
    = View.ld (Val := Elt Ideal) (e' := .f32) z (Rect.unit ![0, 0] ![1024, 1536] inb_S1024x2304_S1024x1536_0_0) := by
  rw [View.readCov_eq_canon']
  funext u
  suffices e : (Rect.unit (s := S1024x2304) ![0, 0] ![1024, 2304] inb_S1024x2304_S1024x2304_0_0).emb ((Rect.unit (s := S1024x2304) ![0, 0] ![1024, 1536] inb_S1024x2304_S1024x1536_0_0).idx u)
      = (Rect.unit (s := S1024x2304) ![0, 0] ![1024, 1536] inb_S1024x2304_S1024x1536_0_0).idx u by
    refine (congrArg (View.canon _) e.symm).trans ?_
    rw [View.canon_cons_emb]
  funext k; apply Fin.ext
  match k with
  | ⟨0, _⟩ => show 0 + 1 * (0 + 1 * (u 0).val) = 0 + 1 * (u 0).val; omega
  | ⟨1, _⟩ => show 0 + 1 * (0 + 1 * (u 1).val) = 0 + 1 * (u 1).val; omega

theorem load_c : v.readCov (Val := Elt Ideal) [⟨Rect.unit ![0, 0] ![1024, 2304] inb_S1024x2304_S1024x2304_0_0, z⟩]
      (Rect.unit ![0, 256] ![1024, 2048] inb_S1024x2304_S1024x2048_0_256).toLoadRect
    = View.ld (Val := Elt Ideal) (e' := .f32) z (Rect.unit ![0, 256] ![1024, 2048] inb_S1024x2304_S1024x2048_0_256) := by
  rw [View.readCov_eq_canon']
  funext u
  suffices e : (Rect.unit (s := S1024x2304) ![0, 0] ![1024, 2304] inb_S1024x2304_S1024x2304_0_0).emb ((Rect.unit (s := S1024x2304) ![0, 256] ![1024, 2048] inb_S1024x2304_S1024x2048_0_256).idx u)
      = (Rect.unit (s := S1024x2304) ![0, 256] ![1024, 2048] inb_S1024x2304_S1024x2048_0_256).idx u by
    refine (congrArg (View.canon _) e.symm).trans ?_
    rw [View.canon_cons_emb]
  funext k; apply Fin.ext
  match k with
  | ⟨0, _⟩ => show 0 + 1 * (0 + 1 * (u 0).val) = 0 + 1 * (u 0).val; omega
  | ⟨1, _⟩ => show 0 + 1 * (256 + 1 * (u 1).val) = 256 + 1 * (u 1).val; omega

theorem load_d : v.readCov (Val := Elt Ideal) [⟨Rect.unit ![0, 0] ![1024, 2304] inb_S1024x2304_S1024x2304_0_0, z⟩]
      (Rect.unit ![0, 0] ![1024, 256] inb_S1024x2304_S1024x256_0_0).toLoadRect
    = View.ld (Val := Elt Ideal) (e' := .f32) z (Rect.unit ![0, 0] ![1024, 256] inb_S1024x2304_S1024x256_0_0) := by
  rw [View.readCov_eq_canon']
  funext u
  suffices e : (Rect.unit (s := S1024x2304) ![0, 0] ![1024, 2304] inb_S1024x2304_S1024x2304_0_0).emb ((Rect.unit (s := S1024x2304) ![0, 0] ![1024, 256] inb_S1024x2304_S1024x256_0_0).idx u)
      = (Rect.unit (s := S1024x2304) ![0, 0] ![1024, 256] inb_S1024x2304_S1024x256_0_0).idx u by
    refine (congrArg (View.canon _) e.symm).trans ?_
    rw [View.canon_cons_emb]
  funext k; apply Fin.ext
  match k with
  | ⟨0, _⟩ => show 0 + 1 * (0 + 1 * (u 0).val) = 0 + 1 * (u 0).val; omega
  | ⟨1, _⟩ => show 0 + 1 * (0 + 1 * (u 1).val) = 0 + 1 * (u 1).val; omega

theorem load_ab (P : S1024x1536.Idx → EReal) : v.readCov (Val := Elt Ideal) [⟨Rect.unit ![0, 0] ![1024, 1536] inb_S1024x2304_S1024x1536_0_0, P⟩, ⟨Rect.unit ![0, 0] ![1024, 2304] inb_S1024x2304_S1024x2304_0_0, z⟩]
      (Rect.unit ![0, 1536] ![1024, 768] inb_S1024x2304_S1024x768_0_1536).toLoadRect
    = View.ld (Val := Elt Ideal) (e' := .f32) z (Rect.unit ![0, 1536] ![1024, 768] inb_S1024x2304_S1024x768_0_1536) :=
  (View.readCov_skip v _ _ _ _ (by decide +kernel)).trans (load_a v z)

theorem load_cd (P : S1024x256.Idx → EReal) : v.readCov (Val := Elt Ideal) [⟨Rect.unit ![0, 0] ![1024, 256] inb_S1024x2304_S1024x256_0_0, P⟩, ⟨Rect.unit ![0, 0] ![1024, 2304] inb_S1024x2304_S1024x2304_0_0, z⟩]
      (Rect.unit ![0, 256] ![1024, 2048] inb_S1024x2304_S1024x2048_0_256).toLoadRect
    = View.ld (Val := Elt Ideal) (e' := .f32) z (Rect.unit ![0, 256] ![1024, 2048] inb_S1024x2304_S1024x2048_0_256) :=
  (View.readCov_skip v _ _ _ _ (by decide +kernel)).trans (load_c v z)

end Loads

/-- Entry `y` of the two halves of a tile. -/
def half (z : FVec Ideal S1024x2304 .f32) (y : S2x1024x1152.Idx) : EReal :=
  z (ix2 (y 1) ⟨(y 0).val * 1152 + (y 2).val, by have h0 : (y 0).val < 2 := (y 0).isLt; have h2 : (y 2).val < 1152 := (y 2).isLt; omega⟩)

/-- The two stores of a tile's halves. -/
theorem halves (v : View sig .tc .vmem S1024x2304 .f32) (L : List (View.Piece (Elt Ideal) S1024x2304 .f32)) :
    @Eq (S2x1024x1152.Idx → EReal) (View.canon (Val := Elt Ideal) (s := S2x1024x1152) (e := .bf16) [⟨Rect.unit ![1, 0, 0] ![1, 1024, 1152] inb_S2x1024x1152_S1x1024x1152_1_0_0,
          k0_pay7 (F := Ideal) (v.readCov (Val := Elt Ideal) L (Rect.unit (s := S1024x2304) ![0, 1152] ![1024, 1152] inb_S1024x2304_S1024x1152_0_1152).toLoadRect)⟩,
        ⟨Rect.unit ![0, 0, 0] ![1, 1024, 1152] inb_S2x1024x1152_S1x1024x1152_0_0_0,
          k0_pay6 (F := Ideal) (v.readCov (Val := Elt Ideal) L (Rect.unit (s := S1024x2304) ![0, 0] ![1024, 1152] inb_S1024x2304_S1024x1152_0_0).toLoadRect)⟩])
      (half (View.canon (Val := Elt Ideal) (e := .f32) L)) := by
  funext y
  rw [View.readCov_eq_canon', View.readCov_eq_canon']
  generalize View.canon (Val := Elt Ideal) (e := .f32) L = z
  refine View.canon_append_of_piecesOf (Val := Elt Ideal) (e := .bf16) (half z) [] [_, _] ⟨fun v => ?_, fun v => ?_, trivial⟩ y ?_
  · unfold k0_pay7
    idx_vars v
    pointwise [half]
    refine congrArg z (funext fun a => Fin.ext ?_)
    match a with
    | ⟨0, _⟩ => show v1.val = 0 + 1 * v1.val; omega
    | ⟨1, _⟩ => show 1152 + v2.val = (1 + 1 * v0.val) * 1152 + (0 + 1 * v2.val); omega
  · unfold k0_pay6
    idx_vars v
    pointwise [half]
    refine congrArg z (funext fun a => Fin.ext ?_)
    match a with
    | ⟨0, _⟩ => show v1.val = 0 + 1 * v1.val; omega
    | ⟨1, _⟩ => show v2.val = (0 + 1 * v0.val) * 1152 + (0 + 1 * v2.val); omega
  · have h0 : (y 0).val < 2 := (y 0).isLt
    have h1 : (y 1).val < 1024 := (y 1).isLt
    have h2 : (y 2).val < 1152 := (y 2).isLt
    by_cases h : (y 0).val = 1
    · refine ⟨_, List.mem_cons_self, ?_⟩
      show y ∈ (Rect.unit (s := S2x1024x1152) ![1, 0, 0] ![1, 1024, 1152] inb_S2x1024x1152_S1x1024x1152_1_0_0).set
      refine Rect.mem_set_unit.2 fun a => ?_
      match a with
      | ⟨0, _⟩ => show 1 ≤ (y 0).val ∧ (y 0).val < 1 + 1; omega
      | ⟨1, _⟩ => show 0 ≤ (y 1).val ∧ (y 1).val < 0 + 1024; omega
      | ⟨2, _⟩ => show 0 ≤ (y 2).val ∧ (y 2).val < 0 + 1152; omega
    · refine ⟨_, List.mem_cons_of_mem _ List.mem_cons_self, ?_⟩
      show y ∈ (Rect.unit (s := S2x1024x1152) ![0, 0, 0] ![1, 1024, 1152] inb_S2x1024x1152_S1x1024x1152_0_0_0).set
      refine Rect.mem_set_unit.2 fun a => ?_
      match a with
      | ⟨0, _⟩ => show 0 ≤ (y 0).val ∧ (y 0).val < 0 + 1; omega
      | ⟨1, _⟩ => show 0 ≤ (y 1).val ∧ (y 1).val < 0 + 1024; omega
      | ⟨2, _⟩ => show 0 ≤ (y 2).val ∧ (y 2).val < 0 + 1152; omega

section Body

variable (c : Dev nD) (i : grid0.Coords) (arg2 : Memref sig .tc .vmem S1024x1024 .bf16) (harg2 : arg2.IsWhole) (arg3 : Memref sig .tc .vmem S1024x1536 .bf16)
  (harg3 : arg3.IsWhole) (arg4 : Memref sig .tc .vmem S1024x1024 .bf16) (harg4 : arg4.IsWhole) (arg5 : Memref sig .tc .vmem S1024x2048 .bf16) (harg5 : arg5.IsWhole)
  (arg6 : Memref sig .tc .vmem S2x1024x1152 .bf16) (harg6 : arg6.IsWhole) (arg7 : Memref sig .tc .vmem S1024x2304 .f32) (harg7 : arg7.IsWhole)
  (x : Vec Ideal S1024x1024 .bf16) (a : Vec Ideal S1024x1536 .bf16) (b : Vec Ideal S1024x1024 .bf16) (d : Vec Ideal S1024x2048 .bf16) (acc : Vec Ideal S1024x2304 .f32)

theorem kept_A (hc0 : cond0_0 i) (hc1 : cond0_1 i) (hc2 : ¬cond0_2 i) (hc3 : ¬cond0_3 i) :
    @Eq (S1024x2304.Idx → EReal) (sout0_A_0 (F := Ideal) c i arg2 harg2 arg3 harg3 arg4 harg4 arg5 harg5 arg6 harg6 arg7 harg7 hc0 hc1 hc2 hc3 x a b d) (fill0 (k0_pay1 (F := Ideal)) x a b) := by
  funext y
  frame_out
  rw [load_ab, load_b]
  exact congrFun (stores0 (k0_pay1 (F := Ideal)) x a b _) y

theorem kept_B (hc0 : ¬cond0_0 i) (hc1 : cond0_1 i) (hc2 : ¬cond0_2 i) (hc3 : ¬cond0_3 i) :
    @Eq (S1024x2304.Idx → EReal) (sout0_B_0 (F := Ideal) c i arg2 harg2 arg3 harg3 arg4 harg4 arg5 harg5 arg6 harg6 arg7 harg7 hc0 hc1 hc2 hc3 x a b d acc) (fill0 acc x a b) := by
  funext y
  frame_out
  exact congrFun (stores0 acc x a b _) y

theorem kept_C (hc0 : ¬cond0_0 i) (hc1 : cond0_1 i) (hc2 : ¬cond0_2 i) (hc3 : cond0_3 i) :
    @Eq (S1024x2304.Idx → EReal) (sout0_C_0 (F := Ideal) c i arg2 harg2 arg3 harg3 arg4 harg4 arg5 harg5 arg6 harg6 arg7 harg7 hc0 hc1 hc2 hc3 x a b d acc) (fill0 acc x a b) := by
  funext y
  frame_out
  exact congrFun (stores0 acc x a b _) y

theorem out_C (hc0 : ¬cond0_0 i) (hc1 : cond0_1 i) (hc2 : ¬cond0_2 i) (hc3 : cond0_3 i) :
    @Eq (S2x1024x1152.Idx → EReal) (out0_C_4 (F := Ideal) c i arg2 harg2 arg3 harg3 arg4 harg4 arg5 harg5 arg6 harg6 arg7 harg7 hc0 hc1 hc2 hc3 x a b d acc) (half (fill0 acc x a b)) := by
  funext y
  frame_out
  rw [halves, stores0]

theorem kept_D (hc0 : cond0_0 i) (hc1 : ¬cond0_1 i) (hc2 : cond0_2 i) (hc3 : ¬cond0_3 i) :
    @Eq (S1024x2304.Idx → EReal) (sout0_D_0 (F := Ideal) c i arg2 harg2 arg3 harg3 arg4 harg4 arg5 harg5 arg6 harg6 arg7 harg7 hc0 hc1 hc2 hc3 x a b d) (fill1 (k0_pay1 (F := Ideal)) x b d) := by
  funext y
  frame_out
  rw [load_cd, load_d]
  exact congrFun (stores1 (k0_pay1 (F := Ideal)) x b d _) y

theorem kept_E (hc0 : ¬cond0_0 i) (hc1 : ¬cond0_1 i) (hc2 : cond0_2 i) (hc3 : ¬cond0_3 i) :
    @Eq (S1024x2304.Idx → EReal) (sout0_E_0 (F := Ideal) c i arg2 harg2 arg3 harg3 arg4 harg4 arg5 harg5 arg6 harg6 arg7 harg7 hc0 hc1 hc2 hc3 x a b d acc) (fill1 acc x b d) := by
  funext y
  frame_out
  exact congrFun (stores1 acc x b d _) y

theorem kept_F (hc0 : ¬cond0_0 i) (hc1 : ¬cond0_1 i) (hc2 : cond0_2 i) (hc3 : cond0_3 i) :
    @Eq (S1024x2304.Idx → EReal) (sout0_F_0 (F := Ideal) c i arg2 harg2 arg3 harg3 arg4 harg4 arg5 harg5 arg6 harg6 arg7 harg7 hc0 hc1 hc2 hc3 x a b d acc) (fill1 acc x b d) := by
  funext y
  frame_out
  exact congrFun (stores1 acc x b d _) y

theorem out_F (hc0 : ¬cond0_0 i) (hc1 : ¬cond0_1 i) (hc2 : cond0_2 i) (hc3 : cond0_3 i) :
    @Eq (S2x1024x1152.Idx → EReal) (out0_F_4 (F := Ideal) c i arg2 harg2 arg3 harg3 arg4 harg4 arg5 harg5 arg6 harg6 arg7 harg7 hc0 hc1 hc2 hc3 x a b d acc) (half (fill1 acc x b d)) := by
  funext y
  frame_out
  rw [halves, stores1]

end Body

theorem idx : ∀ t : Fin cfg0.N, win0_0.index t = ![t.val % 8, 0] ∧ (t.val < 8 → win0_1.index t = ![t.val % 8, 0]) ∧ win0_2.index t = ![t.val % 8, 0]
    ∧ (¬t.val < 8 → win0_3.index t = ![t.val % 8, 0]) :=
  (by decide +kernel : ∀ t : Fin grid0.N, _)

theorem size : cfg0.N = 16 := N_0

/-- Row `r` of the rows that point `n` reads. -/
def row (n : ℕ) (r : Fin 1024) : Fin 8192 := ⟨n % 8 * 1024 + r.val, by have := Nat.mod_lt n (by decide : 0 < 8); omega⟩

/-- Column `j` of the columns that point `n` adds to. -/
def col (n : ℕ) (j : Fin 2304) : Fin 4608 := ⟨n / 8 % 2 * 2304 + j.val, by have := Nat.mod_lt (n / 8) (by decide : 0 < 2); omega⟩

/-- The three matrices side by side. -/
def beside (a : S8192x1536.Idx → EReal) (b : S8192x1024.Idx → EReal) (d : S8192x2048.Idx → EReal) (r : Fin 8192) (j : Fin 4608) : EReal :=
  if h : j.val < 1536 then a (ix2 r ⟨j.val, h⟩) else if h' : j.val < 2560 then b (ix2 r ⟨j.val - 1536, by omega⟩) else d (ix2 r ⟨j.val - 2560, by omega⟩)

variable (m : (ℓ : Loc nD τ sig) → Buf (Elt Ideal) ℓ) (c : Dev nD)

theorem block_x (t : Fin cfg0.N) (y : S1024x1024.Idx) : iblk m c 0 t y = m ((c : Thread nD τ).loc main_arg0) (ix2 (row t.val (y 0)) (y 1)) := by
  have : (row t.val (y 0)).val = t.val % 8 * 1024 + (y 0).val := rfl
  blk_ext [iblk, V, idx t]

theorem block_a (t : Fin cfg0.N) (h : t.val < 8) (y : S1024x1536.Idx) : iblk m c 1 t y = m ((c : Thread nD τ).loc main_arg1) (ix2 (row t.val (y 0)) (y 1)) := by
  have : (row t.val (y 0)).val = t.val % 8 * 1024 + (y 0).val := rfl
  have e := (idx t).2.1 h
  blk_ext [iblk, V, e]

theorem block_b (t : Fin cfg0.N) (y : S1024x1024.Idx) : iblk m c 2 t y = m ((c : Thread nD τ).loc main_arg2) (ix2 (row t.val (y 0)) (y 1)) := by
  have : (row t.val (y 0)).val = t.val % 8 * 1024 + (y 0).val := rfl
  blk_ext [iblk, V, idx t]

theorem block_d (t : Fin cfg0.N) (h : ¬t.val < 8) (y : S1024x2048.Idx) : iblk m c 3 t y = m ((c : Thread nD τ).loc main_arg3) (ix2 (row t.val (y 0)) (y 1)) := by
  have : (row t.val (y 0)).val = t.val % 8 * 1024 + (y 0).val := rfl
  have e := (idx t).2.2.2 h
  blk_ext [iblk, V, e]

/-- The part that point `n` adds to entry `y` of its tile. -/
def add (x : S8192x1024.Idx → EReal) (f : Fin 8192 → Fin 4608 → EReal) (n : ℕ) (y : S1024x2304.Idx) : EReal :=
  ∑ r : Fin 1024, x (ix2 (row n r) (y 0)) * f (row n r) (col n (y 1))

/-- The result: every entry is a sum over all the rows. -/
def total (x : S8192x1024.Idx → EReal) (f : Fin 8192 → Fin 4608 → EReal) (u : S4x1024x1152.Idx) : EReal :=
  ∑ r : Fin 8192, x (ix2 r (u 1)) * f r ⟨(u 0).val * 1152 + (u 2).val, by have h0 : (u 0).val < 4 := (u 0).isLt; have h2 : (u 2).val < 1152 := (u 2).isLt; omega⟩

/-- The three arguments side by side. -/
abbrev args : Fin 8192 → Fin 4608 → EReal :=
  beside (m ((c : Thread nD τ).loc main_arg1)) (m ((c : Thread nD τ).loc main_arg2)) (m ((c : Thread nD τ).loc main_arg3))

theorem fill0_eq (t : Fin cfg0.N) (h : t.val < 8) (acc : FVec Ideal S1024x2304 .f32) (y : S1024x2304.Idx) :
    fill0 acc (iblk m c 0 t) (iblk m c 1 t) (iblk m c 2 t) y = acc y + add (m ((c : Thread nD τ).loc main_arg0)) (args m c) t.val y := by
  have h1 : (y 1).val < 2304 := (y 1).isLt
  have hc : (col t.val (y 1)).val = (y 1).val := by show t.val / 8 % 2 * 2304 + (y 1).val = _; omega
  unfold fill0
  refine congrArg (acc y + ·) (Finset.sum_congr rfl fun r _ => congrArg₂ (fun a b : EReal => a * b) (block_x m c t _) ?_)
  unfold args beside
  by_cases h' : (y 1).val < 1536
  · rw [dif_pos h', dif_pos (by omega)]
    refine (block_a m c t h _).trans (congrArg _ (congrArg (ix2 _) (Fin.ext hc.symm)))
  · rw [dif_neg h', dif_neg (by omega), dif_pos (by omega)]
    refine (block_b m c t _).trans (congrArg _ (congrArg (ix2 _) (Fin.ext ?_)))
    show (y 1).val - 1536 = (col t.val (y 1)).val - 1536
    omega

theorem fill1_eq (t : Fin cfg0.N) (h : ¬t.val < 8) (acc : FVec Ideal S1024x2304 .f32) (y : S1024x2304.Idx) :
    fill1 acc (iblk m c 0 t) (iblk m c 2 t) (iblk m c 3 t) y = acc y + add (m ((c : Thread nD τ).loc main_arg0)) (args m c) t.val y := by
  have h1 : (y 1).val < 2304 := (y 1).isLt
  have ht := lt_of_lt_of_eq t.isLt size
  have hc : (col t.val (y 1)).val = 2304 + (y 1).val := by show t.val / 8 % 2 * 2304 + (y 1).val = _; omega
  unfold fill1
  refine congrArg (acc y + ·) (Finset.sum_congr rfl fun r _ => congrArg₂ (fun a b : EReal => a * b) (block_x m c t _) ?_)
  unfold args beside
  by_cases h' : (y 1).val < 256
  · rw [dif_pos h', dif_neg (by omega), dif_pos (by omega)]
    refine (block_b m c t _).trans (congrArg _ (congrArg (ix2 _) (Fin.ext ?_)))
    show 768 + (y 1).val = (col t.val (y 1)).val - 1536
    omega
  · rw [dif_neg h', dif_neg (by omega), dif_neg (by omega)]
    refine (block_d m c t h _).trans (congrArg _ (congrArg (ix2 _) (Fin.ext ?_)))
    show (y 1).val - 256 = (col t.val (y 1)).val - 2560
    omega

theorem zeros (y : S1024x2304.Idx) : @Eq EReal ((k0_pay1 : FVec Ideal S1024x2304 .f32) y) 0 := by
  unfold k0_pay1
  pointwise

theorem scratch_first (n : ℕ) (hn : n < cfg0.N) (h : n % 8 = 0) (acc : FVec Ideal S1024x2304 .f32) (y : S1024x2304.Idx) :
    @Eq EReal (Value.scAt0_0 m c n hn acc y) (0 + add (m ((c : Thread nD τ).loc main_arg0)) (args m c) n y) := by
  have := lt_of_lt_of_eq hn size
  unfold Value.scAt0_0
  by_cases h1 : n < 8
  · rw [dif_pos h, dif_pos h1, dif_neg (by omega), dif_neg (by omega), kept_A, fill0_eq m c ⟨n, hn⟩ h1, zeros]
  · rw [dif_pos h, dif_neg h1, dif_pos (by omega), dif_neg (by omega), kept_D, fill1_eq m c ⟨n, hn⟩ h1, zeros]

theorem scratch_next (n : ℕ) (hn : n < cfg0.N) (h : ¬n % 8 = 0) (acc : FVec Ideal S1024x2304 .f32) (y : S1024x2304.Idx) :
    @Eq EReal (Value.scAt0_0 m c n hn acc y) (acc y + add (m ((c : Thread nD τ).loc main_arg0)) (args m c) n y) := by
  have := lt_of_lt_of_eq hn size
  unfold Value.scAt0_0
  by_cases h1 : n < 8 <;> by_cases h3 : n % 8 = 7
  · rw [dif_neg h, dif_pos h1, dif_neg (by omega), dif_pos h3, kept_C, fill0_eq m c ⟨n, hn⟩ h1]
  · rw [dif_neg h, dif_pos h1, dif_neg (by omega), dif_neg h3, kept_B, fill0_eq m c ⟨n, hn⟩ h1]
  · rw [dif_neg h, dif_neg h1, dif_pos (by omega), dif_pos h3, kept_F, fill1_eq m c ⟨n, hn⟩ h1]
  · rw [dif_neg h, dif_neg h1, dif_pos (by omega), dif_neg h3, kept_E, fill1_eq m c ⟨n, hn⟩ h1]

theorem scratch (t : Fin cfg0.N) (h : t.val % 8 = 7) (y : S1024x2304.Idx) : @Eq EReal ((outsAt0 m c t.val t.isLt).2 y)
    (∑ s ∈ Finset.range 8, add (m ((c : Thread nD τ).loc main_arg0)) (args m c) (8 * (t.val / 8) + s) y) := by
  rw [Value.soutsAt0_0_eq]
  refine (Pipeline.accAt_add_apply (β := EReal) _ _ (fun _ => 0) (add (m ((c : Thread nD τ).loc main_arg0)) (args m c)) (8 * (t.val / 8)) 7
    (fun hb i => scratch_first m c _ hb (by omega) _ i) (fun n hn acc i h1 h2 => scratch_next m c n hn (by omega) acc i) (t.val % 8) (by omega) _ y).trans ?_
  rw [zero_add, h]

/-- Eight tiles of 1024 rows are all the rows. -/
theorem sum_rows (f : Fin 8192 → EReal) (q : ℕ) : ∑ s ∈ Finset.range 8, ∑ r : Fin 1024, f (row (8 * q + s) r) = ∑ r, f r := by
  rw [Finset.sum_range fun s => ∑ r : Fin 1024, f (row (8 * q + s) r)]
  rw [← Fintype.sum_prod_type' fun (s : Fin 8) r => f (row (8 * q + s.val) r)]
  refine Fintype.sum_equiv (finProdFinEquiv (m := 8) (n := 1024)) _ _ fun p => congrArg f (Fin.ext ?_)
  have := p.1.isLt
  show (8 * q + p.1.val) % 8 * 1024 + p.2.val = p.2.val + 1024 * p.1.val
  omega

theorem written (t : Fin cfg0.N) (h : t.val % 8 = 7) (y : S2x1024x1152.Idx) :
    @Eq EReal ((outsAt0 m c t.val t.isLt).1 y) (half (outsAt0 m c t.val t.isLt).2 y) := by
  have := lt_of_lt_of_eq t.isLt size
  by_cases h1 : t.val < 8
  · rw [outsAt0_C m c t (by omega) h1 (by omega) h]
    dsimp only
    rw [out_C, kept_C]
  · rw [outsAt0_F m c t (by omega) h1 (by omega) h]
    dsimp only
    rw [out_F, kept_F]

theorem final : @Eq (FVec Ideal S4x1024x1152 .bf16) (Value.G4 m c) (total (m ((c : Thread nD τ).loc main_arg0)) (args m c)) := by
  funext u
  have h0 : (u 0).val < 4 := (u 0).isLt
  have h1 : (u 1).val < 1024 := (u 1).isLt
  have h2 : (u 2).val < 1152 := (u 2).isLt
  have hp : Value.pt4Of u = 8 * ((u 0).val / 2) + 7 := by
    show 8 * (1 * ((u 0).val / 2 - 0) + 1 * ((u 1).val / 1024 - 0) + 1 * ((u 2).val / 1152 - 0)) + 7 = _
    omega
  have hN : Value.pt4Of u < cfg0.N := by rw [hp, size]; omega
  have hm : Value.pt4Of u % 8 = 7 := by rw [hp]; omega
  unfold Value.G4
  rw [dif_pos hN, ← Value.outsAt0_sweep m c _ hN]
  refine (written m c ⟨_, hN⟩ hm _).trans ((scratch m c ⟨_, hN⟩ hm _).trans ?_)
  refine Eq.trans ?_ (sum_rows (fun r => _) (Value.pt4Of u / 8))
  refine Finset.sum_congr rfl fun s hs => Finset.sum_congr rfl fun r _ => congrArg₂ (fun a b : EReal => a * b) (congrArg _ ?_) (congrArg _ ?_)
  · refine congrArg (ix2 _) (Fin.ext ?_)
    show (u 1).val % 1024 = (u 1).val
    omega
  · refine Fin.ext ?_
    have := Finset.mem_range.1 hs
    show (8 * (Value.pt4Of u / 8) + s) / 8 % 2 * 2304 + ((u 0).val % 2 * 1152 + (u 2).val % 1152) = (u 0).val * 1152 + (u 2).val
    rw [hp]
    omega
-- ==== Proof.MixWeightClaim.lean ====
/- The claim about the weights' gradient of the mixing block's first product. -/
module
public import proofs.«01_k».proof.Defs
public import proofs.«01_k».proof.Proof.MixWeightValue
public import proofs.«01_k».proof.Proof.Gen.MixWeightRefIdeal.Run
@[expose] public section
set_option maxRecDepth 16384
noncomputable section

namespace Cert.MixWeightClaim

open Idealize.ShloMosaic Idealize.ShloMosaic.TcCoe Idealize.SL.Sem

section Reference

open Cert.MixWeightRefIdeal Cert.MixWeightRefIdeal.Gen

/-- The reference's derivative, entry by entry. -/
theorem reference (x : FVec Ideal S8192x1024 .bf16) (a : FVec Ideal S8192x1536 .bf16) (b : FVec Ideal S8192x1024 .bf16) (d : FVec Ideal S8192x2048 .bf16) :
    @Eq (FVec Ideal S4x1024x1152 .bf16) (truncf .bf16 (transpose S4x1024x1152 [1, 0, 2] (shapeCast _ (transpose S1024x4608 [1, 0] (Host.dotGeneral dot_S8192x4608_S8192x1024_S4608x1024_0_0_1_1_n_n none (extf .f32 ((concatenate S8192x4608 1 [⟨S8192x1536, (a : (⟨S8192x1536, .bf16⟩ : BufTy).Contents (Elt Ideal))⟩, ⟨S8192x1024, (b : (⟨S8192x1024, .bf16⟩ : BufTy).Contents (Elt Ideal))⟩, ⟨S8192x2048, (d : (⟨S8192x2048, .bf16⟩ : BufTy).Contents (Elt Ideal))⟩] concatenates_S8192x1536_S8192x1024_S8192x2048_S8192x4608_d1 : (⟨S8192x4608, .bf16⟩ : BufTy).Contents (Elt Ideal))) bitsLt_bf16_f32) (extf .f32 x bitsLt_bf16_f32)) transposes_S4608x1024_S1024x4608_1_0) shapeCasts_S1024x4608_S1024x4x1152) transposes_S1024x4x1152_S4x1024x1152_1_0_2) bitsLt_bf16_f32)
      (Cert.MixWeightIdeal.Hand.total x (Cert.MixWeightIdeal.Hand.beside a b d)) := by
  funext u
  idx_vars u
  pointwise [Cert.MixWeightIdeal.Hand.total, Cert.MixWeightIdeal.Hand.beside]
  refine Finset.sum_congr rfl fun r _ => (mul_comm _ _).trans ?_
  refine congrArg (x (ix2 r u1) * ·) ?_
  by_cases h : u0.val * 1152 + u2.val < 1536
  · rw [dif_pos h, dif_pos h]
  · rw [dif_neg h, dif_neg h]
    by_cases h' : u0.val * 1152 + u2.val < 2560
    · rw [dif_pos h', dif_pos (by omega)]
    · rw [dif_neg h', dif_neg (by omega)]
      exact congrArg d (congrArg (ix2 r) (Fin.ext (by show u0.val * 1152 + u2.val - 1536 - 1024 = u0.val * 1152 + u2.val - 2560; omega)))

end Reference

theorem algebraic : Cert.algebraic_MixWeightIdeal_MixWeightRefIdeal := fun m g m' g' _ hag => by
  refine ⟨_, Cert.MixWeightIdeal.Value.run (F := Ideal) m g, ?_⟩
  refine (θ_run _ _ _).mono (fun r h c => ?_) (Cert.MixWeightRefIdeal.Value.run m' g')
  obtain ⟨h0, h1, h2, h3⟩ := hag c
  refine ⟨(h c).1.trans ?_, (h c).2⟩
  rw [h0, h1, h2, h3]
  exact (reference _ _ _ _).trans (Cert.MixWeightIdeal.Hand.final m c).symm
-- ==== Proof.AdamClaim.lean ====
/- The claim about the optimiser. -/
module
public import proofs.«01_k».proof.Defs
public import proofs.«01_k».proof.Proof.Gen.AdamIdeal.Value
public import proofs.«01_k».proof.Proof.Gen.AdamRefIdeal.Run
public import Idealize.ShloMosaic.Lib.Pointwise
@[expose] public section
set_option maxRecDepth 16384
noncomputable section

namespace Cert.AdamClaim

open Idealize.ShloMosaic Idealize.ShloMosaic.TcCoe Idealize.SL.Sem

/-- Every result is the same function of an entry's four numbers. -/
theorem algebraic : Cert.algebraic_AdamIdeal_AdamRefIdeal := fun m g m' g' _ hag => by
  refine ⟨_, _, _, Cert.AdamIdeal.Value.run (F := Ideal) m g, ?_⟩
  refine (θ_run _ _ _).mono (fun r h c => ?_) (Cert.AdamRefIdeal.Value.run m' g')
  obtain ⟨h0, h1, h2, h3⟩ := hag c
  refine ⟨(h c).1.trans ?_, (h c).2.1.trans ?_, (h c).2.2.1.trans ?_, (h c).2.2.2⟩
  · rw [h0, h1, h2, h3]
    funext u
    idx_vars u
    pointwise
  · rw [h1, h2]
    funext u
    idx_vars u
    pointwise
  · rw [h1, h3]
    funext u
    idx_vars u
    pointwise
-- ==== Proof.BlockSumClaim.lean ====
/- The claim about the sum of the small gradients of all devices. -/
module
public import proofs.«01_k».proof.Defs
public import proofs.«01_k».proof.Proof.Gen.BlockSumIdeal.Value
public import proofs.«01_k».proof.Proof.Gen.BlockSumRefIdeal.Run
public import Idealize.ShloMosaic.Lib.Pointwise
@[expose] public section
set_option maxRecDepth 16384
noncomputable section

namespace Cert.BlockSumClaim

open Idealize.ShloMosaic Idealize.ShloMosaic.TcCoe Idealize.SL.Sem

/-- Both add an entry's eight numbers. -/
theorem algebraic : Cert.algebraic_BlockSumIdeal_BlockSumRefIdeal := fun m g m' g' _ hag => by
  refine ⟨_, Cert.BlockSumIdeal.Value.run (F := Ideal) m g, ?_⟩
  refine (θ_run _ _ _).mono (fun r h c => ?_) (Cert.BlockSumRefIdeal.Value.run m' g')
  refine ⟨(h c).1.trans ?_, (h c).2⟩
  rw [hag c]
  funext u
  idx_vars u
  pointwise
  refine Eq.trans ?_ (Cert.BlockSumIdeal.Value.piece1_0 (F := Ideal) _ _ _ _ _ _ _ _ _).symm
  rw [Fin.sum_univ_eight]
  refine congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b)
    (congrArg₂ (fun a b : EReal => a + b) ?_ ?_) ?_) ?_) ?_) ?_) ?_) ?_ <;>
  · refine congrArg (m (c.tc.loc Cert.BlockSumIdeal.main_arg0)) (funext fun a => Fin.ext ?_)
    match a with
    | ⟨0, _⟩ => rfl
    | ⟨1, _⟩ => show u0.val = 0 + 1 * (0 + 1 * u0.val); omega
    | ⟨2, _⟩ => show u1.val = 0 + 1 * (0 + 1 * u1.val); omega
-- ==== Proof.BiasSums.lean ====
/- Sums over the distances between a tile's rows and its keys. -/
module
public import proofs.«01_k».proof.Proof.Reals
@[expose] public section
noncomputable section

namespace Cert.BiasSums

variable (β : Fin 128 → Fin 384 → EReal)

/-- The gradient at a row and a place of the row's diagonal. -/
def diag (i : Fin 128) (k : ℕ) : EReal := if h : 384 ≤ i.val + k ∧ i.val + k < 640 then β i ⟨i.val + k - 256, by omega⟩ else 0

/-- What the reference sums at a place of the table. -/
def total (d : ℕ) : EReal := ∑ i, ∑ c : Fin 384, if min (i.val + 384 - c.val) 256 = d then β i c else 0

theorem diag_sum (i : Fin 128) (k : ℕ) : diag β i k = ∑ c : Fin 384, if c.val + 256 = i.val + k ∧ 128 ≤ c.val then β i c else 0 := by
  unfold diag
  split
  case isTrue h =>
    rw [Finset.sum_eq_single ⟨i.val + k - 256, by omega⟩ (fun c _ hc => if_neg fun e => hc (Fin.ext (by simp only; omega))) (fun e => absurd (Finset.mem_univ _) e)]
    exact (if_pos ⟨by simp only; omega, by simp only; omega⟩).symm
  case isFalse h =>
    refine (Finset.sum_eq_zero fun c _ => if_neg fun e => h ?_).symm
    have := c.isLt
    omega

theorem near (d : ℕ) (h0 : 1 ≤ d) (h1 : d ≤ 255) : ∑ i, diag β i (640 - d) = total β d := by
  refine Finset.sum_congr rfl fun i _ => (diag_sum β i _).trans (Finset.sum_congr rfl fun c _ => if_congr ?_ rfl rfl)
  have := c.isLt
  omega

theorem none_left : total β 0 = 0 :=
  Finset.sum_eq_zero fun i _ => Finset.sum_eq_zero fun c _ => if_neg (by have := c.isLt; omega)

theorem far : (∑ k : Fin 769, if k.val < 385 ∨ 640 ≤ k.val then ∑ i, diag β i k.val else 0)
    + ∑ i, ∑ j : Fin 128, β i ⟨j.val, by omega⟩ = total β 256 := by
  have e : (∑ k : Fin 769, if k.val < 385 ∨ 640 ≤ k.val then ∑ i, diag β i k.val else 0)
      = ∑ i, ∑ c : Fin 384, if 128 ≤ c.val ∧ c.val ≤ i.val + 128 then β i c else 0 := by
    calc _ = ∑ k : Fin 769, ∑ i, if k.val < 385 ∨ 640 ≤ k.val then diag β i k.val else 0 := by
          refine Finset.sum_congr rfl fun k _ => ?_
          split
          · rfl
          · exact Finset.sum_const_zero.symm
      _ = ∑ i, ∑ k : Fin 769, if k.val < 385 ∨ 640 ≤ k.val then diag β i k.val else 0 := Finset.sum_comm
      _ = ∑ i, ∑ k : Fin 769, ∑ c : Fin 384, if (k.val < 385 ∨ 640 ≤ k.val) ∧ c.val + 256 = i.val + k.val ∧ 128 ≤ c.val then β i c else 0 := by
          refine Finset.sum_congr rfl fun i _ => Finset.sum_congr rfl fun k _ => ?_
          split
          case isTrue h => exact (diag_sum β i _).trans (Finset.sum_congr rfl fun c _ => if_congr (by tauto) rfl rfl)
          case isFalse h => exact (Finset.sum_eq_zero fun c _ => if_neg fun e => h e.1).symm
      _ = ∑ i, ∑ c : Fin 384, ∑ k : Fin 769, if (k.val < 385 ∨ 640 ≤ k.val) ∧ c.val + 256 = i.val + k.val ∧ 128 ≤ c.val then β i c else 0 :=
          Finset.sum_congr rfl fun i _ => Finset.sum_comm
      _ = _ := by
          refine Finset.sum_congr rfl fun i _ => Finset.sum_congr rfl fun c _ => ?_
          have := c.isLt
          rw [Finset.sum_eq_single ⟨c.val + 256 - i.val, by omega⟩ (fun k _ hk => if_neg fun e => hk (Fin.ext (by simp only; omega))) (fun e => absurd (Finset.mem_univ _) e)]
          exact if_congr (by simp only; omega) rfl rfl
  rw [e, ← Finset.sum_add_distrib]
  refine Finset.sum_congr rfl fun i _ => ?_
  have s (f : Fin 384 → EReal) : ∑ c, f c = ∑ j : Fin 128, f ⟨j.val, by omega⟩ + ∑ j : Fin 256, f ⟨128 + j.val, by omega⟩ :=
    Fin.sum_univ_add (a := 128) (b := 256) f
  rw [s, s, Finset.sum_eq_zero (s := (Finset.univ : Finset (Fin 128))) (fun j _ => if_neg (by simp only; omega)), zero_add, add_comm]
  refine congrArg₂ (· + ·) (Finset.sum_congr rfl fun j _ => (if_pos (by simp only; omega)).symm) (Finset.sum_congr rfl fun j _ => if_congr (by simp only; omega) rfl rfl)
-- ==== Proof.BiasRef.lean ====
/- The derivative of the lookup by distance: a sum over the rows and keys at each distance. -/
module
public import proofs.«01_k».proof.Proof.BiasSums
public import proofs.«01_k».proof.Proof.Gen.BiasBackRefIdeal.Run
@[expose] public section
set_option maxRecDepth 16384
noncomputable section

namespace Cert.BiasRef

open Idealize.ShloMosaic Idealize.ShloMosaic.TcCoe Idealize.SL.Sem
open Cert.BiasBackRefIdeal Cert.BiasBackRefIdeal.Gen

variable (I : IVec S128x384x1 32) (hI : ∀ (i : Fin 128) (c : Fin 384), (I (ix3 i c 0)).toInt = (min (i.val + 384 - c.val) 256 : ℕ))

include hI in
/-- Where the entry of a head, a row and a key is added. -/
theorem lands (h : Fin 8) (i : Fin 128) (c : Fin 384) :
    scatter_S8x257_S128x384x1_S8x128x384_0_1_1_2.resultIdx? (ix3 h i c) I = some (ix2 h ⟨min (i.val + 384 - c.val) 256, by omega⟩) := by
  have s0 : scatter_S8x257_S128x384x1_S8x128x384_0_1_1_2.start (ix3 h i c) I 0 = 0 := rfl
  have s1 : scatter_S8x257_S128x384x1_S8x128x384_0_1_1_2.start (ix3 h i c) I 1 = (min (i.val + 384 - c.val) 256 : ℕ) := by
    refine Eq.trans ?_ (hI i c)
    refine congrArg (fun x => (I x).toInt) (funext fun a => ?_)
    match a with
    | ⟨0, _⟩ => rfl
    | ⟨1, _⟩ => rfl
    | ⟨2, _⟩ => rfl
  have w0 : scatter_S8x257_S128x384x1_S8x128x384_0_1_1_2.window (ix3 h i c) 0 = h.val := rfl
  have w1 : scatter_S8x257_S128x384x1_S8x128x384_0_1_1_2.window (ix3 h i c) 1 = 0 := rfl
  unfold ScatterDims.resultIdx?
  have inside : ∀ a, 0 ≤ scatter_S8x257_S128x384x1_S8x128x384_0_1_1_2.start (ix3 h i c) I a + scatter_S8x257_S128x384x1_S8x128x384_0_1_1_2.window (ix3 h i c) a
      ∧ scatter_S8x257_S128x384x1_S8x128x384_0_1_1_2.start (ix3 h i c) I a + scatter_S8x257_S128x384x1_S8x128x384_0_1_1_2.window (ix3 h i c) a < S8x257.size a := by
    intro a
    match a with
    | ⟨0, _⟩ => exact ⟨by rw [show (⟨0, _⟩ : Fin 2) = 0 from rfl, s0, w0]; omega, by rw [show (⟨0, _⟩ : Fin 2) = 0 from rfl, s0, w0]; show (0 : ℤ) + h.val < (8 : ℕ); omega⟩
    | ⟨1, _⟩ => exact ⟨by rw [show (⟨1, _⟩ : Fin 2) = 1 from rfl, s1, w1]; omega, by rw [show (⟨1, _⟩ : Fin 2) = 1 from rfl, s1, w1]; show ((min (i.val + 384 - c.val) 256 : ℕ) : ℤ) + (0 : ℕ) < (257 : ℕ); omega⟩
  rw [dif_pos inside]
  refine congrArg some (funext fun a => Fin.ext ?_)
  match a with
  | ⟨0, _⟩ => show Int.toNat (scatter_S8x257_S128x384x1_S8x128x384_0_1_1_2.start (ix3 h i c) I 0 + (scatter_S8x257_S128x384x1_S8x128x384_0_1_1_2.window (ix3 h i c) 0 : ℕ)) = h.val; rw [s0, w0]; omega
  | ⟨1, _⟩ => show Int.toNat (scatter_S8x257_S128x384x1_S8x128x384_0_1_1_2.start (ix3 h i c) I 1 + (scatter_S8x257_S128x384x1_S8x128x384_0_1_1_2.window (ix3 h i c) 1 : ℕ)) = min (i.val + 384 - c.val) 256; rw [s1, w1]; omega

include hI in
theorem scattered (x : FVec Ideal S8x257 .f32) (b : FVec Ideal S8x128x384 .f32) (h : Fin 8) (d : Fin 257) :
    Host.scatterAdd scatter_S8x257_S128x384x1_S8x128x384_0_1_1_2 x I b (ix2 h d)
      = (x (ix2 h d) + BiasSums.total (fun i c => (b (ix3 h i c) : EReal)) d.val : EReal) := by
  show (x (ix2 h d) + ∑ j ∈ Finset.univ.filter (fun j => scatter_S8x257_S128x384x1_S8x128x384_0_1_1_2.resultIdx? j I = some (ix2 h d)), b j : EReal) = _
  refine congrArg (fun s : EReal => (x (ix2 h d) : EReal) + s) ?_
  rw [Finset.sum_filter, sum_idx3, Finset.sum_eq_single h ?_ (fun e => absurd (Finset.mem_univ _) e)]
  · refine Finset.sum_congr rfl fun i _ => Finset.sum_congr rfl fun c _ => if_congr ?_ rfl rfl
    rw [lands I hI]
    constructor
    · intro e
      exact congrArg (fun x : S8x257.Idx => (x 1).val) (Option.some.inj e)
    · intro e
      exact congrArg (fun k => some (ix2 h k)) (Fin.ext e)
  · intro h' _ hne
    refine Finset.sum_eq_zero fun i _ => Finset.sum_eq_zero fun c _ => if_neg fun e => hne ?_
    rw [lands I hI] at e
    exact congrArg (fun x : S8x257.Idx => x 0) (Option.some.inj e)

/-- The word of a distance, clipped and counted from zero. -/
def place (n : BitVec 32) : BitVec 32 := IntOp.addi (IntOp.maxsi (IntOp.minsi n 128#32) 4294967168#32) 128#32

theorem place_word : ∀ n : Fin 512,
    (Scalar.select (IntOp.cmpi .slt (place (BitVec.ofNat 32 n.val - 128#32)) 0#32)
      (IntOp.addi (place (BitVec.ofNat 32 n.val - 128#32)) 257#32) (place (BitVec.ofNat 32 n.val - 128#32))).toInt = (min n.val 256 : ℕ) := by
  decide +kernel

theorem gap (i : Fin 128) (c : Fin 384) :
    IntOp.subi (IntOp.addi (BitVec.ofNat 32 i.val) 256#32) (BitVec.ofNat 32 c.val) = BitVec.ofNat 32 (i.val + 384 - c.val) - 128#32 := by
  show BitVec.ofNat 32 i.val + 256#32 - BitVec.ofNat 32 c.val = _
  refine BitVec.eq_of_toNat_eq ?_
  simp only [BitVec.toNat_sub, BitVec.toNat_add, BitVec.toNat_ofNat]
  omega

/-- The reference's result at a head and a place of the table. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24)
        = (fun u : S8x257.Idx => BiasSums.total (fun i k => (m ((c.tc : Thread nD τ).loc main_arg0) (ix3 (u 0) i k) : EReal)) (u 1).val)
      ∧ r.2.mem ((c.tc : Thread nD τ).loc main_arg0) = m ((c.tc : Thread nD τ).loc main_arg0) := by
  refine (θ_run _ _ _).mono (fun r h c => ⟨(h c).1.trans ?_, (h c).2⟩) (Cert.BiasBackRefIdeal.Value.run (F := Ideal) m ρ)
  funext u
  idx_vars u
  refine (scattered _ ?_ _ _ u0 u1).trans ?_
  · intro i k
    refine Eq.trans (congrArg BitVec.toInt ?_) (place_word ⟨i.val + 384 - k.val, by omega⟩)
    simp only
    rw [← gap i k]
    pointwise [place]
  · refine Eq.trans (congrArg (fun s : EReal => s + _) (?_ : _ = (0 : EReal))) (zero_add _)
    pointwise
-- ==== Proof.BiasBackClaim.lean ====
/- The claim about the sums of the scores' gradients over each distance. -/
module
public import proofs.«01_k».proof.Proof.BiasRef
public import proofs.«01_k».proof.Defs
public import proofs.«01_k».proof.Proof.Gen.BiasBackIdeal.Frame
public import Idealize.ShloMosaic.Lib.Pipeline.ValueKit
public import Idealize.ShloMosaic.Lib.StableHlo.ReadAt
@[expose] public section
set_option maxRecDepth 16384
noncomputable section

namespace Cert.BiasBackClaim

open Idealize.ShloMosaic Idealize.ShloMosaic.TcCoe Idealize.SL.Sem
open Cert.BiasBackIdeal Cert.BiasBackIdeal.Gen

variable (m : (ℓ : Loc nD τ sig) → Buf (Elt Ideal) ℓ) (c : Dev nD)

/-- The argument at one head. -/
abbrev head (h : Fin 8) (i : Fin 128) (k : Fin 384) : EReal := m ((c : Thread nD τ).loc main_arg0) (ix3 h i k)

/-- The row-major place of a skewed row, read in rows of 768. -/
theorem skew (g : Fin 128 → Fin 384 → EReal) (i : Fin 128) (k : Fin 769) :
    (if _ : i.val * 769 + k.val < 98304 then
      if h2 : (i.val * 769 + k.val) / 768 < 128 ∧ 384 ≤ (i.val * 769 + k.val) % 768 ∧ (i.val * 769 + k.val) % 768 - 384 < 256 then
        g ⟨(i.val * 769 + k.val) / 768, h2.1⟩ ⟨128 + ((i.val * 769 + k.val) % 768 - 384), by omega⟩
      else 0
    else 0) = BiasSums.diag g i k.val := by
  obtain ⟨i, hi⟩ := i
  obtain ⟨k, hk⟩ := k
  unfold BiasSums.diag
  dsimp only
  by_cases hs : i + k < 768
  · have e : i * 769 + k = 768 * i + (i + k) := by omega
    have hd : (i * 769 + k) / 768 = i := by rw [e, Nat.mul_add_div (by decide), Nat.div_eq_of_lt hs]; rfl
    have hm : (i * 769 + k) % 768 = i + k := by rw [e, Nat.mul_add_mod, Nat.mod_eq_of_lt hs]
    clear e
    by_cases h0 : 384 ≤ i + k ∧ i + k < 640
    · have h1 : i * 769 + k < 98304 := by omega
      have h2 : (i * 769 + k) / 768 < 128 ∧ 384 ≤ (i * 769 + k) % 768 ∧ (i * 769 + k) % 768 - 384 < 256 := by
        rw [hd, hm]; exact ⟨hi, h0.1, by omega⟩
      rw [dif_pos h1, dif_pos h2, dif_pos h0]
      refine congrArg₂ g (Fin.ext hd) (Fin.ext ?_)
      show 128 + ((i * 769 + k) % 768 - 384) = i + k - 256
      rw [hm]; omega
    · rw [dif_neg h0]
      split
      · have h2 : ¬ ((i * 769 + k) / 768 < 128 ∧ 384 ≤ (i * 769 + k) % 768 ∧ (i * 769 + k) % 768 - 384 < 256) := by
          rw [hd, hm]; exact fun h => h0 ⟨h.2.1, by omega⟩
        rw [dif_neg h2]
      · rfl
  · have hm : (i * 769 + k) % 768 = i + k - 768 := by
      rw [show i * 769 + k = 768 * (i + 1) + (i + k - 768) by omega, Nat.mul_add_mod, Nat.mod_eq_of_lt (by omega)]
    have h0 : ¬ (384 ≤ i + k ∧ i + k < 640) := fun h => hs (by omega)
    rw [dif_neg h0]
    split
    · have h2 : ¬ ((i * 769 + k) / 768 < 128 ∧ 384 ≤ (i * 769 + k) % 768 ∧ (i * 769 + k) % 768 - 384 < 256) := by
        rw [hm]; exact fun h => absurd h.2.1 (by omega)
      rw [dif_neg h2]
    · rfl

theorem no_word : (FloatOps.sitofp (F := Ideal) FTy.f32 (0#32) : EReal) = 0 := by
  show (((0#32 : BitVec 32).toInt : ℝ) : EReal) = 0
  simp

theorem skewed (h : Fin 8) (i : Fin 128) (k : Fin 769) :
    (V m c main_v4 : Vec Ideal S8x128x769 .f32) (ix3 h i k) = BiasSums.diag (head m c h) i k.val := by
  unfold V V0
  after_reads_at
  refine Eq.trans ?_ (skew (head m c h) i k)
  exact dite_congr rfl (fun _ => dite_congr rfl (fun _ => rfl) (fun _ => no_word)) (fun _ => no_word)

theorem folded (h : Fin 8) (i k : Fin 128) :
    (V m c main_v5 : Vec Ideal S8x128x128 .f32) (ix3 h i k) = head m c h i ⟨k.val, by omega⟩ := by
  unfold V V0
  after_reads_at

/-- The sums along the diagonals. -/
def sums (x0 : Vec Ideal S8x128x769 .f32) (y : S8x769.Idx) : EReal := ∑ i : Fin 128, x0 (ix3 (y 0) i (y 1))

/-- The sum over the far places. -/
def fars (x0 : Vec Ideal S8x128x769 .f32) (x1 : Vec Ideal S8x128x128 .f32) (y : S8x128.Idx) : EReal :=
  (∑ k : Fin 769, if k.val < 385 ∨ 640 ≤ k.val then ∑ i : Fin 128, (x0 (ix3 (y 0) i k) : EReal) else 0) + ∑ i : Fin 128, ∑ j : Fin 128, (x1 (ix3 (y 0) i j) : EReal)

theorem out_2 (X0 : Vec Ideal S8x128x769 .f32) (X1 : Vec Ideal S8x128x128 .f32) : out0_2 X0 X1 = sums X0 := by
  funext y
  refine View.canon_apply_of_pieces (Val := Elt Ideal) (e := .f32) (sums X0) _ ?_ y (cover0_2 _ _ _ _ _ _ _ _ y)
  intro pc hpc
  simp only [List.mem_cons, List.not_mem_nil, or_false] at hpc
  rcases hpc with rfl | rfl | rfl | rfl | rfl | rfl | rfl | rfl <;>
  · intro x
    idx_vars x
    obtain rfl : x0 = 0 := Subsingleton.elim _ _
    pointwise [k0_pay20, k0_pay18, k0_pay16, k0_pay13, k0_pay11, k0_pay7, k0_pay5, k0_pay3, sums]
    refine Finset.sum_congr rfl fun i _ => congrArg X0 (funext fun a => Fin.ext ?_)
    match a with
    | ⟨0, _⟩ => rfl
    | ⟨1, _⟩ => rfl
    | ⟨2, _⟩ => show x1.val = 0 + 1 * x1.val; omega

/-- The mask of the far places. -/
theorem mask : ∀ k : Fin 769, IntOp.ori (IntOp.cmpi .slt (BitVec.ofNat 32 k.val) 385#32) (IntOp.cmpi .sge (BitVec.ofNat 32 k.val) 640#32)
    = if k.val < 385 ∨ 640 ≤ k.val then 1#1 else 0#1 := by decide +kernel

theorem masked (k : Fin 769) (x : EReal) :
    Scalar.select (IntOp.ori (IntOp.cmpi .slt (BitVec.ofNat 32 k.val) 385#32) (IntOp.cmpi .sge (BitVec.ofNat 32 k.val) 640#32)) x (0 : EReal)
      = if k.val < 385 ∨ 640 ≤ k.val then x else 0 := by
  rw [mask]
  split <;> rfl

theorem out_3 (X0 : Vec Ideal S8x128x769 .f32) (X1 : Vec Ideal S8x128x128 .f32) : out0_3 X0 X1 = fars X0 X1 := by
  funext y
  refine View.canon_apply_of_pieces (Val := Elt Ideal) (e := .f32) (fars X0 X1) _ ?_ y (cover0_3 _ _ _ _ _ _ _ _ y)
  intro pc hpc
  simp only [List.mem_cons, List.not_mem_nil, or_false] at hpc
  rcases hpc with rfl | rfl | rfl | rfl | rfl | rfl | rfl | rfl <;>
  · intro x
    idx_vars x
    obtain rfl : x0 = 0 := Subsingleton.elim _ _
    pointwise [k0_pay1, k0_pay21, k0_pay22, k0_pay23, k0_pay2, k0_pay19, k0_pay17, k0_pay15, k0_pay14, k0_pay12, k0_pay10, k0_pay9,
      k0_pay8, k0_pay6, k0_pay4, k0_pay20, k0_pay18, k0_pay16, k0_pay13, k0_pay11, k0_pay7, k0_pay5, k0_pay3]
    simp only [masked, Fin.sum_univ_one]
    rfl

/-- The only grid point. -/
theorem only (t : Fin cfg0.N) : t = ⟨0, by decide +kernel⟩ :=
  Fin.ext (Nat.lt_one_iff.mp (Nat.lt_of_lt_of_eq t.isLt N_0))

theorem whole (n : ℕ) : 0 + 1 * n = n := by omega

theorem block_0 (t : Fin cfg0.N) (h : Fin 8) (i : Fin 128) (k : Fin 769) :
    (iblk m c 0 t : Vec Ideal S8x128x769 .f32) (ix3 h i k) = (V m c main_v4 : Vec Ideal S8x128x769 .f32) (ix3 h i k) := by
  refine congrArg (V m c main_v4) (?_ : ((cfg0.win 0).blk t).view.emb (ix3 h i k) = ix3 h i k)
  obtain rfl := only t
  exact funext fun a => Fin.ext (match a with | ⟨0, _⟩ => whole h.val | ⟨1, _⟩ => whole i.val | ⟨2, _⟩ => whole k.val)

theorem block_1 (t : Fin cfg0.N) (h : Fin 8) (i k : Fin 128) :
    (iblk m c 1 t : Vec Ideal S8x128x128 .f32) (ix3 h i k) = (V m c main_v5 : Vec Ideal S8x128x128 .f32) (ix3 h i k) := by
  refine congrArg (V m c main_v5) (?_ : ((cfg0.win 1).blk t).view.emb (ix3 h i k) = ix3 h i k)
  obtain rfl := only t
  exact funext fun a => Fin.ext (match a with | ⟨0, _⟩ => whole h.val | ⟨1, _⟩ => whole i.val | ⟨2, _⟩ => whole k.val)

theorem sums_block (t : Fin cfg0.N) (y : S8x769.Idx) : sums (iblk m c 0 t) y = sums (V m c main_v4) (ix2 (y 0) (y 1)) :=
  Finset.sum_congr rfl fun i _ => block_0 m c t (y 0) i (y 1)

theorem fars_block (t : Fin cfg0.N) (y : S8x128.Idx) :
    fars (iblk m c 0 t) (iblk m c 1 t) y = fars (V m c main_v4) (V m c main_v5) (ix2 (y 0) (y 1)) :=
  congrArg₂ (fun a b : EReal => a + b)
    (Finset.sum_congr rfl fun k _ => if_congr Iff.rfl (Finset.sum_congr rfl fun i _ => block_0 m c t (y 0) i k) rfl)
    (Finset.sum_congr rfl fun i _ => Finset.sum_congr rfl fun j _ => block_1 m c t (y 0) i j)

/-- The two result arrays of the call after the run. -/
theorem final_2 : (dats m 0 c).arrAt 2 (cfgs 0).N = sums (V m c main_v4) := by
  refine (dats m 0 c).arrAt_eq_of_covers 2 _ (by decide +kernel) fun t _ y => ?_
  blk_simp
  rw [after0_2, out_2]
  have hy : ((cfg0.win 2).blk t).view.emb y = ix2 (y 0) (y 1) := by
    obtain rfl := only t
    exact funext fun a => Fin.ext (match a with | ⟨0, _⟩ => whole (y 0).val | ⟨1, _⟩ => whole (y 1).val)
  refine Eq.trans ?_ (congrArg (sums (V m c main_v4)) hy.symm)
  exact sums_block m c t y

theorem final_3 : (dats m 0 c).arrAt 3 (cfgs 0).N = fars (V m c main_v4) (V m c main_v5) := by
  refine (dats m 0 c).arrAt_eq_of_covers 3 _ (by decide +kernel) fun t _ y => ?_
  blk_simp
  rw [after0_3, out_3]
  have hy : ((cfg0.win 3).blk t).view.emb y = ix2 (y 0) (y 1) := by
    obtain rfl := only t
    exact funext fun a => Fin.ext (match a with | ⟨0, _⟩ => whole (y 0).val | ⟨1, _⟩ => whole (y 1).val)
  refine Eq.trans ?_ (congrArg (fars (V m c main_v4) (V m c main_v5)) hy.symm)
  exact fars_block m c t y

/-- The three parts of the gradient put side by side. -/
abbrev parts (a : Vec Ideal S8x1 .f32) (b : Vec Ideal S8x255 .f32) (e : Vec Ideal S8x1 .f32) : Vec Ideal S8x257 .f32 :=
  concatenate S8x257 1 [⟨S8x1, a⟩, ⟨S8x255, b⟩, ⟨S8x1, e⟩] concatenates_S8x1_S8x255_S8x1_S8x257_d1

/-- The contents before the parts are put together. -/
abbrev mid (W : Valuation τ sig (Elt Ideal)) : Valuation τ sig (Elt Ideal) := StableHlo.after (hostOps1.take 5) W

theorem mid_7 (W : Valuation τ sig (Elt Ideal)) :
    mid W (Proc.devRef .tc main_v7) = (broadcastInDim S8x1 ![] bcast_S_S8x1 (constant S_ .f32 0x00000000#32 : FVec Ideal S_ .f32) : Vec Ideal S8x1 .f32) := by
  simp only [mid, hostOps1, List.take_succ_cons, List.take_zero]
  after_results

theorem mid_9 (W : Valuation τ sig (Elt Ideal)) :
    mid W (Proc.devRef .tc main_v9) = (Host.reverse [1] (extractStridedSlice S8x255 ![0, 385] (W (Proc.devRef .tc main_v6_0) : Vec Ideal S8x769 .f32) slices_S8x769_S8x255_0_385) : Vec Ideal S8x255 .f32) := by
  simp only [mid, hostOps1, List.take_succ_cons, List.take_zero]
  after_results

theorem mid_10 (W : Valuation τ sig (Elt Ideal)) :
    mid W (Proc.devRef .tc main_v10) = (extractStridedSlice S8x1 ![0, 0] (W (Proc.devRef .tc main_v6_1) : Vec Ideal S8x128 .f32) slices_S8x128_S8x1_0_0 : Vec Ideal S8x1 .f32) := by
  simp only [mid, hostOps1, List.take_succ_cons, List.take_zero]
  after_results

theorem tail (W : Valuation τ sig (Elt Ideal)) : StableHlo.after hostOps1 W (Proc.devRef .tc main_v11)
    = parts (mid W (Proc.devRef .tc main_v7)) (mid W (Proc.devRef .tc main_v9)) (mid W (Proc.devRef .tc main_v10)) := by
  after_results
  rfl

theorem parts_at (x : Vec Ideal S8x769 .f32) (w : Vec Ideal S8x128 .f32) (h : Fin 8) (d : Fin 257) :
    parts (broadcastInDim S8x1 ![] bcast_S_S8x1 (constant S_ .f32 0x00000000#32 : FVec Ideal S_ .f32))
      (Host.reverse [1] (extractStridedSlice S8x255 ![0, 385] x slices_S8x769_S8x255_0_385))
      (extractStridedSlice S8x1 ![0, 0] w slices_S8x128_S8x1_0_0) (ix2 h d)
    = if d.val < 1 then (0 : EReal) else if h2 : d.val - 1 < 255 then x (ix2 h ⟨640 - d.val, by omega⟩) else w (ix2 h 0) := by
  pointwise
  split
  · rfl
  · split
    · rename_i h1 h2
      refine congrArg x (funext fun a => Fin.ext ?_)
      match a with
      | ⟨0, _⟩ => rfl
      | ⟨1, _⟩ => show 385 + (255 - (d.val - 1 + 1)) = 640 - d.val; omega
    · rename_i h1 h2
      refine congrArg w (funext fun a => Fin.ext ?_)
      match a with
      | ⟨0, _⟩ => rfl
      | ⟨1, _⟩ => show d.val - 1 - 255 = 0; omega

/-- The contents after the call. -/
abbrev called : Valuation τ sig (Elt Ideal) :=
  Pipeline.withArrays (cfgs 0).spec c (V0 m c) fun w => (dats m 0 c).arrAt w (cfgs 0).N

theorem called_2 : called m c (Proc.devRef .tc main_v6_0) = sums (V m c main_v4) :=
  (Pipeline.withArrays_arr (cfgs 0).spec (by decide) c (V0 m c) _ 2).trans (final_2 m c)

theorem called_3 : called m c (Proc.devRef .tc main_v6_1) = fars (V m c main_v4) (V m c main_v5) :=
  (Pipeline.withArrays_arr (cfgs 0).spec (by decide) c (V0 m c) _ 3).trans (final_3 m c)

theorem sums_at (h : Fin 8) (k : Fin 769) : sums (V m c main_v4) (ix2 h k) = ∑ i, BiasSums.diag (head m c h) i k.val :=
  Finset.sum_congr rfl fun i _ => skewed m c h i k

theorem fars_at (h : Fin 8) : fars (V m c main_v4) (V m c main_v5) (ix2 h 0) = BiasSums.total (head m c h) 256 :=
  (congrArg₂ (fun a b : EReal => a + b)
    (Finset.sum_congr rfl fun k _ => if_congr Iff.rfl (Finset.sum_congr rfl fun i _ => skewed m c h i k) rfl)
    (Finset.sum_congr rfl fun i _ => Finset.sum_congr rfl fun j _ => folded m c h i j)).trans (BiasSums.far (head m c h))

/-- The kernel's result at a head and a place of the table. -/
theorem result (h : Fin 8) (d : Fin 257) :
    (StableHlo.after hostOps1 (called m c) (Proc.devRef .tc main_v11) : Vec Ideal S8x257 .f32) (ix2 h d) = BiasSums.total (head m c h) d.val := by
  rw [tail, mid_7, mid_9, mid_10, called_2, called_3, parts_at]
  have hd := d.isLt
  split
  · rw [show d.val = 0 by omega]
    exact (BiasSums.none_left _).symm
  · split
    · exact (sums_at m c h _).trans (BiasSums.near _ d.val (by omega) (by omega))
    · rw [show d.val = 256 by omega]
      exact fars_at m c h

theorem run (ρ : Dev nD → PrngReg) :
    θ_run defs (onTc (τ := τ) (main (F := Ideal))) ⟨m, fun _ => 0, ρ⟩ fun r => ∀ c : Dev nD,
      r.2.mem ((c.tc : Thread nD τ).loc main_v11) = (fun u : S8x257.Idx => BiasSums.total (head m c (u 0)) (u 1).val)
      ∧ r.2.mem ((c.tc : Thread nD τ).loc main_arg0) = m ((c.tc : Thread nD τ).loc main_arg0) := by
  refine (θ_run defs _ _).mono (fun r h c => ⟨?_, ?_⟩) (run_main m ρ)
  · refine ((h c).2 main_v11 (Pipeline.mem_restRefs_of main_v11 (by decide) (by decide))).trans ?_
    funext u
    idx_vars u
    exact result m c u0 u1
  · exact ((h c).2 main_arg0 (Pipeline.mem_restRefs_of main_arg0 (by decide) (by decide))).trans (W_main_arg0 m (dats m) c)

theorem algebraic : Cert.algebraic_BiasBackIdeal_BiasBackRefIdeal := fun m g m' g' _ hag => by
  refine ⟨_, run m g, ?_⟩
  refine (θ_run _ _ _).mono (fun r h c => ?_) (BiasRef.run m' g')
  refine ⟨(h c).1.trans ?_, (h c).2⟩
  rw [hag c]
-- ==== Proof.lean ====
module
public import proofs.«01_k».proof.Proof.Gen.ActIdeal.Frame
public import proofs.«01_k».proof.Proof.ActClaim
public import proofs.«01_k».proof.Proof.MergeClaim
public import proofs.«01_k».proof.Proof.XattnClaim
public import proofs.«01_k».proof.Proof.LossClaim
public import proofs.«01_k».proof.Proof.FfnNormClaim
public import proofs.«01_k».proof.Proof.QueryNormClaim
public import proofs.«01_k».proof.Proof.MemoryNormClaim
public import proofs.«01_k».proof.Proof.MixNormClaim
public import proofs.«01_k».proof.Proof.Gen.Merge.Frame
public import proofs.«01_k».proof.Proof.Gen.Xattn.Frame
public import proofs.«01_k».proof.Proof.Gen.LossIdeal.Frame
public import proofs.«01_k».proof.Proof.Gen.FfnNormIdeal.Frame
public import proofs.«01_k».proof.Proof.Gen.QueryNormIdeal.Frame
public import proofs.«01_k».proof.Proof.Gen.MemoryNormIdeal.Frame
public import proofs.«01_k».proof.Proof.Gen.MixNormIdeal.Frame
public import proofs.«01_k».proof.Proof.Gen.AttnBack
public import proofs.«01_k».proof.Proof.Gen.AttnBack.Launch
public import proofs.«01_k».proof.Proof.Gen.AttnBack.Points
public import proofs.«01_k».proof.Proof.Gen.GatingBack
public import proofs.«01_k».proof.Proof.Gen.GatingBack.Launch
public import proofs.«01_k».proof.Proof.Gen.GatingBack.Points
public import proofs.«01_k».proof.Proof.Gen.GatingBack.Skeleton
public import proofs.«01_k».proof.Proof.Gen.BiasBack.Frame
public import proofs.«01_k».proof.Proof.Gen.BiasBackIdeal.Frame
public import proofs.«01_k».proof.Proof.AttnBackFrame
public import proofs.«01_k».proof.Proof.GatingBackFrame
public import proofs.«01_k».proof.Proof.Gen.Attn.Frame
public import proofs.«01_k».proof.Proof.Gen.AttnIdeal.Frame
public import proofs.«01_k».proof.Proof.AttnClaim
public import proofs.«01_k».proof.Proof.Gen.MixIn.Frame
public import proofs.«01_k».proof.Proof.Gen.MixInIdeal.Frame
public import proofs.«01_k».proof.Proof.MixInClaim
public import proofs.«01_k».proof.Proof.Gen.QueryIn.Frame
public import proofs.«01_k».proof.Proof.Gen.QueryInIdeal.Frame
public import proofs.«01_k».proof.Proof.QueryInClaim
public import proofs.«01_k».proof.Proof.Gen.MemoryIn.Frame
public import proofs.«01_k».proof.Proof.Gen.MemoryInIdeal.Frame
public import proofs.«01_k».proof.Proof.MemoryInClaim
public import proofs.«01_k».proof.Proof.Gen.FfnIn.Frame
public import proofs.«01_k».proof.Proof.Gen.FfnInIdeal.Frame
public import proofs.«01_k».proof.Proof.FfnInClaim
public import proofs.«01_k».proof.Proof.GatingClaim
public import proofs.«01_k».proof.Proof.Gen.FfnWeight.Frame
public import proofs.«01_k».proof.Proof.Gen.FfnWeightIdeal.Frame
public import proofs.«01_k».proof.Proof.Gen.MixWeight.Frame
public import proofs.«01_k».proof.Proof.Gen.MixWeightIdeal.Frame
public import proofs.«01_k».proof.Proof.Gen.Adam.Frame
public import proofs.«01_k».proof.Proof.Gen.AdamIdeal.Frame
public import proofs.«01_k».proof.Proof.Gen.BlockSum.Frame
public import proofs.«01_k».proof.Proof.Gen.BlockSumIdeal.Frame
public import proofs.«01_k».proof.Proof.FfnWeightClaim
public import proofs.«01_k».proof.Proof.MixWeightClaim
public import proofs.«01_k».proof.Proof.AdamClaim
public import proofs.«01_k».proof.Proof.BlockSumClaim
public import proofs.«01_k».proof.Proof.BiasBackClaim
public import Idealize.ShloMosaic.Adequacy
public import Idealize.ShloMosaic.Init
@[expose] public section
noncomputable section
-- Every frame also says that every semaphore counter ends at zero.

namespace Cert.Proof

open Idealize.ShloMosaic Idealize.SL.Sem

/-- A reference declares no semaphore, so its run leaves every counter at zero. -/
theorem frame_actRef : Cert.quiescent_ActRefIdeal := fun m g _ =>
  (θ_run _ _ _).mono (fun r h => ⟨fun c => (h c).2, sem_eq_zero_of_no_sems (by decide) r.2⟩) (Cert.ActRefIdeal.Value.run m g)

theorem frame_mergeRef : Cert.quiescent_MergeRefIdeal := fun m g _ =>
  (θ_run _ _ _).mono (fun r h => ⟨fun c => (h c).2.2.2.2.2.2.2, sem_eq_zero_of_no_sems (by decide) r.2⟩) (Cert.MergeRefIdeal.Value.run m g)

theorem frame_xattnRef : Cert.quiescent_XattnRefIdeal := fun m g _ =>
  (θ_run _ _ _).mono (fun r h => ⟨fun c => (h c).2.2.2.2, sem_eq_zero_of_no_sems (by decide) r.2⟩) (Cert.XattnRefIdeal.Value.run m g)

theorem frame_lossRef : Cert.quiescent_LossRefIdeal := fun m g _ =>
  (θ_run _ _ _).mono (fun r h => ⟨fun c => (h c).2.2.2.2, sem_eq_zero_of_no_sems (by decide) r.2⟩) (Cert.LossRefIdeal.Value.run m g)

theorem frame_ffnNormRef : Cert.quiescent_FfnNormRefIdeal := fun m g _ =>
  (θ_run _ _ _).mono (fun r h => ⟨fun c => (h c).2.2, sem_eq_zero_of_no_sems (by decide) r.2⟩) (Cert.FfnNormRefIdeal.Value.run m g)

theorem frame_queryNormRef : Cert.quiescent_QueryNormRefIdeal := fun m g _ =>
  (θ_run _ _ _).mono (fun r h => ⟨fun c => (h c).2.2, sem_eq_zero_of_no_sems (by decide) r.2⟩) (Cert.QueryNormRefIdeal.Value.run m g)

theorem frame_memoryNormRef : Cert.quiescent_MemoryNormRefIdeal := fun m g _ =>
  (θ_run _ _ _).mono (fun r h => ⟨fun c => (h c).2.2, sem_eq_zero_of_no_sems (by decide) r.2⟩) (Cert.MemoryNormRefIdeal.Value.run m g)

theorem frame_mixNormRef : Cert.quiescent_MixNormRefIdeal := fun m g _ =>
  (θ_run _ _ _).mono (fun r h => ⟨fun c => (h c).2.2, sem_eq_zero_of_no_sems (by decide) r.2⟩) (Cert.MixNormRefIdeal.Value.run m g)

theorem frame_attnRef : Cert.quiescent_AttnRefIdeal := fun m g _ =>
  (θ_run _ _ _).mono (fun r h => ⟨fun c => (h c).2.2, sem_eq_zero_of_no_sems (by decide) r.2⟩) (Cert.AttnRefIdeal.Value.run m g)

theorem frame_mixInRef : Cert.quiescent_MixInRefIdeal := fun m g _ =>
  (θ_run _ _ _).mono (fun r h => ⟨fun c => (h c).2.2, sem_eq_zero_of_no_sems (by decide) r.2⟩) (Cert.MixInRefIdeal.Value.run m g)

theorem frame_queryInRef : Cert.quiescent_QueryInRefIdeal := fun m g _ =>
  (θ_run _ _ _).mono (fun r h => ⟨fun c => (h c).2.2, sem_eq_zero_of_no_sems (by decide) r.2⟩) (Cert.QueryInRefIdeal.Value.run m g)

theorem frame_memoryInRef : Cert.quiescent_MemoryInRefIdeal := fun m g _ =>
  (θ_run _ _ _).mono (fun r h => ⟨fun c => (h c).2.2, sem_eq_zero_of_no_sems (by decide) r.2⟩) (Cert.MemoryInRefIdeal.Value.run m g)

theorem frame_ffnInRef : Cert.quiescent_FfnInRefIdeal := fun m g _ =>
  (θ_run _ _ _).mono (fun r h => ⟨fun c => (h c).2.2, sem_eq_zero_of_no_sems (by decide) r.2⟩) (Cert.FfnInRefIdeal.Value.run m g)

theorem frame_gatingRef : Cert.quiescent_GatingRefIdeal := fun m g _ =>
  (θ_run _ _ _).mono (fun r h => ⟨fun c => (h c).2, sem_eq_zero_of_no_sems (by decide) r.2⟩) (Cert.GatingRefIdeal.Value.run m g)

theorem frame_ffnWeightRef : Cert.quiescent_FfnWeightRefIdeal := fun m g _ =>
  (θ_run _ _ _).mono (fun r h => ⟨fun c => (h c).2, sem_eq_zero_of_no_sems (by decide) r.2⟩) (Cert.FfnWeightRefIdeal.Value.run m g)

theorem frame_mixWeightRef : Cert.quiescent_MixWeightRefIdeal := fun m g _ =>
  (θ_run _ _ _).mono (fun r h => ⟨fun c => (h c).2, sem_eq_zero_of_no_sems (by decide) r.2⟩) (Cert.MixWeightRefIdeal.Value.run m g)

theorem frame_adamRef : Cert.quiescent_AdamRefIdeal := fun m g _ =>
  (θ_run _ _ _).mono (fun r h => ⟨fun c => (h c).2.2.2, sem_eq_zero_of_no_sems (by decide) r.2⟩) (Cert.AdamRefIdeal.Value.run m g)

theorem frame_blockSumRef : Cert.quiescent_BlockSumRefIdeal := fun m g _ =>
  (θ_run _ _ _).mono (fun r h => ⟨fun c => (h c).2, sem_eq_zero_of_no_sems (by decide) r.2⟩) (Cert.BlockSumRefIdeal.Value.run m g)

theorem frame_biasBackRef : Cert.quiescent_BiasBackRefIdeal := fun m g _ =>
  (θ_run _ _ _).mono (fun r h => ⟨fun c => (h c).2, sem_eq_zero_of_no_sems (by decide) r.2⟩) (Cert.BiasBackRefIdeal.Value.run m g)

theorem preserves_attn : Cert.preserves_Attn_AttnIdeal := IdealRules.named_const.statement _ _ _ _ _ rfl

theorem claim : Cert.Claim := ⟨Cert.Act.Gen.facts, Cert.ActIdeal.Gen.facts, Cert.ActRefIdeal.Gen.facts,
  Cert.Merge.Gen.facts, Cert.MergeIdeal.Gen.facts, Cert.MergeRefIdeal.Gen.facts,
  Cert.Xattn.Gen.facts, Cert.XattnIdeal.Gen.facts, Cert.XattnRefIdeal.Gen.facts,
  Cert.Loss.Gen.facts, Cert.LossIdeal.Gen.facts, Cert.LossRefIdeal.Gen.facts,
  Cert.FfnNorm.Gen.facts, Cert.FfnNormIdeal.Gen.facts, Cert.FfnNormRefIdeal.Gen.facts,
  Cert.QueryNorm.Gen.facts, Cert.QueryNormIdeal.Gen.facts, Cert.QueryNormRefIdeal.Gen.facts,
  Cert.MemoryNorm.Gen.facts, Cert.MemoryNormIdeal.Gen.facts, Cert.MemoryNormRefIdeal.Gen.facts,
  Cert.MixNorm.Gen.facts, Cert.MixNormIdeal.Gen.facts, Cert.MixNormRefIdeal.Gen.facts,
  Cert.AttnBack.Gen.facts, Cert.AttnBackIdeal.Gen.facts, Cert.GatingBack.Gen.facts, Cert.GatingBackIdeal.Gen.facts,
  Cert.BiasBack.Gen.facts, Cert.BiasBackIdeal.Gen.facts, Cert.BiasBackRefIdeal.Gen.facts,
  Cert.Attn.Gen.facts, Cert.AttnIdeal.Gen.facts, Cert.AttnRefIdeal.Gen.facts,
  Cert.MixIn.Gen.facts, Cert.MixInIdeal.Gen.facts, Cert.MixInRefIdeal.Gen.facts,
  Cert.QueryIn.Gen.facts, Cert.QueryInIdeal.Gen.facts, Cert.QueryInRefIdeal.Gen.facts,
  Cert.MemoryIn.Gen.facts, Cert.MemoryInIdeal.Gen.facts, Cert.MemoryInRefIdeal.Gen.facts,
  Cert.FfnIn.Gen.facts, Cert.FfnInIdeal.Gen.facts, Cert.FfnInRefIdeal.Gen.facts,
  Cert.Gating.Gen.facts, Cert.GatingIdeal.Gen.facts, Cert.GatingRefIdeal.Gen.facts,
  Cert.FfnWeight.Gen.facts, Cert.FfnWeightIdeal.Gen.facts, Cert.FfnWeightRefIdeal.Gen.facts,
  Cert.MixWeight.Gen.facts, Cert.MixWeightIdeal.Gen.facts, Cert.MixWeightRefIdeal.Gen.facts,
  Cert.Adam.Gen.facts, Cert.AdamIdeal.Gen.facts, Cert.AdamRefIdeal.Gen.facts,
  Cert.BlockSum.Gen.facts, Cert.BlockSumIdeal.Gen.facts, Cert.BlockSumRefIdeal.Gen.facts,
  Cert.Pre_act_finite.Gen.facts, Cert.Pre_merge_finite.Gen.facts, Cert.Pre_xattn_finite.Gen.facts,
  Cert.Pre_loss_finite.Gen.facts, Cert.Pre_ffn_norm_finite.Gen.facts, Cert.Pre_query_norm_finite.Gen.facts, Cert.Pre_memory_norm_finite.Gen.facts, Cert.Pre_mix_norm_finite.Gen.facts, Cert.Pre_attn_finite.Gen.facts, Cert.Pre_gating_finite.Gen.facts,
  fun m g _ => Cert.Act.Gen.frame m g,
  fun m g _ => Cert.ActIdeal.Gen.frame m g,
  fun m g _ => Cert.ActIdeal.Gen.frame m g,
  frame_actRef,
  fun m g _ => frame_actRef m g trivial,
  fun m g _ => Cert.Merge.Gen.frame m g,
  fun m g _ => Cert.MergeIdeal.Gen.frame m g,
  fun m g _ => Cert.MergeIdeal.Gen.frame m g,
  frame_mergeRef,
  fun m g _ => frame_mergeRef m g trivial,
  fun m g _ => Cert.Xattn.Gen.frame m g,
  fun m g _ => Cert.XattnIdeal.Gen.frame m g,
  fun m g _ => Cert.XattnIdeal.Gen.frame m g,
  frame_xattnRef,
  fun m g _ => frame_xattnRef m g trivial,
  fun m g _ => Cert.Loss.Gen.frame m g,
  fun m g _ => Cert.LossIdeal.Gen.frame m g,
  fun m g _ => Cert.LossIdeal.Gen.frame m g,
  frame_lossRef,
  fun m g _ => frame_lossRef m g trivial,
  fun m g _ => Cert.FfnNorm.Gen.frame m g,
  fun m g _ => Cert.FfnNormIdeal.Gen.frame m g,
  fun m g _ => Cert.FfnNormIdeal.Gen.frame m g,
  frame_ffnNormRef,
  fun m g _ => frame_ffnNormRef m g trivial,
  fun m g _ => Cert.QueryNorm.Gen.frame m g,
  fun m g _ => Cert.QueryNormIdeal.Gen.frame m g,
  fun m g _ => Cert.QueryNormIdeal.Gen.frame m g,
  frame_queryNormRef,
  fun m g _ => frame_queryNormRef m g trivial,
  fun m g _ => Cert.MemoryNorm.Gen.frame m g,
  fun m g _ => Cert.MemoryNormIdeal.Gen.frame m g,
  fun m g _ => Cert.MemoryNormIdeal.Gen.frame m g,
  frame_memoryNormRef,
  fun m g _ => frame_memoryNormRef m g trivial,
  fun m g _ => Cert.MixNorm.Gen.frame m g,
  fun m g _ => Cert.MixNormIdeal.Gen.frame m g,
  fun m g _ => Cert.MixNormIdeal.Gen.frame m g,
  frame_mixNormRef,
  fun m g _ => frame_mixNormRef m g trivial,
  Cert.AttnBackFrame.bits,
  Cert.AttnBackFrame.reals,
  Cert.GatingBackFrame.bits,
  Cert.GatingBackFrame.reals,
  fun m g _ => Cert.BiasBack.Gen.frame m g,
  fun m g _ => Cert.BiasBackIdeal.Gen.frame m g,
  frame_biasBackRef,
  fun m g _ => Cert.Attn.Gen.frame m g,
  fun m g _ => Cert.AttnIdeal.Gen.frame m g,
  fun m g _ => Cert.AttnIdeal.Gen.frame m g,
  frame_attnRef,
  fun m g _ => frame_attnRef m g trivial,
  fun m g _ => Cert.MixIn.Gen.frame m g,
  fun m g _ => Cert.MixInIdeal.Gen.frame m g,
  frame_mixInRef,
  fun m g _ => Cert.QueryIn.Gen.frame m g,
  fun m g _ => Cert.QueryInIdeal.Gen.frame m g,
  frame_queryInRef,
  fun m g _ => Cert.MemoryIn.Gen.frame m g,
  fun m g _ => Cert.MemoryInIdeal.Gen.frame m g,
  frame_memoryInRef,
  fun m g _ => Cert.FfnIn.Gen.frame m g,
  fun m g _ => Cert.FfnInIdeal.Gen.frame m g,
  frame_ffnInRef,
  Cert.GatingRun.bits,
  Cert.GatingRun.reals,
  fun m g _ => Cert.GatingRun.reals m g trivial,
  frame_gatingRef,
  fun m g _ => frame_gatingRef m g trivial,
  fun m g _ => Cert.FfnWeight.Gen.frame m g,
  fun m g _ => Cert.FfnWeightIdeal.Gen.frame m g,
  frame_ffnWeightRef,
  fun m g _ => Cert.MixWeight.Gen.frame m g,
  fun m g _ => Cert.MixWeightIdeal.Gen.frame m g,
  frame_mixWeightRef,
  fun m g _ => Cert.Adam.Gen.frame m g,
  fun m g _ => Cert.AdamIdeal.Gen.frame m g,
  frame_adamRef,
  fun m g _ => Cert.BlockSum.Gen.frame m g,
  fun m g _ => Cert.BlockSumIdeal.Gen.frame m g,
  frame_blockSumRef,
  trivial,
  ActClaim.algebraic,
  trivial,
  MergeClaim.algebraic,
  trivial,
  XattnClaim.algebraic,
  trivial,
  LossClaim.algebraic,
  trivial,
  FfnNormClaim.algebraic,
  trivial,
  QueryNormClaim.algebraic,
  trivial,
  MemoryNormClaim.algebraic,
  trivial,
  MixNormClaim.algebraic,
  trivial,
  trivial,
  trivial,
  BiasBackClaim.algebraic,
  preserves_attn,
  AttnClaim.algebraic,
  trivial,
  MixInClaim.algebraic,
  trivial,
  QueryInClaim.algebraic,
  trivial,
  MemoryInClaim.algebraic,
  trivial,
  FfnInClaim.algebraic,
  trivial,
  GatingClaim.algebraic,
  trivial,
  FfnWeightClaim.algebraic,
  trivial,
  MixWeightClaim.algebraic,
  trivial,
  AdamClaim.algebraic,
  trivial,
  BlockSumClaim.algebraic⟩
